-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdIdeal_finite_act [hPre_finite_act : Cert.Pre_finite_act.Facts] (m : (ℓ : Loc Cert.ActBwdIdeal.nD Cert.ActBwdIdeal.τ Cert.ActBwdIdeal.sig) → Buf (Elt Ideal) ℓ) : Prop :=
  ∀ c : Dev Cert.ActBwdIdeal.nD,
    (Cert.Pre_finite_act.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))) = (fun _ => 1#1)

def Pre_ActBwdRefIdeal (m : (ℓ : Loc Cert.ActBwdRefIdeal.nD Cert.ActBwdRefIdeal.τ Cert.ActBwdRefIdeal.sig) → Buf (Elt Ideal) ℓ) : Prop :=
  True

def Pre_ActBwdRefIdeal_finite_act [hPre_finite_act : Cert.Pre_finite_act.Facts] (m : (ℓ : Loc Cert.ActBwdRefIdeal.nD Cert.ActBwdRefIdeal.τ Cert.ActBwdRefIdeal.sig) → Buf (Elt Ideal) ℓ) : Prop :=
  ∀ c : Dev Cert.ActBwdRefIdeal.nD,
    (Cert.Pre_finite_act.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))) = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_DnAcc (m : (ℓ : Loc Cert.DnAcc.nD Cert.DnAcc.τ Cert.DnAcc.sig) → Buf (Elt Bits) ℓ) : Prop :=
  True

def Pre_DnAccIdeal (m : (ℓ : Loc Cert.DnAccIdeal.nD Cert.DnAccIdeal.τ Cert.DnAccIdeal.sig) → Buf (Elt Ideal) ℓ) : Prop :=
  True

def Pre_DnAccRefIdeal (m : (ℓ : Loc Cert.DnAccRefIdeal.nD Cert.DnAccRefIdeal.τ Cert.DnAccRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_finite_rms [hPre_finite_rms : Cert.Pre_finite_rms.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_finite_rms [hPre_finite_rms : Cert.Pre_finite_rms.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_finite_rms.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamPleGate (m : (ℓ : Loc Cert.AdamPleGate.nD Cert.AdamPleGate.τ Cert.AdamPleGate.sig) → Buf (Elt Bits) ℓ) : Prop :=
  True

def Pre_AdamPleGateIdeal (m : (ℓ : Loc Cert.AdamPleGateIdeal.nD Cert.AdamPleGateIdeal.τ Cert.AdamPleGateIdeal.sig) → Buf (Elt Ideal) ℓ) : Prop :=
  True

def Pre_AdamPleGateRefIdeal (m : (ℓ : Loc Cert.AdamPleGateRefIdeal.nD Cert.AdamPleGateRefIdeal.τ Cert.AdamPleGateRefIdeal.sig) → Buf (Elt Ideal) ℓ) : Prop :=
  True

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInRefIdeal (m : (ℓ : Loc Cert.AdamEvenInRefIdeal.nD Cert.AdamEvenInRefIdeal.τ Cert.AdamEvenInRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_AdamPleProj (m : (ℓ : Loc Cert.AdamPleProj.nD Cert.AdamPleProj.τ Cert.AdamPleProj.sig) → Buf (Elt Bits) ℓ) : Prop :=
  True

def Pre_AdamPleProjIdeal (m : (ℓ : Loc Cert.AdamPleProjIdeal.nD Cert.AdamPleProjIdeal.τ Cert.AdamPleProjIdeal.sig) → Buf (Elt Ideal) ℓ) : Prop :=
  True

def Pre_AdamPleProjRefIdeal (m : (ℓ : Loc Cert.AdamPleProjRefIdeal.nD Cert.AdamPleProjRefIdeal.τ Cert.AdamPleProjRefIdeal.sig) → Buf (Elt Ideal) ℓ) : Prop :=
  True

def Pre_AdamLoraIn (m : (ℓ : Loc Cert.AdamLoraIn.nD Cert.AdamLoraIn.τ Cert.AdamLoraIn.sig) → Buf (Elt Bits) ℓ) : Prop :=
  True

def Pre_AdamLoraInIdeal (m : (ℓ : Loc Cert.AdamLoraInIdeal.nD Cert.AdamLoraInIdeal.τ Cert.AdamLoraInIdeal.sig) → Buf (Elt Ideal) ℓ) : Prop :=
  True

def Pre_AdamLoraInRefIdeal (m : (ℓ : Loc Cert.AdamLoraInRefIdeal.nD Cert.AdamLoraInRefIdeal.τ Cert.AdamLoraInRefIdeal.sig) → Buf (Elt Ideal) ℓ) : Prop :=
  True

def Pre_AdamLoraOut (m : (ℓ : Loc Cert.AdamLoraOut.nD Cert.AdamLoraOut.τ Cert.AdamLoraOut.sig) → Buf (Elt Bits) ℓ) : Prop :=
  True

def Pre_AdamLoraOutIdeal (m : (ℓ : Loc Cert.AdamLoraOutIdeal.nD Cert.AdamLoraOutIdeal.τ Cert.AdamLoraOutIdeal.sig) → Buf (Elt Ideal) ℓ) : Prop :=
  True

def Pre_AdamLoraOutRefIdeal (m : (ℓ : Loc Cert.AdamLoraOutRefIdeal.nD Cert.AdamLoraOutRefIdeal.τ Cert.AdamLoraOutRefIdeal.sig) → Buf (Elt Ideal) ℓ) : Prop :=
  True

def Pre_AdamGateIn (m : (ℓ : Loc Cert.AdamGateIn.nD Cert.AdamGateIn.τ Cert.AdamGateIn.sig) → Buf (Elt Bits) ℓ) : Prop :=
  True

def Pre_AdamGateInIdeal (m : (ℓ : Loc Cert.AdamGateInIdeal.nD Cert.AdamGateInIdeal.τ Cert.AdamGateInIdeal.sig) → Buf (Elt Ideal) ℓ) : Prop :=
  True

def Pre_AdamGateInRefIdeal (m : (ℓ : Loc Cert.AdamGateInRefIdeal.nD Cert.AdamGateInRefIdeal.τ Cert.AdamGateInRefIdeal.sig) → Buf (Elt Ideal) ℓ) : Prop :=
  True

def Pre_AdamGateOut (m : (ℓ : Loc Cert.AdamGateOut.nD Cert.AdamGateOut.τ Cert.AdamGateOut.sig) → Buf (Elt Bits) ℓ) : Prop :=
  True

def Pre_AdamGateOutIdeal (m : (ℓ : Loc Cert.AdamGateOutIdeal.nD Cert.AdamGateOutIdeal.τ Cert.AdamGateOutIdeal.sig) → Buf (Elt Ideal) ℓ) : Prop :=
  True

def Pre_AdamGateOutRefIdeal (m : (ℓ : Loc Cert.AdamGateOutRefIdeal.nD Cert.AdamGateOutRefIdeal.τ Cert.AdamGateOutRefIdeal.sig) → Buf (Elt Ideal) ℓ) : Prop :=
  True

def Pre_AdamValIn (m : (ℓ : Loc Cert.AdamValIn.nD Cert.AdamValIn.τ Cert.AdamValIn.sig) → Buf (Elt Bits) ℓ) : Prop :=
  True

def Pre_AdamValInIdeal (m : (ℓ : Loc Cert.AdamValInIdeal.nD Cert.AdamValInIdeal.τ Cert.AdamValInIdeal.sig) → Buf (Elt Ideal) ℓ) : Prop :=
  True

def Pre_AdamValInRefIdeal (m : (ℓ : Loc Cert.AdamValInRefIdeal.nD Cert.AdamValInRefIdeal.τ Cert.AdamValInRefIdeal.sig) → Buf (Elt Ideal) ℓ) : Prop :=
  True

def Pre_AdamValOut (m : (ℓ : Loc Cert.AdamValOut.nD Cert.AdamValOut.τ Cert.AdamValOut.sig) → Buf (Elt Bits) ℓ) : Prop :=
  True

def Pre_AdamValOutIdeal (m : (ℓ : Loc Cert.AdamValOutIdeal.nD Cert.AdamValOutIdeal.τ Cert.AdamValOutIdeal.sig) → Buf (Elt Ideal) ℓ) : Prop :=
  True

def Pre_AdamValOutRefIdeal (m : (ℓ : Loc Cert.AdamValOutRefIdeal.nD Cert.AdamValOutRefIdeal.τ Cert.AdamValOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumRep (m : (ℓ : Loc Cert.SumRep.nD Cert.SumRep.τ Cert.SumRep.sig) → Buf (Elt Bits) ℓ) : Prop :=
  True

def Pre_SumRepIdeal (m : (ℓ : Loc Cert.SumRepIdeal.nD Cert.SumRepIdeal.τ Cert.SumRepIdeal.sig) → Buf (Elt Ideal) ℓ) : Prop :=
  True

def Pre_SumRepRefIdeal (m : (ℓ : Loc Cert.SumRepRefIdeal.nD Cert.SumRepRefIdeal.τ Cert.SumRepRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_ChipsUp (m : (ℓ : Loc Cert.ChipsUp.nD Cert.ChipsUp.τ Cert.ChipsUp.sig) → Buf (Elt Bits) ℓ) : Prop :=
  True

def Pre_ChipsUpIdeal (m : (ℓ : Loc Cert.ChipsUpIdeal.nD Cert.ChipsUpIdeal.τ Cert.ChipsUpIdeal.sig) → Buf (Elt Ideal) ℓ) : Prop :=
  True

def Pre_ChipsUpRefIdeal (m : (ℓ : Loc Cert.ChipsUpRefIdeal.nD Cert.ChipsUpRefIdeal.τ Cert.ChipsUpRefIdeal.sig) → Buf (Elt Ideal) ℓ) : Prop :=
  True

def Pre_ChipsDown (m : (ℓ : Loc Cert.ChipsDown.nD Cert.ChipsDown.τ Cert.ChipsDown.sig) → Buf (Elt Bits) ℓ) : Prop :=
  True

def Pre_ChipsDownIdeal (m : (ℓ : Loc Cert.ChipsDownIdeal.nD Cert.ChipsDownIdeal.τ Cert.ChipsDownIdeal.sig) → Buf (Elt Ideal) ℓ) : Prop :=
  True

def Pre_ChipsDownRefIdeal (m : (ℓ : Loc Cert.ChipsDownRefIdeal.nD Cert.ChipsDownRefIdeal.τ Cert.ChipsDownRefIdeal.sig) → Buf (Elt Ideal) ℓ) : Prop :=
  True

def Pre_ChipsRow (m : (ℓ : Loc Cert.ChipsRow.nD Cert.ChipsRow.τ Cert.ChipsRow.sig) → Buf (Elt Bits) ℓ) : Prop :=
  True

def Pre_ChipsRowIdeal (m : (ℓ : Loc Cert.ChipsRowIdeal.nD Cert.ChipsRowIdeal.τ Cert.ChipsRowIdeal.sig) → Buf (Elt Ideal) ℓ) : Prop :=
  True

def Pre_ChipsRowRefIdeal (m : (ℓ : Loc Cert.ChipsRowRefIdeal.nD Cert.ChipsRowRefIdeal.τ Cert.ChipsRowRefIdeal.sig) → Buf (Elt Ideal) ℓ) : Prop :=
  True

def Pre_ChipsProj (m : (ℓ : Loc Cert.ChipsProj.nD Cert.ChipsProj.τ Cert.ChipsProj.sig) → Buf (Elt Bits) ℓ) : Prop :=
  True

def Pre_ChipsProjIdeal (m : (ℓ : Loc Cert.ChipsProjIdeal.nD Cert.ChipsProjIdeal.τ Cert.ChipsProjIdeal.sig) → Buf (Elt Ideal) ℓ) : Prop :=
  True

def Pre_ChipsProjRefIdeal (m : (ℓ : Loc Cert.ChipsProjRefIdeal.nD Cert.ChipsProjRefIdeal.τ Cert.ChipsProjRefIdeal.sig) → Buf (Elt Ideal) ℓ) : Prop :=
  True

def Pre_ChipsEvenIn (m : (ℓ : Loc Cert.ChipsEvenIn.nD Cert.ChipsEvenIn.τ Cert.ChipsEvenIn.sig) → Buf (Elt Bits) ℓ) : Prop :=
  True

def Pre_ChipsEvenInIdeal (m : (ℓ : Loc Cert.ChipsEvenInIdeal.nD Cert.ChipsEvenInIdeal.τ Cert.ChipsEvenInIdeal.sig) → Buf (Elt Ideal) ℓ) : Prop :=
  True

def Pre_ChipsEvenInRefIdeal (m : (ℓ : Loc Cert.ChipsEvenInRefIdeal.nD Cert.ChipsEvenInRefIdeal.τ Cert.ChipsEvenInRefIdeal.sig) → Buf (Elt Ideal) ℓ) : Prop :=
  True

def Pre_ChipsLoraIn (m : (ℓ : Loc Cert.ChipsLoraIn.nD Cert.ChipsLoraIn.τ Cert.ChipsLoraIn.sig) → Buf (Elt Bits) ℓ) : Prop :=
  True

def Pre_ChipsLoraInIdeal (m : (ℓ : Loc Cert.ChipsLoraInIdeal.nD Cert.ChipsLoraInIdeal.τ Cert.ChipsLoraInIdeal.sig) → Buf (Elt Ideal) ℓ) : Prop :=
  True

def Pre_ChipsLoraInRefIdeal (m : (ℓ : Loc Cert.ChipsLoraInRefIdeal.nD Cert.ChipsLoraInRefIdeal.τ Cert.ChipsLoraInRefIdeal.sig) → Buf (Elt Ideal) ℓ) : Prop :=
  True

def Pre_ChipsLoraOut (m : (ℓ : Loc Cert.ChipsLoraOut.nD Cert.ChipsLoraOut.τ Cert.ChipsLoraOut.sig) → Buf (Elt Bits) ℓ) : Prop :=
  True

def Pre_ChipsLoraOutIdeal (m : (ℓ : Loc Cert.ChipsLoraOutIdeal.nD Cert.ChipsLoraOutIdeal.τ Cert.ChipsLoraOutIdeal.sig) → Buf (Elt Ideal) ℓ) : Prop :=
  True

def Pre_ChipsLoraOutRefIdeal (m : (ℓ : Loc Cert.ChipsLoraOutRefIdeal.nD Cert.ChipsLoraOutRefIdeal.τ Cert.ChipsLoraOutRefIdeal.sig) → Buf (Elt Ideal) ℓ) : Prop :=
  True

def Pre_ChipsGateIn (m : (ℓ : Loc Cert.ChipsGateIn.nD Cert.ChipsGateIn.τ Cert.ChipsGateIn.sig) → Buf (Elt Bits) ℓ) : Prop :=
  True

def Pre_ChipsGateInIdeal (m : (ℓ : Loc Cert.ChipsGateInIdeal.nD Cert.ChipsGateInIdeal.τ Cert.ChipsGateInIdeal.sig) → Buf (Elt Ideal) ℓ) : Prop :=
  True

def Pre_ChipsGateInRefIdeal (m : (ℓ : Loc Cert.ChipsGateInRefIdeal.nD Cert.ChipsGateInRefIdeal.τ Cert.ChipsGateInRefIdeal.sig) → Buf (Elt Ideal) ℓ) : Prop :=
  True

def Pre_ChipsValIn (m : (ℓ : Loc Cert.ChipsValIn.nD Cert.ChipsValIn.τ Cert.ChipsValIn.sig) → Buf (Elt Bits) ℓ) : Prop :=
  True

def Pre_ChipsValInIdeal (m : (ℓ : Loc Cert.ChipsValInIdeal.nD Cert.ChipsValInIdeal.τ Cert.ChipsValInIdeal.sig) → Buf (Elt Ideal) ℓ) : Prop :=
  True

def Pre_ChipsValInRefIdeal (m : (ℓ : Loc Cert.ChipsValInRefIdeal.nD Cert.ChipsValInRefIdeal.τ Cert.ChipsValInRefIdeal.sig) → Buf (Elt Ideal) ℓ) : Prop :=
  True

def Pre_ChipsValOut (m : (ℓ : Loc Cert.ChipsValOut.nD Cert.ChipsValOut.τ Cert.ChipsValOut.sig) → Buf (Elt Bits) ℓ) : Prop :=
  True

def Pre_ChipsValOutIdeal (m : (ℓ : Loc Cert.ChipsValOutIdeal.nD Cert.ChipsValOutIdeal.τ Cert.ChipsValOutIdeal.sig) → Buf (Elt Ideal) ℓ) : Prop :=
  True

def Pre_ChipsValOutRefIdeal (m : (ℓ : Loc Cert.ChipsValOutRefIdeal.nD Cert.ChipsValOutRefIdeal.τ Cert.ChipsValOutRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_PleAdd (m : (ℓ : Loc Cert.PleAdd.nD Cert.PleAdd.τ Cert.PleAdd.sig) → Buf (Elt Bits) ℓ) : Prop :=
  True

def Pre_PleAddIdeal (m : (ℓ : Loc Cert.PleAddIdeal.nD Cert.PleAddIdeal.τ Cert.PleAddIdeal.sig) → Buf (Elt Ideal) ℓ) : Prop :=
  True

def Pre_PleAddRefIdeal (m : (ℓ : Loc Cert.PleAddRefIdeal.nD Cert.PleAddRefIdeal.τ Cert.PleAddRefIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdRefIdeal (m : (ℓ : Loc Cert.PleBwdRefIdeal.nD Cert.PleBwdRefIdeal.τ Cert.PleBwdRefIdeal.sig) → Buf (Elt Ideal) ℓ) : Prop :=
  True

def Pre_RmsFwd32 (m : (ℓ : Loc Cert.RmsFwd32.nD Cert.RmsFwd32.τ Cert.RmsFwd32.sig) → Buf (Elt Bits) ℓ) : Prop :=
  True

def Pre_RmsFwd32Ideal (m : (ℓ : Loc Cert.RmsFwd32Ideal.nD Cert.RmsFwd32Ideal.τ Cert.RmsFwd32Ideal.sig) → Buf (Elt Ideal) ℓ) : Prop :=
  True

def Pre_RmsFwd32RefIdeal (m : (ℓ : Loc Cert.RmsFwd32RefIdeal.nD Cert.RmsFwd32RefIdeal.τ Cert.RmsFwd32RefIdeal.sig) → Buf (Elt Ideal) ℓ) : Prop :=
  True

def Pre_HgrnPre (m : (ℓ : Loc Cert.HgrnPre.nD Cert.HgrnPre.τ Cert.HgrnPre.sig) → Buf (Elt Bits) ℓ) : Prop :=
  True

def Pre_HgrnPreIdeal (m : (ℓ : Loc Cert.HgrnPreIdeal.nD Cert.HgrnPreIdeal.τ Cert.HgrnPreIdeal.sig) → Buf (Elt Ideal) ℓ) : Prop :=
  True

def Pre_HgrnPreRefIdeal (m : (ℓ : Loc Cert.HgrnPreRefIdeal.nD Cert.HgrnPreRefIdeal.τ Cert.HgrnPreRefIdeal.sig) → Buf (Elt Ideal) ℓ) : Prop :=
  True

def Pre_LoraAct (m : (ℓ : Loc Cert.LoraAct.nD Cert.LoraAct.τ Cert.LoraAct.sig) → Buf (Elt Bits) ℓ) : Prop :=
  True

def Pre_LoraActIdeal (m : (ℓ : Loc Cert.LoraActIdeal.nD Cert.LoraActIdeal.τ Cert.LoraActIdeal.sig) → Buf (Elt Ideal) ℓ) : Prop :=
  True

def Pre_LoraActRefIdeal (m : (ℓ : Loc Cert.LoraActRefIdeal.nD Cert.LoraActRefIdeal.τ Cert.LoraActRefIdeal.sig) → Buf (Elt Ideal) ℓ) : Prop :=
  True

def Pre_LoraBwd (m : (ℓ : Loc Cert.LoraBwd.nD Cert.LoraBwd.τ Cert.LoraBwd.sig) → Buf (Elt Bits) ℓ) : Prop :=
  True

def Pre_LoraBwdIdeal (m : (ℓ : Loc Cert.LoraBwdIdeal.nD Cert.LoraBwdIdeal.τ Cert.LoraBwdIdeal.sig) → Buf (Elt Ideal) ℓ) : Prop :=
  True

def Pre_LoraBwdRefIdeal (m : (ℓ : Loc Cert.LoraBwdRefIdeal.nD Cert.LoraBwdRefIdeal.τ Cert.LoraBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdIdeal_pre_finite_act [hActBwdIdeal : Cert.ActBwdIdeal.Facts] [hPre_finite_act : Cert.Pre_finite_act.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal_finite_act m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_ActBwdRefIdeal_pre_finite_act [hActBwdRefIdeal : Cert.ActBwdRefIdeal.Facts] [hPre_finite_act : Cert.Pre_finite_act.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal_finite_act m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1))
      ∧ r.2.sem = fun _ => 0)

def quiescent_DnAcc [hDnAcc : Cert.DnAcc.Facts] : Prop :=
  ∀ (m : (ℓ : Loc Cert.DnAcc.nD Cert.DnAcc.τ Cert.DnAcc.sig) → Buf (Elt Bits) ℓ) (g : Dev Cert.DnAcc.nD → PrngReg), Pre_DnAcc m →
    θ_run (Cert.DnAcc.defs (F := Bits)) (onTc (τ := Cert.DnAcc.τ) (Cert.DnAcc.main (F := Bits))) ⟨m, fun _ => 0, g⟩ (fun r => (∀ c : Dev Cert.DnAcc.nD,
      r.2.mem ((c.tc : Thread Cert.DnAcc.nD Cert.DnAcc.τ).loc Cert.DnAcc.main_arg0) = m ((c.tc : Thread Cert.DnAcc.nD Cert.DnAcc.τ).loc Cert.DnAcc.main_arg0)
      ∧ r.2.mem ((c.tc : Thread Cert.DnAcc.nD Cert.DnAcc.τ).loc Cert.DnAcc.main_arg1) = m ((c.tc : Thread Cert.DnAcc.nD Cert.DnAcc.τ).loc Cert.DnAcc.main_arg1)
      ∧ r.2.mem ((c.tc : Thread Cert.DnAcc.nD Cert.DnAcc.τ).loc Cert.DnAcc.main_arg2) = m ((c.tc : Thread Cert.DnAcc.nD Cert.DnAcc.τ).loc Cert.DnAcc.main_arg2))
      ∧ r.2.sem = fun _ => 0)

def quiescent_DnAccIdeal [hDnAccIdeal : Cert.DnAccIdeal.Facts] : Prop :=
  ∀ (m : (ℓ : Loc Cert.DnAccIdeal.nD Cert.DnAccIdeal.τ Cert.DnAccIdeal.sig) → Buf (Elt Ideal) ℓ) (g : Dev Cert.DnAccIdeal.nD → PrngReg), Pre_DnAccIdeal m →
    θ_run (Cert.DnAccIdeal.defs (F := Ideal)) (onTc (τ := Cert.DnAccIdeal.τ) (Cert.DnAccIdeal.main (F := Ideal))) ⟨m, fun _ => 0, g⟩ (fun r => (∀ c : Dev Cert.DnAccIdeal.nD,
      r.2.mem ((c.tc : Thread Cert.DnAccIdeal.nD Cert.DnAccIdeal.τ).loc Cert.DnAccIdeal.main_arg0) = m ((c.tc : Thread Cert.DnAccIdeal.nD Cert.DnAccIdeal.τ).loc Cert.DnAccIdeal.main_arg0)
      ∧ r.2.mem ((c.tc : Thread Cert.DnAccIdeal.nD Cert.DnAccIdeal.τ).loc Cert.DnAccIdeal.main_arg1) = m ((c.tc : Thread Cert.DnAccIdeal.nD Cert.DnAccIdeal.τ).loc Cert.DnAccIdeal.main_arg1)
      ∧ r.2.mem ((c.tc : Thread Cert.DnAccIdeal.nD Cert.DnAccIdeal.τ).loc Cert.DnAccIdeal.main_arg2) = m ((c.tc : Thread Cert.DnAccIdeal.nD Cert.DnAccIdeal.τ).loc Cert.DnAccIdeal.main_arg2))
      ∧ r.2.sem = fun _ => 0)

def quiescent_DnAccRefIdeal [hDnAccRefIdeal : Cert.DnAccRefIdeal.Facts] : Prop :=
  ∀ (m : (ℓ : Loc Cert.DnAccRefIdeal.nD Cert.DnAccRefIdeal.τ Cert.DnAccRefIdeal.sig) → Buf (Elt Ideal) ℓ) (g : Dev Cert.DnAccRefIdeal.nD → PrngReg), Pre_DnAccRefIdeal m →
    θ_run (Cert.DnAccRefIdeal.defs (F := Ideal)) (onTc (τ := Cert.DnAccRefIdeal.τ) (Cert.DnAccRefIdeal.main (F := Ideal))) ⟨m, fun _ => 0, g⟩ (fun r => (∀ c : Dev Cert.DnAccRefIdeal.nD,
      r.2.mem ((c.tc : Thread Cert.DnAccRefIdeal.nD Cert.DnAccRefIdeal.τ).loc Cert.DnAccRefIdeal.main_arg0) = m ((c.tc : Thread Cert.DnAccRefIdeal.nD Cert.DnAccRefIdeal.τ).loc Cert.DnAccRefIdeal.main_arg0)
      ∧ r.2.mem ((c.tc : Thread Cert.DnAccRefIdeal.nD Cert.DnAccRefIdeal.τ).loc Cert.DnAccRefIdeal.main_arg1) = m ((c.tc : Thread Cert.DnAccRefIdeal.nD Cert.DnAccRefIdeal.τ).loc Cert.DnAccRefIdeal.main_arg1)
      ∧ r.2.mem ((c.tc : Thread Cert.DnAccRefIdeal.nD Cert.DnAccRefIdeal.τ).loc Cert.DnAccRefIdeal.main_arg2) = m ((c.tc : Thread Cert.DnAccRefIdeal.nD Cert.DnAccRefIdeal.τ).loc Cert.DnAccRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_finite_rms [hRmsBwdIdeal : Cert.RmsBwdIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_finite_rms m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_finite_rms [hRmsBwdRefIdeal : Cert.RmsBwdRefIdeal.Facts] [hPre_finite_rms : Cert.Pre_finite_rms.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_finite_rms m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamPleGate [hAdamPleGate : Cert.AdamPleGate.Facts] : Prop :=
  ∀ (m : (ℓ : Loc Cert.AdamPleGate.nD Cert.AdamPleGate.τ Cert.AdamPleGate.sig) → Buf (Elt Bits) ℓ) (g : Dev Cert.AdamPleGate.nD → PrngReg), Pre_AdamPleGate m →
    θ_run (Cert.AdamPleGate.defs (F := Bits)) (onTc (τ := Cert.AdamPleGate.τ) (Cert.AdamPleGate.main (F := Bits))) ⟨m, fun _ => 0, g⟩ (fun r => (∀ c : Dev Cert.AdamPleGate.nD,
      r.2.mem ((c.tc : Thread Cert.AdamPleGate.nD Cert.AdamPleGate.τ).loc Cert.AdamPleGate.main_arg0) = m ((c.tc : Thread Cert.AdamPleGate.nD Cert.AdamPleGate.τ).loc Cert.AdamPleGate.main_arg0)
      ∧ r.2.mem ((c.tc : Thread Cert.AdamPleGate.nD Cert.AdamPleGate.τ).loc Cert.AdamPleGate.main_arg1) = m ((c.tc : Thread Cert.AdamPleGate.nD Cert.AdamPleGate.τ).loc Cert.AdamPleGate.main_arg1)
      ∧ r.2.mem ((c.tc : Thread Cert.AdamPleGate.nD Cert.AdamPleGate.τ).loc Cert.AdamPleGate.main_arg2) = m ((c.tc : Thread Cert.AdamPleGate.nD Cert.AdamPleGate.τ).loc Cert.AdamPleGate.main_arg2)
      ∧ r.2.mem ((c.tc : Thread Cert.AdamPleGate.nD Cert.AdamPleGate.τ).loc Cert.AdamPleGate.main_arg3) = m ((c.tc : Thread Cert.AdamPleGate.nD Cert.AdamPleGate.τ).loc Cert.AdamPleGate.main_arg3))
      ∧ r.2.sem = fun _ => 0)

def quiescent_AdamPleGateIdeal [hAdamPleGateIdeal : Cert.AdamPleGateIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg), Pre_AdamPleGateIdeal m →
    θ_run (Cert.AdamPleGateIdeal.defs (F := Ideal)) (onTc (τ := Cert.AdamPleGateIdeal.τ) (Cert.AdamPleGateIdeal.main (F := Ideal))) ⟨m, fun _ => 0, g⟩ (fun r => (∀ c : Dev Cert.AdamPleGateIdeal.nD,
      r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
      ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
      ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
      ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ r.2.sem = fun _ => 0)

def quiescent_AdamPleGateRefIdeal [hAdamPleGateRefIdeal : Cert.AdamPleGateRefIdeal.Facts] : Prop :=
  ∀ (m : (ℓ : Loc Cert.AdamPleGateRefIdeal.nD Cert.AdamPleGateRefIdeal.τ Cert.AdamPleGateRefIdeal.sig) → Buf (Elt Ideal) ℓ) (g : Dev Cert.AdamPleGateRefIdeal.nD → PrngReg), Pre_AdamPleGateRefIdeal m →
    θ_run (Cert.AdamPleGateRefIdeal.defs (F := Ideal)) (onTc (τ := Cert.AdamPleGateRefIdeal.τ) (Cert.AdamPleGateRefIdeal.main (F := Ideal))) ⟨m, fun _ => 0, g⟩ (fun r => (∀ c : Dev Cert.AdamPleGateRefIdeal.nD,
      r.2.mem ((c.tc : Thread Cert.AdamPleGateRefIdeal.nD Cert.AdamPleGateRefIdeal.τ).loc Cert.AdamPleGateRefIdeal.main_arg0) = m ((c.tc : Thread Cert.AdamPleGateRefIdeal.nD Cert.AdamPleGateRefIdeal.τ).loc Cert.AdamPleGateRefIdeal.main_arg0)
      ∧ r.2.mem ((c.tc : Thread Cert.AdamPleGateRefIdeal.nD Cert.AdamPleGateRefIdeal.τ).loc Cert.AdamPleGateRefIdeal.main_arg1) = m ((c.tc : Thread Cert.AdamPleGateRefIdeal.nD Cert.AdamPleGateRefIdeal.τ).loc Cert.AdamPleGateRefIdeal.main_arg1)
      ∧ r.2.mem ((c.tc : Thread Cert.AdamPleGateRefIdeal.nD Cert.AdamPleGateRefIdeal.τ).loc Cert.AdamPleGateRefIdeal.main_arg2) = m ((c.tc : Thread Cert.AdamPleGateRefIdeal.nD Cert.AdamPleGateRefIdeal.τ).loc Cert.AdamPleGateRefIdeal.main_arg2)
      ∧ r.2.mem ((c.tc : Thread Cert.AdamPleGateRefIdeal.nD Cert.AdamPleGateRefIdeal.τ).loc Cert.AdamPleGateRefIdeal.main_arg3) = m ((c.tc : Thread Cert.AdamPleGateRefIdeal.nD Cert.AdamPleGateRefIdeal.τ).loc Cert.AdamPleGateRefIdeal.main_arg3))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ r.2.sem = fun _ => 0)

def quiescent_AdamEvenInRefIdeal [hAdamEvenInRefIdeal : Cert.AdamEvenInRefIdeal.Facts] : Prop :=
  ∀ (m : (ℓ : Loc Cert.AdamEvenInRefIdeal.nD Cert.AdamEvenInRefIdeal.τ Cert.AdamEvenInRefIdeal.sig) → Buf (Elt Ideal) ℓ) (g : Dev Cert.AdamEvenInRefIdeal.nD → PrngReg), Pre_AdamEvenInRefIdeal m →
    θ_run (Cert.AdamEvenInRefIdeal.defs (F := Ideal)) (onTc (τ := Cert.AdamEvenInRefIdeal.τ) (Cert.AdamEvenInRefIdeal.main (F := Ideal))) ⟨m, fun _ => 0, g⟩ (fun r => (∀ c : Dev Cert.AdamEvenInRefIdeal.nD,
      r.2.mem ((c.tc : Thread Cert.AdamEvenInRefIdeal.nD Cert.AdamEvenInRefIdeal.τ).loc Cert.AdamEvenInRefIdeal.main_arg0) = m ((c.tc : Thread Cert.AdamEvenInRefIdeal.nD Cert.AdamEvenInRefIdeal.τ).loc Cert.AdamEvenInRefIdeal.main_arg0)
      ∧ r.2.mem ((c.tc : Thread Cert.AdamEvenInRefIdeal.nD Cert.AdamEvenInRefIdeal.τ).loc Cert.AdamEvenInRefIdeal.main_arg1) = m ((c.tc : Thread Cert.AdamEvenInRefIdeal.nD Cert.AdamEvenInRefIdeal.τ).loc Cert.AdamEvenInRefIdeal.main_arg1)
      ∧ r.2.mem ((c.tc : Thread Cert.AdamEvenInRefIdeal.nD Cert.AdamEvenInRefIdeal.τ).loc Cert.AdamEvenInRefIdeal.main_arg2) = m ((c.tc : Thread Cert.AdamEvenInRefIdeal.nD Cert.AdamEvenInRefIdeal.τ).loc Cert.AdamEvenInRefIdeal.main_arg2)
      ∧ r.2.mem ((c.tc : Thread Cert.AdamEvenInRefIdeal.nD Cert.AdamEvenInRefIdeal.τ).loc Cert.AdamEvenInRefIdeal.main_arg3) = m ((c.tc : Thread Cert.AdamEvenInRefIdeal.nD Cert.AdamEvenInRefIdeal.τ).loc Cert.AdamEvenInRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3))
      ∧ r.2.sem = fun _ => 0)

def quiescent_AdamPleProj [hAdamPleProj : Cert.AdamPleProj.Facts] : Prop :=
  ∀ (m : (ℓ : Loc Cert.AdamPleProj.nD Cert.AdamPleProj.τ Cert.AdamPleProj.sig) → Buf (Elt Bits) ℓ) (g : Dev Cert.AdamPleProj.nD → PrngReg), Pre_AdamPleProj m →
    θ_run (Cert.AdamPleProj.defs (F := Bits)) (onTc (τ := Cert.AdamPleProj.τ) (Cert.AdamPleProj.main (F := Bits))) ⟨m, fun _ => 0, g⟩ (fun r => (∀ c : Dev Cert.AdamPleProj.nD,
      r.2.mem ((c.tc : Thread Cert.AdamPleProj.nD Cert.AdamPleProj.τ).loc Cert.AdamPleProj.main_arg0) = m ((c.tc : Thread Cert.AdamPleProj.nD Cert.AdamPleProj.τ).loc Cert.AdamPleProj.main_arg0)
      ∧ r.2.mem ((c.tc : Thread Cert.AdamPleProj.nD Cert.AdamPleProj.τ).loc Cert.AdamPleProj.main_arg1) = m ((c.tc : Thread Cert.AdamPleProj.nD Cert.AdamPleProj.τ).loc Cert.AdamPleProj.main_arg1)
      ∧ r.2.mem ((c.tc : Thread Cert.AdamPleProj.nD Cert.AdamPleProj.τ).loc Cert.AdamPleProj.main_arg2) = m ((c.tc : Thread Cert.AdamPleProj.nD Cert.AdamPleProj.τ).loc Cert.AdamPleProj.main_arg2)
      ∧ r.2.mem ((c.tc : Thread Cert.AdamPleProj.nD Cert.AdamPleProj.τ).loc Cert.AdamPleProj.main_arg3) = m ((c.tc : Thread Cert.AdamPleProj.nD Cert.AdamPleProj.τ).loc Cert.AdamPleProj.main_arg3))
      ∧ r.2.sem = fun _ => 0)

def quiescent_AdamPleProjIdeal [hAdamPleProjIdeal : Cert.AdamPleProjIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg), Pre_AdamPleProjIdeal m →
    θ_run (Cert.AdamPleProjIdeal.defs (F := Ideal)) (onTc (τ := Cert.AdamPleProjIdeal.τ) (Cert.AdamPleProjIdeal.main (F := Ideal))) ⟨m, fun _ => 0, g⟩ (fun r => (∀ c : Dev Cert.AdamPleProjIdeal.nD,
      r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
      ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
      ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
      ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ r.2.sem = fun _ => 0)

def quiescent_AdamPleProjRefIdeal [hAdamPleProjRefIdeal : Cert.AdamPleProjRefIdeal.Facts] : Prop :=
  ∀ (m : (ℓ : Loc Cert.AdamPleProjRefIdeal.nD Cert.AdamPleProjRefIdeal.τ Cert.AdamPleProjRefIdeal.sig) → Buf (Elt Ideal) ℓ) (g : Dev Cert.AdamPleProjRefIdeal.nD → PrngReg), Pre_AdamPleProjRefIdeal m →
    θ_run (Cert.AdamPleProjRefIdeal.defs (F := Ideal)) (onTc (τ := Cert.AdamPleProjRefIdeal.τ) (Cert.AdamPleProjRefIdeal.main (F := Ideal))) ⟨m, fun _ => 0, g⟩ (fun r => (∀ c : Dev Cert.AdamPleProjRefIdeal.nD,
      r.2.mem ((c.tc : Thread Cert.AdamPleProjRefIdeal.nD Cert.AdamPleProjRefIdeal.τ).loc Cert.AdamPleProjRefIdeal.main_arg0) = m ((c.tc : Thread Cert.AdamPleProjRefIdeal.nD Cert.AdamPleProjRefIdeal.τ).loc Cert.AdamPleProjRefIdeal.main_arg0)
      ∧ r.2.mem ((c.tc : Thread Cert.AdamPleProjRefIdeal.nD Cert.AdamPleProjRefIdeal.τ).loc Cert.AdamPleProjRefIdeal.main_arg1) = m ((c.tc : Thread Cert.AdamPleProjRefIdeal.nD Cert.AdamPleProjRefIdeal.τ).loc Cert.AdamPleProjRefIdeal.main_arg1)
      ∧ r.2.mem ((c.tc : Thread Cert.AdamPleProjRefIdeal.nD Cert.AdamPleProjRefIdeal.τ).loc Cert.AdamPleProjRefIdeal.main_arg2) = m ((c.tc : Thread Cert.AdamPleProjRefIdeal.nD Cert.AdamPleProjRefIdeal.τ).loc Cert.AdamPleProjRefIdeal.main_arg2)
      ∧ r.2.mem ((c.tc : Thread Cert.AdamPleProjRefIdeal.nD Cert.AdamPleProjRefIdeal.τ).loc Cert.AdamPleProjRefIdeal.main_arg3) = m ((c.tc : Thread Cert.AdamPleProjRefIdeal.nD Cert.AdamPleProjRefIdeal.τ).loc Cert.AdamPleProjRefIdeal.main_arg3))
      ∧ r.2.sem = fun _ => 0)

def quiescent_AdamLoraIn [hAdamLoraIn : Cert.AdamLoraIn.Facts] : Prop :=
  ∀ (m : (ℓ : Loc Cert.AdamLoraIn.nD Cert.AdamLoraIn.τ Cert.AdamLoraIn.sig) → Buf (Elt Bits) ℓ) (g : Dev Cert.AdamLoraIn.nD → PrngReg), Pre_AdamLoraIn m →
    θ_run (Cert.AdamLoraIn.defs (F := Bits)) (onTc (τ := Cert.AdamLoraIn.τ) (Cert.AdamLoraIn.main (F := Bits))) ⟨m, fun _ => 0, g⟩ (fun r => (∀ c : Dev Cert.AdamLoraIn.nD,
      r.2.mem ((c.tc : Thread Cert.AdamLoraIn.nD Cert.AdamLoraIn.τ).loc Cert.AdamLoraIn.main_arg0) = m ((c.tc : Thread Cert.AdamLoraIn.nD Cert.AdamLoraIn.τ).loc Cert.AdamLoraIn.main_arg0)
      ∧ r.2.mem ((c.tc : Thread Cert.AdamLoraIn.nD Cert.AdamLoraIn.τ).loc Cert.AdamLoraIn.main_arg1) = m ((c.tc : Thread Cert.AdamLoraIn.nD Cert.AdamLoraIn.τ).loc Cert.AdamLoraIn.main_arg1)
      ∧ r.2.mem ((c.tc : Thread Cert.AdamLoraIn.nD Cert.AdamLoraIn.τ).loc Cert.AdamLoraIn.main_arg2) = m ((c.tc : Thread Cert.AdamLoraIn.nD Cert.AdamLoraIn.τ).loc Cert.AdamLoraIn.main_arg2)
      ∧ r.2.mem ((c.tc : Thread Cert.AdamLoraIn.nD Cert.AdamLoraIn.τ).loc Cert.AdamLoraIn.main_arg3) = m ((c.tc : Thread Cert.AdamLoraIn.nD Cert.AdamLoraIn.τ).loc Cert.AdamLoraIn.main_arg3))
      ∧ r.2.sem = fun _ => 0)

def quiescent_AdamLoraInIdeal [hAdamLoraInIdeal : Cert.AdamLoraInIdeal.Facts] : Prop :=
  ∀ (m : (ℓ : Loc Cert.AdamLoraInIdeal.nD Cert.AdamLoraInIdeal.τ Cert.AdamLoraInIdeal.sig) → Buf (Elt Ideal) ℓ) (g : Dev Cert.AdamLoraInIdeal.nD → PrngReg), Pre_AdamLoraInIdeal m →
    θ_run (Cert.AdamLoraInIdeal.defs (F := Ideal)) (onTc (τ := Cert.AdamLoraInIdeal.τ) (Cert.AdamLoraInIdeal.main (F := Ideal))) ⟨m, fun _ => 0, g⟩ (fun r => (∀ c : Dev Cert.AdamLoraInIdeal.nD,
      r.2.mem ((c.tc : Thread Cert.AdamLoraInIdeal.nD Cert.AdamLoraInIdeal.τ).loc Cert.AdamLoraInIdeal.main_arg0) = m ((c.tc : Thread Cert.AdamLoraInIdeal.nD Cert.AdamLoraInIdeal.τ).loc Cert.AdamLoraInIdeal.main_arg0)
      ∧ r.2.mem ((c.tc : Thread Cert.AdamLoraInIdeal.nD Cert.AdamLoraInIdeal.τ).loc Cert.AdamLoraInIdeal.main_arg1) = m ((c.tc : Thread Cert.AdamLoraInIdeal.nD Cert.AdamLoraInIdeal.τ).loc Cert.AdamLoraInIdeal.main_arg1)
      ∧ r.2.mem ((c.tc : Thread Cert.AdamLoraInIdeal.nD Cert.AdamLoraInIdeal.τ).loc Cert.AdamLoraInIdeal.main_arg2) = m ((c.tc : Thread Cert.AdamLoraInIdeal.nD Cert.AdamLoraInIdeal.τ).loc Cert.AdamLoraInIdeal.main_arg2)
      ∧ r.2.mem ((c.tc : Thread Cert.AdamLoraInIdeal.nD Cert.AdamLoraInIdeal.τ).loc Cert.AdamLoraInIdeal.main_arg3) = m ((c.tc : Thread Cert.AdamLoraInIdeal.nD Cert.AdamLoraInIdeal.τ).loc Cert.AdamLoraInIdeal.main_arg3))
      ∧ r.2.sem = fun _ => 0)

def quiescent_AdamLoraInRefIdeal [hAdamLoraInRefIdeal : Cert.AdamLoraInRefIdeal.Facts] : Prop :=
  ∀ (m : (ℓ : Loc Cert.AdamLoraInRefIdeal.nD Cert.AdamLoraInRefIdeal.τ Cert.AdamLoraInRefIdeal.sig) → Buf (Elt Ideal) ℓ) (g : Dev Cert.AdamLoraInRefIdeal.nD → PrngReg), Pre_AdamLoraInRefIdeal m →
    θ_run (Cert.AdamLoraInRefIdeal.defs (F := Ideal)) (onTc (τ := Cert.AdamLoraInRefIdeal.τ) (Cert.AdamLoraInRefIdeal.main (F := Ideal))) ⟨m, fun _ => 0, g⟩ (fun r => (∀ c : Dev Cert.AdamLoraInRefIdeal.nD,
      r.2.mem ((c.tc : Thread Cert.AdamLoraInRefIdeal.nD Cert.AdamLoraInRefIdeal.τ).loc Cert.AdamLoraInRefIdeal.main_arg0) = m ((c.tc : Thread Cert.AdamLoraInRefIdeal.nD Cert.AdamLoraInRefIdeal.τ).loc Cert.AdamLoraInRefIdeal.main_arg0)
      ∧ r.2.mem ((c.tc : Thread Cert.AdamLoraInRefIdeal.nD Cert.AdamLoraInRefIdeal.τ).loc Cert.AdamLoraInRefIdeal.main_arg1) = m ((c.tc : Thread Cert.AdamLoraInRefIdeal.nD Cert.AdamLoraInRefIdeal.τ).loc Cert.AdamLoraInRefIdeal.main_arg1)
      ∧ r.2.mem ((c.tc : Thread Cert.AdamLoraInRefIdeal.nD Cert.AdamLoraInRefIdeal.τ).loc Cert.AdamLoraInRefIdeal.main_arg2) = m ((c.tc : Thread Cert.AdamLoraInRefIdeal.nD Cert.AdamLoraInRefIdeal.τ).loc Cert.AdamLoraInRefIdeal.main_arg2)
      ∧ r.2.mem ((c.tc : Thread Cert.AdamLoraInRefIdeal.nD Cert.AdamLoraInRefIdeal.τ).loc Cert.AdamLoraInRefIdeal.main_arg3) = m ((c.tc : Thread Cert.AdamLoraInRefIdeal.nD Cert.AdamLoraInRefIdeal.τ).loc Cert.AdamLoraInRefIdeal.main_arg3))
      ∧ r.2.sem = fun _ => 0)

def quiescent_AdamLoraOut [hAdamLoraOut : Cert.AdamLoraOut.Facts] : Prop :=
  ∀ (m : (ℓ : Loc Cert.AdamLoraOut.nD Cert.AdamLoraOut.τ Cert.AdamLoraOut.sig) → Buf (Elt Bits) ℓ) (g : Dev Cert.AdamLoraOut.nD → PrngReg), Pre_AdamLoraOut m →
    θ_run (Cert.AdamLoraOut.defs (F := Bits)) (onTc (τ := Cert.AdamLoraOut.τ) (Cert.AdamLoraOut.main (F := Bits))) ⟨m, fun _ => 0, g⟩ (fun r => (∀ c : Dev Cert.AdamLoraOut.nD,
      r.2.mem ((c.tc : Thread Cert.AdamLoraOut.nD Cert.AdamLoraOut.τ).loc Cert.AdamLoraOut.main_arg0) = m ((c.tc : Thread Cert.AdamLoraOut.nD Cert.AdamLoraOut.τ).loc Cert.AdamLoraOut.main_arg0)
      ∧ r.2.mem ((c.tc : Thread Cert.AdamLoraOut.nD Cert.AdamLoraOut.τ).loc Cert.AdamLoraOut.main_arg1) = m ((c.tc : Thread Cert.AdamLoraOut.nD Cert.AdamLoraOut.τ).loc Cert.AdamLoraOut.main_arg1)
      ∧ r.2.mem ((c.tc : Thread Cert.AdamLoraOut.nD Cert.AdamLoraOut.τ).loc Cert.AdamLoraOut.main_arg2) = m ((c.tc : Thread Cert.AdamLoraOut.nD Cert.AdamLoraOut.τ).loc Cert.AdamLoraOut.main_arg2)
      ∧ r.2.mem ((c.tc : Thread Cert.AdamLoraOut.nD Cert.AdamLoraOut.τ).loc Cert.AdamLoraOut.main_arg3) = m ((c.tc : Thread Cert.AdamLoraOut.nD Cert.AdamLoraOut.τ).loc Cert.AdamLoraOut.main_arg3))
      ∧ r.2.sem = fun _ => 0)

def quiescent_AdamLoraOutIdeal [hAdamLoraOutIdeal : Cert.AdamLoraOutIdeal.Facts] : Prop :=
  ∀ (m : (ℓ : Loc Cert.AdamLoraOutIdeal.nD Cert.AdamLoraOutIdeal.τ Cert.AdamLoraOutIdeal.sig) → Buf (Elt Ideal) ℓ) (g : Dev Cert.AdamLoraOutIdeal.nD → PrngReg), Pre_AdamLoraOutIdeal m →
    θ_run (Cert.AdamLoraOutIdeal.defs (F := Ideal)) (onTc (τ := Cert.AdamLoraOutIdeal.τ) (Cert.AdamLoraOutIdeal.main (F := Ideal))) ⟨m, fun _ => 0, g⟩ (fun r => (∀ c : Dev Cert.AdamLoraOutIdeal.nD,
      r.2.mem ((c.tc : Thread Cert.AdamLoraOutIdeal.nD Cert.AdamLoraOutIdeal.τ).loc Cert.AdamLoraOutIdeal.main_arg0) = m ((c.tc : Thread Cert.AdamLoraOutIdeal.nD Cert.AdamLoraOutIdeal.τ).loc Cert.AdamLoraOutIdeal.main_arg0)
      ∧ r.2.mem ((c.tc : Thread Cert.AdamLoraOutIdeal.nD Cert.AdamLoraOutIdeal.τ).loc Cert.AdamLoraOutIdeal.main_arg1) = m ((c.tc : Thread Cert.AdamLoraOutIdeal.nD Cert.AdamLoraOutIdeal.τ).loc Cert.AdamLoraOutIdeal.main_arg1)
      ∧ r.2.mem ((c.tc : Thread Cert.AdamLoraOutIdeal.nD Cert.AdamLoraOutIdeal.τ).loc Cert.AdamLoraOutIdeal.main_arg2) = m ((c.tc : Thread Cert.AdamLoraOutIdeal.nD Cert.AdamLoraOutIdeal.τ).loc Cert.AdamLoraOutIdeal.main_arg2)
      ∧ r.2.mem ((c.tc : Thread Cert.AdamLoraOutIdeal.nD Cert.AdamLoraOutIdeal.τ).loc Cert.AdamLoraOutIdeal.main_arg3) = m ((c.tc : Thread Cert.AdamLoraOutIdeal.nD Cert.AdamLoraOutIdeal.τ).loc Cert.AdamLoraOutIdeal.main_arg3))
      ∧ r.2.sem = fun _ => 0)

def quiescent_AdamLoraOutRefIdeal [hAdamLoraOutRefIdeal : Cert.AdamLoraOutRefIdeal.Facts] : Prop :=
  ∀ (m : (ℓ : Loc Cert.AdamLoraOutRefIdeal.nD Cert.AdamLoraOutRefIdeal.τ Cert.AdamLoraOutRefIdeal.sig) → Buf (Elt Ideal) ℓ) (g : Dev Cert.AdamLoraOutRefIdeal.nD → PrngReg), Pre_AdamLoraOutRefIdeal m →
    θ_run (Cert.AdamLoraOutRefIdeal.defs (F := Ideal)) (onTc (τ := Cert.AdamLoraOutRefIdeal.τ) (Cert.AdamLoraOutRefIdeal.main (F := Ideal))) ⟨m, fun _ => 0, g⟩ (fun r => (∀ c : Dev Cert.AdamLoraOutRefIdeal.nD,
      r.2.mem ((c.tc : Thread Cert.AdamLoraOutRefIdeal.nD Cert.AdamLoraOutRefIdeal.τ).loc Cert.AdamLoraOutRefIdeal.main_arg0) = m ((c.tc : Thread Cert.AdamLoraOutRefIdeal.nD Cert.AdamLoraOutRefIdeal.τ).loc Cert.AdamLoraOutRefIdeal.main_arg0)
      ∧ r.2.mem ((c.tc : Thread Cert.AdamLoraOutRefIdeal.nD Cert.AdamLoraOutRefIdeal.τ).loc Cert.AdamLoraOutRefIdeal.main_arg1) = m ((c.tc : Thread Cert.AdamLoraOutRefIdeal.nD Cert.AdamLoraOutRefIdeal.τ).loc Cert.AdamLoraOutRefIdeal.main_arg1)
      ∧ r.2.mem ((c.tc : Thread Cert.AdamLoraOutRefIdeal.nD Cert.AdamLoraOutRefIdeal.τ).loc Cert.AdamLoraOutRefIdeal.main_arg2) = m ((c.tc : Thread Cert.AdamLoraOutRefIdeal.nD Cert.AdamLoraOutRefIdeal.τ).loc Cert.AdamLoraOutRefIdeal.main_arg2)
      ∧ r.2.mem ((c.tc : Thread Cert.AdamLoraOutRefIdeal.nD Cert.AdamLoraOutRefIdeal.τ).loc Cert.AdamLoraOutRefIdeal.main_arg3) = m ((c.tc : Thread Cert.AdamLoraOutRefIdeal.nD Cert.AdamLoraOutRefIdeal.τ).loc Cert.AdamLoraOutRefIdeal.main_arg3))
      ∧ r.2.sem = fun _ => 0)

def quiescent_AdamGateIn [hAdamGateIn : Cert.AdamGateIn.Facts] : Prop :=
  ∀ (m : (ℓ : Loc Cert.AdamGateIn.nD Cert.AdamGateIn.τ Cert.AdamGateIn.sig) → Buf (Elt Bits) ℓ) (g : Dev Cert.AdamGateIn.nD → PrngReg), Pre_AdamGateIn m →
    θ_run (Cert.AdamGateIn.defs (F := Bits)) (onTc (τ := Cert.AdamGateIn.τ) (Cert.AdamGateIn.main (F := Bits))) ⟨m, fun _ => 0, g⟩ (fun r => (∀ c : Dev Cert.AdamGateIn.nD,
      r.2.mem ((c.tc : Thread Cert.AdamGateIn.nD Cert.AdamGateIn.τ).loc Cert.AdamGateIn.main_arg0) = m ((c.tc : Thread Cert.AdamGateIn.nD Cert.AdamGateIn.τ).loc Cert.AdamGateIn.main_arg0)
      ∧ r.2.mem ((c.tc : Thread Cert.AdamGateIn.nD Cert.AdamGateIn.τ).loc Cert.AdamGateIn.main_arg1) = m ((c.tc : Thread Cert.AdamGateIn.nD Cert.AdamGateIn.τ).loc Cert.AdamGateIn.main_arg1)
      ∧ r.2.mem ((c.tc : Thread Cert.AdamGateIn.nD Cert.AdamGateIn.τ).loc Cert.AdamGateIn.main_arg2) = m ((c.tc : Thread Cert.AdamGateIn.nD Cert.AdamGateIn.τ).loc Cert.AdamGateIn.main_arg2)
      ∧ r.2.mem ((c.tc : Thread Cert.AdamGateIn.nD Cert.AdamGateIn.τ).loc Cert.AdamGateIn.main_arg3) = m ((c.tc : Thread Cert.AdamGateIn.nD Cert.AdamGateIn.τ).loc Cert.AdamGateIn.main_arg3))
      ∧ r.2.sem = fun _ => 0)

def quiescent_AdamGateInIdeal [hAdamGateInIdeal : Cert.AdamGateInIdeal.Facts] : Prop :=
  ∀ (m : (ℓ : Loc Cert.AdamGateInIdeal.nD Cert.AdamGateInIdeal.τ Cert.AdamGateInIdeal.sig) → Buf (Elt Ideal) ℓ) (g : Dev Cert.AdamGateInIdeal.nD → PrngReg), Pre_AdamGateInIdeal m →
    θ_run (Cert.AdamGateInIdeal.defs (F := Ideal)) (onTc (τ := Cert.AdamGateInIdeal.τ) (Cert.AdamGateInIdeal.main (F := Ideal))) ⟨m, fun _ => 0, g⟩ (fun r => (∀ c : Dev Cert.AdamGateInIdeal.nD,
      r.2.mem ((c.tc : Thread Cert.AdamGateInIdeal.nD Cert.AdamGateInIdeal.τ).loc Cert.AdamGateInIdeal.main_arg0) = m ((c.tc : Thread Cert.AdamGateInIdeal.nD Cert.AdamGateInIdeal.τ).loc Cert.AdamGateInIdeal.main_arg0)
      ∧ r.2.mem ((c.tc : Thread Cert.AdamGateInIdeal.nD Cert.AdamGateInIdeal.τ).loc Cert.AdamGateInIdeal.main_arg1) = m ((c.tc : Thread Cert.AdamGateInIdeal.nD Cert.AdamGateInIdeal.τ).loc Cert.AdamGateInIdeal.main_arg1)
      ∧ r.2.mem ((c.tc : Thread Cert.AdamGateInIdeal.nD Cert.AdamGateInIdeal.τ).loc Cert.AdamGateInIdeal.main_arg2) = m ((c.tc : Thread Cert.AdamGateInIdeal.nD Cert.AdamGateInIdeal.τ).loc Cert.AdamGateInIdeal.main_arg2)
      ∧ r.2.mem ((c.tc : Thread Cert.AdamGateInIdeal.nD Cert.AdamGateInIdeal.τ).loc Cert.AdamGateInIdeal.main_arg3) = m ((c.tc : Thread Cert.AdamGateInIdeal.nD Cert.AdamGateInIdeal.τ).loc Cert.AdamGateInIdeal.main_arg3))
      ∧ r.2.sem = fun _ => 0)

def quiescent_AdamGateInRefIdeal [hAdamGateInRefIdeal : Cert.AdamGateInRefIdeal.Facts] : Prop :=
  ∀ (m : (ℓ : Loc Cert.AdamGateInRefIdeal.nD Cert.AdamGateInRefIdeal.τ Cert.AdamGateInRefIdeal.sig) → Buf (Elt Ideal) ℓ) (g : Dev Cert.AdamGateInRefIdeal.nD → PrngReg), Pre_AdamGateInRefIdeal m →
    θ_run (Cert.AdamGateInRefIdeal.defs (F := Ideal)) (onTc (τ := Cert.AdamGateInRefIdeal.τ) (Cert.AdamGateInRefIdeal.main (F := Ideal))) ⟨m, fun _ => 0, g⟩ (fun r => (∀ c : Dev Cert.AdamGateInRefIdeal.nD,
      r.2.mem ((c.tc : Thread Cert.AdamGateInRefIdeal.nD Cert.AdamGateInRefIdeal.τ).loc Cert.AdamGateInRefIdeal.main_arg0) = m ((c.tc : Thread Cert.AdamGateInRefIdeal.nD Cert.AdamGateInRefIdeal.τ).loc Cert.AdamGateInRefIdeal.main_arg0)
      ∧ r.2.mem ((c.tc : Thread Cert.AdamGateInRefIdeal.nD Cert.AdamGateInRefIdeal.τ).loc Cert.AdamGateInRefIdeal.main_arg1) = m ((c.tc : Thread Cert.AdamGateInRefIdeal.nD Cert.AdamGateInRefIdeal.τ).loc Cert.AdamGateInRefIdeal.main_arg1)
      ∧ r.2.mem ((c.tc : Thread Cert.AdamGateInRefIdeal.nD Cert.AdamGateInRefIdeal.τ).loc Cert.AdamGateInRefIdeal.main_arg2) = m ((c.tc : Thread Cert.AdamGateInRefIdeal.nD Cert.AdamGateInRefIdeal.τ).loc Cert.AdamGateInRefIdeal.main_arg2)
      ∧ r.2.mem ((c.tc : Thread Cert.AdamGateInRefIdeal.nD Cert.AdamGateInRefIdeal.τ).loc Cert.AdamGateInRefIdeal.main_arg3) = m ((c.tc : Thread Cert.AdamGateInRefIdeal.nD Cert.AdamGateInRefIdeal.τ).loc Cert.AdamGateInRefIdeal.main_arg3))
      ∧ r.2.sem = fun _ => 0)

def quiescent_AdamGateOut [hAdamGateOut : Cert.AdamGateOut.Facts] : Prop :=
  ∀ (m : (ℓ : Loc Cert.AdamGateOut.nD Cert.AdamGateOut.τ Cert.AdamGateOut.sig) → Buf (Elt Bits) ℓ) (g : Dev Cert.AdamGateOut.nD → PrngReg), Pre_AdamGateOut m →
    θ_run (Cert.AdamGateOut.defs (F := Bits)) (onTc (τ := Cert.AdamGateOut.τ) (Cert.AdamGateOut.main (F := Bits))) ⟨m, fun _ => 0, g⟩ (fun r => (∀ c : Dev Cert.AdamGateOut.nD,
      r.2.mem ((c.tc : Thread Cert.AdamGateOut.nD Cert.AdamGateOut.τ).loc Cert.AdamGateOut.main_arg0) = m ((c.tc : Thread Cert.AdamGateOut.nD Cert.AdamGateOut.τ).loc Cert.AdamGateOut.main_arg0)
      ∧ r.2.mem ((c.tc : Thread Cert.AdamGateOut.nD Cert.AdamGateOut.τ).loc Cert.AdamGateOut.main_arg1) = m ((c.tc : Thread Cert.AdamGateOut.nD Cert.AdamGateOut.τ).loc Cert.AdamGateOut.main_arg1)
      ∧ r.2.mem ((c.tc : Thread Cert.AdamGateOut.nD Cert.AdamGateOut.τ).loc Cert.AdamGateOut.main_arg2) = m ((c.tc : Thread Cert.AdamGateOut.nD Cert.AdamGateOut.τ).loc Cert.AdamGateOut.main_arg2)
      ∧ r.2.mem ((c.tc : Thread Cert.AdamGateOut.nD Cert.AdamGateOut.τ).loc Cert.AdamGateOut.main_arg3) = m ((c.tc : Thread Cert.AdamGateOut.nD Cert.AdamGateOut.τ).loc Cert.AdamGateOut.main_arg3))
      ∧ r.2.sem = fun _ => 0)

def quiescent_AdamGateOutIdeal [hAdamGateOutIdeal : Cert.AdamGateOutIdeal.Facts] : Prop :=
  ∀ (m : (ℓ : Loc Cert.AdamGateOutIdeal.nD Cert.AdamGateOutIdeal.τ Cert.AdamGateOutIdeal.sig) → Buf (Elt Ideal) ℓ) (g : Dev Cert.AdamGateOutIdeal.nD → PrngReg), Pre_AdamGateOutIdeal m →
    θ_run (Cert.AdamGateOutIdeal.defs (F := Ideal)) (onTc (τ := Cert.AdamGateOutIdeal.τ) (Cert.AdamGateOutIdeal.main (F := Ideal))) ⟨m, fun _ => 0, g⟩ (fun r => (∀ c : Dev Cert.AdamGateOutIdeal.nD,
      r.2.mem ((c.tc : Thread Cert.AdamGateOutIdeal.nD Cert.AdamGateOutIdeal.τ).loc Cert.AdamGateOutIdeal.main_arg0) = m ((c.tc : Thread Cert.AdamGateOutIdeal.nD Cert.AdamGateOutIdeal.τ).loc Cert.AdamGateOutIdeal.main_arg0)
      ∧ r.2.mem ((c.tc : Thread Cert.AdamGateOutIdeal.nD Cert.AdamGateOutIdeal.τ).loc Cert.AdamGateOutIdeal.main_arg1) = m ((c.tc : Thread Cert.AdamGateOutIdeal.nD Cert.AdamGateOutIdeal.τ).loc Cert.AdamGateOutIdeal.main_arg1)
      ∧ r.2.mem ((c.tc : Thread Cert.AdamGateOutIdeal.nD Cert.AdamGateOutIdeal.τ).loc Cert.AdamGateOutIdeal.main_arg2) = m ((c.tc : Thread Cert.AdamGateOutIdeal.nD Cert.AdamGateOutIdeal.τ).loc Cert.AdamGateOutIdeal.main_arg2)
      ∧ r.2.mem ((c.tc : Thread Cert.AdamGateOutIdeal.nD Cert.AdamGateOutIdeal.τ).loc Cert.AdamGateOutIdeal.main_arg3) = m ((c.tc : Thread Cert.AdamGateOutIdeal.nD Cert.AdamGateOutIdeal.τ).loc Cert.AdamGateOutIdeal.main_arg3))
      ∧ r.2.sem = fun _ => 0)

def quiescent_AdamGateOutRefIdeal [hAdamGateOutRefIdeal : Cert.AdamGateOutRefIdeal.Facts] : Prop :=
  ∀ (m : (ℓ : Loc Cert.AdamGateOutRefIdeal.nD Cert.AdamGateOutRefIdeal.τ Cert.AdamGateOutRefIdeal.sig) → Buf (Elt Ideal) ℓ) (g : Dev Cert.AdamGateOutRefIdeal.nD → PrngReg), Pre_AdamGateOutRefIdeal m →
    θ_run (Cert.AdamGateOutRefIdeal.defs (F := Ideal)) (onTc (τ := Cert.AdamGateOutRefIdeal.τ) (Cert.AdamGateOutRefIdeal.main (F := Ideal))) ⟨m, fun _ => 0, g⟩ (fun r => (∀ c : Dev Cert.AdamGateOutRefIdeal.nD,
      r.2.mem ((c.tc : Thread Cert.AdamGateOutRefIdeal.nD Cert.AdamGateOutRefIdeal.τ).loc Cert.AdamGateOutRefIdeal.main_arg0) = m ((c.tc : Thread Cert.AdamGateOutRefIdeal.nD Cert.AdamGateOutRefIdeal.τ).loc Cert.AdamGateOutRefIdeal.main_arg0)
      ∧ r.2.mem ((c.tc : Thread Cert.AdamGateOutRefIdeal.nD Cert.AdamGateOutRefIdeal.τ).loc Cert.AdamGateOutRefIdeal.main_arg1) = m ((c.tc : Thread Cert.AdamGateOutRefIdeal.nD Cert.AdamGateOutRefIdeal.τ).loc Cert.AdamGateOutRefIdeal.main_arg1)
      ∧ r.2.mem ((c.tc : Thread Cert.AdamGateOutRefIdeal.nD Cert.AdamGateOutRefIdeal.τ).loc Cert.AdamGateOutRefIdeal.main_arg2) = m ((c.tc : Thread Cert.AdamGateOutRefIdeal.nD Cert.AdamGateOutRefIdeal.τ).loc Cert.AdamGateOutRefIdeal.main_arg2)
      ∧ r.2.mem ((c.tc : Thread Cert.AdamGateOutRefIdeal.nD Cert.AdamGateOutRefIdeal.τ).loc Cert.AdamGateOutRefIdeal.main_arg3) = m ((c.tc : Thread Cert.AdamGateOutRefIdeal.nD Cert.AdamGateOutRefIdeal.τ).loc Cert.AdamGateOutRefIdeal.main_arg3))
      ∧ r.2.sem = fun _ => 0)

def quiescent_AdamValIn [hAdamValIn : Cert.AdamValIn.Facts] : Prop :=
  ∀ (m : (ℓ : Loc Cert.AdamValIn.nD Cert.AdamValIn.τ Cert.AdamValIn.sig) → Buf (Elt Bits) ℓ) (g : Dev Cert.AdamValIn.nD → PrngReg), Pre_AdamValIn m →
    θ_run (Cert.AdamValIn.defs (F := Bits)) (onTc (τ := Cert.AdamValIn.τ) (Cert.AdamValIn.main (F := Bits))) ⟨m, fun _ => 0, g⟩ (fun r => (∀ c : Dev Cert.AdamValIn.nD,
      r.2.mem ((c.tc : Thread Cert.AdamValIn.nD Cert.AdamValIn.τ).loc Cert.AdamValIn.main_arg0) = m ((c.tc : Thread Cert.AdamValIn.nD Cert.AdamValIn.τ).loc Cert.AdamValIn.main_arg0)
      ∧ r.2.mem ((c.tc : Thread Cert.AdamValIn.nD Cert.AdamValIn.τ).loc Cert.AdamValIn.main_arg1) = m ((c.tc : Thread Cert.AdamValIn.nD Cert.AdamValIn.τ).loc Cert.AdamValIn.main_arg1)
      ∧ r.2.mem ((c.tc : Thread Cert.AdamValIn.nD Cert.AdamValIn.τ).loc Cert.AdamValIn.main_arg2) = m ((c.tc : Thread Cert.AdamValIn.nD Cert.AdamValIn.τ).loc Cert.AdamValIn.main_arg2)
      ∧ r.2.mem ((c.tc : Thread Cert.AdamValIn.nD Cert.AdamValIn.τ).loc Cert.AdamValIn.main_arg3) = m ((c.tc : Thread Cert.AdamValIn.nD Cert.AdamValIn.τ).loc Cert.AdamValIn.main_arg3))
      ∧ r.2.sem = fun _ => 0)

def quiescent_AdamValInIdeal [hAdamValInIdeal : Cert.AdamValInIdeal.Facts] : Prop :=
  ∀ (m : (ℓ : Loc Cert.AdamValInIdeal.nD Cert.AdamValInIdeal.τ Cert.AdamValInIdeal.sig) → Buf (Elt Ideal) ℓ) (g : Dev Cert.AdamValInIdeal.nD → PrngReg), Pre_AdamValInIdeal m →
    θ_run (Cert.AdamValInIdeal.defs (F := Ideal)) (onTc (τ := Cert.AdamValInIdeal.τ) (Cert.AdamValInIdeal.main (F := Ideal))) ⟨m, fun _ => 0, g⟩ (fun r => (∀ c : Dev Cert.AdamValInIdeal.nD,
      r.2.mem ((c.tc : Thread Cert.AdamValInIdeal.nD Cert.AdamValInIdeal.τ).loc Cert.AdamValInIdeal.main_arg0) = m ((c.tc : Thread Cert.AdamValInIdeal.nD Cert.AdamValInIdeal.τ).loc Cert.AdamValInIdeal.main_arg0)
      ∧ r.2.mem ((c.tc : Thread Cert.AdamValInIdeal.nD Cert.AdamValInIdeal.τ).loc Cert.AdamValInIdeal.main_arg1) = m ((c.tc : Thread Cert.AdamValInIdeal.nD Cert.AdamValInIdeal.τ).loc Cert.AdamValInIdeal.main_arg1)
      ∧ r.2.mem ((c.tc : Thread Cert.AdamValInIdeal.nD Cert.AdamValInIdeal.τ).loc Cert.AdamValInIdeal.main_arg2) = m ((c.tc : Thread Cert.AdamValInIdeal.nD Cert.AdamValInIdeal.τ).loc Cert.AdamValInIdeal.main_arg2)
      ∧ r.2.mem ((c.tc : Thread Cert.AdamValInIdeal.nD Cert.AdamValInIdeal.τ).loc Cert.AdamValInIdeal.main_arg3) = m ((c.tc : Thread Cert.AdamValInIdeal.nD Cert.AdamValInIdeal.τ).loc Cert.AdamValInIdeal.main_arg3))
      ∧ r.2.sem = fun _ => 0)

def quiescent_AdamValInRefIdeal [hAdamValInRefIdeal : Cert.AdamValInRefIdeal.Facts] : Prop :=
  ∀ (m : (ℓ : Loc Cert.AdamValInRefIdeal.nD Cert.AdamValInRefIdeal.τ Cert.AdamValInRefIdeal.sig) → Buf (Elt Ideal) ℓ) (g : Dev Cert.AdamValInRefIdeal.nD → PrngReg), Pre_AdamValInRefIdeal m →
    θ_run (Cert.AdamValInRefIdeal.defs (F := Ideal)) (onTc (τ := Cert.AdamValInRefIdeal.τ) (Cert.AdamValInRefIdeal.main (F := Ideal))) ⟨m, fun _ => 0, g⟩ (fun r => (∀ c : Dev Cert.AdamValInRefIdeal.nD,
      r.2.mem ((c.tc : Thread Cert.AdamValInRefIdeal.nD Cert.AdamValInRefIdeal.τ).loc Cert.AdamValInRefIdeal.main_arg0) = m ((c.tc : Thread Cert.AdamValInRefIdeal.nD Cert.AdamValInRefIdeal.τ).loc Cert.AdamValInRefIdeal.main_arg0)
      ∧ r.2.mem ((c.tc : Thread Cert.AdamValInRefIdeal.nD Cert.AdamValInRefIdeal.τ).loc Cert.AdamValInRefIdeal.main_arg1) = m ((c.tc : Thread Cert.AdamValInRefIdeal.nD Cert.AdamValInRefIdeal.τ).loc Cert.AdamValInRefIdeal.main_arg1)
      ∧ r.2.mem ((c.tc : Thread Cert.AdamValInRefIdeal.nD Cert.AdamValInRefIdeal.τ).loc Cert.AdamValInRefIdeal.main_arg2) = m ((c.tc : Thread Cert.AdamValInRefIdeal.nD Cert.AdamValInRefIdeal.τ).loc Cert.AdamValInRefIdeal.main_arg2)
      ∧ r.2.mem ((c.tc : Thread Cert.AdamValInRefIdeal.nD Cert.AdamValInRefIdeal.τ).loc Cert.AdamValInRefIdeal.main_arg3) = m ((c.tc : Thread Cert.AdamValInRefIdeal.nD Cert.AdamValInRefIdeal.τ).loc Cert.AdamValInRefIdeal.main_arg3))
      ∧ r.2.sem = fun _ => 0)

def quiescent_AdamValOut [hAdamValOut : Cert.AdamValOut.Facts] : Prop :=
  ∀ (m : (ℓ : Loc Cert.AdamValOut.nD Cert.AdamValOut.τ Cert.AdamValOut.sig) → Buf (Elt Bits) ℓ) (g : Dev Cert.AdamValOut.nD → PrngReg), Pre_AdamValOut m →
    θ_run (Cert.AdamValOut.defs (F := Bits)) (onTc (τ := Cert.AdamValOut.τ) (Cert.AdamValOut.main (F := Bits))) ⟨m, fun _ => 0, g⟩ (fun r => (∀ c : Dev Cert.AdamValOut.nD,
      r.2.mem ((c.tc : Thread Cert.AdamValOut.nD Cert.AdamValOut.τ).loc Cert.AdamValOut.main_arg0) = m ((c.tc : Thread Cert.AdamValOut.nD Cert.AdamValOut.τ).loc Cert.AdamValOut.main_arg0)
      ∧ r.2.mem ((c.tc : Thread Cert.AdamValOut.nD Cert.AdamValOut.τ).loc Cert.AdamValOut.main_arg1) = m ((c.tc : Thread Cert.AdamValOut.nD Cert.AdamValOut.τ).loc Cert.AdamValOut.main_arg1)
      ∧ r.2.mem ((c.tc : Thread Cert.AdamValOut.nD Cert.AdamValOut.τ).loc Cert.AdamValOut.main_arg2) = m ((c.tc : Thread Cert.AdamValOut.nD Cert.AdamValOut.τ).loc Cert.AdamValOut.main_arg2)
      ∧ r.2.mem ((c.tc : Thread Cert.AdamValOut.nD Cert.AdamValOut.τ).loc Cert.AdamValOut.main_arg3) = m ((c.tc : Thread Cert.AdamValOut.nD Cert.AdamValOut.τ).loc Cert.AdamValOut.main_arg3))
      ∧ r.2.sem = fun _ => 0)

def quiescent_AdamValOutIdeal [hAdamValOutIdeal : Cert.AdamValOutIdeal.Facts] : Prop :=
  ∀ (m : (ℓ : Loc Cert.AdamValOutIdeal.nD Cert.AdamValOutIdeal.τ Cert.AdamValOutIdeal.sig) → Buf (Elt Ideal) ℓ) (g : Dev Cert.AdamValOutIdeal.nD → PrngReg), Pre_AdamValOutIdeal m →
    θ_run (Cert.AdamValOutIdeal.defs (F := Ideal)) (onTc (τ := Cert.AdamValOutIdeal.τ) (Cert.AdamValOutIdeal.main (F := Ideal))) ⟨m, fun _ => 0, g⟩ (fun r => (∀ c : Dev Cert.AdamValOutIdeal.nD,
      r.2.mem ((c.tc : Thread Cert.AdamValOutIdeal.nD Cert.AdamValOutIdeal.τ).loc Cert.AdamValOutIdeal.main_arg0) = m ((c.tc : Thread Cert.AdamValOutIdeal.nD Cert.AdamValOutIdeal.τ).loc Cert.AdamValOutIdeal.main_arg0)
      ∧ r.2.mem ((c.tc : Thread Cert.AdamValOutIdeal.nD Cert.AdamValOutIdeal.τ).loc Cert.AdamValOutIdeal.main_arg1) = m ((c.tc : Thread Cert.AdamValOutIdeal.nD Cert.AdamValOutIdeal.τ).loc Cert.AdamValOutIdeal.main_arg1)
      ∧ r.2.mem ((c.tc : Thread Cert.AdamValOutIdeal.nD Cert.AdamValOutIdeal.τ).loc Cert.AdamValOutIdeal.main_arg2) = m ((c.tc : Thread Cert.AdamValOutIdeal.nD Cert.AdamValOutIdeal.τ).loc Cert.AdamValOutIdeal.main_arg2)
      ∧ r.2.mem ((c.tc : Thread Cert.AdamValOutIdeal.nD Cert.AdamValOutIdeal.τ).loc Cert.AdamValOutIdeal.main_arg3) = m ((c.tc : Thread Cert.AdamValOutIdeal.nD Cert.AdamValOutIdeal.τ).loc Cert.AdamValOutIdeal.main_arg3))
      ∧ r.2.sem = fun _ => 0)

def quiescent_AdamValOutRefIdeal [hAdamValOutRefIdeal : Cert.AdamValOutRefIdeal.Facts] : Prop :=
  ∀ (m : (ℓ : Loc Cert.AdamValOutRefIdeal.nD Cert.AdamValOutRefIdeal.τ Cert.AdamValOutRefIdeal.sig) → Buf (Elt Ideal) ℓ) (g : Dev Cert.AdamValOutRefIdeal.nD → PrngReg), Pre_AdamValOutRefIdeal m →
    θ_run (Cert.AdamValOutRefIdeal.defs (F := Ideal)) (onTc (τ := Cert.AdamValOutRefIdeal.τ) (Cert.AdamValOutRefIdeal.main (F := Ideal))) ⟨m, fun _ => 0, g⟩ (fun r => (∀ c : Dev Cert.AdamValOutRefIdeal.nD,
      r.2.mem ((c.tc : Thread Cert.AdamValOutRefIdeal.nD Cert.AdamValOutRefIdeal.τ).loc Cert.AdamValOutRefIdeal.main_arg0) = m ((c.tc : Thread Cert.AdamValOutRefIdeal.nD Cert.AdamValOutRefIdeal.τ).loc Cert.AdamValOutRefIdeal.main_arg0)
      ∧ r.2.mem ((c.tc : Thread Cert.AdamValOutRefIdeal.nD Cert.AdamValOutRefIdeal.τ).loc Cert.AdamValOutRefIdeal.main_arg1) = m ((c.tc : Thread Cert.AdamValOutRefIdeal.nD Cert.AdamValOutRefIdeal.τ).loc Cert.AdamValOutRefIdeal.main_arg1)
      ∧ r.2.mem ((c.tc : Thread Cert.AdamValOutRefIdeal.nD Cert.AdamValOutRefIdeal.τ).loc Cert.AdamValOutRefIdeal.main_arg2) = m ((c.tc : Thread Cert.AdamValOutRefIdeal.nD Cert.AdamValOutRefIdeal.τ).loc Cert.AdamValOutRefIdeal.main_arg2)
      ∧ r.2.mem ((c.tc : Thread Cert.AdamValOutRefIdeal.nD Cert.AdamValOutRefIdeal.τ).loc Cert.AdamValOutRefIdeal.main_arg3) = m ((c.tc : Thread Cert.AdamValOutRefIdeal.nD Cert.AdamValOutRefIdeal.τ).loc Cert.AdamValOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3)
      ∧ r.2.mem ((c.tc : Thread Cert.AdamRep.nD Cert.AdamRep.τ).loc Cert.AdamRep.main_arg4) = m ((c.tc : Thread Cert.AdamRep.nD Cert.AdamRep.τ).loc Cert.AdamRep.main_arg4)
      ∧ r.2.mem ((c.tc : Thread Cert.AdamRep.nD Cert.AdamRep.τ).loc Cert.AdamRep.main_arg5) = m ((c.tc : Thread Cert.AdamRep.nD Cert.AdamRep.τ).loc Cert.AdamRep.main_arg5)
      ∧ r.2.mem ((c.tc : Thread Cert.AdamRep.nD Cert.AdamRep.τ).loc Cert.AdamRep.main_arg6) = m ((c.tc : Thread Cert.AdamRep.nD Cert.AdamRep.τ).loc Cert.AdamRep.main_arg6)
      ∧ r.2.mem ((c.tc : Thread Cert.AdamRep.nD Cert.AdamRep.τ).loc Cert.AdamRep.main_arg7) = m ((c.tc : Thread Cert.AdamRep.nD Cert.AdamRep.τ).loc Cert.AdamRep.main_arg7)
      ∧ r.2.mem ((c.tc : Thread Cert.AdamRep.nD Cert.AdamRep.τ).loc Cert.AdamRep.main_arg8) = m ((c.tc : Thread Cert.AdamRep.nD Cert.AdamRep.τ).loc Cert.AdamRep.main_arg8)
      ∧ r.2.mem ((c.tc : Thread Cert.AdamRep.nD Cert.AdamRep.τ).loc Cert.AdamRep.main_arg9) = m ((c.tc : Thread Cert.AdamRep.nD Cert.AdamRep.τ).loc Cert.AdamRep.main_arg9)
      ∧ r.2.mem ((c.tc : Thread Cert.AdamRep.nD Cert.AdamRep.τ).loc Cert.AdamRep.main_arg10) = m ((c.tc : Thread Cert.AdamRep.nD Cert.AdamRep.τ).loc Cert.AdamRep.main_arg10)
      ∧ r.2.mem ((c.tc : Thread Cert.AdamRep.nD Cert.AdamRep.τ).loc Cert.AdamRep.main_arg11) = m ((c.tc : Thread Cert.AdamRep.nD Cert.AdamRep.τ).loc Cert.AdamRep.main_arg11)
      ∧ r.2.mem ((c.tc : Thread Cert.AdamRep.nD Cert.AdamRep.τ).loc Cert.AdamRep.main_arg12) = m ((c.tc : Thread Cert.AdamRep.nD Cert.AdamRep.τ).loc Cert.AdamRep.main_arg12)
      ∧ r.2.mem ((c.tc : Thread Cert.AdamRep.nD Cert.AdamRep.τ).loc Cert.AdamRep.main_arg13) = m ((c.tc : Thread Cert.AdamRep.nD Cert.AdamRep.τ).loc Cert.AdamRep.main_arg13)
      ∧ r.2.mem ((c.tc : Thread Cert.AdamRep.nD Cert.AdamRep.τ).loc Cert.AdamRep.main_arg14) = m ((c.tc : Thread Cert.AdamRep.nD Cert.AdamRep.τ).loc Cert.AdamRep.main_arg14)
      ∧ r.2.mem ((c.tc : Thread Cert.AdamRep.nD Cert.AdamRep.τ).loc Cert.AdamRep.main_arg15) = m ((c.tc : Thread Cert.AdamRep.nD Cert.AdamRep.τ).loc Cert.AdamRep.main_arg15)
      ∧ r.2.mem ((c.tc : Thread Cert.AdamRep.nD Cert.AdamRep.τ).loc Cert.AdamRep.main_arg16) = m ((c.tc : Thread Cert.AdamRep.nD Cert.AdamRep.τ).loc Cert.AdamRep.main_arg16)
      ∧ r.2.mem ((c.tc : Thread Cert.AdamRep.nD Cert.AdamRep.τ).loc Cert.AdamRep.main_arg17) = m ((c.tc : Thread Cert.AdamRep.nD Cert.AdamRep.τ).loc Cert.AdamRep.main_arg17)
      ∧ r.2.mem ((c.tc : Thread Cert.AdamRep.nD Cert.AdamRep.τ).loc Cert.AdamRep.main_arg18) = m ((c.tc : Thread Cert.AdamRep.nD Cert.AdamRep.τ).loc Cert.AdamRep.main_arg18)
      ∧ r.2.mem ((c.tc : Thread Cert.AdamRep.nD Cert.AdamRep.τ).loc Cert.AdamRep.main_arg19) = m ((c.tc : Thread Cert.AdamRep.nD Cert.AdamRep.τ).loc Cert.AdamRep.main_arg19)
      ∧ r.2.mem ((c.tc : Thread Cert.AdamRep.nD Cert.AdamRep.τ).loc Cert.AdamRep.main_arg20) = m ((c.tc : Thread Cert.AdamRep.nD Cert.AdamRep.τ).loc Cert.AdamRep.main_arg20)
      ∧ r.2.mem ((c.tc : Thread Cert.AdamRep.nD Cert.AdamRep.τ).loc Cert.AdamRep.main_arg21) = m ((c.tc : Thread Cert.AdamRep.nD Cert.AdamRep.τ).loc Cert.AdamRep.main_arg21)
      ∧ r.2.mem ((c.tc : Thread Cert.AdamRep.nD Cert.AdamRep.τ).loc Cert.AdamRep.main_arg22) = m ((c.tc : Thread Cert.AdamRep.nD Cert.AdamRep.τ).loc Cert.AdamRep.main_arg22)
      ∧ r.2.mem ((c.tc : Thread Cert.AdamRep.nD Cert.AdamRep.τ).loc Cert.AdamRep.main_arg23) = m ((c.tc : Thread Cert.AdamRep.nD Cert.AdamRep.τ).loc Cert.AdamRep.main_arg23)
      ∧ r.2.mem ((c.tc : Thread Cert.AdamRep.nD Cert.AdamRep.τ).loc Cert.AdamRep.main_arg24) = m ((c.tc : Thread Cert.AdamRep.nD Cert.AdamRep.τ).loc Cert.AdamRep.main_arg24)
      ∧ r.2.mem ((c.tc : Thread Cert.AdamRep.nD Cert.AdamRep.τ).loc Cert.AdamRep.main_arg25) = m ((c.tc : Thread Cert.AdamRep.nD Cert.AdamRep.τ).loc Cert.AdamRep.main_arg25)
      ∧ r.2.mem ((c.tc : Thread Cert.AdamRep.nD Cert.AdamRep.τ).loc Cert.AdamRep.main_arg26) = m ((c.tc : Thread Cert.AdamRep.nD Cert.AdamRep.τ).loc Cert.AdamRep.main_arg26)
      ∧ r.2.mem ((c.tc : Thread Cert.AdamRep.nD Cert.AdamRep.τ).loc Cert.AdamRep.main_arg27) = m ((c.tc : Thread Cert.AdamRep.nD Cert.AdamRep.τ).loc Cert.AdamRep.main_arg27))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3)
      ∧ r.2.mem ((c.tc : Thread Cert.AdamRepIdeal.nD Cert.AdamRepIdeal.τ).loc Cert.AdamRepIdeal.main_arg4) = m ((c.tc : Thread Cert.AdamRepIdeal.nD Cert.AdamRepIdeal.τ).loc Cert.AdamRepIdeal.main_arg4)
      ∧ r.2.mem ((c.tc : Thread Cert.AdamRepIdeal.nD Cert.AdamRepIdeal.τ).loc Cert.AdamRepIdeal.main_arg5) = m ((c.tc : Thread Cert.AdamRepIdeal.nD Cert.AdamRepIdeal.τ).loc Cert.AdamRepIdeal.main_arg5)
      ∧ r.2.mem ((c.tc : Thread Cert.AdamRepIdeal.nD Cert.AdamRepIdeal.τ).loc Cert.AdamRepIdeal.main_arg6) = m ((c.tc : Thread Cert.AdamRepIdeal.nD Cert.AdamRepIdeal.τ).loc Cert.AdamRepIdeal.main_arg6)
      ∧ r.2.mem ((c.tc : Thread Cert.AdamRepIdeal.nD Cert.AdamRepIdeal.τ).loc Cert.AdamRepIdeal.main_arg7) = m ((c.tc : Thread Cert.AdamRepIdeal.nD Cert.AdamRepIdeal.τ).loc Cert.AdamRepIdeal.main_arg7)
      ∧ r.2.mem ((c.tc : Thread Cert.AdamRepIdeal.nD Cert.AdamRepIdeal.τ).loc Cert.AdamRepIdeal.main_arg8) = m ((c.tc : Thread Cert.AdamRepIdeal.nD Cert.AdamRepIdeal.τ).loc Cert.AdamRepIdeal.main_arg8)
      ∧ r.2.mem ((c.tc : Thread Cert.AdamRepIdeal.nD Cert.AdamRepIdeal.τ).loc Cert.AdamRepIdeal.main_arg9) = m ((c.tc : Thread Cert.AdamRepIdeal.nD Cert.AdamRepIdeal.τ).loc Cert.AdamRepIdeal.main_arg9)
      ∧ r.2.mem ((c.tc : Thread Cert.AdamRepIdeal.nD Cert.AdamRepIdeal.τ).loc Cert.AdamRepIdeal.main_arg10) = m ((c.tc : Thread Cert.AdamRepIdeal.nD Cert.AdamRepIdeal.τ).loc Cert.AdamRepIdeal.main_arg10)
      ∧ r.2.mem ((c.tc : Thread Cert.AdamRepIdeal.nD Cert.AdamRepIdeal.τ).loc Cert.AdamRepIdeal.main_arg11) = m ((c.tc : Thread Cert.AdamRepIdeal.nD Cert.AdamRepIdeal.τ).loc Cert.AdamRepIdeal.main_arg11)
      ∧ r.2.mem ((c.tc : Thread Cert.AdamRepIdeal.nD Cert.AdamRepIdeal.τ).loc Cert.AdamRepIdeal.main_arg12) = m ((c.tc : Thread Cert.AdamRepIdeal.nD Cert.AdamRepIdeal.τ).loc Cert.AdamRepIdeal.main_arg12)
      ∧ r.2.mem ((c.tc : Thread Cert.AdamRepIdeal.nD Cert.AdamRepIdeal.τ).loc Cert.AdamRepIdeal.main_arg13) = m ((c.tc : Thread Cert.AdamRepIdeal.nD Cert.AdamRepIdeal.τ).loc Cert.AdamRepIdeal.main_arg13)
      ∧ r.2.mem ((c.tc : Thread Cert.AdamRepIdeal.nD Cert.AdamRepIdeal.τ).loc Cert.AdamRepIdeal.main_arg14) = m ((c.tc : Thread Cert.AdamRepIdeal.nD Cert.AdamRepIdeal.τ).loc Cert.AdamRepIdeal.main_arg14)
      ∧ r.2.mem ((c.tc : Thread Cert.AdamRepIdeal.nD Cert.AdamRepIdeal.τ).loc Cert.AdamRepIdeal.main_arg15) = m ((c.tc : Thread Cert.AdamRepIdeal.nD Cert.AdamRepIdeal.τ).loc Cert.AdamRepIdeal.main_arg15)
      ∧ r.2.mem ((c.tc : Thread Cert.AdamRepIdeal.nD Cert.AdamRepIdeal.τ).loc Cert.AdamRepIdeal.main_arg16) = m ((c.tc : Thread Cert.AdamRepIdeal.nD Cert.AdamRepIdeal.τ).loc Cert.AdamRepIdeal.main_arg16)
      ∧ r.2.mem ((c.tc : Thread Cert.AdamRepIdeal.nD Cert.AdamRepIdeal.τ).loc Cert.AdamRepIdeal.main_arg17) = m ((c.tc : Thread Cert.AdamRepIdeal.nD Cert.AdamRepIdeal.τ).loc Cert.AdamRepIdeal.main_arg17)
      ∧ r.2.mem ((c.tc : Thread Cert.AdamRepIdeal.nD Cert.AdamRepIdeal.τ).loc Cert.AdamRepIdeal.main_arg18) = m ((c.tc : Thread Cert.AdamRepIdeal.nD Cert.AdamRepIdeal.τ).loc Cert.AdamRepIdeal.main_arg18)
      ∧ r.2.mem ((c.tc : Thread Cert.AdamRepIdeal.nD Cert.AdamRepIdeal.τ).loc Cert.AdamRepIdeal.main_arg19) = m ((c.tc : Thread Cert.AdamRepIdeal.nD Cert.AdamRepIdeal.τ).loc Cert.AdamRepIdeal.main_arg19)
      ∧ r.2.mem ((c.tc : Thread Cert.AdamRepIdeal.nD Cert.AdamRepIdeal.τ).loc Cert.AdamRepIdeal.main_arg20) = m ((c.tc : Thread Cert.AdamRepIdeal.nD Cert.AdamRepIdeal.τ).loc Cert.AdamRepIdeal.main_arg20)
      ∧ r.2.mem ((c.tc : Thread Cert.AdamRepIdeal.nD Cert.AdamRepIdeal.τ).loc Cert.AdamRepIdeal.main_arg21) = m ((c.tc : Thread Cert.AdamRepIdeal.nD Cert.AdamRepIdeal.τ).loc Cert.AdamRepIdeal.main_arg21)
      ∧ r.2.mem ((c.tc : Thread Cert.AdamRepIdeal.nD Cert.AdamRepIdeal.τ).loc Cert.AdamRepIdeal.main_arg22) = m ((c.tc : Thread Cert.AdamRepIdeal.nD Cert.AdamRepIdeal.τ).loc Cert.AdamRepIdeal.main_arg22)
      ∧ r.2.mem ((c.tc : Thread Cert.AdamRepIdeal.nD Cert.AdamRepIdeal.τ).loc Cert.AdamRepIdeal.main_arg23) = m ((c.tc : Thread Cert.AdamRepIdeal.nD Cert.AdamRepIdeal.τ).loc Cert.AdamRepIdeal.main_arg23)
      ∧ r.2.mem ((c.tc : Thread Cert.AdamRepIdeal.nD Cert.AdamRepIdeal.τ).loc Cert.AdamRepIdeal.main_arg24) = m ((c.tc : Thread Cert.AdamRepIdeal.nD Cert.AdamRepIdeal.τ).loc Cert.AdamRepIdeal.main_arg24)
      ∧ r.2.mem ((c.tc : Thread Cert.AdamRepIdeal.nD Cert.AdamRepIdeal.τ).loc Cert.AdamRepIdeal.main_arg25) = m ((c.tc : Thread Cert.AdamRepIdeal.nD Cert.AdamRepIdeal.τ).loc Cert.AdamRepIdeal.main_arg25)
      ∧ r.2.mem ((c.tc : Thread Cert.AdamRepIdeal.nD Cert.AdamRepIdeal.τ).loc Cert.AdamRepIdeal.main_arg26) = m ((c.tc : Thread Cert.AdamRepIdeal.nD Cert.AdamRepIdeal.τ).loc Cert.AdamRepIdeal.main_arg26)
      ∧ r.2.mem ((c.tc : Thread Cert.AdamRepIdeal.nD Cert.AdamRepIdeal.τ).loc Cert.AdamRepIdeal.main_arg27) = m ((c.tc : Thread Cert.AdamRepIdeal.nD Cert.AdamRepIdeal.τ).loc Cert.AdamRepIdeal.main_arg27))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3)
      ∧ r.2.mem ((c.tc : Thread Cert.AdamRepRefIdeal.nD Cert.AdamRepRefIdeal.τ).loc Cert.AdamRepRefIdeal.main_arg4) = m ((c.tc : Thread Cert.AdamRepRefIdeal.nD Cert.AdamRepRefIdeal.τ).loc Cert.AdamRepRefIdeal.main_arg4)
      ∧ r.2.mem ((c.tc : Thread Cert.AdamRepRefIdeal.nD Cert.AdamRepRefIdeal.τ).loc Cert.AdamRepRefIdeal.main_arg5) = m ((c.tc : Thread Cert.AdamRepRefIdeal.nD Cert.AdamRepRefIdeal.τ).loc Cert.AdamRepRefIdeal.main_arg5)
      ∧ r.2.mem ((c.tc : Thread Cert.AdamRepRefIdeal.nD Cert.AdamRepRefIdeal.τ).loc Cert.AdamRepRefIdeal.main_arg6) = m ((c.tc : Thread Cert.AdamRepRefIdeal.nD Cert.AdamRepRefIdeal.τ).loc Cert.AdamRepRefIdeal.main_arg6)
      ∧ r.2.mem ((c.tc : Thread Cert.AdamRepRefIdeal.nD Cert.AdamRepRefIdeal.τ).loc Cert.AdamRepRefIdeal.main_arg7) = m ((c.tc : Thread Cert.AdamRepRefIdeal.nD Cert.AdamRepRefIdeal.τ).loc Cert.AdamRepRefIdeal.main_arg7)
      ∧ r.2.mem ((c.tc : Thread Cert.AdamRepRefIdeal.nD Cert.AdamRepRefIdeal.τ).loc Cert.AdamRepRefIdeal.main_arg8) = m ((c.tc : Thread Cert.AdamRepRefIdeal.nD Cert.AdamRepRefIdeal.τ).loc Cert.AdamRepRefIdeal.main_arg8)
      ∧ r.2.mem ((c.tc : Thread Cert.AdamRepRefIdeal.nD Cert.AdamRepRefIdeal.τ).loc Cert.AdamRepRefIdeal.main_arg9) = m ((c.tc : Thread Cert.AdamRepRefIdeal.nD Cert.AdamRepRefIdeal.τ).loc Cert.AdamRepRefIdeal.main_arg9)
      ∧ r.2.mem ((c.tc : Thread Cert.AdamRepRefIdeal.nD Cert.AdamRepRefIdeal.τ).loc Cert.AdamRepRefIdeal.main_arg10) = m ((c.tc : Thread Cert.AdamRepRefIdeal.nD Cert.AdamRepRefIdeal.τ).loc Cert.AdamRepRefIdeal.main_arg10)
      ∧ r.2.mem ((c.tc : Thread Cert.AdamRepRefIdeal.nD Cert.AdamRepRefIdeal.τ).loc Cert.AdamRepRefIdeal.main_arg11) = m ((c.tc : Thread Cert.AdamRepRefIdeal.nD Cert.AdamRepRefIdeal.τ).loc Cert.AdamRepRefIdeal.main_arg11)
      ∧ r.2.mem ((c.tc : Thread Cert.AdamRepRefIdeal.nD Cert.AdamRepRefIdeal.τ).loc Cert.AdamRepRefIdeal.main_arg12) = m ((c.tc : Thread Cert.AdamRepRefIdeal.nD Cert.AdamRepRefIdeal.τ).loc Cert.AdamRepRefIdeal.main_arg12)
      ∧ r.2.mem ((c.tc : Thread Cert.AdamRepRefIdeal.nD Cert.AdamRepRefIdeal.τ).loc Cert.AdamRepRefIdeal.main_arg13) = m ((c.tc : Thread Cert.AdamRepRefIdeal.nD Cert.AdamRepRefIdeal.τ).loc Cert.AdamRepRefIdeal.main_arg13)
      ∧ r.2.mem ((c.tc : Thread Cert.AdamRepRefIdeal.nD Cert.AdamRepRefIdeal.τ).loc Cert.AdamRepRefIdeal.main_arg14) = m ((c.tc : Thread Cert.AdamRepRefIdeal.nD Cert.AdamRepRefIdeal.τ).loc Cert.AdamRepRefIdeal.main_arg14)
      ∧ r.2.mem ((c.tc : Thread Cert.AdamRepRefIdeal.nD Cert.AdamRepRefIdeal.τ).loc Cert.AdamRepRefIdeal.main_arg15) = m ((c.tc : Thread Cert.AdamRepRefIdeal.nD Cert.AdamRepRefIdeal.τ).loc Cert.AdamRepRefIdeal.main_arg15)
      ∧ r.2.mem ((c.tc : Thread Cert.AdamRepRefIdeal.nD Cert.AdamRepRefIdeal.τ).loc Cert.AdamRepRefIdeal.main_arg16) = m ((c.tc : Thread Cert.AdamRepRefIdeal.nD Cert.AdamRepRefIdeal.τ).loc Cert.AdamRepRefIdeal.main_arg16)
      ∧ r.2.mem ((c.tc : Thread Cert.AdamRepRefIdeal.nD Cert.AdamRepRefIdeal.τ).loc Cert.AdamRepRefIdeal.main_arg17) = m ((c.tc : Thread Cert.AdamRepRefIdeal.nD Cert.AdamRepRefIdeal.τ).loc Cert.AdamRepRefIdeal.main_arg17)
      ∧ r.2.mem ((c.tc : Thread Cert.AdamRepRefIdeal.nD Cert.AdamRepRefIdeal.τ).loc Cert.AdamRepRefIdeal.main_arg18) = m ((c.tc : Thread Cert.AdamRepRefIdeal.nD Cert.AdamRepRefIdeal.τ).loc Cert.AdamRepRefIdeal.main_arg18)
      ∧ r.2.mem ((c.tc : Thread Cert.AdamRepRefIdeal.nD Cert.AdamRepRefIdeal.τ).loc Cert.AdamRepRefIdeal.main_arg19) = m ((c.tc : Thread Cert.AdamRepRefIdeal.nD Cert.AdamRepRefIdeal.τ).loc Cert.AdamRepRefIdeal.main_arg19)
      ∧ r.2.mem ((c.tc : Thread Cert.AdamRepRefIdeal.nD Cert.AdamRepRefIdeal.τ).loc Cert.AdamRepRefIdeal.main_arg20) = m ((c.tc : Thread Cert.AdamRepRefIdeal.nD Cert.AdamRepRefIdeal.τ).loc Cert.AdamRepRefIdeal.main_arg20)
      ∧ r.2.mem ((c.tc : Thread Cert.AdamRepRefIdeal.nD Cert.AdamRepRefIdeal.τ).loc Cert.AdamRepRefIdeal.main_arg21) = m ((c.tc : Thread Cert.AdamRepRefIdeal.nD Cert.AdamRepRefIdeal.τ).loc Cert.AdamRepRefIdeal.main_arg21)
      ∧ r.2.mem ((c.tc : Thread Cert.AdamRepRefIdeal.nD Cert.AdamRepRefIdeal.τ).loc Cert.AdamRepRefIdeal.main_arg22) = m ((c.tc : Thread Cert.AdamRepRefIdeal.nD Cert.AdamRepRefIdeal.τ).loc Cert.AdamRepRefIdeal.main_arg22)
      ∧ r.2.mem ((c.tc : Thread Cert.AdamRepRefIdeal.nD Cert.AdamRepRefIdeal.τ).loc Cert.AdamRepRefIdeal.main_arg23) = m ((c.tc : Thread Cert.AdamRepRefIdeal.nD Cert.AdamRepRefIdeal.τ).loc Cert.AdamRepRefIdeal.main_arg23)
      ∧ r.2.mem ((c.tc : Thread Cert.AdamRepRefIdeal.nD Cert.AdamRepRefIdeal.τ).loc Cert.AdamRepRefIdeal.main_arg24) = m ((c.tc : Thread Cert.AdamRepRefIdeal.nD Cert.AdamRepRefIdeal.τ).loc Cert.AdamRepRefIdeal.main_arg24)
      ∧ r.2.mem ((c.tc : Thread Cert.AdamRepRefIdeal.nD Cert.AdamRepRefIdeal.τ).loc Cert.AdamRepRefIdeal.main_arg25) = m ((c.tc : Thread Cert.AdamRepRefIdeal.nD Cert.AdamRepRefIdeal.τ).loc Cert.AdamRepRefIdeal.main_arg25)
      ∧ r.2.mem ((c.tc : Thread Cert.AdamRepRefIdeal.nD Cert.AdamRepRefIdeal.τ).loc Cert.AdamRepRefIdeal.main_arg26) = m ((c.tc : Thread Cert.AdamRepRefIdeal.nD Cert.AdamRepRefIdeal.τ).loc Cert.AdamRepRefIdeal.main_arg26)
      ∧ r.2.mem ((c.tc : Thread Cert.AdamRepRefIdeal.nD Cert.AdamRepRefIdeal.τ).loc Cert.AdamRepRefIdeal.main_arg27) = m ((c.tc : Thread Cert.AdamRepRefIdeal.nD Cert.AdamRepRefIdeal.τ).loc Cert.AdamRepRefIdeal.main_arg27))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3)
      ∧ r.2.mem ((c.tc : Thread Cert.SumSmall.nD Cert.SumSmall.τ).loc Cert.SumSmall.main_arg4) = m ((c.tc : Thread Cert.SumSmall.nD Cert.SumSmall.τ).loc Cert.SumSmall.main_arg4)
      ∧ r.2.mem ((c.tc : Thread Cert.SumSmall.nD Cert.SumSmall.τ).loc Cert.SumSmall.main_arg5) = m ((c.tc : Thread Cert.SumSmall.nD Cert.SumSmall.τ).loc Cert.SumSmall.main_arg5)
      ∧ r.2.mem ((c.tc : Thread Cert.SumSmall.nD Cert.SumSmall.τ).loc Cert.SumSmall.main_arg6) = m ((c.tc : Thread Cert.SumSmall.nD Cert.SumSmall.τ).loc Cert.SumSmall.main_arg6)
      ∧ r.2.mem ((c.tc : Thread Cert.SumSmall.nD Cert.SumSmall.τ).loc Cert.SumSmall.main_arg7) = m ((c.tc : Thread Cert.SumSmall.nD Cert.SumSmall.τ).loc Cert.SumSmall.main_arg7)
      ∧ r.2.mem ((c.tc : Thread Cert.SumSmall.nD Cert.SumSmall.τ).loc Cert.SumSmall.main_arg8) = m ((c.tc : Thread Cert.SumSmall.nD Cert.SumSmall.τ).loc Cert.SumSmall.main_arg8))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
      ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
      ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
      ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
      ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
      ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2)
      ∧ r.2.mem ((c.tc : Thread Cert.SumSmallRefIdeal.nD Cert.SumSmallRefIdeal.τ).loc Cert.SumSmallRefIdeal.main_arg3) = m ((c.tc : Thread Cert.SumSmallRefIdeal.nD Cert.SumSmallRefIdeal.τ).loc Cert.SumSmallRefIdeal.main_arg3)
      ∧ r.2.mem ((c.tc : Thread Cert.SumSmallRefIdeal.nD Cert.SumSmallRefIdeal.τ).loc Cert.SumSmallRefIdeal.main_arg4) = m ((c.tc : Thread Cert.SumSmallRefIdeal.nD Cert.SumSmallRefIdeal.τ).loc Cert.SumSmallRefIdeal.main_arg4)
      ∧ r.2.mem ((c.tc : Thread Cert.SumSmallRefIdeal.nD Cert.SumSmallRefIdeal.τ).loc Cert.SumSmallRefIdeal.main_arg5) = m ((c.tc : Thread Cert.SumSmallRefIdeal.nD Cert.SumSmallRefIdeal.τ).loc Cert.SumSmallRefIdeal.main_arg5)
      ∧ r.2.mem ((c.tc : Thread Cert.SumSmallRefIdeal.nD Cert.SumSmallRefIdeal.τ).loc Cert.SumSmallRefIdeal.main_arg6) = m ((c.tc : Thread Cert.SumSmallRefIdeal.nD Cert.SumSmallRefIdeal.τ).loc Cert.SumSmallRefIdeal.main_arg6)
      ∧ r.2.mem ((c.tc : Thread Cert.SumSmallRefIdeal.nD Cert.SumSmallRefIdeal.τ).loc Cert.SumSmallRefIdeal.main_arg7) = m ((c.tc : Thread Cert.SumSmallRefIdeal.nD Cert.SumSmallRefIdeal.τ).loc Cert.SumSmallRefIdeal.main_arg7)
      ∧ r.2.mem ((c.tc : Thread Cert.SumSmallRefIdeal.nD Cert.SumSmallRefIdeal.τ).loc Cert.SumSmallRefIdeal.main_arg8) = m ((c.tc : Thread Cert.SumSmallRefIdeal.nD Cert.SumSmallRefIdeal.τ).loc Cert.SumSmallRefIdeal.main_arg8))
      ∧ r.2.sem = fun _ => 0)

def quiescent_SumRep [hSumRep : Cert.SumRep.Facts] : Prop :=
  ∀ (m : (ℓ : Loc Cert.SumRep.nD Cert.SumRep.τ Cert.SumRep.sig) → Buf (Elt Bits) ℓ) (g : Dev Cert.SumRep.nD → PrngReg), Pre_SumRep m →
    θ_run (Cert.SumRep.defs (F := Bits)) (onTc (τ := Cert.SumRep.τ) (Cert.SumRep.main (F := Bits))) ⟨m, fun _ => 0, g⟩ (fun r => (∀ c : Dev Cert.SumRep.nD,
      r.2.mem ((c.tc : Thread Cert.SumRep.nD Cert.SumRep.τ).loc Cert.SumRep.main_arg0) = m ((c.tc : Thread Cert.SumRep.nD Cert.SumRep.τ).loc Cert.SumRep.main_arg0)
      ∧ r.2.mem ((c.tc : Thread Cert.SumRep.nD Cert.SumRep.τ).loc Cert.SumRep.main_arg1) = m ((c.tc : Thread Cert.SumRep.nD Cert.SumRep.τ).loc Cert.SumRep.main_arg1)
      ∧ r.2.mem ((c.tc : Thread Cert.SumRep.nD Cert.SumRep.τ).loc Cert.SumRep.main_arg2) = m ((c.tc : Thread Cert.SumRep.nD Cert.SumRep.τ).loc Cert.SumRep.main_arg2)
      ∧ r.2.mem ((c.tc : Thread Cert.SumRep.nD Cert.SumRep.τ).loc Cert.SumRep.main_arg3) = m ((c.tc : Thread Cert.SumRep.nD Cert.SumRep.τ).loc Cert.SumRep.main_arg3)
      ∧ r.2.mem ((c.tc : Thread Cert.SumRep.nD Cert.SumRep.τ).loc Cert.SumRep.main_arg4) = m ((c.tc : Thread Cert.SumRep.nD Cert.SumRep.τ).loc Cert.SumRep.main_arg4)
      ∧ r.2.mem ((c.tc : Thread Cert.SumRep.nD Cert.SumRep.τ).loc Cert.SumRep.main_arg5) = m ((c.tc : Thread Cert.SumRep.nD Cert.SumRep.τ).loc Cert.SumRep.main_arg5)
      ∧ r.2.mem ((c.tc : Thread Cert.SumRep.nD Cert.SumRep.τ).loc Cert.SumRep.main_arg6) = m ((c.tc : Thread Cert.SumRep.nD Cert.SumRep.τ).loc Cert.SumRep.main_arg6))
      ∧ r.2.sem = fun _ => 0)

def quiescent_SumRepIdeal [hSumRepIdeal : Cert.SumRepIdeal.Facts] : Prop :=
  ∀ (m : (ℓ : Loc Cert.SumRepIdeal.nD Cert.SumRepIdeal.τ Cert.SumRepIdeal.sig) → Buf (Elt Ideal) ℓ) (g : Dev Cert.SumRepIdeal.nD → PrngReg), Pre_SumRepIdeal m →
    θ_run (Cert.SumRepIdeal.defs (F := Ideal)) (onTc (τ := Cert.SumRepIdeal.τ) (Cert.SumRepIdeal.main (F := Ideal))) ⟨m, fun _ => 0, g⟩ (fun r => (∀ c : Dev Cert.SumRepIdeal.nD,
      r.2.mem ((c.tc : Thread Cert.SumRepIdeal.nD Cert.SumRepIdeal.τ).loc Cert.SumRepIdeal.main_arg0) = m ((c.tc : Thread Cert.SumRepIdeal.nD Cert.SumRepIdeal.τ).loc Cert.SumRepIdeal.main_arg0)
      ∧ r.2.mem ((c.tc : Thread Cert.SumRepIdeal.nD Cert.SumRepIdeal.τ).loc Cert.SumRepIdeal.main_arg1) = m ((c.tc : Thread Cert.SumRepIdeal.nD Cert.SumRepIdeal.τ).loc Cert.SumRepIdeal.main_arg1)
      ∧ r.2.mem ((c.tc : Thread Cert.SumRepIdeal.nD Cert.SumRepIdeal.τ).loc Cert.SumRepIdeal.main_arg2) = m ((c.tc : Thread Cert.SumRepIdeal.nD Cert.SumRepIdeal.τ).loc Cert.SumRepIdeal.main_arg2)
      ∧ r.2.mem ((c.tc : Thread Cert.SumRepIdeal.nD Cert.SumRepIdeal.τ).loc Cert.SumRepIdeal.main_arg3) = m ((c.tc : Thread Cert.SumRepIdeal.nD Cert.SumRepIdeal.τ).loc Cert.SumRepIdeal.main_arg3)
      ∧ r.2.mem ((c.tc : Thread Cert.SumRepIdeal.nD Cert.SumRepIdeal.τ).loc Cert.SumRepIdeal.main_arg4) = m ((c.tc : Thread Cert.SumRepIdeal.nD Cert.SumRepIdeal.τ).loc Cert.SumRepIdeal.main_arg4)
      ∧ r.2.mem ((c.tc : Thread Cert.SumRepIdeal.nD Cert.SumRepIdeal.τ).loc Cert.SumRepIdeal.main_arg5) = m ((c.tc : Thread Cert.SumRepIdeal.nD Cert.SumRepIdeal.τ).loc Cert.SumRepIdeal.main_arg5)
      ∧ r.2.mem ((c.tc : Thread Cert.SumRepIdeal.nD Cert.SumRepIdeal.τ).loc Cert.SumRepIdeal.main_arg6) = m ((c.tc : Thread Cert.SumRepIdeal.nD Cert.SumRepIdeal.τ).loc Cert.SumRepIdeal.main_arg6))
      ∧ r.2.sem = fun _ => 0)

def quiescent_SumRepRefIdeal [hSumRepRefIdeal : Cert.SumRepRefIdeal.Facts] : Prop :=
  ∀ (m : (ℓ : Loc Cert.SumRepRefIdeal.nD Cert.SumRepRefIdeal.τ Cert.SumRepRefIdeal.sig) → Buf (Elt Ideal) ℓ) (g : Dev Cert.SumRepRefIdeal.nD → PrngReg), Pre_SumRepRefIdeal m →
    θ_run (Cert.SumRepRefIdeal.defs (F := Ideal)) (onTc (τ := Cert.SumRepRefIdeal.τ) (Cert.SumRepRefIdeal.main (F := Ideal))) ⟨m, fun _ => 0, g⟩ (fun r => (∀ c : Dev Cert.SumRepRefIdeal.nD,
      r.2.mem ((c.tc : Thread Cert.SumRepRefIdeal.nD Cert.SumRepRefIdeal.τ).loc Cert.SumRepRefIdeal.main_arg0) = m ((c.tc : Thread Cert.SumRepRefIdeal.nD Cert.SumRepRefIdeal.τ).loc Cert.SumRepRefIdeal.main_arg0)
      ∧ r.2.mem ((c.tc : Thread Cert.SumRepRefIdeal.nD Cert.SumRepRefIdeal.τ).loc Cert.SumRepRefIdeal.main_arg1) = m ((c.tc : Thread Cert.SumRepRefIdeal.nD Cert.SumRepRefIdeal.τ).loc Cert.SumRepRefIdeal.main_arg1)
      ∧ r.2.mem ((c.tc : Thread Cert.SumRepRefIdeal.nD Cert.SumRepRefIdeal.τ).loc Cert.SumRepRefIdeal.main_arg2) = m ((c.tc : Thread Cert.SumRepRefIdeal.nD Cert.SumRepRefIdeal.τ).loc Cert.SumRepRefIdeal.main_arg2)
      ∧ r.2.mem ((c.tc : Thread Cert.SumRepRefIdeal.nD Cert.SumRepRefIdeal.τ).loc Cert.SumRepRefIdeal.main_arg3) = m ((c.tc : Thread Cert.SumRepRefIdeal.nD Cert.SumRepRefIdeal.τ).loc Cert.SumRepRefIdeal.main_arg3)
      ∧ r.2.mem ((c.tc : Thread Cert.SumRepRefIdeal.nD Cert.SumRepRefIdeal.τ).loc Cert.SumRepRefIdeal.main_arg4) = m ((c.tc : Thread Cert.SumRepRefIdeal.nD Cert.SumRepRefIdeal.τ).loc Cert.SumRepRefIdeal.main_arg4)
      ∧ r.2.mem ((c.tc : Thread Cert.SumRepRefIdeal.nD Cert.SumRepRefIdeal.τ).loc Cert.SumRepRefIdeal.main_arg5) = m ((c.tc : Thread Cert.SumRepRefIdeal.nD Cert.SumRepRefIdeal.τ).loc Cert.SumRepRefIdeal.main_arg5)
      ∧ r.2.mem ((c.tc : Thread Cert.SumRepRefIdeal.nD Cert.SumRepRefIdeal.τ).loc Cert.SumRepRefIdeal.main_arg6) = m ((c.tc : Thread Cert.SumRepRefIdeal.nD Cert.SumRepRefIdeal.τ).loc Cert.SumRepRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_ChipsUp [hChipsUp : Cert.ChipsUp.Facts] : Prop :=
  ∀ (m : (ℓ : Loc Cert.ChipsUp.nD Cert.ChipsUp.τ Cert.ChipsUp.sig) → Buf (Elt Bits) ℓ) (g : Dev Cert.ChipsUp.nD → PrngReg), Pre_ChipsUp m →
    θ_run (Cert.ChipsUp.defs (F := Bits)) (onTc (τ := Cert.ChipsUp.τ) (Cert.ChipsUp.main (F := Bits))) ⟨m, fun _ => 0, g⟩ (fun r => (∀ c : Dev Cert.ChipsUp.nD,
      r.2.mem ((c.tc : Thread Cert.ChipsUp.nD Cert.ChipsUp.τ).loc Cert.ChipsUp.main_arg0) = m ((c.tc : Thread Cert.ChipsUp.nD Cert.ChipsUp.τ).loc Cert.ChipsUp.main_arg0))
      ∧ r.2.sem = fun _ => 0)

def quiescent_ChipsUpIdeal [hChipsUpIdeal : Cert.ChipsUpIdeal.Facts] : Prop :=
  ∀ (m : (ℓ : Loc Cert.ChipsUpIdeal.nD Cert.ChipsUpIdeal.τ Cert.ChipsUpIdeal.sig) → Buf (Elt Ideal) ℓ) (g : Dev Cert.ChipsUpIdeal.nD → PrngReg), Pre_ChipsUpIdeal m →
    θ_run (Cert.ChipsUpIdeal.defs (F := Ideal)) (onTc (τ := Cert.ChipsUpIdeal.τ) (Cert.ChipsUpIdeal.main (F := Ideal))) ⟨m, fun _ => 0, g⟩ (fun r => (∀ c : Dev Cert.ChipsUpIdeal.nD,
      r.2.mem ((c.tc : Thread Cert.ChipsUpIdeal.nD Cert.ChipsUpIdeal.τ).loc Cert.ChipsUpIdeal.main_arg0) = m ((c.tc : Thread Cert.ChipsUpIdeal.nD Cert.ChipsUpIdeal.τ).loc Cert.ChipsUpIdeal.main_arg0))
      ∧ r.2.sem = fun _ => 0)

def quiescent_ChipsUpRefIdeal [hChipsUpRefIdeal : Cert.ChipsUpRefIdeal.Facts] : Prop :=
  ∀ (m : (ℓ : Loc Cert.ChipsUpRefIdeal.nD Cert.ChipsUpRefIdeal.τ Cert.ChipsUpRefIdeal.sig) → Buf (Elt Ideal) ℓ) (g : Dev Cert.ChipsUpRefIdeal.nD → PrngReg), Pre_ChipsUpRefIdeal m →
    θ_run (Cert.ChipsUpRefIdeal.defs (F := Ideal)) (onTc (τ := Cert.ChipsUpRefIdeal.τ) (Cert.ChipsUpRefIdeal.main (F := Ideal))) ⟨m, fun _ => 0, g⟩ (fun r => (∀ c : Dev Cert.ChipsUpRefIdeal.nD,
      r.2.mem ((c.tc : Thread Cert.ChipsUpRefIdeal.nD Cert.ChipsUpRefIdeal.τ).loc Cert.ChipsUpRefIdeal.main_arg0) = m ((c.tc : Thread Cert.ChipsUpRefIdeal.nD Cert.ChipsUpRefIdeal.τ).loc Cert.ChipsUpRefIdeal.main_arg0))
      ∧ r.2.sem = fun _ => 0)

def quiescent_ChipsDown [hChipsDown : Cert.ChipsDown.Facts] : Prop :=
  ∀ (m : (ℓ : Loc Cert.ChipsDown.nD Cert.ChipsDown.τ Cert.ChipsDown.sig) → Buf (Elt Bits) ℓ) (g : Dev Cert.ChipsDown.nD → PrngReg), Pre_ChipsDown m →
    θ_run (Cert.ChipsDown.defs (F := Bits)) (onTc (τ := Cert.ChipsDown.τ) (Cert.ChipsDown.main (F := Bits))) ⟨m, fun _ => 0, g⟩ (fun r => (∀ c : Dev Cert.ChipsDown.nD,
      r.2.mem ((c.tc : Thread Cert.ChipsDown.nD Cert.ChipsDown.τ).loc Cert.ChipsDown.main_arg0) = m ((c.tc : Thread Cert.ChipsDown.nD Cert.ChipsDown.τ).loc Cert.ChipsDown.main_arg0))
      ∧ r.2.sem = fun _ => 0)

def quiescent_ChipsDownIdeal [hChipsDownIdeal : Cert.ChipsDownIdeal.Facts] : Prop :=
  ∀ (m : (ℓ : Loc Cert.ChipsDownIdeal.nD Cert.ChipsDownIdeal.τ Cert.ChipsDownIdeal.sig) → Buf (Elt Ideal) ℓ) (g : Dev Cert.ChipsDownIdeal.nD → PrngReg), Pre_ChipsDownIdeal m →
    θ_run (Cert.ChipsDownIdeal.defs (F := Ideal)) (onTc (τ := Cert.ChipsDownIdeal.τ) (Cert.ChipsDownIdeal.main (F := Ideal))) ⟨m, fun _ => 0, g⟩ (fun r => (∀ c : Dev Cert.ChipsDownIdeal.nD,
      r.2.mem ((c.tc : Thread Cert.ChipsDownIdeal.nD Cert.ChipsDownIdeal.τ).loc Cert.ChipsDownIdeal.main_arg0) = m ((c.tc : Thread Cert.ChipsDownIdeal.nD Cert.ChipsDownIdeal.τ).loc Cert.ChipsDownIdeal.main_arg0))
      ∧ r.2.sem = fun _ => 0)

def quiescent_ChipsDownRefIdeal [hChipsDownRefIdeal : Cert.ChipsDownRefIdeal.Facts] : Prop :=
  ∀ (m : (ℓ : Loc Cert.ChipsDownRefIdeal.nD Cert.ChipsDownRefIdeal.τ Cert.ChipsDownRefIdeal.sig) → Buf (Elt Ideal) ℓ) (g : Dev Cert.ChipsDownRefIdeal.nD → PrngReg), Pre_ChipsDownRefIdeal m →
    θ_run (Cert.ChipsDownRefIdeal.defs (F := Ideal)) (onTc (τ := Cert.ChipsDownRefIdeal.τ) (Cert.ChipsDownRefIdeal.main (F := Ideal))) ⟨m, fun _ => 0, g⟩ (fun r => (∀ c : Dev Cert.ChipsDownRefIdeal.nD,
      r.2.mem ((c.tc : Thread Cert.ChipsDownRefIdeal.nD Cert.ChipsDownRefIdeal.τ).loc Cert.ChipsDownRefIdeal.main_arg0) = m ((c.tc : Thread Cert.ChipsDownRefIdeal.nD Cert.ChipsDownRefIdeal.τ).loc Cert.ChipsDownRefIdeal.main_arg0))
      ∧ r.2.sem = fun _ => 0)

def quiescent_ChipsRow [hChipsRow : Cert.ChipsRow.Facts] : Prop :=
  ∀ (m : (ℓ : Loc Cert.ChipsRow.nD Cert.ChipsRow.τ Cert.ChipsRow.sig) → Buf (Elt Bits) ℓ) (g : Dev Cert.ChipsRow.nD → PrngReg), Pre_ChipsRow m →
    θ_run (Cert.ChipsRow.defs (F := Bits)) (onTc (τ := Cert.ChipsRow.τ) (Cert.ChipsRow.main (F := Bits))) ⟨m, fun _ => 0, g⟩ (fun r => (∀ c : Dev Cert.ChipsRow.nD,
      r.2.mem ((c.tc : Thread Cert.ChipsRow.nD Cert.ChipsRow.τ).loc Cert.ChipsRow.main_arg0) = m ((c.tc : Thread Cert.ChipsRow.nD Cert.ChipsRow.τ).loc Cert.ChipsRow.main_arg0))
      ∧ r.2.sem = fun _ => 0)

def quiescent_ChipsRowIdeal [hChipsRowIdeal : Cert.ChipsRowIdeal.Facts] : Prop :=
  ∀ (m : (ℓ : Loc Cert.ChipsRowIdeal.nD Cert.ChipsRowIdeal.τ Cert.ChipsRowIdeal.sig) → Buf (Elt Ideal) ℓ) (g : Dev Cert.ChipsRowIdeal.nD → PrngReg), Pre_ChipsRowIdeal m →
    θ_run (Cert.ChipsRowIdeal.defs (F := Ideal)) (onTc (τ := Cert.ChipsRowIdeal.τ) (Cert.ChipsRowIdeal.main (F := Ideal))) ⟨m, fun _ => 0, g⟩ (fun r => (∀ c : Dev Cert.ChipsRowIdeal.nD,
      r.2.mem ((c.tc : Thread Cert.ChipsRowIdeal.nD Cert.ChipsRowIdeal.τ).loc Cert.ChipsRowIdeal.main_arg0) = m ((c.tc : Thread Cert.ChipsRowIdeal.nD Cert.ChipsRowIdeal.τ).loc Cert.ChipsRowIdeal.main_arg0))
      ∧ r.2.sem = fun _ => 0)

def quiescent_ChipsRowRefIdeal [hChipsRowRefIdeal : Cert.ChipsRowRefIdeal.Facts] : Prop :=
  ∀ (m : (ℓ : Loc Cert.ChipsRowRefIdeal.nD Cert.ChipsRowRefIdeal.τ Cert.ChipsRowRefIdeal.sig) → Buf (Elt Ideal) ℓ) (g : Dev Cert.ChipsRowRefIdeal.nD → PrngReg), Pre_ChipsRowRefIdeal m →
    θ_run (Cert.ChipsRowRefIdeal.defs (F := Ideal)) (onTc (τ := Cert.ChipsRowRefIdeal.τ) (Cert.ChipsRowRefIdeal.main (F := Ideal))) ⟨m, fun _ => 0, g⟩ (fun r => (∀ c : Dev Cert.ChipsRowRefIdeal.nD,
      r.2.mem ((c.tc : Thread Cert.ChipsRowRefIdeal.nD Cert.ChipsRowRefIdeal.τ).loc Cert.ChipsRowRefIdeal.main_arg0) = m ((c.tc : Thread Cert.ChipsRowRefIdeal.nD Cert.ChipsRowRefIdeal.τ).loc Cert.ChipsRowRefIdeal.main_arg0))
      ∧ r.2.sem = fun _ => 0)

def quiescent_ChipsProj [hChipsProj : Cert.ChipsProj.Facts] : Prop :=
  ∀ (m : (ℓ : Loc Cert.ChipsProj.nD Cert.ChipsProj.τ Cert.ChipsProj.sig) → Buf (Elt Bits) ℓ) (g : Dev Cert.ChipsProj.nD → PrngReg), Pre_ChipsProj m →
    θ_run (Cert.ChipsProj.defs (F := Bits)) (onTc (τ := Cert.ChipsProj.τ) (Cert.ChipsProj.main (F := Bits))) ⟨m, fun _ => 0, g⟩ (fun r => (∀ c : Dev Cert.ChipsProj.nD,
      r.2.mem ((c.tc : Thread Cert.ChipsProj.nD Cert.ChipsProj.τ).loc Cert.ChipsProj.main_arg0) = m ((c.tc : Thread Cert.ChipsProj.nD Cert.ChipsProj.τ).loc Cert.ChipsProj.main_arg0))
      ∧ r.2.sem = fun _ => 0)

def quiescent_ChipsProjIdeal [hChipsProjIdeal : Cert.ChipsProjIdeal.Facts] : Prop :=
  ∀ (m : (ℓ : Loc Cert.ChipsProjIdeal.nD Cert.ChipsProjIdeal.τ Cert.ChipsProjIdeal.sig) → Buf (Elt Ideal) ℓ) (g : Dev Cert.ChipsProjIdeal.nD → PrngReg), Pre_ChipsProjIdeal m →
    θ_run (Cert.ChipsProjIdeal.defs (F := Ideal)) (onTc (τ := Cert.ChipsProjIdeal.τ) (Cert.ChipsProjIdeal.main (F := Ideal))) ⟨m, fun _ => 0, g⟩ (fun r => (∀ c : Dev Cert.ChipsProjIdeal.nD,
      r.2.mem ((c.tc : Thread Cert.ChipsProjIdeal.nD Cert.ChipsProjIdeal.τ).loc Cert.ChipsProjIdeal.main_arg0) = m ((c.tc : Thread Cert.ChipsProjIdeal.nD Cert.ChipsProjIdeal.τ).loc Cert.ChipsProjIdeal.main_arg0))
      ∧ r.2.sem = fun _ => 0)

def quiescent_ChipsProjRefIdeal [hChipsProjRefIdeal : Cert.ChipsProjRefIdeal.Facts] : Prop :=
  ∀ (m : (ℓ : Loc Cert.ChipsProjRefIdeal.nD Cert.ChipsProjRefIdeal.τ Cert.ChipsProjRefIdeal.sig) → Buf (Elt Ideal) ℓ) (g : Dev Cert.ChipsProjRefIdeal.nD → PrngReg), Pre_ChipsProjRefIdeal m →
    θ_run (Cert.ChipsProjRefIdeal.defs (F := Ideal)) (onTc (τ := Cert.ChipsProjRefIdeal.τ) (Cert.ChipsProjRefIdeal.main (F := Ideal))) ⟨m, fun _ => 0, g⟩ (fun r => (∀ c : Dev Cert.ChipsProjRefIdeal.nD,
      r.2.mem ((c.tc : Thread Cert.ChipsProjRefIdeal.nD Cert.ChipsProjRefIdeal.τ).loc Cert.ChipsProjRefIdeal.main_arg0) = m ((c.tc : Thread Cert.ChipsProjRefIdeal.nD Cert.ChipsProjRefIdeal.τ).loc Cert.ChipsProjRefIdeal.main_arg0))
      ∧ r.2.sem = fun _ => 0)

def quiescent_ChipsEvenIn [hChipsEvenIn : Cert.ChipsEvenIn.Facts] : Prop :=
  ∀ (m : (ℓ : Loc Cert.ChipsEvenIn.nD Cert.ChipsEvenIn.τ Cert.ChipsEvenIn.sig) → Buf (Elt Bits) ℓ) (g : Dev Cert.ChipsEvenIn.nD → PrngReg), Pre_ChipsEvenIn m →
    θ_run (Cert.ChipsEvenIn.defs (F := Bits)) (onTc (τ := Cert.ChipsEvenIn.τ) (Cert.ChipsEvenIn.main (F := Bits))) ⟨m, fun _ => 0, g⟩ (fun r => (∀ c : Dev Cert.ChipsEvenIn.nD,
      r.2.mem ((c.tc : Thread Cert.ChipsEvenIn.nD Cert.ChipsEvenIn.τ).loc Cert.ChipsEvenIn.main_arg0) = m ((c.tc : Thread Cert.ChipsEvenIn.nD Cert.ChipsEvenIn.τ).loc Cert.ChipsEvenIn.main_arg0))
      ∧ r.2.sem = fun _ => 0)

def quiescent_ChipsEvenInIdeal [hChipsEvenInIdeal : Cert.ChipsEvenInIdeal.Facts] : Prop :=
  ∀ (m : (ℓ : Loc Cert.ChipsEvenInIdeal.nD Cert.ChipsEvenInIdeal.τ Cert.ChipsEvenInIdeal.sig) → Buf (Elt Ideal) ℓ) (g : Dev Cert.ChipsEvenInIdeal.nD → PrngReg), Pre_ChipsEvenInIdeal m →
    θ_run (Cert.ChipsEvenInIdeal.defs (F := Ideal)) (onTc (τ := Cert.ChipsEvenInIdeal.τ) (Cert.ChipsEvenInIdeal.main (F := Ideal))) ⟨m, fun _ => 0, g⟩ (fun r => (∀ c : Dev Cert.ChipsEvenInIdeal.nD,
      r.2.mem ((c.tc : Thread Cert.ChipsEvenInIdeal.nD Cert.ChipsEvenInIdeal.τ).loc Cert.ChipsEvenInIdeal.main_arg0) = m ((c.tc : Thread Cert.ChipsEvenInIdeal.nD Cert.ChipsEvenInIdeal.τ).loc Cert.ChipsEvenInIdeal.main_arg0))
      ∧ r.2.sem = fun _ => 0)

def quiescent_ChipsEvenInRefIdeal [hChipsEvenInRefIdeal : Cert.ChipsEvenInRefIdeal.Facts] : Prop :=
  ∀ (m : (ℓ : Loc Cert.ChipsEvenInRefIdeal.nD Cert.ChipsEvenInRefIdeal.τ Cert.ChipsEvenInRefIdeal.sig) → Buf (Elt Ideal) ℓ) (g : Dev Cert.ChipsEvenInRefIdeal.nD → PrngReg), Pre_ChipsEvenInRefIdeal m →
    θ_run (Cert.ChipsEvenInRefIdeal.defs (F := Ideal)) (onTc (τ := Cert.ChipsEvenInRefIdeal.τ) (Cert.ChipsEvenInRefIdeal.main (F := Ideal))) ⟨m, fun _ => 0, g⟩ (fun r => (∀ c : Dev Cert.ChipsEvenInRefIdeal.nD,
      r.2.mem ((c.tc : Thread Cert.ChipsEvenInRefIdeal.nD Cert.ChipsEvenInRefIdeal.τ).loc Cert.ChipsEvenInRefIdeal.main_arg0) = m ((c.tc : Thread Cert.ChipsEvenInRefIdeal.nD Cert.ChipsEvenInRefIdeal.τ).loc Cert.ChipsEvenInRefIdeal.main_arg0))
      ∧ r.2.sem = fun _ => 0)

def quiescent_ChipsLoraIn [hChipsLoraIn : Cert.ChipsLoraIn.Facts] : Prop :=
  ∀ (m : (ℓ : Loc Cert.ChipsLoraIn.nD Cert.ChipsLoraIn.τ Cert.ChipsLoraIn.sig) → Buf (Elt Bits) ℓ) (g : Dev Cert.ChipsLoraIn.nD → PrngReg), Pre_ChipsLoraIn m →
    θ_run (Cert.ChipsLoraIn.defs (F := Bits)) (onTc (τ := Cert.ChipsLoraIn.τ) (Cert.ChipsLoraIn.main (F := Bits))) ⟨m, fun _ => 0, g⟩ (fun r => (∀ c : Dev Cert.ChipsLoraIn.nD,
      r.2.mem ((c.tc : Thread Cert.ChipsLoraIn.nD Cert.ChipsLoraIn.τ).loc Cert.ChipsLoraIn.main_arg0) = m ((c.tc : Thread Cert.ChipsLoraIn.nD Cert.ChipsLoraIn.τ).loc Cert.ChipsLoraIn.main_arg0))
      ∧ r.2.sem = fun _ => 0)

def quiescent_ChipsLoraInIdeal [hChipsLoraInIdeal : Cert.ChipsLoraInIdeal.Facts] : Prop :=
  ∀ (m : (ℓ : Loc Cert.ChipsLoraInIdeal.nD Cert.ChipsLoraInIdeal.τ Cert.ChipsLoraInIdeal.sig) → Buf (Elt Ideal) ℓ) (g : Dev Cert.ChipsLoraInIdeal.nD → PrngReg), Pre_ChipsLoraInIdeal m →
    θ_run (Cert.ChipsLoraInIdeal.defs (F := Ideal)) (onTc (τ := Cert.ChipsLoraInIdeal.τ) (Cert.ChipsLoraInIdeal.main (F := Ideal))) ⟨m, fun _ => 0, g⟩ (fun r => (∀ c : Dev Cert.ChipsLoraInIdeal.nD,
      r.2.mem ((c.tc : Thread Cert.ChipsLoraInIdeal.nD Cert.ChipsLoraInIdeal.τ).loc Cert.ChipsLoraInIdeal.main_arg0) = m ((c.tc : Thread Cert.ChipsLoraInIdeal.nD Cert.ChipsLoraInIdeal.τ).loc Cert.ChipsLoraInIdeal.main_arg0))
      ∧ r.2.sem = fun _ => 0)

def quiescent_ChipsLoraInRefIdeal [hChipsLoraInRefIdeal : Cert.ChipsLoraInRefIdeal.Facts] : Prop :=
  ∀ (m : (ℓ : Loc Cert.ChipsLoraInRefIdeal.nD Cert.ChipsLoraInRefIdeal.τ Cert.ChipsLoraInRefIdeal.sig) → Buf (Elt Ideal) ℓ) (g : Dev Cert.ChipsLoraInRefIdeal.nD → PrngReg), Pre_ChipsLoraInRefIdeal m →
    θ_run (Cert.ChipsLoraInRefIdeal.defs (F := Ideal)) (onTc (τ := Cert.ChipsLoraInRefIdeal.τ) (Cert.ChipsLoraInRefIdeal.main (F := Ideal))) ⟨m, fun _ => 0, g⟩ (fun r => (∀ c : Dev Cert.ChipsLoraInRefIdeal.nD,
      r.2.mem ((c.tc : Thread Cert.ChipsLoraInRefIdeal.nD Cert.ChipsLoraInRefIdeal.τ).loc Cert.ChipsLoraInRefIdeal.main_arg0) = m ((c.tc : Thread Cert.ChipsLoraInRefIdeal.nD Cert.ChipsLoraInRefIdeal.τ).loc Cert.ChipsLoraInRefIdeal.main_arg0))
      ∧ r.2.sem = fun _ => 0)

def quiescent_ChipsLoraOut [hChipsLoraOut : Cert.ChipsLoraOut.Facts] : Prop :=
  ∀ (m : (ℓ : Loc Cert.ChipsLoraOut.nD Cert.ChipsLoraOut.τ Cert.ChipsLoraOut.sig) → Buf (Elt Bits) ℓ) (g : Dev Cert.ChipsLoraOut.nD → PrngReg), Pre_ChipsLoraOut m →
    θ_run (Cert.ChipsLoraOut.defs (F := Bits)) (onTc (τ := Cert.ChipsLoraOut.τ) (Cert.ChipsLoraOut.main (F := Bits))) ⟨m, fun _ => 0, g⟩ (fun r => (∀ c : Dev Cert.ChipsLoraOut.nD,
      r.2.mem ((c.tc : Thread Cert.ChipsLoraOut.nD Cert.ChipsLoraOut.τ).loc Cert.ChipsLoraOut.main_arg0) = m ((c.tc : Thread Cert.ChipsLoraOut.nD Cert.ChipsLoraOut.τ).loc Cert.ChipsLoraOut.main_arg0))
      ∧ r.2.sem = fun _ => 0)

def quiescent_ChipsLoraOutIdeal [hChipsLoraOutIdeal : Cert.ChipsLoraOutIdeal.Facts] : Prop :=
  ∀ (m : (ℓ : Loc Cert.ChipsLoraOutIdeal.nD Cert.ChipsLoraOutIdeal.τ Cert.ChipsLoraOutIdeal.sig) → Buf (Elt Ideal) ℓ) (g : Dev Cert.ChipsLoraOutIdeal.nD → PrngReg), Pre_ChipsLoraOutIdeal m →
    θ_run (Cert.ChipsLoraOutIdeal.defs (F := Ideal)) (onTc (τ := Cert.ChipsLoraOutIdeal.τ) (Cert.ChipsLoraOutIdeal.main (F := Ideal))) ⟨m, fun _ => 0, g⟩ (fun r => (∀ c : Dev Cert.ChipsLoraOutIdeal.nD,
      r.2.mem ((c.tc : Thread Cert.ChipsLoraOutIdeal.nD Cert.ChipsLoraOutIdeal.τ).loc Cert.ChipsLoraOutIdeal.main_arg0) = m ((c.tc : Thread Cert.ChipsLoraOutIdeal.nD Cert.ChipsLoraOutIdeal.τ).loc Cert.ChipsLoraOutIdeal.main_arg0))
      ∧ r.2.sem = fun _ => 0)

def quiescent_ChipsLoraOutRefIdeal [hChipsLoraOutRefIdeal : Cert.ChipsLoraOutRefIdeal.Facts] : Prop :=
  ∀ (m : (ℓ : Loc Cert.ChipsLoraOutRefIdeal.nD Cert.ChipsLoraOutRefIdeal.τ Cert.ChipsLoraOutRefIdeal.sig) → Buf (Elt Ideal) ℓ) (g : Dev Cert.ChipsLoraOutRefIdeal.nD → PrngReg), Pre_ChipsLoraOutRefIdeal m →
    θ_run (Cert.ChipsLoraOutRefIdeal.defs (F := Ideal)) (onTc (τ := Cert.ChipsLoraOutRefIdeal.τ) (Cert.ChipsLoraOutRefIdeal.main (F := Ideal))) ⟨m, fun _ => 0, g⟩ (fun r => (∀ c : Dev Cert.ChipsLoraOutRefIdeal.nD,
      r.2.mem ((c.tc : Thread Cert.ChipsLoraOutRefIdeal.nD Cert.ChipsLoraOutRefIdeal.τ).loc Cert.ChipsLoraOutRefIdeal.main_arg0) = m ((c.tc : Thread Cert.ChipsLoraOutRefIdeal.nD Cert.ChipsLoraOutRefIdeal.τ).loc Cert.ChipsLoraOutRefIdeal.main_arg0))
      ∧ r.2.sem = fun _ => 0)

def quiescent_ChipsGateIn [hChipsGateIn : Cert.ChipsGateIn.Facts] : Prop :=
  ∀ (m : (ℓ : Loc Cert.ChipsGateIn.nD Cert.ChipsGateIn.τ Cert.ChipsGateIn.sig) → Buf (Elt Bits) ℓ) (g : Dev Cert.ChipsGateIn.nD → PrngReg), Pre_ChipsGateIn m →
    θ_run (Cert.ChipsGateIn.defs (F := Bits)) (onTc (τ := Cert.ChipsGateIn.τ) (Cert.ChipsGateIn.main (F := Bits))) ⟨m, fun _ => 0, g⟩ (fun r => (∀ c : Dev Cert.ChipsGateIn.nD,
      r.2.mem ((c.tc : Thread Cert.ChipsGateIn.nD Cert.ChipsGateIn.τ).loc Cert.ChipsGateIn.main_arg0) = m ((c.tc : Thread Cert.ChipsGateIn.nD Cert.ChipsGateIn.τ).loc Cert.ChipsGateIn.main_arg0))
      ∧ r.2.sem = fun _ => 0)

def quiescent_ChipsGateInIdeal [hChipsGateInIdeal : Cert.ChipsGateInIdeal.Facts] : Prop :=
  ∀ (m : (ℓ : Loc Cert.ChipsGateInIdeal.nD Cert.ChipsGateInIdeal.τ Cert.ChipsGateInIdeal.sig) → Buf (Elt Ideal) ℓ) (g : Dev Cert.ChipsGateInIdeal.nD → PrngReg), Pre_ChipsGateInIdeal m →
    θ_run (Cert.ChipsGateInIdeal.defs (F := Ideal)) (onTc (τ := Cert.ChipsGateInIdeal.τ) (Cert.ChipsGateInIdeal.main (F := Ideal))) ⟨m, fun _ => 0, g⟩ (fun r => (∀ c : Dev Cert.ChipsGateInIdeal.nD,
      r.2.mem ((c.tc : Thread Cert.ChipsGateInIdeal.nD Cert.ChipsGateInIdeal.τ).loc Cert.ChipsGateInIdeal.main_arg0) = m ((c.tc : Thread Cert.ChipsGateInIdeal.nD Cert.ChipsGateInIdeal.τ).loc Cert.ChipsGateInIdeal.main_arg0))
      ∧ r.2.sem = fun _ => 0)

def quiescent_ChipsGateInRefIdeal [hChipsGateInRefIdeal : Cert.ChipsGateInRefIdeal.Facts] : Prop :=
  ∀ (m : (ℓ : Loc Cert.ChipsGateInRefIdeal.nD Cert.ChipsGateInRefIdeal.τ Cert.ChipsGateInRefIdeal.sig) → Buf (Elt Ideal) ℓ) (g : Dev Cert.ChipsGateInRefIdeal.nD → PrngReg), Pre_ChipsGateInRefIdeal m →
    θ_run (Cert.ChipsGateInRefIdeal.defs (F := Ideal)) (onTc (τ := Cert.ChipsGateInRefIdeal.τ) (Cert.ChipsGateInRefIdeal.main (F := Ideal))) ⟨m, fun _ => 0, g⟩ (fun r => (∀ c : Dev Cert.ChipsGateInRefIdeal.nD,
      r.2.mem ((c.tc : Thread Cert.ChipsGateInRefIdeal.nD Cert.ChipsGateInRefIdeal.τ).loc Cert.ChipsGateInRefIdeal.main_arg0) = m ((c.tc : Thread Cert.ChipsGateInRefIdeal.nD Cert.ChipsGateInRefIdeal.τ).loc Cert.ChipsGateInRefIdeal.main_arg0))
      ∧ r.2.sem = fun _ => 0)

def quiescent_ChipsValIn [hChipsValIn : Cert.ChipsValIn.Facts] : Prop :=
  ∀ (m : (ℓ : Loc Cert.ChipsValIn.nD Cert.ChipsValIn.τ Cert.ChipsValIn.sig) → Buf (Elt Bits) ℓ) (g : Dev Cert.ChipsValIn.nD → PrngReg), Pre_ChipsValIn m →
    θ_run (Cert.ChipsValIn.defs (F := Bits)) (onTc (τ := Cert.ChipsValIn.τ) (Cert.ChipsValIn.main (F := Bits))) ⟨m, fun _ => 0, g⟩ (fun r => (∀ c : Dev Cert.ChipsValIn.nD,
      r.2.mem ((c.tc : Thread Cert.ChipsValIn.nD Cert.ChipsValIn.τ).loc Cert.ChipsValIn.main_arg0) = m ((c.tc : Thread Cert.ChipsValIn.nD Cert.ChipsValIn.τ).loc Cert.ChipsValIn.main_arg0))
      ∧ r.2.sem = fun _ => 0)

def quiescent_ChipsValInIdeal [hChipsValInIdeal : Cert.ChipsValInIdeal.Facts] : Prop :=
  ∀ (m : (ℓ : Loc Cert.ChipsValInIdeal.nD Cert.ChipsValInIdeal.τ Cert.ChipsValInIdeal.sig) → Buf (Elt Ideal) ℓ) (g : Dev Cert.ChipsValInIdeal.nD → PrngReg), Pre_ChipsValInIdeal m →
    θ_run (Cert.ChipsValInIdeal.defs (F := Ideal)) (onTc (τ := Cert.ChipsValInIdeal.τ) (Cert.ChipsValInIdeal.main (F := Ideal))) ⟨m, fun _ => 0, g⟩ (fun r => (∀ c : Dev Cert.ChipsValInIdeal.nD,
      r.2.mem ((c.tc : Thread Cert.ChipsValInIdeal.nD Cert.ChipsValInIdeal.τ).loc Cert.ChipsValInIdeal.main_arg0) = m ((c.tc : Thread Cert.ChipsValInIdeal.nD Cert.ChipsValInIdeal.τ).loc Cert.ChipsValInIdeal.main_arg0))
      ∧ r.2.sem = fun _ => 0)

def quiescent_ChipsValInRefIdeal [hChipsValInRefIdeal : Cert.ChipsValInRefIdeal.Facts] : Prop :=
  ∀ (m : (ℓ : Loc Cert.ChipsValInRefIdeal.nD Cert.ChipsValInRefIdeal.τ Cert.ChipsValInRefIdeal.sig) → Buf (Elt Ideal) ℓ) (g : Dev Cert.ChipsValInRefIdeal.nD → PrngReg), Pre_ChipsValInRefIdeal m →
    θ_run (Cert.ChipsValInRefIdeal.defs (F := Ideal)) (onTc (τ := Cert.ChipsValInRefIdeal.τ) (Cert.ChipsValInRefIdeal.main (F := Ideal))) ⟨m, fun _ => 0, g⟩ (fun r => (∀ c : Dev Cert.ChipsValInRefIdeal.nD,
      r.2.mem ((c.tc : Thread Cert.ChipsValInRefIdeal.nD Cert.ChipsValInRefIdeal.τ).loc Cert.ChipsValInRefIdeal.main_arg0) = m ((c.tc : Thread Cert.ChipsValInRefIdeal.nD Cert.ChipsValInRefIdeal.τ).loc Cert.ChipsValInRefIdeal.main_arg0))
      ∧ r.2.sem = fun _ => 0)

def quiescent_ChipsValOut [hChipsValOut : Cert.ChipsValOut.Facts] : Prop :=
  ∀ (m : (ℓ : Loc Cert.ChipsValOut.nD Cert.ChipsValOut.τ Cert.ChipsValOut.sig) → Buf (Elt Bits) ℓ) (g : Dev Cert.ChipsValOut.nD → PrngReg), Pre_ChipsValOut m →
    θ_run (Cert.ChipsValOut.defs (F := Bits)) (onTc (τ := Cert.ChipsValOut.τ) (Cert.ChipsValOut.main (F := Bits))) ⟨m, fun _ => 0, g⟩ (fun r => (∀ c : Dev Cert.ChipsValOut.nD,
      r.2.mem ((c.tc : Thread Cert.ChipsValOut.nD Cert.ChipsValOut.τ).loc Cert.ChipsValOut.main_arg0) = m ((c.tc : Thread Cert.ChipsValOut.nD Cert.ChipsValOut.τ).loc Cert.ChipsValOut.main_arg0))
      ∧ r.2.sem = fun _ => 0)

def quiescent_ChipsValOutIdeal [hChipsValOutIdeal : Cert.ChipsValOutIdeal.Facts] : Prop :=
  ∀ (m : (ℓ : Loc Cert.ChipsValOutIdeal.nD Cert.ChipsValOutIdeal.τ Cert.ChipsValOutIdeal.sig) → Buf (Elt Ideal) ℓ) (g : Dev Cert.ChipsValOutIdeal.nD → PrngReg), Pre_ChipsValOutIdeal m →
    θ_run (Cert.ChipsValOutIdeal.defs (F := Ideal)) (onTc (τ := Cert.ChipsValOutIdeal.τ) (Cert.ChipsValOutIdeal.main (F := Ideal))) ⟨m, fun _ => 0, g⟩ (fun r => (∀ c : Dev Cert.ChipsValOutIdeal.nD,
      r.2.mem ((c.tc : Thread Cert.ChipsValOutIdeal.nD Cert.ChipsValOutIdeal.τ).loc Cert.ChipsValOutIdeal.main_arg0) = m ((c.tc : Thread Cert.ChipsValOutIdeal.nD Cert.ChipsValOutIdeal.τ).loc Cert.ChipsValOutIdeal.main_arg0))
      ∧ r.2.sem = fun _ => 0)

def quiescent_ChipsValOutRefIdeal [hChipsValOutRefIdeal : Cert.ChipsValOutRefIdeal.Facts] : Prop :=
  ∀ (m : (ℓ : Loc Cert.ChipsValOutRefIdeal.nD Cert.ChipsValOutRefIdeal.τ Cert.ChipsValOutRefIdeal.sig) → Buf (Elt Ideal) ℓ) (g : Dev Cert.ChipsValOutRefIdeal.nD → PrngReg), Pre_ChipsValOutRefIdeal m →
    θ_run (Cert.ChipsValOutRefIdeal.defs (F := Ideal)) (onTc (τ := Cert.ChipsValOutRefIdeal.τ) (Cert.ChipsValOutRefIdeal.main (F := Ideal))) ⟨m, fun _ => 0, g⟩ (fun r => (∀ c : Dev Cert.ChipsValOutRefIdeal.nD,
      r.2.mem ((c.tc : Thread Cert.ChipsValOutRefIdeal.nD Cert.ChipsValOutRefIdeal.τ).loc Cert.ChipsValOutRefIdeal.main_arg0) = m ((c.tc : Thread Cert.ChipsValOutRefIdeal.nD Cert.ChipsValOutRefIdeal.τ).loc Cert.ChipsValOutRefIdeal.main_arg0))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3))
      ∧ r.2.sem = fun _ => 0)

def quiescent_PleAdd [hPleAdd : Cert.PleAdd.Facts] : Prop :=
  ∀ (m : (ℓ : Loc Cert.PleAdd.nD Cert.PleAdd.τ Cert.PleAdd.sig) → Buf (Elt Bits) ℓ) (g : Dev Cert.PleAdd.nD → PrngReg), Pre_PleAdd m →
    θ_run (Cert.PleAdd.defs (F := Bits)) (onTc (τ := Cert.PleAdd.τ) (Cert.PleAdd.main (F := Bits))) ⟨m, fun _ => 0, g⟩ (fun r => (∀ c : Dev Cert.PleAdd.nD,
      r.2.mem ((c.tc : Thread Cert.PleAdd.nD Cert.PleAdd.τ).loc Cert.PleAdd.main_arg0) = m ((c.tc : Thread Cert.PleAdd.nD Cert.PleAdd.τ).loc Cert.PleAdd.main_arg0)
      ∧ r.2.mem ((c.tc : Thread Cert.PleAdd.nD Cert.PleAdd.τ).loc Cert.PleAdd.main_arg1) = m ((c.tc : Thread Cert.PleAdd.nD Cert.PleAdd.τ).loc Cert.PleAdd.main_arg1)
      ∧ r.2.mem ((c.tc : Thread Cert.PleAdd.nD Cert.PleAdd.τ).loc Cert.PleAdd.main_arg2) = m ((c.tc : Thread Cert.PleAdd.nD Cert.PleAdd.τ).loc Cert.PleAdd.main_arg2))
      ∧ r.2.sem = fun _ => 0)

def quiescent_PleAddIdeal [hPleAddIdeal : Cert.PleAddIdeal.Facts] : Prop :=
  ∀ (m : (ℓ : Loc Cert.PleAddIdeal.nD Cert.PleAddIdeal.τ Cert.PleAddIdeal.sig) → Buf (Elt Ideal) ℓ) (g : Dev Cert.PleAddIdeal.nD → PrngReg), Pre_PleAddIdeal m →
    θ_run (Cert.PleAddIdeal.defs (F := Ideal)) (onTc (τ := Cert.PleAddIdeal.τ) (Cert.PleAddIdeal.main (F := Ideal))) ⟨m, fun _ => 0, g⟩ (fun r => (∀ c : Dev Cert.PleAddIdeal.nD,
      r.2.mem ((c.tc : Thread Cert.PleAddIdeal.nD Cert.PleAddIdeal.τ).loc Cert.PleAddIdeal.main_arg0) = m ((c.tc : Thread Cert.PleAddIdeal.nD Cert.PleAddIdeal.τ).loc Cert.PleAddIdeal.main_arg0)
      ∧ r.2.mem ((c.tc : Thread Cert.PleAddIdeal.nD Cert.PleAddIdeal.τ).loc Cert.PleAddIdeal.main_arg1) = m ((c.tc : Thread Cert.PleAddIdeal.nD Cert.PleAddIdeal.τ).loc Cert.PleAddIdeal.main_arg1)
      ∧ r.2.mem ((c.tc : Thread Cert.PleAddIdeal.nD Cert.PleAddIdeal.τ).loc Cert.PleAddIdeal.main_arg2) = m ((c.tc : Thread Cert.PleAddIdeal.nD Cert.PleAddIdeal.τ).loc Cert.PleAddIdeal.main_arg2))
      ∧ r.2.sem = fun _ => 0)

def quiescent_PleAddRefIdeal [hPleAddRefIdeal : Cert.PleAddRefIdeal.Facts] : Prop :=
  ∀ (m : (ℓ : Loc Cert.PleAddRefIdeal.nD Cert.PleAddRefIdeal.τ Cert.PleAddRefIdeal.sig) → Buf (Elt Ideal) ℓ) (g : Dev Cert.PleAddRefIdeal.nD → PrngReg), Pre_PleAddRefIdeal m →
    θ_run (Cert.PleAddRefIdeal.defs (F := Ideal)) (onTc (τ := Cert.PleAddRefIdeal.τ) (Cert.PleAddRefIdeal.main (F := Ideal))) ⟨m, fun _ => 0, g⟩ (fun r => (∀ c : Dev Cert.PleAddRefIdeal.nD,
      r.2.mem ((c.tc : Thread Cert.PleAddRefIdeal.nD Cert.PleAddRefIdeal.τ).loc Cert.PleAddRefIdeal.main_arg0) = m ((c.tc : Thread Cert.PleAddRefIdeal.nD Cert.PleAddRefIdeal.τ).loc Cert.PleAddRefIdeal.main_arg0)
      ∧ r.2.mem ((c.tc : Thread Cert.PleAddRefIdeal.nD Cert.PleAddRefIdeal.τ).loc Cert.PleAddRefIdeal.main_arg1) = m ((c.tc : Thread Cert.PleAddRefIdeal.nD Cert.PleAddRefIdeal.τ).loc Cert.PleAddRefIdeal.main_arg1)
      ∧ r.2.mem ((c.tc : Thread Cert.PleAddRefIdeal.nD Cert.PleAddRefIdeal.τ).loc Cert.PleAddRefIdeal.main_arg2) = m ((c.tc : Thread Cert.PleAddRefIdeal.nD Cert.PleAddRefIdeal.τ).loc Cert.PleAddRefIdeal.main_arg2))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2))
      ∧ r.2.sem = fun _ => 0)

def quiescent_RmsFwd32 [hRmsFwd32 : Cert.RmsFwd32.Facts] : Prop :=
  ∀ (m : (ℓ : Loc Cert.RmsFwd32.nD Cert.RmsFwd32.τ Cert.RmsFwd32.sig) → Buf (Elt Bits) ℓ) (g : Dev Cert.RmsFwd32.nD → PrngReg), Pre_RmsFwd32 m →
    θ_run (Cert.RmsFwd32.defs (F := Bits)) (onTc (τ := Cert.RmsFwd32.τ) (Cert.RmsFwd32.main (F := Bits))) ⟨m, fun _ => 0, g⟩ (fun r => (∀ c : Dev Cert.RmsFwd32.nD,
      r.2.mem ((c.tc : Thread Cert.RmsFwd32.nD Cert.RmsFwd32.τ).loc Cert.RmsFwd32.main_arg0) = m ((c.tc : Thread Cert.RmsFwd32.nD Cert.RmsFwd32.τ).loc Cert.RmsFwd32.main_arg0)
      ∧ r.2.mem ((c.tc : Thread Cert.RmsFwd32.nD Cert.RmsFwd32.τ).loc Cert.RmsFwd32.main_arg1) = m ((c.tc : Thread Cert.RmsFwd32.nD Cert.RmsFwd32.τ).loc Cert.RmsFwd32.main_arg1))
      ∧ r.2.sem = fun _ => 0)

def quiescent_RmsFwd32Ideal [hRmsFwd32Ideal : Cert.RmsFwd32Ideal.Facts] : Prop :=
  ∀ (m : (ℓ : Loc Cert.RmsFwd32Ideal.nD Cert.RmsFwd32Ideal.τ Cert.RmsFwd32Ideal.sig) → Buf (Elt Ideal) ℓ) (g : Dev Cert.RmsFwd32Ideal.nD → PrngReg), Pre_RmsFwd32Ideal m →
    θ_run (Cert.RmsFwd32Ideal.defs (F := Ideal)) (onTc (τ := Cert.RmsFwd32Ideal.τ) (Cert.RmsFwd32Ideal.main (F := Ideal))) ⟨m, fun _ => 0, g⟩ (fun r => (∀ c : Dev Cert.RmsFwd32Ideal.nD,
      r.2.mem ((c.tc : Thread Cert.RmsFwd32Ideal.nD Cert.RmsFwd32Ideal.τ).loc Cert.RmsFwd32Ideal.main_arg0) = m ((c.tc : Thread Cert.RmsFwd32Ideal.nD Cert.RmsFwd32Ideal.τ).loc Cert.RmsFwd32Ideal.main_arg0)
      ∧ r.2.mem ((c.tc : Thread Cert.RmsFwd32Ideal.nD Cert.RmsFwd32Ideal.τ).loc Cert.RmsFwd32Ideal.main_arg1) = m ((c.tc : Thread Cert.RmsFwd32Ideal.nD Cert.RmsFwd32Ideal.τ).loc Cert.RmsFwd32Ideal.main_arg1))
      ∧ r.2.sem = fun _ => 0)

def quiescent_RmsFwd32RefIdeal [hRmsFwd32RefIdeal : Cert.RmsFwd32RefIdeal.Facts] : Prop :=
  ∀ (m : (ℓ : Loc Cert.RmsFwd32RefIdeal.nD Cert.RmsFwd32RefIdeal.τ Cert.RmsFwd32RefIdeal.sig) → Buf (Elt Ideal) ℓ) (g : Dev Cert.RmsFwd32RefIdeal.nD → PrngReg), Pre_RmsFwd32RefIdeal m →
    θ_run (Cert.RmsFwd32RefIdeal.defs (F := Ideal)) (onTc (τ := Cert.RmsFwd32RefIdeal.τ) (Cert.RmsFwd32RefIdeal.main (F := Ideal))) ⟨m, fun _ => 0, g⟩ (fun r => (∀ c : Dev Cert.RmsFwd32RefIdeal.nD,
      r.2.mem ((c.tc : Thread Cert.RmsFwd32RefIdeal.nD Cert.RmsFwd32RefIdeal.τ).loc Cert.RmsFwd32RefIdeal.main_arg0) = m ((c.tc : Thread Cert.RmsFwd32RefIdeal.nD Cert.RmsFwd32RefIdeal.τ).loc Cert.RmsFwd32RefIdeal.main_arg0)
      ∧ r.2.mem ((c.tc : Thread Cert.RmsFwd32RefIdeal.nD Cert.RmsFwd32RefIdeal.τ).loc Cert.RmsFwd32RefIdeal.main_arg1) = m ((c.tc : Thread Cert.RmsFwd32RefIdeal.nD Cert.RmsFwd32RefIdeal.τ).loc Cert.RmsFwd32RefIdeal.main_arg1))
      ∧ r.2.sem = fun _ => 0)

def quiescent_HgrnPre [hHgrnPre : Cert.HgrnPre.Facts] : Prop :=
  ∀ (m : (ℓ : Loc Cert.HgrnPre.nD Cert.HgrnPre.τ Cert.HgrnPre.sig) → Buf (Elt Bits) ℓ) (g : Dev Cert.HgrnPre.nD → PrngReg), Pre_HgrnPre m →
    θ_run (Cert.HgrnPre.defs (F := Bits)) (onTc (τ := Cert.HgrnPre.τ) (Cert.HgrnPre.main (F := Bits))) ⟨m, fun _ => 0, g⟩ (fun r => (∀ c : Dev Cert.HgrnPre.nD,
      r.2.mem ((c.tc : Thread Cert.HgrnPre.nD Cert.HgrnPre.τ).loc Cert.HgrnPre.main_arg0) = m ((c.tc : Thread Cert.HgrnPre.nD Cert.HgrnPre.τ).loc Cert.HgrnPre.main_arg0)
      ∧ r.2.mem ((c.tc : Thread Cert.HgrnPre.nD Cert.HgrnPre.τ).loc Cert.HgrnPre.main_arg1) = m ((c.tc : Thread Cert.HgrnPre.nD Cert.HgrnPre.τ).loc Cert.HgrnPre.main_arg1))
      ∧ r.2.sem = fun _ => 0)

def quiescent_HgrnPreIdeal [hHgrnPreIdeal : Cert.HgrnPreIdeal.Facts] : Prop :=
  ∀ (m : (ℓ : Loc Cert.HgrnPreIdeal.nD Cert.HgrnPreIdeal.τ Cert.HgrnPreIdeal.sig) → Buf (Elt Ideal) ℓ) (g : Dev Cert.HgrnPreIdeal.nD → PrngReg), Pre_HgrnPreIdeal m →
    θ_run (Cert.HgrnPreIdeal.defs (F := Ideal)) (onTc (τ := Cert.HgrnPreIdeal.τ) (Cert.HgrnPreIdeal.main (F := Ideal))) ⟨m, fun _ => 0, g⟩ (fun r => (∀ c : Dev Cert.HgrnPreIdeal.nD,
      r.2.mem ((c.tc : Thread Cert.HgrnPreIdeal.nD Cert.HgrnPreIdeal.τ).loc Cert.HgrnPreIdeal.main_arg0) = m ((c.tc : Thread Cert.HgrnPreIdeal.nD Cert.HgrnPreIdeal.τ).loc Cert.HgrnPreIdeal.main_arg0)
      ∧ r.2.mem ((c.tc : Thread Cert.HgrnPreIdeal.nD Cert.HgrnPreIdeal.τ).loc Cert.HgrnPreIdeal.main_arg1) = m ((c.tc : Thread Cert.HgrnPreIdeal.nD Cert.HgrnPreIdeal.τ).loc Cert.HgrnPreIdeal.main_arg1))
      ∧ r.2.sem = fun _ => 0)

def quiescent_HgrnPreRefIdeal [hHgrnPreRefIdeal : Cert.HgrnPreRefIdeal.Facts] : Prop :=
  ∀ (m : (ℓ : Loc Cert.HgrnPreRefIdeal.nD Cert.HgrnPreRefIdeal.τ Cert.HgrnPreRefIdeal.sig) → Buf (Elt Ideal) ℓ) (g : Dev Cert.HgrnPreRefIdeal.nD → PrngReg), Pre_HgrnPreRefIdeal m →
    θ_run (Cert.HgrnPreRefIdeal.defs (F := Ideal)) (onTc (τ := Cert.HgrnPreRefIdeal.τ) (Cert.HgrnPreRefIdeal.main (F := Ideal))) ⟨m, fun _ => 0, g⟩ (fun r => (∀ c : Dev Cert.HgrnPreRefIdeal.nD,
      r.2.mem ((c.tc : Thread Cert.HgrnPreRefIdeal.nD Cert.HgrnPreRefIdeal.τ).loc Cert.HgrnPreRefIdeal.main_arg0) = m ((c.tc : Thread Cert.HgrnPreRefIdeal.nD Cert.HgrnPreRefIdeal.τ).loc Cert.HgrnPreRefIdeal.main_arg0)
      ∧ r.2.mem ((c.tc : Thread Cert.HgrnPreRefIdeal.nD Cert.HgrnPreRefIdeal.τ).loc Cert.HgrnPreRefIdeal.main_arg1) = m ((c.tc : Thread Cert.HgrnPreRefIdeal.nD Cert.HgrnPreRefIdeal.τ).loc Cert.HgrnPreRefIdeal.main_arg1))
      ∧ r.2.sem = fun _ => 0)

def quiescent_LoraAct [hLoraAct : Cert.LoraAct.Facts] : Prop :=
  ∀ (m : (ℓ : Loc Cert.LoraAct.nD Cert.LoraAct.τ Cert.LoraAct.sig) → Buf (Elt Bits) ℓ) (g : Dev Cert.LoraAct.nD → PrngReg), Pre_LoraAct m →
    θ_run (Cert.LoraAct.defs (F := Bits)) (onTc (τ := Cert.LoraAct.τ) (Cert.LoraAct.main (F := Bits))) ⟨m, fun _ => 0, g⟩ (fun r => (∀ c : Dev Cert.LoraAct.nD,
      r.2.mem ((c.tc : Thread Cert.LoraAct.nD Cert.LoraAct.τ).loc Cert.LoraAct.main_arg0) = m ((c.tc : Thread Cert.LoraAct.nD Cert.LoraAct.τ).loc Cert.LoraAct.main_arg0)
      ∧ r.2.mem ((c.tc : Thread Cert.LoraAct.nD Cert.LoraAct.τ).loc Cert.LoraAct.main_arg1) = m ((c.tc : Thread Cert.LoraAct.nD Cert.LoraAct.τ).loc Cert.LoraAct.main_arg1)
      ∧ r.2.mem ((c.tc : Thread Cert.LoraAct.nD Cert.LoraAct.τ).loc Cert.LoraAct.main_arg2) = m ((c.tc : Thread Cert.LoraAct.nD Cert.LoraAct.τ).loc Cert.LoraAct.main_arg2)
      ∧ r.2.mem ((c.tc : Thread Cert.LoraAct.nD Cert.LoraAct.τ).loc Cert.LoraAct.main_arg3) = m ((c.tc : Thread Cert.LoraAct.nD Cert.LoraAct.τ).loc Cert.LoraAct.main_arg3))
      ∧ r.2.sem = fun _ => 0)

def quiescent_LoraActIdeal [hLoraActIdeal : Cert.LoraActIdeal.Facts] : Prop :=
  ∀ (m : (ℓ : Loc Cert.LoraActIdeal.nD Cert.LoraActIdeal.τ Cert.LoraActIdeal.sig) → Buf (Elt Ideal) ℓ) (g : Dev Cert.LoraActIdeal.nD → PrngReg), Pre_LoraActIdeal m →
    θ_run (Cert.LoraActIdeal.defs (F := Ideal)) (onTc (τ := Cert.LoraActIdeal.τ) (Cert.LoraActIdeal.main (F := Ideal))) ⟨m, fun _ => 0, g⟩ (fun r => (∀ c : Dev Cert.LoraActIdeal.nD,
      r.2.mem ((c.tc : Thread Cert.LoraActIdeal.nD Cert.LoraActIdeal.τ).loc Cert.LoraActIdeal.main_arg0) = m ((c.tc : Thread Cert.LoraActIdeal.nD Cert.LoraActIdeal.τ).loc Cert.LoraActIdeal.main_arg0)
      ∧ r.2.mem ((c.tc : Thread Cert.LoraActIdeal.nD Cert.LoraActIdeal.τ).loc Cert.LoraActIdeal.main_arg1) = m ((c.tc : Thread Cert.LoraActIdeal.nD Cert.LoraActIdeal.τ).loc Cert.LoraActIdeal.main_arg1)
      ∧ r.2.mem ((c.tc : Thread Cert.LoraActIdeal.nD Cert.LoraActIdeal.τ).loc Cert.LoraActIdeal.main_arg2) = m ((c.tc : Thread Cert.LoraActIdeal.nD Cert.LoraActIdeal.τ).loc Cert.LoraActIdeal.main_arg2)
      ∧ r.2.mem ((c.tc : Thread Cert.LoraActIdeal.nD Cert.LoraActIdeal.τ).loc Cert.LoraActIdeal.main_arg3) = m ((c.tc : Thread Cert.LoraActIdeal.nD Cert.LoraActIdeal.τ).loc Cert.LoraActIdeal.main_arg3))
      ∧ r.2.sem = fun _ => 0)

def quiescent_LoraActRefIdeal [hLoraActRefIdeal : Cert.LoraActRefIdeal.Facts] : Prop :=
  ∀ (m : (ℓ : Loc Cert.LoraActRefIdeal.nD Cert.LoraActRefIdeal.τ Cert.LoraActRefIdeal.sig) → Buf (Elt Ideal) ℓ) (g : Dev Cert.LoraActRefIdeal.nD → PrngReg), Pre_LoraActRefIdeal m →
    θ_run (Cert.LoraActRefIdeal.defs (F := Ideal)) (onTc (τ := Cert.LoraActRefIdeal.τ) (Cert.LoraActRefIdeal.main (F := Ideal))) ⟨m, fun _ => 0, g⟩ (fun r => (∀ c : Dev Cert.LoraActRefIdeal.nD,
      r.2.mem ((c.tc : Thread Cert.LoraActRefIdeal.nD Cert.LoraActRefIdeal.τ).loc Cert.LoraActRefIdeal.main_arg0) = m ((c.tc : Thread Cert.LoraActRefIdeal.nD Cert.LoraActRefIdeal.τ).loc Cert.LoraActRefIdeal.main_arg0)
      ∧ r.2.mem ((c.tc : Thread Cert.LoraActRefIdeal.nD Cert.LoraActRefIdeal.τ).loc Cert.LoraActRefIdeal.main_arg1) = m ((c.tc : Thread Cert.LoraActRefIdeal.nD Cert.LoraActRefIdeal.τ).loc Cert.LoraActRefIdeal.main_arg1)
      ∧ r.2.mem ((c.tc : Thread Cert.LoraActRefIdeal.nD Cert.LoraActRefIdeal.τ).loc Cert.LoraActRefIdeal.main_arg2) = m ((c.tc : Thread Cert.LoraActRefIdeal.nD Cert.LoraActRefIdeal.τ).loc Cert.LoraActRefIdeal.main_arg2)
      ∧ r.2.mem ((c.tc : Thread Cert.LoraActRefIdeal.nD Cert.LoraActRefIdeal.τ).loc Cert.LoraActRefIdeal.main_arg3) = m ((c.tc : Thread Cert.LoraActRefIdeal.nD Cert.LoraActRefIdeal.τ).loc Cert.LoraActRefIdeal.main_arg3))
      ∧ r.2.sem = fun _ => 0)

def quiescent_LoraBwd [hLoraBwd : Cert.LoraBwd.Facts] : Prop :=
  ∀ (m : (ℓ : Loc Cert.LoraBwd.nD Cert.LoraBwd.τ Cert.LoraBwd.sig) → Buf (Elt Bits) ℓ) (g : Dev Cert.LoraBwd.nD → PrngReg), Pre_LoraBwd m →
    θ_run (Cert.LoraBwd.defs (F := Bits)) (onTc (τ := Cert.LoraBwd.τ) (Cert.LoraBwd.main (F := Bits))) ⟨m, fun _ => 0, g⟩ (fun r => (∀ c : Dev Cert.LoraBwd.nD,
      r.2.mem ((c.tc : Thread Cert.LoraBwd.nD Cert.LoraBwd.τ).loc Cert.LoraBwd.main_arg0) = m ((c.tc : Thread Cert.LoraBwd.nD Cert.LoraBwd.τ).loc Cert.LoraBwd.main_arg0)
      ∧ r.2.mem ((c.tc : Thread Cert.LoraBwd.nD Cert.LoraBwd.τ).loc Cert.LoraBwd.main_arg1) = m ((c.tc : Thread Cert.LoraBwd.nD Cert.LoraBwd.τ).loc Cert.LoraBwd.main_arg1)
      ∧ r.2.mem ((c.tc : Thread Cert.LoraBwd.nD Cert.LoraBwd.τ).loc Cert.LoraBwd.main_arg2) = m ((c.tc : Thread Cert.LoraBwd.nD Cert.LoraBwd.τ).loc Cert.LoraBwd.main_arg2)
      ∧ r.2.mem ((c.tc : Thread Cert.LoraBwd.nD Cert.LoraBwd.τ).loc Cert.LoraBwd.main_arg3) = m ((c.tc : Thread Cert.LoraBwd.nD Cert.LoraBwd.τ).loc Cert.LoraBwd.main_arg3)
      ∧ r.2.mem ((c.tc : Thread Cert.LoraBwd.nD Cert.LoraBwd.τ).loc Cert.LoraBwd.main_arg4) = m ((c.tc : Thread Cert.LoraBwd.nD Cert.LoraBwd.τ).loc Cert.LoraBwd.main_arg4)
      ∧ r.2.mem ((c.tc : Thread Cert.LoraBwd.nD Cert.LoraBwd.τ).loc Cert.LoraBwd.main_arg5) = m ((c.tc : Thread Cert.LoraBwd.nD Cert.LoraBwd.τ).loc Cert.LoraBwd.main_arg5))
      ∧ r.2.sem = fun _ => 0)

def quiescent_LoraBwdIdeal [hLoraBwdIdeal : Cert.LoraBwdIdeal.Facts] : Prop :=
  ∀ (m : (ℓ : Loc Cert.LoraBwdIdeal.nD Cert.LoraBwdIdeal.τ Cert.LoraBwdIdeal.sig) → Buf (Elt Ideal) ℓ) (g : Dev Cert.LoraBwdIdeal.nD → PrngReg), Pre_LoraBwdIdeal m →
    θ_run (Cert.LoraBwdIdeal.defs (F := Ideal)) (onTc (τ := Cert.LoraBwdIdeal.τ) (Cert.LoraBwdIdeal.main (F := Ideal))) ⟨m, fun _ => 0, g⟩ (fun r => (∀ c : Dev Cert.LoraBwdIdeal.nD,
      r.2.mem ((c.tc : Thread Cert.LoraBwdIdeal.nD Cert.LoraBwdIdeal.τ).loc Cert.LoraBwdIdeal.main_arg0) = m ((c.tc : Thread Cert.LoraBwdIdeal.nD Cert.LoraBwdIdeal.τ).loc Cert.LoraBwdIdeal.main_arg0)
      ∧ r.2.mem ((c.tc : Thread Cert.LoraBwdIdeal.nD Cert.LoraBwdIdeal.τ).loc Cert.LoraBwdIdeal.main_arg1) = m ((c.tc : Thread Cert.LoraBwdIdeal.nD Cert.LoraBwdIdeal.τ).loc Cert.LoraBwdIdeal.main_arg1)
      ∧ r.2.mem ((c.tc : Thread Cert.LoraBwdIdeal.nD Cert.LoraBwdIdeal.τ).loc Cert.LoraBwdIdeal.main_arg2) = m ((c.tc : Thread Cert.LoraBwdIdeal.nD Cert.LoraBwdIdeal.τ).loc Cert.LoraBwdIdeal.main_arg2)
      ∧ r.2.mem ((c.tc : Thread Cert.LoraBwdIdeal.nD Cert.LoraBwdIdeal.τ).loc Cert.LoraBwdIdeal.main_arg3) = m ((c.tc : Thread Cert.LoraBwdIdeal.nD Cert.LoraBwdIdeal.τ).loc Cert.LoraBwdIdeal.main_arg3)
      ∧ r.2.mem ((c.tc : Thread Cert.LoraBwdIdeal.nD Cert.LoraBwdIdeal.τ).loc Cert.LoraBwdIdeal.main_arg4) = m ((c.tc : Thread Cert.LoraBwdIdeal.nD Cert.LoraBwdIdeal.τ).loc Cert.LoraBwdIdeal.main_arg4)
      ∧ r.2.mem ((c.tc : Thread Cert.LoraBwdIdeal.nD Cert.LoraBwdIdeal.τ).loc Cert.LoraBwdIdeal.main_arg5) = m ((c.tc : Thread Cert.LoraBwdIdeal.nD Cert.LoraBwdIdeal.τ).loc Cert.LoraBwdIdeal.main_arg5))
      ∧ r.2.sem = fun _ => 0)

def quiescent_LoraBwdRefIdeal [hLoraBwdRefIdeal : Cert.LoraBwdRefIdeal.Facts] : Prop :=
  ∀ (m : (ℓ : Loc Cert.LoraBwdRefIdeal.nD Cert.LoraBwdRefIdeal.τ Cert.LoraBwdRefIdeal.sig) → Buf (Elt Ideal) ℓ) (g : Dev Cert.LoraBwdRefIdeal.nD → PrngReg), Pre_LoraBwdRefIdeal m →
    θ_run (Cert.LoraBwdRefIdeal.defs (F := Ideal)) (onTc (τ := Cert.LoraBwdRefIdeal.τ) (Cert.LoraBwdRefIdeal.main (F := Ideal))) ⟨m, fun _ => 0, g⟩ (fun r => (∀ c : Dev Cert.LoraBwdRefIdeal.nD,
      r.2.mem ((c.tc : Thread Cert.LoraBwdRefIdeal.nD Cert.LoraBwdRefIdeal.τ).loc Cert.LoraBwdRefIdeal.main_arg0) = m ((c.tc : Thread Cert.LoraBwdRefIdeal.nD Cert.LoraBwdRefIdeal.τ).loc Cert.LoraBwdRefIdeal.main_arg0)
      ∧ r.2.mem ((c.tc : Thread Cert.LoraBwdRefIdeal.nD Cert.LoraBwdRefIdeal.τ).loc Cert.LoraBwdRefIdeal.main_arg1) = m ((c.tc : Thread Cert.LoraBwdRefIdeal.nD Cert.LoraBwdRefIdeal.τ).loc Cert.LoraBwdRefIdeal.main_arg1)
      ∧ r.2.mem ((c.tc : Thread Cert.LoraBwdRefIdeal.nD Cert.LoraBwdRefIdeal.τ).loc Cert.LoraBwdRefIdeal.main_arg2) = m ((c.tc : Thread Cert.LoraBwdRefIdeal.nD Cert.LoraBwdRefIdeal.τ).loc Cert.LoraBwdRefIdeal.main_arg2)
      ∧ r.2.mem ((c.tc : Thread Cert.LoraBwdRefIdeal.nD Cert.LoraBwdRefIdeal.τ).loc Cert.LoraBwdRefIdeal.main_arg3) = m ((c.tc : Thread Cert.LoraBwdRefIdeal.nD Cert.LoraBwdRefIdeal.τ).loc Cert.LoraBwdRefIdeal.main_arg3)
      ∧ r.2.mem ((c.tc : Thread Cert.LoraBwdRefIdeal.nD Cert.LoraBwdRefIdeal.τ).loc Cert.LoraBwdRefIdeal.main_arg4) = m ((c.tc : Thread Cert.LoraBwdRefIdeal.nD Cert.LoraBwdRefIdeal.τ).loc Cert.LoraBwdRefIdeal.main_arg4)
      ∧ r.2.mem ((c.tc : Thread Cert.LoraBwdRefIdeal.nD Cert.LoraBwdRefIdeal.τ).loc Cert.LoraBwdRefIdeal.main_arg5) = m ((c.tc : Thread Cert.LoraBwdRefIdeal.nD Cert.LoraBwdRefIdeal.τ).loc Cert.LoraBwdRefIdeal.main_arg5))
      ∧ r.2.sem = fun _ => 0)

def preserves_Kernel_KernelIdeal : Prop :=
  IdealRules.named_const.Statement Cert.KernelIdeal.κ "cube" .f32 0x3D372713#32 ((8943 / 200000 : ℝ) : EReal)
  ∧ IdealRules.named_const.Statement Cert.KernelIdeal.κ "cube3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v152) = v3 c
          ∧ r.2.mem ((c.tc : Thread Cert.ReferenceIdeal.nD Cert.ReferenceIdeal.τ).loc Cert.ReferenceIdeal.main_v153) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v4)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v4) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v9) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_ActBwd_ActBwdIdeal : Prop :=
  True

def algebraic_ActBwdIdeal_ActBwdRefIdeal_pre_finite_act [hActBwdIdeal : Cert.ActBwdIdeal.Facts] [hActBwdRefIdeal : Cert.ActBwdRefIdeal.Facts] [hPre_finite_act : Cert.Pre_finite_act.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal_finite_act m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)) →
    ∃ (v0 : (c : Dev Cert.ActBwdIdeal.nD) → Buf (Elt Ideal) ((c.tc : Thread Cert.ActBwdIdeal.nD Cert.ActBwdIdeal.τ).loc Cert.ActBwdIdeal.main_v0_0)) (v1 : (c : Dev Cert.ActBwdIdeal.nD) → Buf (Elt Ideal) ((c.tc : Thread Cert.ActBwdIdeal.nD Cert.ActBwdIdeal.τ).loc Cert.ActBwdIdeal.main_v0_1)) (v2 : (c : Dev Cert.ActBwdIdeal.nD) → Buf (Elt Ideal) ((c.tc : Thread Cert.ActBwdIdeal.nD Cert.ActBwdIdeal.τ).loc Cert.ActBwdIdeal.main_v0_2)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v0_0) = v0 c
          ∧ r.2.mem ((c.tc : Thread Cert.ActBwdIdeal.nD Cert.ActBwdIdeal.τ).loc Cert.ActBwdIdeal.main_v0_1) = v1 c
          ∧ r.2.mem ((c.tc : Thread Cert.ActBwdIdeal.nD Cert.ActBwdIdeal.τ).loc Cert.ActBwdIdeal.main_v0_2) = v2 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v8) = v0 c
          ∧ r.2.mem ((c.tc : Thread Cert.ActBwdRefIdeal.nD Cert.ActBwdRefIdeal.τ).loc Cert.ActBwdRefIdeal.main_v9) = v1 c
          ∧ r.2.mem ((c.tc : Thread Cert.ActBwdRefIdeal.nD Cert.ActBwdRefIdeal.τ).loc Cert.ActBwdRefIdeal.main_v10) = v2 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v1)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v1) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v10) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v8) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)) →
    ∃ (v0 : (c : Dev Cert.DnIdeal.nD) → Buf (Elt Ideal) ((c.tc : Thread Cert.DnIdeal.nD Cert.DnIdeal.τ).loc Cert.DnIdeal.main_v3)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v3) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v5) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1))

def preserves_DnAcc_DnAccIdeal : Prop :=
  True

def algebraic_DnAccIdeal_DnAccRefIdeal [hDnAccIdeal : Cert.DnAccIdeal.Facts] [hDnAccRefIdeal : Cert.DnAccRefIdeal.Facts] : Prop :=
  ∀ (m : (ℓ : Loc Cert.DnAccIdeal.nD Cert.DnAccIdeal.τ Cert.DnAccIdeal.sig) → Buf (Elt Ideal) ℓ) (g : Dev Cert.DnAccIdeal.nD → PrngReg)
    (m' : (ℓ : Loc Cert.DnAccRefIdeal.nD Cert.DnAccRefIdeal.τ Cert.DnAccRefIdeal.sig) → Buf (Elt Ideal) ℓ) (g' : Dev Cert.DnAccRefIdeal.nD → PrngReg), Pre_DnAccIdeal m →
    (∀ c : Dev Cert.DnAccIdeal.nD,
      m' ((c.tc : Thread Cert.DnAccRefIdeal.nD Cert.DnAccRefIdeal.τ).loc Cert.DnAccRefIdeal.main_arg0) = m ((c.tc : Thread Cert.DnAccIdeal.nD Cert.DnAccIdeal.τ).loc Cert.DnAccIdeal.main_arg0)
      ∧ m' ((c.tc : Thread Cert.DnAccRefIdeal.nD Cert.DnAccRefIdeal.τ).loc Cert.DnAccRefIdeal.main_arg1) = m ((c.tc : Thread Cert.DnAccIdeal.nD Cert.DnAccIdeal.τ).loc Cert.DnAccIdeal.main_arg1)
      ∧ m' ((c.tc : Thread Cert.DnAccRefIdeal.nD Cert.DnAccRefIdeal.τ).loc Cert.DnAccRefIdeal.main_arg2) = m ((c.tc : Thread Cert.DnAccIdeal.nD Cert.DnAccIdeal.τ).loc Cert.DnAccIdeal.main_arg2)) →
    ∃ (v0 : (c : Dev Cert.DnAccIdeal.nD) → Buf (Elt Ideal) ((c.tc : Thread Cert.DnAccIdeal.nD Cert.DnAccIdeal.τ).loc Cert.DnAccIdeal.main_v3)),
      θ_run (Cert.DnAccIdeal.defs (F := Ideal)) (onTc (τ := Cert.DnAccIdeal.τ) (Cert.DnAccIdeal.main (F := Ideal))) ⟨m, fun _ => 0, g⟩ (fun r => ∀ c : Dev Cert.DnAccIdeal.nD,
          r.2.mem ((c.tc : Thread Cert.DnAccIdeal.nD Cert.DnAccIdeal.τ).loc Cert.DnAccIdeal.main_v3) = v0 c
          ∧ r.2.mem ((c.tc : Thread Cert.DnAccIdeal.nD Cert.DnAccIdeal.τ).loc Cert.DnAccIdeal.main_arg0) = m ((c.tc : Thread Cert.DnAccIdeal.nD Cert.DnAccIdeal.τ).loc Cert.DnAccIdeal.main_arg0)
          ∧ r.2.mem ((c.tc : Thread Cert.DnAccIdeal.nD Cert.DnAccIdeal.τ).loc Cert.DnAccIdeal.main_arg1) = m ((c.tc : Thread Cert.DnAccIdeal.nD Cert.DnAccIdeal.τ).loc Cert.DnAccIdeal.main_arg1)
          ∧ r.2.mem ((c.tc : Thread Cert.DnAccIdeal.nD Cert.DnAccIdeal.τ).loc Cert.DnAccIdeal.main_arg2) = m ((c.tc : Thread Cert.DnAccIdeal.nD Cert.DnAccIdeal.τ).loc Cert.DnAccIdeal.main_arg2))
      ∧ θ_run (Cert.DnAccRefIdeal.defs (F := Ideal)) (onTc (τ := Cert.DnAccRefIdeal.τ) (Cert.DnAccRefIdeal.main (F := Ideal))) ⟨m', fun _ => 0, g'⟩ (fun r => ∀ c : Dev Cert.DnAccRefIdeal.nD,
          r.2.mem ((c.tc : Thread Cert.DnAccRefIdeal.nD Cert.DnAccRefIdeal.τ).loc Cert.DnAccRefIdeal.main_v6) = v0 c
          ∧ r.2.mem ((c.tc : Thread Cert.DnAccRefIdeal.nD Cert.DnAccRefIdeal.τ).loc Cert.DnAccRefIdeal.main_arg0) = m' ((c.tc : Thread Cert.DnAccRefIdeal.nD Cert.DnAccRefIdeal.τ).loc Cert.DnAccRefIdeal.main_arg0)
          ∧ r.2.mem ((c.tc : Thread Cert.DnAccRefIdeal.nD Cert.DnAccRefIdeal.τ).loc Cert.DnAccRefIdeal.main_arg1) = m' ((c.tc : Thread Cert.DnAccRefIdeal.nD Cert.DnAccRefIdeal.τ).loc Cert.DnAccRefIdeal.main_arg1)
          ∧ r.2.mem ((c.tc : Thread Cert.DnAccRefIdeal.nD Cert.DnAccRefIdeal.τ).loc Cert.DnAccRefIdeal.main_arg2) = m' ((c.tc : Thread Cert.DnAccRefIdeal.nD Cert.DnAccRefIdeal.τ).loc Cert.DnAccRefIdeal.main_arg2))

def preserves_RmsBwd_RmsBwdIdeal : Prop :=
  True

def algebraic_RmsBwdIdeal_RmsBwdRefIdeal_pre_finite_rms [hRmsBwdIdeal : Cert.RmsBwdIdeal.Facts] [hRmsBwdRefIdeal : Cert.RmsBwdRefIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_finite_rms m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v6_0)) (v1 : (c : Dev Cert.UpIdeal.nD) → Buf (Elt Ideal) ((c.tc : Thread Cert.UpIdeal.nD Cert.UpIdeal.τ).loc Cert.UpIdeal.main_v6_1)) (v2 : (c : Dev Cert.UpIdeal.nD) → Buf (Elt Ideal) ((c.tc : Thread Cert.UpIdeal.nD Cert.UpIdeal.τ).loc Cert.UpIdeal.main_v6_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6_0) = v0 c
          ∧ r.2.mem ((c.tc : Thread Cert.UpIdeal.nD Cert.UpIdeal.τ).loc Cert.UpIdeal.main_v6_1) = v1 c
          ∧ r.2.mem ((c.tc : Thread Cert.UpIdeal.nD Cert.UpIdeal.τ).loc Cert.UpIdeal.main_v6_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_v11) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamPleGate_AdamPleGateIdeal : Prop :=
  True

def algebraic_AdamPleGateIdeal_AdamPleGateRefIdeal [hAdamPleGateIdeal : Cert.AdamPleGateIdeal.Facts] [hAdamPleGateRefIdeal : Cert.AdamPleGateRefIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg)
    (m' : (ℓ : Loc Cert.AdamPleGateRefIdeal.nD Cert.AdamPleGateRefIdeal.τ Cert.AdamPleGateRefIdeal.sig) → Buf (Elt Ideal) ℓ) (g' : Dev Cert.AdamPleGateRefIdeal.nD → PrngReg), Pre_AdamPleGateIdeal m →
    (∀ c : Dev Cert.AdamPleGateIdeal.nD,
      m' ((c.tc : Thread Cert.AdamPleGateRefIdeal.nD Cert.AdamPleGateRefIdeal.τ).loc Cert.AdamPleGateRefIdeal.main_arg0) = m ((c.tc : Thread Cert.AdamPleGateIdeal.nD Cert.AdamPleGateIdeal.τ).loc Cert.AdamPleGateIdeal.main_arg0)
      ∧ m' ((c.tc : Thread Cert.AdamPleGateRefIdeal.nD Cert.AdamPleGateRefIdeal.τ).loc Cert.AdamPleGateRefIdeal.main_arg1) = m ((c.tc : Thread Cert.AdamPleGateIdeal.nD Cert.AdamPleGateIdeal.τ).loc Cert.AdamPleGateIdeal.main_arg1)
      ∧ m' ((c.tc : Thread Cert.AdamPleGateRefIdeal.nD Cert.AdamPleGateRefIdeal.τ).loc Cert.AdamPleGateRefIdeal.main_arg2) = m ((c.tc : Thread Cert.AdamPleGateIdeal.nD Cert.AdamPleGateIdeal.τ).loc Cert.AdamPleGateIdeal.main_arg2)
      ∧ m' ((c.tc : Thread Cert.AdamPleGateRefIdeal.nD Cert.AdamPleGateRefIdeal.τ).loc Cert.AdamPleGateRefIdeal.main_arg3) = m ((c.tc : Thread Cert.AdamPleGateIdeal.nD Cert.AdamPleGateIdeal.τ).loc Cert.AdamPleGateIdeal.main_arg3)) →
    ∃ (v0 : (c : Dev Cert.AdamPleGateIdeal.nD) → Buf (Elt Ideal) ((c.tc : Thread Cert.AdamPleGateIdeal.nD Cert.AdamPleGateIdeal.τ).loc Cert.AdamPleGateIdeal.main_v4_0)) (v1 : (c : Dev Cert.AdamPleGateIdeal.nD) → Buf (Elt Ideal) ((c.tc : Thread Cert.AdamPleGateIdeal.nD Cert.AdamPleGateIdeal.τ).loc Cert.AdamPleGateIdeal.main_v4_1)) (v2 : (c : Dev Cert.AdamPleGateIdeal.nD) → Buf (Elt Ideal) ((c.tc : Thread Cert.AdamPleGateIdeal.nD Cert.AdamPleGateIdeal.τ).loc Cert.AdamPleGateIdeal.main_v4_2)),
      θ_run (Cert.AdamPleGateIdeal.defs (F := Ideal)) (onTc (τ := Cert.AdamPleGateIdeal.τ) (Cert.AdamPleGateIdeal.main (F := Ideal))) ⟨m, fun _ => 0, g⟩ (fun r => ∀ c : Dev Cert.AdamPleGateIdeal.nD,
          r.2.mem ((c.tc : Thread Cert.AdamPleGateIdeal.nD Cert.AdamPleGateIdeal.τ).loc Cert.AdamPleGateIdeal.main_v4_0) = v0 c
          ∧ r.2.mem ((c.tc : Thread Cert.AdamPleGateIdeal.nD Cert.AdamPleGateIdeal.τ).loc Cert.AdamPleGateIdeal.main_v4_1) = v1 c
          ∧ r.2.mem ((c.tc : Thread Cert.AdamPleGateIdeal.nD Cert.AdamPleGateIdeal.τ).loc Cert.AdamPleGateIdeal.main_v4_2) = v2 c
          ∧ r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
          ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
          ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
          ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ θ_run (Cert.AdamPleGateRefIdeal.defs (F := Ideal)) (onTc (τ := Cert.AdamPleGateRefIdeal.τ) (Cert.AdamPleGateRefIdeal.main (F := Ideal))) ⟨m', fun _ => 0, g'⟩ (fun r => ∀ c : Dev Cert.AdamPleGateRefIdeal.nD,
          r.2.mem ((c.tc : Thread Cert.AdamPleGateRefIdeal.nD Cert.AdamPleGateRefIdeal.τ).loc Cert.AdamPleGateRefIdeal.main_v24) = v0 c
          ∧ r.2.mem ((c.tc : Thread Cert.AdamPleGateRefIdeal.nD Cert.AdamPleGateRefIdeal.τ).loc Cert.AdamPleGateRefIdeal.main_v25) = v1 c
          ∧ r.2.mem ((c.tc : Thread Cert.AdamPleGateRefIdeal.nD Cert.AdamPleGateRefIdeal.τ).loc Cert.AdamPleGateRefIdeal.main_v26) = v2 c
          ∧ r.2.mem ((c.tc : Thread Cert.AdamPleGateRefIdeal.nD Cert.AdamPleGateRefIdeal.τ).loc Cert.AdamPleGateRefIdeal.main_arg0) = m' ((c.tc : Thread Cert.AdamPleGateRefIdeal.nD Cert.AdamPleGateRefIdeal.τ).loc Cert.AdamPleGateRefIdeal.main_arg0)
          ∧ r.2.mem ((c.tc : Thread Cert.AdamPleGateRefIdeal.nD Cert.AdamPleGateRefIdeal.τ).loc Cert.AdamPleGateRefIdeal.main_arg1) = m' ((c.tc : Thread Cert.AdamPleGateRefIdeal.nD Cert.AdamPleGateRefIdeal.τ).loc Cert.AdamPleGateRefIdeal.main_arg1)
          ∧ r.2.mem ((c.tc : Thread Cert.AdamPleGateRefIdeal.nD Cert.AdamPleGateRefIdeal.τ).loc Cert.AdamPleGateRefIdeal.main_arg2) = m' ((c.tc : Thread Cert.AdamPleGateRefIdeal.nD Cert.AdamPleGateRefIdeal.τ).loc Cert.AdamPleGateRefIdeal.main_arg2)
          ∧ r.2.mem ((c.tc : Thread Cert.AdamPleGateRefIdeal.nD Cert.AdamPleGateRefIdeal.τ).loc Cert.AdamPleGateRefIdeal.main_arg3) = m' ((c.tc : Thread Cert.AdamPleGateRefIdeal.nD Cert.AdamPleGateRefIdeal.τ).loc Cert.AdamPleGateRefIdeal.main_arg3))

def preserves_AdamEvenIn_AdamEvenInIdeal : Prop :=
  True

def algebraic_AdamEvenInIdeal_AdamEvenInRefIdeal [hAdamEvenInIdeal : Cert.AdamEvenInIdeal.Facts] [hAdamEvenInRefIdeal : Cert.AdamEvenInRefIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInRefIdeal.nD Cert.AdamEvenInRefIdeal.τ Cert.AdamEvenInRefIdeal.sig) → Buf (Elt Ideal) ℓ) (g' : Dev Cert.AdamEvenInRefIdeal.nD → PrngReg), Pre_AdamEvenInIdeal m →
    (∀ c : Dev Cert.AdamEvenInIdeal.nD,
      m' ((c.tc : Thread Cert.AdamEvenInRefIdeal.nD Cert.AdamEvenInRefIdeal.τ).loc Cert.AdamEvenInRefIdeal.main_arg0) = m ((c.tc : Thread Cert.AdamEvenInIdeal.nD Cert.AdamEvenInIdeal.τ).loc Cert.AdamEvenInIdeal.main_arg0)
      ∧ m' ((c.tc : Thread Cert.AdamEvenInRefIdeal.nD Cert.AdamEvenInRefIdeal.τ).loc Cert.AdamEvenInRefIdeal.main_arg1) = m ((c.tc : Thread Cert.AdamEvenInIdeal.nD Cert.AdamEvenInIdeal.τ).loc Cert.AdamEvenInIdeal.main_arg1)
      ∧ m' ((c.tc : Thread Cert.AdamEvenInRefIdeal.nD Cert.AdamEvenInRefIdeal.τ).loc Cert.AdamEvenInRefIdeal.main_arg2) = m ((c.tc : Thread Cert.AdamEvenInIdeal.nD Cert.AdamEvenInIdeal.τ).loc Cert.AdamEvenInIdeal.main_arg2)
      ∧ m' ((c.tc : Thread Cert.AdamEvenInRefIdeal.nD Cert.AdamEvenInRefIdeal.τ).loc Cert.AdamEvenInRefIdeal.main_arg3) = m ((c.tc : Thread Cert.AdamEvenInIdeal.nD Cert.AdamEvenInIdeal.τ).loc Cert.AdamEvenInIdeal.main_arg3)) →
    ∃ (v0 : (c : Dev Cert.AdamEvenInIdeal.nD) → Buf (Elt Ideal) ((c.tc : Thread Cert.AdamEvenInIdeal.nD Cert.AdamEvenInIdeal.τ).loc Cert.AdamEvenInIdeal.main_v4_0)) (v1 : (c : Dev Cert.AdamEvenInIdeal.nD) → Buf (Elt Ideal) ((c.tc : Thread Cert.AdamEvenInIdeal.nD Cert.AdamEvenInIdeal.τ).loc Cert.AdamEvenInIdeal.main_v4_1)) (v2 : (c : Dev Cert.AdamEvenInIdeal.nD) → Buf (Elt Ideal) ((c.tc : Thread Cert.AdamEvenInIdeal.nD Cert.AdamEvenInIdeal.τ).loc Cert.AdamEvenInIdeal.main_v4_2)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v4_0) = v0 c
          ∧ r.2.mem ((c.tc : Thread Cert.AdamEvenInIdeal.nD Cert.AdamEvenInIdeal.τ).loc Cert.AdamEvenInIdeal.main_v4_1) = v1 c
          ∧ r.2.mem ((c.tc : Thread Cert.AdamEvenInIdeal.nD Cert.AdamEvenInIdeal.τ).loc Cert.AdamEvenInIdeal.main_v4_2) = v2 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ θ_run (Cert.AdamEvenInRefIdeal.defs (F := Ideal)) (onTc (τ := Cert.AdamEvenInRefIdeal.τ) (Cert.AdamEvenInRefIdeal.main (F := Ideal))) ⟨m', fun _ => 0, g'⟩ (fun r => ∀ c : Dev Cert.AdamEvenInRefIdeal.nD,
          r.2.mem ((c.tc : Thread Cert.AdamEvenInRefIdeal.nD Cert.AdamEvenInRefIdeal.τ).loc Cert.AdamEvenInRefIdeal.main_v24) = v0 c
          ∧ r.2.mem ((c.tc : Thread Cert.AdamEvenInRefIdeal.nD Cert.AdamEvenInRefIdeal.τ).loc Cert.AdamEvenInRefIdeal.main_v25) = v1 c
          ∧ r.2.mem ((c.tc : Thread Cert.AdamEvenInRefIdeal.nD Cert.AdamEvenInRefIdeal.τ).loc Cert.AdamEvenInRefIdeal.main_v26) = v2 c
          ∧ r.2.mem ((c.tc : Thread Cert.AdamEvenInRefIdeal.nD Cert.AdamEvenInRefIdeal.τ).loc Cert.AdamEvenInRefIdeal.main_arg0) = m' ((c.tc : Thread Cert.AdamEvenInRefIdeal.nD Cert.AdamEvenInRefIdeal.τ).loc Cert.AdamEvenInRefIdeal.main_arg0)
          ∧ r.2.mem ((c.tc : Thread Cert.AdamEvenInRefIdeal.nD Cert.AdamEvenInRefIdeal.τ).loc Cert.AdamEvenInRefIdeal.main_arg1) = m' ((c.tc : Thread Cert.AdamEvenInRefIdeal.nD Cert.AdamEvenInRefIdeal.τ).loc Cert.AdamEvenInRefIdeal.main_arg1)
          ∧ r.2.mem ((c.tc : Thread Cert.AdamEvenInRefIdeal.nD Cert.AdamEvenInRefIdeal.τ).loc Cert.AdamEvenInRefIdeal.main_arg2) = m' ((c.tc : Thread Cert.AdamEvenInRefIdeal.nD Cert.AdamEvenInRefIdeal.τ).loc Cert.AdamEvenInRefIdeal.main_arg2)
          ∧ r.2.mem ((c.tc : Thread Cert.AdamEvenInRefIdeal.nD Cert.AdamEvenInRefIdeal.τ).loc Cert.AdamEvenInRefIdeal.main_arg3) = m' ((c.tc : Thread Cert.AdamEvenInRefIdeal.nD Cert.AdamEvenInRefIdeal.τ).loc Cert.AdamEvenInRefIdeal.main_arg3))

def preserves_AdamMix_AdamMixIdeal : Prop :=
  True

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v4_0)) (v1 : (c : Dev Cert.AdamMixIdeal.nD) → Buf (Elt Ideal) ((c.tc : Thread Cert.AdamMixIdeal.nD Cert.AdamMixIdeal.τ).loc Cert.AdamMixIdeal.main_v4_1)) (v2 : (c : Dev Cert.AdamMixIdeal.nD) → Buf (Elt Ideal) ((c.tc : Thread Cert.AdamMixIdeal.nD Cert.AdamMixIdeal.τ).loc Cert.AdamMixIdeal.main_v4_2)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v4_0) = v0 c
          ∧ r.2.mem ((c.tc : Thread Cert.AdamMixIdeal.nD Cert.AdamMixIdeal.τ).loc Cert.AdamMixIdeal.main_v4_1) = v1 c
          ∧ r.2.mem ((c.tc : Thread Cert.AdamMixIdeal.nD Cert.AdamMixIdeal.τ).loc Cert.AdamMixIdeal.main_v4_2) = v2 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_v24) = v0 c
          ∧ r.2.mem ((c.tc : Thread Cert.AdamMixRefIdeal.nD Cert.AdamMixRefIdeal.τ).loc Cert.AdamMixRefIdeal.main_v25) = v1 c
          ∧ r.2.mem ((c.tc : Thread Cert.AdamMixRefIdeal.nD Cert.AdamMixRefIdeal.τ).loc Cert.AdamMixRefIdeal.main_v26) = v2 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3))

def preserves_AdamPleProj_AdamPleProjIdeal : Prop :=
  True

def algebraic_AdamPleProjIdeal_AdamPleProjRefIdeal [hAdamPleProjIdeal : Cert.AdamPleProjIdeal.Facts] [hAdamPleProjRefIdeal : Cert.AdamPleProjRefIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg)
    (m' : (ℓ : Loc Cert.AdamPleProjRefIdeal.nD Cert.AdamPleProjRefIdeal.τ Cert.AdamPleProjRefIdeal.sig) → Buf (Elt Ideal) ℓ) (g' : Dev Cert.AdamPleProjRefIdeal.nD → PrngReg), Pre_AdamPleProjIdeal m →
    (∀ c : Dev Cert.AdamPleProjIdeal.nD,
      m' ((c.tc : Thread Cert.AdamPleProjRefIdeal.nD Cert.AdamPleProjRefIdeal.τ).loc Cert.AdamPleProjRefIdeal.main_arg0) = m ((c.tc : Thread Cert.AdamPleProjIdeal.nD Cert.AdamPleProjIdeal.τ).loc Cert.AdamPleProjIdeal.main_arg0)
      ∧ m' ((c.tc : Thread Cert.AdamPleProjRefIdeal.nD Cert.AdamPleProjRefIdeal.τ).loc Cert.AdamPleProjRefIdeal.main_arg1) = m ((c.tc : Thread Cert.AdamPleProjIdeal.nD Cert.AdamPleProjIdeal.τ).loc Cert.AdamPleProjIdeal.main_arg1)
      ∧ m' ((c.tc : Thread Cert.AdamPleProjRefIdeal.nD Cert.AdamPleProjRefIdeal.τ).loc Cert.AdamPleProjRefIdeal.main_arg2) = m ((c.tc : Thread Cert.AdamPleProjIdeal.nD Cert.AdamPleProjIdeal.τ).loc Cert.AdamPleProjIdeal.main_arg2)
      ∧ m' ((c.tc : Thread Cert.AdamPleProjRefIdeal.nD Cert.AdamPleProjRefIdeal.τ).loc Cert.AdamPleProjRefIdeal.main_arg3) = m ((c.tc : Thread Cert.AdamPleProjIdeal.nD Cert.AdamPleProjIdeal.τ).loc Cert.AdamPleProjIdeal.main_arg3)) →
    ∃ (v0 : (c : Dev Cert.AdamPleProjIdeal.nD) → Buf (Elt Ideal) ((c.tc : Thread Cert.AdamPleProjIdeal.nD Cert.AdamPleProjIdeal.τ).loc Cert.AdamPleProjIdeal.main_v4_0)) (v1 : (c : Dev Cert.AdamPleProjIdeal.nD) → Buf (Elt Ideal) ((c.tc : Thread Cert.AdamPleProjIdeal.nD Cert.AdamPleProjIdeal.τ).loc Cert.AdamPleProjIdeal.main_v4_1)) (v2 : (c : Dev Cert.AdamPleProjIdeal.nD) → Buf (Elt Ideal) ((c.tc : Thread Cert.AdamPleProjIdeal.nD Cert.AdamPleProjIdeal.τ).loc Cert.AdamPleProjIdeal.main_v4_2)),
      θ_run (Cert.AdamPleProjIdeal.defs (F := Ideal)) (onTc (τ := Cert.AdamPleProjIdeal.τ) (Cert.AdamPleProjIdeal.main (F := Ideal))) ⟨m, fun _ => 0, g⟩ (fun r => ∀ c : Dev Cert.AdamPleProjIdeal.nD,
          r.2.mem ((c.tc : Thread Cert.AdamPleProjIdeal.nD Cert.AdamPleProjIdeal.τ).loc Cert.AdamPleProjIdeal.main_v4_0) = v0 c
          ∧ r.2.mem ((c.tc : Thread Cert.AdamPleProjIdeal.nD Cert.AdamPleProjIdeal.τ).loc Cert.AdamPleProjIdeal.main_v4_1) = v1 c
          ∧ r.2.mem ((c.tc : Thread Cert.AdamPleProjIdeal.nD Cert.AdamPleProjIdeal.τ).loc Cert.AdamPleProjIdeal.main_v4_2) = v2 c
          ∧ r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
          ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
          ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
          ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ θ_run (Cert.AdamPleProjRefIdeal.defs (F := Ideal)) (onTc (τ := Cert.AdamPleProjRefIdeal.τ) (Cert.AdamPleProjRefIdeal.main (F := Ideal))) ⟨m', fun _ => 0, g'⟩ (fun r => ∀ c : Dev Cert.AdamPleProjRefIdeal.nD,
          r.2.mem ((c.tc : Thread Cert.AdamPleProjRefIdeal.nD Cert.AdamPleProjRefIdeal.τ).loc Cert.AdamPleProjRefIdeal.main_v24) = v0 c
          ∧ r.2.mem ((c.tc : Thread Cert.AdamPleProjRefIdeal.nD Cert.AdamPleProjRefIdeal.τ).loc Cert.AdamPleProjRefIdeal.main_v25) = v1 c
          ∧ r.2.mem ((c.tc : Thread Cert.AdamPleProjRefIdeal.nD Cert.AdamPleProjRefIdeal.τ).loc Cert.AdamPleProjRefIdeal.main_v26) = v2 c
          ∧ r.2.mem ((c.tc : Thread Cert.AdamPleProjRefIdeal.nD Cert.AdamPleProjRefIdeal.τ).loc Cert.AdamPleProjRefIdeal.main_arg0) = m' ((c.tc : Thread Cert.AdamPleProjRefIdeal.nD Cert.AdamPleProjRefIdeal.τ).loc Cert.AdamPleProjRefIdeal.main_arg0)
          ∧ r.2.mem ((c.tc : Thread Cert.AdamPleProjRefIdeal.nD Cert.AdamPleProjRefIdeal.τ).loc Cert.AdamPleProjRefIdeal.main_arg1) = m' ((c.tc : Thread Cert.AdamPleProjRefIdeal.nD Cert.AdamPleProjRefIdeal.τ).loc Cert.AdamPleProjRefIdeal.main_arg1)
          ∧ r.2.mem ((c.tc : Thread Cert.AdamPleProjRefIdeal.nD Cert.AdamPleProjRefIdeal.τ).loc Cert.AdamPleProjRefIdeal.main_arg2) = m' ((c.tc : Thread Cert.AdamPleProjRefIdeal.nD Cert.AdamPleProjRefIdeal.τ).loc Cert.AdamPleProjRefIdeal.main_arg2)
          ∧ r.2.mem ((c.tc : Thread Cert.AdamPleProjRefIdeal.nD Cert.AdamPleProjRefIdeal.τ).loc Cert.AdamPleProjRefIdeal.main_arg3) = m' ((c.tc : Thread Cert.AdamPleProjRefIdeal.nD Cert.AdamPleProjRefIdeal.τ).loc Cert.AdamPleProjRefIdeal.main_arg3))

def preserves_AdamLoraIn_AdamLoraInIdeal : Prop :=
  True

def algebraic_AdamLoraInIdeal_AdamLoraInRefIdeal [hAdamLoraInIdeal : Cert.AdamLoraInIdeal.Facts] [hAdamLoraInRefIdeal : Cert.AdamLoraInRefIdeal.Facts] : Prop :=
  ∀ (m : (ℓ : Loc Cert.AdamLoraInIdeal.nD Cert.AdamLoraInIdeal.τ Cert.AdamLoraInIdeal.sig) → Buf (Elt Ideal) ℓ) (g : Dev Cert.AdamLoraInIdeal.nD → PrngReg)
    (m' : (ℓ : Loc Cert.AdamLoraInRefIdeal.nD Cert.AdamLoraInRefIdeal.τ Cert.AdamLoraInRefIdeal.sig) → Buf (Elt Ideal) ℓ) (g' : Dev Cert.AdamLoraInRefIdeal.nD → PrngReg), Pre_AdamLoraInIdeal m →
    (∀ c : Dev Cert.AdamLoraInIdeal.nD,
      m' ((c.tc : Thread Cert.AdamLoraInRefIdeal.nD Cert.AdamLoraInRefIdeal.τ).loc Cert.AdamLoraInRefIdeal.main_arg0) = m ((c.tc : Thread Cert.AdamLoraInIdeal.nD Cert.AdamLoraInIdeal.τ).loc Cert.AdamLoraInIdeal.main_arg0)
      ∧ m' ((c.tc : Thread Cert.AdamLoraInRefIdeal.nD Cert.AdamLoraInRefIdeal.τ).loc Cert.AdamLoraInRefIdeal.main_arg1) = m ((c.tc : Thread Cert.AdamLoraInIdeal.nD Cert.AdamLoraInIdeal.τ).loc Cert.AdamLoraInIdeal.main_arg1)
      ∧ m' ((c.tc : Thread Cert.AdamLoraInRefIdeal.nD Cert.AdamLoraInRefIdeal.τ).loc Cert.AdamLoraInRefIdeal.main_arg2) = m ((c.tc : Thread Cert.AdamLoraInIdeal.nD Cert.AdamLoraInIdeal.τ).loc Cert.AdamLoraInIdeal.main_arg2)
      ∧ m' ((c.tc : Thread Cert.AdamLoraInRefIdeal.nD Cert.AdamLoraInRefIdeal.τ).loc Cert.AdamLoraInRefIdeal.main_arg3) = m ((c.tc : Thread Cert.AdamLoraInIdeal.nD Cert.AdamLoraInIdeal.τ).loc Cert.AdamLoraInIdeal.main_arg3)) →
    ∃ (v0 : (c : Dev Cert.AdamLoraInIdeal.nD) → Buf (Elt Ideal) ((c.tc : Thread Cert.AdamLoraInIdeal.nD Cert.AdamLoraInIdeal.τ).loc Cert.AdamLoraInIdeal.main_v4_0)) (v1 : (c : Dev Cert.AdamLoraInIdeal.nD) → Buf (Elt Ideal) ((c.tc : Thread Cert.AdamLoraInIdeal.nD Cert.AdamLoraInIdeal.τ).loc Cert.AdamLoraInIdeal.main_v4_1)) (v2 : (c : Dev Cert.AdamLoraInIdeal.nD) → Buf (Elt Ideal) ((c.tc : Thread Cert.AdamLoraInIdeal.nD Cert.AdamLoraInIdeal.τ).loc Cert.AdamLoraInIdeal.main_v4_2)),
      θ_run (Cert.AdamLoraInIdeal.defs (F := Ideal)) (onTc (τ := Cert.AdamLoraInIdeal.τ) (Cert.AdamLoraInIdeal.main (F := Ideal))) ⟨m, fun _ => 0, g⟩ (fun r => ∀ c : Dev Cert.AdamLoraInIdeal.nD,
          r.2.mem ((c.tc : Thread Cert.AdamLoraInIdeal.nD Cert.AdamLoraInIdeal.τ).loc Cert.AdamLoraInIdeal.main_v4_0) = v0 c
          ∧ r.2.mem ((c.tc : Thread Cert.AdamLoraInIdeal.nD Cert.AdamLoraInIdeal.τ).loc Cert.AdamLoraInIdeal.main_v4_1) = v1 c
          ∧ r.2.mem ((c.tc : Thread Cert.AdamLoraInIdeal.nD Cert.AdamLoraInIdeal.τ).loc Cert.AdamLoraInIdeal.main_v4_2) = v2 c
          ∧ r.2.mem ((c.tc : Thread Cert.AdamLoraInIdeal.nD Cert.AdamLoraInIdeal.τ).loc Cert.AdamLoraInIdeal.main_arg0) = m ((c.tc : Thread Cert.AdamLoraInIdeal.nD Cert.AdamLoraInIdeal.τ).loc Cert.AdamLoraInIdeal.main_arg0)
          ∧ r.2.mem ((c.tc : Thread Cert.AdamLoraInIdeal.nD Cert.AdamLoraInIdeal.τ).loc Cert.AdamLoraInIdeal.main_arg1) = m ((c.tc : Thread Cert.AdamLoraInIdeal.nD Cert.AdamLoraInIdeal.τ).loc Cert.AdamLoraInIdeal.main_arg1)
          ∧ r.2.mem ((c.tc : Thread Cert.AdamLoraInIdeal.nD Cert.AdamLoraInIdeal.τ).loc Cert.AdamLoraInIdeal.main_arg2) = m ((c.tc : Thread Cert.AdamLoraInIdeal.nD Cert.AdamLoraInIdeal.τ).loc Cert.AdamLoraInIdeal.main_arg2)
          ∧ r.2.mem ((c.tc : Thread Cert.AdamLoraInIdeal.nD Cert.AdamLoraInIdeal.τ).loc Cert.AdamLoraInIdeal.main_arg3) = m ((c.tc : Thread Cert.AdamLoraInIdeal.nD Cert.AdamLoraInIdeal.τ).loc Cert.AdamLoraInIdeal.main_arg3))
      ∧ θ_run (Cert.AdamLoraInRefIdeal.defs (F := Ideal)) (onTc (τ := Cert.AdamLoraInRefIdeal.τ) (Cert.AdamLoraInRefIdeal.main (F := Ideal))) ⟨m', fun _ => 0, g'⟩ (fun r => ∀ c : Dev Cert.AdamLoraInRefIdeal.nD,
          r.2.mem ((c.tc : Thread Cert.AdamLoraInRefIdeal.nD Cert.AdamLoraInRefIdeal.τ).loc Cert.AdamLoraInRefIdeal.main_v24) = v0 c
          ∧ r.2.mem ((c.tc : Thread Cert.AdamLoraInRefIdeal.nD Cert.AdamLoraInRefIdeal.τ).loc Cert.AdamLoraInRefIdeal.main_v25) = v1 c
          ∧ r.2.mem ((c.tc : Thread Cert.AdamLoraInRefIdeal.nD Cert.AdamLoraInRefIdeal.τ).loc Cert.AdamLoraInRefIdeal.main_v26) = v2 c
          ∧ r.2.mem ((c.tc : Thread Cert.AdamLoraInRefIdeal.nD Cert.AdamLoraInRefIdeal.τ).loc Cert.AdamLoraInRefIdeal.main_arg0) = m' ((c.tc : Thread Cert.AdamLoraInRefIdeal.nD Cert.AdamLoraInRefIdeal.τ).loc Cert.AdamLoraInRefIdeal.main_arg0)
          ∧ r.2.mem ((c.tc : Thread Cert.AdamLoraInRefIdeal.nD Cert.AdamLoraInRefIdeal.τ).loc Cert.AdamLoraInRefIdeal.main_arg1) = m' ((c.tc : Thread Cert.AdamLoraInRefIdeal.nD Cert.AdamLoraInRefIdeal.τ).loc Cert.AdamLoraInRefIdeal.main_arg1)
          ∧ r.2.mem ((c.tc : Thread Cert.AdamLoraInRefIdeal.nD Cert.AdamLoraInRefIdeal.τ).loc Cert.AdamLoraInRefIdeal.main_arg2) = m' ((c.tc : Thread Cert.AdamLoraInRefIdeal.nD Cert.AdamLoraInRefIdeal.τ).loc Cert.AdamLoraInRefIdeal.main_arg2)
          ∧ r.2.mem ((c.tc : Thread Cert.AdamLoraInRefIdeal.nD Cert.AdamLoraInRefIdeal.τ).loc Cert.AdamLoraInRefIdeal.main_arg3) = m' ((c.tc : Thread Cert.AdamLoraInRefIdeal.nD Cert.AdamLoraInRefIdeal.τ).loc Cert.AdamLoraInRefIdeal.main_arg3))

def preserves_AdamLoraOut_AdamLoraOutIdeal : Prop :=
  True

def algebraic_AdamLoraOutIdeal_AdamLoraOutRefIdeal [hAdamLoraOutIdeal : Cert.AdamLoraOutIdeal.Facts] [hAdamLoraOutRefIdeal : Cert.AdamLoraOutRefIdeal.Facts] : Prop :=
  ∀ (m : (ℓ : Loc Cert.AdamLoraOutIdeal.nD Cert.AdamLoraOutIdeal.τ Cert.AdamLoraOutIdeal.sig) → Buf (Elt Ideal) ℓ) (g : Dev Cert.AdamLoraOutIdeal.nD → PrngReg)
    (m' : (ℓ : Loc Cert.AdamLoraOutRefIdeal.nD Cert.AdamLoraOutRefIdeal.τ Cert.AdamLoraOutRefIdeal.sig) → Buf (Elt Ideal) ℓ) (g' : Dev Cert.AdamLoraOutRefIdeal.nD → PrngReg), Pre_AdamLoraOutIdeal m →
    (∀ c : Dev Cert.AdamLoraOutIdeal.nD,
      m' ((c.tc : Thread Cert.AdamLoraOutRefIdeal.nD Cert.AdamLoraOutRefIdeal.τ).loc Cert.AdamLoraOutRefIdeal.main_arg0) = m ((c.tc : Thread Cert.AdamLoraOutIdeal.nD Cert.AdamLoraOutIdeal.τ).loc Cert.AdamLoraOutIdeal.main_arg0)
      ∧ m' ((c.tc : Thread Cert.AdamLoraOutRefIdeal.nD Cert.AdamLoraOutRefIdeal.τ).loc Cert.AdamLoraOutRefIdeal.main_arg1) = m ((c.tc : Thread Cert.AdamLoraOutIdeal.nD Cert.AdamLoraOutIdeal.τ).loc Cert.AdamLoraOutIdeal.main_arg1)
      ∧ m' ((c.tc : Thread Cert.AdamLoraOutRefIdeal.nD Cert.AdamLoraOutRefIdeal.τ).loc Cert.AdamLoraOutRefIdeal.main_arg2) = m ((c.tc : Thread Cert.AdamLoraOutIdeal.nD Cert.AdamLoraOutIdeal.τ).loc Cert.AdamLoraOutIdeal.main_arg2)
      ∧ m' ((c.tc : Thread Cert.AdamLoraOutRefIdeal.nD Cert.AdamLoraOutRefIdeal.τ).loc Cert.AdamLoraOutRefIdeal.main_arg3) = m ((c.tc : Thread Cert.AdamLoraOutIdeal.nD Cert.AdamLoraOutIdeal.τ).loc Cert.AdamLoraOutIdeal.main_arg3)) →
    ∃ (v0 : (c : Dev Cert.AdamLoraOutIdeal.nD) → Buf (Elt Ideal) ((c.tc : Thread Cert.AdamLoraOutIdeal.nD Cert.AdamLoraOutIdeal.τ).loc Cert.AdamLoraOutIdeal.main_v4_0)) (v1 : (c : Dev Cert.AdamLoraOutIdeal.nD) → Buf (Elt Ideal) ((c.tc : Thread Cert.AdamLoraOutIdeal.nD Cert.AdamLoraOutIdeal.τ).loc Cert.AdamLoraOutIdeal.main_v4_1)) (v2 : (c : Dev Cert.AdamLoraOutIdeal.nD) → Buf (Elt Ideal) ((c.tc : Thread Cert.AdamLoraOutIdeal.nD Cert.AdamLoraOutIdeal.τ).loc Cert.AdamLoraOutIdeal.main_v4_2)),
      θ_run (Cert.AdamLoraOutIdeal.defs (F := Ideal)) (onTc (τ := Cert.AdamLoraOutIdeal.τ) (Cert.AdamLoraOutIdeal.main (F := Ideal))) ⟨m, fun _ => 0, g⟩ (fun r => ∀ c : Dev Cert.AdamLoraOutIdeal.nD,
          r.2.mem ((c.tc : Thread Cert.AdamLoraOutIdeal.nD Cert.AdamLoraOutIdeal.τ).loc Cert.AdamLoraOutIdeal.main_v4_0) = v0 c
          ∧ r.2.mem ((c.tc : Thread Cert.AdamLoraOutIdeal.nD Cert.AdamLoraOutIdeal.τ).loc Cert.AdamLoraOutIdeal.main_v4_1) = v1 c
          ∧ r.2.mem ((c.tc : Thread Cert.AdamLoraOutIdeal.nD Cert.AdamLoraOutIdeal.τ).loc Cert.AdamLoraOutIdeal.main_v4_2) = v2 c
          ∧ r.2.mem ((c.tc : Thread Cert.AdamLoraOutIdeal.nD Cert.AdamLoraOutIdeal.τ).loc Cert.AdamLoraOutIdeal.main_arg0) = m ((c.tc : Thread Cert.AdamLoraOutIdeal.nD Cert.AdamLoraOutIdeal.τ).loc Cert.AdamLoraOutIdeal.main_arg0)
          ∧ r.2.mem ((c.tc : Thread Cert.AdamLoraOutIdeal.nD Cert.AdamLoraOutIdeal.τ).loc Cert.AdamLoraOutIdeal.main_arg1) = m ((c.tc : Thread Cert.AdamLoraOutIdeal.nD Cert.AdamLoraOutIdeal.τ).loc Cert.AdamLoraOutIdeal.main_arg1)
          ∧ r.2.mem ((c.tc : Thread Cert.AdamLoraOutIdeal.nD Cert.AdamLoraOutIdeal.τ).loc Cert.AdamLoraOutIdeal.main_arg2) = m ((c.tc : Thread Cert.AdamLoraOutIdeal.nD Cert.AdamLoraOutIdeal.τ).loc Cert.AdamLoraOutIdeal.main_arg2)
          ∧ r.2.mem ((c.tc : Thread Cert.AdamLoraOutIdeal.nD Cert.AdamLoraOutIdeal.τ).loc Cert.AdamLoraOutIdeal.main_arg3) = m ((c.tc : Thread Cert.AdamLoraOutIdeal.nD Cert.AdamLoraOutIdeal.τ).loc Cert.AdamLoraOutIdeal.main_arg3))
      ∧ θ_run (Cert.AdamLoraOutRefIdeal.defs (F := Ideal)) (onTc (τ := Cert.AdamLoraOutRefIdeal.τ) (Cert.AdamLoraOutRefIdeal.main (F := Ideal))) ⟨m', fun _ => 0, g'⟩ (fun r => ∀ c : Dev Cert.AdamLoraOutRefIdeal.nD,
          r.2.mem ((c.tc : Thread Cert.AdamLoraOutRefIdeal.nD Cert.AdamLoraOutRefIdeal.τ).loc Cert.AdamLoraOutRefIdeal.main_v24) = v0 c
          ∧ r.2.mem ((c.tc : Thread Cert.AdamLoraOutRefIdeal.nD Cert.AdamLoraOutRefIdeal.τ).loc Cert.AdamLoraOutRefIdeal.main_v25) = v1 c
          ∧ r.2.mem ((c.tc : Thread Cert.AdamLoraOutRefIdeal.nD Cert.AdamLoraOutRefIdeal.τ).loc Cert.AdamLoraOutRefIdeal.main_v26) = v2 c
          ∧ r.2.mem ((c.tc : Thread Cert.AdamLoraOutRefIdeal.nD Cert.AdamLoraOutRefIdeal.τ).loc Cert.AdamLoraOutRefIdeal.main_arg0) = m' ((c.tc : Thread Cert.AdamLoraOutRefIdeal.nD Cert.AdamLoraOutRefIdeal.τ).loc Cert.AdamLoraOutRefIdeal.main_arg0)
          ∧ r.2.mem ((c.tc : Thread Cert.AdamLoraOutRefIdeal.nD Cert.AdamLoraOutRefIdeal.τ).loc Cert.AdamLoraOutRefIdeal.main_arg1) = m' ((c.tc : Thread Cert.AdamLoraOutRefIdeal.nD Cert.AdamLoraOutRefIdeal.τ).loc Cert.AdamLoraOutRefIdeal.main_arg1)
          ∧ r.2.mem ((c.tc : Thread Cert.AdamLoraOutRefIdeal.nD Cert.AdamLoraOutRefIdeal.τ).loc Cert.AdamLoraOutRefIdeal.main_arg2) = m' ((c.tc : Thread Cert.AdamLoraOutRefIdeal.nD Cert.AdamLoraOutRefIdeal.τ).loc Cert.AdamLoraOutRefIdeal.main_arg2)
          ∧ r.2.mem ((c.tc : Thread Cert.AdamLoraOutRefIdeal.nD Cert.AdamLoraOutRefIdeal.τ).loc Cert.AdamLoraOutRefIdeal.main_arg3) = m' ((c.tc : Thread Cert.AdamLoraOutRefIdeal.nD Cert.AdamLoraOutRefIdeal.τ).loc Cert.AdamLoraOutRefIdeal.main_arg3))

def preserves_AdamGateIn_AdamGateInIdeal : Prop :=
  True

def algebraic_AdamGateInIdeal_AdamGateInRefIdeal [hAdamGateInIdeal : Cert.AdamGateInIdeal.Facts] [hAdamGateInRefIdeal : Cert.AdamGateInRefIdeal.Facts] : Prop :=
  ∀ (m : (ℓ : Loc Cert.AdamGateInIdeal.nD Cert.AdamGateInIdeal.τ Cert.AdamGateInIdeal.sig) → Buf (Elt Ideal) ℓ) (g : Dev Cert.AdamGateInIdeal.nD → PrngReg)
    (m' : (ℓ : Loc Cert.AdamGateInRefIdeal.nD Cert.AdamGateInRefIdeal.τ Cert.AdamGateInRefIdeal.sig) → Buf (Elt Ideal) ℓ) (g' : Dev Cert.AdamGateInRefIdeal.nD → PrngReg), Pre_AdamGateInIdeal m →
    (∀ c : Dev Cert.AdamGateInIdeal.nD,
      m' ((c.tc : Thread Cert.AdamGateInRefIdeal.nD Cert.AdamGateInRefIdeal.τ).loc Cert.AdamGateInRefIdeal.main_arg0) = m ((c.tc : Thread Cert.AdamGateInIdeal.nD Cert.AdamGateInIdeal.τ).loc Cert.AdamGateInIdeal.main_arg0)
      ∧ m' ((c.tc : Thread Cert.AdamGateInRefIdeal.nD Cert.AdamGateInRefIdeal.τ).loc Cert.AdamGateInRefIdeal.main_arg1) = m ((c.tc : Thread Cert.AdamGateInIdeal.nD Cert.AdamGateInIdeal.τ).loc Cert.AdamGateInIdeal.main_arg1)
      ∧ m' ((c.tc : Thread Cert.AdamGateInRefIdeal.nD Cert.AdamGateInRefIdeal.τ).loc Cert.AdamGateInRefIdeal.main_arg2) = m ((c.tc : Thread Cert.AdamGateInIdeal.nD Cert.AdamGateInIdeal.τ).loc Cert.AdamGateInIdeal.main_arg2)
      ∧ m' ((c.tc : Thread Cert.AdamGateInRefIdeal.nD Cert.AdamGateInRefIdeal.τ).loc Cert.AdamGateInRefIdeal.main_arg3) = m ((c.tc : Thread Cert.AdamGateInIdeal.nD Cert.AdamGateInIdeal.τ).loc Cert.AdamGateInIdeal.main_arg3)) →
    ∃ (v0 : (c : Dev Cert.AdamGateInIdeal.nD) → Buf (Elt Ideal) ((c.tc : Thread Cert.AdamGateInIdeal.nD Cert.AdamGateInIdeal.τ).loc Cert.AdamGateInIdeal.main_v4_0)) (v1 : (c : Dev Cert.AdamGateInIdeal.nD) → Buf (Elt Ideal) ((c.tc : Thread Cert.AdamGateInIdeal.nD Cert.AdamGateInIdeal.τ).loc Cert.AdamGateInIdeal.main_v4_1)) (v2 : (c : Dev Cert.AdamGateInIdeal.nD) → Buf (Elt Ideal) ((c.tc : Thread Cert.AdamGateInIdeal.nD Cert.AdamGateInIdeal.τ).loc Cert.AdamGateInIdeal.main_v4_2)),
      θ_run (Cert.AdamGateInIdeal.defs (F := Ideal)) (onTc (τ := Cert.AdamGateInIdeal.τ) (Cert.AdamGateInIdeal.main (F := Ideal))) ⟨m, fun _ => 0, g⟩ (fun r => ∀ c : Dev Cert.AdamGateInIdeal.nD,
          r.2.mem ((c.tc : Thread Cert.AdamGateInIdeal.nD Cert.AdamGateInIdeal.τ).loc Cert.AdamGateInIdeal.main_v4_0) = v0 c
          ∧ r.2.mem ((c.tc : Thread Cert.AdamGateInIdeal.nD Cert.AdamGateInIdeal.τ).loc Cert.AdamGateInIdeal.main_v4_1) = v1 c
          ∧ r.2.mem ((c.tc : Thread Cert.AdamGateInIdeal.nD Cert.AdamGateInIdeal.τ).loc Cert.AdamGateInIdeal.main_v4_2) = v2 c
          ∧ r.2.mem ((c.tc : Thread Cert.AdamGateInIdeal.nD Cert.AdamGateInIdeal.τ).loc Cert.AdamGateInIdeal.main_arg0) = m ((c.tc : Thread Cert.AdamGateInIdeal.nD Cert.AdamGateInIdeal.τ).loc Cert.AdamGateInIdeal.main_arg0)
          ∧ r.2.mem ((c.tc : Thread Cert.AdamGateInIdeal.nD Cert.AdamGateInIdeal.τ).loc Cert.AdamGateInIdeal.main_arg1) = m ((c.tc : Thread Cert.AdamGateInIdeal.nD Cert.AdamGateInIdeal.τ).loc Cert.AdamGateInIdeal.main_arg1)
          ∧ r.2.mem ((c.tc : Thread Cert.AdamGateInIdeal.nD Cert.AdamGateInIdeal.τ).loc Cert.AdamGateInIdeal.main_arg2) = m ((c.tc : Thread Cert.AdamGateInIdeal.nD Cert.AdamGateInIdeal.τ).loc Cert.AdamGateInIdeal.main_arg2)
          ∧ r.2.mem ((c.tc : Thread Cert.AdamGateInIdeal.nD Cert.AdamGateInIdeal.τ).loc Cert.AdamGateInIdeal.main_arg3) = m ((c.tc : Thread Cert.AdamGateInIdeal.nD Cert.AdamGateInIdeal.τ).loc Cert.AdamGateInIdeal.main_arg3))
      ∧ θ_run (Cert.AdamGateInRefIdeal.defs (F := Ideal)) (onTc (τ := Cert.AdamGateInRefIdeal.τ) (Cert.AdamGateInRefIdeal.main (F := Ideal))) ⟨m', fun _ => 0, g'⟩ (fun r => ∀ c : Dev Cert.AdamGateInRefIdeal.nD,
          r.2.mem ((c.tc : Thread Cert.AdamGateInRefIdeal.nD Cert.AdamGateInRefIdeal.τ).loc Cert.AdamGateInRefIdeal.main_v24) = v0 c
          ∧ r.2.mem ((c.tc : Thread Cert.AdamGateInRefIdeal.nD Cert.AdamGateInRefIdeal.τ).loc Cert.AdamGateInRefIdeal.main_v25) = v1 c
          ∧ r.2.mem ((c.tc : Thread Cert.AdamGateInRefIdeal.nD Cert.AdamGateInRefIdeal.τ).loc Cert.AdamGateInRefIdeal.main_v26) = v2 c
          ∧ r.2.mem ((c.tc : Thread Cert.AdamGateInRefIdeal.nD Cert.AdamGateInRefIdeal.τ).loc Cert.AdamGateInRefIdeal.main_arg0) = m' ((c.tc : Thread Cert.AdamGateInRefIdeal.nD Cert.AdamGateInRefIdeal.τ).loc Cert.AdamGateInRefIdeal.main_arg0)
          ∧ r.2.mem ((c.tc : Thread Cert.AdamGateInRefIdeal.nD Cert.AdamGateInRefIdeal.τ).loc Cert.AdamGateInRefIdeal.main_arg1) = m' ((c.tc : Thread Cert.AdamGateInRefIdeal.nD Cert.AdamGateInRefIdeal.τ).loc Cert.AdamGateInRefIdeal.main_arg1)
          ∧ r.2.mem ((c.tc : Thread Cert.AdamGateInRefIdeal.nD Cert.AdamGateInRefIdeal.τ).loc Cert.AdamGateInRefIdeal.main_arg2) = m' ((c.tc : Thread Cert.AdamGateInRefIdeal.nD Cert.AdamGateInRefIdeal.τ).loc Cert.AdamGateInRefIdeal.main_arg2)
          ∧ r.2.mem ((c.tc : Thread Cert.AdamGateInRefIdeal.nD Cert.AdamGateInRefIdeal.τ).loc Cert.AdamGateInRefIdeal.main_arg3) = m' ((c.tc : Thread Cert.AdamGateInRefIdeal.nD Cert.AdamGateInRefIdeal.τ).loc Cert.AdamGateInRefIdeal.main_arg3))

def preserves_AdamGateOut_AdamGateOutIdeal : Prop :=
  True

def algebraic_AdamGateOutIdeal_AdamGateOutRefIdeal [hAdamGateOutIdeal : Cert.AdamGateOutIdeal.Facts] [hAdamGateOutRefIdeal : Cert.AdamGateOutRefIdeal.Facts] : Prop :=
  ∀ (m : (ℓ : Loc Cert.AdamGateOutIdeal.nD Cert.AdamGateOutIdeal.τ Cert.AdamGateOutIdeal.sig) → Buf (Elt Ideal) ℓ) (g : Dev Cert.AdamGateOutIdeal.nD → PrngReg)
    (m' : (ℓ : Loc Cert.AdamGateOutRefIdeal.nD Cert.AdamGateOutRefIdeal.τ Cert.AdamGateOutRefIdeal.sig) → Buf (Elt Ideal) ℓ) (g' : Dev Cert.AdamGateOutRefIdeal.nD → PrngReg), Pre_AdamGateOutIdeal m →
    (∀ c : Dev Cert.AdamGateOutIdeal.nD,
      m' ((c.tc : Thread Cert.AdamGateOutRefIdeal.nD Cert.AdamGateOutRefIdeal.τ).loc Cert.AdamGateOutRefIdeal.main_arg0) = m ((c.tc : Thread Cert.AdamGateOutIdeal.nD Cert.AdamGateOutIdeal.τ).loc Cert.AdamGateOutIdeal.main_arg0)
      ∧ m' ((c.tc : Thread Cert.AdamGateOutRefIdeal.nD Cert.AdamGateOutRefIdeal.τ).loc Cert.AdamGateOutRefIdeal.main_arg1) = m ((c.tc : Thread Cert.AdamGateOutIdeal.nD Cert.AdamGateOutIdeal.τ).loc Cert.AdamGateOutIdeal.main_arg1)
      ∧ m' ((c.tc : Thread Cert.AdamGateOutRefIdeal.nD Cert.AdamGateOutRefIdeal.τ).loc Cert.AdamGateOutRefIdeal.main_arg2) = m ((c.tc : Thread Cert.AdamGateOutIdeal.nD Cert.AdamGateOutIdeal.τ).loc Cert.AdamGateOutIdeal.main_arg2)
      ∧ m' ((c.tc : Thread Cert.AdamGateOutRefIdeal.nD Cert.AdamGateOutRefIdeal.τ).loc Cert.AdamGateOutRefIdeal.main_arg3) = m ((c.tc : Thread Cert.AdamGateOutIdeal.nD Cert.AdamGateOutIdeal.τ).loc Cert.AdamGateOutIdeal.main_arg3)) →
    ∃ (v0 : (c : Dev Cert.AdamGateOutIdeal.nD) → Buf (Elt Ideal) ((c.tc : Thread Cert.AdamGateOutIdeal.nD Cert.AdamGateOutIdeal.τ).loc Cert.AdamGateOutIdeal.main_v4_0)) (v1 : (c : Dev Cert.AdamGateOutIdeal.nD) → Buf (Elt Ideal) ((c.tc : Thread Cert.AdamGateOutIdeal.nD Cert.AdamGateOutIdeal.τ).loc Cert.AdamGateOutIdeal.main_v4_1)) (v2 : (c : Dev Cert.AdamGateOutIdeal.nD) → Buf (Elt Ideal) ((c.tc : Thread Cert.AdamGateOutIdeal.nD Cert.AdamGateOutIdeal.τ).loc Cert.AdamGateOutIdeal.main_v4_2)),
      θ_run (Cert.AdamGateOutIdeal.defs (F := Ideal)) (onTc (τ := Cert.AdamGateOutIdeal.τ) (Cert.AdamGateOutIdeal.main (F := Ideal))) ⟨m, fun _ => 0, g⟩ (fun r => ∀ c : Dev Cert.AdamGateOutIdeal.nD,
          r.2.mem ((c.tc : Thread Cert.AdamGateOutIdeal.nD Cert.AdamGateOutIdeal.τ).loc Cert.AdamGateOutIdeal.main_v4_0) = v0 c
          ∧ r.2.mem ((c.tc : Thread Cert.AdamGateOutIdeal.nD Cert.AdamGateOutIdeal.τ).loc Cert.AdamGateOutIdeal.main_v4_1) = v1 c
          ∧ r.2.mem ((c.tc : Thread Cert.AdamGateOutIdeal.nD Cert.AdamGateOutIdeal.τ).loc Cert.AdamGateOutIdeal.main_v4_2) = v2 c
          ∧ r.2.mem ((c.tc : Thread Cert.AdamGateOutIdeal.nD Cert.AdamGateOutIdeal.τ).loc Cert.AdamGateOutIdeal.main_arg0) = m ((c.tc : Thread Cert.AdamGateOutIdeal.nD Cert.AdamGateOutIdeal.τ).loc Cert.AdamGateOutIdeal.main_arg0)
          ∧ r.2.mem ((c.tc : Thread Cert.AdamGateOutIdeal.nD Cert.AdamGateOutIdeal.τ).loc Cert.AdamGateOutIdeal.main_arg1) = m ((c.tc : Thread Cert.AdamGateOutIdeal.nD Cert.AdamGateOutIdeal.τ).loc Cert.AdamGateOutIdeal.main_arg1)
          ∧ r.2.mem ((c.tc : Thread Cert.AdamGateOutIdeal.nD Cert.AdamGateOutIdeal.τ).loc Cert.AdamGateOutIdeal.main_arg2) = m ((c.tc : Thread Cert.AdamGateOutIdeal.nD Cert.AdamGateOutIdeal.τ).loc Cert.AdamGateOutIdeal.main_arg2)
          ∧ r.2.mem ((c.tc : Thread Cert.AdamGateOutIdeal.nD Cert.AdamGateOutIdeal.τ).loc Cert.AdamGateOutIdeal.main_arg3) = m ((c.tc : Thread Cert.AdamGateOutIdeal.nD Cert.AdamGateOutIdeal.τ).loc Cert.AdamGateOutIdeal.main_arg3))
      ∧ θ_run (Cert.AdamGateOutRefIdeal.defs (F := Ideal)) (onTc (τ := Cert.AdamGateOutRefIdeal.τ) (Cert.AdamGateOutRefIdeal.main (F := Ideal))) ⟨m', fun _ => 0, g'⟩ (fun r => ∀ c : Dev Cert.AdamGateOutRefIdeal.nD,
          r.2.mem ((c.tc : Thread Cert.AdamGateOutRefIdeal.nD Cert.AdamGateOutRefIdeal.τ).loc Cert.AdamGateOutRefIdeal.main_v24) = v0 c
          ∧ r.2.mem ((c.tc : Thread Cert.AdamGateOutRefIdeal.nD Cert.AdamGateOutRefIdeal.τ).loc Cert.AdamGateOutRefIdeal.main_v25) = v1 c
          ∧ r.2.mem ((c.tc : Thread Cert.AdamGateOutRefIdeal.nD Cert.AdamGateOutRefIdeal.τ).loc Cert.AdamGateOutRefIdeal.main_v26) = v2 c
          ∧ r.2.mem ((c.tc : Thread Cert.AdamGateOutRefIdeal.nD Cert.AdamGateOutRefIdeal.τ).loc Cert.AdamGateOutRefIdeal.main_arg0) = m' ((c.tc : Thread Cert.AdamGateOutRefIdeal.nD Cert.AdamGateOutRefIdeal.τ).loc Cert.AdamGateOutRefIdeal.main_arg0)
          ∧ r.2.mem ((c.tc : Thread Cert.AdamGateOutRefIdeal.nD Cert.AdamGateOutRefIdeal.τ).loc Cert.AdamGateOutRefIdeal.main_arg1) = m' ((c.tc : Thread Cert.AdamGateOutRefIdeal.nD Cert.AdamGateOutRefIdeal.τ).loc Cert.AdamGateOutRefIdeal.main_arg1)
          ∧ r.2.mem ((c.tc : Thread Cert.AdamGateOutRefIdeal.nD Cert.AdamGateOutRefIdeal.τ).loc Cert.AdamGateOutRefIdeal.main_arg2) = m' ((c.tc : Thread Cert.AdamGateOutRefIdeal.nD Cert.AdamGateOutRefIdeal.τ).loc Cert.AdamGateOutRefIdeal.main_arg2)
          ∧ r.2.mem ((c.tc : Thread Cert.AdamGateOutRefIdeal.nD Cert.AdamGateOutRefIdeal.τ).loc Cert.AdamGateOutRefIdeal.main_arg3) = m' ((c.tc : Thread Cert.AdamGateOutRefIdeal.nD Cert.AdamGateOutRefIdeal.τ).loc Cert.AdamGateOutRefIdeal.main_arg3))

def preserves_AdamValIn_AdamValInIdeal : Prop :=
  True

def algebraic_AdamValInIdeal_AdamValInRefIdeal [hAdamValInIdeal : Cert.AdamValInIdeal.Facts] [hAdamValInRefIdeal : Cert.AdamValInRefIdeal.Facts] : Prop :=
  ∀ (m : (ℓ : Loc Cert.AdamValInIdeal.nD Cert.AdamValInIdeal.τ Cert.AdamValInIdeal.sig) → Buf (Elt Ideal) ℓ) (g : Dev Cert.AdamValInIdeal.nD → PrngReg)
    (m' : (ℓ : Loc Cert.AdamValInRefIdeal.nD Cert.AdamValInRefIdeal.τ Cert.AdamValInRefIdeal.sig) → Buf (Elt Ideal) ℓ) (g' : Dev Cert.AdamValInRefIdeal.nD → PrngReg), Pre_AdamValInIdeal m →
    (∀ c : Dev Cert.AdamValInIdeal.nD,
      m' ((c.tc : Thread Cert.AdamValInRefIdeal.nD Cert.AdamValInRefIdeal.τ).loc Cert.AdamValInRefIdeal.main_arg0) = m ((c.tc : Thread Cert.AdamValInIdeal.nD Cert.AdamValInIdeal.τ).loc Cert.AdamValInIdeal.main_arg0)
      ∧ m' ((c.tc : Thread Cert.AdamValInRefIdeal.nD Cert.AdamValInRefIdeal.τ).loc Cert.AdamValInRefIdeal.main_arg1) = m ((c.tc : Thread Cert.AdamValInIdeal.nD Cert.AdamValInIdeal.τ).loc Cert.AdamValInIdeal.main_arg1)
      ∧ m' ((c.tc : Thread Cert.AdamValInRefIdeal.nD Cert.AdamValInRefIdeal.τ).loc Cert.AdamValInRefIdeal.main_arg2) = m ((c.tc : Thread Cert.AdamValInIdeal.nD Cert.AdamValInIdeal.τ).loc Cert.AdamValInIdeal.main_arg2)
      ∧ m' ((c.tc : Thread Cert.AdamValInRefIdeal.nD Cert.AdamValInRefIdeal.τ).loc Cert.AdamValInRefIdeal.main_arg3) = m ((c.tc : Thread Cert.AdamValInIdeal.nD Cert.AdamValInIdeal.τ).loc Cert.AdamValInIdeal.main_arg3)) →
    ∃ (v0 : (c : Dev Cert.AdamValInIdeal.nD) → Buf (Elt Ideal) ((c.tc : Thread Cert.AdamValInIdeal.nD Cert.AdamValInIdeal.τ).loc Cert.AdamValInIdeal.main_v4_0)) (v1 : (c : Dev Cert.AdamValInIdeal.nD) → Buf (Elt Ideal) ((c.tc : Thread Cert.AdamValInIdeal.nD Cert.AdamValInIdeal.τ).loc Cert.AdamValInIdeal.main_v4_1)) (v2 : (c : Dev Cert.AdamValInIdeal.nD) → Buf (Elt Ideal) ((c.tc : Thread Cert.AdamValInIdeal.nD Cert.AdamValInIdeal.τ).loc Cert.AdamValInIdeal.main_v4_2)),
      θ_run (Cert.AdamValInIdeal.defs (F := Ideal)) (onTc (τ := Cert.AdamValInIdeal.τ) (Cert.AdamValInIdeal.main (F := Ideal))) ⟨m, fun _ => 0, g⟩ (fun r => ∀ c : Dev Cert.AdamValInIdeal.nD,
          r.2.mem ((c.tc : Thread Cert.AdamValInIdeal.nD Cert.AdamValInIdeal.τ).loc Cert.AdamValInIdeal.main_v4_0) = v0 c
          ∧ r.2.mem ((c.tc : Thread Cert.AdamValInIdeal.nD Cert.AdamValInIdeal.τ).loc Cert.AdamValInIdeal.main_v4_1) = v1 c
          ∧ r.2.mem ((c.tc : Thread Cert.AdamValInIdeal.nD Cert.AdamValInIdeal.τ).loc Cert.AdamValInIdeal.main_v4_2) = v2 c
          ∧ r.2.mem ((c.tc : Thread Cert.AdamValInIdeal.nD Cert.AdamValInIdeal.τ).loc Cert.AdamValInIdeal.main_arg0) = m ((c.tc : Thread Cert.AdamValInIdeal.nD Cert.AdamValInIdeal.τ).loc Cert.AdamValInIdeal.main_arg0)
          ∧ r.2.mem ((c.tc : Thread Cert.AdamValInIdeal.nD Cert.AdamValInIdeal.τ).loc Cert.AdamValInIdeal.main_arg1) = m ((c.tc : Thread Cert.AdamValInIdeal.nD Cert.AdamValInIdeal.τ).loc Cert.AdamValInIdeal.main_arg1)
          ∧ r.2.mem ((c.tc : Thread Cert.AdamValInIdeal.nD Cert.AdamValInIdeal.τ).loc Cert.AdamValInIdeal.main_arg2) = m ((c.tc : Thread Cert.AdamValInIdeal.nD Cert.AdamValInIdeal.τ).loc Cert.AdamValInIdeal.main_arg2)
          ∧ r.2.mem ((c.tc : Thread Cert.AdamValInIdeal.nD Cert.AdamValInIdeal.τ).loc Cert.AdamValInIdeal.main_arg3) = m ((c.tc : Thread Cert.AdamValInIdeal.nD Cert.AdamValInIdeal.τ).loc Cert.AdamValInIdeal.main_arg3))
      ∧ θ_run (Cert.AdamValInRefIdeal.defs (F := Ideal)) (onTc (τ := Cert.AdamValInRefIdeal.τ) (Cert.AdamValInRefIdeal.main (F := Ideal))) ⟨m', fun _ => 0, g'⟩ (fun r => ∀ c : Dev Cert.AdamValInRefIdeal.nD,
          r.2.mem ((c.tc : Thread Cert.AdamValInRefIdeal.nD Cert.AdamValInRefIdeal.τ).loc Cert.AdamValInRefIdeal.main_v24) = v0 c
          ∧ r.2.mem ((c.tc : Thread Cert.AdamValInRefIdeal.nD Cert.AdamValInRefIdeal.τ).loc Cert.AdamValInRefIdeal.main_v25) = v1 c
          ∧ r.2.mem ((c.tc : Thread Cert.AdamValInRefIdeal.nD Cert.AdamValInRefIdeal.τ).loc Cert.AdamValInRefIdeal.main_v26) = v2 c
          ∧ r.2.mem ((c.tc : Thread Cert.AdamValInRefIdeal.nD Cert.AdamValInRefIdeal.τ).loc Cert.AdamValInRefIdeal.main_arg0) = m' ((c.tc : Thread Cert.AdamValInRefIdeal.nD Cert.AdamValInRefIdeal.τ).loc Cert.AdamValInRefIdeal.main_arg0)
          ∧ r.2.mem ((c.tc : Thread Cert.AdamValInRefIdeal.nD Cert.AdamValInRefIdeal.τ).loc Cert.AdamValInRefIdeal.main_arg1) = m' ((c.tc : Thread Cert.AdamValInRefIdeal.nD Cert.AdamValInRefIdeal.τ).loc Cert.AdamValInRefIdeal.main_arg1)
          ∧ r.2.mem ((c.tc : Thread Cert.AdamValInRefIdeal.nD Cert.AdamValInRefIdeal.τ).loc Cert.AdamValInRefIdeal.main_arg2) = m' ((c.tc : Thread Cert.AdamValInRefIdeal.nD Cert.AdamValInRefIdeal.τ).loc Cert.AdamValInRefIdeal.main_arg2)
          ∧ r.2.mem ((c.tc : Thread Cert.AdamValInRefIdeal.nD Cert.AdamValInRefIdeal.τ).loc Cert.AdamValInRefIdeal.main_arg3) = m' ((c.tc : Thread Cert.AdamValInRefIdeal.nD Cert.AdamValInRefIdeal.τ).loc Cert.AdamValInRefIdeal.main_arg3))

def preserves_AdamValOut_AdamValOutIdeal : Prop :=
  True

def algebraic_AdamValOutIdeal_AdamValOutRefIdeal [hAdamValOutIdeal : Cert.AdamValOutIdeal.Facts] [hAdamValOutRefIdeal : Cert.AdamValOutRefIdeal.Facts] : Prop :=
  ∀ (m : (ℓ : Loc Cert.AdamValOutIdeal.nD Cert.AdamValOutIdeal.τ Cert.AdamValOutIdeal.sig) → Buf (Elt Ideal) ℓ) (g : Dev Cert.AdamValOutIdeal.nD → PrngReg)
    (m' : (ℓ : Loc Cert.AdamValOutRefIdeal.nD Cert.AdamValOutRefIdeal.τ Cert.AdamValOutRefIdeal.sig) → Buf (Elt Ideal) ℓ) (g' : Dev Cert.AdamValOutRefIdeal.nD → PrngReg), Pre_AdamValOutIdeal m →
    (∀ c : Dev Cert.AdamValOutIdeal.nD,
      m' ((c.tc : Thread Cert.AdamValOutRefIdeal.nD Cert.AdamValOutRefIdeal.τ).loc Cert.AdamValOutRefIdeal.main_arg0) = m ((c.tc : Thread Cert.AdamValOutIdeal.nD Cert.AdamValOutIdeal.τ).loc Cert.AdamValOutIdeal.main_arg0)
      ∧ m' ((c.tc : Thread Cert.AdamValOutRefIdeal.nD Cert.AdamValOutRefIdeal.τ).loc Cert.AdamValOutRefIdeal.main_arg1) = m ((c.tc : Thread Cert.AdamValOutIdeal.nD Cert.AdamValOutIdeal.τ).loc Cert.AdamValOutIdeal.main_arg1)
      ∧ m' ((c.tc : Thread Cert.AdamValOutRefIdeal.nD Cert.AdamValOutRefIdeal.τ).loc Cert.AdamValOutRefIdeal.main_arg2) = m ((c.tc : Thread Cert.AdamValOutIdeal.nD Cert.AdamValOutIdeal.τ).loc Cert.AdamValOutIdeal.main_arg2)
      ∧ m' ((c.tc : Thread Cert.AdamValOutRefIdeal.nD Cert.AdamValOutRefIdeal.τ).loc Cert.AdamValOutRefIdeal.main_arg3) = m ((c.tc : Thread Cert.AdamValOutIdeal.nD Cert.AdamValOutIdeal.τ).loc Cert.AdamValOutIdeal.main_arg3)) →
    ∃ (v0 : (c : Dev Cert.AdamValOutIdeal.nD) → Buf (Elt Ideal) ((c.tc : Thread Cert.AdamValOutIdeal.nD Cert.AdamValOutIdeal.τ).loc Cert.AdamValOutIdeal.main_v4_0)) (v1 : (c : Dev Cert.AdamValOutIdeal.nD) → Buf (Elt Ideal) ((c.tc : Thread Cert.AdamValOutIdeal.nD Cert.AdamValOutIdeal.τ).loc Cert.AdamValOutIdeal.main_v4_1)) (v2 : (c : Dev Cert.AdamValOutIdeal.nD) → Buf (Elt Ideal) ((c.tc : Thread Cert.AdamValOutIdeal.nD Cert.AdamValOutIdeal.τ).loc Cert.AdamValOutIdeal.main_v4_2)),
      θ_run (Cert.AdamValOutIdeal.defs (F := Ideal)) (onTc (τ := Cert.AdamValOutIdeal.τ) (Cert.AdamValOutIdeal.main (F := Ideal))) ⟨m, fun _ => 0, g⟩ (fun r => ∀ c : Dev Cert.AdamValOutIdeal.nD,
          r.2.mem ((c.tc : Thread Cert.AdamValOutIdeal.nD Cert.AdamValOutIdeal.τ).loc Cert.AdamValOutIdeal.main_v4_0) = v0 c
          ∧ r.2.mem ((c.tc : Thread Cert.AdamValOutIdeal.nD Cert.AdamValOutIdeal.τ).loc Cert.AdamValOutIdeal.main_v4_1) = v1 c
          ∧ r.2.mem ((c.tc : Thread Cert.AdamValOutIdeal.nD Cert.AdamValOutIdeal.τ).loc Cert.AdamValOutIdeal.main_v4_2) = v2 c
          ∧ r.2.mem ((c.tc : Thread Cert.AdamValOutIdeal.nD Cert.AdamValOutIdeal.τ).loc Cert.AdamValOutIdeal.main_arg0) = m ((c.tc : Thread Cert.AdamValOutIdeal.nD Cert.AdamValOutIdeal.τ).loc Cert.AdamValOutIdeal.main_arg0)
          ∧ r.2.mem ((c.tc : Thread Cert.AdamValOutIdeal.nD Cert.AdamValOutIdeal.τ).loc Cert.AdamValOutIdeal.main_arg1) = m ((c.tc : Thread Cert.AdamValOutIdeal.nD Cert.AdamValOutIdeal.τ).loc Cert.AdamValOutIdeal.main_arg1)
          ∧ r.2.mem ((c.tc : Thread Cert.AdamValOutIdeal.nD Cert.AdamValOutIdeal.τ).loc Cert.AdamValOutIdeal.main_arg2) = m ((c.tc : Thread Cert.AdamValOutIdeal.nD Cert.AdamValOutIdeal.τ).loc Cert.AdamValOutIdeal.main_arg2)
          ∧ r.2.mem ((c.tc : Thread Cert.AdamValOutIdeal.nD Cert.AdamValOutIdeal.τ).loc Cert.AdamValOutIdeal.main_arg3) = m ((c.tc : Thread Cert.AdamValOutIdeal.nD Cert.AdamValOutIdeal.τ).loc Cert.AdamValOutIdeal.main_arg3))
      ∧ θ_run (Cert.AdamValOutRefIdeal.defs (F := Ideal)) (onTc (τ := Cert.AdamValOutRefIdeal.τ) (Cert.AdamValOutRefIdeal.main (F := Ideal))) ⟨m', fun _ => 0, g'⟩ (fun r => ∀ c : Dev Cert.AdamValOutRefIdeal.nD,
          r.2.mem ((c.tc : Thread Cert.AdamValOutRefIdeal.nD Cert.AdamValOutRefIdeal.τ).loc Cert.AdamValOutRefIdeal.main_v24) = v0 c
          ∧ r.2.mem ((c.tc : Thread Cert.AdamValOutRefIdeal.nD Cert.AdamValOutRefIdeal.τ).loc Cert.AdamValOutRefIdeal.main_v25) = v1 c
          ∧ r.2.mem ((c.tc : Thread Cert.AdamValOutRefIdeal.nD Cert.AdamValOutRefIdeal.τ).loc Cert.AdamValOutRefIdeal.main_v26) = v2 c
          ∧ r.2.mem ((c.tc : Thread Cert.AdamValOutRefIdeal.nD Cert.AdamValOutRefIdeal.τ).loc Cert.AdamValOutRefIdeal.main_arg0) = m' ((c.tc : Thread Cert.AdamValOutRefIdeal.nD Cert.AdamValOutRefIdeal.τ).loc Cert.AdamValOutRefIdeal.main_arg0)
          ∧ r.2.mem ((c.tc : Thread Cert.AdamValOutRefIdeal.nD Cert.AdamValOutRefIdeal.τ).loc Cert.AdamValOutRefIdeal.main_arg1) = m' ((c.tc : Thread Cert.AdamValOutRefIdeal.nD Cert.AdamValOutRefIdeal.τ).loc Cert.AdamValOutRefIdeal.main_arg1)
          ∧ r.2.mem ((c.tc : Thread Cert.AdamValOutRefIdeal.nD Cert.AdamValOutRefIdeal.τ).loc Cert.AdamValOutRefIdeal.main_arg2) = m' ((c.tc : Thread Cert.AdamValOutRefIdeal.nD Cert.AdamValOutRefIdeal.τ).loc Cert.AdamValOutRefIdeal.main_arg2)
          ∧ r.2.mem ((c.tc : Thread Cert.AdamValOutRefIdeal.nD Cert.AdamValOutRefIdeal.τ).loc Cert.AdamValOutRefIdeal.main_arg3) = m' ((c.tc : Thread Cert.AdamValOutRefIdeal.nD Cert.AdamValOutRefIdeal.τ).loc Cert.AdamValOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)) →
    ∃ (v0 : (c : Dev Cert.AdamSmallIdeal.nD) → Buf (Elt Ideal) ((c.tc : Thread Cert.AdamSmallIdeal.nD Cert.AdamSmallIdeal.τ).loc Cert.AdamSmallIdeal.main_v52_0)) (v1 : (c : Dev Cert.AdamSmallIdeal.nD) → Buf (Elt Ideal) ((c.tc : Thread Cert.AdamSmallIdeal.nD Cert.AdamSmallIdeal.τ).loc Cert.AdamSmallIdeal.main_v52_1)) (v2 : (c : Dev Cert.AdamSmallIdeal.nD) → Buf (Elt Ideal) ((c.tc : Thread Cert.AdamSmallIdeal.nD Cert.AdamSmallIdeal.τ).loc Cert.AdamSmallIdeal.main_v52_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v52_0) = v0 c
          ∧ r.2.mem ((c.tc : Thread Cert.AdamSmallIdeal.nD Cert.AdamSmallIdeal.τ).loc Cert.AdamSmallIdeal.main_v52_1) = v1 c
          ∧ r.2.mem ((c.tc : Thread Cert.AdamSmallIdeal.nD Cert.AdamSmallIdeal.τ).loc Cert.AdamSmallIdeal.main_v52_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v248) = v0 c
          ∧ r.2.mem ((c.tc : Thread Cert.AdamSmallRefIdeal.nD Cert.AdamSmallRefIdeal.τ).loc Cert.AdamSmallRefIdeal.main_v250) = v1 c
          ∧ r.2.mem ((c.tc : Thread Cert.AdamSmallRefIdeal.nD Cert.AdamSmallRefIdeal.τ).loc Cert.AdamSmallRefIdeal.main_v252) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)
      ∧ m' ((c.tc : Thread Cert.AdamRepRefIdeal.nD Cert.AdamRepRefIdeal.τ).loc Cert.AdamRepRefIdeal.main_arg4) = m ((c.tc : Thread Cert.AdamRepIdeal.nD Cert.AdamRepIdeal.τ).loc Cert.AdamRepIdeal.main_arg4)
      ∧ m' ((c.tc : Thread Cert.AdamRepRefIdeal.nD Cert.AdamRepRefIdeal.τ).loc Cert.AdamRepRefIdeal.main_arg5) = m ((c.tc : Thread Cert.AdamRepIdeal.nD Cert.AdamRepIdeal.τ).loc Cert.AdamRepIdeal.main_arg5)
      ∧ m' ((c.tc : Thread Cert.AdamRepRefIdeal.nD Cert.AdamRepRefIdeal.τ).loc Cert.AdamRepRefIdeal.main_arg6) = m ((c.tc : Thread Cert.AdamRepIdeal.nD Cert.AdamRepIdeal.τ).loc Cert.AdamRepIdeal.main_arg6)
      ∧ m' ((c.tc : Thread Cert.AdamRepRefIdeal.nD Cert.AdamRepRefIdeal.τ).loc Cert.AdamRepRefIdeal.main_arg7) = m ((c.tc : Thread Cert.AdamRepIdeal.nD Cert.AdamRepIdeal.τ).loc Cert.AdamRepIdeal.main_arg7)
      ∧ m' ((c.tc : Thread Cert.AdamRepRefIdeal.nD Cert.AdamRepRefIdeal.τ).loc Cert.AdamRepRefIdeal.main_arg8) = m ((c.tc : Thread Cert.AdamRepIdeal.nD Cert.AdamRepIdeal.τ).loc Cert.AdamRepIdeal.main_arg8)
      ∧ m' ((c.tc : Thread Cert.AdamRepRefIdeal.nD Cert.AdamRepRefIdeal.τ).loc Cert.AdamRepRefIdeal.main_arg9) = m ((c.tc : Thread Cert.AdamRepIdeal.nD Cert.AdamRepIdeal.τ).loc Cert.AdamRepIdeal.main_arg9)
      ∧ m' ((c.tc : Thread Cert.AdamRepRefIdeal.nD Cert.AdamRepRefIdeal.τ).loc Cert.AdamRepRefIdeal.main_arg10) = m ((c.tc : Thread Cert.AdamRepIdeal.nD Cert.AdamRepIdeal.τ).loc Cert.AdamRepIdeal.main_arg10)
      ∧ m' ((c.tc : Thread Cert.AdamRepRefIdeal.nD Cert.AdamRepRefIdeal.τ).loc Cert.AdamRepRefIdeal.main_arg11) = m ((c.tc : Thread Cert.AdamRepIdeal.nD Cert.AdamRepIdeal.τ).loc Cert.AdamRepIdeal.main_arg11)
      ∧ m' ((c.tc : Thread Cert.AdamRepRefIdeal.nD Cert.AdamRepRefIdeal.τ).loc Cert.AdamRepRefIdeal.main_arg12) = m ((c.tc : Thread Cert.AdamRepIdeal.nD Cert.AdamRepIdeal.τ).loc Cert.AdamRepIdeal.main_arg12)
      ∧ m' ((c.tc : Thread Cert.AdamRepRefIdeal.nD Cert.AdamRepRefIdeal.τ).loc Cert.AdamRepRefIdeal.main_arg13) = m ((c.tc : Thread Cert.AdamRepIdeal.nD Cert.AdamRepIdeal.τ).loc Cert.AdamRepIdeal.main_arg13)
      ∧ m' ((c.tc : Thread Cert.AdamRepRefIdeal.nD Cert.AdamRepRefIdeal.τ).loc Cert.AdamRepRefIdeal.main_arg14) = m ((c.tc : Thread Cert.AdamRepIdeal.nD Cert.AdamRepIdeal.τ).loc Cert.AdamRepIdeal.main_arg14)
      ∧ m' ((c.tc : Thread Cert.AdamRepRefIdeal.nD Cert.AdamRepRefIdeal.τ).loc Cert.AdamRepRefIdeal.main_arg15) = m ((c.tc : Thread Cert.AdamRepIdeal.nD Cert.AdamRepIdeal.τ).loc Cert.AdamRepIdeal.main_arg15)
      ∧ m' ((c.tc : Thread Cert.AdamRepRefIdeal.nD Cert.AdamRepRefIdeal.τ).loc Cert.AdamRepRefIdeal.main_arg16) = m ((c.tc : Thread Cert.AdamRepIdeal.nD Cert.AdamRepIdeal.τ).loc Cert.AdamRepIdeal.main_arg16)
      ∧ m' ((c.tc : Thread Cert.AdamRepRefIdeal.nD Cert.AdamRepRefIdeal.τ).loc Cert.AdamRepRefIdeal.main_arg17) = m ((c.tc : Thread Cert.AdamRepIdeal.nD Cert.AdamRepIdeal.τ).loc Cert.AdamRepIdeal.main_arg17)
      ∧ m' ((c.tc : Thread Cert.AdamRepRefIdeal.nD Cert.AdamRepRefIdeal.τ).loc Cert.AdamRepRefIdeal.main_arg18) = m ((c.tc : Thread Cert.AdamRepIdeal.nD Cert.AdamRepIdeal.τ).loc Cert.AdamRepIdeal.main_arg18)
      ∧ m' ((c.tc : Thread Cert.AdamRepRefIdeal.nD Cert.AdamRepRefIdeal.τ).loc Cert.AdamRepRefIdeal.main_arg19) = m ((c.tc : Thread Cert.AdamRepIdeal.nD Cert.AdamRepIdeal.τ).loc Cert.AdamRepIdeal.main_arg19)
      ∧ m' ((c.tc : Thread Cert.AdamRepRefIdeal.nD Cert.AdamRepRefIdeal.τ).loc Cert.AdamRepRefIdeal.main_arg20) = m ((c.tc : Thread Cert.AdamRepIdeal.nD Cert.AdamRepIdeal.τ).loc Cert.AdamRepIdeal.main_arg20)
      ∧ m' ((c.tc : Thread Cert.AdamRepRefIdeal.nD Cert.AdamRepRefIdeal.τ).loc Cert.AdamRepRefIdeal.main_arg21) = m ((c.tc : Thread Cert.AdamRepIdeal.nD Cert.AdamRepIdeal.τ).loc Cert.AdamRepIdeal.main_arg21)
      ∧ m' ((c.tc : Thread Cert.AdamRepRefIdeal.nD Cert.AdamRepRefIdeal.τ).loc Cert.AdamRepRefIdeal.main_arg22) = m ((c.tc : Thread Cert.AdamRepIdeal.nD Cert.AdamRepIdeal.τ).loc Cert.AdamRepIdeal.main_arg22)
      ∧ m' ((c.tc : Thread Cert.AdamRepRefIdeal.nD Cert.AdamRepRefIdeal.τ).loc Cert.AdamRepRefIdeal.main_arg23) = m ((c.tc : Thread Cert.AdamRepIdeal.nD Cert.AdamRepIdeal.τ).loc Cert.AdamRepIdeal.main_arg23)
      ∧ m' ((c.tc : Thread Cert.AdamRepRefIdeal.nD Cert.AdamRepRefIdeal.τ).loc Cert.AdamRepRefIdeal.main_arg24) = m ((c.tc : Thread Cert.AdamRepIdeal.nD Cert.AdamRepIdeal.τ).loc Cert.AdamRepIdeal.main_arg24)
      ∧ m' ((c.tc : Thread Cert.AdamRepRefIdeal.nD Cert.AdamRepRefIdeal.τ).loc Cert.AdamRepRefIdeal.main_arg25) = m ((c.tc : Thread Cert.AdamRepIdeal.nD Cert.AdamRepIdeal.τ).loc Cert.AdamRepIdeal.main_arg25)
      ∧ m' ((c.tc : Thread Cert.AdamRepRefIdeal.nD Cert.AdamRepRefIdeal.τ).loc Cert.AdamRepRefIdeal.main_arg26) = m ((c.tc : Thread Cert.AdamRepIdeal.nD Cert.AdamRepIdeal.τ).loc Cert.AdamRepIdeal.main_arg26)
      ∧ m' ((c.tc : Thread Cert.AdamRepRefIdeal.nD Cert.AdamRepRefIdeal.τ).loc Cert.AdamRepRefIdeal.main_arg27) = m ((c.tc : Thread Cert.AdamRepIdeal.nD Cert.AdamRepIdeal.τ).loc Cert.AdamRepIdeal.main_arg27)) →
    ∃ (v0 : (c : Dev Cert.AdamRepIdeal.nD) → Buf (Elt Ideal) ((c.tc : Thread Cert.AdamRepIdeal.nD Cert.AdamRepIdeal.τ).loc Cert.AdamRepIdeal.main_v40_0)) (v1 : (c : Dev Cert.AdamRepIdeal.nD) → Buf (Elt Ideal) ((c.tc : Thread Cert.AdamRepIdeal.nD Cert.AdamRepIdeal.τ).loc Cert.AdamRepIdeal.main_v40_1)) (v2 : (c : Dev Cert.AdamRepIdeal.nD) → Buf (Elt Ideal) ((c.tc : Thread Cert.AdamRepIdeal.nD Cert.AdamRepIdeal.τ).loc Cert.AdamRepIdeal.main_v40_2)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v40_0) = v0 c
          ∧ r.2.mem ((c.tc : Thread Cert.AdamRepIdeal.nD Cert.AdamRepIdeal.τ).loc Cert.AdamRepIdeal.main_v40_1) = v1 c
          ∧ r.2.mem ((c.tc : Thread Cert.AdamRepIdeal.nD Cert.AdamRepIdeal.τ).loc Cert.AdamRepIdeal.main_v40_2) = v2 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3)
          ∧ r.2.mem ((c.tc : Thread Cert.AdamRepIdeal.nD Cert.AdamRepIdeal.τ).loc Cert.AdamRepIdeal.main_arg4) = m ((c.tc : Thread Cert.AdamRepIdeal.nD Cert.AdamRepIdeal.τ).loc Cert.AdamRepIdeal.main_arg4)
          ∧ r.2.mem ((c.tc : Thread Cert.AdamRepIdeal.nD Cert.AdamRepIdeal.τ).loc Cert.AdamRepIdeal.main_arg5) = m ((c.tc : Thread Cert.AdamRepIdeal.nD Cert.AdamRepIdeal.τ).loc Cert.AdamRepIdeal.main_arg5)
          ∧ r.2.mem ((c.tc : Thread Cert.AdamRepIdeal.nD Cert.AdamRepIdeal.τ).loc Cert.AdamRepIdeal.main_arg6) = m ((c.tc : Thread Cert.AdamRepIdeal.nD Cert.AdamRepIdeal.τ).loc Cert.AdamRepIdeal.main_arg6)
          ∧ r.2.mem ((c.tc : Thread Cert.AdamRepIdeal.nD Cert.AdamRepIdeal.τ).loc Cert.AdamRepIdeal.main_arg7) = m ((c.tc : Thread Cert.AdamRepIdeal.nD Cert.AdamRepIdeal.τ).loc Cert.AdamRepIdeal.main_arg7)
          ∧ r.2.mem ((c.tc : Thread Cert.AdamRepIdeal.nD Cert.AdamRepIdeal.τ).loc Cert.AdamRepIdeal.main_arg8) = m ((c.tc : Thread Cert.AdamRepIdeal.nD Cert.AdamRepIdeal.τ).loc Cert.AdamRepIdeal.main_arg8)
          ∧ r.2.mem ((c.tc : Thread Cert.AdamRepIdeal.nD Cert.AdamRepIdeal.τ).loc Cert.AdamRepIdeal.main_arg9) = m ((c.tc : Thread Cert.AdamRepIdeal.nD Cert.AdamRepIdeal.τ).loc Cert.AdamRepIdeal.main_arg9)
          ∧ r.2.mem ((c.tc : Thread Cert.AdamRepIdeal.nD Cert.AdamRepIdeal.τ).loc Cert.AdamRepIdeal.main_arg10) = m ((c.tc : Thread Cert.AdamRepIdeal.nD Cert.AdamRepIdeal.τ).loc Cert.AdamRepIdeal.main_arg10)
          ∧ r.2.mem ((c.tc : Thread Cert.AdamRepIdeal.nD Cert.AdamRepIdeal.τ).loc Cert.AdamRepIdeal.main_arg11) = m ((c.tc : Thread Cert.AdamRepIdeal.nD Cert.AdamRepIdeal.τ).loc Cert.AdamRepIdeal.main_arg11)
          ∧ r.2.mem ((c.tc : Thread Cert.AdamRepIdeal.nD Cert.AdamRepIdeal.τ).loc Cert.AdamRepIdeal.main_arg12) = m ((c.tc : Thread Cert.AdamRepIdeal.nD Cert.AdamRepIdeal.τ).loc Cert.AdamRepIdeal.main_arg12)
          ∧ r.2.mem ((c.tc : Thread Cert.AdamRepIdeal.nD Cert.AdamRepIdeal.τ).loc Cert.AdamRepIdeal.main_arg13) = m ((c.tc : Thread Cert.AdamRepIdeal.nD Cert.AdamRepIdeal.τ).loc Cert.AdamRepIdeal.main_arg13)
          ∧ r.2.mem ((c.tc : Thread Cert.AdamRepIdeal.nD Cert.AdamRepIdeal.τ).loc Cert.AdamRepIdeal.main_arg14) = m ((c.tc : Thread Cert.AdamRepIdeal.nD Cert.AdamRepIdeal.τ).loc Cert.AdamRepIdeal.main_arg14)
          ∧ r.2.mem ((c.tc : Thread Cert.AdamRepIdeal.nD Cert.AdamRepIdeal.τ).loc Cert.AdamRepIdeal.main_arg15) = m ((c.tc : Thread Cert.AdamRepIdeal.nD Cert.AdamRepIdeal.τ).loc Cert.AdamRepIdeal.main_arg15)
          ∧ r.2.mem ((c.tc : Thread Cert.AdamRepIdeal.nD Cert.AdamRepIdeal.τ).loc Cert.AdamRepIdeal.main_arg16) = m ((c.tc : Thread Cert.AdamRepIdeal.nD Cert.AdamRepIdeal.τ).loc Cert.AdamRepIdeal.main_arg16)
          ∧ r.2.mem ((c.tc : Thread Cert.AdamRepIdeal.nD Cert.AdamRepIdeal.τ).loc Cert.AdamRepIdeal.main_arg17) = m ((c.tc : Thread Cert.AdamRepIdeal.nD Cert.AdamRepIdeal.τ).loc Cert.AdamRepIdeal.main_arg17)
          ∧ r.2.mem ((c.tc : Thread Cert.AdamRepIdeal.nD Cert.AdamRepIdeal.τ).loc Cert.AdamRepIdeal.main_arg18) = m ((c.tc : Thread Cert.AdamRepIdeal.nD Cert.AdamRepIdeal.τ).loc Cert.AdamRepIdeal.main_arg18)
          ∧ r.2.mem ((c.tc : Thread Cert.AdamRepIdeal.nD Cert.AdamRepIdeal.τ).loc Cert.AdamRepIdeal.main_arg19) = m ((c.tc : Thread Cert.AdamRepIdeal.nD Cert.AdamRepIdeal.τ).loc Cert.AdamRepIdeal.main_arg19)
          ∧ r.2.mem ((c.tc : Thread Cert.AdamRepIdeal.nD Cert.AdamRepIdeal.τ).loc Cert.AdamRepIdeal.main_arg20) = m ((c.tc : Thread Cert.AdamRepIdeal.nD Cert.AdamRepIdeal.τ).loc Cert.AdamRepIdeal.main_arg20)
          ∧ r.2.mem ((c.tc : Thread Cert.AdamRepIdeal.nD Cert.AdamRepIdeal.τ).loc Cert.AdamRepIdeal.main_arg21) = m ((c.tc : Thread Cert.AdamRepIdeal.nD Cert.AdamRepIdeal.τ).loc Cert.AdamRepIdeal.main_arg21)
          ∧ r.2.mem ((c.tc : Thread Cert.AdamRepIdeal.nD Cert.AdamRepIdeal.τ).loc Cert.AdamRepIdeal.main_arg22) = m ((c.tc : Thread Cert.AdamRepIdeal.nD Cert.AdamRepIdeal.τ).loc Cert.AdamRepIdeal.main_arg22)
          ∧ r.2.mem ((c.tc : Thread Cert.AdamRepIdeal.nD Cert.AdamRepIdeal.τ).loc Cert.AdamRepIdeal.main_arg23) = m ((c.tc : Thread Cert.AdamRepIdeal.nD Cert.AdamRepIdeal.τ).loc Cert.AdamRepIdeal.main_arg23)
          ∧ r.2.mem ((c.tc : Thread Cert.AdamRepIdeal.nD Cert.AdamRepIdeal.τ).loc Cert.AdamRepIdeal.main_arg24) = m ((c.tc : Thread Cert.AdamRepIdeal.nD Cert.AdamRepIdeal.τ).loc Cert.AdamRepIdeal.main_arg24)
          ∧ r.2.mem ((c.tc : Thread Cert.AdamRepIdeal.nD Cert.AdamRepIdeal.τ).loc Cert.AdamRepIdeal.main_arg25) = m ((c.tc : Thread Cert.AdamRepIdeal.nD Cert.AdamRepIdeal.τ).loc Cert.AdamRepIdeal.main_arg25)
          ∧ r.2.mem ((c.tc : Thread Cert.AdamRepIdeal.nD Cert.AdamRepIdeal.τ).loc Cert.AdamRepIdeal.main_arg26) = m ((c.tc : Thread Cert.AdamRepIdeal.nD Cert.AdamRepIdeal.τ).loc Cert.AdamRepIdeal.main_arg26)
          ∧ r.2.mem ((c.tc : Thread Cert.AdamRepIdeal.nD Cert.AdamRepIdeal.τ).loc Cert.AdamRepIdeal.main_arg27) = m ((c.tc : Thread Cert.AdamRepIdeal.nD Cert.AdamRepIdeal.τ).loc Cert.AdamRepIdeal.main_arg27))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v191) = v0 c
          ∧ r.2.mem ((c.tc : Thread Cert.AdamRepRefIdeal.nD Cert.AdamRepRefIdeal.τ).loc Cert.AdamRepRefIdeal.main_v193) = v1 c
          ∧ r.2.mem ((c.tc : Thread Cert.AdamRepRefIdeal.nD Cert.AdamRepRefIdeal.τ).loc Cert.AdamRepRefIdeal.main_v195) = v2 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3)
          ∧ r.2.mem ((c.tc : Thread Cert.AdamRepRefIdeal.nD Cert.AdamRepRefIdeal.τ).loc Cert.AdamRepRefIdeal.main_arg4) = m' ((c.tc : Thread Cert.AdamRepRefIdeal.nD Cert.AdamRepRefIdeal.τ).loc Cert.AdamRepRefIdeal.main_arg4)
          ∧ r.2.mem ((c.tc : Thread Cert.AdamRepRefIdeal.nD Cert.AdamRepRefIdeal.τ).loc Cert.AdamRepRefIdeal.main_arg5) = m' ((c.tc : Thread Cert.AdamRepRefIdeal.nD Cert.AdamRepRefIdeal.τ).loc Cert.AdamRepRefIdeal.main_arg5)
          ∧ r.2.mem ((c.tc : Thread Cert.AdamRepRefIdeal.nD Cert.AdamRepRefIdeal.τ).loc Cert.AdamRepRefIdeal.main_arg6) = m' ((c.tc : Thread Cert.AdamRepRefIdeal.nD Cert.AdamRepRefIdeal.τ).loc Cert.AdamRepRefIdeal.main_arg6)
          ∧ r.2.mem ((c.tc : Thread Cert.AdamRepRefIdeal.nD Cert.AdamRepRefIdeal.τ).loc Cert.AdamRepRefIdeal.main_arg7) = m' ((c.tc : Thread Cert.AdamRepRefIdeal.nD Cert.AdamRepRefIdeal.τ).loc Cert.AdamRepRefIdeal.main_arg7)
          ∧ r.2.mem ((c.tc : Thread Cert.AdamRepRefIdeal.nD Cert.AdamRepRefIdeal.τ).loc Cert.AdamRepRefIdeal.main_arg8) = m' ((c.tc : Thread Cert.AdamRepRefIdeal.nD Cert.AdamRepRefIdeal.τ).loc Cert.AdamRepRefIdeal.main_arg8)
          ∧ r.2.mem ((c.tc : Thread Cert.AdamRepRefIdeal.nD Cert.AdamRepRefIdeal.τ).loc Cert.AdamRepRefIdeal.main_arg9) = m' ((c.tc : Thread Cert.AdamRepRefIdeal.nD Cert.AdamRepRefIdeal.τ).loc Cert.AdamRepRefIdeal.main_arg9)
          ∧ r.2.mem ((c.tc : Thread Cert.AdamRepRefIdeal.nD Cert.AdamRepRefIdeal.τ).loc Cert.AdamRepRefIdeal.main_arg10) = m' ((c.tc : Thread Cert.AdamRepRefIdeal.nD Cert.AdamRepRefIdeal.τ).loc Cert.AdamRepRefIdeal.main_arg10)
          ∧ r.2.mem ((c.tc : Thread Cert.AdamRepRefIdeal.nD Cert.AdamRepRefIdeal.τ).loc Cert.AdamRepRefIdeal.main_arg11) = m' ((c.tc : Thread Cert.AdamRepRefIdeal.nD Cert.AdamRepRefIdeal.τ).loc Cert.AdamRepRefIdeal.main_arg11)
          ∧ r.2.mem ((c.tc : Thread Cert.AdamRepRefIdeal.nD Cert.AdamRepRefIdeal.τ).loc Cert.AdamRepRefIdeal.main_arg12) = m' ((c.tc : Thread Cert.AdamRepRefIdeal.nD Cert.AdamRepRefIdeal.τ).loc Cert.AdamRepRefIdeal.main_arg12)
          ∧ r.2.mem ((c.tc : Thread Cert.AdamRepRefIdeal.nD Cert.AdamRepRefIdeal.τ).loc Cert.AdamRepRefIdeal.main_arg13) = m' ((c.tc : Thread Cert.AdamRepRefIdeal.nD Cert.AdamRepRefIdeal.τ).loc Cert.AdamRepRefIdeal.main_arg13)
          ∧ r.2.mem ((c.tc : Thread Cert.AdamRepRefIdeal.nD Cert.AdamRepRefIdeal.τ).loc Cert.AdamRepRefIdeal.main_arg14) = m' ((c.tc : Thread Cert.AdamRepRefIdeal.nD Cert.AdamRepRefIdeal.τ).loc Cert.AdamRepRefIdeal.main_arg14)
          ∧ r.2.mem ((c.tc : Thread Cert.AdamRepRefIdeal.nD Cert.AdamRepRefIdeal.τ).loc Cert.AdamRepRefIdeal.main_arg15) = m' ((c.tc : Thread Cert.AdamRepRefIdeal.nD Cert.AdamRepRefIdeal.τ).loc Cert.AdamRepRefIdeal.main_arg15)
          ∧ r.2.mem ((c.tc : Thread Cert.AdamRepRefIdeal.nD Cert.AdamRepRefIdeal.τ).loc Cert.AdamRepRefIdeal.main_arg16) = m' ((c.tc : Thread Cert.AdamRepRefIdeal.nD Cert.AdamRepRefIdeal.τ).loc Cert.AdamRepRefIdeal.main_arg16)
          ∧ r.2.mem ((c.tc : Thread Cert.AdamRepRefIdeal.nD Cert.AdamRepRefIdeal.τ).loc Cert.AdamRepRefIdeal.main_arg17) = m' ((c.tc : Thread Cert.AdamRepRefIdeal.nD Cert.AdamRepRefIdeal.τ).loc Cert.AdamRepRefIdeal.main_arg17)
          ∧ r.2.mem ((c.tc : Thread Cert.AdamRepRefIdeal.nD Cert.AdamRepRefIdeal.τ).loc Cert.AdamRepRefIdeal.main_arg18) = m' ((c.tc : Thread Cert.AdamRepRefIdeal.nD Cert.AdamRepRefIdeal.τ).loc Cert.AdamRepRefIdeal.main_arg18)
          ∧ r.2.mem ((c.tc : Thread Cert.AdamRepRefIdeal.nD Cert.AdamRepRefIdeal.τ).loc Cert.AdamRepRefIdeal.main_arg19) = m' ((c.tc : Thread Cert.AdamRepRefIdeal.nD Cert.AdamRepRefIdeal.τ).loc Cert.AdamRepRefIdeal.main_arg19)
          ∧ r.2.mem ((c.tc : Thread Cert.AdamRepRefIdeal.nD Cert.AdamRepRefIdeal.τ).loc Cert.AdamRepRefIdeal.main_arg20) = m' ((c.tc : Thread Cert.AdamRepRefIdeal.nD Cert.AdamRepRefIdeal.τ).loc Cert.AdamRepRefIdeal.main_arg20)
          ∧ r.2.mem ((c.tc : Thread Cert.AdamRepRefIdeal.nD Cert.AdamRepRefIdeal.τ).loc Cert.AdamRepRefIdeal.main_arg21) = m' ((c.tc : Thread Cert.AdamRepRefIdeal.nD Cert.AdamRepRefIdeal.τ).loc Cert.AdamRepRefIdeal.main_arg21)
          ∧ r.2.mem ((c.tc : Thread Cert.AdamRepRefIdeal.nD Cert.AdamRepRefIdeal.τ).loc Cert.AdamRepRefIdeal.main_arg22) = m' ((c.tc : Thread Cert.AdamRepRefIdeal.nD Cert.AdamRepRefIdeal.τ).loc Cert.AdamRepRefIdeal.main_arg22)
          ∧ r.2.mem ((c.tc : Thread Cert.AdamRepRefIdeal.nD Cert.AdamRepRefIdeal.τ).loc Cert.AdamRepRefIdeal.main_arg23) = m' ((c.tc : Thread Cert.AdamRepRefIdeal.nD Cert.AdamRepRefIdeal.τ).loc Cert.AdamRepRefIdeal.main_arg23)
          ∧ r.2.mem ((c.tc : Thread Cert.AdamRepRefIdeal.nD Cert.AdamRepRefIdeal.τ).loc Cert.AdamRepRefIdeal.main_arg24) = m' ((c.tc : Thread Cert.AdamRepRefIdeal.nD Cert.AdamRepRefIdeal.τ).loc Cert.AdamRepRefIdeal.main_arg24)
          ∧ r.2.mem ((c.tc : Thread Cert.AdamRepRefIdeal.nD Cert.AdamRepRefIdeal.τ).loc Cert.AdamRepRefIdeal.main_arg25) = m' ((c.tc : Thread Cert.AdamRepRefIdeal.nD Cert.AdamRepRefIdeal.τ).loc Cert.AdamRepRefIdeal.main_arg25)
          ∧ r.2.mem ((c.tc : Thread Cert.AdamRepRefIdeal.nD Cert.AdamRepRefIdeal.τ).loc Cert.AdamRepRefIdeal.main_arg26) = m' ((c.tc : Thread Cert.AdamRepRefIdeal.nD Cert.AdamRepRefIdeal.τ).loc Cert.AdamRepRefIdeal.main_arg26)
          ∧ r.2.mem ((c.tc : Thread Cert.AdamRepRefIdeal.nD Cert.AdamRepRefIdeal.τ).loc Cert.AdamRepRefIdeal.main_arg27) = m' ((c.tc : Thread Cert.AdamRepRefIdeal.nD Cert.AdamRepRefIdeal.τ).loc Cert.AdamRepRefIdeal.main_arg27))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)
      ∧ m' ((c.tc : Thread Cert.SumSmallRefIdeal.nD Cert.SumSmallRefIdeal.τ).loc Cert.SumSmallRefIdeal.main_arg3) = m ((c.tc : Thread Cert.SumSmallIdeal.nD Cert.SumSmallIdeal.τ).loc Cert.SumSmallIdeal.main_arg3)
      ∧ m' ((c.tc : Thread Cert.SumSmallRefIdeal.nD Cert.SumSmallRefIdeal.τ).loc Cert.SumSmallRefIdeal.main_arg4) = m ((c.tc : Thread Cert.SumSmallIdeal.nD Cert.SumSmallIdeal.τ).loc Cert.SumSmallIdeal.main_arg4)
      ∧ m' ((c.tc : Thread Cert.SumSmallRefIdeal.nD Cert.SumSmallRefIdeal.τ).loc Cert.SumSmallRefIdeal.main_arg5) = m ((c.tc : Thread Cert.SumSmallIdeal.nD Cert.SumSmallIdeal.τ).loc Cert.SumSmallIdeal.main_arg5)
      ∧ m' ((c.tc : Thread Cert.SumSmallRefIdeal.nD Cert.SumSmallRefIdeal.τ).loc Cert.SumSmallRefIdeal.main_arg6) = m ((c.tc : Thread Cert.SumSmallIdeal.nD Cert.SumSmallIdeal.τ).loc Cert.SumSmallIdeal.main_arg6)
      ∧ m' ((c.tc : Thread Cert.SumSmallRefIdeal.nD Cert.SumSmallRefIdeal.τ).loc Cert.SumSmallRefIdeal.main_arg7) = m ((c.tc : Thread Cert.SumSmallIdeal.nD Cert.SumSmallIdeal.τ).loc Cert.SumSmallIdeal.main_arg7)
      ∧ m' ((c.tc : Thread Cert.SumSmallRefIdeal.nD Cert.SumSmallRefIdeal.τ).loc Cert.SumSmallRefIdeal.main_arg8) = m ((c.tc : Thread Cert.SumSmallIdeal.nD Cert.SumSmallIdeal.τ).loc Cert.SumSmallIdeal.main_arg8)) →
    ∃ (v0 : (c : Dev Cert.SumSmallIdeal.nD) → Buf (Elt Ideal) ((c.tc : Thread Cert.SumSmallIdeal.nD Cert.SumSmallIdeal.τ).loc Cert.SumSmallIdeal.main_v13)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v13) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
          ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
          ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
          ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
          ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
          ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v21) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2)
          ∧ r.2.mem ((c.tc : Thread Cert.SumSmallRefIdeal.nD Cert.SumSmallRefIdeal.τ).loc Cert.SumSmallRefIdeal.main_arg3) = m' ((c.tc : Thread Cert.SumSmallRefIdeal.nD Cert.SumSmallRefIdeal.τ).loc Cert.SumSmallRefIdeal.main_arg3)
          ∧ r.2.mem ((c.tc : Thread Cert.SumSmallRefIdeal.nD Cert.SumSmallRefIdeal.τ).loc Cert.SumSmallRefIdeal.main_arg4) = m' ((c.tc : Thread Cert.SumSmallRefIdeal.nD Cert.SumSmallRefIdeal.τ).loc Cert.SumSmallRefIdeal.main_arg4)
          ∧ r.2.mem ((c.tc : Thread Cert.SumSmallRefIdeal.nD Cert.SumSmallRefIdeal.τ).loc Cert.SumSmallRefIdeal.main_arg5) = m' ((c.tc : Thread Cert.SumSmallRefIdeal.nD Cert.SumSmallRefIdeal.τ).loc Cert.SumSmallRefIdeal.main_arg5)
          ∧ r.2.mem ((c.tc : Thread Cert.SumSmallRefIdeal.nD Cert.SumSmallRefIdeal.τ).loc Cert.SumSmallRefIdeal.main_arg6) = m' ((c.tc : Thread Cert.SumSmallRefIdeal.nD Cert.SumSmallRefIdeal.τ).loc Cert.SumSmallRefIdeal.main_arg6)
          ∧ r.2.mem ((c.tc : Thread Cert.SumSmallRefIdeal.nD Cert.SumSmallRefIdeal.τ).loc Cert.SumSmallRefIdeal.main_arg7) = m' ((c.tc : Thread Cert.SumSmallRefIdeal.nD Cert.SumSmallRefIdeal.τ).loc Cert.SumSmallRefIdeal.main_arg7)
          ∧ r.2.mem ((c.tc : Thread Cert.SumSmallRefIdeal.nD Cert.SumSmallRefIdeal.τ).loc Cert.SumSmallRefIdeal.main_arg8) = m' ((c.tc : Thread Cert.SumSmallRefIdeal.nD Cert.SumSmallRefIdeal.τ).loc Cert.SumSmallRefIdeal.main_arg8))

def preserves_SumRep_SumRepIdeal : Prop :=
  True

def algebraic_SumRepIdeal_SumRepRefIdeal [hSumRepIdeal : Cert.SumRepIdeal.Facts] [hSumRepRefIdeal : Cert.SumRepRefIdeal.Facts] : Prop :=
  ∀ (m : (ℓ : Loc Cert.SumRepIdeal.nD Cert.SumRepIdeal.τ Cert.SumRepIdeal.sig) → Buf (Elt Ideal) ℓ) (g : Dev Cert.SumRepIdeal.nD → PrngReg)
    (m' : (ℓ : Loc Cert.SumRepRefIdeal.nD Cert.SumRepRefIdeal.τ Cert.SumRepRefIdeal.sig) → Buf (Elt Ideal) ℓ) (g' : Dev Cert.SumRepRefIdeal.nD → PrngReg), Pre_SumRepIdeal m →
    (∀ c : Dev Cert.SumRepIdeal.nD,
      m' ((c.tc : Thread Cert.SumRepRefIdeal.nD Cert.SumRepRefIdeal.τ).loc Cert.SumRepRefIdeal.main_arg0) = m ((c.tc : Thread Cert.SumRepIdeal.nD Cert.SumRepIdeal.τ).loc Cert.SumRepIdeal.main_arg0)
      ∧ m' ((c.tc : Thread Cert.SumRepRefIdeal.nD Cert.SumRepRefIdeal.τ).loc Cert.SumRepRefIdeal.main_arg1) = m ((c.tc : Thread Cert.SumRepIdeal.nD Cert.SumRepIdeal.τ).loc Cert.SumRepIdeal.main_arg1)
      ∧ m' ((c.tc : Thread Cert.SumRepRefIdeal.nD Cert.SumRepRefIdeal.τ).loc Cert.SumRepRefIdeal.main_arg2) = m ((c.tc : Thread Cert.SumRepIdeal.nD Cert.SumRepIdeal.τ).loc Cert.SumRepIdeal.main_arg2)
      ∧ m' ((c.tc : Thread Cert.SumRepRefIdeal.nD Cert.SumRepRefIdeal.τ).loc Cert.SumRepRefIdeal.main_arg3) = m ((c.tc : Thread Cert.SumRepIdeal.nD Cert.SumRepIdeal.τ).loc Cert.SumRepIdeal.main_arg3)
      ∧ m' ((c.tc : Thread Cert.SumRepRefIdeal.nD Cert.SumRepRefIdeal.τ).loc Cert.SumRepRefIdeal.main_arg4) = m ((c.tc : Thread Cert.SumRepIdeal.nD Cert.SumRepIdeal.τ).loc Cert.SumRepIdeal.main_arg4)
      ∧ m' ((c.tc : Thread Cert.SumRepRefIdeal.nD Cert.SumRepRefIdeal.τ).loc Cert.SumRepRefIdeal.main_arg5) = m ((c.tc : Thread Cert.SumRepIdeal.nD Cert.SumRepIdeal.τ).loc Cert.SumRepIdeal.main_arg5)
      ∧ m' ((c.tc : Thread Cert.SumRepRefIdeal.nD Cert.SumRepRefIdeal.τ).loc Cert.SumRepRefIdeal.main_arg6) = m ((c.tc : Thread Cert.SumRepIdeal.nD Cert.SumRepIdeal.τ).loc Cert.SumRepIdeal.main_arg6)) →
    ∃ (v0 : (c : Dev Cert.SumRepIdeal.nD) → Buf (Elt Ideal) ((c.tc : Thread Cert.SumRepIdeal.nD Cert.SumRepIdeal.τ).loc Cert.SumRepIdeal.main_v10)),
      θ_run (Cert.SumRepIdeal.defs (F := Ideal)) (onTc (τ := Cert.SumRepIdeal.τ) (Cert.SumRepIdeal.main (F := Ideal))) ⟨m, fun _ => 0, g⟩ (fun r => ∀ c : Dev Cert.SumRepIdeal.nD,
          r.2.mem ((c.tc : Thread Cert.SumRepIdeal.nD Cert.SumRepIdeal.τ).loc Cert.SumRepIdeal.main_v10) = v0 c
          ∧ r.2.mem ((c.tc : Thread Cert.SumRepIdeal.nD Cert.SumRepIdeal.τ).loc Cert.SumRepIdeal.main_arg0) = m ((c.tc : Thread Cert.SumRepIdeal.nD Cert.SumRepIdeal.τ).loc Cert.SumRepIdeal.main_arg0)
          ∧ r.2.mem ((c.tc : Thread Cert.SumRepIdeal.nD Cert.SumRepIdeal.τ).loc Cert.SumRepIdeal.main_arg1) = m ((c.tc : Thread Cert.SumRepIdeal.nD Cert.SumRepIdeal.τ).loc Cert.SumRepIdeal.main_arg1)
          ∧ r.2.mem ((c.tc : Thread Cert.SumRepIdeal.nD Cert.SumRepIdeal.τ).loc Cert.SumRepIdeal.main_arg2) = m ((c.tc : Thread Cert.SumRepIdeal.nD Cert.SumRepIdeal.τ).loc Cert.SumRepIdeal.main_arg2)
          ∧ r.2.mem ((c.tc : Thread Cert.SumRepIdeal.nD Cert.SumRepIdeal.τ).loc Cert.SumRepIdeal.main_arg3) = m ((c.tc : Thread Cert.SumRepIdeal.nD Cert.SumRepIdeal.τ).loc Cert.SumRepIdeal.main_arg3)
          ∧ r.2.mem ((c.tc : Thread Cert.SumRepIdeal.nD Cert.SumRepIdeal.τ).loc Cert.SumRepIdeal.main_arg4) = m ((c.tc : Thread Cert.SumRepIdeal.nD Cert.SumRepIdeal.τ).loc Cert.SumRepIdeal.main_arg4)
          ∧ r.2.mem ((c.tc : Thread Cert.SumRepIdeal.nD Cert.SumRepIdeal.τ).loc Cert.SumRepIdeal.main_arg5) = m ((c.tc : Thread Cert.SumRepIdeal.nD Cert.SumRepIdeal.τ).loc Cert.SumRepIdeal.main_arg5)
          ∧ r.2.mem ((c.tc : Thread Cert.SumRepIdeal.nD Cert.SumRepIdeal.τ).loc Cert.SumRepIdeal.main_arg6) = m ((c.tc : Thread Cert.SumRepIdeal.nD Cert.SumRepIdeal.τ).loc Cert.SumRepIdeal.main_arg6))
      ∧ θ_run (Cert.SumRepRefIdeal.defs (F := Ideal)) (onTc (τ := Cert.SumRepRefIdeal.τ) (Cert.SumRepRefIdeal.main (F := Ideal))) ⟨m', fun _ => 0, g'⟩ (fun r => ∀ c : Dev Cert.SumRepRefIdeal.nD,
          r.2.mem ((c.tc : Thread Cert.SumRepRefIdeal.nD Cert.SumRepRefIdeal.τ).loc Cert.SumRepRefIdeal.main_v16) = v0 c
          ∧ r.2.mem ((c.tc : Thread Cert.SumRepRefIdeal.nD Cert.SumRepRefIdeal.τ).loc Cert.SumRepRefIdeal.main_arg0) = m' ((c.tc : Thread Cert.SumRepRefIdeal.nD Cert.SumRepRefIdeal.τ).loc Cert.SumRepRefIdeal.main_arg0)
          ∧ r.2.mem ((c.tc : Thread Cert.SumRepRefIdeal.nD Cert.SumRepRefIdeal.τ).loc Cert.SumRepRefIdeal.main_arg1) = m' ((c.tc : Thread Cert.SumRepRefIdeal.nD Cert.SumRepRefIdeal.τ).loc Cert.SumRepRefIdeal.main_arg1)
          ∧ r.2.mem ((c.tc : Thread Cert.SumRepRefIdeal.nD Cert.SumRepRefIdeal.τ).loc Cert.SumRepRefIdeal.main_arg2) = m' ((c.tc : Thread Cert.SumRepRefIdeal.nD Cert.SumRepRefIdeal.τ).loc Cert.SumRepRefIdeal.main_arg2)
          ∧ r.2.mem ((c.tc : Thread Cert.SumRepRefIdeal.nD Cert.SumRepRefIdeal.τ).loc Cert.SumRepRefIdeal.main_arg3) = m' ((c.tc : Thread Cert.SumRepRefIdeal.nD Cert.SumRepRefIdeal.τ).loc Cert.SumRepRefIdeal.main_arg3)
          ∧ r.2.mem ((c.tc : Thread Cert.SumRepRefIdeal.nD Cert.SumRepRefIdeal.τ).loc Cert.SumRepRefIdeal.main_arg4) = m' ((c.tc : Thread Cert.SumRepRefIdeal.nD Cert.SumRepRefIdeal.τ).loc Cert.SumRepRefIdeal.main_arg4)
          ∧ r.2.mem ((c.tc : Thread Cert.SumRepRefIdeal.nD Cert.SumRepRefIdeal.τ).loc Cert.SumRepRefIdeal.main_arg5) = m' ((c.tc : Thread Cert.SumRepRefIdeal.nD Cert.SumRepRefIdeal.τ).loc Cert.SumRepRefIdeal.main_arg5)
          ∧ r.2.mem ((c.tc : Thread Cert.SumRepRefIdeal.nD Cert.SumRepRefIdeal.τ).loc Cert.SumRepRefIdeal.main_arg6) = m' ((c.tc : Thread Cert.SumRepRefIdeal.nD Cert.SumRepRefIdeal.τ).loc Cert.SumRepRefIdeal.main_arg6))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_ChipsUp_ChipsUpIdeal : Prop :=
  True

def algebraic_ChipsUpIdeal_ChipsUpRefIdeal [hChipsUpIdeal : Cert.ChipsUpIdeal.Facts] [hChipsUpRefIdeal : Cert.ChipsUpRefIdeal.Facts] : Prop :=
  ∀ (m : (ℓ : Loc Cert.ChipsUpIdeal.nD Cert.ChipsUpIdeal.τ Cert.ChipsUpIdeal.sig) → Buf (Elt Ideal) ℓ) (g : Dev Cert.ChipsUpIdeal.nD → PrngReg)
    (m' : (ℓ : Loc Cert.ChipsUpRefIdeal.nD Cert.ChipsUpRefIdeal.τ Cert.ChipsUpRefIdeal.sig) → Buf (Elt Ideal) ℓ) (g' : Dev Cert.ChipsUpRefIdeal.nD → PrngReg), Pre_ChipsUpIdeal m →
    (∀ c : Dev Cert.ChipsUpIdeal.nD,
      m' ((c.tc : Thread Cert.ChipsUpRefIdeal.nD Cert.ChipsUpRefIdeal.τ).loc Cert.ChipsUpRefIdeal.main_arg0) = m ((c.tc : Thread Cert.ChipsUpIdeal.nD Cert.ChipsUpIdeal.τ).loc Cert.ChipsUpIdeal.main_arg0)) →
    ∃ (v0 : (c : Dev Cert.ChipsUpIdeal.nD) → Buf (Elt Ideal) ((c.tc : Thread Cert.ChipsUpIdeal.nD Cert.ChipsUpIdeal.τ).loc Cert.ChipsUpIdeal.main_v0)),
      θ_run (Cert.ChipsUpIdeal.defs (F := Ideal)) (onTc (τ := Cert.ChipsUpIdeal.τ) (Cert.ChipsUpIdeal.main (F := Ideal))) ⟨m, fun _ => 0, g⟩ (fun r => ∀ c : Dev Cert.ChipsUpIdeal.nD,
          r.2.mem ((c.tc : Thread Cert.ChipsUpIdeal.nD Cert.ChipsUpIdeal.τ).loc Cert.ChipsUpIdeal.main_v0) = v0 c
          ∧ r.2.mem ((c.tc : Thread Cert.ChipsUpIdeal.nD Cert.ChipsUpIdeal.τ).loc Cert.ChipsUpIdeal.main_arg0) = m ((c.tc : Thread Cert.ChipsUpIdeal.nD Cert.ChipsUpIdeal.τ).loc Cert.ChipsUpIdeal.main_arg0))
      ∧ θ_run (Cert.ChipsUpRefIdeal.defs (F := Ideal)) (onTc (τ := Cert.ChipsUpRefIdeal.τ) (Cert.ChipsUpRefIdeal.main (F := Ideal))) ⟨m', fun _ => 0, g'⟩ (fun r => ∀ c : Dev Cert.ChipsUpRefIdeal.nD,
          r.2.mem ((c.tc : Thread Cert.ChipsUpRefIdeal.nD Cert.ChipsUpRefIdeal.τ).loc Cert.ChipsUpRefIdeal.main_v1) = v0 c
          ∧ r.2.mem ((c.tc : Thread Cert.ChipsUpRefIdeal.nD Cert.ChipsUpRefIdeal.τ).loc Cert.ChipsUpRefIdeal.main_arg0) = m' ((c.tc : Thread Cert.ChipsUpRefIdeal.nD Cert.ChipsUpRefIdeal.τ).loc Cert.ChipsUpRefIdeal.main_arg0))

def preserves_ChipsDown_ChipsDownIdeal : Prop :=
  True

def algebraic_ChipsDownIdeal_ChipsDownRefIdeal [hChipsDownIdeal : Cert.ChipsDownIdeal.Facts] [hChipsDownRefIdeal : Cert.ChipsDownRefIdeal.Facts] : Prop :=
  ∀ (m : (ℓ : Loc Cert.ChipsDownIdeal.nD Cert.ChipsDownIdeal.τ Cert.ChipsDownIdeal.sig) → Buf (Elt Ideal) ℓ) (g : Dev Cert.ChipsDownIdeal.nD → PrngReg)
    (m' : (ℓ : Loc Cert.ChipsDownRefIdeal.nD Cert.ChipsDownRefIdeal.τ Cert.ChipsDownRefIdeal.sig) → Buf (Elt Ideal) ℓ) (g' : Dev Cert.ChipsDownRefIdeal.nD → PrngReg), Pre_ChipsDownIdeal m →
    (∀ c : Dev Cert.ChipsDownIdeal.nD,
      m' ((c.tc : Thread Cert.ChipsDownRefIdeal.nD Cert.ChipsDownRefIdeal.τ).loc Cert.ChipsDownRefIdeal.main_arg0) = m ((c.tc : Thread Cert.ChipsDownIdeal.nD Cert.ChipsDownIdeal.τ).loc Cert.ChipsDownIdeal.main_arg0)) →
    ∃ (v0 : (c : Dev Cert.ChipsDownIdeal.nD) → Buf (Elt Ideal) ((c.tc : Thread Cert.ChipsDownIdeal.nD Cert.ChipsDownIdeal.τ).loc Cert.ChipsDownIdeal.main_v0)),
      θ_run (Cert.ChipsDownIdeal.defs (F := Ideal)) (onTc (τ := Cert.ChipsDownIdeal.τ) (Cert.ChipsDownIdeal.main (F := Ideal))) ⟨m, fun _ => 0, g⟩ (fun r => ∀ c : Dev Cert.ChipsDownIdeal.nD,
          r.2.mem ((c.tc : Thread Cert.ChipsDownIdeal.nD Cert.ChipsDownIdeal.τ).loc Cert.ChipsDownIdeal.main_v0) = v0 c
          ∧ r.2.mem ((c.tc : Thread Cert.ChipsDownIdeal.nD Cert.ChipsDownIdeal.τ).loc Cert.ChipsDownIdeal.main_arg0) = m ((c.tc : Thread Cert.ChipsDownIdeal.nD Cert.ChipsDownIdeal.τ).loc Cert.ChipsDownIdeal.main_arg0))
      ∧ θ_run (Cert.ChipsDownRefIdeal.defs (F := Ideal)) (onTc (τ := Cert.ChipsDownRefIdeal.τ) (Cert.ChipsDownRefIdeal.main (F := Ideal))) ⟨m', fun _ => 0, g'⟩ (fun r => ∀ c : Dev Cert.ChipsDownRefIdeal.nD,
          r.2.mem ((c.tc : Thread Cert.ChipsDownRefIdeal.nD Cert.ChipsDownRefIdeal.τ).loc Cert.ChipsDownRefIdeal.main_v1) = v0 c
          ∧ r.2.mem ((c.tc : Thread Cert.ChipsDownRefIdeal.nD Cert.ChipsDownRefIdeal.τ).loc Cert.ChipsDownRefIdeal.main_arg0) = m' ((c.tc : Thread Cert.ChipsDownRefIdeal.nD Cert.ChipsDownRefIdeal.τ).loc Cert.ChipsDownRefIdeal.main_arg0))

def preserves_ChipsRow_ChipsRowIdeal : Prop :=
  True

def algebraic_ChipsRowIdeal_ChipsRowRefIdeal [hChipsRowIdeal : Cert.ChipsRowIdeal.Facts] [hChipsRowRefIdeal : Cert.ChipsRowRefIdeal.Facts] : Prop :=
  ∀ (m : (ℓ : Loc Cert.ChipsRowIdeal.nD Cert.ChipsRowIdeal.τ Cert.ChipsRowIdeal.sig) → Buf (Elt Ideal) ℓ) (g : Dev Cert.ChipsRowIdeal.nD → PrngReg)
    (m' : (ℓ : Loc Cert.ChipsRowRefIdeal.nD Cert.ChipsRowRefIdeal.τ Cert.ChipsRowRefIdeal.sig) → Buf (Elt Ideal) ℓ) (g' : Dev Cert.ChipsRowRefIdeal.nD → PrngReg), Pre_ChipsRowIdeal m →
    (∀ c : Dev Cert.ChipsRowIdeal.nD,
      m' ((c.tc : Thread Cert.ChipsRowRefIdeal.nD Cert.ChipsRowRefIdeal.τ).loc Cert.ChipsRowRefIdeal.main_arg0) = m ((c.tc : Thread Cert.ChipsRowIdeal.nD Cert.ChipsRowIdeal.τ).loc Cert.ChipsRowIdeal.main_arg0)) →
    ∃ (v0 : (c : Dev Cert.ChipsRowIdeal.nD) → Buf (Elt Ideal) ((c.tc : Thread Cert.ChipsRowIdeal.nD Cert.ChipsRowIdeal.τ).loc Cert.ChipsRowIdeal.main_v0)),
      θ_run (Cert.ChipsRowIdeal.defs (F := Ideal)) (onTc (τ := Cert.ChipsRowIdeal.τ) (Cert.ChipsRowIdeal.main (F := Ideal))) ⟨m, fun _ => 0, g⟩ (fun r => ∀ c : Dev Cert.ChipsRowIdeal.nD,
          r.2.mem ((c.tc : Thread Cert.ChipsRowIdeal.nD Cert.ChipsRowIdeal.τ).loc Cert.ChipsRowIdeal.main_v0) = v0 c
          ∧ r.2.mem ((c.tc : Thread Cert.ChipsRowIdeal.nD Cert.ChipsRowIdeal.τ).loc Cert.ChipsRowIdeal.main_arg0) = m ((c.tc : Thread Cert.ChipsRowIdeal.nD Cert.ChipsRowIdeal.τ).loc Cert.ChipsRowIdeal.main_arg0))
      ∧ θ_run (Cert.ChipsRowRefIdeal.defs (F := Ideal)) (onTc (τ := Cert.ChipsRowRefIdeal.τ) (Cert.ChipsRowRefIdeal.main (F := Ideal))) ⟨m', fun _ => 0, g'⟩ (fun r => ∀ c : Dev Cert.ChipsRowRefIdeal.nD,
          r.2.mem ((c.tc : Thread Cert.ChipsRowRefIdeal.nD Cert.ChipsRowRefIdeal.τ).loc Cert.ChipsRowRefIdeal.main_v1) = v0 c
          ∧ r.2.mem ((c.tc : Thread Cert.ChipsRowRefIdeal.nD Cert.ChipsRowRefIdeal.τ).loc Cert.ChipsRowRefIdeal.main_arg0) = m' ((c.tc : Thread Cert.ChipsRowRefIdeal.nD Cert.ChipsRowRefIdeal.τ).loc Cert.ChipsRowRefIdeal.main_arg0))

def preserves_ChipsProj_ChipsProjIdeal : Prop :=
  True

def algebraic_ChipsProjIdeal_ChipsProjRefIdeal [hChipsProjIdeal : Cert.ChipsProjIdeal.Facts] [hChipsProjRefIdeal : Cert.ChipsProjRefIdeal.Facts] : Prop :=
  ∀ (m : (ℓ : Loc Cert.ChipsProjIdeal.nD Cert.ChipsProjIdeal.τ Cert.ChipsProjIdeal.sig) → Buf (Elt Ideal) ℓ) (g : Dev Cert.ChipsProjIdeal.nD → PrngReg)
    (m' : (ℓ : Loc Cert.ChipsProjRefIdeal.nD Cert.ChipsProjRefIdeal.τ Cert.ChipsProjRefIdeal.sig) → Buf (Elt Ideal) ℓ) (g' : Dev Cert.ChipsProjRefIdeal.nD → PrngReg), Pre_ChipsProjIdeal m →
    (∀ c : Dev Cert.ChipsProjIdeal.nD,
      m' ((c.tc : Thread Cert.ChipsProjRefIdeal.nD Cert.ChipsProjRefIdeal.τ).loc Cert.ChipsProjRefIdeal.main_arg0) = m ((c.tc : Thread Cert.ChipsProjIdeal.nD Cert.ChipsProjIdeal.τ).loc Cert.ChipsProjIdeal.main_arg0)) →
    ∃ (v0 : (c : Dev Cert.ChipsProjIdeal.nD) → Buf (Elt Ideal) ((c.tc : Thread Cert.ChipsProjIdeal.nD Cert.ChipsProjIdeal.τ).loc Cert.ChipsProjIdeal.main_v0)),
      θ_run (Cert.ChipsProjIdeal.defs (F := Ideal)) (onTc (τ := Cert.ChipsProjIdeal.τ) (Cert.ChipsProjIdeal.main (F := Ideal))) ⟨m, fun _ => 0, g⟩ (fun r => ∀ c : Dev Cert.ChipsProjIdeal.nD,
          r.2.mem ((c.tc : Thread Cert.ChipsProjIdeal.nD Cert.ChipsProjIdeal.τ).loc Cert.ChipsProjIdeal.main_v0) = v0 c
          ∧ r.2.mem ((c.tc : Thread Cert.ChipsProjIdeal.nD Cert.ChipsProjIdeal.τ).loc Cert.ChipsProjIdeal.main_arg0) = m ((c.tc : Thread Cert.ChipsProjIdeal.nD Cert.ChipsProjIdeal.τ).loc Cert.ChipsProjIdeal.main_arg0))
      ∧ θ_run (Cert.ChipsProjRefIdeal.defs (F := Ideal)) (onTc (τ := Cert.ChipsProjRefIdeal.τ) (Cert.ChipsProjRefIdeal.main (F := Ideal))) ⟨m', fun _ => 0, g'⟩ (fun r => ∀ c : Dev Cert.ChipsProjRefIdeal.nD,
          r.2.mem ((c.tc : Thread Cert.ChipsProjRefIdeal.nD Cert.ChipsProjRefIdeal.τ).loc Cert.ChipsProjRefIdeal.main_v1) = v0 c
          ∧ r.2.mem ((c.tc : Thread Cert.ChipsProjRefIdeal.nD Cert.ChipsProjRefIdeal.τ).loc Cert.ChipsProjRefIdeal.main_arg0) = m' ((c.tc : Thread Cert.ChipsProjRefIdeal.nD Cert.ChipsProjRefIdeal.τ).loc Cert.ChipsProjRefIdeal.main_arg0))

def preserves_ChipsEvenIn_ChipsEvenInIdeal : Prop :=
  True

def algebraic_ChipsEvenInIdeal_ChipsEvenInRefIdeal [hChipsEvenInIdeal : Cert.ChipsEvenInIdeal.Facts] [hChipsEvenInRefIdeal : Cert.ChipsEvenInRefIdeal.Facts] : Prop :=
  ∀ (m : (ℓ : Loc Cert.ChipsEvenInIdeal.nD Cert.ChipsEvenInIdeal.τ Cert.ChipsEvenInIdeal.sig) → Buf (Elt Ideal) ℓ) (g : Dev Cert.ChipsEvenInIdeal.nD → PrngReg)
    (m' : (ℓ : Loc Cert.ChipsEvenInRefIdeal.nD Cert.ChipsEvenInRefIdeal.τ Cert.ChipsEvenInRefIdeal.sig) → Buf (Elt Ideal) ℓ) (g' : Dev Cert.ChipsEvenInRefIdeal.nD → PrngReg), Pre_ChipsEvenInIdeal m →
    (∀ c : Dev Cert.ChipsEvenInIdeal.nD,
      m' ((c.tc : Thread Cert.ChipsEvenInRefIdeal.nD Cert.ChipsEvenInRefIdeal.τ).loc Cert.ChipsEvenInRefIdeal.main_arg0) = m ((c.tc : Thread Cert.ChipsEvenInIdeal.nD Cert.ChipsEvenInIdeal.τ).loc Cert.ChipsEvenInIdeal.main_arg0)) →
    ∃ (v0 : (c : Dev Cert.ChipsEvenInIdeal.nD) → Buf (Elt Ideal) ((c.tc : Thread Cert.ChipsEvenInIdeal.nD Cert.ChipsEvenInIdeal.τ).loc Cert.ChipsEvenInIdeal.main_v0)),
      θ_run (Cert.ChipsEvenInIdeal.defs (F := Ideal)) (onTc (τ := Cert.ChipsEvenInIdeal.τ) (Cert.ChipsEvenInIdeal.main (F := Ideal))) ⟨m, fun _ => 0, g⟩ (fun r => ∀ c : Dev Cert.ChipsEvenInIdeal.nD,
          r.2.mem ((c.tc : Thread Cert.ChipsEvenInIdeal.nD Cert.ChipsEvenInIdeal.τ).loc Cert.ChipsEvenInIdeal.main_v0) = v0 c
          ∧ r.2.mem ((c.tc : Thread Cert.ChipsEvenInIdeal.nD Cert.ChipsEvenInIdeal.τ).loc Cert.ChipsEvenInIdeal.main_arg0) = m ((c.tc : Thread Cert.ChipsEvenInIdeal.nD Cert.ChipsEvenInIdeal.τ).loc Cert.ChipsEvenInIdeal.main_arg0))
      ∧ θ_run (Cert.ChipsEvenInRefIdeal.defs (F := Ideal)) (onTc (τ := Cert.ChipsEvenInRefIdeal.τ) (Cert.ChipsEvenInRefIdeal.main (F := Ideal))) ⟨m', fun _ => 0, g'⟩ (fun r => ∀ c : Dev Cert.ChipsEvenInRefIdeal.nD,
          r.2.mem ((c.tc : Thread Cert.ChipsEvenInRefIdeal.nD Cert.ChipsEvenInRefIdeal.τ).loc Cert.ChipsEvenInRefIdeal.main_v1) = v0 c
          ∧ r.2.mem ((c.tc : Thread Cert.ChipsEvenInRefIdeal.nD Cert.ChipsEvenInRefIdeal.τ).loc Cert.ChipsEvenInRefIdeal.main_arg0) = m' ((c.tc : Thread Cert.ChipsEvenInRefIdeal.nD Cert.ChipsEvenInRefIdeal.τ).loc Cert.ChipsEvenInRefIdeal.main_arg0))

def preserves_ChipsLoraIn_ChipsLoraInIdeal : Prop :=
  True

def algebraic_ChipsLoraInIdeal_ChipsLoraInRefIdeal [hChipsLoraInIdeal : Cert.ChipsLoraInIdeal.Facts] [hChipsLoraInRefIdeal : Cert.ChipsLoraInRefIdeal.Facts] : Prop :=
  ∀ (m : (ℓ : Loc Cert.ChipsLoraInIdeal.nD Cert.ChipsLoraInIdeal.τ Cert.ChipsLoraInIdeal.sig) → Buf (Elt Ideal) ℓ) (g : Dev Cert.ChipsLoraInIdeal.nD → PrngReg)
    (m' : (ℓ : Loc Cert.ChipsLoraInRefIdeal.nD Cert.ChipsLoraInRefIdeal.τ Cert.ChipsLoraInRefIdeal.sig) → Buf (Elt Ideal) ℓ) (g' : Dev Cert.ChipsLoraInRefIdeal.nD → PrngReg), Pre_ChipsLoraInIdeal m →
    (∀ c : Dev Cert.ChipsLoraInIdeal.nD,
      m' ((c.tc : Thread Cert.ChipsLoraInRefIdeal.nD Cert.ChipsLoraInRefIdeal.τ).loc Cert.ChipsLoraInRefIdeal.main_arg0) = m ((c.tc : Thread Cert.ChipsLoraInIdeal.nD Cert.ChipsLoraInIdeal.τ).loc Cert.ChipsLoraInIdeal.main_arg0)) →
    ∃ (v0 : (c : Dev Cert.ChipsLoraInIdeal.nD) → Buf (Elt Ideal) ((c.tc : Thread Cert.ChipsLoraInIdeal.nD Cert.ChipsLoraInIdeal.τ).loc Cert.ChipsLoraInIdeal.main_v0)),
      θ_run (Cert.ChipsLoraInIdeal.defs (F := Ideal)) (onTc (τ := Cert.ChipsLoraInIdeal.τ) (Cert.ChipsLoraInIdeal.main (F := Ideal))) ⟨m, fun _ => 0, g⟩ (fun r => ∀ c : Dev Cert.ChipsLoraInIdeal.nD,
          r.2.mem ((c.tc : Thread Cert.ChipsLoraInIdeal.nD Cert.ChipsLoraInIdeal.τ).loc Cert.ChipsLoraInIdeal.main_v0) = v0 c
          ∧ r.2.mem ((c.tc : Thread Cert.ChipsLoraInIdeal.nD Cert.ChipsLoraInIdeal.τ).loc Cert.ChipsLoraInIdeal.main_arg0) = m ((c.tc : Thread Cert.ChipsLoraInIdeal.nD Cert.ChipsLoraInIdeal.τ).loc Cert.ChipsLoraInIdeal.main_arg0))
      ∧ θ_run (Cert.ChipsLoraInRefIdeal.defs (F := Ideal)) (onTc (τ := Cert.ChipsLoraInRefIdeal.τ) (Cert.ChipsLoraInRefIdeal.main (F := Ideal))) ⟨m', fun _ => 0, g'⟩ (fun r => ∀ c : Dev Cert.ChipsLoraInRefIdeal.nD,
          r.2.mem ((c.tc : Thread Cert.ChipsLoraInRefIdeal.nD Cert.ChipsLoraInRefIdeal.τ).loc Cert.ChipsLoraInRefIdeal.main_v1) = v0 c
          ∧ r.2.mem ((c.tc : Thread Cert.ChipsLoraInRefIdeal.nD Cert.ChipsLoraInRefIdeal.τ).loc Cert.ChipsLoraInRefIdeal.main_arg0) = m' ((c.tc : Thread Cert.ChipsLoraInRefIdeal.nD Cert.ChipsLoraInRefIdeal.τ).loc Cert.ChipsLoraInRefIdeal.main_arg0))

def preserves_ChipsLoraOut_ChipsLoraOutIdeal : Prop :=
  True

def algebraic_ChipsLoraOutIdeal_ChipsLoraOutRefIdeal [hChipsLoraOutIdeal : Cert.ChipsLoraOutIdeal.Facts] [hChipsLoraOutRefIdeal : Cert.ChipsLoraOutRefIdeal.Facts] : Prop :=
  ∀ (m : (ℓ : Loc Cert.ChipsLoraOutIdeal.nD Cert.ChipsLoraOutIdeal.τ Cert.ChipsLoraOutIdeal.sig) → Buf (Elt Ideal) ℓ) (g : Dev Cert.ChipsLoraOutIdeal.nD → PrngReg)
    (m' : (ℓ : Loc Cert.ChipsLoraOutRefIdeal.nD Cert.ChipsLoraOutRefIdeal.τ Cert.ChipsLoraOutRefIdeal.sig) → Buf (Elt Ideal) ℓ) (g' : Dev Cert.ChipsLoraOutRefIdeal.nD → PrngReg), Pre_ChipsLoraOutIdeal m →
    (∀ c : Dev Cert.ChipsLoraOutIdeal.nD,
      m' ((c.tc : Thread Cert.ChipsLoraOutRefIdeal.nD Cert.ChipsLoraOutRefIdeal.τ).loc Cert.ChipsLoraOutRefIdeal.main_arg0) = m ((c.tc : Thread Cert.ChipsLoraOutIdeal.nD Cert.ChipsLoraOutIdeal.τ).loc Cert.ChipsLoraOutIdeal.main_arg0)) →
    ∃ (v0 : (c : Dev Cert.ChipsLoraOutIdeal.nD) → Buf (Elt Ideal) ((c.tc : Thread Cert.ChipsLoraOutIdeal.nD Cert.ChipsLoraOutIdeal.τ).loc Cert.ChipsLoraOutIdeal.main_v0)),
      θ_run (Cert.ChipsLoraOutIdeal.defs (F := Ideal)) (onTc (τ := Cert.ChipsLoraOutIdeal.τ) (Cert.ChipsLoraOutIdeal.main (F := Ideal))) ⟨m, fun _ => 0, g⟩ (fun r => ∀ c : Dev Cert.ChipsLoraOutIdeal.nD,
          r.2.mem ((c.tc : Thread Cert.ChipsLoraOutIdeal.nD Cert.ChipsLoraOutIdeal.τ).loc Cert.ChipsLoraOutIdeal.main_v0) = v0 c
          ∧ r.2.mem ((c.tc : Thread Cert.ChipsLoraOutIdeal.nD Cert.ChipsLoraOutIdeal.τ).loc Cert.ChipsLoraOutIdeal.main_arg0) = m ((c.tc : Thread Cert.ChipsLoraOutIdeal.nD Cert.ChipsLoraOutIdeal.τ).loc Cert.ChipsLoraOutIdeal.main_arg0))
      ∧ θ_run (Cert.ChipsLoraOutRefIdeal.defs (F := Ideal)) (onTc (τ := Cert.ChipsLoraOutRefIdeal.τ) (Cert.ChipsLoraOutRefIdeal.main (F := Ideal))) ⟨m', fun _ => 0, g'⟩ (fun r => ∀ c : Dev Cert.ChipsLoraOutRefIdeal.nD,
          r.2.mem ((c.tc : Thread Cert.ChipsLoraOutRefIdeal.nD Cert.ChipsLoraOutRefIdeal.τ).loc Cert.ChipsLoraOutRefIdeal.main_v1) = v0 c
          ∧ r.2.mem ((c.tc : Thread Cert.ChipsLoraOutRefIdeal.nD Cert.ChipsLoraOutRefIdeal.τ).loc Cert.ChipsLoraOutRefIdeal.main_arg0) = m' ((c.tc : Thread Cert.ChipsLoraOutRefIdeal.nD Cert.ChipsLoraOutRefIdeal.τ).loc Cert.ChipsLoraOutRefIdeal.main_arg0))

def preserves_ChipsGateIn_ChipsGateInIdeal : Prop :=
  True

def algebraic_ChipsGateInIdeal_ChipsGateInRefIdeal [hChipsGateInIdeal : Cert.ChipsGateInIdeal.Facts] [hChipsGateInRefIdeal : Cert.ChipsGateInRefIdeal.Facts] : Prop :=
  ∀ (m : (ℓ : Loc Cert.ChipsGateInIdeal.nD Cert.ChipsGateInIdeal.τ Cert.ChipsGateInIdeal.sig) → Buf (Elt Ideal) ℓ) (g : Dev Cert.ChipsGateInIdeal.nD → PrngReg)
    (m' : (ℓ : Loc Cert.ChipsGateInRefIdeal.nD Cert.ChipsGateInRefIdeal.τ Cert.ChipsGateInRefIdeal.sig) → Buf (Elt Ideal) ℓ) (g' : Dev Cert.ChipsGateInRefIdeal.nD → PrngReg), Pre_ChipsGateInIdeal m →
    (∀ c : Dev Cert.ChipsGateInIdeal.nD,
      m' ((c.tc : Thread Cert.ChipsGateInRefIdeal.nD Cert.ChipsGateInRefIdeal.τ).loc Cert.ChipsGateInRefIdeal.main_arg0) = m ((c.tc : Thread Cert.ChipsGateInIdeal.nD Cert.ChipsGateInIdeal.τ).loc Cert.ChipsGateInIdeal.main_arg0)) →
    ∃ (v0 : (c : Dev Cert.ChipsGateInIdeal.nD) → Buf (Elt Ideal) ((c.tc : Thread Cert.ChipsGateInIdeal.nD Cert.ChipsGateInIdeal.τ).loc Cert.ChipsGateInIdeal.main_v0)),
      θ_run (Cert.ChipsGateInIdeal.defs (F := Ideal)) (onTc (τ := Cert.ChipsGateInIdeal.τ) (Cert.ChipsGateInIdeal.main (F := Ideal))) ⟨m, fun _ => 0, g⟩ (fun r => ∀ c : Dev Cert.ChipsGateInIdeal.nD,
          r.2.mem ((c.tc : Thread Cert.ChipsGateInIdeal.nD Cert.ChipsGateInIdeal.τ).loc Cert.ChipsGateInIdeal.main_v0) = v0 c
          ∧ r.2.mem ((c.tc : Thread Cert.ChipsGateInIdeal.nD Cert.ChipsGateInIdeal.τ).loc Cert.ChipsGateInIdeal.main_arg0) = m ((c.tc : Thread Cert.ChipsGateInIdeal.nD Cert.ChipsGateInIdeal.τ).loc Cert.ChipsGateInIdeal.main_arg0))
      ∧ θ_run (Cert.ChipsGateInRefIdeal.defs (F := Ideal)) (onTc (τ := Cert.ChipsGateInRefIdeal.τ) (Cert.ChipsGateInRefIdeal.main (F := Ideal))) ⟨m', fun _ => 0, g'⟩ (fun r => ∀ c : Dev Cert.ChipsGateInRefIdeal.nD,
          r.2.mem ((c.tc : Thread Cert.ChipsGateInRefIdeal.nD Cert.ChipsGateInRefIdeal.τ).loc Cert.ChipsGateInRefIdeal.main_v1) = v0 c
          ∧ r.2.mem ((c.tc : Thread Cert.ChipsGateInRefIdeal.nD Cert.ChipsGateInRefIdeal.τ).loc Cert.ChipsGateInRefIdeal.main_arg0) = m' ((c.tc : Thread Cert.ChipsGateInRefIdeal.nD Cert.ChipsGateInRefIdeal.τ).loc Cert.ChipsGateInRefIdeal.main_arg0))

def preserves_ChipsValIn_ChipsValInIdeal : Prop :=
  True

def algebraic_ChipsValInIdeal_ChipsValInRefIdeal [hChipsValInIdeal : Cert.ChipsValInIdeal.Facts] [hChipsValInRefIdeal : Cert.ChipsValInRefIdeal.Facts] : Prop :=
  ∀ (m : (ℓ : Loc Cert.ChipsValInIdeal.nD Cert.ChipsValInIdeal.τ Cert.ChipsValInIdeal.sig) → Buf (Elt Ideal) ℓ) (g : Dev Cert.ChipsValInIdeal.nD → PrngReg)
    (m' : (ℓ : Loc Cert.ChipsValInRefIdeal.nD Cert.ChipsValInRefIdeal.τ Cert.ChipsValInRefIdeal.sig) → Buf (Elt Ideal) ℓ) (g' : Dev Cert.ChipsValInRefIdeal.nD → PrngReg), Pre_ChipsValInIdeal m →
    (∀ c : Dev Cert.ChipsValInIdeal.nD,
      m' ((c.tc : Thread Cert.ChipsValInRefIdeal.nD Cert.ChipsValInRefIdeal.τ).loc Cert.ChipsValInRefIdeal.main_arg0) = m ((c.tc : Thread Cert.ChipsValInIdeal.nD Cert.ChipsValInIdeal.τ).loc Cert.ChipsValInIdeal.main_arg0)) →
    ∃ (v0 : (c : Dev Cert.ChipsValInIdeal.nD) → Buf (Elt Ideal) ((c.tc : Thread Cert.ChipsValInIdeal.nD Cert.ChipsValInIdeal.τ).loc Cert.ChipsValInIdeal.main_v0)),
      θ_run (Cert.ChipsValInIdeal.defs (F := Ideal)) (onTc (τ := Cert.ChipsValInIdeal.τ) (Cert.ChipsValInIdeal.main (F := Ideal))) ⟨m, fun _ => 0, g⟩ (fun r => ∀ c : Dev Cert.ChipsValInIdeal.nD,
          r.2.mem ((c.tc : Thread Cert.ChipsValInIdeal.nD Cert.ChipsValInIdeal.τ).loc Cert.ChipsValInIdeal.main_v0) = v0 c
          ∧ r.2.mem ((c.tc : Thread Cert.ChipsValInIdeal.nD Cert.ChipsValInIdeal.τ).loc Cert.ChipsValInIdeal.main_arg0) = m ((c.tc : Thread Cert.ChipsValInIdeal.nD Cert.ChipsValInIdeal.τ).loc Cert.ChipsValInIdeal.main_arg0))
      ∧ θ_run (Cert.ChipsValInRefIdeal.defs (F := Ideal)) (onTc (τ := Cert.ChipsValInRefIdeal.τ) (Cert.ChipsValInRefIdeal.main (F := Ideal))) ⟨m', fun _ => 0, g'⟩ (fun r => ∀ c : Dev Cert.ChipsValInRefIdeal.nD,
          r.2.mem ((c.tc : Thread Cert.ChipsValInRefIdeal.nD Cert.ChipsValInRefIdeal.τ).loc Cert.ChipsValInRefIdeal.main_v1) = v0 c
          ∧ r.2.mem ((c.tc : Thread Cert.ChipsValInRefIdeal.nD Cert.ChipsValInRefIdeal.τ).loc Cert.ChipsValInRefIdeal.main_arg0) = m' ((c.tc : Thread Cert.ChipsValInRefIdeal.nD Cert.ChipsValInRefIdeal.τ).loc Cert.ChipsValInRefIdeal.main_arg0))

def preserves_ChipsValOut_ChipsValOutIdeal : Prop :=
  True

def algebraic_ChipsValOutIdeal_ChipsValOutRefIdeal [hChipsValOutIdeal : Cert.ChipsValOutIdeal.Facts] [hChipsValOutRefIdeal : Cert.ChipsValOutRefIdeal.Facts] : Prop :=
  ∀ (m : (ℓ : Loc Cert.ChipsValOutIdeal.nD Cert.ChipsValOutIdeal.τ Cert.ChipsValOutIdeal.sig) → Buf (Elt Ideal) ℓ) (g : Dev Cert.ChipsValOutIdeal.nD → PrngReg)
    (m' : (ℓ : Loc Cert.ChipsValOutRefIdeal.nD Cert.ChipsValOutRefIdeal.τ Cert.ChipsValOutRefIdeal.sig) → Buf (Elt Ideal) ℓ) (g' : Dev Cert.ChipsValOutRefIdeal.nD → PrngReg), Pre_ChipsValOutIdeal m →
    (∀ c : Dev Cert.ChipsValOutIdeal.nD,
      m' ((c.tc : Thread Cert.ChipsValOutRefIdeal.nD Cert.ChipsValOutRefIdeal.τ).loc Cert.ChipsValOutRefIdeal.main_arg0) = m ((c.tc : Thread Cert.ChipsValOutIdeal.nD Cert.ChipsValOutIdeal.τ).loc Cert.ChipsValOutIdeal.main_arg0)) →
    ∃ (v0 : (c : Dev Cert.ChipsValOutIdeal.nD) → Buf (Elt Ideal) ((c.tc : Thread Cert.ChipsValOutIdeal.nD Cert.ChipsValOutIdeal.τ).loc Cert.ChipsValOutIdeal.main_v0)),
      θ_run (Cert.ChipsValOutIdeal.defs (F := Ideal)) (onTc (τ := Cert.ChipsValOutIdeal.τ) (Cert.ChipsValOutIdeal.main (F := Ideal))) ⟨m, fun _ => 0, g⟩ (fun r => ∀ c : Dev Cert.ChipsValOutIdeal.nD,
          r.2.mem ((c.tc : Thread Cert.ChipsValOutIdeal.nD Cert.ChipsValOutIdeal.τ).loc Cert.ChipsValOutIdeal.main_v0) = v0 c
          ∧ r.2.mem ((c.tc : Thread Cert.ChipsValOutIdeal.nD Cert.ChipsValOutIdeal.τ).loc Cert.ChipsValOutIdeal.main_arg0) = m ((c.tc : Thread Cert.ChipsValOutIdeal.nD Cert.ChipsValOutIdeal.τ).loc Cert.ChipsValOutIdeal.main_arg0))
      ∧ θ_run (Cert.ChipsValOutRefIdeal.defs (F := Ideal)) (onTc (τ := Cert.ChipsValOutRefIdeal.τ) (Cert.ChipsValOutRefIdeal.main (F := Ideal))) ⟨m', fun _ => 0, g'⟩ (fun r => ∀ c : Dev Cert.ChipsValOutRefIdeal.nD,
          r.2.mem ((c.tc : Thread Cert.ChipsValOutRefIdeal.nD Cert.ChipsValOutRefIdeal.τ).loc Cert.ChipsValOutRefIdeal.main_v1) = v0 c
          ∧ r.2.mem ((c.tc : Thread Cert.ChipsValOutRefIdeal.nD Cert.ChipsValOutRefIdeal.τ).loc Cert.ChipsValOutRefIdeal.main_arg0) = m' ((c.tc : Thread Cert.ChipsValOutRefIdeal.nD Cert.ChipsValOutRefIdeal.τ).loc Cert.ChipsValOutRefIdeal.main_arg0))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_GmlpFwd_GmlpFwdIdeal : Prop :=
  IdealRules.named_const.Statement Cert.GmlpFwdIdeal.κ "cube" .f32 0x3D372713#32 ((8943 / 200000 : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)) →
    ∃ (v0 : (c : Dev Cert.GmlpFwdIdeal.nD) → Buf (Elt Ideal) ((c.tc : Thread Cert.GmlpFwdIdeal.nD Cert.GmlpFwdIdeal.τ).loc Cert.GmlpFwdIdeal.main_v2)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v2) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v64) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3))

def preserves_PleAdd_PleAddIdeal : Prop :=
  True

def algebraic_PleAddIdeal_PleAddRefIdeal [hPleAddIdeal : Cert.PleAddIdeal.Facts] [hPleAddRefIdeal : Cert.PleAddRefIdeal.Facts] : Prop :=
  ∀ (m : (ℓ : Loc Cert.PleAddIdeal.nD Cert.PleAddIdeal.τ Cert.PleAddIdeal.sig) → Buf (Elt Ideal) ℓ) (g : Dev Cert.PleAddIdeal.nD → PrngReg)
    (m' : (ℓ : Loc Cert.PleAddRefIdeal.nD Cert.PleAddRefIdeal.τ Cert.PleAddRefIdeal.sig) → Buf (Elt Ideal) ℓ) (g' : Dev Cert.PleAddRefIdeal.nD → PrngReg), Pre_PleAddIdeal m →
    (∀ c : Dev Cert.PleAddIdeal.nD,
      m' ((c.tc : Thread Cert.PleAddRefIdeal.nD Cert.PleAddRefIdeal.τ).loc Cert.PleAddRefIdeal.main_arg0) = m ((c.tc : Thread Cert.PleAddIdeal.nD Cert.PleAddIdeal.τ).loc Cert.PleAddIdeal.main_arg0)
      ∧ m' ((c.tc : Thread Cert.PleAddRefIdeal.nD Cert.PleAddRefIdeal.τ).loc Cert.PleAddRefIdeal.main_arg1) = m ((c.tc : Thread Cert.PleAddIdeal.nD Cert.PleAddIdeal.τ).loc Cert.PleAddIdeal.main_arg1)
      ∧ m' ((c.tc : Thread Cert.PleAddRefIdeal.nD Cert.PleAddRefIdeal.τ).loc Cert.PleAddRefIdeal.main_arg2) = m ((c.tc : Thread Cert.PleAddIdeal.nD Cert.PleAddIdeal.τ).loc Cert.PleAddIdeal.main_arg2)) →
    ∃ (v0 : (c : Dev Cert.PleAddIdeal.nD) → Buf (Elt Ideal) ((c.tc : Thread Cert.PleAddIdeal.nD Cert.PleAddIdeal.τ).loc Cert.PleAddIdeal.main_v0)),
      θ_run (Cert.PleAddIdeal.defs (F := Ideal)) (onTc (τ := Cert.PleAddIdeal.τ) (Cert.PleAddIdeal.main (F := Ideal))) ⟨m, fun _ => 0, g⟩ (fun r => ∀ c : Dev Cert.PleAddIdeal.nD,
          r.2.mem ((c.tc : Thread Cert.PleAddIdeal.nD Cert.PleAddIdeal.τ).loc Cert.PleAddIdeal.main_v0) = v0 c
          ∧ r.2.mem ((c.tc : Thread Cert.PleAddIdeal.nD Cert.PleAddIdeal.τ).loc Cert.PleAddIdeal.main_arg0) = m ((c.tc : Thread Cert.PleAddIdeal.nD Cert.PleAddIdeal.τ).loc Cert.PleAddIdeal.main_arg0)
          ∧ r.2.mem ((c.tc : Thread Cert.PleAddIdeal.nD Cert.PleAddIdeal.τ).loc Cert.PleAddIdeal.main_arg1) = m ((c.tc : Thread Cert.PleAddIdeal.nD Cert.PleAddIdeal.τ).loc Cert.PleAddIdeal.main_arg1)
          ∧ r.2.mem ((c.tc : Thread Cert.PleAddIdeal.nD Cert.PleAddIdeal.τ).loc Cert.PleAddIdeal.main_arg2) = m ((c.tc : Thread Cert.PleAddIdeal.nD Cert.PleAddIdeal.τ).loc Cert.PleAddIdeal.main_arg2))
      ∧ θ_run (Cert.PleAddRefIdeal.defs (F := Ideal)) (onTc (τ := Cert.PleAddRefIdeal.τ) (Cert.PleAddRefIdeal.main (F := Ideal))) ⟨m', fun _ => 0, g'⟩ (fun r => ∀ c : Dev Cert.PleAddRefIdeal.nD,
          r.2.mem ((c.tc : Thread Cert.PleAddRefIdeal.nD Cert.PleAddRefIdeal.τ).loc Cert.PleAddRefIdeal.main_v7) = v0 c
          ∧ r.2.mem ((c.tc : Thread Cert.PleAddRefIdeal.nD Cert.PleAddRefIdeal.τ).loc Cert.PleAddRefIdeal.main_arg0) = m' ((c.tc : Thread Cert.PleAddRefIdeal.nD Cert.PleAddRefIdeal.τ).loc Cert.PleAddRefIdeal.main_arg0)
          ∧ r.2.mem ((c.tc : Thread Cert.PleAddRefIdeal.nD Cert.PleAddRefIdeal.τ).loc Cert.PleAddRefIdeal.main_arg1) = m' ((c.tc : Thread Cert.PleAddRefIdeal.nD Cert.PleAddRefIdeal.τ).loc Cert.PleAddRefIdeal.main_arg1)
          ∧ r.2.mem ((c.tc : Thread Cert.PleAddRefIdeal.nD Cert.PleAddRefIdeal.τ).loc Cert.PleAddRefIdeal.main_arg2) = m' ((c.tc : Thread Cert.PleAddRefIdeal.nD Cert.PleAddRefIdeal.τ).loc Cert.PleAddRefIdeal.main_arg2))

def preserves_PleBwd_PleBwdIdeal : Prop :=
  True

def algebraic_PleBwdIdeal_PleBwdRefIdeal [hPleBwdIdeal : Cert.PleBwdIdeal.Facts] [hPleBwdRefIdeal : Cert.PleBwdRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)) →
    ∃ (v0 : (c : Dev Cert.PleBwdIdeal.nD) → Buf (Elt Ideal) ((c.tc : Thread Cert.PleBwdIdeal.nD Cert.PleBwdIdeal.τ).loc Cert.PleBwdIdeal.main_v0_0)) (v1 : (c : Dev Cert.PleBwdIdeal.nD) → Buf (Elt Ideal) ((c.tc : Thread Cert.PleBwdIdeal.nD Cert.PleBwdIdeal.τ).loc Cert.PleBwdIdeal.main_v0_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v0_0) = v0 c
          ∧ r.2.mem ((c.tc : Thread Cert.PleBwdIdeal.nD Cert.PleBwdIdeal.τ).loc Cert.PleBwdIdeal.main_v0_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v13) = v0 c
          ∧ r.2.mem ((c.tc : Thread Cert.PleBwdRefIdeal.nD Cert.PleBwdRefIdeal.τ).loc Cert.PleBwdRefIdeal.main_v14) = v1 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2))

def preserves_RmsFwd32_RmsFwd32Ideal : Prop :=
  True

def algebraic_RmsFwd32Ideal_RmsFwd32RefIdeal [hRmsFwd32Ideal : Cert.RmsFwd32Ideal.Facts] [hRmsFwd32RefIdeal : Cert.RmsFwd32RefIdeal.Facts] : Prop :=
  ∀ (m : (ℓ : Loc Cert.RmsFwd32Ideal.nD Cert.RmsFwd32Ideal.τ Cert.RmsFwd32Ideal.sig) → Buf (Elt Ideal) ℓ) (g : Dev Cert.RmsFwd32Ideal.nD → PrngReg)
    (m' : (ℓ : Loc Cert.RmsFwd32RefIdeal.nD Cert.RmsFwd32RefIdeal.τ Cert.RmsFwd32RefIdeal.sig) → Buf (Elt Ideal) ℓ) (g' : Dev Cert.RmsFwd32RefIdeal.nD → PrngReg), Pre_RmsFwd32Ideal m →
    (∀ c : Dev Cert.RmsFwd32Ideal.nD,
      m' ((c.tc : Thread Cert.RmsFwd32RefIdeal.nD Cert.RmsFwd32RefIdeal.τ).loc Cert.RmsFwd32RefIdeal.main_arg0) = m ((c.tc : Thread Cert.RmsFwd32Ideal.nD Cert.RmsFwd32Ideal.τ).loc Cert.RmsFwd32Ideal.main_arg0)
      ∧ m' ((c.tc : Thread Cert.RmsFwd32RefIdeal.nD Cert.RmsFwd32RefIdeal.τ).loc Cert.RmsFwd32RefIdeal.main_arg1) = m ((c.tc : Thread Cert.RmsFwd32Ideal.nD Cert.RmsFwd32Ideal.τ).loc Cert.RmsFwd32Ideal.main_arg1)) →
    ∃ (v0 : (c : Dev Cert.RmsFwd32Ideal.nD) → Buf (Elt Ideal) ((c.tc : Thread Cert.RmsFwd32Ideal.nD Cert.RmsFwd32Ideal.τ).loc Cert.RmsFwd32Ideal.main_v1)),
      θ_run (Cert.RmsFwd32Ideal.defs (F := Ideal)) (onTc (τ := Cert.RmsFwd32Ideal.τ) (Cert.RmsFwd32Ideal.main (F := Ideal))) ⟨m, fun _ => 0, g⟩ (fun r => ∀ c : Dev Cert.RmsFwd32Ideal.nD,
          r.2.mem ((c.tc : Thread Cert.RmsFwd32Ideal.nD Cert.RmsFwd32Ideal.τ).loc Cert.RmsFwd32Ideal.main_v1) = v0 c
          ∧ r.2.mem ((c.tc : Thread Cert.RmsFwd32Ideal.nD Cert.RmsFwd32Ideal.τ).loc Cert.RmsFwd32Ideal.main_arg0) = m ((c.tc : Thread Cert.RmsFwd32Ideal.nD Cert.RmsFwd32Ideal.τ).loc Cert.RmsFwd32Ideal.main_arg0)
          ∧ r.2.mem ((c.tc : Thread Cert.RmsFwd32Ideal.nD Cert.RmsFwd32Ideal.τ).loc Cert.RmsFwd32Ideal.main_arg1) = m ((c.tc : Thread Cert.RmsFwd32Ideal.nD Cert.RmsFwd32Ideal.τ).loc Cert.RmsFwd32Ideal.main_arg1))
      ∧ θ_run (Cert.RmsFwd32RefIdeal.defs (F := Ideal)) (onTc (τ := Cert.RmsFwd32RefIdeal.τ) (Cert.RmsFwd32RefIdeal.main (F := Ideal))) ⟨m', fun _ => 0, g'⟩ (fun r => ∀ c : Dev Cert.RmsFwd32RefIdeal.nD,
          r.2.mem ((c.tc : Thread Cert.RmsFwd32RefIdeal.nD Cert.RmsFwd32RefIdeal.τ).loc Cert.RmsFwd32RefIdeal.main_v12) = v0 c
          ∧ r.2.mem ((c.tc : Thread Cert.RmsFwd32RefIdeal.nD Cert.RmsFwd32RefIdeal.τ).loc Cert.RmsFwd32RefIdeal.main_arg0) = m' ((c.tc : Thread Cert.RmsFwd32RefIdeal.nD Cert.RmsFwd32RefIdeal.τ).loc Cert.RmsFwd32RefIdeal.main_arg0)
          ∧ r.2.mem ((c.tc : Thread Cert.RmsFwd32RefIdeal.nD Cert.RmsFwd32RefIdeal.τ).loc Cert.RmsFwd32RefIdeal.main_arg1) = m' ((c.tc : Thread Cert.RmsFwd32RefIdeal.nD Cert.RmsFwd32RefIdeal.τ).loc Cert.RmsFwd32RefIdeal.main_arg1))

def preserves_HgrnPre_HgrnPreIdeal : Prop :=
  True

def algebraic_HgrnPreIdeal_HgrnPreRefIdeal [hHgrnPreIdeal : Cert.HgrnPreIdeal.Facts] [hHgrnPreRefIdeal : Cert.HgrnPreRefIdeal.Facts] : Prop :=
  ∀ (m : (ℓ : Loc Cert.HgrnPreIdeal.nD Cert.HgrnPreIdeal.τ Cert.HgrnPreIdeal.sig) → Buf (Elt Ideal) ℓ) (g : Dev Cert.HgrnPreIdeal.nD → PrngReg)
    (m' : (ℓ : Loc Cert.HgrnPreRefIdeal.nD Cert.HgrnPreRefIdeal.τ Cert.HgrnPreRefIdeal.sig) → Buf (Elt Ideal) ℓ) (g' : Dev Cert.HgrnPreRefIdeal.nD → PrngReg), Pre_HgrnPreIdeal m →
    (∀ c : Dev Cert.HgrnPreIdeal.nD,
      m' ((c.tc : Thread Cert.HgrnPreRefIdeal.nD Cert.HgrnPreRefIdeal.τ).loc Cert.HgrnPreRefIdeal.main_arg0) = m ((c.tc : Thread Cert.HgrnPreIdeal.nD Cert.HgrnPreIdeal.τ).loc Cert.HgrnPreIdeal.main_arg0)
      ∧ m' ((c.tc : Thread Cert.HgrnPreRefIdeal.nD Cert.HgrnPreRefIdeal.τ).loc Cert.HgrnPreRefIdeal.main_arg1) = m ((c.tc : Thread Cert.HgrnPreIdeal.nD Cert.HgrnPreIdeal.τ).loc Cert.HgrnPreIdeal.main_arg1)) →
    ∃ (v0 : (c : Dev Cert.HgrnPreIdeal.nD) → Buf (Elt Ideal) ((c.tc : Thread Cert.HgrnPreIdeal.nD Cert.HgrnPreIdeal.τ).loc Cert.HgrnPreIdeal.main_v1_0)) (v1 : (c : Dev Cert.HgrnPreIdeal.nD) → Buf (Elt Ideal) ((c.tc : Thread Cert.HgrnPreIdeal.nD Cert.HgrnPreIdeal.τ).loc Cert.HgrnPreIdeal.main_v1_1)) (v2 : (c : Dev Cert.HgrnPreIdeal.nD) → Buf (Elt Ideal) ((c.tc : Thread Cert.HgrnPreIdeal.nD Cert.HgrnPreIdeal.τ).loc Cert.HgrnPreIdeal.main_v1_2)),
      θ_run (Cert.HgrnPreIdeal.defs (F := Ideal)) (onTc (τ := Cert.HgrnPreIdeal.τ) (Cert.HgrnPreIdeal.main (F := Ideal))) ⟨m, fun _ => 0, g⟩ (fun r => ∀ c : Dev Cert.HgrnPreIdeal.nD,
          r.2.mem ((c.tc : Thread Cert.HgrnPreIdeal.nD Cert.HgrnPreIdeal.τ).loc Cert.HgrnPreIdeal.main_v1_0) = v0 c
          ∧ r.2.mem ((c.tc : Thread Cert.HgrnPreIdeal.nD Cert.HgrnPreIdeal.τ).loc Cert.HgrnPreIdeal.main_v1_1) = v1 c
          ∧ r.2.mem ((c.tc : Thread Cert.HgrnPreIdeal.nD Cert.HgrnPreIdeal.τ).loc Cert.HgrnPreIdeal.main_v1_2) = v2 c
          ∧ r.2.mem ((c.tc : Thread Cert.HgrnPreIdeal.nD Cert.HgrnPreIdeal.τ).loc Cert.HgrnPreIdeal.main_arg0) = m ((c.tc : Thread Cert.HgrnPreIdeal.nD Cert.HgrnPreIdeal.τ).loc Cert.HgrnPreIdeal.main_arg0)
          ∧ r.2.mem ((c.tc : Thread Cert.HgrnPreIdeal.nD Cert.HgrnPreIdeal.τ).loc Cert.HgrnPreIdeal.main_arg1) = m ((c.tc : Thread Cert.HgrnPreIdeal.nD Cert.HgrnPreIdeal.τ).loc Cert.HgrnPreIdeal.main_arg1))
      ∧ θ_run (Cert.HgrnPreRefIdeal.defs (F := Ideal)) (onTc (τ := Cert.HgrnPreRefIdeal.τ) (Cert.HgrnPreRefIdeal.main (F := Ideal))) ⟨m', fun _ => 0, g'⟩ (fun r => ∀ c : Dev Cert.HgrnPreRefIdeal.nD,
          r.2.mem ((c.tc : Thread Cert.HgrnPreRefIdeal.nD Cert.HgrnPreRefIdeal.τ).loc Cert.HgrnPreRefIdeal.main_v16) = v0 c
          ∧ r.2.mem ((c.tc : Thread Cert.HgrnPreRefIdeal.nD Cert.HgrnPreRefIdeal.τ).loc Cert.HgrnPreRefIdeal.main_v18) = v1 c
          ∧ r.2.mem ((c.tc : Thread Cert.HgrnPreRefIdeal.nD Cert.HgrnPreRefIdeal.τ).loc Cert.HgrnPreRefIdeal.main_v20) = v2 c
          ∧ r.2.mem ((c.tc : Thread Cert.HgrnPreRefIdeal.nD Cert.HgrnPreRefIdeal.τ).loc Cert.HgrnPreRefIdeal.main_arg0) = m' ((c.tc : Thread Cert.HgrnPreRefIdeal.nD Cert.HgrnPreRefIdeal.τ).loc Cert.HgrnPreRefIdeal.main_arg0)
          ∧ r.2.mem ((c.tc : Thread Cert.HgrnPreRefIdeal.nD Cert.HgrnPreRefIdeal.τ).loc Cert.HgrnPreRefIdeal.main_arg1) = m' ((c.tc : Thread Cert.HgrnPreRefIdeal.nD Cert.HgrnPreRefIdeal.τ).loc Cert.HgrnPreRefIdeal.main_arg1))

def preserves_LoraAct_LoraActIdeal : Prop :=
  True

def algebraic_LoraActIdeal_LoraActRefIdeal [hLoraActIdeal : Cert.LoraActIdeal.Facts] [hLoraActRefIdeal : Cert.LoraActRefIdeal.Facts] : Prop :=
  ∀ (m : (ℓ : Loc Cert.LoraActIdeal.nD Cert.LoraActIdeal.τ Cert.LoraActIdeal.sig) → Buf (Elt Ideal) ℓ) (g : Dev Cert.LoraActIdeal.nD → PrngReg)
    (m' : (ℓ : Loc Cert.LoraActRefIdeal.nD Cert.LoraActRefIdeal.τ Cert.LoraActRefIdeal.sig) → Buf (Elt Ideal) ℓ) (g' : Dev Cert.LoraActRefIdeal.nD → PrngReg), Pre_LoraActIdeal m →
    (∀ c : Dev Cert.LoraActIdeal.nD,
      m' ((c.tc : Thread Cert.LoraActRefIdeal.nD Cert.LoraActRefIdeal.τ).loc Cert.LoraActRefIdeal.main_arg0) = m ((c.tc : Thread Cert.LoraActIdeal.nD Cert.LoraActIdeal.τ).loc Cert.LoraActIdeal.main_arg0)
      ∧ m' ((c.tc : Thread Cert.LoraActRefIdeal.nD Cert.LoraActRefIdeal.τ).loc Cert.LoraActRefIdeal.main_arg1) = m ((c.tc : Thread Cert.LoraActIdeal.nD Cert.LoraActIdeal.τ).loc Cert.LoraActIdeal.main_arg1)
      ∧ m' ((c.tc : Thread Cert.LoraActRefIdeal.nD Cert.LoraActRefIdeal.τ).loc Cert.LoraActRefIdeal.main_arg2) = m ((c.tc : Thread Cert.LoraActIdeal.nD Cert.LoraActIdeal.τ).loc Cert.LoraActIdeal.main_arg2)
      ∧ m' ((c.tc : Thread Cert.LoraActRefIdeal.nD Cert.LoraActRefIdeal.τ).loc Cert.LoraActRefIdeal.main_arg3) = m ((c.tc : Thread Cert.LoraActIdeal.nD Cert.LoraActIdeal.τ).loc Cert.LoraActIdeal.main_arg3)) →
    ∃ (v0 : (c : Dev Cert.LoraActIdeal.nD) → Buf (Elt Ideal) ((c.tc : Thread Cert.LoraActIdeal.nD Cert.LoraActIdeal.τ).loc Cert.LoraActIdeal.main_v0_0)) (v1 : (c : Dev Cert.LoraActIdeal.nD) → Buf (Elt Ideal) ((c.tc : Thread Cert.LoraActIdeal.nD Cert.LoraActIdeal.τ).loc Cert.LoraActIdeal.main_v0_1)) (v2 : (c : Dev Cert.LoraActIdeal.nD) → Buf (Elt Ideal) ((c.tc : Thread Cert.LoraActIdeal.nD Cert.LoraActIdeal.τ).loc Cert.LoraActIdeal.main_v0_2)) (v3 : (c : Dev Cert.LoraActIdeal.nD) → Buf (Elt Ideal) ((c.tc : Thread Cert.LoraActIdeal.nD Cert.LoraActIdeal.τ).loc Cert.LoraActIdeal.main_v0_3)),
      θ_run (Cert.LoraActIdeal.defs (F := Ideal)) (onTc (τ := Cert.LoraActIdeal.τ) (Cert.LoraActIdeal.main (F := Ideal))) ⟨m, fun _ => 0, g⟩ (fun r => ∀ c : Dev Cert.LoraActIdeal.nD,
          r.2.mem ((c.tc : Thread Cert.LoraActIdeal.nD Cert.LoraActIdeal.τ).loc Cert.LoraActIdeal.main_v0_0) = v0 c
          ∧ r.2.mem ((c.tc : Thread Cert.LoraActIdeal.nD Cert.LoraActIdeal.τ).loc Cert.LoraActIdeal.main_v0_1) = v1 c
          ∧ r.2.mem ((c.tc : Thread Cert.LoraActIdeal.nD Cert.LoraActIdeal.τ).loc Cert.LoraActIdeal.main_v0_2) = v2 c
          ∧ r.2.mem ((c.tc : Thread Cert.LoraActIdeal.nD Cert.LoraActIdeal.τ).loc Cert.LoraActIdeal.main_v0_3) = v3 c
          ∧ r.2.mem ((c.tc : Thread Cert.LoraActIdeal.nD Cert.LoraActIdeal.τ).loc Cert.LoraActIdeal.main_arg0) = m ((c.tc : Thread Cert.LoraActIdeal.nD Cert.LoraActIdeal.τ).loc Cert.LoraActIdeal.main_arg0)
          ∧ r.2.mem ((c.tc : Thread Cert.LoraActIdeal.nD Cert.LoraActIdeal.τ).loc Cert.LoraActIdeal.main_arg1) = m ((c.tc : Thread Cert.LoraActIdeal.nD Cert.LoraActIdeal.τ).loc Cert.LoraActIdeal.main_arg1)
          ∧ r.2.mem ((c.tc : Thread Cert.LoraActIdeal.nD Cert.LoraActIdeal.τ).loc Cert.LoraActIdeal.main_arg2) = m ((c.tc : Thread Cert.LoraActIdeal.nD Cert.LoraActIdeal.τ).loc Cert.LoraActIdeal.main_arg2)
          ∧ r.2.mem ((c.tc : Thread Cert.LoraActIdeal.nD Cert.LoraActIdeal.τ).loc Cert.LoraActIdeal.main_arg3) = m ((c.tc : Thread Cert.LoraActIdeal.nD Cert.LoraActIdeal.τ).loc Cert.LoraActIdeal.main_arg3))
      ∧ θ_run (Cert.LoraActRefIdeal.defs (F := Ideal)) (onTc (τ := Cert.LoraActRefIdeal.τ) (Cert.LoraActRefIdeal.main (F := Ideal))) ⟨m', fun _ => 0, g'⟩ (fun r => ∀ c : Dev Cert.LoraActRefIdeal.nD,
          r.2.mem ((c.tc : Thread Cert.LoraActRefIdeal.nD Cert.LoraActRefIdeal.τ).loc Cert.LoraActRefIdeal.main_v7) = v0 c
          ∧ r.2.mem ((c.tc : Thread Cert.LoraActRefIdeal.nD Cert.LoraActRefIdeal.τ).loc Cert.LoraActRefIdeal.main_v8) = v1 c
          ∧ r.2.mem ((c.tc : Thread Cert.LoraActRefIdeal.nD Cert.LoraActRefIdeal.τ).loc Cert.LoraActRefIdeal.main_v9) = v2 c
          ∧ r.2.mem ((c.tc : Thread Cert.LoraActRefIdeal.nD Cert.LoraActRefIdeal.τ).loc Cert.LoraActRefIdeal.main_v10) = v3 c
          ∧ r.2.mem ((c.tc : Thread Cert.LoraActRefIdeal.nD Cert.LoraActRefIdeal.τ).loc Cert.LoraActRefIdeal.main_arg0) = m' ((c.tc : Thread Cert.LoraActRefIdeal.nD Cert.LoraActRefIdeal.τ).loc Cert.LoraActRefIdeal.main_arg0)
          ∧ r.2.mem ((c.tc : Thread Cert.LoraActRefIdeal.nD Cert.LoraActRefIdeal.τ).loc Cert.LoraActRefIdeal.main_arg1) = m' ((c.tc : Thread Cert.LoraActRefIdeal.nD Cert.LoraActRefIdeal.τ).loc Cert.LoraActRefIdeal.main_arg1)
          ∧ r.2.mem ((c.tc : Thread Cert.LoraActRefIdeal.nD Cert.LoraActRefIdeal.τ).loc Cert.LoraActRefIdeal.main_arg2) = m' ((c.tc : Thread Cert.LoraActRefIdeal.nD Cert.LoraActRefIdeal.τ).loc Cert.LoraActRefIdeal.main_arg2)
          ∧ r.2.mem ((c.tc : Thread Cert.LoraActRefIdeal.nD Cert.LoraActRefIdeal.τ).loc Cert.LoraActRefIdeal.main_arg3) = m' ((c.tc : Thread Cert.LoraActRefIdeal.nD Cert.LoraActRefIdeal.τ).loc Cert.LoraActRefIdeal.main_arg3))

def preserves_LoraBwd_LoraBwdIdeal : Prop :=
  True

def algebraic_LoraBwdIdeal_LoraBwdRefIdeal [hLoraBwdIdeal : Cert.LoraBwdIdeal.Facts] [hLoraBwdRefIdeal : Cert.LoraBwdRefIdeal.Facts] : Prop :=
  ∀ (m : (ℓ : Loc Cert.LoraBwdIdeal.nD Cert.LoraBwdIdeal.τ Cert.LoraBwdIdeal.sig) → Buf (Elt Ideal) ℓ) (g : Dev Cert.LoraBwdIdeal.nD → PrngReg)
    (m' : (ℓ : Loc Cert.LoraBwdRefIdeal.nD Cert.LoraBwdRefIdeal.τ Cert.LoraBwdRefIdeal.sig) → Buf (Elt Ideal) ℓ) (g' : Dev Cert.LoraBwdRefIdeal.nD → PrngReg), Pre_LoraBwdIdeal m →
    (∀ c : Dev Cert.LoraBwdIdeal.nD,
      m' ((c.tc : Thread Cert.LoraBwdRefIdeal.nD Cert.LoraBwdRefIdeal.τ).loc Cert.LoraBwdRefIdeal.main_arg0) = m ((c.tc : Thread Cert.LoraBwdIdeal.nD Cert.LoraBwdIdeal.τ).loc Cert.LoraBwdIdeal.main_arg0)
      ∧ m' ((c.tc : Thread Cert.LoraBwdRefIdeal.nD Cert.LoraBwdRefIdeal.τ).loc Cert.LoraBwdRefIdeal.main_arg1) = m ((c.tc : Thread Cert.LoraBwdIdeal.nD Cert.LoraBwdIdeal.τ).loc Cert.LoraBwdIdeal.main_arg1)
      ∧ m' ((c.tc : Thread Cert.LoraBwdRefIdeal.nD Cert.LoraBwdRefIdeal.τ).loc Cert.LoraBwdRefIdeal.main_arg2) = m ((c.tc : Thread Cert.LoraBwdIdeal.nD Cert.LoraBwdIdeal.τ).loc Cert.LoraBwdIdeal.main_arg2)
      ∧ m' ((c.tc : Thread Cert.LoraBwdRefIdeal.nD Cert.LoraBwdRefIdeal.τ).loc Cert.LoraBwdRefIdeal.main_arg3) = m ((c.tc : Thread Cert.LoraBwdIdeal.nD Cert.LoraBwdIdeal.τ).loc Cert.LoraBwdIdeal.main_arg3)
      ∧ m' ((c.tc : Thread Cert.LoraBwdRefIdeal.nD Cert.LoraBwdRefIdeal.τ).loc Cert.LoraBwdRefIdeal.main_arg4) = m ((c.tc : Thread Cert.LoraBwdIdeal.nD Cert.LoraBwdIdeal.τ).loc Cert.LoraBwdIdeal.main_arg4)
      ∧ m' ((c.tc : Thread Cert.LoraBwdRefIdeal.nD Cert.LoraBwdRefIdeal.τ).loc Cert.LoraBwdRefIdeal.main_arg5) = m ((c.tc : Thread Cert.LoraBwdIdeal.nD Cert.LoraBwdIdeal.τ).loc Cert.LoraBwdIdeal.main_arg5)) →
    ∃ (v0 : (c : Dev Cert.LoraBwdIdeal.nD) → Buf (Elt Ideal) ((c.tc : Thread Cert.LoraBwdIdeal.nD Cert.LoraBwdIdeal.τ).loc Cert.LoraBwdIdeal.main_v9_0)) (v1 : (c : Dev Cert.LoraBwdIdeal.nD) → Buf (Elt Ideal) ((c.tc : Thread Cert.LoraBwdIdeal.nD Cert.LoraBwdIdeal.τ).loc Cert.LoraBwdIdeal.main_v9_1)) (v2 : (c : Dev Cert.LoraBwdIdeal.nD) → Buf (Elt Ideal) ((c.tc : Thread Cert.LoraBwdIdeal.nD Cert.LoraBwdIdeal.τ).loc Cert.LoraBwdIdeal.main_v9_2)) (v3 : (c : Dev Cert.LoraBwdIdeal.nD) → Buf (Elt Ideal) ((c.tc : Thread Cert.LoraBwdIdeal.nD Cert.LoraBwdIdeal.τ).loc Cert.LoraBwdIdeal.main_v9_3)),
      θ_run (Cert.LoraBwdIdeal.defs (F := Ideal)) (onTc (τ := Cert.LoraBwdIdeal.τ) (Cert.LoraBwdIdeal.main (F := Ideal))) ⟨m, fun _ => 0, g⟩ (fun r => ∀ c : Dev Cert.LoraBwdIdeal.nD,
          r.2.mem ((c.tc : Thread Cert.LoraBwdIdeal.nD Cert.LoraBwdIdeal.τ).loc Cert.LoraBwdIdeal.main_v9_0) = v0 c
          ∧ r.2.mem ((c.tc : Thread Cert.LoraBwdIdeal.nD Cert.LoraBwdIdeal.τ).loc Cert.LoraBwdIdeal.main_v9_1) = v1 c
          ∧ r.2.mem ((c.tc : Thread Cert.LoraBwdIdeal.nD Cert.LoraBwdIdeal.τ).loc Cert.LoraBwdIdeal.main_v9_2) = v2 c
          ∧ r.2.mem ((c.tc : Thread Cert.LoraBwdIdeal.nD Cert.LoraBwdIdeal.τ).loc Cert.LoraBwdIdeal.main_v9_3) = v3 c
          ∧ r.2.mem ((c.tc : Thread Cert.LoraBwdIdeal.nD Cert.LoraBwdIdeal.τ).loc Cert.LoraBwdIdeal.main_arg0) = m ((c.tc : Thread Cert.LoraBwdIdeal.nD Cert.LoraBwdIdeal.τ).loc Cert.LoraBwdIdeal.main_arg0)
          ∧ r.2.mem ((c.tc : Thread Cert.LoraBwdIdeal.nD Cert.LoraBwdIdeal.τ).loc Cert.LoraBwdIdeal.main_arg1) = m ((c.tc : Thread Cert.LoraBwdIdeal.nD Cert.LoraBwdIdeal.τ).loc Cert.LoraBwdIdeal.main_arg1)
          ∧ r.2.mem ((c.tc : Thread Cert.LoraBwdIdeal.nD Cert.LoraBwdIdeal.τ).loc Cert.LoraBwdIdeal.main_arg2) = m ((c.tc : Thread Cert.LoraBwdIdeal.nD Cert.LoraBwdIdeal.τ).loc Cert.LoraBwdIdeal.main_arg2)
          ∧ r.2.mem ((c.tc : Thread Cert.LoraBwdIdeal.nD Cert.LoraBwdIdeal.τ).loc Cert.LoraBwdIdeal.main_arg3) = m ((c.tc : Thread Cert.LoraBwdIdeal.nD Cert.LoraBwdIdeal.τ).loc Cert.LoraBwdIdeal.main_arg3)
          ∧ r.2.mem ((c.tc : Thread Cert.LoraBwdIdeal.nD Cert.LoraBwdIdeal.τ).loc Cert.LoraBwdIdeal.main_arg4) = m ((c.tc : Thread Cert.LoraBwdIdeal.nD Cert.LoraBwdIdeal.τ).loc Cert.LoraBwdIdeal.main_arg4)
          ∧ r.2.mem ((c.tc : Thread Cert.LoraBwdIdeal.nD Cert.LoraBwdIdeal.τ).loc Cert.LoraBwdIdeal.main_arg5) = m ((c.tc : Thread Cert.LoraBwdIdeal.nD Cert.LoraBwdIdeal.τ).loc Cert.LoraBwdIdeal.main_arg5))
      ∧ θ_run (Cert.LoraBwdRefIdeal.defs (F := Ideal)) (onTc (τ := Cert.LoraBwdRefIdeal.τ) (Cert.LoraBwdRefIdeal.main (F := Ideal))) ⟨m', fun _ => 0, g'⟩ (fun r => ∀ c : Dev Cert.LoraBwdRefIdeal.nD,
          r.2.mem ((c.tc : Thread Cert.LoraBwdRefIdeal.nD Cert.LoraBwdRefIdeal.τ).loc Cert.LoraBwdRefIdeal.main_v17) = v0 c
          ∧ r.2.mem ((c.tc : Thread Cert.LoraBwdRefIdeal.nD Cert.LoraBwdRefIdeal.τ).loc Cert.LoraBwdRefIdeal.main_v18) = v1 c
          ∧ r.2.mem ((c.tc : Thread Cert.LoraBwdRefIdeal.nD Cert.LoraBwdRefIdeal.τ).loc Cert.LoraBwdRefIdeal.main_v19) = v2 c
          ∧ r.2.mem ((c.tc : Thread Cert.LoraBwdRefIdeal.nD Cert.LoraBwdRefIdeal.τ).loc Cert.LoraBwdRefIdeal.main_v20) = v3 c
          ∧ r.2.mem ((c.tc : Thread Cert.LoraBwdRefIdeal.nD Cert.LoraBwdRefIdeal.τ).loc Cert.LoraBwdRefIdeal.main_arg0) = m' ((c.tc : Thread Cert.LoraBwdRefIdeal.nD Cert.LoraBwdRefIdeal.τ).loc Cert.LoraBwdRefIdeal.main_arg0)
          ∧ r.2.mem ((c.tc : Thread Cert.LoraBwdRefIdeal.nD Cert.LoraBwdRefIdeal.τ).loc Cert.LoraBwdRefIdeal.main_arg1) = m' ((c.tc : Thread Cert.LoraBwdRefIdeal.nD Cert.LoraBwdRefIdeal.τ).loc Cert.LoraBwdRefIdeal.main_arg1)
          ∧ r.2.mem ((c.tc : Thread Cert.LoraBwdRefIdeal.nD Cert.LoraBwdRefIdeal.τ).loc Cert.LoraBwdRefIdeal.main_arg2) = m' ((c.tc : Thread Cert.LoraBwdRefIdeal.nD Cert.LoraBwdRefIdeal.τ).loc Cert.LoraBwdRefIdeal.main_arg2)
          ∧ r.2.mem ((c.tc : Thread Cert.LoraBwdRefIdeal.nD Cert.LoraBwdRefIdeal.τ).loc Cert.LoraBwdRefIdeal.main_arg3) = m' ((c.tc : Thread Cert.LoraBwdRefIdeal.nD Cert.LoraBwdRefIdeal.τ).loc Cert.LoraBwdRefIdeal.main_arg3)
          ∧ r.2.mem ((c.tc : Thread Cert.LoraBwdRefIdeal.nD Cert.LoraBwdRefIdeal.τ).loc Cert.LoraBwdRefIdeal.main_arg4) = m' ((c.tc : Thread Cert.LoraBwdRefIdeal.nD Cert.LoraBwdRefIdeal.τ).loc Cert.LoraBwdRefIdeal.main_arg4)
          ∧ r.2.mem ((c.tc : Thread Cert.LoraBwdRefIdeal.nD Cert.LoraBwdRefIdeal.τ).loc Cert.LoraBwdRefIdeal.main_arg5) = m' ((c.tc : Thread Cert.LoraBwdRefIdeal.nD Cert.LoraBwdRefIdeal.τ).loc Cert.LoraBwdRefIdeal.main_arg5))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hActBwd : Cert.ActBwd.Facts) (hActBwdIdeal : Cert.ActBwdIdeal.Facts) (hActBwdRefIdeal : Cert.ActBwdRefIdeal.Facts) (hDwd : Cert.Dwd.Facts) (hDwdIdeal : Cert.DwdIdeal.Facts) (hDwdRefIdeal : Cert.DwdRefIdeal.Facts) (hDwup : Cert.Dwup.Facts) (hDwupIdeal : Cert.DwupIdeal.Facts) (hDwupRefIdeal : Cert.DwupRefIdeal.Facts) (hDn : Cert.Dn.Facts) (hDnIdeal : Cert.DnIdeal.Facts) (hDnRefIdeal : Cert.DnRefIdeal.Facts) (hDnAcc : Cert.DnAcc.Facts) (hDnAccIdeal : Cert.DnAccIdeal.Facts) (hDnAccRefIdeal : Cert.DnAccRefIdeal.Facts) (hRmsBwd : Cert.RmsBwd.Facts) (hRmsBwdIdeal : Cert.RmsBwdIdeal.Facts) (hRmsBwdRefIdeal : Cert.RmsBwdRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamPleGate : Cert.AdamPleGate.Facts) (hAdamPleGateIdeal : Cert.AdamPleGateIdeal.Facts) (hAdamPleGateRefIdeal : Cert.AdamPleGateRefIdeal.Facts) (hAdamEvenIn : Cert.AdamEvenIn.Facts) (hAdamEvenInIdeal : Cert.AdamEvenInIdeal.Facts) (hAdamEvenInRefIdeal : Cert.AdamEvenInRefIdeal.Facts) (hAdamMix : Cert.AdamMix.Facts) (hAdamMixIdeal : Cert.AdamMixIdeal.Facts) (hAdamMixRefIdeal : Cert.AdamMixRefIdeal.Facts) (hAdamPleProj : Cert.AdamPleProj.Facts) (hAdamPleProjIdeal : Cert.AdamPleProjIdeal.Facts) (hAdamPleProjRefIdeal : Cert.AdamPleProjRefIdeal.Facts) (hAdamLoraIn : Cert.AdamLoraIn.Facts) (hAdamLoraInIdeal : Cert.AdamLoraInIdeal.Facts) (hAdamLoraInRefIdeal : Cert.AdamLoraInRefIdeal.Facts) (hAdamLoraOut : Cert.AdamLoraOut.Facts) (hAdamLoraOutIdeal : Cert.AdamLoraOutIdeal.Facts) (hAdamLoraOutRefIdeal : Cert.AdamLoraOutRefIdeal.Facts) (hAdamGateIn : Cert.AdamGateIn.Facts) (hAdamGateInIdeal : Cert.AdamGateInIdeal.Facts) (hAdamGateInRefIdeal : Cert.AdamGateInRefIdeal.Facts) (hAdamGateOut : Cert.AdamGateOut.Facts) (hAdamGateOutIdeal : Cert.AdamGateOutIdeal.Facts) (hAdamGateOutRefIdeal : Cert.AdamGateOutRefIdeal.Facts) (hAdamValIn : Cert.AdamValIn.Facts) (hAdamValInIdeal : Cert.AdamValInIdeal.Facts) (hAdamValInRefIdeal : Cert.AdamValInRefIdeal.Facts) (hAdamValOut : Cert.AdamValOut.Facts) (hAdamValOutIdeal : Cert.AdamValOutIdeal.Facts) (hAdamValOutRefIdeal : Cert.AdamValOutRefIdeal.Facts) (hAdamSmall : Cert.AdamSmall.Facts) (hAdamSmallIdeal : Cert.AdamSmallIdeal.Facts) (hAdamSmallRefIdeal : Cert.AdamSmallRefIdeal.Facts) (hAdamRep : Cert.AdamRep.Facts) (hAdamRepIdeal : Cert.AdamRepIdeal.Facts) (hAdamRepRefIdeal : Cert.AdamRepRefIdeal.Facts) (hSumSmall : Cert.SumSmall.Facts) (hSumSmallIdeal : Cert.SumSmallIdeal.Facts) (hSumSmallRefIdeal : Cert.SumSmallRefIdeal.Facts) (hSumRep : Cert.SumRep.Facts) (hSumRepIdeal : Cert.SumRepIdeal.Facts) (hSumRepRefIdeal : Cert.SumRepRefIdeal.Facts) (hLoss : Cert.Loss.Facts) (hLossIdeal : Cert.LossIdeal.Facts) (hLossRefIdeal : Cert.LossRefIdeal.Facts) (hChipsUp : Cert.ChipsUp.Facts) (hChipsUpIdeal : Cert.ChipsUpIdeal.Facts) (hChipsUpRefIdeal : Cert.ChipsUpRefIdeal.Facts) (hChipsDown : Cert.ChipsDown.Facts) (hChipsDownIdeal : Cert.ChipsDownIdeal.Facts) (hChipsDownRefIdeal : Cert.ChipsDownRefIdeal.Facts) (hChipsRow : Cert.ChipsRow.Facts) (hChipsRowIdeal : Cert.ChipsRowIdeal.Facts) (hChipsRowRefIdeal : Cert.ChipsRowRefIdeal.Facts) (hChipsProj : Cert.ChipsProj.Facts) (hChipsProjIdeal : Cert.ChipsProjIdeal.Facts) (hChipsProjRefIdeal : Cert.ChipsProjRefIdeal.Facts) (hChipsEvenIn : Cert.ChipsEvenIn.Facts) (hChipsEvenInIdeal : Cert.ChipsEvenInIdeal.Facts) (hChipsEvenInRefIdeal : Cert.ChipsEvenInRefIdeal.Facts) (hChipsLoraIn : Cert.ChipsLoraIn.Facts) (hChipsLoraInIdeal : Cert.ChipsLoraInIdeal.Facts) (hChipsLoraInRefIdeal : Cert.ChipsLoraInRefIdeal.Facts) (hChipsLoraOut : Cert.ChipsLoraOut.Facts) (hChipsLoraOutIdeal : Cert.ChipsLoraOutIdeal.Facts) (hChipsLoraOutRefIdeal : Cert.ChipsLoraOutRefIdeal.Facts) (hChipsGateIn : Cert.ChipsGateIn.Facts) (hChipsGateInIdeal : Cert.ChipsGateInIdeal.Facts) (hChipsGateInRefIdeal : Cert.ChipsGateInRefIdeal.Facts) (hChipsValIn : Cert.ChipsValIn.Facts) (hChipsValInIdeal : Cert.ChipsValInIdeal.Facts) (hChipsValInRefIdeal : Cert.ChipsValInRefIdeal.Facts) (hChipsValOut : Cert.ChipsValOut.Facts) (hChipsValOutIdeal : Cert.ChipsValOutIdeal.Facts) (hChipsValOutRefIdeal : Cert.ChipsValOutRefIdeal.Facts) (hRmsFwd : Cert.RmsFwd.Facts) (hRmsFwdIdeal : Cert.RmsFwdIdeal.Facts) (hRmsFwdRefIdeal : Cert.RmsFwdRefIdeal.Facts) (hGmlpFwd : Cert.GmlpFwd.Facts) (hGmlpFwdIdeal : Cert.GmlpFwdIdeal.Facts) (hGmlpFwdRefIdeal : Cert.GmlpFwdRefIdeal.Facts) (hPleAdd : Cert.PleAdd.Facts) (hPleAddIdeal : Cert.PleAddIdeal.Facts) (hPleAddRefIdeal : Cert.PleAddRefIdeal.Facts) (hPleBwd : Cert.PleBwd.Facts) (hPleBwdIdeal : Cert.PleBwdIdeal.Facts) (hPleBwdRefIdeal : Cert.PleBwdRefIdeal.Facts) (hRmsFwd32 : Cert.RmsFwd32.Facts) (hRmsFwd32Ideal : Cert.RmsFwd32Ideal.Facts) (hRmsFwd32RefIdeal : Cert.RmsFwd32RefIdeal.Facts) (hHgrnPre : Cert.HgrnPre.Facts) (hHgrnPreIdeal : Cert.HgrnPreIdeal.Facts) (hHgrnPreRefIdeal : Cert.HgrnPreRefIdeal.Facts) (hLoraAct : Cert.LoraAct.Facts) (hLoraActIdeal : Cert.LoraActIdeal.Facts) (hLoraActRefIdeal : Cert.LoraActRefIdeal.Facts) (hLoraBwd : Cert.LoraBwd.Facts) (hLoraBwdIdeal : Cert.LoraBwdIdeal.Facts) (hLoraBwdRefIdeal : Cert.LoraBwdRefIdeal.Facts) (hPre_finite : Cert.Pre_finite.Facts) (hPre_finite_act : Cert.Pre_finite_act.Facts) (hPre_finite_rms : Cert.Pre_finite_rms.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactRefIdeal (hDactRefIdeal := hDactRefIdeal)
    ∧ quiescent_ActBwd (hActBwd := hActBwd)
    ∧ quiescent_ActBwdIdeal (hActBwdIdeal := hActBwdIdeal)
    ∧ quiescent_ActBwdIdeal_pre_finite_act (hActBwdIdeal := hActBwdIdeal) (hPre_finite_act := hPre_finite_act)
    ∧ quiescent_ActBwdRefIdeal (hActBwdRefIdeal := hActBwdRefIdeal)
    ∧ quiescent_ActBwdRefIdeal_pre_finite_act (hActBwdRefIdeal := hActBwdRefIdeal) (hPre_finite_act := hPre_finite_act)
    ∧ quiescent_Dwd (hDwd := hDwd)
    ∧ quiescent_DwdIdeal (hDwdIdeal := hDwdIdeal)
    ∧ quiescent_DwdRefIdeal (hDwdRefIdeal := hDwdRefIdeal)
    ∧ quiescent_Dwup (hDwup := hDwup)
    ∧ quiescent_DwupIdeal (hDwupIdeal := hDwupIdeal)
    ∧ quiescent_DwupRefIdeal (hDwupRefIdeal := hDwupRefIdeal)
    ∧ quiescent_Dn (hDn := hDn)
    ∧ quiescent_DnIdeal (hDnIdeal := hDnIdeal)
    ∧ quiescent_DnRefIdeal (hDnRefIdeal := hDnRefIdeal)
    ∧ quiescent_DnAcc (hDnAcc := hDnAcc)
    ∧ quiescent_DnAccIdeal (hDnAccIdeal := hDnAccIdeal)
    ∧ quiescent_DnAccRefIdeal (hDnAccRefIdeal := hDnAccRefIdeal)
    ∧ quiescent_RmsBwd (hRmsBwd := hRmsBwd)
    ∧ quiescent_RmsBwdIdeal (hRmsBwdIdeal := hRmsBwdIdeal)
    ∧ quiescent_RmsBwdIdeal_pre_finite_rms (hRmsBwdIdeal := hRmsBwdIdeal) (hPre_finite_rms := hPre_finite_rms)
    ∧ quiescent_RmsBwdRefIdeal (hRmsBwdRefIdeal := hRmsBwdRefIdeal)
    ∧ quiescent_RmsBwdRefIdeal_pre_finite_rms (hRmsBwdRefIdeal := hRmsBwdRefIdeal) (hPre_finite_rms := hPre_finite_rms)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamPleGate (hAdamPleGate := hAdamPleGate)
    ∧ quiescent_AdamPleGateIdeal (hAdamPleGateIdeal := hAdamPleGateIdeal)
    ∧ quiescent_AdamPleGateRefIdeal (hAdamPleGateRefIdeal := hAdamPleGateRefIdeal)
    ∧ quiescent_AdamEvenIn (hAdamEvenIn := hAdamEvenIn)
    ∧ quiescent_AdamEvenInIdeal (hAdamEvenInIdeal := hAdamEvenInIdeal)
    ∧ quiescent_AdamEvenInRefIdeal (hAdamEvenInRefIdeal := hAdamEvenInRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_AdamPleProj (hAdamPleProj := hAdamPleProj)
    ∧ quiescent_AdamPleProjIdeal (hAdamPleProjIdeal := hAdamPleProjIdeal)
    ∧ quiescent_AdamPleProjRefIdeal (hAdamPleProjRefIdeal := hAdamPleProjRefIdeal)
    ∧ quiescent_AdamLoraIn (hAdamLoraIn := hAdamLoraIn)
    ∧ quiescent_AdamLoraInIdeal (hAdamLoraInIdeal := hAdamLoraInIdeal)
    ∧ quiescent_AdamLoraInRefIdeal (hAdamLoraInRefIdeal := hAdamLoraInRefIdeal)
    ∧ quiescent_AdamLoraOut (hAdamLoraOut := hAdamLoraOut)
    ∧ quiescent_AdamLoraOutIdeal (hAdamLoraOutIdeal := hAdamLoraOutIdeal)
    ∧ quiescent_AdamLoraOutRefIdeal (hAdamLoraOutRefIdeal := hAdamLoraOutRefIdeal)
    ∧ quiescent_AdamGateIn (hAdamGateIn := hAdamGateIn)
    ∧ quiescent_AdamGateInIdeal (hAdamGateInIdeal := hAdamGateInIdeal)
    ∧ quiescent_AdamGateInRefIdeal (hAdamGateInRefIdeal := hAdamGateInRefIdeal)
    ∧ quiescent_AdamGateOut (hAdamGateOut := hAdamGateOut)
    ∧ quiescent_AdamGateOutIdeal (hAdamGateOutIdeal := hAdamGateOutIdeal)
    ∧ quiescent_AdamGateOutRefIdeal (hAdamGateOutRefIdeal := hAdamGateOutRefIdeal)
    ∧ quiescent_AdamValIn (hAdamValIn := hAdamValIn)
    ∧ quiescent_AdamValInIdeal (hAdamValInIdeal := hAdamValInIdeal)
    ∧ quiescent_AdamValInRefIdeal (hAdamValInRefIdeal := hAdamValInRefIdeal)
    ∧ quiescent_AdamValOut (hAdamValOut := hAdamValOut)
    ∧ quiescent_AdamValOutIdeal (hAdamValOutIdeal := hAdamValOutIdeal)
    ∧ quiescent_AdamValOutRefIdeal (hAdamValOutRefIdeal := hAdamValOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumRep (hSumRep := hSumRep)
    ∧ quiescent_SumRepIdeal (hSumRepIdeal := hSumRepIdeal)
    ∧ quiescent_SumRepRefIdeal (hSumRepRefIdeal := hSumRepRefIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_ChipsUp (hChipsUp := hChipsUp)
    ∧ quiescent_ChipsUpIdeal (hChipsUpIdeal := hChipsUpIdeal)
    ∧ quiescent_ChipsUpRefIdeal (hChipsUpRefIdeal := hChipsUpRefIdeal)
    ∧ quiescent_ChipsDown (hChipsDown := hChipsDown)
    ∧ quiescent_ChipsDownIdeal (hChipsDownIdeal := hChipsDownIdeal)
    ∧ quiescent_ChipsDownRefIdeal (hChipsDownRefIdeal := hChipsDownRefIdeal)
    ∧ quiescent_ChipsRow (hChipsRow := hChipsRow)
    ∧ quiescent_ChipsRowIdeal (hChipsRowIdeal := hChipsRowIdeal)
    ∧ quiescent_ChipsRowRefIdeal (hChipsRowRefIdeal := hChipsRowRefIdeal)
    ∧ quiescent_ChipsProj (hChipsProj := hChipsProj)
    ∧ quiescent_ChipsProjIdeal (hChipsProjIdeal := hChipsProjIdeal)
    ∧ quiescent_ChipsProjRefIdeal (hChipsProjRefIdeal := hChipsProjRefIdeal)
    ∧ quiescent_ChipsEvenIn (hChipsEvenIn := hChipsEvenIn)
    ∧ quiescent_ChipsEvenInIdeal (hChipsEvenInIdeal := hChipsEvenInIdeal)
    ∧ quiescent_ChipsEvenInRefIdeal (hChipsEvenInRefIdeal := hChipsEvenInRefIdeal)
    ∧ quiescent_ChipsLoraIn (hChipsLoraIn := hChipsLoraIn)
    ∧ quiescent_ChipsLoraInIdeal (hChipsLoraInIdeal := hChipsLoraInIdeal)
    ∧ quiescent_ChipsLoraInRefIdeal (hChipsLoraInRefIdeal := hChipsLoraInRefIdeal)
    ∧ quiescent_ChipsLoraOut (hChipsLoraOut := hChipsLoraOut)
    ∧ quiescent_ChipsLoraOutIdeal (hChipsLoraOutIdeal := hChipsLoraOutIdeal)
    ∧ quiescent_ChipsLoraOutRefIdeal (hChipsLoraOutRefIdeal := hChipsLoraOutRefIdeal)
    ∧ quiescent_ChipsGateIn (hChipsGateIn := hChipsGateIn)
    ∧ quiescent_ChipsGateInIdeal (hChipsGateInIdeal := hChipsGateInIdeal)
    ∧ quiescent_ChipsGateInRefIdeal (hChipsGateInRefIdeal := hChipsGateInRefIdeal)
    ∧ quiescent_ChipsValIn (hChipsValIn := hChipsValIn)
    ∧ quiescent_ChipsValInIdeal (hChipsValInIdeal := hChipsValInIdeal)
    ∧ quiescent_ChipsValInRefIdeal (hChipsValInRefIdeal := hChipsValInRefIdeal)
    ∧ quiescent_ChipsValOut (hChipsValOut := hChipsValOut)
    ∧ quiescent_ChipsValOutIdeal (hChipsValOutIdeal := hChipsValOutIdeal)
    ∧ quiescent_ChipsValOutRefIdeal (hChipsValOutRefIdeal := hChipsValOutRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_PleAdd (hPleAdd := hPleAdd)
    ∧ quiescent_PleAddIdeal (hPleAddIdeal := hPleAddIdeal)
    ∧ quiescent_PleAddRefIdeal (hPleAddRefIdeal := hPleAddRefIdeal)
    ∧ quiescent_PleBwd (hPleBwd := hPleBwd)
    ∧ quiescent_PleBwdIdeal (hPleBwdIdeal := hPleBwdIdeal)
    ∧ quiescent_PleBwdRefIdeal (hPleBwdRefIdeal := hPleBwdRefIdeal)
    ∧ quiescent_RmsFwd32 (hRmsFwd32 := hRmsFwd32)
    ∧ quiescent_RmsFwd32Ideal (hRmsFwd32Ideal := hRmsFwd32Ideal)
    ∧ quiescent_RmsFwd32RefIdeal (hRmsFwd32RefIdeal := hRmsFwd32RefIdeal)
    ∧ quiescent_HgrnPre (hHgrnPre := hHgrnPre)
    ∧ quiescent_HgrnPreIdeal (hHgrnPreIdeal := hHgrnPreIdeal)
    ∧ quiescent_HgrnPreRefIdeal (hHgrnPreRefIdeal := hHgrnPreRefIdeal)
    ∧ quiescent_LoraAct (hLoraAct := hLoraAct)
    ∧ quiescent_LoraActIdeal (hLoraActIdeal := hLoraActIdeal)
    ∧ quiescent_LoraActRefIdeal (hLoraActRefIdeal := hLoraActRefIdeal)
    ∧ quiescent_LoraBwd (hLoraBwd := hLoraBwd)
    ∧ quiescent_LoraBwdIdeal (hLoraBwdIdeal := hLoraBwdIdeal)
    ∧ quiescent_LoraBwdRefIdeal (hLoraBwdRefIdeal := hLoraBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactRefIdeal (hDactIdeal := hDactIdeal) (hDactRefIdeal := hDactRefIdeal)
    ∧ preserves_ActBwd_ActBwdIdeal
    ∧ algebraic_ActBwdIdeal_ActBwdRefIdeal_pre_finite_act (hActBwdIdeal := hActBwdIdeal) (hActBwdRefIdeal := hActBwdRefIdeal) (hPre_finite_act := hPre_finite_act)
    ∧ preserves_Dwd_DwdIdeal
    ∧ algebraic_DwdIdeal_DwdRefIdeal (hDwdIdeal := hDwdIdeal) (hDwdRefIdeal := hDwdRefIdeal)
    ∧ preserves_Dwup_DwupIdeal
    ∧ algebraic_DwupIdeal_DwupRefIdeal (hDwupIdeal := hDwupIdeal) (hDwupRefIdeal := hDwupRefIdeal)
    ∧ preserves_Dn_DnIdeal
    ∧ algebraic_DnIdeal_DnRefIdeal (hDnIdeal := hDnIdeal) (hDnRefIdeal := hDnRefIdeal)
    ∧ preserves_DnAcc_DnAccIdeal
    ∧ algebraic_DnAccIdeal_DnAccRefIdeal (hDnAccIdeal := hDnAccIdeal) (hDnAccRefIdeal := hDnAccRefIdeal)
    ∧ preserves_RmsBwd_RmsBwdIdeal
    ∧ algebraic_RmsBwdIdeal_RmsBwdRefIdeal_pre_finite_rms (hRmsBwdIdeal := hRmsBwdIdeal) (hRmsBwdRefIdeal := hRmsBwdRefIdeal) (hPre_finite_rms := hPre_finite_rms)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamPleGate_AdamPleGateIdeal
    ∧ algebraic_AdamPleGateIdeal_AdamPleGateRefIdeal (hAdamPleGateIdeal := hAdamPleGateIdeal) (hAdamPleGateRefIdeal := hAdamPleGateRefIdeal)
    ∧ preserves_AdamEvenIn_AdamEvenInIdeal
    ∧ algebraic_AdamEvenInIdeal_AdamEvenInRefIdeal (hAdamEvenInIdeal := hAdamEvenInIdeal) (hAdamEvenInRefIdeal := hAdamEvenInRefIdeal)
    ∧ preserves_AdamMix_AdamMixIdeal
    ∧ algebraic_AdamMixIdeal_AdamMixRefIdeal (hAdamMixIdeal := hAdamMixIdeal) (hAdamMixRefIdeal := hAdamMixRefIdeal)
    ∧ preserves_AdamPleProj_AdamPleProjIdeal
    ∧ algebraic_AdamPleProjIdeal_AdamPleProjRefIdeal (hAdamPleProjIdeal := hAdamPleProjIdeal) (hAdamPleProjRefIdeal := hAdamPleProjRefIdeal)
    ∧ preserves_AdamLoraIn_AdamLoraInIdeal
    ∧ algebraic_AdamLoraInIdeal_AdamLoraInRefIdeal (hAdamLoraInIdeal := hAdamLoraInIdeal) (hAdamLoraInRefIdeal := hAdamLoraInRefIdeal)
    ∧ preserves_AdamLoraOut_AdamLoraOutIdeal
    ∧ algebraic_AdamLoraOutIdeal_AdamLoraOutRefIdeal (hAdamLoraOutIdeal := hAdamLoraOutIdeal) (hAdamLoraOutRefIdeal := hAdamLoraOutRefIdeal)
    ∧ preserves_AdamGateIn_AdamGateInIdeal
    ∧ algebraic_AdamGateInIdeal_AdamGateInRefIdeal (hAdamGateInIdeal := hAdamGateInIdeal) (hAdamGateInRefIdeal := hAdamGateInRefIdeal)
    ∧ preserves_AdamGateOut_AdamGateOutIdeal
    ∧ algebraic_AdamGateOutIdeal_AdamGateOutRefIdeal (hAdamGateOutIdeal := hAdamGateOutIdeal) (hAdamGateOutRefIdeal := hAdamGateOutRefIdeal)
    ∧ preserves_AdamValIn_AdamValInIdeal
    ∧ algebraic_AdamValInIdeal_AdamValInRefIdeal (hAdamValInIdeal := hAdamValInIdeal) (hAdamValInRefIdeal := hAdamValInRefIdeal)
    ∧ preserves_AdamValOut_AdamValOutIdeal
    ∧ algebraic_AdamValOutIdeal_AdamValOutRefIdeal (hAdamValOutIdeal := hAdamValOutIdeal) (hAdamValOutRefIdeal := hAdamValOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamRep_AdamRepIdeal
    ∧ algebraic_AdamRepIdeal_AdamRepRefIdeal (hAdamRepIdeal := hAdamRepIdeal) (hAdamRepRefIdeal := hAdamRepRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumRep_SumRepIdeal
    ∧ algebraic_SumRepIdeal_SumRepRefIdeal (hSumRepIdeal := hSumRepIdeal) (hSumRepRefIdeal := hSumRepRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_ChipsUp_ChipsUpIdeal
    ∧ algebraic_ChipsUpIdeal_ChipsUpRefIdeal (hChipsUpIdeal := hChipsUpIdeal) (hChipsUpRefIdeal := hChipsUpRefIdeal)
    ∧ preserves_ChipsDown_ChipsDownIdeal
    ∧ algebraic_ChipsDownIdeal_ChipsDownRefIdeal (hChipsDownIdeal := hChipsDownIdeal) (hChipsDownRefIdeal := hChipsDownRefIdeal)
    ∧ preserves_ChipsRow_ChipsRowIdeal
    ∧ algebraic_ChipsRowIdeal_ChipsRowRefIdeal (hChipsRowIdeal := hChipsRowIdeal) (hChipsRowRefIdeal := hChipsRowRefIdeal)
    ∧ preserves_ChipsProj_ChipsProjIdeal
    ∧ algebraic_ChipsProjIdeal_ChipsProjRefIdeal (hChipsProjIdeal := hChipsProjIdeal) (hChipsProjRefIdeal := hChipsProjRefIdeal)
    ∧ preserves_ChipsEvenIn_ChipsEvenInIdeal
    ∧ algebraic_ChipsEvenInIdeal_ChipsEvenInRefIdeal (hChipsEvenInIdeal := hChipsEvenInIdeal) (hChipsEvenInRefIdeal := hChipsEvenInRefIdeal)
    ∧ preserves_ChipsLoraIn_ChipsLoraInIdeal
    ∧ algebraic_ChipsLoraInIdeal_ChipsLoraInRefIdeal (hChipsLoraInIdeal := hChipsLoraInIdeal) (hChipsLoraInRefIdeal := hChipsLoraInRefIdeal)
    ∧ preserves_ChipsLoraOut_ChipsLoraOutIdeal
    ∧ algebraic_ChipsLoraOutIdeal_ChipsLoraOutRefIdeal (hChipsLoraOutIdeal := hChipsLoraOutIdeal) (hChipsLoraOutRefIdeal := hChipsLoraOutRefIdeal)
    ∧ preserves_ChipsGateIn_ChipsGateInIdeal
    ∧ algebraic_ChipsGateInIdeal_ChipsGateInRefIdeal (hChipsGateInIdeal := hChipsGateInIdeal) (hChipsGateInRefIdeal := hChipsGateInRefIdeal)
    ∧ preserves_ChipsValIn_ChipsValInIdeal
    ∧ algebraic_ChipsValInIdeal_ChipsValInRefIdeal (hChipsValInIdeal := hChipsValInIdeal) (hChipsValInRefIdeal := hChipsValInRefIdeal)
    ∧ preserves_ChipsValOut_ChipsValOutIdeal
    ∧ algebraic_ChipsValOutIdeal_ChipsValOutRefIdeal (hChipsValOutIdeal := hChipsValOutIdeal) (hChipsValOutRefIdeal := hChipsValOutRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_PleAdd_PleAddIdeal
    ∧ algebraic_PleAddIdeal_PleAddRefIdeal (hPleAddIdeal := hPleAddIdeal) (hPleAddRefIdeal := hPleAddRefIdeal)
    ∧ preserves_PleBwd_PleBwdIdeal
    ∧ algebraic_PleBwdIdeal_PleBwdRefIdeal (hPleBwdIdeal := hPleBwdIdeal) (hPleBwdRefIdeal := hPleBwdRefIdeal)
    ∧ preserves_RmsFwd32_RmsFwd32Ideal
    ∧ algebraic_RmsFwd32Ideal_RmsFwd32RefIdeal (hRmsFwd32Ideal := hRmsFwd32Ideal) (hRmsFwd32RefIdeal := hRmsFwd32RefIdeal)
    ∧ preserves_HgrnPre_HgrnPreIdeal
    ∧ algebraic_HgrnPreIdeal_HgrnPreRefIdeal (hHgrnPreIdeal := hHgrnPreIdeal) (hHgrnPreRefIdeal := hHgrnPreRefIdeal)
    ∧ preserves_LoraAct_LoraActIdeal
    ∧ algebraic_LoraActIdeal_LoraActRefIdeal (hLoraActIdeal := hLoraActIdeal) (hLoraActRefIdeal := hLoraActRefIdeal)
    ∧ preserves_LoraBwd_LoraBwdIdeal
    ∧ algebraic_LoraBwdIdeal_LoraBwdRefIdeal (hLoraBwdIdeal := hLoraBwdIdeal) (hLoraBwdRefIdeal := hLoraBwdRefIdeal)
-- ==== Pre_finite.lean ====
abbrev S2048x6144 : Shape := ⟨2, ![2048, 6144]⟩
abbrev S2048x2048 : Shape := ⟨2, ![2048, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  main_v23

def fn {F : FTy → Type} [FloatOps F] (main_arg0 : FVec F S2048x6144 .f32) (main_arg1 : FVec F S2048x2048 .f32) (main_arg2 : FVec F S1024 .f32) (main_arg3 : FVec F S8x128x128 .f32) (main_arg4 : FVec F S8x128 .f32) : IVec S_ 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_v13 main_v16
-- ==== Pre_finite_act.lean ====
abbrev S2048x5632 : Shape := ⟨2, ![2048, 5632]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel

variable [Facts]

def fn {F : FTy → Type} [FloatOps F] (main_arg0 : FVec F S2048x5632 .bf16) (main_arg1 : FVec F S2048x5632 .bf16) (main_arg2 : FVec F S2048x5632 .bf16) : IVec S_ 1 :=
  let main_v0 : FVec F S2048x5632 .f32 := (extf .f32 · bitsLt_bf16_f32) main_arg0
  let main_v1 : FVec F S2048x5632 .f32 := (extf .f32 · bitsLt_bf16_f32) main_arg1
  let main_v2 : FVec F S2048x5632 .f32 := (extf .f32 · bitsLt_bf16_f32) main_arg2
  let main_v3 : FVec F S2048x5632 .f32 := Host.absf main_v0
  let main_cst : FVec F S_ .f32 := constant S_ .f32 0x7F800000#32
  let main_v4 : FVec F S2048x5632 .f32 := broadcastInDim S2048x5632 ![] bcast_S_S2048x5632 main_cst
  let main_v5 : IVec S2048x5632 1 := cmpf .olt main_v3 main_v4
  let main_c : IVec S_ 1 := constantI S_ 1 1#1
  let main_v6 : IVec S_ 1 := (fun x v => Host.reduce IntOp.andi x v reducesTo_S2048x5632_S_d0_1 h_S_) main_v5 main_c
  let main_v7 : FVec F S2048x5632 .f32 := Host.absf main_v1
  let main_cst_0 : FVec F S_ .f32 := constant S_ .f32 0x7F800000#32
  let main_v8 : FVec F S2048x5632 .f32 := broadcastInDim S2048x5632 ![] bcast_S_S2048x5632 main_cst_0
  let main_v9 : IVec S2048x5632 1 := cmpf .olt main_v7 main_v8
  let main_c_1 : IVec S_ 1 := constantI S_ 1 1#1
  let main_v10 : IVec S_ 1 := (fun x v => Host.reduce IntOp.andi x v reducesTo_S2048x5632_S_d0_1 h_S_) main_v9 main_c_1
  let main_v11 : FVec F S2048x5632 .f32 := Host.absf main_v2
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_c_3 : IVec S_ 1 := constantI S_ 1 1#1
  let main_v14 : IVec S_ 1 := (fun x v => Host.reduce IntOp.andi x v reducesTo_S2048x5632_S_d0_1 h_S_) main_v13 main_c_3
  let main_v15 : IVec S_ 1 := andi main_v6 main_v10
  let main_v16 : IVec S_ 1 := andi main_v15 main_v14
  main_v16
-- ==== Pre_finite_loss.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048x2048 .f32) (main_arg2 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : FVec F S2048 .f32 := Host.absf main_arg2
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v3 main_v7
  let main_v13 : IVec S_ 1 := andi main_v12 main_v11
  main_v13
-- ==== Pre_finite_rms.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x2048 .f32) (main_arg1 : FVec F S2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : FVec F S2048x2048 .f32 := Host.absf main_arg2
  let main_cst_2 : FVec F S_ .f32 := constant S_ .f32 0x7F800000#32
  let main_v9 : FVec F S2048x2048 .f32 := broadcastInDim S2048x2048 ![] bcast_S_S2048x2048 main_cst_2
  let main_v10 : IVec S2048x2048 1 := cmpf .olt main_v8 main_v9
  let main_c_3 : IVec S_ 1 := constantI S_ 1 1#1
  let main_v11 : IVec S_ 1 := (fun x v => Host.reduce IntOp.andi x v reducesTo_S2048x2048_S_d0_1 h_S_) main_v10 main_c_3
  let main_v12 : FVec F S2048x2048 .f32 := Host.absf main_arg3
  let main_cst_4 : FVec F S_ .f32 := constant S_ .f32 0x7F800000#32
  let main_v13 : FVec F S2048x2048 .f32 := broadcastInDim S2048x2048 ![] bcast_S_S2048x2048 main_cst_4
  let main_v14 : IVec S2048x2048 1 := cmpf .olt main_v12 main_v13
  let main_c_5 : IVec S_ 1 := constantI S_ 1 1#1
  let main_v15 : IVec S_ 1 := (fun x v => Host.reduce IntOp.andi x v reducesTo_S2048x2048_S_d0_1 h_S_) main_v14 main_c_5
  fn_part1 (F := F) main_v3 main_v7 main_v11 main_v15
-- ==== Kernel.lean ====
abbrev S2048x6144 : Shape := ⟨2, ![2048, 6144]⟩
abbrev S2048x2048 : Shape := ⟨2, ![2048, 2048]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S2048x1024 : Shape := ⟨2, ![2048, 1024]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 12
  | .vmem => 16
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S128x8, .f32⟩
  | .hbm, ⟨7, _⟩ => ⟨S2048x1024, .bf16⟩
  | .hbm, ⟨8, _⟩ => ⟨S2048x1024, .bf16⟩
  | .hbm, ⟨9, _⟩ => ⟨S8x128x128, .f32⟩
  | .hbm, ⟨10, _⟩ => ⟨S128x8, .f32⟩
  | .hbm, ⟨11, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S8x128x128, .f32⟩
  | .local _ .vmem, ⟨8, _⟩ => ⟨S128x8, .f32⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S8x128x128, .f32⟩
  | .local _ .vmem, ⟨14, _⟩ => ⟨S128x8, .f32⟩
  | .local _ .vmem, ⟨15, _⟩ => ⟨S1x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "cube" => some ((8943 / 200000 : ℝ) : EReal)
  | "cube3" => some ((26829 / 200000 : ℝ) : EReal)
  | _ => none
-- ==== ReferenceIdeal.lean ====
abbrev S2048x6144 : Shape := ⟨2, ![2048, 6144]⟩
abbrev S2048x2048 : Shape := ⟨2, ![2048, 2048]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S1x2048x1024 : Shape := ⟨3, ![1, 2048, 1024]⟩
abbrev S_ : Shape := ⟨0, ![]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S1x1x8x128 : Shape := ⟨4, ![1, 1, 8, 128]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x8x128 : Shape := ⟨3, ![1, 8, 128]⟩
abbrev S2048x8 : Shape := ⟨2, ![2048, 8]⟩
abbrev S1x1024 : Shape := ⟨2, ![1, 1024]⟩

abbrev nBuf : Space → Nat
  | .hbm => 209
  | .vmem => 0
  | .smem => 0
  | _ => 0

abbrev hbmTy0_0 (i : Nat) : BufTy := match i % 128 with
  | 0 => ⟨S2048x6144, .f32⟩
  | 1 => ⟨S2048x2048, .f32⟩
  | 2 => ⟨S1024, .f32⟩
  | 3 => ⟨S8x128x128, .f32⟩
  | 4 => ⟨S8x128, .f32⟩
  | 5 => ⟨S2048x1024, .f32⟩
  | 6 => ⟨S1x2048x1024, .f32⟩
  | 7 => ⟨S2048x1024, .f32⟩
  | 8 => ⟨S1x2048x1024, .f32⟩
  | 9 => ⟨S1x2048x1024, .f32⟩
  | 10 => ⟨S1x2048x1024, .f32⟩
  | 11 => ⟨S1x2048x1024, .f32⟩
  | 12 => ⟨S_, .f32⟩
  | 13 => ⟨S1x2048x1024, .f32⟩
  | 14 => ⟨S1x2048x1024, .f32⟩
  | 15 => ⟨S_, .f32⟩
  | 16 => ⟨S1x2048x1024, .f32⟩
  | 17 => ⟨S1x2048x1024, .f32⟩
  | 18 => ⟨S_, .f32⟩
  | 19 => ⟨S1x2048x1024, .f32⟩
  | 20 => ⟨S1x2048x1024, .f32⟩
  | 21 => ⟨S1x2048x1024, .f32⟩
  | 22 => ⟨S_, .f32⟩
  | 23 => ⟨S1x2048x1024, .f32⟩
  | 24 => ⟨S1x2048x1024, .f32⟩
  | 25 => ⟨S1x2048x1024, .f32⟩
  | 26 => ⟨S_, .f32⟩
  | 27 => ⟨S1x2048x1024, .f32⟩
  | 28 => ⟨S1x2048x1024, .f32⟩
  | 29 => ⟨S_, .f32⟩
  | 30 => ⟨S1x2048x1024, .f32⟩
  | 31 => ⟨S1x2048x1024, .f32⟩
  | 32 => ⟨S1x2048x1024, .f32⟩
  | 33 => ⟨S_, .f32⟩
  | 34 => ⟨S1x2048x1024, .f32⟩
  | 35 => ⟨S1x2048x1024, .f32⟩
  | 36 => ⟨S_, .f32⟩
  | 37 => ⟨S1x2048x1024, .f32⟩
  | 38 => ⟨S1x2048x1024, .f32⟩
  | 39 => ⟨S1x2048x1024, .f32⟩
  | 40 => ⟨S1x2048x1024, .f32⟩
  | 41 => ⟨S1x2048x1024, .f32⟩
  | 42 => ⟨S1x2048x1024, .f32⟩
  | 43 => ⟨S_, .f32⟩
  | 44 => ⟨S1x2048x1024, .f32⟩
  | 45 => ⟨S1x2048x1024, .f32⟩
  | 46 => ⟨S_, .f32⟩
  | 47 => ⟨S1x2048x1024, .f32⟩
  | 48 => ⟨S1x2048x1024, .f32⟩
  | 49 => ⟨S_, .f32⟩
  | 50 => ⟨S1x2048x1024, .f32⟩
  | 51 => ⟨S1x2048x1024, .f32⟩
  | 52 => ⟨S1x2048x1024, .f32⟩
  | 53 => ⟨S_, .f32⟩
  | 54 => ⟨S1x2048x1024, .f32⟩
  | 55 => ⟨S1x2048x1024, .f32⟩
  | 56 => ⟨S1x2048x1024, .f32⟩
  | 57 => ⟨S_, .f32⟩
  | 58 => ⟨S1x2048x1024, .f32⟩
  | 59 => ⟨S1x2048x1024, .f32⟩
  | 60 => ⟨S_, .f32⟩
  | 61 => ⟨S1x2048x1024, .f32⟩
  | 62 => ⟨S1x2048x1024, .f32⟩
  | 63 => ⟨S1x2048x1024, .f32⟩
  | 64 => ⟨S_, .f32⟩
  | 65 => ⟨S1x2048x1024, .f32⟩
  | 66 => ⟨S1x2048x1024, .f32⟩
  | 67 => ⟨S_, .f32⟩
  | 68 => ⟨S1x2048x1024, .f32⟩
  | 69 => ⟨S1x2048x1024, .f32⟩
  | 70 => ⟨S1x2048x1024, .f32⟩
  | 71 => ⟨S1x2048x8x128, .f32⟩
  | 72 => ⟨S8x128, .f32⟩
  | 73 => ⟨S1x2048x8x128, .f32⟩
  | 74 => ⟨S_, .f32⟩
  | 75 => ⟨S1x2048x8, .f32⟩
  | 76 => ⟨S1x2048x8x1, .f32⟩
  | 77 => ⟨S_, .f32⟩
  | 78 => ⟨S1x2048x8x1, .f32⟩
  | 79 => ⟨S1x2048x8x1, .f32⟩
  | 80 => ⟨S_, .f32⟩
  | 81 => ⟨S1x2048x8x1, .f32⟩
  | 82 => ⟨S1x2048x8x1, .f32⟩
  | 83 => ⟨S1x2048x8x1, .f32⟩
  | 84 => ⟨S1x2048x8x1, .f32⟩
  | 85 => ⟨S_, .f32⟩
  | 86 => ⟨S1x2048x8x1, .f32⟩
  | 87 => ⟨S1x2048x8x1, .f32⟩
  | 88 => ⟨S1x2048x8x128, .f32⟩
  | 89 => ⟨S1x2048x8x128, .f32⟩
  | 90 => ⟨S1x1x8x128, .f32⟩
  | 91 => ⟨S1x2048x8x128, .f32⟩
  | 92 => ⟨S1x2048x8x128, .f32⟩
  | 93 => ⟨S1x16x128x8x128, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S1x128x128, .i1⟩
  | 106 => ⟨S_, .f32⟩
  | 107 => ⟨S8x128x128, .f32⟩
  | 108 => ⟨S8x128x128, .i1⟩
  | 109 => ⟨S8x128x128, .f32⟩
  | 110 => ⟨S_, .f32⟩
  | 111 => ⟨S8x128x128, .f32⟩
  | 112 => ⟨S8x1x16x128x128, .f32⟩
  | 113 => ⟨S1x16x128x8x128, .f32⟩
  | 114 => ⟨S128x8, .f32⟩
  | 115 => ⟨S1x1x128x8x1, .f32⟩
  | 116 => ⟨S1x16x128x8x128, .f32⟩
  | 117 => ⟨S1x16x128x8x128, .f32⟩
  | 118 => ⟨S1x2048x1024, .f32⟩
  | 119 => ⟨S1x2048x1024, .f32⟩
  | 120 => ⟨S2048x1024, .f32⟩
  | 121 => ⟨S1x2048x1024, .f32⟩
  | 122 => ⟨S1x2048x1024, .f32⟩
  | 123 => ⟨S1x2048x1024, .f32⟩
  | 124 => ⟨S1x16x128x8x128, .f32⟩
  | 125 => ⟨S_, .f32⟩
  | 126 => ⟨S1x128x8, .f32⟩
  | 127 => ⟨S1x1x128x8x1, .f32⟩
  | _ => ⟨S2048x6144, .f32⟩

abbrev hbmTy0_1 (i : Nat) : BufTy := match i % 128 with
  | 0 => ⟨S_, .f32⟩
  | 1 => ⟨S128x8, .f32⟩
  | 2 => ⟨S8x128, .f32⟩
  | 3 => ⟨S8x1x16x128x128, .f32⟩
  | 4 => ⟨S8x128x128, .f32⟩
  | 5 => ⟨S8x1x16x128x128, .f32⟩
  | 6 => ⟨S1x16x128x8x128, .f32⟩
  | 7 => ⟨S_, .f32⟩
  | 8 => ⟨S8x128x128, .f32⟩
  | 9 => ⟨S8x128x128, .f32⟩
  | 10 => ⟨S1x2048x8x128, .f32⟩
  | 11 => ⟨S1x2048x8x128, .f32⟩
  | 12 => ⟨S_, .f32⟩
  | 13 => ⟨S1x8x128, .f32⟩
  | 14 => ⟨S1x1x8x128, .f32⟩
  | 15 => ⟨S1x2048x8x128, .f32⟩
  | 16 => ⟨S1x2048x8x128, .f32⟩
  | 17 => ⟨S_, .f32⟩
  | 18 => ⟨S8x128, .f32⟩
  | 19 => ⟨S1x2048x8x128, .f32⟩
  | 20 => ⟨S_, .f32⟩
  | 21 => ⟨S1x2048x8, .f32⟩
  | 22 => ⟨S1x2048x8x1, .f32⟩
  | 23 => ⟨S1x2048x8x128, .f32⟩
  | 24 => ⟨S1x2048x8x128, .f32⟩
  | 25 => ⟨S1x2048x8x1, .f32⟩
  | 26 => ⟨S_, .f32⟩
  | 27 => ⟨S1x2048x8x1, .f32⟩
  | 28 => ⟨S1x2048x8x1, .f32⟩
  | 29 => ⟨S_, .f32⟩
  | 30 => ⟨S2048x8, .f32⟩
  | 31 => ⟨S1x2048x8, .f32⟩
  | 32 => ⟨S1x2048x8x128, .f32⟩
  | 33 => ⟨S1x2048x8x128, .f32⟩
  | 34 => ⟨S1x2048x8x128, .f32⟩
  | 35 => ⟨S1x2048x8x128, .f32⟩
  | 36 => ⟨S1x2048x8x128, .f32⟩
  | 37 => ⟨S1024, .f32⟩
  | 38 => ⟨S1x2048x1024, .f32⟩
  | 39 => ⟨S1x2048x1024, .f32⟩
  | 40 => ⟨S1x2048x1024, .f32⟩
  | 41 => ⟨S_, .f32⟩
  | 42 => ⟨S1x2048x1024, .f32⟩
  | 43 => ⟨S1x2048x1024, .f32⟩
  | 44 => ⟨S1x2048x1024, .f32⟩
  | 45 => ⟨S_, .f32⟩
  | 46 => ⟨S1x2048x1024, .f32⟩
  | 47 => ⟨S1x2048x1024, .f32⟩
  | 48 => ⟨S1x2048x1024, .f32⟩
  | 49 => ⟨S_, .f32⟩
  | 50 => ⟨S1x2048x1024, .f32⟩
  | 51 => ⟨S1x2048x1024, .f32⟩
  | 52 => ⟨S_, .f32⟩
  | 53 => ⟨S1x2048x1024, .f32⟩
  | 54 => ⟨S1x2048x1024, .f32⟩
  | 55 => ⟨S1x2048x1024, .f32⟩
  | 56 => ⟨S1x2048x1024, .f32⟩
  | 57 => ⟨S1x2048x1024, .f32⟩
  | 58 => ⟨S1x2048x1024, .f32⟩
  | 59 => ⟨S_, .f32⟩
  | 60 => ⟨S1x2048x1024, .f32⟩
  | 61 => ⟨S1x2048x1024, .f32⟩
  | 62 => ⟨S1x2048x1024, .f32⟩
  | 63 => ⟨S_, .f32⟩
  | 64 => ⟨S1x2048x1024, .f32⟩
  | 65 => ⟨S1x2048x1024, .f32⟩
  | 66 => ⟨S1x2048x1024, .f32⟩
  | 67 => ⟨S_, .f32⟩
  | 68 => ⟨S1x2048x1024, .f32⟩
  | 69 => ⟨S1x2048x1024, .f32⟩
  | 70 => ⟨S_, .f32⟩
  | 71 => ⟨S1x2048x1024, .f32⟩
  | 72 => ⟨S1x2048x1024, .f32⟩
  | 73 => ⟨S1x2048x1024, .f32⟩
  | 74 => ⟨S1x2048x1024, .f32⟩
  | 75 => ⟨S2048x1024, .f32⟩
  | 76 => ⟨S2048x1024, .bf16⟩
  | 77 => ⟨S2048x1024, .f32⟩
  | 78 => ⟨S2048x1024, .bf16⟩
  | 79 => ⟨S128x8, .f32⟩
  | 80 => ⟨S1x1024, .f32⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c : Ref sig .tc := ⟨.hbm, 94, rfl⟩
abbrev main_v69 : Ref sig .tc := ⟨.hbm, 95, rfl⟩
abbrev main_call0_v0 : Ref sig .tc := ⟨.hbm, 96, rfl⟩
abbrev main_call0_c : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_c_0 : Ref sig .tc := ⟨.hbm, 102, rfl⟩
abbrev main_call0_v5 : Ref sig .tc := ⟨.hbm, 103, rfl⟩
abbrev main_v70 : Ref sig .tc := ⟨.hbm, 104, rfl⟩
abbrev main_v71 : Ref sig .tc := ⟨.hbm, 105, rfl⟩
abbrev main_cst_19 : Ref sig .tc := ⟨.hbm, 106, rfl⟩
abbrev main_v72 : Ref sig .tc := ⟨.hbm, 107, rfl⟩
abbrev main_v73_1 : Ref sig .tc := ⟨.hbm, 108, rfl⟩
abbrev main_v73_0 : Ref sig .tc := ⟨.hbm, 109, rfl⟩
abbrev main_call1_cst : Ref sig .tc := ⟨.hbm, 110, rfl⟩
abbrev main_v73_2 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_20 : Ref sig .tc := ⟨.hbm, 125, rfl⟩
abbrev main_v87 : Ref sig .tc := ⟨.hbm, 126, rfl⟩
abbrev main_v88 : Ref sig .tc := ⟨.hbm, 127, rfl⟩
abbrev main_cst_21 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call2_cst : Ref sig .tc := ⟨.hbm, 135, rfl⟩
abbrev main_call2_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_23 : Ref sig .tc := ⟨.hbm, 145, rfl⟩
abbrev main_v102 : Ref sig .tc := ⟨.hbm, 146, rfl⟩
abbrev main_v103 : Ref sig .tc := ⟨.hbm, 147, rfl⟩
abbrev main_cst_24 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_25 : Ref sig .tc := ⟨.hbm, 154, rfl⟩
abbrev main_v109 : Ref sig .tc := ⟨.hbm, 155, rfl⟩
abbrev main_v110 : Ref sig .tc := ⟨.hbm, 156, rfl⟩
abbrev main_cst_26 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_27 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_28 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_29 : Ref sig .tc := ⟨.hbm, 177, rfl⟩
abbrev main_v128 : Ref sig .tc := ⟨.hbm, 178, rfl⟩
abbrev main_v129 : Ref sig .tc := ⟨.hbm, 179, rfl⟩
abbrev main_cst_30 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_31 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_32 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_33 : Ref sig .tc := ⟨.hbm, 195, rfl⟩
abbrev main_v142 : Ref sig .tc := ⟨.hbm, 196, rfl⟩
abbrev main_v143 : Ref sig .tc := ⟨.hbm, 197, rfl⟩
abbrev main_cst_34 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩

abbrev nD : Nat := 1
abbrev τ : Topo := Topo.v7x

variable {F : FTy → Type} [FloatOps F]
-- ==== Dact.lean ====
abbrev S2048x2048 : Shape := ⟨2, ![2048, 2048]⟩
abbrev S4x2x5632x2048 : Shape := ⟨4, ![4, 2, 5632, 2048]⟩
abbrev S4x2x4x1408x2048 : Shape := ⟨5, ![4, 2, 4, 1408, 2048]⟩
abbrev S4x4x2x1408x2048 : Shape := ⟨5, ![4, 4, 2, 1408, 2048]⟩
abbrev S2048x5632 : Shape := ⟨2, ![2048, 5632]⟩
abbrev S1024x2048 : Shape := ⟨2, ![1024, 2048]⟩
abbrev S1x1x1x1408x2048 : Shape := ⟨5, ![1, 1, 1, 1408, 2048]⟩
abbrev S1024x1408 : Shape := ⟨2, ![1024, 1408]⟩
abbrev S1408x2048 : Shape := ⟨2, ![1408, 2048]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x2x5632x2048, .f32⟩
  | .hbm, ⟨2, _⟩ => ⟨S2048x2048, .bf16⟩
  | .hbm, ⟨3, _⟩ => ⟨S4x2x5632x2048, .bf16⟩
  | .hbm, ⟨4, _⟩ => ⟨S4x2x4x1408x2048, .bf16⟩
  | .hbm, ⟨5, _⟩ => ⟨S4x4x2x1408x2048, .bf16⟩
  | .hbm, ⟨6, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x1x1408x2048, .bf16⟩
  | .local _ .vmem, ⟨3, _⟩ => ⟨S1x1x1x1408x2048, .bf16⟩
  | .local _ .vmem, ⟨4, _⟩ => ⟨S1024x1408, .bf16⟩
  | .local _ .vmem, ⟨5, _⟩ => ⟨S1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S2048x2048 : Shape := ⟨2, ![2048, 2048]⟩
abbrev S4x2x5632x2048 : Shape := ⟨4, ![4, 2, 5632, 2048]⟩
abbrev S_ : Shape := ⟨0, ![]⟩
abbrev S2048x5632 : Shape := ⟨2, ![2048, 5632]⟩
abbrev S1x1x5632x2048 : Shape := ⟨4, ![1, 1, 5632, 2048]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2x5632x2048, .f32⟩
  | .hbm, ⟨2, _⟩ => ⟨S_, .f32⟩
  | .hbm, ⟨3, _⟩ => ⟨S2048x5632, .f32⟩
  | .hbm, ⟨4, _⟩ => ⟨S1x1x5632x2048, .f32⟩
  | .hbm, ⟨5, _⟩ => ⟨S5632x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x5632, .f32⟩
  | .hbm, ⟨14, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ActBwd.lean ====
abbrev S2048x5632 : Shape := ⟨2, ![2048, 5632]⟩
abbrev S32x5632 : Shape := ⟨2, ![32, 5632]⟩

abbrev nBuf : Space → Nat
  | .hbm => 6
  | .vmem => 12
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S32x5632, .bf16⟩
  | .local _ .vmem, ⟨1, _⟩ => ⟨S32x5632, .bf16⟩
  | .local _ .vmem, ⟨2, _⟩ => ⟨S32x5632, .bf16⟩
  | .local _ .vmem, ⟨3, _⟩ => ⟨S32x5632, .bf16⟩
  | .local _ .vmem, ⟨4, _⟩ => ⟨S32x5632, .bf16⟩
  | .local _ .vmem, ⟨5, _⟩ => ⟨S32x5632, .bf16⟩
  | .local _ .vmem, ⟨6, _⟩ => ⟨S32x5632, .bf16⟩
  | .local _ .vmem, ⟨7, _⟩ => ⟨S32x5632, .bf16⟩
  | .local _ .vmem, ⟨8, _⟩ => ⟨S32x5632, .bf16⟩
  | .local _ .vmem, ⟨9, _⟩ => ⟨S32x5632, .bf16⟩
  | .local _ .vmem, ⟨10, _⟩ => ⟨S32x5632, .bf16⟩
  | .local _ .vmem, ⟨11, _⟩ => ⟨S32x5632, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ActBwdRefIdeal.lean ====
abbrev S2048x5632 : Shape := ⟨2, ![2048, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .bf16⟩
  | .hbm, ⟨27, _⟩ => ⟨S2048x5632, .bf16⟩
  | .hbm, ⟨28, _⟩ => ⟨S2048x5632, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Dwd.lean ====
abbrev S2048x5632 : Shape := ⟨2, ![2048, 5632]⟩
abbrev S2048x2048 : Shape := ⟨2, ![2048, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S2048x2048, .bf16⟩
  | .hbm, ⟨3, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2048 : Shape := ⟨3, ![4, 1408, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S2048x5632, .f32⟩
  | .hbm, ⟨3, _⟩ => ⟨S_, .f32⟩
  | .hbm, ⟨4, _⟩ => ⟨S5632x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x5632, .f32⟩
  | .hbm, ⟨13, _⟩ => ⟨S5632x2048, .f32⟩
  | .hbm, ⟨14, _⟩ => ⟨S4x1408x2048, .f32⟩
  | .hbm, ⟨15, _⟩ => ⟨S4x1408x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Dwup.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwupRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S_, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dn.lean ====
abbrev S2048x5632 : Shape := ⟨2, ![2048, 5632]⟩
abbrev S4x2x2048x5632 : Shape := ⟨4, ![4, 2, 2048, 5632]⟩
abbrev S4x2x2048x4x1408 : Shape := ⟨5, ![4, 2, 2048, 4, 1408]⟩
abbrev S4x4x2x2048x1408 : Shape := ⟨5, ![4, 4, 2, 2048, 1408]⟩
abbrev S2048x2048 : Shape := ⟨2, ![2048, 2048]⟩
abbrev S2048x1408 : Shape := ⟨2, ![2048, 1408]⟩
abbrev S1x1x1x512x1408 : Shape := ⟨5, ![1, 1, 1, 512, 1408]⟩
abbrev S2048x512 : Shape := ⟨2, ![2048, 512]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S4x2x2048x5632, .f32⟩
  | .hbm, ⟨2, _⟩ => ⟨S4x2x2048x5632, .bf16⟩
  | .hbm, ⟨3, _⟩ => ⟨S4x2x2048x4x1408, .bf16⟩
  | .hbm, ⟨4, _⟩ => ⟨S4x4x2x2048x1408, .bf16⟩
  | .hbm, ⟨5, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1x1x1x512x1408, .bf16⟩
  | .local _ .vmem, ⟨3, _⟩ => ⟨S1x1x1x512x1408, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnRefIdeal.lean ====
abbrev S2048x5632 : Shape := ⟨2, ![2048, 5632]⟩
abbrev S4x2x2048x5632 : Shape := ⟨4, ![4, 2, 2048, 5632]⟩
abbrev S_ : Shape := ⟨0, ![]⟩
abbrev S2048x2048 : Shape := ⟨2, ![2048, 2048]⟩
abbrev S1x1x2048x5632 : Shape := ⟨4, ![1, 1, 2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2x2048x5632, .f32⟩
  | .hbm, ⟨2, _⟩ => ⟨S2048x5632, .f32⟩
  | .hbm, ⟨3, _⟩ => ⟨S_, .f32⟩
  | .hbm, ⟨4, _⟩ => ⟨S2048x2048, .f32⟩
  | .hbm, ⟨5, _⟩ => ⟨S1x1x2048x5632, .f32⟩
  | .hbm, ⟨6, _⟩ => ⟨S2048x5632, .f32⟩
  | .hbm, ⟨7, _⟩ => ⟨S2048x5632, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DnAcc.lean ====
abbrev S2048x5632 : Shape := ⟨2, ![2048, 5632]⟩
abbrev S4x2x2048x5632 : Shape := ⟨4, ![4, 2, 2048, 5632]⟩
abbrev S2048x2048 : Shape := ⟨2, ![2048, 2048]⟩
abbrev S4x2x2048x4x1408 : Shape := ⟨5, ![4, 2, 2048, 4, 1408]⟩
abbrev S4x4x2x2048x1408 : Shape := ⟨5, ![4, 4, 2, 2048, 1408]⟩
abbrev S1024x1408 : Shape := ⟨2, ![1024, 1408]⟩
abbrev S1x1x1x1024x1408 : Shape := ⟨5, ![1, 1, 1, 1024, 1408]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S4x2x2048x5632, .f32⟩
  | .hbm, ⟨2, _⟩ => ⟨S2048x2048, .f32⟩
  | .hbm, ⟨3, _⟩ => ⟨S4x2x2048x5632, .bf16⟩
  | .hbm, ⟨4, _⟩ => ⟨S4x2x2048x4x1408, .bf16⟩
  | .hbm, ⟨5, _⟩ => ⟨S4x4x2x2048x1408, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1x1024x1408, .bf16⟩
  | .local _ .vmem, ⟨3, _⟩ => ⟨S1x1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DnAccRefIdeal.lean ====
abbrev S2048x5632 : Shape := ⟨2, ![2048, 5632]⟩
abbrev S4x2x2048x5632 : Shape := ⟨4, ![4, 2, 2048, 5632]⟩
abbrev S2048x2048 : Shape := ⟨2, ![2048, 2048]⟩
abbrev S_ : Shape := ⟨0, ![]⟩
abbrev S1x1x2048x5632 : Shape := ⟨4, ![1, 1, 2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2x2048x5632, .f32⟩
  | .hbm, ⟨2, _⟩ => ⟨S2048x2048, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S1x1x2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== RmsBwd.lean ====
abbrev S2048x2048 : Shape := ⟨2, ![2048, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Up.lean ====
abbrev S2048x2048 : Shape := ⟨2, ![2048, 2048]⟩
abbrev S4x2x2048x5632 : Shape := ⟨4, ![4, 2, 2048, 5632]⟩
abbrev S4x2x2048x4x1408 : Shape := ⟨5, ![4, 2, 2048, 4, 1408]⟩
abbrev S4x4x2x2048x1408 : Shape := ⟨5, ![4, 4, 2, 2048, 1408]⟩
abbrev S2048x5632 : Shape := ⟨2, ![2048, 5632]⟩
abbrev S256x2048 : Shape := ⟨2, ![256, 2048]⟩
abbrev S1x1x1x2048x1408 : Shape := ⟨5, ![1, 1, 1, 2048, 1408]⟩
abbrev S256x1408 : Shape := ⟨2, ![256, 1408]⟩
abbrev S2048x1408 : Shape := ⟨2, ![2048, 1408]⟩

abbrev nBuf : Space → Nat
  | .hbm => 12
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x2x2048x5632, .f32⟩
  | .hbm, ⟨2, _⟩ => ⟨S4x2x2048x5632, .f32⟩
  | .hbm, ⟨3, _⟩ => ⟨S4x2x2048x5632, .bf16⟩
  | .hbm, ⟨4, _⟩ => ⟨S4x2x2048x4x1408, .bf16⟩
  | .hbm, ⟨5, _⟩ => ⟨S4x4x2x2048x1408, .bf16⟩
  | .hbm, ⟨6, _⟩ => ⟨S4x2x2048x5632, .bf16⟩
  | .hbm, ⟨7, _⟩ => ⟨S4x2x2048x4x1408, .bf16⟩
  | .hbm, ⟨8, _⟩ => ⟨S4x4x2x2048x1408, .bf16⟩
  | .hbm, ⟨9, _⟩ => ⟨S2048x5632, .bf16⟩
  | .hbm, ⟨10, _⟩ => ⟨S2048x5632, .bf16⟩
  | .hbm, ⟨11, _⟩ => ⟨S2048x5632, .bf16⟩
  | .local _ .vmem, ⟨0, _⟩ => ⟨S256x2048, .bf16⟩
  | .local _ .vmem, ⟨1, _⟩ => ⟨S256x2048, .bf16⟩
  | .local _ .vmem, ⟨2, _⟩ => ⟨S1x1x1x2048x1408, .bf16⟩
  | .local _ .vmem, ⟨3, _⟩ => ⟨S1x1x1x2048x1408, .bf16⟩
  | .local _ .vmem, ⟨4, _⟩ => ⟨S1x1x1x2048x1408, .bf16⟩
  | .local _ .vmem, ⟨5, _⟩ => ⟨S1x1x1x2048x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  let c0_i32_14 : BitVec 32 := 0#32
  ![v16.toNat, c0_i32_11.toNat, c0_i32_12.toNat, c0_i32_13.toNat, v26.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  let c0_i32_14 : BitVec 32 := 0#32
  ![v16.toNat, c0_i32_11.toNat, c0_i32_12.toNat, c0_i32_13.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S2048x2048 : Shape := ⟨2, ![2048, 2048]⟩
abbrev S4x2x2048x5632 : Shape := ⟨4, ![4, 2, 2048, 5632]⟩
abbrev S1x1x2048x5632 : Shape := ⟨4, ![1, 1, 2048, 5632]⟩
abbrev S2048x5632 : Shape := ⟨2, ![2048, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2x2048x5632, .f32⟩
  | .hbm, ⟨2, _⟩ => ⟨S4x2x2048x5632, .f32⟩
  | .hbm, ⟨3, _⟩ => ⟨S2048x2048, .f32⟩
  | .hbm, ⟨4, _⟩ => ⟨S1x1x2048x5632, .f32⟩
  | .hbm, ⟨5, _⟩ => ⟨S2048x5632, .f32⟩
  | .hbm, ⟨6, _⟩ => ⟨S2048x5632, .f32⟩
  | .hbm, ⟨7, _⟩ => ⟨S1x1x2048x5632, .f32⟩
  | .hbm, ⟨8, _⟩ => ⟨S2048x5632, .f32⟩
  | .hbm, ⟨9, _⟩ => ⟨S2048x5632, .f32⟩
  | .hbm, ⟨10, _⟩ => ⟨S2048x5632, .bf16⟩
  | .hbm, ⟨11, _⟩ => ⟨S2048x5632, .bf16⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Down.lean ====
abbrev S2048x5632 : Shape := ⟨2, ![2048, 5632]⟩
abbrev S4x2x5632x2048 : Shape := ⟨4, ![4, 2, 5632, 2048]⟩
abbrev S2048x2048 : Shape := ⟨2, ![2048, 2048]⟩
abbrev S4x2x4x1408x2048 : Shape := ⟨5, ![4, 2, 4, 1408, 2048]⟩
abbrev S4x4x2x1408x2048 : Shape := ⟨5, ![4, 4, 2, 1408, 2048]⟩
abbrev S1024x1408 : Shape := ⟨2, ![1024, 1408]⟩
abbrev S1x1x1x1408x1024 : Shape := ⟨5, ![1, 1, 1, 1408, 1024]⟩
abbrev S1024x1024 : Shape := ⟨2, ![1024, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S4x2x5632x2048, .f32⟩
  | .hbm, ⟨2, _⟩ => ⟨S2048x2048, .f32⟩
  | .hbm, ⟨3, _⟩ => ⟨S4x2x5632x2048, .bf16⟩
  | .hbm, ⟨4, _⟩ => ⟨S4x2x4x1408x2048, .bf16⟩
  | .hbm, ⟨5, _⟩ => ⟨S4x4x2x1408x2048, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1x1408x1024, .bf16⟩
  | .local _ .vmem, ⟨3, _⟩ => ⟨S1x1x1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x5632 : Shape := ⟨2, ![2048, 5632]⟩
abbrev S4x2x5632x2048 : Shape := ⟨4, ![4, 2, 5632, 2048]⟩
abbrev S2048x2048 : Shape := ⟨2, ![2048, 2048]⟩
abbrev S1x1x5632x2048 : Shape := ⟨4, ![1, 1, 5632, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2x5632x2048, .f32⟩
  | .hbm, ⟨2, _⟩ => ⟨S2048x2048, .f32⟩
  | .hbm, ⟨3, _⟩ => ⟨S2048x5632, .f32⟩
  | .hbm, ⟨4, _⟩ => ⟨S1x1x5632x2048, .f32⟩
  | .hbm, ⟨5, _⟩ => ⟨S5632x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AdamUp.lean ====
abbrev S4x2x2048x1408 : Shape := ⟨4, ![4, 2, 2048, 1408]⟩
abbrev S16384x1408 : Shape := ⟨2, ![16384, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x2x2048x1408, .f32⟩
  | .hbm, ⟨1, _⟩ => ⟨S4x2x2048x1408, .f32⟩
  | .hbm, ⟨2, _⟩ => ⟨S4x2x2048x1408, .f32⟩
  | .hbm, ⟨3, _⟩ => ⟨S4x2x2048x1408, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x1408, .f32⟩
  | .hbm, ⟨8, _⟩ => ⟨S16384x1408, .f32⟩
  | .hbm, ⟨9, _⟩ => ⟨S16384x1408, .f32⟩
  | .hbm, ⟨10, _⟩ => ⟨S16384x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S4x2x2048x1408 : Shape := ⟨4, ![4, 2, 2048, 1408]⟩
abbrev S16384x1408 : Shape := ⟨2, ![16384, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x2x2048x1408, .f32⟩
  | .hbm, ⟨1, _⟩ => ⟨S4x2x2048x1408, .f32⟩
  | .hbm, ⟨2, _⟩ => ⟨S4x2x2048x1408, .f32⟩
  | .hbm, ⟨3, _⟩ => ⟨S4x2x2048x1408, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x1408, .f32⟩
  | .hbm, ⟨8, _⟩ => ⟨S16384x1408, .f32⟩
  | .hbm, ⟨9, _⟩ => ⟨S16384x1408, .f32⟩
  | .hbm, ⟨10, _⟩ => ⟨S16384x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S4x2x2048x1408 : Shape := ⟨4, ![4, 2, 2048, 1408]⟩
abbrev S_ : Shape := ⟨0, ![]⟩
abbrev S16384x1408 : Shape := ⟨2, ![16384, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x2x2048x1408, .f32⟩
  | .hbm, ⟨1, _⟩ => ⟨S4x2x2048x1408, .f32⟩
  | .hbm, ⟨2, _⟩ => ⟨S4x2x2048x1408, .f32⟩
  | .hbm, ⟨3, _⟩ => ⟨S4x2x2048x1408, .f32⟩
  | .hbm, ⟨4, _⟩ => ⟨S_, .f32⟩
  | .hbm, ⟨5, _⟩ => ⟨S4x2x2048x1408, .f32⟩
  | .hbm, ⟨6, _⟩ => ⟨S4x2x2048x1408, .f32⟩
  | .hbm, ⟨7, _⟩ => ⟨S_, .f32⟩
  | .hbm, ⟨8, _⟩ => ⟨S4x2x2048x1408, .f32⟩
  | .hbm, ⟨9, _⟩ => ⟨S4x2x2048x1408, .f32⟩
  | .hbm, ⟨10, _⟩ => ⟨S4x2x2048x1408, .f32⟩
  | .hbm, ⟨11, _⟩ => ⟨S_, .f32⟩
  | .hbm, ⟨12, _⟩ => ⟨S4x2x2048x1408, .f32⟩
  | .hbm, ⟨13, _⟩ => ⟨S4x2x2048x1408, .f32⟩
  | .hbm, ⟨14, _⟩ => ⟨S4x2x2048x1408, .f32⟩
  | .hbm, ⟨15, _⟩ => ⟨S_, .f32⟩
  | .hbm, ⟨16, _⟩ => ⟨S4x2x2048x1408, .f32⟩
  | .hbm, ⟨17, _⟩ => ⟨S4x2x2048x1408, .f32⟩
  | .hbm, ⟨18, _⟩ => ⟨S4x2x2048x1408, .f32⟩
  | .hbm, ⟨19, _⟩ => ⟨S_, .f32⟩
  | .hbm, ⟨20, _⟩ => ⟨S4x2x2048x1408, .f32⟩
  | .hbm, ⟨21, _⟩ => ⟨S4x2x2048x1408, .f32⟩
  | .hbm, ⟨22, _⟩ => ⟨S_, .f32⟩
  | .hbm, ⟨23, _⟩ => ⟨S4x2x2048x1408, .f32⟩
  | .hbm, ⟨24, _⟩ => ⟨S4x2x2048x1408, .f32⟩
  | .hbm, ⟨25, _⟩ => ⟨S4x2x2048x1408, .f32⟩
  | .hbm, ⟨26, _⟩ => ⟨S_, .f32⟩
  | .hbm, ⟨27, _⟩ => ⟨S4x2x2048x1408, .f32⟩
  | .hbm, ⟨28, _⟩ => ⟨S4x2x2048x1408, .f32⟩
  | .hbm, ⟨29, _⟩ => ⟨S4x2x2048x1408, .f32⟩
  | .hbm, ⟨30, _⟩ => ⟨S_, .f32⟩
  | .hbm, ⟨31, _⟩ => ⟨S4x2x2048x1408, .f32⟩
  | .hbm, ⟨32, _⟩ => ⟨S4x2x2048x1408, .f32⟩
  | .hbm, ⟨33, _⟩ => ⟨S4x2x2048x1408, .f32⟩
  | .hbm, ⟨34, _⟩ => ⟨S_, .f32⟩
  | .hbm, ⟨35, _⟩ => ⟨S4x2x2048x1408, .f32⟩
  | .hbm, ⟨36, _⟩ => ⟨S4x2x2048x1408, .f32⟩
  | .hbm, ⟨37, _⟩ => ⟨S16384x1408, .f32⟩
  | .hbm, ⟨38, _⟩ => ⟨S16384x1408, .f32⟩
  | .hbm, ⟨39, _⟩ => ⟨S16384x1408, .f32⟩
  | _, _ => ⟨S4x2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x2x1408x2048 : Shape := ⟨4, ![4, 2, 1408, 2048]⟩
abbrev S11264x2048 : Shape := ⟨2, ![11264, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x2x1408x2048, .f32⟩
  | .hbm, ⟨1, _⟩ => ⟨S4x2x1408x2048, .f32⟩
  | .hbm, ⟨2, _⟩ => ⟨S4x2x1408x2048, .f32⟩
  | .hbm, ⟨3, _⟩ => ⟨S4x2x1408x2048, .f32⟩
  | .hbm, ⟨4, _⟩ => ⟨S11264x2048, .f32⟩
  | .hbm, ⟨5, _⟩ => ⟨S11264x2048, .f32⟩
  | .hbm, ⟨6, _⟩ => ⟨S11264x2048, .f32⟩
  | .hbm, ⟨7, _⟩ => ⟨S11264x2048, .f32⟩
  | .hbm, ⟨8, _⟩ => ⟨S11264x2048, .f32⟩
  | .hbm, ⟨9, _⟩ => ⟨S11264x2048, .f32⟩
  | .hbm, ⟨10, _⟩ => ⟨S11264x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![88], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S4x2x1408x2048 : Shape := ⟨4, ![4, 2, 1408, 2048]⟩
abbrev S11264x2048 : Shape := ⟨2, ![11264, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x2x1408x2048, .f32⟩
  | .hbm, ⟨1, _⟩ => ⟨S4x2x1408x2048, .f32⟩
  | .hbm, ⟨2, _⟩ => ⟨S4x2x1408x2048, .f32⟩
  | .hbm, ⟨3, _⟩ => ⟨S4x2x1408x2048, .f32⟩
  | .hbm, ⟨4, _⟩ => ⟨S11264x2048, .f32⟩
  | .hbm, ⟨5, _⟩ => ⟨S11264x2048, .f32⟩
  | .hbm, ⟨6, _⟩ => ⟨S11264x2048, .f32⟩
  | .hbm, ⟨7, _⟩ => ⟨S11264x2048, .f32⟩
  | .hbm, ⟨8, _⟩ => ⟨S11264x2048, .f32⟩
  | .hbm, ⟨9, _⟩ => ⟨S11264x2048, .f32⟩
  | .hbm, ⟨10, _⟩ => ⟨S11264x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![88], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S4x2x1408x2048 : Shape := ⟨4, ![4, 2, 1408, 2048]⟩
abbrev S_ : Shape := ⟨0, ![]⟩
abbrev S11264x2048 : Shape := ⟨2, ![11264, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x2x1408x2048, .f32⟩
  | .hbm, ⟨1, _⟩ => ⟨S4x2x1408x2048, .f32⟩
  | .hbm, ⟨2, _⟩ => ⟨S4x2x1408x2048, .f32⟩
  | .hbm, ⟨3, _⟩ => ⟨S4x2x1408x2048, .f32⟩
  | .hbm, ⟨4, _⟩ => ⟨S_, .f32⟩
  | .hbm, ⟨5, _⟩ => ⟨S4x2x1408x2048, .f32⟩
  | .hbm, ⟨6, _⟩ => ⟨S4x2x1408x2048, .f32⟩
  | .hbm, ⟨7, _⟩ => ⟨S_, .f32⟩
  | .hbm, ⟨8, _⟩ => ⟨S4x2x1408x2048, .f32⟩
  | .hbm, ⟨9, _⟩ => ⟨S4x2x1408x2048, .f32⟩
  | .hbm, ⟨10, _⟩ => ⟨S4x2x1408x2048, .f32⟩
  | .hbm, ⟨11, _⟩ => ⟨S_, .f32⟩
  | .hbm, ⟨12, _⟩ => ⟨S4x2x1408x2048, .f32⟩
  | .hbm, ⟨13, _⟩ => ⟨S4x2x1408x2048, .f32⟩
  | .hbm, ⟨14, _⟩ => ⟨S4x2x1408x2048, .f32⟩
  | .hbm, ⟨15, _⟩ => ⟨S_, .f32⟩
  | .hbm, ⟨16, _⟩ => ⟨S4x2x1408x2048, .f32⟩
  | .hbm, ⟨17, _⟩ => ⟨S4x2x1408x2048, .f32⟩
  | .hbm, ⟨18, _⟩ => ⟨S4x2x1408x2048, .f32⟩
  | .hbm, ⟨19, _⟩ => ⟨S_, .f32⟩
  | .hbm, ⟨20, _⟩ => ⟨S4x2x1408x2048, .f32⟩
  | .hbm, ⟨21, _⟩ => ⟨S4x2x1408x2048, .f32⟩
  | .hbm, ⟨22, _⟩ => ⟨S_, .f32⟩
  | .hbm, ⟨23, _⟩ => ⟨S4x2x1408x2048, .f32⟩
  | .hbm, ⟨24, _⟩ => ⟨S4x2x1408x2048, .f32⟩
  | .hbm, ⟨25, _⟩ => ⟨S4x2x1408x2048, .f32⟩
  | .hbm, ⟨26, _⟩ => ⟨S_, .f32⟩
  | .hbm, ⟨27, _⟩ => ⟨S4x2x1408x2048, .f32⟩
  | .hbm, ⟨28, _⟩ => ⟨S4x2x1408x2048, .f32⟩
  | .hbm, ⟨29, _⟩ => ⟨S4x2x1408x2048, .f32⟩
  | .hbm, ⟨30, _⟩ => ⟨S_, .f32⟩
  | .hbm, ⟨31, _⟩ => ⟨S4x2x1408x2048, .f32⟩
  | .hbm, ⟨32, _⟩ => ⟨S4x2x1408x2048, .f32⟩
  | .hbm, ⟨33, _⟩ => ⟨S4x2x1408x2048, .f32⟩
  | .hbm, ⟨34, _⟩ => ⟨S_, .f32⟩
  | .hbm, ⟨35, _⟩ => ⟨S4x2x1408x2048, .f32⟩
  | .hbm, ⟨36, _⟩ => ⟨S4x2x1408x2048, .f32⟩
  | .hbm, ⟨37, _⟩ => ⟨S11264x2048, .f32⟩
  | .hbm, ⟨38, _⟩ => ⟨S11264x2048, .f32⟩
  | .hbm, ⟨39, _⟩ => ⟨S11264x2048, .f32⟩
  | _, _ => ⟨S4x2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPleGate.lean ====
abbrev S4x512x2048 : Shape := ⟨3, ![4, 512, 2048]⟩
abbrev S2048x2048 : Shape := ⟨2, ![2048, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPleGateIdeal.lean ====
abbrev S4x512x2048 : Shape := ⟨3, ![4, 512, 2048]⟩
abbrev S2048x2048 : Shape := ⟨2, ![2048, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPleGateRefIdeal.lean ====
abbrev S4x512x2048 : Shape := ⟨3, ![4, 512, 2048]⟩
abbrev S_ : Shape := ⟨0, ![]⟩
abbrev S2048x2048 : Shape := ⟨2, ![2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | .hbm, ⟨37, _⟩ => ⟨S2048x2048, .f32⟩
  | .hbm, ⟨38, _⟩ => ⟨S2048x2048, .f32⟩
  | .hbm, ⟨39, _⟩ => ⟨S2048x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamEvenIn.lean ====
abbrev S2x2048x1536 : Shape := ⟨3, ![2, 2048, 1536]⟩
abbrev S4096x1536 : Shape := ⟨2, ![4096, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInIdeal.lean ====
abbrev S2x2048x1536 : Shape := ⟨3, ![2, 2048, 1536]⟩
abbrev S4096x1536 : Shape := ⟨2, ![4096, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInRefIdeal.lean ====
abbrev S2x2048x1536 : Shape := ⟨3, ![2, 2048, 1536]⟩
abbrev S_ : Shape := ⟨0, ![]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S_, .f32⟩
  | .hbm, ⟨5, _⟩ => ⟨S2x2048x1536, .f32⟩
  | .hbm, ⟨6, _⟩ => ⟨S2x2048x1536, .f32⟩
  | .hbm, ⟨7, _⟩ => ⟨S_, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S_, .f32⟩
  | .hbm, ⟨12, _⟩ => ⟨S2x2048x1536, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S_, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S_, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | .hbm, ⟨37, _⟩ => ⟨S4096x1536, .f32⟩
  | .hbm, ⟨38, _⟩ => ⟨S4096x1536, .f32⟩
  | .hbm, ⟨39, _⟩ => ⟨S4096x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMix.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixIdeal.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixRefIdeal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPleProj.lean ====
abbrev S4x256x512 : Shape := ⟨3, ![4, 256, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPleProjIdeal.lean ====
abbrev S4x256x512 : Shape := ⟨3, ![4, 256, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPleProjRefIdeal.lean ====
abbrev S4x256x512 : Shape := ⟨3, ![4, 256, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S_, .f32⟩
  | .hbm, ⟨5, _⟩ => ⟨S4x256x512, .f32⟩
  | .hbm, ⟨6, _⟩ => ⟨S4x256x512, .f32⟩
  | .hbm, ⟨7, _⟩ => ⟨S_, .f32⟩
  | .hbm, ⟨8, _⟩ => ⟨S4x256x512, .f32⟩
  | .hbm, ⟨9, _⟩ => ⟨S4x256x512, .f32⟩
  | .hbm, ⟨10, _⟩ => ⟨S4x256x512, .f32⟩
  | .hbm, ⟨11, _⟩ => ⟨S_, .f32⟩
  | .hbm, ⟨12, _⟩ => ⟨S4x256x512, .f32⟩
  | .hbm, ⟨13, _⟩ => ⟨S4x256x512, .f32⟩
  | .hbm, ⟨14, _⟩ => ⟨S4x256x512, .f32⟩
  | .hbm, ⟨15, _⟩ => ⟨S_, .f32⟩
  | .hbm, ⟨16, _⟩ => ⟨S4x256x512, .f32⟩
  | .hbm, ⟨17, _⟩ => ⟨S4x256x512, .f32⟩
  | .hbm, ⟨18, _⟩ => ⟨S4x256x512, .f32⟩
  | .hbm, ⟨19, _⟩ => ⟨S_, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S_, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S_, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S_, .f32⟩
  | .hbm, ⟨35, _⟩ => ⟨S4x256x512, .f32⟩
  | .hbm, ⟨36, _⟩ => ⟨S4x256x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLoraIn.lean ====
abbrev S2x512x96 : Shape := ⟨3, ![2, 512, 96]⟩
abbrev S1024x96 : Shape := ⟨2, ![1024, 96]⟩

abbrev nBuf : Space → Nat
  | .hbm => 11
  | .vmem => 7
  | .smem => 0
  | _ => 0

abbrev bufTy : (tb : Table) → Fin (tcTables nBuf tb) → BufTy
  | .hbm, ⟨0, _⟩ => ⟨S2x512x96, .f32⟩
  | .hbm, ⟨1, _⟩ => ⟨S2x512x96, .f32⟩
  | .hbm, ⟨2, _⟩ => ⟨S2x512x96, .f32⟩
  | .hbm, ⟨3, _⟩ => ⟨S2x512x96, .f32⟩
  | .hbm, ⟨4, _⟩ => ⟨S1024x96, .f32⟩
  | .hbm, ⟨5, _⟩ => ⟨S1024x96, .f32⟩
  | .hbm, ⟨6, _⟩ => ⟨S1024x96, .f32⟩
  | .hbm, ⟨7, _⟩ => ⟨S1024x96, .f32⟩
  | .hbm, ⟨8, _⟩ => ⟨S1024x96, .f32⟩
  | .hbm, ⟨9, _⟩ => ⟨S1024x96, .f32⟩
  | .hbm, ⟨10, _⟩ => ⟨S1024x96, .f32⟩
  | .local _ .vmem, ⟨0, _⟩ => ⟨S1024x96, .f32⟩
  | .local _ .vmem, ⟨1, _⟩ => ⟨S1024x96, .f32⟩
  | .local _ .vmem, ⟨2, _⟩ => ⟨S1024x96, .f32⟩
  | .local _ .vmem, ⟨3, _⟩ => ⟨S1024x96, .f32⟩
  | .local _ .vmem, ⟨4, _⟩ => ⟨S1024x96, .f32⟩
  | .local _ .vmem, ⟨5, _⟩ => ⟨S1024x96, .f32⟩
  | .local _ .vmem, ⟨6, _⟩ => ⟨S1024x96, .f32⟩
  | _, _ => ⟨S2x512x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLoraInIdeal.lean ====
abbrev S2x512x96 : Shape := ⟨3, ![2, 512, 96]⟩
abbrev S1024x96 : Shape := ⟨2, ![1024, 96]⟩

abbrev nBuf : Space → Nat
  | .hbm => 11
  | .vmem => 7
  | .smem => 0
  | _ => 0

abbrev bufTy : (tb : Table) → Fin (tcTables nBuf tb) → BufTy
  | .hbm, ⟨0, _⟩ => ⟨S2x512x96, .f32⟩
  | .hbm, ⟨1, _⟩ => ⟨S2x512x96, .f32⟩
  | .hbm, ⟨2, _⟩ => ⟨S2x512x96, .f32⟩
  | .hbm, ⟨3, _⟩ => ⟨S2x512x96, .f32⟩
  | .hbm, ⟨4, _⟩ => ⟨S1024x96, .f32⟩
  | .hbm, ⟨5, _⟩ => ⟨S1024x96, .f32⟩
  | .hbm, ⟨6, _⟩ => ⟨S1024x96, .f32⟩
  | .hbm, ⟨7, _⟩ => ⟨S1024x96, .f32⟩
  | .hbm, ⟨8, _⟩ => ⟨S1024x96, .f32⟩
  | .hbm, ⟨9, _⟩ => ⟨S1024x96, .f32⟩
  | .hbm, ⟨10, _⟩ => ⟨S1024x96, .f32⟩
  | .local _ .vmem, ⟨0, _⟩ => ⟨S1024x96, .f32⟩
  | .local _ .vmem, ⟨1, _⟩ => ⟨S1024x96, .f32⟩
  | .local _ .vmem, ⟨2, _⟩ => ⟨S1024x96, .f32⟩
  | .local _ .vmem, ⟨3, _⟩ => ⟨S1024x96, .f32⟩
  | .local _ .vmem, ⟨4, _⟩ => ⟨S1024x96, .f32⟩
  | .local _ .vmem, ⟨5, _⟩ => ⟨S1024x96, .f32⟩
  | .local _ .vmem, ⟨6, _⟩ => ⟨S1024x96, .f32⟩
  | _, _ => ⟨S2x512x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLoraInRefIdeal.lean ====
abbrev S2x512x96 : Shape := ⟨3, ![2, 512, 96]⟩
abbrev S_ : Shape := ⟨0, ![]⟩
abbrev S1024x96 : Shape := ⟨2, ![1024, 96]⟩

abbrev nBuf : Space → Nat
  | .hbm => 40
  | .vmem => 0
  | .smem => 0
  | _ => 0

abbrev bufTy : (tb : Table) → Fin (tcTables nBuf tb) → BufTy
  | .hbm, ⟨0, _⟩ => ⟨S2x512x96, .f32⟩
  | .hbm, ⟨1, _⟩ => ⟨S2x512x96, .f32⟩
  | .hbm, ⟨2, _⟩ => ⟨S2x512x96, .f32⟩
  | .hbm, ⟨3, _⟩ => ⟨S2x512x96, .f32⟩
  | .hbm, ⟨4, _⟩ => ⟨S_, .f32⟩
  | .hbm, ⟨5, _⟩ => ⟨S2x512x96, .f32⟩
  | .hbm, ⟨6, _⟩ => ⟨S2x512x96, .f32⟩
  | .hbm, ⟨7, _⟩ => ⟨S_, .f32⟩
  | .hbm, ⟨8, _⟩ => ⟨S2x512x96, .f32⟩
  | .hbm, ⟨9, _⟩ => ⟨S2x512x96, .f32⟩
  | .hbm, ⟨10, _⟩ => ⟨S2x512x96, .f32⟩
  | .hbm, ⟨11, _⟩ => ⟨S_, .f32⟩
  | .hbm, ⟨12, _⟩ => ⟨S2x512x96, .f32⟩
  | .hbm, ⟨13, _⟩ => ⟨S2x512x96, .f32⟩
  | .hbm, ⟨14, _⟩ => ⟨S2x512x96, .f32⟩
  | .hbm, ⟨15, _⟩ => ⟨S_, .f32⟩
  | .hbm, ⟨16, _⟩ => ⟨S2x512x96, .f32⟩
  | .hbm, ⟨17, _⟩ => ⟨S2x512x96, .f32⟩
  | .hbm, ⟨18, _⟩ => ⟨S2x512x96, .f32⟩
  | .hbm, ⟨19, _⟩ => ⟨S_, .f32⟩
  | .hbm, ⟨20, _⟩ => ⟨S2x512x96, .f32⟩
  | .hbm, ⟨21, _⟩ => ⟨S2x512x96, .f32⟩
  | .hbm, ⟨22, _⟩ => ⟨S_, .f32⟩
  | .hbm, ⟨23, _⟩ => ⟨S2x512x96, .f32⟩
  | .hbm, ⟨24, _⟩ => ⟨S2x512x96, .f32⟩
  | .hbm, ⟨25, _⟩ => ⟨S2x512x96, .f32⟩
  | .hbm, ⟨26, _⟩ => ⟨S_, .f32⟩
  | .hbm, ⟨27, _⟩ => ⟨S2x512x96, .f32⟩
  | .hbm, ⟨28, _⟩ => ⟨S2x512x96, .f32⟩
  | .hbm, ⟨29, _⟩ => ⟨S2x512x96, .f32⟩
  | .hbm, ⟨30, _⟩ => ⟨S_, .f32⟩
  | .hbm, ⟨31, _⟩ => ⟨S2x512x96, .f32⟩
  | .hbm, ⟨32, _⟩ => ⟨S2x512x96, .f32⟩
  | .hbm, ⟨33, _⟩ => ⟨S2x512x96, .f32⟩
  | .hbm, ⟨34, _⟩ => ⟨S_, .f32⟩
  | .hbm, ⟨35, _⟩ => ⟨S2x512x96, .f32⟩
  | .hbm, ⟨36, _⟩ => ⟨S2x512x96, .f32⟩
  | .hbm, ⟨37, _⟩ => ⟨S1024x96, .f32⟩
  | .hbm, ⟨38, _⟩ => ⟨S1024x96, .f32⟩
  | .hbm, ⟨39, _⟩ => ⟨S1024x96, .f32⟩
  | _, _ => ⟨S2x512x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLoraOut.lean ====
abbrev S2x96x512 : Shape := ⟨3, ![2, 96, 512]⟩
abbrev S192x512 : Shape := ⟨2, ![192, 512]⟩
abbrev S64x512 : Shape := ⟨2, ![64, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x96x512, .f32⟩
  | .hbm, ⟨1, _⟩ => ⟨S2x96x512, .f32⟩
  | .hbm, ⟨2, _⟩ => ⟨S2x96x512, .f32⟩
  | .hbm, ⟨3, _⟩ => ⟨S2x96x512, .f32⟩
  | .hbm, ⟨4, _⟩ => ⟨S192x512, .f32⟩
  | .hbm, ⟨5, _⟩ => ⟨S192x512, .f32⟩
  | .hbm, ⟨6, _⟩ => ⟨S192x512, .f32⟩
  | .hbm, ⟨7, _⟩ => ⟨S192x512, .f32⟩
  | .hbm, ⟨8, _⟩ => ⟨S192x512, .f32⟩
  | .hbm, ⟨9, _⟩ => ⟨S192x512, .f32⟩
  | .hbm, ⟨10, _⟩ => ⟨S192x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | _, _ => ⟨S2x96x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLoraOutIdeal.lean ====
abbrev S2x96x512 : Shape := ⟨3, ![2, 96, 512]⟩
abbrev S192x512 : Shape := ⟨2, ![192, 512]⟩
abbrev S64x512 : Shape := ⟨2, ![64, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x96x512, .f32⟩
  | .hbm, ⟨1, _⟩ => ⟨S2x96x512, .f32⟩
  | .hbm, ⟨2, _⟩ => ⟨S2x96x512, .f32⟩
  | .hbm, ⟨3, _⟩ => ⟨S2x96x512, .f32⟩
  | .hbm, ⟨4, _⟩ => ⟨S192x512, .f32⟩
  | .hbm, ⟨5, _⟩ => ⟨S192x512, .f32⟩
  | .hbm, ⟨6, _⟩ => ⟨S192x512, .f32⟩
  | .hbm, ⟨7, _⟩ => ⟨S192x512, .f32⟩
  | .hbm, ⟨8, _⟩ => ⟨S192x512, .f32⟩
  | .hbm, ⟨9, _⟩ => ⟨S192x512, .f32⟩
  | .hbm, ⟨10, _⟩ => ⟨S192x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | _, _ => ⟨S2x96x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLoraOutRefIdeal.lean ====
abbrev S2x96x512 : Shape := ⟨3, ![2, 96, 512]⟩
abbrev S_ : Shape := ⟨0, ![]⟩
abbrev S192x512 : Shape := ⟨2, ![192, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x96x512, .f32⟩
  | .hbm, ⟨1, _⟩ => ⟨S2x96x512, .f32⟩
  | .hbm, ⟨2, _⟩ => ⟨S2x96x512, .f32⟩
  | .hbm, ⟨3, _⟩ => ⟨S2x96x512, .f32⟩
  | .hbm, ⟨4, _⟩ => ⟨S_, .f32⟩
  | .hbm, ⟨5, _⟩ => ⟨S2x96x512, .f32⟩
  | .hbm, ⟨6, _⟩ => ⟨S2x96x512, .f32⟩
  | .hbm, ⟨7, _⟩ => ⟨S_, .f32⟩
  | .hbm, ⟨8, _⟩ => ⟨S2x96x512, .f32⟩
  | .hbm, ⟨9, _⟩ => ⟨S2x96x512, .f32⟩
  | .hbm, ⟨10, _⟩ => ⟨S2x96x512, .f32⟩
  | .hbm, ⟨11, _⟩ => ⟨S_, .f32⟩
  | .hbm, ⟨12, _⟩ => ⟨S2x96x512, .f32⟩
  | .hbm, ⟨13, _⟩ => ⟨S2x96x512, .f32⟩
  | .hbm, ⟨14, _⟩ => ⟨S2x96x512, .f32⟩
  | .hbm, ⟨15, _⟩ => ⟨S_, .f32⟩
  | .hbm, ⟨16, _⟩ => ⟨S2x96x512, .f32⟩
  | .hbm, ⟨17, _⟩ => ⟨S2x96x512, .f32⟩
  | .hbm, ⟨18, _⟩ => ⟨S2x96x512, .f32⟩
  | .hbm, ⟨19, _⟩ => ⟨S_, .f32⟩
  | .hbm, ⟨20, _⟩ => ⟨S2x96x512, .f32⟩
  | .hbm, ⟨21, _⟩ => ⟨S2x96x512, .f32⟩
  | .hbm, ⟨22, _⟩ => ⟨S_, .f32⟩
  | .hbm, ⟨23, _⟩ => ⟨S2x96x512, .f32⟩
  | .hbm, ⟨24, _⟩ => ⟨S2x96x512, .f32⟩
  | .hbm, ⟨25, _⟩ => ⟨S2x96x512, .f32⟩
  | .hbm, ⟨26, _⟩ => ⟨S_, .f32⟩
  | .hbm, ⟨27, _⟩ => ⟨S2x96x512, .f32⟩
  | .hbm, ⟨28, _⟩ => ⟨S2x96x512, .f32⟩
  | .hbm, ⟨29, _⟩ => ⟨S2x96x512, .f32⟩
  | .hbm, ⟨30, _⟩ => ⟨S_, .f32⟩
  | .hbm, ⟨31, _⟩ => ⟨S2x96x512, .f32⟩
  | .hbm, ⟨32, _⟩ => ⟨S2x96x512, .f32⟩
  | .hbm, ⟨33, _⟩ => ⟨S2x96x512, .f32⟩
  | .hbm, ⟨34, _⟩ => ⟨S_, .f32⟩
  | .hbm, ⟨35, _⟩ => ⟨S2x96x512, .f32⟩
  | .hbm, ⟨36, _⟩ => ⟨S2x96x512, .f32⟩
  | .hbm, ⟨37, _⟩ => ⟨S192x512, .f32⟩
  | .hbm, ⟨38, _⟩ => ⟨S192x512, .f32⟩
  | .hbm, ⟨39, _⟩ => ⟨S192x512, .f32⟩
  | _, _ => ⟨S2x96x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGateIn.lean ====
abbrev S2x512x256 : Shape := ⟨3, ![2, 512, 256]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateInIdeal.lean ====
abbrev S2x512x256 : Shape := ⟨3, ![2, 512, 256]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateInRefIdeal.lean ====
abbrev S2x512x256 : Shape := ⟨3, ![2, 512, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGateOut.lean ====
abbrev S2x256x512 : Shape := ⟨3, ![2, 256, 512]⟩
abbrev S512x512 : Shape := ⟨2, ![512, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateOutIdeal.lean ====
abbrev S2x256x512 : Shape := ⟨3, ![2, 256, 512]⟩
abbrev S512x512 : Shape := ⟨2, ![512, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateOutRefIdeal.lean ====
abbrev S2x256x512 : Shape := ⟨3, ![2, 256, 512]⟩
abbrev S_ : Shape := ⟨0, ![]⟩
abbrev S512x512 : Shape := ⟨2, ![512, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S_, .f32⟩
  | .hbm, ⟨5, _⟩ => ⟨S2x256x512, .f32⟩
  | .hbm, ⟨6, _⟩ => ⟨S2x256x512, .f32⟩
  | .hbm, ⟨7, _⟩ => ⟨S_, .f32⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S_, .f32⟩
  | .hbm, ⟨12, _⟩ => ⟨S2x256x512, .f32⟩
  | .hbm, ⟨13, _⟩ => ⟨S2x256x512, .f32⟩
  | .hbm, ⟨14, _⟩ => ⟨S2x256x512, .f32⟩
  | .hbm, ⟨15, _⟩ => ⟨S_, .f32⟩
  | .hbm, ⟨16, _⟩ => ⟨S2x256x512, .f32⟩
  | .hbm, ⟨17, _⟩ => ⟨S2x256x512, .f32⟩
  | .hbm, ⟨18, _⟩ => ⟨S2x256x512, .f32⟩
  | .hbm, ⟨19, _⟩ => ⟨S_, .f32⟩
  | .hbm, ⟨20, _⟩ => ⟨S2x256x512, .f32⟩
  | .hbm, ⟨21, _⟩ => ⟨S2x256x512, .f32⟩
  | .hbm, ⟨22, _⟩ => ⟨S_, .f32⟩
  | .hbm, ⟨23, _⟩ => ⟨S2x256x512, .f32⟩
  | .hbm, ⟨24, _⟩ => ⟨S2x256x512, .f32⟩
  | .hbm, ⟨25, _⟩ => ⟨S2x256x512, .f32⟩
  | .hbm, ⟨26, _⟩ => ⟨S_, .f32⟩
  | .hbm, ⟨27, _⟩ => ⟨S2x256x512, .f32⟩
  | .hbm, ⟨28, _⟩ => ⟨S2x256x512, .f32⟩
  | .hbm, ⟨29, _⟩ => ⟨S2x256x512, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S_, .f32⟩
  | .hbm, ⟨35, _⟩ => ⟨S2x256x512, .f32⟩
  | .hbm, ⟨36, _⟩ => ⟨S2x256x512, .f32⟩
  | .hbm, ⟨37, _⟩ => ⟨S512x512, .f32⟩
  | .hbm, ⟨38, _⟩ => ⟨S512x512, .f32⟩
  | .hbm, ⟨39, _⟩ => ⟨S512x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamValIn.lean ====
abbrev S1x512x64 : Shape := ⟨3, ![1, 512, 64]⟩
abbrev S512x64 : Shape := ⟨2, ![512, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x512x64, .f32⟩
  | .hbm, ⟨1, _⟩ => ⟨S1x512x64, .f32⟩
  | .hbm, ⟨2, _⟩ => ⟨S1x512x64, .f32⟩
  | .hbm, ⟨3, _⟩ => ⟨S1x512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S1x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamValInIdeal.lean ====
abbrev S1x512x64 : Shape := ⟨3, ![1, 512, 64]⟩
abbrev S512x64 : Shape := ⟨2, ![512, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x512x64, .f32⟩
  | .hbm, ⟨1, _⟩ => ⟨S1x512x64, .f32⟩
  | .hbm, ⟨2, _⟩ => ⟨S1x512x64, .f32⟩
  | .hbm, ⟨3, _⟩ => ⟨S1x512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S1x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamValInRefIdeal.lean ====
abbrev S1x512x64 : Shape := ⟨3, ![1, 512, 64]⟩
abbrev S_ : Shape := ⟨0, ![]⟩
abbrev S512x64 : Shape := ⟨2, ![512, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x512x64, .f32⟩
  | .hbm, ⟨1, _⟩ => ⟨S1x512x64, .f32⟩
  | .hbm, ⟨2, _⟩ => ⟨S1x512x64, .f32⟩
  | .hbm, ⟨3, _⟩ => ⟨S1x512x64, .f32⟩
  | .hbm, ⟨4, _⟩ => ⟨S_, .f32⟩
  | .hbm, ⟨5, _⟩ => ⟨S1x512x64, .f32⟩
  | .hbm, ⟨6, _⟩ => ⟨S1x512x64, .f32⟩
  | .hbm, ⟨7, _⟩ => ⟨S_, .f32⟩
  | .hbm, ⟨8, _⟩ => ⟨S1x512x64, .f32⟩
  | .hbm, ⟨9, _⟩ => ⟨S1x512x64, .f32⟩
  | .hbm, ⟨10, _⟩ => ⟨S1x512x64, .f32⟩
  | .hbm, ⟨11, _⟩ => ⟨S_, .f32⟩
  | .hbm, ⟨12, _⟩ => ⟨S1x512x64, .f32⟩
  | .hbm, ⟨13, _⟩ => ⟨S1x512x64, .f32⟩
  | .hbm, ⟨14, _⟩ => ⟨S1x512x64, .f32⟩
  | .hbm, ⟨15, _⟩ => ⟨S_, .f32⟩
  | .hbm, ⟨16, _⟩ => ⟨S1x512x64, .f32⟩
  | .hbm, ⟨17, _⟩ => ⟨S1x512x64, .f32⟩
  | .hbm, ⟨18, _⟩ => ⟨S1x512x64, .f32⟩
  | .hbm, ⟨19, _⟩ => ⟨S_, .f32⟩
  | .hbm, ⟨20, _⟩ => ⟨S1x512x64, .f32⟩
  | .hbm, ⟨21, _⟩ => ⟨S1x512x64, .f32⟩
  | .hbm, ⟨22, _⟩ => ⟨S_, .f32⟩
  | .hbm, ⟨23, _⟩ => ⟨S1x512x64, .f32⟩
  | .hbm, ⟨24, _⟩ => ⟨S1x512x64, .f32⟩
  | .hbm, ⟨25, _⟩ => ⟨S1x512x64, .f32⟩
  | .hbm, ⟨26, _⟩ => ⟨S_, .f32⟩
  | .hbm, ⟨27, _⟩ => ⟨S1x512x64, .f32⟩
  | .hbm, ⟨28, _⟩ => ⟨S1x512x64, .f32⟩
  | .hbm, ⟨29, _⟩ => ⟨S1x512x64, .f32⟩
  | .hbm, ⟨30, _⟩ => ⟨S_, .f32⟩
  | .hbm, ⟨31, _⟩ => ⟨S1x512x64, .f32⟩
  | .hbm, ⟨32, _⟩ => ⟨S1x512x64, .f32⟩
  | .hbm, ⟨33, _⟩ => ⟨S1x512x64, .f32⟩
  | .hbm, ⟨34, _⟩ => ⟨S_, .f32⟩
  | .hbm, ⟨35, _⟩ => ⟨S1x512x64, .f32⟩
  | .hbm, ⟨36, _⟩ => ⟨S1x512x64, .f32⟩
  | .hbm, ⟨37, _⟩ => ⟨S512x64, .f32⟩
  | .hbm, ⟨38, _⟩ => ⟨S512x64, .f32⟩
  | .hbm, ⟨39, _⟩ => ⟨S512x64, .f32⟩
  | _, _ => ⟨S1x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamValOut.lean ====
abbrev S1x64x512 : Shape := ⟨3, ![1, 64, 512]⟩
abbrev S64x512 : Shape := ⟨2, ![64, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x64x512, .f32⟩
  | .hbm, ⟨1, _⟩ => ⟨S1x64x512, .f32⟩
  | .hbm, ⟨2, _⟩ => ⟨S1x64x512, .f32⟩
  | .hbm, ⟨3, _⟩ => ⟨S1x64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S64x512, .f32⟩
  | .hbm, ⟨9, _⟩ => ⟨S64x512, .f32⟩
  | .hbm, ⟨10, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | _, _ => ⟨S1x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamValOutRefIdeal.lean ====
abbrev S1x64x512 : Shape := ⟨3, ![1, 64, 512]⟩
abbrev S_ : Shape := ⟨0, ![]⟩
abbrev S64x512 : Shape := ⟨2, ![64, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x64x512, .f32⟩
  | .hbm, ⟨1, _⟩ => ⟨S1x64x512, .f32⟩
  | .hbm, ⟨2, _⟩ => ⟨S1x64x512, .f32⟩
  | .hbm, ⟨3, _⟩ => ⟨S1x64x512, .f32⟩
  | .hbm, ⟨4, _⟩ => ⟨S_, .f32⟩
  | .hbm, ⟨5, _⟩ => ⟨S1x64x512, .f32⟩
  | .hbm, ⟨6, _⟩ => ⟨S1x64x512, .f32⟩
  | .hbm, ⟨7, _⟩ => ⟨S_, .f32⟩
  | .hbm, ⟨8, _⟩ => ⟨S1x64x512, .f32⟩
  | .hbm, ⟨9, _⟩ => ⟨S1x64x512, .f32⟩
  | .hbm, ⟨10, _⟩ => ⟨S1x64x512, .f32⟩
  | .hbm, ⟨11, _⟩ => ⟨S_, .f32⟩
  | .hbm, ⟨12, _⟩ => ⟨S1x64x512, .f32⟩
  | .hbm, ⟨13, _⟩ => ⟨S1x64x512, .f32⟩
  | .hbm, ⟨14, _⟩ => ⟨S1x64x512, .f32⟩
  | .hbm, ⟨15, _⟩ => ⟨S_, .f32⟩
  | .hbm, ⟨16, _⟩ => ⟨S1x64x512, .f32⟩
  | .hbm, ⟨17, _⟩ => ⟨S1x64x512, .f32⟩
  | .hbm, ⟨18, _⟩ => ⟨S1x64x512, .f32⟩
  | .hbm, ⟨19, _⟩ => ⟨S_, .f32⟩
  | .hbm, ⟨20, _⟩ => ⟨S1x64x512, .f32⟩
  | .hbm, ⟨21, _⟩ => ⟨S1x64x512, .f32⟩
  | .hbm, ⟨22, _⟩ => ⟨S_, .f32⟩
  | .hbm, ⟨23, _⟩ => ⟨S1x64x512, .f32⟩
  | .hbm, ⟨24, _⟩ => ⟨S1x64x512, .f32⟩
  | .hbm, ⟨25, _⟩ => ⟨S1x64x512, .f32⟩
  | .hbm, ⟨26, _⟩ => ⟨S_, .f32⟩
  | .hbm, ⟨27, _⟩ => ⟨S1x64x512, .f32⟩
  | .hbm, ⟨28, _⟩ => ⟨S1x64x512, .f32⟩
  | .hbm, ⟨29, _⟩ => ⟨S1x64x512, .f32⟩
  | .hbm, ⟨30, _⟩ => ⟨S_, .f32⟩
  | .hbm, ⟨31, _⟩ => ⟨S1x64x512, .f32⟩
  | .hbm, ⟨32, _⟩ => ⟨S1x64x512, .f32⟩
  | .hbm, ⟨33, _⟩ => ⟨S1x64x512, .f32⟩
  | .hbm, ⟨34, _⟩ => ⟨S_, .f32⟩
  | .hbm, ⟨35, _⟩ => ⟨S1x64x512, .f32⟩
  | .hbm, ⟨36, _⟩ => ⟨S1x64x512, .f32⟩
  | .hbm, ⟨37, _⟩ => ⟨S64x512, .f32⟩
  | .hbm, ⟨38, _⟩ => ⟨S64x512, .f32⟩
  | .hbm, ⟨39, _⟩ => ⟨S64x512, .f32⟩
  | _, _ => ⟨S1x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S4x4x512 : Shape := ⟨3, ![4, 4, 512]⟩
abbrev S2x6x512 : Shape := ⟨3, ![2, 6, 512]⟩
abbrev S2x512 : Shape := ⟨2, ![2, 512]⟩
abbrev S1x512 : Shape := ⟨2, ![1, 512]⟩
abbrev S8192 : Shape := ⟨1, ![8192]⟩
abbrev S6144 : Shape := ⟨1, ![6144]⟩
abbrev S1024 : Shape := ⟨1, ![1024]⟩
abbrev S512 : Shape := ⟨1, ![512]⟩
abbrev S20992 : Shape := ⟨1, ![20992]⟩
abbrev S_ : Shape := ⟨0, ![]⟩
abbrev S110080 : Shape := ⟨1, ![110080]⟩
abbrev S131072 : Shape := ⟨1, ![131072]⟩
abbrev S1024x128 : Shape := ⟨2, ![1024, 128]⟩

abbrev nBuf : Space → Nat
  | .hbm => 95
  | .vmem => 7
  | .smem => 0
  | _ => 0

abbrev bufTy : (tb : Table) → Fin (tcTables nBuf tb) → BufTy
  | .hbm, ⟨0, _⟩ => ⟨S4x4x512, .f32⟩
  | .hbm, ⟨1, _⟩ => ⟨S2x6x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S1x512, .f32⟩
  | .hbm, ⟨9, _⟩ => ⟨S4x4x512, .f32⟩
  | .hbm, ⟨10, _⟩ => ⟨S2x6x512, .f32⟩
  | .hbm, ⟨11, _⟩ => ⟨S2x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S2x512, .f32⟩
  | .hbm, ⟨17, _⟩ => ⟨S1x512, .f32⟩
  | .hbm, ⟨18, _⟩ => ⟨S4x4x512, .f32⟩
  | .hbm, ⟨19, _⟩ => ⟨S2x6x512, .f32⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S1x512, .f32⟩
  | .hbm, ⟨27, _⟩ => ⟨S4x4x512, .f32⟩
  | .hbm, ⟨28, _⟩ => ⟨S2x6x512, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S2x512, .f32⟩
  | .hbm, ⟨35, _⟩ => ⟨S1x512, .f32⟩
  | .hbm, ⟨36, _⟩ => ⟨S8192, .f32⟩
  | .hbm, ⟨37, _⟩ => ⟨S6144, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S512, .f32⟩
  | .hbm, ⟨45, _⟩ => ⟨S20992, .f32⟩
  | .hbm, ⟨46, _⟩ => ⟨S_, .f32⟩
  | .hbm, ⟨47, _⟩ => ⟨S110080, .f32⟩
  | .hbm, ⟨48, _⟩ => ⟨S131072, .f32⟩
  | .hbm, ⟨49, _⟩ => ⟨S1024x128, .f32⟩
  | .hbm, ⟨50, _⟩ => ⟨S8192, .f32⟩
  | .hbm, ⟨51, _⟩ => ⟨S6144, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S512, .f32⟩
  | .hbm, ⟨59, _⟩ => ⟨S20992, .f32⟩
  | .hbm, ⟨60, _⟩ => ⟨S_, .f32⟩
  | .hbm, ⟨61, _⟩ => ⟨S110080, .f32⟩
  | .hbm, ⟨62, _⟩ => ⟨S131072, .f32⟩
  | .hbm, ⟨63, _⟩ => ⟨S1024x128, .f32⟩
  | .hbm, ⟨64, _⟩ => ⟨S8192, .f32⟩
  | .hbm, ⟨65, _⟩ => ⟨S6144, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S512, .f32⟩
  | .hbm, ⟨73, _⟩ => ⟨S20992, .f32⟩
  | .hbm, ⟨74, _⟩ => ⟨S_, .f32⟩
  | .hbm, ⟨75, _⟩ => ⟨S110080, .f32⟩
  | .hbm, ⟨76, _⟩ => ⟨S131072, .f32⟩
  | .hbm, ⟨77, _⟩ => ⟨S1024x128, .f32⟩
  | .hbm, ⟨78, _⟩ => ⟨S8192, .f32⟩
  | .hbm, ⟨79, _⟩ => ⟨S6144, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S512, .f32⟩
  | .hbm, ⟨87, _⟩ => ⟨S20992, .f32⟩
  | .hbm, ⟨88, _⟩ => ⟨S_, .f32⟩
  | .hbm, ⟨89, _⟩ => ⟨S110080, .f32⟩
  | .hbm, ⟨90, _⟩ => ⟨S131072, .f32⟩
  | .hbm, ⟨91, _⟩ => ⟨S1024x128, .f32⟩
  | .hbm, ⟨92, _⟩ => ⟨S1024x128, .f32⟩
  | .hbm, ⟨93, _⟩ => ⟨S1024x128, .f32⟩
  | .hbm, ⟨94, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_2 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52_0 : Ref sig .tc := ⟨.hbm, 92, rfl⟩
abbrev main_v52_1 : Ref sig .tc := ⟨.hbm, 93, rfl⟩
abbrev main_v52_2 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
abbrev S4x4x512 : Shape := ⟨3, ![4, 4, 512]⟩
abbrev S2x6x512 : Shape := ⟨3, ![2, 6, 512]⟩
abbrev S2x512 : Shape := ⟨2, ![2, 512]⟩
abbrev S1x512 : Shape := ⟨2, ![1, 512]⟩
abbrev S8192 : Shape := ⟨1, ![8192]⟩
abbrev S6144 : Shape := ⟨1, ![6144]⟩
abbrev S1024 : Shape := ⟨1, ![1024]⟩
abbrev S512 : Shape := ⟨1, ![512]⟩
abbrev S20992 : Shape := ⟨1, ![20992]⟩
abbrev S_ : Shape := ⟨0, ![]⟩
abbrev S110080 : Shape := ⟨1, ![110080]⟩
abbrev S131072 : Shape := ⟨1, ![131072]⟩
abbrev S1024x128 : Shape := ⟨2, ![1024, 128]⟩

abbrev nBuf : Space → Nat
  | .hbm => 95
  | .vmem => 7
  | .smem => 0
  | _ => 0

abbrev bufTy : (tb : Table) → Fin (tcTables nBuf tb) → BufTy
  | .hbm, ⟨0, _⟩ => ⟨S4x4x512, .f32⟩
  | .hbm, ⟨1, _⟩ => ⟨S2x6x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S1x512, .f32⟩
  | .hbm, ⟨9, _⟩ => ⟨S4x4x512, .f32⟩
  | .hbm, ⟨10, _⟩ => ⟨S2x6x512, .f32⟩
  | .hbm, ⟨11, _⟩ => ⟨S2x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S2x512, .f32⟩
  | .hbm, ⟨17, _⟩ => ⟨S1x512, .f32⟩
  | .hbm, ⟨18, _⟩ => ⟨S4x4x512, .f32⟩
  | .hbm, ⟨19, _⟩ => ⟨S2x6x512, .f32⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S1x512, .f32⟩
  | .hbm, ⟨27, _⟩ => ⟨S4x4x512, .f32⟩
  | .hbm, ⟨28, _⟩ => ⟨S2x6x512, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S2x512, .f32⟩
  | .hbm, ⟨35, _⟩ => ⟨S1x512, .f32⟩
  | .hbm, ⟨36, _⟩ => ⟨S8192, .f32⟩
  | .hbm, ⟨37, _⟩ => ⟨S6144, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S512, .f32⟩
  | .hbm, ⟨45, _⟩ => ⟨S20992, .f32⟩
  | .hbm, ⟨46, _⟩ => ⟨S_, .f32⟩
  | .hbm, ⟨47, _⟩ => ⟨S110080, .f32⟩
  | .hbm, ⟨48, _⟩ => ⟨S131072, .f32⟩
  | .hbm, ⟨49, _⟩ => ⟨S1024x128, .f32⟩
  | .hbm, ⟨50, _⟩ => ⟨S8192, .f32⟩
  | .hbm, ⟨51, _⟩ => ⟨S6144, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S512, .f32⟩
  | .hbm, ⟨59, _⟩ => ⟨S20992, .f32⟩
  | .hbm, ⟨60, _⟩ => ⟨S_, .f32⟩
  | .hbm, ⟨61, _⟩ => ⟨S110080, .f32⟩
  | .hbm, ⟨62, _⟩ => ⟨S131072, .f32⟩
  | .hbm, ⟨63, _⟩ => ⟨S1024x128, .f32⟩
  | .hbm, ⟨64, _⟩ => ⟨S8192, .f32⟩
  | .hbm, ⟨65, _⟩ => ⟨S6144, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S512, .f32⟩
  | .hbm, ⟨73, _⟩ => ⟨S20992, .f32⟩
  | .hbm, ⟨74, _⟩ => ⟨S_, .f32⟩
  | .hbm, ⟨75, _⟩ => ⟨S110080, .f32⟩
  | .hbm, ⟨76, _⟩ => ⟨S131072, .f32⟩
  | .hbm, ⟨77, _⟩ => ⟨S1024x128, .f32⟩
  | .hbm, ⟨78, _⟩ => ⟨S8192, .f32⟩
  | .hbm, ⟨79, _⟩ => ⟨S6144, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S512, .f32⟩
  | .hbm, ⟨87, _⟩ => ⟨S20992, .f32⟩
  | .hbm, ⟨88, _⟩ => ⟨S_, .f32⟩
  | .hbm, ⟨89, _⟩ => ⟨S110080, .f32⟩
  | .hbm, ⟨90, _⟩ => ⟨S131072, .f32⟩
  | .hbm, ⟨91, _⟩ => ⟨S1024x128, .f32⟩
  | .hbm, ⟨92, _⟩ => ⟨S1024x128, .f32⟩
  | .hbm, ⟨93, _⟩ => ⟨S1024x128, .f32⟩
  | .hbm, ⟨94, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_2 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52_0 : Ref sig .tc := ⟨.hbm, 92, rfl⟩
abbrev main_v52_1 : Ref sig .tc := ⟨.hbm, 93, rfl⟩
abbrev main_v52_2 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S4x4x512 : Shape := ⟨3, ![4, 4, 512]⟩
abbrev S2x6x512 : Shape := ⟨3, ![2, 6, 512]⟩
abbrev S2x512 : Shape := ⟨2, ![2, 512]⟩
abbrev S1x512 : Shape := ⟨2, ![1, 512]⟩
abbrev S_ : Shape := ⟨0, ![]⟩
abbrev S110080 : Shape := ⟨1, ![110080]⟩
abbrev S8192 : Shape := ⟨1, ![8192]⟩
abbrev S6144 : Shape := ⟨1, ![6144]⟩
abbrev S1024 : Shape := ⟨1, ![1024]⟩
abbrev S512 : Shape := ⟨1, ![512]⟩
abbrev S20992 : Shape := ⟨1, ![20992]⟩
abbrev S131072 : Shape := ⟨1, ![131072]⟩
abbrev S1024x128 : Shape := ⟨2, ![1024, 128]⟩

abbrev nBuf : Space → Nat
  | .hbm => 371
  | .vmem => 0
  | .smem => 0
  | _ => 0

abbrev hbmTy0_0 (i : Nat) : BufTy := match i % 128 with
  | 0 => ⟨S4x4x512, .f32⟩
  | 1 => ⟨S2x6x512, .f32⟩
  | 2 => ⟨S2x512, .f32⟩
  | 3 => ⟨S2x512, .f32⟩
  | 4 => ⟨S2x512, .f32⟩
  | 5 => ⟨S2x512, .f32⟩
  | 6 => ⟨S2x512, .f32⟩
  | 7 => ⟨S2x512, .f32⟩
  | 8 => ⟨S1x512, .f32⟩
  | 9 => ⟨S4x4x512, .f32⟩
  | 10 => ⟨S2x6x512, .f32⟩
  | 11 => ⟨S2x512, .f32⟩
  | 12 => ⟨S2x512, .f32⟩
  | 13 => ⟨S2x512, .f32⟩
  | 14 => ⟨S2x512, .f32⟩
  | 15 => ⟨S2x512, .f32⟩
  | 16 => ⟨S2x512, .f32⟩
  | 17 => ⟨S1x512, .f32⟩
  | 18 => ⟨S4x4x512, .f32⟩
  | 19 => ⟨S2x6x512, .f32⟩
  | 20 => ⟨S2x512, .f32⟩
  | 21 => ⟨S2x512, .f32⟩
  | 22 => ⟨S2x512, .f32⟩
  | 23 => ⟨S2x512, .f32⟩
  | 24 => ⟨S2x512, .f32⟩
  | 25 => ⟨S2x512, .f32⟩
  | 26 => ⟨S1x512, .f32⟩
  | 27 => ⟨S4x4x512, .f32⟩
  | 28 => ⟨S2x6x512, .f32⟩
  | 29 => ⟨S2x512, .f32⟩
  | 30 => ⟨S2x512, .f32⟩
  | 31 => ⟨S2x512, .f32⟩
  | 32 => ⟨S2x512, .f32⟩
  | 33 => ⟨S2x512, .f32⟩
  | 34 => ⟨S2x512, .f32⟩
  | 35 => ⟨S1x512, .f32⟩
  | 36 => ⟨S_, .f32⟩
  | 37 => ⟨S4x4x512, .f32⟩
  | 38 => ⟨S4x4x512, .f32⟩
  | 39 => ⟨S_, .f32⟩
  | 40 => ⟨S4x4x512, .f32⟩
  | 41 => ⟨S4x4x512, .f32⟩
  | 42 => ⟨S4x4x512, .f32⟩
  | 43 => ⟨S_, .f32⟩
  | 44 => ⟨S4x4x512, .f32⟩
  | 45 => ⟨S4x4x512, .f32⟩
  | 46 => ⟨S4x4x512, .f32⟩
  | 47 => ⟨S_, .f32⟩
  | 48 => ⟨S4x4x512, .f32⟩
  | 49 => ⟨S4x4x512, .f32⟩
  | 50 => ⟨S4x4x512, .f32⟩
  | 51 => ⟨S_, .f32⟩
  | 52 => ⟨S4x4x512, .f32⟩
  | 53 => ⟨S4x4x512, .f32⟩
  | 54 => ⟨S_, .f32⟩
  | 55 => ⟨S4x4x512, .f32⟩
  | 56 => ⟨S4x4x512, .f32⟩
  | 57 => ⟨S4x4x512, .f32⟩
  | 58 => ⟨S_, .f32⟩
  | 59 => ⟨S4x4x512, .f32⟩
  | 60 => ⟨S4x4x512, .f32⟩
  | 61 => ⟨S4x4x512, .f32⟩
  | 62 => ⟨S_, .f32⟩
  | 63 => ⟨S4x4x512, .f32⟩
  | 64 => ⟨S4x4x512, .f32⟩
  | 65 => ⟨S4x4x512, .f32⟩
  | 66 => ⟨S_, .f32⟩
  | 67 => ⟨S4x4x512, .f32⟩
  | 68 => ⟨S4x4x512, .f32⟩
  | 69 => ⟨S_, .f32⟩
  | 70 => ⟨S2x6x512, .f32⟩
  | 71 => ⟨S2x6x512, .f32⟩
  | 72 => ⟨S_, .f32⟩
  | 73 => ⟨S2x6x512, .f32⟩
  | 74 => ⟨S2x6x512, .f32⟩
  | 75 => ⟨S2x6x512, .f32⟩
  | 76 => ⟨S_, .f32⟩
  | 77 => ⟨S2x6x512, .f32⟩
  | 78 => ⟨S2x6x512, .f32⟩
  | 79 => ⟨S2x6x512, .f32⟩
  | 80 => ⟨S_, .f32⟩
  | 81 => ⟨S2x6x512, .f32⟩
  | 82 => ⟨S2x6x512, .f32⟩
  | 83 => ⟨S2x6x512, .f32⟩
  | 84 => ⟨S_, .f32⟩
  | 85 => ⟨S2x6x512, .f32⟩
  | 86 => ⟨S2x6x512, .f32⟩
  | 87 => ⟨S_, .f32⟩
  | 88 => ⟨S2x6x512, .f32⟩
  | 89 => ⟨S2x6x512, .f32⟩
  | 90 => ⟨S2x6x512, .f32⟩
  | 91 => ⟨S_, .f32⟩
  | 92 => ⟨S2x6x512, .f32⟩
  | 93 => ⟨S2x6x512, .f32⟩
  | 94 => ⟨S2x6x512, .f32⟩
  | 95 => ⟨S_, .f32⟩
  | 96 => ⟨S2x6x512, .f32⟩
  | 97 => ⟨S2x6x512, .f32⟩
  | 98 => ⟨S2x6x512, .f32⟩
  | 99 => ⟨S_, .f32⟩
  | 100 => ⟨S2x6x512, .f32⟩
  | 101 => ⟨S2x6x512, .f32⟩
  | 102 => ⟨S_, .f32⟩
  | 103 => ⟨S2x512, .f32⟩
  | 104 => ⟨S2x512, .f32⟩
  | 105 => ⟨S_, .f32⟩
  | 106 => ⟨S2x512, .f32⟩
  | 107 => ⟨S2x512, .f32⟩
  | 108 => ⟨S2x512, .f32⟩
  | 109 => ⟨S_, .f32⟩
  | 110 => ⟨S2x512, .f32⟩
  | 111 => ⟨S2x512, .f32⟩
  | 112 => ⟨S2x512, .f32⟩
  | 113 => ⟨S_, .f32⟩
  | 114 => ⟨S2x512, .f32⟩
  | 115 => ⟨S2x512, .f32⟩
  | 116 => ⟨S2x512, .f32⟩
  | 117 => ⟨S_, .f32⟩
  | 118 => ⟨S2x512, .f32⟩
  | 119 => ⟨S2x512, .f32⟩
  | 120 => ⟨S_, .f32⟩
  | 121 => ⟨S2x512, .f32⟩
  | 122 => ⟨S2x512, .f32⟩
  | 123 => ⟨S2x512, .f32⟩
  | 124 => ⟨S_, .f32⟩
  | 125 => ⟨S2x512, .f32⟩
  | 126 => ⟨S2x512, .f32⟩
  | 127 => ⟨S2x512, .f32⟩
  | _ => ⟨S4x4x512, .f32⟩

abbrev hbmTy0_1 (i : Nat) : BufTy := match i % 128 with
  | 0 => ⟨S_, .f32⟩
  | 1 => ⟨S2x512, .f32⟩
  | 2 => ⟨S2x512, .f32⟩
  | 3 => ⟨S2x512, .f32⟩
  | 4 => ⟨S_, .f32⟩
  | 5 => ⟨S2x512, .f32⟩
  | 6 => ⟨S2x512, .f32⟩
  | 7 => ⟨S_, .f32⟩
  | 8 => ⟨S2x512, .f32⟩
  | 9 => ⟨S2x512, .f32⟩
  | 10 => ⟨S_, .f32⟩
  | 11 => ⟨S2x512, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S_, .f32⟩
  | 19 => ⟨S2x512, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S_, .f32⟩
  | 26 => ⟨S2x512, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S2x512, .f32⟩
  | 33 => ⟨S_, .f32⟩
  | 34 => ⟨S2x512, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S_, .f32⟩
  | 41 => ⟨S2x512, .f32⟩
  | 42 => ⟨S2x512, .f32⟩
  | 43 => ⟨S_, .f32⟩
  | 44 => ⟨S2x512, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S2x512, .f32⟩
  | 51 => ⟨S_, .f32⟩
  | 52 => ⟨S2x512, .f32⟩
  | 53 => ⟨S2x512, .f32⟩
  | 54 => ⟨S2x512, .f32⟩
  | 55 => ⟨S_, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S2x512, .f32⟩
  | 66 => ⟨S_, .f32⟩
  | 67 => ⟨S2x512, .f32⟩
  | 68 => ⟨S2x512, .f32⟩
  | 69 => ⟨S2x512, .f32⟩
  | 70 => ⟨S_, .f32⟩
  | 71 => ⟨S2x512, .f32⟩
  | 72 => ⟨S2x512, .f32⟩
  | 73 => ⟨S_, .f32⟩
  | 74 => ⟨S2x512, .f32⟩
  | 75 => ⟨S2x512, .f32⟩
  | 76 => ⟨S_, .f32⟩
  | 77 => ⟨S2x512, .f32⟩
  | 78 => ⟨S2x512, .f32⟩
  | 79 => ⟨S2x512, .f32⟩
  | 80 => ⟨S_, .f32⟩
  | 81 => ⟨S2x512, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S_, .f32⟩
  | 92 => ⟨S2x512, .f32⟩
  | 93 => ⟨S2x512, .f32⟩
  | 94 => ⟨S2x512, .f32⟩
  | 95 => ⟨S_, .f32⟩
  | 96 => ⟨S2x512, .f32⟩
  | 97 => ⟨S2x512, .f32⟩
  | 98 => ⟨S2x512, .f32⟩
  | 99 => ⟨S_, .f32⟩
  | 100 => ⟨S2x512, .f32⟩
  | 101 => ⟨S2x512, .f32⟩
  | 102 => ⟨S2x512, .f32⟩
  | 103 => ⟨S_, .f32⟩
  | 104 => ⟨S2x512, .f32⟩
  | 105 => ⟨S2x512, .f32⟩
  | 106 => ⟨S_, .f32⟩
  | 107 => ⟨S2x512, .f32⟩
  | 108 => ⟨S2x512, .f32⟩
  | 109 => ⟨S_, .f32⟩
  | 110 => ⟨S2x512, .f32⟩
  | 111 => ⟨S2x512, .f32⟩
  | 112 => ⟨S2x512, .f32⟩
  | 113 => ⟨S_, .f32⟩
  | 114 => ⟨S2x512, .f32⟩
  | 115 => ⟨S2x512, .f32⟩
  | 116 => ⟨S2x512, .f32⟩
  | 117 => ⟨S_, .f32⟩
  | 118 => ⟨S2x512, .f32⟩
  | 119 => ⟨S2x512, .f32⟩
  | 120 => ⟨S2x512, .f32⟩
  | 121 => ⟨S_, .f32⟩
  | 122 => ⟨S2x512, .f32⟩
  | 123 => ⟨S2x512, .f32⟩
  | 124 => ⟨S_, .f32⟩
  | 125 => ⟨S2x512, .f32⟩
  | 126 => ⟨S2x512, .f32⟩
  | 127 => ⟨S2x512, .f32⟩
  | _ => ⟨S4x4x512, .f32⟩

abbrev hbmTy0_2 (i : Nat) : BufTy := match i % 128 with
  | 0 => ⟨S_, .f32⟩
  | 1 => ⟨S2x512, .f32⟩
  | 2 => ⟨S2x512, .f32⟩
  | 3 => ⟨S2x512, .f32⟩
  | 4 => ⟨S_, .f32⟩
  | 5 => ⟨S2x512, .f32⟩
  | 6 => ⟨S2x512, .f32⟩
  | 7 => ⟨S2x512, .f32⟩
  | 8 => ⟨S_, .f32⟩
  | 9 => ⟨S2x512, .f32⟩
  | 10 => ⟨S2x512, .f32⟩
  | 11 => ⟨S_, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S_, .f32⟩
  | 19 => ⟨S2x512, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S2x512, .f32⟩
  | 26 => ⟨S_, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S2x512, .f32⟩
  | 33 => ⟨S_, .f32⟩
  | 34 => ⟨S2x512, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S2x512, .f32⟩
  | 41 => ⟨S_, .f32⟩
  | 42 => ⟨S2x512, .f32⟩
  | 43 => ⟨S2x512, .f32⟩
  | 44 => ⟨S_, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S_, .f32⟩
  | 78 => ⟨S110080, .f32⟩
  | 79 => ⟨S8192, .f32⟩
  | 80 => ⟨S6144, .f32⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S512, .f32⟩
  | 88 => ⟨S20992, .f32⟩
  | 89 => ⟨S8192, .f32⟩
  | 90 => ⟨S6144, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S512, .f32⟩
  | 98 => ⟨S20992, .f32⟩
  | 99 => ⟨S8192, .f32⟩
  | 100 => ⟨S6144, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S512, .f32⟩
  | 108 => ⟨S20992, .f32⟩
  | 109 => ⟨S131072, .f32⟩
  | 110 => ⟨S1024x128, .f32⟩
  | 111 => ⟨S131072, .f32⟩
  | 112 => ⟨S1024x128, .f32⟩
  | 113 => ⟨S131072, .f32⟩
  | 114 => ⟨S1024x128, .f32⟩
  | _ => ⟨S4x4x512, .f32⟩

abbrev hbmTy (i : Nat) : BufTy := match i / 128 with
  | 0 => hbmTy0_0 i
  | 1 => hbmTy0_1 i
  | 2 => hbmTy0_2 i
  | _ => ⟨S4x4x512, .f32⟩

abbrev bufTy : (tb : Table) → Fin (tcTables nBuf tb) → BufTy
  | .hbm, ⟨i, _⟩ => hbmTy i
  | _, _ => ⟨S4x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩
abbrev main_cst_80 : Ref sig .tc := ⟨.hbm, 333, rfl⟩
abbrev main_v216 : Ref sig .tc := ⟨.hbm, 334, rfl⟩
abbrev main_v217 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_v242 : Ref sig .tc := ⟨.hbm, 360, rfl⟩
abbrev main_v243 : Ref sig .tc := ⟨.hbm, 361, rfl⟩
abbrev main_v244 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_v252 : Ref sig .tc := ⟨.hbm, 370, rfl⟩

abbrev nD : Nat := 1
abbrev τ : Topo := Topo.v7x

variable {F : FTy → Type} [FloatOps F]
-- ==== AdamRep.lean ====
abbrev S2048 : Shape := ⟨1, ![2048]⟩
abbrev S2x1024 : Shape := ⟨2, ![2, 1024]⟩
abbrev S2x8x128x128 : Shape := ⟨4, ![2, 8, 128, 128]⟩
abbrev S2x8x128 : Shape := ⟨3, ![2, 8, 128]⟩
abbrev S4x1024 : Shape := ⟨2, ![4, 1024]⟩
abbrev S2x32x64 : Shape := ⟨3, ![2, 32, 64]⟩
abbrev S262144 : Shape := ⟨1, ![262144]⟩
abbrev S4096 : Shape := ⟨1, ![4096]⟩
abbrev S278528 : Shape := ⟨1, ![278528]⟩
abbrev S_ : Shape := ⟨0, ![]⟩
abbrev S114688 : Shape := ⟨1, ![114688]⟩
abbrev S393216 : Shape := ⟨1, ![393216]⟩
abbrev S3072x128 : Shape := ⟨2, ![3072, 128]⟩
abbrev S1024x128 : Shape := ⟨2, ![1024, 128]⟩

abbrev nBuf : Space → Nat
  | .hbm => 75
  | .vmem => 14
  | .smem => 0
  | _ => 0

abbrev bufTy : (tb : Table) → Fin (tcTables nBuf tb) → BufTy
  | .hbm, ⟨0, _⟩ => ⟨S2048, .f32⟩
  | .hbm, ⟨1, _⟩ => ⟨S2x1024, .f32⟩
  | .hbm, ⟨2, _⟩ => ⟨S2x8x128x128, .f32⟩
  | .hbm, ⟨3, _⟩ => ⟨S2x8x128, .f32⟩
  | .hbm, ⟨4, _⟩ => ⟨S2x1024, .f32⟩
  | .hbm, ⟨5, _⟩ => ⟨S4x1024, .f32⟩
  | .hbm, ⟨6, _⟩ => ⟨S2x32x64, .f32⟩
  | .hbm, ⟨7, _⟩ => ⟨S2048, .f32⟩
  | .hbm, ⟨8, _⟩ => ⟨S2x1024, .f32⟩
  | .hbm, ⟨9, _⟩ => ⟨S2x8x128x128, .f32⟩
  | .hbm, ⟨10, _⟩ => ⟨S2x8x128, .f32⟩
  | .hbm, ⟨11, _⟩ => ⟨S2x1024, .f32⟩
  | .hbm, ⟨12, _⟩ => ⟨S4x1024, .f32⟩
  | .hbm, ⟨13, _⟩ => ⟨S2x32x64, .f32⟩
  | .hbm, ⟨14, _⟩ => ⟨S2048, .f32⟩
  | .hbm, ⟨15, _⟩ => ⟨S2x1024, .f32⟩
  | .hbm, ⟨16, _⟩ => ⟨S2x8x128x128, .f32⟩
  | .hbm, ⟨17, _⟩ => ⟨S2x8x128, .f32⟩
  | .hbm, ⟨18, _⟩ => ⟨S2x1024, .f32⟩
  | .hbm, ⟨19, _⟩ => ⟨S4x1024, .f32⟩
  | .hbm, ⟨20, _⟩ => ⟨S2x32x64, .f32⟩
  | .hbm, ⟨21, _⟩ => ⟨S2048, .f32⟩
  | .hbm, ⟨22, _⟩ => ⟨S2x1024, .f32⟩
  | .hbm, ⟨23, _⟩ => ⟨S2x8x128x128, .f32⟩
  | .hbm, ⟨24, _⟩ => ⟨S2x8x128, .f32⟩
  | .hbm, ⟨25, _⟩ => ⟨S2x1024, .f32⟩
  | .hbm, ⟨26, _⟩ => ⟨S4x1024, .f32⟩
  | .hbm, ⟨27, _⟩ => ⟨S2x32x64, .f32⟩
  | .hbm, ⟨28, _⟩ => ⟨S2048, .f32⟩
  | .hbm, ⟨29, _⟩ => ⟨S262144, .f32⟩
  | .hbm, ⟨30, _⟩ => ⟨S2048, .f32⟩
  | .hbm, ⟨31, _⟩ => ⟨S2048, .f32⟩
  | .hbm, ⟨32, _⟩ => ⟨S4096, .f32⟩
  | .hbm, ⟨33, _⟩ => ⟨S4096, .f32⟩
  | .hbm, ⟨34, _⟩ => ⟨S278528, .f32⟩
  | .hbm, ⟨35, _⟩ => ⟨S_, .f32⟩
  | .hbm, ⟨36, _⟩ => ⟨S114688, .f32⟩
  | .hbm, ⟨37, _⟩ => ⟨S393216, .f32⟩
  | .hbm, ⟨38, _⟩ => ⟨S3072x128, .f32⟩
  | .hbm, ⟨39, _⟩ => ⟨S2048, .f32⟩
  | .hbm, ⟨40, _⟩ => ⟨S262144, .f32⟩
  | .hbm, ⟨41, _⟩ => ⟨S2048, .f32⟩
  | .hbm, ⟨42, _⟩ => ⟨S2048, .f32⟩
  | .hbm, ⟨43, _⟩ => ⟨S4096, .f32⟩
  | .hbm, ⟨44, _⟩ => ⟨S4096, .f32⟩
  | .hbm, ⟨45, _⟩ => ⟨S278528, .f32⟩
  | .hbm, ⟨46, _⟩ => ⟨S_, .f32⟩
  | .hbm, ⟨47, _⟩ => ⟨S114688, .f32⟩
  | .hbm, ⟨48, _⟩ => ⟨S393216, .f32⟩
  | .hbm, ⟨49, _⟩ => ⟨S3072x128, .f32⟩
  | .hbm, ⟨50, _⟩ => ⟨S2048, .f32⟩
  | .hbm, ⟨51, _⟩ => ⟨S262144, .f32⟩
  | .hbm, ⟨52, _⟩ => ⟨S2048, .f32⟩
  | .hbm, ⟨53, _⟩ => ⟨S2048, .f32⟩
  | .hbm, ⟨54, _⟩ => ⟨S4096, .f32⟩
  | .hbm, ⟨55, _⟩ => ⟨S4096, .f32⟩
  | .hbm, ⟨56, _⟩ => ⟨S278528, .f32⟩
  | .hbm, ⟨57, _⟩ => ⟨S_, .f32⟩
  | .hbm, ⟨58, _⟩ => ⟨S114688, .f32⟩
  | .hbm, ⟨59, _⟩ => ⟨S393216, .f32⟩
  | .hbm, ⟨60, _⟩ => ⟨S3072x128, .f32⟩
  | .hbm, ⟨61, _⟩ => ⟨S2048, .f32⟩
  | .hbm, ⟨62, _⟩ => ⟨S262144, .f32⟩
  | .hbm, ⟨63, _⟩ => ⟨S2048, .f32⟩
  | .hbm, ⟨64, _⟩ => ⟨S2048, .f32⟩
  | .hbm, ⟨65, _⟩ => ⟨S4096, .f32⟩
  | .hbm, ⟨66, _⟩ => ⟨S4096, .f32⟩
  | .hbm, ⟨67, _⟩ => ⟨S278528, .f32⟩
  | .hbm, ⟨68, _⟩ => ⟨S_, .f32⟩
  | .hbm, ⟨69, _⟩ => ⟨S114688, .f32⟩
  | .hbm, ⟨70, _⟩ => ⟨S393216, .f32⟩
  | .hbm, ⟨71, _⟩ => ⟨S3072x128, .f32⟩
  | .hbm, ⟨72, _⟩ => ⟨S3072x128, .f32⟩
  | .hbm, ⟨73, _⟩ => ⟨S3072x128, .f32⟩
  | .hbm, ⟨74, _⟩ => ⟨S3072x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_1 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_2 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40_0 : Ref sig .tc := ⟨.hbm, 72, rfl⟩
abbrev main_v40_1 : Ref sig .tc := ⟨.hbm, 73, rfl⟩
abbrev main_v40_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRepRefIdeal.lean ====
abbrev S2048 : Shape := ⟨1, ![2048]⟩
abbrev S2x1024 : Shape := ⟨2, ![2, 1024]⟩
abbrev S2x8x128x128 : Shape := ⟨4, ![2, 8, 128, 128]⟩
abbrev S2x8x128 : Shape := ⟨3, ![2, 8, 128]⟩
abbrev S4x1024 : Shape := ⟨2, ![4, 1024]⟩
abbrev S2x32x64 : Shape := ⟨3, ![2, 32, 64]⟩
abbrev S_ : Shape := ⟨0, ![]⟩
abbrev S114688 : Shape := ⟨1, ![114688]⟩
abbrev S262144 : Shape := ⟨1, ![262144]⟩
abbrev S4096 : Shape := ⟨1, ![4096]⟩
abbrev S278528 : Shape := ⟨1, ![278528]⟩
abbrev S393216 : Shape := ⟨1, ![393216]⟩
abbrev S3072x128 : Shape := ⟨2, ![3072, 128]⟩

abbrev nBuf : Space → Nat
  | .hbm => 288
  | .vmem => 0
  | .smem => 0
  | _ => 0

abbrev hbmTy0_0 (i : Nat) : BufTy := match i % 128 with
  | 0 => ⟨S2048, .f32⟩
  | 1 => ⟨S2x1024, .f32⟩
  | 2 => ⟨S2x8x128x128, .f32⟩
  | 3 => ⟨S2x8x128, .f32⟩
  | 4 => ⟨S2x1024, .f32⟩
  | 5 => ⟨S4x1024, .f32⟩
  | 6 => ⟨S2x32x64, .f32⟩
  | 7 => ⟨S2048, .f32⟩
  | 8 => ⟨S2x1024, .f32⟩
  | 9 => ⟨S2x8x128x128, .f32⟩
  | 10 => ⟨S2x8x128, .f32⟩
  | 11 => ⟨S2x1024, .f32⟩
  | 12 => ⟨S4x1024, .f32⟩
  | 13 => ⟨S2x32x64, .f32⟩
  | 14 => ⟨S2048, .f32⟩
  | 15 => ⟨S2x1024, .f32⟩
  | 16 => ⟨S2x8x128x128, .f32⟩
  | 17 => ⟨S2x8x128, .f32⟩
  | 18 => ⟨S2x1024, .f32⟩
  | 19 => ⟨S4x1024, .f32⟩
  | 20 => ⟨S2x32x64, .f32⟩
  | 21 => ⟨S2048, .f32⟩
  | 22 => ⟨S2x1024, .f32⟩
  | 23 => ⟨S2x8x128x128, .f32⟩
  | 24 => ⟨S2x8x128, .f32⟩
  | 25 => ⟨S2x1024, .f32⟩
  | 26 => ⟨S4x1024, .f32⟩
  | 27 => ⟨S2x32x64, .f32⟩
  | 28 => ⟨S_, .f32⟩
  | 29 => ⟨S2048, .f32⟩
  | 30 => ⟨S2048, .f32⟩
  | 31 => ⟨S_, .f32⟩
  | 32 => ⟨S2048, .f32⟩
  | 33 => ⟨S2048, .f32⟩
  | 34 => ⟨S2048, .f32⟩
  | 35 => ⟨S_, .f32⟩
  | 36 => ⟨S2048, .f32⟩
  | 37 => ⟨S2048, .f32⟩
  | 38 => ⟨S2048, .f32⟩
  | 39 => ⟨S_, .f32⟩
  | 40 => ⟨S2048, .f32⟩
  | 41 => ⟨S2048, .f32⟩
  | 42 => ⟨S2048, .f32⟩
  | 43 => ⟨S_, .f32⟩
  | 44 => ⟨S2048, .f32⟩
  | 45 => ⟨S2048, .f32⟩
  | 46 => ⟨S_, .f32⟩
  | 47 => ⟨S2048, .f32⟩
  | 48 => ⟨S2048, .f32⟩
  | 49 => ⟨S2048, .f32⟩
  | 50 => ⟨S_, .f32⟩
  | 51 => ⟨S2048, .f32⟩
  | 52 => ⟨S2048, .f32⟩
  | 53 => ⟨S2048, .f32⟩
  | 54 => ⟨S_, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S_, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S2x1024, .f32⟩
  | 68 => ⟨S_, .f32⟩
  | 69 => ⟨S2x1024, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S_, .f32⟩
  | 80 => ⟨S2x1024, .f32⟩
  | 81 => ⟨S2x1024, .f32⟩
  | 82 => ⟨S2x1024, .f32⟩
  | 83 => ⟨S_, .f32⟩
  | 84 => ⟨S2x1024, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S_, .f32⟩
  | 95 => ⟨S2x8x128x128, .f32⟩
  | 96 => ⟨S2x8x128x128, .f32⟩
  | 97 => ⟨S_, .f32⟩
  | 98 => ⟨S2x8x128x128, .f32⟩
  | 99 => ⟨S2x8x128x128, .f32⟩
  | 100 => ⟨S2x8x128x128, .f32⟩
  | 101 => ⟨S_, .f32⟩
  | 102 => ⟨S2x8x128x128, .f32⟩
  | 103 => ⟨S2x8x128x128, .f32⟩
  | 104 => ⟨S2x8x128x128, .f32⟩
  | 105 => ⟨S_, .f32⟩
  | 106 => ⟨S2x8x128x128, .f32⟩
  | 107 => ⟨S2x8x128x128, .f32⟩
  | 108 => ⟨S2x8x128x128, .f32⟩
  | 109 => ⟨S_, .f32⟩
  | 110 => ⟨S2x8x128x128, .f32⟩
  | 111 => ⟨S2x8x128x128, .f32⟩
  | 112 => ⟨S_, .f32⟩
  | 113 => ⟨S2x8x128x128, .f32⟩
  | 114 => ⟨S2x8x128x128, .f32⟩
  | 115 => ⟨S2x8x128x128, .f32⟩
  | 116 => ⟨S_, .f32⟩
  | 117 => ⟨S2x8x128x128, .f32⟩
  | 118 => ⟨S2x8x128x128, .f32⟩
  | 119 => ⟨S2x8x128x128, .f32⟩
  | 120 => ⟨S_, .f32⟩
  | 121 => ⟨S2x8x128x128, .f32⟩
  | 122 => ⟨S2x8x128x128, .f32⟩
  | 123 => ⟨S2x8x128x128, .f32⟩
  | 124 => ⟨S_, .f32⟩
  | 125 => ⟨S2x8x128x128, .f32⟩
  | 126 => ⟨S2x8x128x128, .f32⟩
  | 127 => ⟨S_, .f32⟩
  | _ => ⟨S2048, .f32⟩

abbrev hbmTy0_1 (i : Nat) : BufTy := match i % 128 with
  | 0 => ⟨S2x8x128, .f32⟩
  | 1 => ⟨S2x8x128, .f32⟩
  | 2 => ⟨S_, .f32⟩
  | 3 => ⟨S2x8x128, .f32⟩
  | 4 => ⟨S2x8x128, .f32⟩
  | 5 => ⟨S2x8x128, .f32⟩
  | 6 => ⟨S_, .f32⟩
  | 7 => ⟨S2x8x128, .f32⟩
  | 8 => ⟨S2x8x128, .f32⟩
  | 9 => ⟨S2x8x128, .f32⟩
  | 10 => ⟨S_, .f32⟩
  | 11 => ⟨S2x8x128, .f32⟩
  | 12 => ⟨S2x8x128, .f32⟩
  | 13 => ⟨S2x8x128, .f32⟩
  | 14 => ⟨S_, .f32⟩
  | 15 => ⟨S2x8x128, .f32⟩
  | 16 => ⟨S2x8x128, .f32⟩
  | 17 => ⟨S_, .f32⟩
  | 18 => ⟨S2x8x128, .f32⟩
  | 19 => ⟨S2x8x128, .f32⟩
  | 20 => ⟨S2x8x128, .f32⟩
  | 21 => ⟨S_, .f32⟩
  | 22 => ⟨S2x8x128, .f32⟩
  | 23 => ⟨S2x8x128, .f32⟩
  | 24 => ⟨S2x8x128, .f32⟩
  | 25 => ⟨S_, .f32⟩
  | 26 => ⟨S2x8x128, .f32⟩
  | 27 => ⟨S2x8x128, .f32⟩
  | 28 => ⟨S2x8x128, .f32⟩
  | 29 => ⟨S_, .f32⟩
  | 30 => ⟨S2x8x128, .f32⟩
  | 31 => ⟨S2x8x128, .f32⟩
  | 32 => ⟨S_, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S_, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S_, .f32⟩
  | 99 => ⟨S2x32x64, .f32⟩
  | 100 => ⟨S2x32x64, .f32⟩
  | 101 => ⟨S_, .f32⟩
  | 102 => ⟨S2x32x64, .f32⟩
  | 103 => ⟨S2x32x64, .f32⟩
  | 104 => ⟨S2x32x64, .f32⟩
  | 105 => ⟨S_, .f32⟩
  | 106 => ⟨S2x32x64, .f32⟩
  | 107 => ⟨S2x32x64, .f32⟩
  | 108 => ⟨S2x32x64, .f32⟩
  | 109 => ⟨S_, .f32⟩
  | 110 => ⟨S2x32x64, .f32⟩
  | 111 => ⟨S2x32x64, .f32⟩
  | 112 => ⟨S2x32x64, .f32⟩
  | 113 => ⟨S_, .f32⟩
  | 114 => ⟨S2x32x64, .f32⟩
  | 115 => ⟨S2x32x64, .f32⟩
  | 116 => ⟨S_, .f32⟩
  | 117 => ⟨S2x32x64, .f32⟩
  | 118 => ⟨S2x32x64, .f32⟩
  | 119 => ⟨S2x32x64, .f32⟩
  | 120 => ⟨S_, .f32⟩
  | 121 => ⟨S2x32x64, .f32⟩
  | 122 => ⟨S2x32x64, .f32⟩
  | 123 => ⟨S2x32x64, .f32⟩
  | 124 => ⟨S_, .f32⟩
  | 125 => ⟨S2x32x64, .f32⟩
  | 126 => ⟨S2x32x64, .f32⟩
  | 127 => ⟨S2x32x64, .f32⟩
  | _ => ⟨S2048, .f32⟩

abbrev hbmTy0_2 (i : Nat) : BufTy := match i % 128 with
  | 0 => ⟨S_, .f32⟩
  | 1 => ⟨S2x32x64, .f32⟩
  | 2 => ⟨S2x32x64, .f32⟩
  | 3 => ⟨S_, .f32⟩
  | 4 => ⟨S114688, .f32⟩
  | 5 => ⟨S2048, .f32⟩
  | 6 => ⟨S262144, .f32⟩
  | 7 => ⟨S2048, .f32⟩
  | 8 => ⟨S2048, .f32⟩
  | 9 => ⟨S4096, .f32⟩
  | 10 => ⟨S4096, .f32⟩
  | 11 => ⟨S278528, .f32⟩
  | 12 => ⟨S2048, .f32⟩
  | 13 => ⟨S262144, .f32⟩
  | 14 => ⟨S2048, .f32⟩
  | 15 => ⟨S2048, .f32⟩
  | 16 => ⟨S4096, .f32⟩
  | 17 => ⟨S4096, .f32⟩
  | 18 => ⟨S278528, .f32⟩
  | 19 => ⟨S2048, .f32⟩
  | 20 => ⟨S262144, .f32⟩
  | 21 => ⟨S2048, .f32⟩
  | 22 => ⟨S2048, .f32⟩
  | 23 => ⟨S4096, .f32⟩
  | 24 => ⟨S4096, .f32⟩
  | 25 => ⟨S278528, .f32⟩
  | 26 => ⟨S393216, .f32⟩
  | 27 => ⟨S3072x128, .f32⟩
  | 28 => ⟨S393216, .f32⟩
  | 29 => ⟨S3072x128, .f32⟩
  | 30 => ⟨S393216, .f32⟩
  | 31 => ⟨S3072x128, .f32⟩
  | _ => ⟨S2048, .f32⟩

abbrev hbmTy (i : Nat) : BufTy := match i / 128 with
  | 0 => hbmTy0_0 i
  | 1 => hbmTy0_1 i
  | 2 => hbmTy0_2 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩
abbrev main_cst_62 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩

abbrev nD : Nat := 1
abbrev τ : Topo := Topo.v7x

variable {F : FTy → Type} [FloatOps F]
-- ==== SumSmall.lean ====
abbrev S8x4x4x512 : Shape := ⟨4, ![8, 4, 4, 512]⟩
abbrev S8x2x6x512 : Shape := ⟨4, ![8, 2, 6, 512]⟩
abbrev S8x2x512 : Shape := ⟨3, ![8, 2, 512]⟩
abbrev S8x1x512 : Shape := ⟨3, ![8, 1, 512]⟩
abbrev S8x8192 : Shape := ⟨2, ![8, 8192]⟩
abbrev S8x6144 : Shape := ⟨2, ![8, 6144]⟩
abbrev S8x1024 : Shape := ⟨2, ![8, 1024]⟩
abbrev S8x512 : Shape := ⟨2, ![8, 512]⟩
abbrev S8x20992 : Shape := ⟨2, ![8, 20992]⟩
abbrev S_ : Shape := ⟨0, ![]⟩
abbrev S8x110080 : Shape := ⟨2, ![8, 110080]⟩
abbrev S8x131072 : Shape := ⟨2, ![8, 131072]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 24
  | .vmem => 2
  | .smem => 0
  | _ => 0

abbrev bufTy : (tb : Table) → Fin (tcTables nBuf tb) → BufTy
  | .hbm, ⟨0, _⟩ => ⟨S8x4x4x512, .f32⟩
  | .hbm, ⟨1, _⟩ => ⟨S8x2x6x512, .f32⟩
  | .hbm, ⟨2, _⟩ => ⟨S8x2x512, .f32⟩
  | .hbm, ⟨3, _⟩ => ⟨S8x2x512, .f32⟩
  | .hbm, ⟨4, _⟩ => ⟨S8x2x512, .f32⟩
  | .hbm, ⟨5, _⟩ => ⟨S8x2x512, .f32⟩
  | .hbm, ⟨6, _⟩ => ⟨S8x2x512, .f32⟩
  | .hbm, ⟨7, _⟩ => ⟨S8x2x512, .f32⟩
  | .hbm, ⟨8, _⟩ => ⟨S8x1x512, .f32⟩
  | .hbm, ⟨9, _⟩ => ⟨S8x8192, .f32⟩
  | .hbm, ⟨10, _⟩ => ⟨S8x6144, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x512, .f32⟩
  | .hbm, ⟨18, _⟩ => ⟨S8x20992, .f32⟩
  | .hbm, ⟨19, _⟩ => ⟨S_, .f32⟩
  | .hbm, ⟨20, _⟩ => ⟨S8x110080, .f32⟩
  | .hbm, ⟨21, _⟩ => ⟨S8x131072, .f32⟩
  | .hbm, ⟨22, _⟩ => ⟨S8x1024x128, .f32⟩
  | .hbm, ⟨23, _⟩ => ⟨S1024x128, .f32⟩
  | .local _ .vmem, ⟨0, _⟩ => ⟨S8x1024x128, .f32⟩
  | .local _ .vmem, ⟨1, _⟩ => ⟨S1024x128, .f32⟩
  | _, _ => ⟨S8x4x4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallIdeal.lean ====
abbrev S8x4x4x512 : Shape := ⟨4, ![8, 4, 4, 512]⟩
abbrev S8x2x6x512 : Shape := ⟨4, ![8, 2, 6, 512]⟩
abbrev S8x2x512 : Shape := ⟨3, ![8, 2, 512]⟩
abbrev S8x1x512 : Shape := ⟨3, ![8, 1, 512]⟩
abbrev S8x8192 : Shape := ⟨2, ![8, 8192]⟩
abbrev S8x6144 : Shape := ⟨2, ![8, 6144]⟩
abbrev S8x1024 : Shape := ⟨2, ![8, 1024]⟩
abbrev S8x512 : Shape := ⟨2, ![8, 512]⟩
abbrev S8x20992 : Shape := ⟨2, ![8, 20992]⟩
abbrev S_ : Shape := ⟨0, ![]⟩
abbrev S8x110080 : Shape := ⟨2, ![8, 110080]⟩
abbrev S8x131072 : Shape := ⟨2, ![8, 131072]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 24
  | .vmem => 2
  | .smem => 0
  | _ => 0

abbrev bufTy : (tb : Table) → Fin (tcTables nBuf tb) → BufTy
  | .hbm, ⟨0, _⟩ => ⟨S8x4x4x512, .f32⟩
  | .hbm, ⟨1, _⟩ => ⟨S8x2x6x512, .f32⟩
  | .hbm, ⟨2, _⟩ => ⟨S8x2x512, .f32⟩
  | .hbm, ⟨3, _⟩ => ⟨S8x2x512, .f32⟩
  | .hbm, ⟨4, _⟩ => ⟨S8x2x512, .f32⟩
  | .hbm, ⟨5, _⟩ => ⟨S8x2x512, .f32⟩
  | .hbm, ⟨6, _⟩ => ⟨S8x2x512, .f32⟩
  | .hbm, ⟨7, _⟩ => ⟨S8x2x512, .f32⟩
  | .hbm, ⟨8, _⟩ => ⟨S8x1x512, .f32⟩
  | .hbm, ⟨9, _⟩ => ⟨S8x8192, .f32⟩
  | .hbm, ⟨10, _⟩ => ⟨S8x6144, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x512, .f32⟩
  | .hbm, ⟨18, _⟩ => ⟨S8x20992, .f32⟩
  | .hbm, ⟨19, _⟩ => ⟨S_, .f32⟩
  | .hbm, ⟨20, _⟩ => ⟨S8x110080, .f32⟩
  | .hbm, ⟨21, _⟩ => ⟨S8x131072, .f32⟩
  | .hbm, ⟨22, _⟩ => ⟨S8x1024x128, .f32⟩
  | .hbm, ⟨23, _⟩ => ⟨S1024x128, .f32⟩
  | .local _ .vmem, ⟨0, _⟩ => ⟨S8x1024x128, .f32⟩
  | .local _ .vmem, ⟨1, _⟩ => ⟨S1024x128, .f32⟩
  | _, _ => ⟨S8x4x4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x4x4x512 : Shape := ⟨4, ![8, 4, 4, 512]⟩
abbrev S8x2x6x512 : Shape := ⟨4, ![8, 2, 6, 512]⟩
abbrev S8x2x512 : Shape := ⟨3, ![8, 2, 512]⟩
abbrev S8x1x512 : Shape := ⟨3, ![8, 1, 512]⟩
abbrev S_ : Shape := ⟨0, ![]⟩
abbrev S4x4x512 : Shape := ⟨3, ![4, 4, 512]⟩
abbrev S8192 : Shape := ⟨1, ![8192]⟩
abbrev S2x6x512 : Shape := ⟨3, ![2, 6, 512]⟩
abbrev S6144 : Shape := ⟨1, ![6144]⟩
abbrev S2x512 : Shape := ⟨2, ![2, 512]⟩
abbrev S1024 : Shape := ⟨1, ![1024]⟩
abbrev S1x512 : Shape := ⟨2, ![1, 512]⟩
abbrev S512 : Shape := ⟨1, ![512]⟩
abbrev S20992 : Shape := ⟨1, ![20992]⟩
abbrev S110080 : Shape := ⟨1, ![110080]⟩
abbrev S131072 : Shape := ⟨1, ![131072]⟩
abbrev S1024x128 : Shape := ⟨2, ![1024, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x4x4x512, .f32⟩
  | .hbm, ⟨1, _⟩ => ⟨S8x2x6x512, .f32⟩
  | .hbm, ⟨2, _⟩ => ⟨S8x2x512, .f32⟩
  | .hbm, ⟨3, _⟩ => ⟨S8x2x512, .f32⟩
  | .hbm, ⟨4, _⟩ => ⟨S8x2x512, .f32⟩
  | .hbm, ⟨5, _⟩ => ⟨S8x2x512, .f32⟩
  | .hbm, ⟨6, _⟩ => ⟨S8x2x512, .f32⟩
  | .hbm, ⟨7, _⟩ => ⟨S8x2x512, .f32⟩
  | .hbm, ⟨8, _⟩ => ⟨S8x1x512, .f32⟩
  | .hbm, ⟨9, _⟩ => ⟨S_, .f32⟩
  | .hbm, ⟨10, _⟩ => ⟨S4x4x512, .f32⟩
  | .hbm, ⟨11, _⟩ => ⟨S8192, .f32⟩
  | .hbm, ⟨12, _⟩ => ⟨S_, .f32⟩
  | .hbm, ⟨13, _⟩ => ⟨S2x6x512, .f32⟩
  | .hbm, ⟨14, _⟩ => ⟨S6144, .f32⟩
  | .hbm, ⟨15, _⟩ => ⟨S_, .f32⟩
  | .hbm, ⟨16, _⟩ => ⟨S2x512, .f32⟩
  | .hbm, ⟨17, _⟩ => ⟨S1024, .f32⟩
  | .hbm, ⟨18, _⟩ => ⟨S_, .f32⟩
  | .hbm, ⟨19, _⟩ => ⟨S2x512, .f32⟩
  | .hbm, ⟨20, _⟩ => ⟨S1024, .f32⟩
  | .hbm, ⟨21, _⟩ => ⟨S_, .f32⟩
  | .hbm, ⟨22, _⟩ => ⟨S2x512, .f32⟩
  | .hbm, ⟨23, _⟩ => ⟨S1024, .f32⟩
  | .hbm, ⟨24, _⟩ => ⟨S_, .f32⟩
  | .hbm, ⟨25, _⟩ => ⟨S2x512, .f32⟩
  | .hbm, ⟨26, _⟩ => ⟨S1024, .f32⟩
  | .hbm, ⟨27, _⟩ => ⟨S_, .f32⟩
  | .hbm, ⟨28, _⟩ => ⟨S2x512, .f32⟩
  | .hbm, ⟨29, _⟩ => ⟨S1024, .f32⟩
  | .hbm, ⟨30, _⟩ => ⟨S_, .f32⟩
  | .hbm, ⟨31, _⟩ => ⟨S2x512, .f32⟩
  | .hbm, ⟨32, _⟩ => ⟨S1024, .f32⟩
  | .hbm, ⟨33, _⟩ => ⟨S_, .f32⟩
  | .hbm, ⟨34, _⟩ => ⟨S1x512, .f32⟩
  | .hbm, ⟨35, _⟩ => ⟨S512, .f32⟩
  | .hbm, ⟨36, _⟩ => ⟨S20992, .f32⟩
  | .hbm, ⟨37, _⟩ => ⟨S_, .f32⟩
  | .hbm, ⟨38, _⟩ => ⟨S110080, .f32⟩
  | .hbm, ⟨39, _⟩ => ⟨S131072, .f32⟩
  | .hbm, ⟨40, _⟩ => ⟨S1024x128, .f32⟩
  | _, _ => ⟨S8x4x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== SumRep.lean ====
abbrev S8x2048 : Shape := ⟨2, ![8, 2048]⟩
abbrev S8x2x1024 : Shape := ⟨3, ![8, 2, 1024]⟩
abbrev S8x2x8x128x128 : Shape := ⟨5, ![8, 2, 8, 128, 128]⟩
abbrev S8x2x8x128 : Shape := ⟨4, ![8, 2, 8, 128]⟩
abbrev S8x4x1024 : Shape := ⟨3, ![8, 4, 1024]⟩
abbrev S8x2x32x64 : Shape := ⟨4, ![8, 2, 32, 64]⟩
abbrev S8x262144 : Shape := ⟨2, ![8, 262144]⟩
abbrev S8x4096 : Shape := ⟨2, ![8, 4096]⟩
abbrev S8x278528 : Shape := ⟨2, ![8, 278528]⟩
abbrev S_ : Shape := ⟨0, ![]⟩
abbrev S8x114688 : Shape := ⟨2, ![8, 114688]⟩
abbrev S8x393216 : Shape := ⟨2, ![8, 393216]⟩
abbrev S8x3072x128 : Shape := ⟨3, ![8, 3072, 128]⟩
abbrev S3072x128 : Shape := ⟨2, ![3072, 128]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 19
  | .vmem => 4
  | .smem => 0
  | _ => 0

abbrev bufTy : (tb : Table) → Fin (tcTables nBuf tb) → BufTy
  | .hbm, ⟨0, _⟩ => ⟨S8x2048, .f32⟩
  | .hbm, ⟨1, _⟩ => ⟨S8x2x1024, .f32⟩
  | .hbm, ⟨2, _⟩ => ⟨S8x2x8x128x128, .f32⟩
  | .hbm, ⟨3, _⟩ => ⟨S8x2x8x128, .f32⟩
  | .hbm, ⟨4, _⟩ => ⟨S8x2x1024, .f32⟩
  | .hbm, ⟨5, _⟩ => ⟨S8x4x1024, .f32⟩
  | .hbm, ⟨6, _⟩ => ⟨S8x2x32x64, .f32⟩
  | .hbm, ⟨7, _⟩ => ⟨S8x2048, .f32⟩
  | .hbm, ⟨8, _⟩ => ⟨S8x262144, .f32⟩
  | .hbm, ⟨9, _⟩ => ⟨S8x2048, .f32⟩
  | .hbm, ⟨10, _⟩ => ⟨S8x2048, .f32⟩
  | .hbm, ⟨11, _⟩ => ⟨S8x4096, .f32⟩
  | .hbm, ⟨12, _⟩ => ⟨S8x4096, .f32⟩
  | .hbm, ⟨13, _⟩ => ⟨S8x278528, .f32⟩
  | .hbm, ⟨14, _⟩ => ⟨S_, .f32⟩
  | .hbm, ⟨15, _⟩ => ⟨S8x114688, .f32⟩
  | .hbm, ⟨16, _⟩ => ⟨S8x393216, .f32⟩
  | .hbm, ⟨17, _⟩ => ⟨S8x3072x128, .f32⟩
  | .hbm, ⟨18, _⟩ => ⟨S3072x128, .f32⟩
  | .local _ .vmem, ⟨0, _⟩ => ⟨S8x1024x128, .f32⟩
  | .local _ .vmem, ⟨1, _⟩ => ⟨S8x1024x128, .f32⟩
  | .local _ .vmem, ⟨2, _⟩ => ⟨S1024x128, .f32⟩
  | .local _ .vmem, ⟨3, _⟩ => ⟨S1024x128, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRepRefIdeal.lean ====
abbrev S8x2048 : Shape := ⟨2, ![8, 2048]⟩
abbrev S8x2x1024 : Shape := ⟨3, ![8, 2, 1024]⟩
abbrev S8x2x8x128x128 : Shape := ⟨5, ![8, 2, 8, 128, 128]⟩
abbrev S8x2x8x128 : Shape := ⟨4, ![8, 2, 8, 128]⟩
abbrev S8x4x1024 : Shape := ⟨3, ![8, 4, 1024]⟩
abbrev S8x2x32x64 : Shape := ⟨4, ![8, 2, 32, 64]⟩
abbrev S_ : Shape := ⟨0, ![]⟩
abbrev S2048 : Shape := ⟨1, ![2048]⟩
abbrev S2x1024 : Shape := ⟨2, ![2, 1024]⟩
abbrev S2x8x128x128 : Shape := ⟨4, ![2, 8, 128, 128]⟩
abbrev S262144 : Shape := ⟨1, ![262144]⟩
abbrev S2x8x128 : Shape := ⟨3, ![2, 8, 128]⟩
abbrev S4x1024 : Shape := ⟨2, ![4, 1024]⟩
abbrev S4096 : Shape := ⟨1, ![4096]⟩
abbrev S2x32x64 : Shape := ⟨3, ![2, 32, 64]⟩
abbrev S278528 : Shape := ⟨1, ![278528]⟩
abbrev S114688 : Shape := ⟨1, ![114688]⟩
abbrev S393216 : Shape := ⟨1, ![393216]⟩
abbrev S3072x128 : Shape := ⟨2, ![3072, 128]⟩

abbrev nBuf : Space → Nat
  | .hbm => 32
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2x1024, .f32⟩
  | .hbm, ⟨2, _⟩ => ⟨S8x2x8x128x128, .f32⟩
  | .hbm, ⟨3, _⟩ => ⟨S8x2x8x128, .f32⟩
  | .hbm, ⟨4, _⟩ => ⟨S8x2x1024, .f32⟩
  | .hbm, ⟨5, _⟩ => ⟨S8x4x1024, .f32⟩
  | .hbm, ⟨6, _⟩ => ⟨S8x2x32x64, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2x1024, .f32⟩
  | .hbm, ⟨11, _⟩ => ⟨S2048, .f32⟩
  | .hbm, ⟨12, _⟩ => ⟨S_, .f32⟩
  | .hbm, ⟨13, _⟩ => ⟨S2x8x128x128, .f32⟩
  | .hbm, ⟨14, _⟩ => ⟨S262144, .f32⟩
  | .hbm, ⟨15, _⟩ => ⟨S_, .f32⟩
  | .hbm, ⟨16, _⟩ => ⟨S2x8x128, .f32⟩
  | .hbm, ⟨17, _⟩ => ⟨S2048, .f32⟩
  | .hbm, ⟨18, _⟩ => ⟨S_, .f32⟩
  | .hbm, ⟨19, _⟩ => ⟨S2x1024, .f32⟩
  | .hbm, ⟨20, _⟩ => ⟨S2048, .f32⟩
  | .hbm, ⟨21, _⟩ => ⟨S_, .f32⟩
  | .hbm, ⟨22, _⟩ => ⟨S4x1024, .f32⟩
  | .hbm, ⟨23, _⟩ => ⟨S4096, .f32⟩
  | .hbm, ⟨24, _⟩ => ⟨S_, .f32⟩
  | .hbm, ⟨25, _⟩ => ⟨S2x32x64, .f32⟩
  | .hbm, ⟨26, _⟩ => ⟨S4096, .f32⟩
  | .hbm, ⟨27, _⟩ => ⟨S278528, .f32⟩
  | .hbm, ⟨28, _⟩ => ⟨S_, .f32⟩
  | .hbm, ⟨29, _⟩ => ⟨S114688, .f32⟩
  | .hbm, ⟨30, _⟩ => ⟨S393216, .f32⟩
  | .hbm, ⟨31, _⟩ => ⟨S3072x128, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]
-- ==== Loss.lean ====
abbrev S2048x2048 : Shape := ⟨2, ![2048, 2048]⟩
abbrev S2048 : Shape := ⟨1, ![2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S1x2048, .f32⟩
  | .local _ .vmem, ⟨8, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S1x2048, .f32⟩
  | .hbm, ⟨72, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== ChipsUp.lean ====
abbrev S4x1024x1408 : Shape := ⟨3, ![4, 1024, 1408]⟩
abbrev S1024x1408 : Shape := ⟨2, ![1024, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .bf16⟩
  | .hbm, ⟨1, _⟩ => ⟨S1024x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsUpIdeal.lean ====
abbrev S4x1024x1408 : Shape := ⟨3, ![4, 1024, 1408]⟩
abbrev S1024x1408 : Shape := ⟨2, ![1024, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .bf16⟩
  | .hbm, ⟨1, _⟩ => ⟨S1024x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsUpRefIdeal.lean ====
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .f32⟩
  | .hbm, ⟨2, _⟩ => ⟨S_, .f32⟩
  | .hbm, ⟨3, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsDown.lean ====
abbrev S4x704x2048 : Shape := ⟨3, ![4, 704, 2048]⟩
abbrev S704x2048 : Shape := ⟨2, ![704, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsDownIdeal.lean ====
abbrev S4x704x2048 : Shape := ⟨3, ![4, 704, 2048]⟩
abbrev S704x2048 : Shape := ⟨2, ![704, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsDownRefIdeal.lean ====
abbrev S4x704x2048 : Shape := ⟨3, ![4, 704, 2048]⟩
abbrev S_ : Shape := ⟨0, ![]⟩
abbrev S704x2048 : Shape := ⟨2, ![704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .f32⟩
  | .hbm, ⟨2, _⟩ => ⟨S_, .f32⟩
  | .hbm, ⟨3, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsRow.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x256x2048, .bf16⟩
  | .local _ .vmem, ⟨1, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsRowIdeal.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x256x2048, .bf16⟩
  | .local _ .vmem, ⟨1, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsRowRefIdeal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsProj.lean ====
abbrev S4x128x512 : Shape := ⟨3, ![4, 128, 512]⟩
abbrev S128x512 : Shape := ⟨2, ![128, 512]⟩
abbrev S1x128x512 : Shape := ⟨3, ![1, 128, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x128x512, .bf16⟩
  | .hbm, ⟨1, _⟩ => ⟨S128x512, .f32⟩
  | .local _ .vmem, ⟨0, _⟩ => ⟨S4x128x512, .bf16⟩
  | .local _ .vmem, ⟨1, _⟩ => ⟨S128x512, .f32⟩
  | _, _ => ⟨S4x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsProjIdeal.lean ====
abbrev S4x128x512 : Shape := ⟨3, ![4, 128, 512]⟩
abbrev S128x512 : Shape := ⟨2, ![128, 512]⟩
abbrev S1x128x512 : Shape := ⟨3, ![1, 128, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x128x512, .bf16⟩
  | .hbm, ⟨1, _⟩ => ⟨S128x512, .f32⟩
  | .local _ .vmem, ⟨0, _⟩ => ⟨S4x128x512, .bf16⟩
  | .local _ .vmem, ⟨1, _⟩ => ⟨S128x512, .f32⟩
  | _, _ => ⟨S4x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsProjRefIdeal.lean ====
abbrev S4x128x512 : Shape := ⟨3, ![4, 128, 512]⟩
abbrev S_ : Shape := ⟨0, ![]⟩
abbrev S128x512 : Shape := ⟨2, ![128, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x128x512, .bf16⟩
  | .hbm, ⟨1, _⟩ => ⟨S4x128x512, .f32⟩
  | .hbm, ⟨2, _⟩ => ⟨S_, .f32⟩
  | .hbm, ⟨3, _⟩ => ⟨S128x512, .f32⟩
  | _, _ => ⟨S4x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsEvenIn.lean ====
abbrev S4x1024x1536 : Shape := ⟨3, ![4, 1024, 1536]⟩
abbrev S1024x1536 : Shape := ⟨2, ![1024, 1536]⟩
abbrev S4x256x1536 : Shape := ⟨3, ![4, 256, 1536]⟩
abbrev S256x1536 : Shape := ⟨2, ![256, 1536]⟩
abbrev S1x256x1536 : Shape := ⟨3, ![1, 256, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1536, .bf16⟩
  | .hbm, ⟨1, _⟩ => ⟨S1024x1536, .f32⟩
  | .local _ .vmem, ⟨0, _⟩ => ⟨S4x256x1536, .bf16⟩
  | .local _ .vmem, ⟨1, _⟩ => ⟨S4x256x1536, .bf16⟩
  | .local _ .vmem, ⟨2, _⟩ => ⟨S256x1536, .f32⟩
  | .local _ .vmem, ⟨3, _⟩ => ⟨S256x1536, .f32⟩
  | _, _ => ⟨S4x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsEvenInIdeal.lean ====
abbrev S4x1024x1536 : Shape := ⟨3, ![4, 1024, 1536]⟩
abbrev S1024x1536 : Shape := ⟨2, ![1024, 1536]⟩
abbrev S4x256x1536 : Shape := ⟨3, ![4, 256, 1536]⟩
abbrev S256x1536 : Shape := ⟨2, ![256, 1536]⟩
abbrev S1x256x1536 : Shape := ⟨3, ![1, 256, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1536, .bf16⟩
  | .hbm, ⟨1, _⟩ => ⟨S1024x1536, .f32⟩
  | .local _ .vmem, ⟨0, _⟩ => ⟨S4x256x1536, .bf16⟩
  | .local _ .vmem, ⟨1, _⟩ => ⟨S4x256x1536, .bf16⟩
  | .local _ .vmem, ⟨2, _⟩ => ⟨S256x1536, .f32⟩
  | .local _ .vmem, ⟨3, _⟩ => ⟨S256x1536, .f32⟩
  | _, _ => ⟨S4x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsEvenInRefIdeal.lean ====
abbrev S4x1024x1536 : Shape := ⟨3, ![4, 1024, 1536]⟩
abbrev S_ : Shape := ⟨0, ![]⟩
abbrev S1024x1536 : Shape := ⟨2, ![1024, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1536, .bf16⟩
  | .hbm, ⟨1, _⟩ => ⟨S4x1024x1536, .f32⟩
  | .hbm, ⟨2, _⟩ => ⟨S_, .f32⟩
  | .hbm, ⟨3, _⟩ => ⟨S1024x1536, .f32⟩
  | _, _ => ⟨S4x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsLoraIn.lean ====
abbrev S4x256x96 : Shape := ⟨3, ![4, 256, 96]⟩
abbrev S256x96 : Shape := ⟨2, ![256, 96]⟩
abbrev S1x256x96 : Shape := ⟨3, ![1, 256, 96]⟩

abbrev nBuf : Space → Nat
  | .hbm => 2
  | .vmem => 2
  | .smem => 0
  | _ => 0

abbrev bufTy : (tb : Table) → Fin (tcTables nBuf tb) → BufTy
  | .hbm, ⟨0, _⟩ => ⟨S4x256x96, .bf16⟩
  | .hbm, ⟨1, _⟩ => ⟨S256x96, .f32⟩
  | .local _ .vmem, ⟨0, _⟩ => ⟨S4x256x96, .bf16⟩
  | .local _ .vmem, ⟨1, _⟩ => ⟨S256x96, .f32⟩
  | _, _ => ⟨S4x256x96, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsLoraInIdeal.lean ====
abbrev S4x256x96 : Shape := ⟨3, ![4, 256, 96]⟩
abbrev S256x96 : Shape := ⟨2, ![256, 96]⟩
abbrev S1x256x96 : Shape := ⟨3, ![1, 256, 96]⟩

abbrev nBuf : Space → Nat
  | .hbm => 2
  | .vmem => 2
  | .smem => 0
  | _ => 0

abbrev bufTy : (tb : Table) → Fin (tcTables nBuf tb) → BufTy
  | .hbm, ⟨0, _⟩ => ⟨S4x256x96, .bf16⟩
  | .hbm, ⟨1, _⟩ => ⟨S256x96, .f32⟩
  | .local _ .vmem, ⟨0, _⟩ => ⟨S4x256x96, .bf16⟩
  | .local _ .vmem, ⟨1, _⟩ => ⟨S256x96, .f32⟩
  | _, _ => ⟨S4x256x96, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsLoraInRefIdeal.lean ====
abbrev S4x256x96 : Shape := ⟨3, ![4, 256, 96]⟩
abbrev S_ : Shape := ⟨0, ![]⟩
abbrev S256x96 : Shape := ⟨2, ![256, 96]⟩

abbrev nBuf : Space → Nat
  | .hbm => 4
  | .vmem => 0
  | .smem => 0
  | _ => 0

abbrev bufTy : (tb : Table) → Fin (tcTables nBuf tb) → BufTy
  | .hbm, ⟨0, _⟩ => ⟨S4x256x96, .bf16⟩
  | .hbm, ⟨1, _⟩ => ⟨S4x256x96, .f32⟩
  | .hbm, ⟨2, _⟩ => ⟨S_, .f32⟩
  | .hbm, ⟨3, _⟩ => ⟨S256x96, .f32⟩
  | _, _ => ⟨S4x256x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsLoraOut.lean ====
abbrev S4x48x512 : Shape := ⟨3, ![4, 48, 512]⟩
abbrev S48x512 : Shape := ⟨2, ![48, 512]⟩
abbrev S4x16x512 : Shape := ⟨3, ![4, 16, 512]⟩
abbrev S16x512 : Shape := ⟨2, ![16, 512]⟩
abbrev S1x16x512 : Shape := ⟨3, ![1, 16, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x48x512, .bf16⟩
  | .hbm, ⟨1, _⟩ => ⟨S48x512, .f32⟩
  | .local _ .vmem, ⟨0, _⟩ => ⟨S4x16x512, .bf16⟩
  | .local _ .vmem, ⟨1, _⟩ => ⟨S4x16x512, .bf16⟩
  | .local _ .vmem, ⟨2, _⟩ => ⟨S16x512, .f32⟩
  | .local _ .vmem, ⟨3, _⟩ => ⟨S16x512, .f32⟩
  | _, _ => ⟨S4x48x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsLoraOutIdeal.lean ====
abbrev S4x48x512 : Shape := ⟨3, ![4, 48, 512]⟩
abbrev S48x512 : Shape := ⟨2, ![48, 512]⟩
abbrev S4x16x512 : Shape := ⟨3, ![4, 16, 512]⟩
abbrev S16x512 : Shape := ⟨2, ![16, 512]⟩
abbrev S1x16x512 : Shape := ⟨3, ![1, 16, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x48x512, .bf16⟩
  | .hbm, ⟨1, _⟩ => ⟨S48x512, .f32⟩
  | .local _ .vmem, ⟨0, _⟩ => ⟨S4x16x512, .bf16⟩
  | .local _ .vmem, ⟨1, _⟩ => ⟨S4x16x512, .bf16⟩
  | .local _ .vmem, ⟨2, _⟩ => ⟨S16x512, .f32⟩
  | .local _ .vmem, ⟨3, _⟩ => ⟨S16x512, .f32⟩
  | _, _ => ⟨S4x48x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipsLoraOutRefIdeal.lean ====
abbrev S4x48x512 : Shape := ⟨3, ![4, 48, 512]⟩
abbrev S_ : Shape := ⟨0, ![]⟩
abbrev S48x512 : Shape := ⟨2, ![48, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x48x512, .bf16⟩
  | .hbm, ⟨1, _⟩ => ⟨S4x48x512, .f32⟩
  | .hbm, ⟨2, _⟩ => ⟨S_, .f32⟩
  | .hbm, ⟨3, _⟩ => ⟨S48x512, .f32⟩
  | _, _ => ⟨S4x48x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsGateIn.lean ====
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x256x256, .bf16⟩
  | .hbm, ⟨1, _⟩ => ⟨S256x256, .f32⟩
  | .local _ .vmem, ⟨0, _⟩ => ⟨S4x256x256, .bf16⟩
  | .local _ .vmem, ⟨1, _⟩ => ⟨S256x256, .f32⟩
  | _, _ => ⟨S4x256x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsGateInIdeal.lean ====
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x256x256, .bf16⟩
  | .hbm, ⟨1, _⟩ => ⟨S256x256, .f32⟩
  | .local _ .vmem, ⟨0, _⟩ => ⟨S4x256x256, .bf16⟩
  | .local _ .vmem, ⟨1, _⟩ => ⟨S256x256, .f32⟩
  | _, _ => ⟨S4x256x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsGateInRefIdeal.lean ====
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x256x256, .bf16⟩
  | .hbm, ⟨1, _⟩ => ⟨S4x256x256, .f32⟩
  | .hbm, ⟨2, _⟩ => ⟨S_, .f32⟩
  | .hbm, ⟨3, _⟩ => ⟨S256x256, .f32⟩
  | _, _ => ⟨S4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsValIn.lean ====
abbrev S4x256x64 : Shape := ⟨3, ![4, 256, 64]⟩
abbrev S256x64 : Shape := ⟨2, ![256, 64]⟩
abbrev S1x256x64 : Shape := ⟨3, ![1, 256, 64]⟩

abbrev nBuf : Space → Nat
  | .hbm => 2
  | .vmem => 2
  | .smem => 0
  | _ => 0

abbrev bufTy : (tb : Table) → Fin (tcTables nBuf tb) → BufTy
  | .hbm, ⟨0, _⟩ => ⟨S4x256x64, .bf16⟩
  | .hbm, ⟨1, _⟩ => ⟨S256x64, .f32⟩
  | .local _ .vmem, ⟨0, _⟩ => ⟨S4x256x64, .bf16⟩
  | .local _ .vmem, ⟨1, _⟩ => ⟨S256x64, .f32⟩
  | _, _ => ⟨S4x256x64, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsValInIdeal.lean ====
abbrev S4x256x64 : Shape := ⟨3, ![4, 256, 64]⟩
abbrev S256x64 : Shape := ⟨2, ![256, 64]⟩
abbrev S1x256x64 : Shape := ⟨3, ![1, 256, 64]⟩

abbrev nBuf : Space → Nat
  | .hbm => 2
  | .vmem => 2
  | .smem => 0
  | _ => 0

abbrev bufTy : (tb : Table) → Fin (tcTables nBuf tb) → BufTy
  | .hbm, ⟨0, _⟩ => ⟨S4x256x64, .bf16⟩
  | .hbm, ⟨1, _⟩ => ⟨S256x64, .f32⟩
  | .local _ .vmem, ⟨0, _⟩ => ⟨S4x256x64, .bf16⟩
  | .local _ .vmem, ⟨1, _⟩ => ⟨S256x64, .f32⟩
  | _, _ => ⟨S4x256x64, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsValInRefIdeal.lean ====
abbrev S4x256x64 : Shape := ⟨3, ![4, 256, 64]⟩
abbrev S_ : Shape := ⟨0, ![]⟩
abbrev S256x64 : Shape := ⟨2, ![256, 64]⟩

abbrev nBuf : Space → Nat
  | .hbm => 4
  | .vmem => 0
  | .smem => 0
  | _ => 0

abbrev bufTy : (tb : Table) → Fin (tcTables nBuf tb) → BufTy
  | .hbm, ⟨0, _⟩ => ⟨S4x256x64, .bf16⟩
  | .hbm, ⟨1, _⟩ => ⟨S4x256x64, .f32⟩
  | .hbm, ⟨2, _⟩ => ⟨S_, .f32⟩
  | .hbm, ⟨3, _⟩ => ⟨S256x64, .f32⟩
  | _, _ => ⟨S4x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipsValOut.lean ====
abbrev S4x32x512 : Shape := ⟨3, ![4, 32, 512]⟩
abbrev S32x512 : Shape := ⟨2, ![32, 512]⟩
abbrev S1x32x512 : Shape := ⟨3, ![1, 32, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x32x512, .bf16⟩
  | .hbm, ⟨1, _⟩ => ⟨S32x512, .f32⟩
  | .local _ .vmem, ⟨0, _⟩ => ⟨S4x32x512, .bf16⟩
  | .local _ .vmem, ⟨1, _⟩ => ⟨S32x512, .f32⟩
  | _, _ => ⟨S4x32x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipsValOutRefIdeal.lean ====
abbrev S4x32x512 : Shape := ⟨3, ![4, 32, 512]⟩
abbrev S_ : Shape := ⟨0, ![]⟩
abbrev S32x512 : Shape := ⟨2, ![32, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x32x512, .bf16⟩
  | .hbm, ⟨1, _⟩ => ⟨S4x32x512, .f32⟩
  | .hbm, ⟨2, _⟩ => ⟨S_, .f32⟩
  | .hbm, ⟨3, _⟩ => ⟨S32x512, .f32⟩
  | _, _ => ⟨S4x32x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RmsFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GmlpFwd.lean ====
abbrev S2048x6144 : Shape := ⟨2, ![2048, 6144]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S2048x1024 : Shape := ⟨2, ![2048, 1024]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 7
  | .vmem => 9
  | .smem => 0
  | _ => 0

abbrev bufTy : (tb : Table) → Fin (tcTables nBuf tb) → BufTy
  | .hbm, ⟨0, _⟩ => ⟨S2048x6144, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1x1024, .f32⟩
  | .hbm, ⟨5, _⟩ => ⟨S128x8, .f32⟩
  | .hbm, ⟨6, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S8x128x128, .f32⟩
  | .local _ .vmem, ⟨6, _⟩ => ⟨S128x8, .f32⟩
  | .local _ .vmem, ⟨7, _⟩ => ⟨S128x1024, .bf16⟩
  | .local _ .vmem, ⟨8, _⟩ => ⟨S128x1024, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFwdIdeal.lean ====
variable {F : FTy → Type} [FloatOps F] [Named F]
def κ : String → Option EReal := fun
  | "cube" => some ((8943 / 200000 : ℝ) : EReal)
  | _ => none
-- ==== GmlpFwdRefIdeal.lean ====
abbrev S2048x6144 : Shape := ⟨2, ![2048, 6144]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S1x2048x1024 : Shape := ⟨3, ![1, 2048, 1024]⟩
abbrev S_ : Shape := ⟨0, ![]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S1x1x8x128 : Shape := ⟨4, ![1, 1, 8, 128]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩

abbrev nBuf : Space → Nat
  | .hbm => 93
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S2048x1024, .f32⟩
  | .hbm, ⟨5, _⟩ => ⟨S1x2048x1024, .f32⟩
  | .hbm, ⟨6, _⟩ => ⟨S2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S_, .f32⟩
  | .hbm, ⟨11, _⟩ => ⟨S1x2048x1024, .f32⟩
  | .hbm, ⟨12, _⟩ => ⟨S1x2048x1024, .f32⟩
  | .hbm, ⟨13, _⟩ => ⟨S_, .f32⟩
  | .hbm, ⟨14, _⟩ => ⟨S1x2048x1024, .f32⟩
  | .hbm, ⟨15, _⟩ => ⟨S1x2048x1024, .f32⟩
  | .hbm, ⟨16, _⟩ => ⟨S1x2048x1024, .f32⟩
  | .hbm, ⟨17, _⟩ => ⟨S_, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S_, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1x2048x1024, .f32⟩
  | .hbm, ⟨43, _⟩ => ⟨S1x2048x1024, .f32⟩
  | .hbm, ⟨44, _⟩ => ⟨S_, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S1x2048x8x128, .f32⟩
  | .hbm, ⟨49, _⟩ => ⟨S8x128, .f32⟩
  | .hbm, ⟨50, _⟩ => ⟨S1x2048x8x128, .f32⟩
  | .hbm, ⟨51, _⟩ => ⟨S_, .f32⟩
  | .hbm, ⟨52, _⟩ => ⟨S1x2048x8, .f32⟩
  | .hbm, ⟨53, _⟩ => ⟨S1x2048x8x1, .f32⟩
  | .hbm, ⟨54, _⟩ => ⟨S_, .f32⟩
  | .hbm, ⟨55, _⟩ => ⟨S1x2048x8x1, .f32⟩
  | .hbm, ⟨56, _⟩ => ⟨S1x2048x8x1, .f32⟩
  | .hbm, ⟨57, _⟩ => ⟨S_, .f32⟩
  | .hbm, ⟨58, _⟩ => ⟨S1x2048x8x1, .f32⟩
  | .hbm, ⟨59, _⟩ => ⟨S1x2048x8x1, .f32⟩
  | .hbm, ⟨60, _⟩ => ⟨S1x2048x8x1, .f32⟩
  | .hbm, ⟨61, _⟩ => ⟨S1x2048x8x128, .f32⟩
  | .hbm, ⟨62, _⟩ => ⟨S1x2048x8x128, .f32⟩
  | .hbm, ⟨63, _⟩ => ⟨S1x1x8x128, .f32⟩
  | .hbm, ⟨64, _⟩ => ⟨S1x2048x8x128, .f32⟩
  | .hbm, ⟨65, _⟩ => ⟨S1x2048x8x128, .f32⟩
  | .hbm, ⟨66, _⟩ => ⟨S1x16x128x8x128, .f32⟩
  | .hbm, ⟨67, _⟩ => ⟨S_, .i1⟩
  | .hbm, ⟨68, _⟩ => ⟨S128x128, .i1⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S_, .i1⟩
  | .hbm, ⟨76, _⟩ => ⟨S128x128, .i1⟩
  | .hbm, ⟨77, _⟩ => ⟨S128x128, .i1⟩
  | .hbm, ⟨78, _⟩ => ⟨S1x128x128, .i1⟩
  | .hbm, ⟨79, _⟩ => ⟨S_, .f32⟩
  | .hbm, ⟨80, _⟩ => ⟨S8x128x128, .f32⟩
  | .hbm, ⟨81, _⟩ => ⟨S8x128x128, .i1⟩
  | .hbm, ⟨82, _⟩ => ⟨S8x128x128, .f32⟩
  | .hbm, ⟨83, _⟩ => ⟨S8x1x16x128x128, .f32⟩
  | .hbm, ⟨84, _⟩ => ⟨S1x16x128x8x128, .f32⟩
  | .hbm, ⟨85, _⟩ => ⟨S128x8, .f32⟩
  | .hbm, ⟨86, _⟩ => ⟨S1x1x128x8x1, .f32⟩
  | .hbm, ⟨87, _⟩ => ⟨S1x16x128x8x128, .f32⟩
  | .hbm, ⟨88, _⟩ => ⟨S1x16x128x8x128, .f32⟩
  | .hbm, ⟨89, _⟩ => ⟨S1x2048x1024, .f32⟩
  | .hbm, ⟨90, _⟩ => ⟨S1x2048x1024, .f32⟩
  | .hbm, ⟨91, _⟩ => ⟨S2048x1024, .f32⟩
  | .hbm, ⟨92, _⟩ => ⟨S2048x1024, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c : Ref sig .tc := ⟨.hbm, 67, rfl⟩
abbrev main_v50 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_0 : Ref sig .tc := ⟨.hbm, 75, rfl⟩
abbrev main_call0_v5 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]
-- ==== PleAdd.lean ====
abbrev S2048x2048 : Shape := ⟨2, ![2048, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleAddRefIdeal.lean ====
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== PleBwd.lean ====
abbrev S2048x2048 : Shape := ⟨2, ![2048, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBwdRefIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== RmsFwd32.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwd32RefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== HgrnPre.lean ====
abbrev S2048x6144 : Shape := ⟨2, ![2048, 6144]⟩
abbrev S1024 : Shape := ⟨1, ![1024]⟩
abbrev S1x1024 : Shape := ⟨2, ![1, 1024]⟩
abbrev S2048x1024 : Shape := ⟨2, ![2048, 1024]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x6144, .f32⟩
  | .hbm, ⟨1, _⟩ => ⟨S1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HgrnPreRefIdeal.lean ====
abbrev S2048x6144 : Shape := ⟨2, ![2048, 6144]⟩
abbrev S1024 : Shape := ⟨1, ![1024]⟩
abbrev S2048x1024 : Shape := ⟨2, ![2048, 1024]⟩
abbrev S_ : Shape := ⟨0, ![]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== LoraAct.lean ====
abbrev S2048x96 : Shape := ⟨2, ![2048, 96]⟩
abbrev S2048x256 : Shape := ⟨2, ![2048, 256]⟩
abbrev S2048x64 : Shape := ⟨2, ![2048, 64]⟩
abbrev S512x96 : Shape := ⟨2, ![512, 96]⟩
abbrev S512x256 : Shape := ⟨2, ![512, 256]⟩
abbrev S512x64 : Shape := ⟨2, ![512, 64]⟩

abbrev nBuf : Space → Nat
  | .hbm => 8
  | .vmem => 16
  | .smem => 0
  | _ => 0

abbrev bufTy : (tb : Table) → Fin (tcTables nBuf tb) → BufTy
  | .hbm, ⟨0, _⟩ => ⟨S2048x96, .f32⟩
  | .hbm, ⟨1, _⟩ => ⟨S2048x96, .f32⟩
  | .hbm, ⟨2, _⟩ => ⟨S2048x256, .f32⟩
  | .hbm, ⟨3, _⟩ => ⟨S2048x64, .f32⟩
  | .hbm, ⟨4, _⟩ => ⟨S2048x96, .bf16⟩
  | .hbm, ⟨5, _⟩ => ⟨S2048x96, .bf16⟩
  | .hbm, ⟨6, _⟩ => ⟨S2048x256, .bf16⟩
  | .hbm, ⟨7, _⟩ => ⟨S2048x64, .bf16⟩
  | .local _ .vmem, ⟨0, _⟩ => ⟨S512x96, .f32⟩
  | .local _ .vmem, ⟨1, _⟩ => ⟨S512x96, .f32⟩
  | .local _ .vmem, ⟨2, _⟩ => ⟨S512x96, .f32⟩
  | .local _ .vmem, ⟨3, _⟩ => ⟨S512x96, .f32⟩
  | .local _ .vmem, ⟨4, _⟩ => ⟨S512x256, .f32⟩
  | .local _ .vmem, ⟨5, _⟩ => ⟨S512x256, .f32⟩
  | .local _ .vmem, ⟨6, _⟩ => ⟨S512x64, .f32⟩
  | .local _ .vmem, ⟨7, _⟩ => ⟨S512x64, .f32⟩
  | .local _ .vmem, ⟨8, _⟩ => ⟨S512x96, .bf16⟩
  | .local _ .vmem, ⟨9, _⟩ => ⟨S512x96, .bf16⟩
  | .local _ .vmem, ⟨10, _⟩ => ⟨S512x96, .bf16⟩
  | .local _ .vmem, ⟨11, _⟩ => ⟨S512x96, .bf16⟩
  | .local _ .vmem, ⟨12, _⟩ => ⟨S512x256, .bf16⟩
  | .local _ .vmem, ⟨13, _⟩ => ⟨S512x256, .bf16⟩
  | .local _ .vmem, ⟨14, _⟩ => ⟨S512x64, .bf16⟩
  | .local _ .vmem, ⟨15, _⟩ => ⟨S512x64, .bf16⟩
  | _, _ => ⟨S2048x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x96 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x96 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LoraActRefIdeal.lean ====
abbrev S2048x96 : Shape := ⟨2, ![2048, 96]⟩
abbrev S2048x256 : Shape := ⟨2, ![2048, 256]⟩
abbrev S2048x64 : Shape := ⟨2, ![2048, 64]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x96, .f32⟩
  | .hbm, ⟨1, _⟩ => ⟨S2048x96, .f32⟩
  | .hbm, ⟨2, _⟩ => ⟨S2048x256, .f32⟩
  | .hbm, ⟨3, _⟩ => ⟨S2048x64, .f32⟩
  | .hbm, ⟨4, _⟩ => ⟨S2048x96, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S_, .f32⟩
  | .hbm, ⟨11, _⟩ => ⟨S2048x256, .f32⟩
  | .hbm, ⟨12, _⟩ => ⟨S2048x256, .f32⟩
  | .hbm, ⟨13, _⟩ => ⟨S2048x96, .bf16⟩
  | .hbm, ⟨14, _⟩ => ⟨S2048x96, .bf16⟩
  | .hbm, ⟨15, _⟩ => ⟨S2048x256, .bf16⟩
  | .hbm, ⟨16, _⟩ => ⟨S2048x64, .bf16⟩
  | _, _ => ⟨S2048x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== LoraBwd.lean ====
abbrev S2048x96 : Shape := ⟨2, ![2048, 96]⟩
abbrev S2048x256 : Shape := ⟨2, ![2048, 256]⟩
abbrev S2048x64 : Shape := ⟨2, ![2048, 64]⟩
abbrev S_ : Shape := ⟨0, ![]⟩
abbrev S512x96 : Shape := ⟨2, ![512, 96]⟩
abbrev S512x256 : Shape := ⟨2, ![512, 256]⟩
abbrev S512x64 : Shape := ⟨2, ![512, 64]⟩

abbrev nBuf : Space → Nat
  | .hbm => 21
  | .vmem => 20
  | .smem => 0
  | _ => 0

abbrev bufTy : (tb : Table) → Fin (tcTables nBuf tb) → BufTy
  | .hbm, ⟨0, _⟩ => ⟨S2048x96, .f32⟩
  | .hbm, ⟨1, _⟩ => ⟨S2048x96, .f32⟩
  | .hbm, ⟨2, _⟩ => ⟨S2048x96, .f32⟩
  | .hbm, ⟨3, _⟩ => ⟨S2048x256, .f32⟩
  | .hbm, ⟨4, _⟩ => ⟨S2048x256, .f32⟩
  | .hbm, ⟨5, _⟩ => ⟨S2048x64, .f32⟩
  | .hbm, ⟨6, _⟩ => ⟨S2048x96, .f32⟩
  | .hbm, ⟨7, _⟩ => ⟨S2048x96, .bf16⟩
  | .hbm, ⟨8, _⟩ => ⟨S2048x256, .f32⟩
  | .hbm, ⟨9, _⟩ => ⟨S2048x256, .f32⟩
  | .hbm, ⟨10, _⟩ => ⟨S_, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048x256, .f32⟩
  | .hbm, ⟨15, _⟩ => ⟨S2048x256, .f32⟩
  | .hbm, ⟨16, _⟩ => ⟨S2048x256, .bf16⟩
  | .hbm, ⟨17, _⟩ => ⟨S2048x96, .bf16⟩
  | .hbm, ⟨18, _⟩ => ⟨S2048x96, .bf16⟩
  | .hbm, ⟨19, _⟩ => ⟨S2048x256, .bf16⟩
  | .hbm, ⟨20, _⟩ => ⟨S2048x64, .bf16⟩
  | .local _ .vmem, ⟨0, _⟩ => ⟨S512x96, .f32⟩
  | .local _ .vmem, ⟨1, _⟩ => ⟨S512x96, .f32⟩
  | .local _ .vmem, ⟨2, _⟩ => ⟨S512x96, .bf16⟩
  | .local _ .vmem, ⟨3, _⟩ => ⟨S512x96, .bf16⟩
  | .local _ .vmem, ⟨4, _⟩ => ⟨S512x96, .f32⟩
  | .local _ .vmem, ⟨5, _⟩ => ⟨S512x96, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x64, .f32⟩
  | .local _ .vmem, ⟨11, _⟩ => ⟨S512x64, .f32⟩
  | .local _ .vmem, ⟨12, _⟩ => ⟨S512x96, .bf16⟩
  | .local _ .vmem, ⟨13, _⟩ => ⟨S512x96, .bf16⟩
  | .local _ .vmem, ⟨14, _⟩ => ⟨S512x96, .bf16⟩
  | .local _ .vmem, ⟨15, _⟩ => ⟨S512x96, .bf16⟩
  | .local _ .vmem, ⟨16, _⟩ => ⟨S512x256, .bf16⟩
  | .local _ .vmem, ⟨17, _⟩ => ⟨S512x256, .bf16⟩
  | .local _ .vmem, ⟨18, _⟩ => ⟨S512x64, .bf16⟩
  | .local _ .vmem, ⟨19, _⟩ => ⟨S512x64, .bf16⟩
  | _, _ => ⟨S2048x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x96 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LoraBwdRefIdeal.lean ====
abbrev S2048x96 : Shape := ⟨2, ![2048, 96]⟩
abbrev S2048x256 : Shape := ⟨2, ![2048, 256]⟩
abbrev S2048x64 : Shape := ⟨2, ![2048, 64]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x96, .f32⟩
  | .hbm, ⟨1, _⟩ => ⟨S2048x96, .f32⟩
  | .hbm, ⟨2, _⟩ => ⟨S2048x96, .f32⟩
  | .hbm, ⟨3, _⟩ => ⟨S2048x256, .f32⟩
  | .hbm, ⟨4, _⟩ => ⟨S2048x256, .f32⟩
  | .hbm, ⟨5, _⟩ => ⟨S2048x64, .f32⟩
  | .hbm, ⟨6, _⟩ => ⟨S2048x96, .f32⟩
  | .hbm, ⟨7, _⟩ => ⟨S_, .f32⟩
  | .hbm, ⟨8, _⟩ => ⟨S2048x96, .f32⟩
  | .hbm, ⟨9, _⟩ => ⟨S2048x96, .f32⟩
  | .hbm, ⟨10, _⟩ => ⟨S_, .f32⟩
  | .hbm, ⟨11, _⟩ => ⟨S2048x96, .f32⟩
  | .hbm, ⟨12, _⟩ => ⟨S2048x96, .f32⟩
  | .hbm, ⟨13, _⟩ => ⟨S2048x96, .f32⟩
  | .hbm, ⟨14, _⟩ => ⟨S2048x96, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x96, .bf16⟩
  | .hbm, ⟨29, _⟩ => ⟨S2048x96, .bf16⟩
  | .hbm, ⟨30, _⟩ => ⟨S2048x256, .bf16⟩
  | .hbm, ⟨31, _⟩ => ⟨S2048x64, .bf16⟩
  | _, _ => ⟨S2048x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.Consts.lean ====
/-
  Facts about extended reals that the value proofs share: the number one half, and a nonnegative finite factor moved
  through a finite sum.
-/
module

public import Idealize.ShloMosaic.Lib.Pointwise
public import Idealize.ShloMosaic.PureOps.Ideal.Laws

@[expose] public section

noncomputable section

open Idealize.ShloMosaic
open scoped BigOperators

namespace Cert.Facts

/-- The word the programs write for one half reads as the real number one half. -/
theorem half_word : Ideal.ofBits .f32 0x3F000000#32 = ((1 / 2 : ℝ) : EReal) := by
  simp [Ideal.ofBits, Ideal.ieee, -EReal.coe_mul]; norm_num

/-- A nonnegative real factor distributes over a finite sum of extended reals, whatever their signs. -/
theorem real_mul_sum {ι : Type} (s : Finset ι) (f : ι → EReal) (a : ℝ) (ha : 0 ≤ a) :
    (a : EReal) * ∑ k ∈ s, f k = ∑ k ∈ s, (a : EReal) * f k := by
  classical
  induction s using Finset.induction_on with
  | empty => simp
  | insert k s hk ih =>
    rw [Finset.sum_insert hk, Finset.sum_insert hk,
      EReal.left_distrib_of_nonneg_of_ne_top (EReal.coe_nonneg.2 ha) (EReal.coe_ne_top a), ih]

/-- Scaling a sum of products by one half on the right is scaling the left factors. -/
theorem half_sum {ι : Type} (s : Finset ι) (f g : ι → EReal) :
    (∑ k ∈ s, f k * g k) * Ideal.ofBits .f32 0x3F000000#32 = ∑ k ∈ s, (Ideal.ofBits .f32 0x3F000000#32 * f k) * g k := by
  rw [half_word, mul_comm, real_mul_sum s _ _ (by norm_num)]
  exact Finset.sum_congr rfl fun k _ => (mul_assoc _ _ _).symm

/-- Scaling a sum of products by one half is scaling the right factors, written first. -/
theorem sum_half {ι : Type} (s : Finset ι) (f g : ι → EReal) :
    (∑ k ∈ s, f k * g k) * Ideal.ofBits .f32 0x3F000000#32 = ∑ k ∈ s, Ideal.ofBits .f32 0x3F000000#32 * g k * f k := by
  rw [half_word, mul_comm, real_mul_sum s _ _ (by norm_num)]
  exact Finset.sum_congr rfl fun k _ => by rw [mul_comm (f k), mul_assoc]

end Cert.Facts
-- ==== Proof.DactVal.lean ====
/-
  The gradient of the half-weight down product with respect to the activations: the tiled product computes `0.5 · dh · wdᵀ`.
-/
module

public import proofs.«01_k».proof.Defs
public import proofs.«01_k».proof.Proof.Gen.DactIdeal.Value
public import proofs.«01_k».proof.Proof.Gen.DactRefIdeal.Read
public import proofs.«01_k».proof.Proof.Consts
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DactIdeal.Val

open Cert.DactIdeal Cert.DactIdeal.Gen

variable (m : (ℓ : Loc nD τ sig) → Buf (Elt Ideal) ℓ)

theorem hz2 : (![0, 0] : Fin 2 → Nat) = fun _ => 0 := funext fun a => by fin_cases a <;> rfl
theorem hz5 : (![0, 0, 0, 0, 0] : Fin 5 → Nat) = fun _ => 0 := funext fun a => by fin_cases a <;> rfl

theorem idx0 : ∀ t : Fin cfg0.N, win0_0.index t 0 = t.val % 2 ∧ win0_0.index t 1 = 0 :=
  (by decide +kernel : ∀ t : Fin grid0.N, win0_0.index t 0 = t.val % 2 ∧ win0_0.index t 1 = 0)
theorem idx1 : ∀ t : Fin cfg0.N, win0_1.index t 0 = t.val / 2 ∧ win0_1.index t 1 = 0 ∧ win0_1.index t 2 = 0 ∧ win0_1.index t 3 = 0
    ∧ win0_1.index t 4 = 0 :=
  (by decide +kernel : ∀ t : Fin grid0.N, win0_1.index t 0 = t.val / 2 ∧ win0_1.index t 1 = 0 ∧ win0_1.index t 2 = 0 ∧ win0_1.index t 3 = 0
    ∧ win0_1.index t 4 = 0)
theorem idx2 : ∀ t : Fin cfg0.N, win0_2.index t 0 = t.val % 2 ∧ win0_2.index t 1 = t.val / 2 :=
  (by decide +kernel : ∀ t : Fin grid0.N, win0_2.index t 0 = t.val % 2 ∧ win0_2.index t 1 = t.val / 2)

/-- The array the region's first window stages: the gradient as launched. -/
theorem V_v0 (c : Dev nD) (i : S2048x2048.Idx) : V m c main_v0 i = m ((c : Thread nD τ).loc main_arg0) i := by
  unfold V
  after_reads_at

/-- The array the second window stages: the weight cut into four row groups. -/
theorem V_v3 (c : Dev nD) (a : Fin 4) (k : Fin 1408) (l : Fin 2048) :
    V m c main_v3 (ix5 a (0 : Fin 4) (0 : Fin 2) k l)
      = m ((c : Thread nD τ).loc main_arg1) (ix4 (0 : Fin 4) (0 : Fin 2) (⟨a.val * 1408 + k.val, by omega⟩ : Fin 5632) l) := by
  unfold V
  after_reads_at

/-- The body's result at an index: half the row-by-row product. -/
theorem pay (x0 : Vec Ideal S1024x2048 .bf16) (x1 : Vec Ideal S1x1x1x1408x2048 .bf16) (r : Fin 1024) (l : Fin 1408) :
    k0_pay1 x0 x1 (ix2 r l) = (∑ x : Fin 2048, x0 (ix2 r x) * x1 (ix5 0 0 0 l x)) * Ideal.ofBits FTy.f32 1056964608#32 := by
  pointwise [k0_pay1]

/-- The gradient's block at a grid point, read at an index. -/
theorem blk0 (c : Dev nD) (t : Fin cfg0.N) (r : Fin 1024) (x : Fin 2048) :
    iblk m c 0 t (ix2 r x) = m ((c : Thread nD τ).loc main_arg0) (ix2 (⟨t.val % 2 * 1024 + r.val, by omega⟩ : Fin 2048) x) := by
  rw [← V_v0 m c]
  unfold iblk
  rw [View.read_apply]
  refine congrArg (V m c main_v0) (funext fun a => Fin.ext ?_)
  have h := idx0 t
  match a with
  | ⟨0, _⟩ => show win0_0.index t 0 * 1024 + 1 * r.val = t.val % 2 * 1024 + r.val; rw [h.1]; omega
  | ⟨1, _⟩ => show win0_0.index t 1 * 2048 + 1 * x.val = x.val; rw [h.2]; omega

/-- The weight's block at a grid point, read at an index. -/
theorem blk1 (c : Dev nD) (t : Fin cfg0.N) (l : Fin 1408) (x : Fin 2048) :
    iblk m c 1 t (ix5 0 0 0 l x) = m ((c : Thread nD τ).loc main_arg1) (ix4 (0 : Fin 4) (0 : Fin 2)
      (⟨t.val / 2 * 1408 + l.val, by have := t.isLt; have : cfg0.N = 8 := N_0; omega⟩ : Fin 5632) x) := by
  have hN : t.val / 2 < 4 := by have := t.isLt; have : cfg0.N = 8 := N_0; omega
  rw [← V_v3 m c ⟨t.val / 2, hN⟩ l x]
  unfold iblk
  rw [View.read_apply]
  refine congrArg (V m c main_v3) (funext fun a => Fin.ext ?_)
  have h := idx1 t
  match a with
  | ⟨0, _⟩ => show win0_1.index t 0 * 1 + 1 * 0 = t.val / 2; rw [h.1]; omega
  | ⟨1, _⟩ => show win0_1.index t 1 * 1 + 1 * 0 = 0; rw [h.2.1]
  | ⟨2, _⟩ => show win0_1.index t 2 * 1 + 1 * 0 = 0; rw [h.2.2.1]
  | ⟨3, _⟩ => show win0_1.index t 3 * 1408 + 1 * l.val = l.val; rw [h.2.2.2.1]; omega
  | ⟨4, _⟩ => show win0_1.index t 4 * 2048 + 1 * x.val = x.val; rw [h.2.2.2.2]; omega

/-- The reference's result at an index. -/
theorem ref (x0 : Vec Ideal S2048x2048 .f32) (x1 : Vec Ideal S4x2x5632x2048 .f32) (r : Fin 2048) (l : Fin 5632) :
    Cert.DactRefIdeal.Read.val_main_v9 (F := Ideal) x0 x1 (ix2 r l)
      = ∑ x : Fin 2048, (Ideal.ofBits FTy.f32 1056964608#32 * x0 (ix2 r x)) * x1 (ix4 (0 : Fin 4) (0 : Fin 2) l x) := by
  rw [← Cert.DactRefIdeal.Read.val_main_v9_eq]
  pointwise

/-- The reference's result on a device's two arguments. -/
abbrev goal (c : Dev nD) : Buf (Elt Ideal) ((c : Thread nD τ).loc main_v4) :=
  Cert.DactRefIdeal.Read.val_main_v9 (F := Ideal) (m ((c : Thread nD τ).loc main_arg0)) (m ((c : Thread nD τ).loc main_arg1))

/-- What a grid point writes back is its block of the reference's result. -/
theorem flushed_eq (c : Dev nD) (t : Fin cfg0.N) :
    (dats m 0 c).flushed 2 t = ((cfg0.win 2).blk t).view.read (Elt Ideal) (goal m c) := by
  rw [Value.flushed2]
  unfold out0_2
  rw [View.canon_unit_zero hz2, View.ld_unit_zero hz2, View.ld_unit_zero hz5]
  funext j
  obtain ⟨r, l, rfl⟩ : ∃ (r : Fin 1024) (l : Fin 1408), j = ix2 r l := ⟨j 0, j 1, by idx_ext⟩
  show k0_pay1 _ _ (ix2 r l) = _
  have ht : t.val < 8 := by have := t.isLt; have : cfg0.N = 8 := N_0; omega
  rw [pay, View.read_apply]
  have e : ((cfg0.win 2).blk t).view.emb (ix2 r l) = ix2 (⟨t.val % 2 * 1024 + r.val, by omega⟩ : Fin 2048) (⟨t.val / 2 * 1408 + l.val, by omega⟩ : Fin 5632) := by
    refine funext fun a => Fin.ext ?_
    have h := idx2 t
    match a with
    | ⟨0, _⟩ => show win0_2.index t 0 * 1024 + 1 * r.val = t.val % 2 * 1024 + r.val; rw [h.1]; omega
    | ⟨1, _⟩ => show win0_2.index t 1 * 1408 + 1 * l.val = t.val / 2 * 1408 + l.val; rw [h.2]; omega
  rw [e]
  refine Eq.trans ?_ (ref _ _ _ _).symm
  rw [Cert.Facts.half_sum]
  refine Finset.sum_congr rfl fun x _ => ?_
  rw [blk0, blk1]

/-- The result's blocks tile its array. -/
theorem cover (i : S2048x5632.Idx) :
    ∃ t : Fin cfg0.N, (cfg0.win 2).flush t = true ∧ i ∈ ((cfg0.win 2).blk t).view.set := by
  have h0 : (i 0 : Nat) < 2048 := (i 0).isLt
  have h1 : (i 1 : Nat) < 5632 := (i 1).isLt
  have hN : cfg0.N = 8 := N_0
  obtain ⟨t, ht⟩ : ∃ t : Fin cfg0.N, t.val = (i 1 : Nat) / 1408 * 2 + (i 0 : Nat) / 1024 := ⟨⟨_, by omega⟩, rfl⟩
  refine ⟨t, flush0_2 _, ?_⟩
  show i ∈ ((View.whole main_v4).slice (win0_2.rect t)).set
  rw [View.set_slice_whole, Rect.mem_set_unit]
  have h := idx2 t
  intro a
  match a with
  | ⟨0, _⟩ =>
    show win0_2.index t 0 * 1024 ≤ (i 0 : Nat) ∧ (i 0 : Nat) < win0_2.index t 0 * 1024 + 1024
    rw [h.1]; omega
  | ⟨1, _⟩ =>
    show win0_2.index t 1 * 1408 ≤ (i 1 : Nat) ∧ (i 1 : Nat) < win0_2.index t 1 * 1408 + 1408
    rw [h.2]; omega

/-- After the region the result array holds the reference's result. -/
theorem final (c : Dev nD) : (dats m 0 c).arrAt 2 cfg0.N = goal m c :=
  (dats m 0 c).arrAt_eq_of_cover 2 (goal m c) (fun t _ => flushed_eq m c t) cover

end Cert.DactIdeal.Val

namespace Cert.Claims

/-- The gradient product and its reference end with equal results. -/
theorem dact : Cert.algebraic_DactIdeal_DactRefIdeal (hDactIdeal := Cert.DactIdeal.Gen.facts)
    (hDactRefIdeal := Cert.DactRefIdeal.Gen.facts) := by
  intro m g m' g' _ hargs
  refine ⟨fun c => Cert.DactIdeal.Val.goal m c,
    (θ_run _ _ _).mono (fun r h c => ⟨(h c).1.trans (Cert.DactIdeal.Val.final m c), (h c).2⟩) (Cert.DactIdeal.Value.run_blocks m g),
    (θ_run _ _ _).mono (fun r h c => ⟨(h c).1.trans ?_, (h c).2⟩) (Cert.DactRefIdeal.Value.run m' g')⟩
  rw [(hargs c).1, (hargs c).2]
  exact Cert.DactRefIdeal.Read.val_main_v9_eq _ _

end Cert.Claims
-- ==== Proof.Finite.lean ====
/-
  From the preconditions to real numbers: an extended real whose absolute value is below the infinity is a real, and an
  array that passes the printed test is an array of reals.
-/
module

public import Idealize.ShloMosaic.Lib.Pointwise
public import Idealize.ShloMosaic.Lib.ReduceAll
public import Idealize.ShloMosaic.Lib.IdealHost
public import Idealize.ShloMosaic.PureOps.Ideal.Laws

@[expose] public section

noncomputable section

open Idealize.ShloMosaic

namespace Cert.Facts

/-- The word of the infinity. -/
theorem inf_word : Ideal.ofBits .f32 0x7F800000#32 = ⊤ := by
  simp [Ideal.ofBits, Ideal.ieee]

/-- An extended real whose absolute value compares below the infinity is a real. -/
theorem real_of_lt (x : EReal) (h : Ideal.cmp .olt (max x (-x)) (Ideal.ofBits .f32 0x7F800000#32) = 1#1) :
    ∃ a : ℝ, x = (a : EReal) := by
  rw [inf_word] at h
  induction x with
  | bot => simp [Ideal.cmp] at h
  | top => simp [Ideal.cmp] at h
  | coe a => exact ⟨a, rfl⟩

/-- A one-bit conjunction that is one has both parts one. -/
theorem andi_one {s : Shape} (x y : IVec s 1) (i : s.Idx) (h : andi x y i = 1#1) : x i = 1#1 ∧ y i = 1#1 :=
  IntOp.andi_eq_one.1 h

/-- Exponential of the negation, at a real. -/
theorem sig_real (a : ℝ) : Ideal.div 1 (1 + Ideal.exp (-(a : EReal))) = (((1 + Real.exp (-a))⁻¹ : ℝ) : EReal) :=
  Ideal.logistic_coe a

/-- A finite sum of reals, as extended reals. -/
theorem coe_sum {ι : Type} (s : Finset ι) (f : ι → ℝ) : ∑ k ∈ s, (f k : EReal) = ((∑ k ∈ s, f k : ℝ) : EReal) := by
  classical
  induction s using Finset.induction_on with
  | empty => simp
  | insert k s hk ih => rw [Finset.sum_insert hk, Finset.sum_insert hk, ih, EReal.coe_add]

/-- The word the programs write for minus one half. -/
theorem neg_half_word : Ideal.ofBits .f32 0xBF000000#32 = ((-(1 / 2) : ℝ) : EReal) := by
  simp [Ideal.ofBits, Ideal.ieee, -EReal.coe_mul]; norm_num

/-- The word the programs write for the width of the state. -/
theorem width_word : Ideal.ofBits .f32 0x45000000#32 = ((2048 : ℝ) : EReal) := by
  simp [Ideal.ofBits, Ideal.ieee, -EReal.coe_mul]; norm_num

/-- The word the programs write for the small number under the root is a positive real. -/
theorem eps_word : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The inverse root at a positive real. -/
theorem rsqrt_pos (t : ℝ) (h : 0 < t) : Ideal.rsqrt (t : EReal) = (((Real.sqrt t)⁻¹ : ℝ) : EReal) := by
  rw [Ideal.rsqrt_coe, if_neg (not_lt.2 h.le), if_neg h.ne']

/-- The square of the inverse root times the number is one. -/
theorem inv_sqrt_sq (t : ℝ) (h : 0 < t) : (Real.sqrt t)⁻¹ * (Real.sqrt t)⁻¹ * t = 1 := by
  rw [← mul_inv, Real.mul_self_sqrt h.le, inv_mul_cancel₀ h.ne']

end Cert.Facts
-- ==== Proof.ActBwdVal.lean ====
/-
  The gradient of the gate and its reference.
-/
module

public import proofs.«01_k».proof.Defs
public import proofs.«01_k».proof.Proof.Gen.ActBwdIdeal.Value
public import proofs.«01_k».proof.Proof.Gen.ActBwdRefIdeal.Read
public import proofs.«01_k».proof.Proof.Consts
public import proofs.«01_k».proof.Proof.Finite
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.ActBwdIdeal.Val

open Cert.ActBwdIdeal Cert.ActBwdIdeal.Gen

/-- An array triple that passes the precondition's test holds reals. -/
theorem pre_real [hp : Cert.Pre_finite_act.Facts] (x0 x1 x2 : Vec Ideal S2048x5632 .bf16) (j : Cert.Pre_finite_act.S_.Idx)
    (h : Cert.Pre_finite_act.fn (F := Ideal) x0 x1 x2 j = 1#1) (i : S2048x5632.Idx) :
    (∃ a : ℝ, x0 i = (a : EReal)) ∧ (∃ a : ℝ, x1 i = (a : EReal)) ∧ (∃ a : ℝ, x2 i = (a : EReal)) := by
  unfold Cert.Pre_finite_act.fn at h
  dsimp only at h
  obtain ⟨h01, h2⟩ := Cert.Facts.andi_one _ _ _ h
  obtain ⟨h0, h1⟩ := Cert.Facts.andi_one _ _ _ h01
  haveI : Subsingleton Cert.Pre_finite_act.S_.Idx := ⟨fun a b => funext fun q => q.elim0⟩
  exact ⟨Cert.Facts.real_of_lt _ (Host.reduce_andi_all _ _ _ _ _ h0 i), Cert.Facts.real_of_lt _ (Host.reduce_andi_all _ _ _ _ _ h1 i),
    Cert.Facts.real_of_lt _ (Host.reduce_andi_all _ _ _ _ _ h2 i)⟩

/-- The gradient of the gate's first argument, in the kernel's form and in the derivative's form, at reals. -/
theorem silu_grad (g u d : ℝ) :
    (d : EReal) * u * (Ideal.div 1 (1 + Ideal.exp (0 - (g : EReal))) * (1 + g * (1 - Ideal.div 1 (1 + Ideal.exp (0 - (g : EReal))))))
      = d * u * Ideal.div 1 (1 + Ideal.exp (-(g : EReal)))
        + g * (d * u) * (Ideal.div 1 (1 + Ideal.exp (-(g : EReal))) * (1 - Ideal.div 1 (1 + Ideal.exp (-(g : EReal))))) := by
  rw [zero_sub, Cert.Facts.sig_real]
  generalize (1 + Real.exp (-g))⁻¹ = s
  rw [← EReal.coe_one]
  simp only [← EReal.coe_mul, ← EReal.coe_add, ← EReal.coe_sub]
  refine congrArg _ ?_
  ring

/-- The first result at an index, given real arguments. -/
theorem g3 (x0 x1 x2 : Vec Ideal S2048x5632 .bf16) (r : Fin 2048) (l : Fin 5632)
    (h0 : ∃ a : ℝ, x0 (ix2 r l) = (a : EReal)) (h1 : ∃ a : ℝ, x1 (ix2 r l) = (a : EReal)) (h2 : ∃ a : ℝ, x2 (ix2 r l) = (a : EReal)) :
    Cert.ActBwdIdeal.Value.G3 (F := Ideal) x0 x1 x2 (ix2 r l) = Cert.ActBwdRefIdeal.Read.val_main_v8 (F := Ideal) x0 x1 x2 (ix2 r l) := by
  obtain ⟨g, hg⟩ := h0
  obtain ⟨u, hu⟩ := h1
  obtain ⟨d, hd⟩ := h2
  unfold Cert.ActBwdIdeal.Value.G3
  rw [← Cert.ActBwdRefIdeal.Read.val_main_v8_eq]
  pointwise []
  rw [hg, hu, hd]
  exact silu_grad g u d

/-- The second result at an index. -/
theorem g4 (x0 x2 : Vec Ideal S2048x5632 .bf16) (r : Fin 2048) (l : Fin 5632) :
    Cert.ActBwdIdeal.Value.G4 (F := Ideal) x0 x2 (ix2 r l) = Cert.ActBwdRefIdeal.Read.val_main_v9 (F := Ideal) x0 x2 (ix2 r l) := by
  unfold Cert.ActBwdIdeal.Value.G4
  rw [← Cert.ActBwdRefIdeal.Read.val_main_v9_eq]
  pointwise []
  rw [zero_sub, mul_comm]

/-- The third result at an index. -/
theorem g5 (x0 x1 : Vec Ideal S2048x5632 .bf16) (r : Fin 2048) (l : Fin 5632) :
    Cert.ActBwdIdeal.Value.G5 (F := Ideal) x0 x1 (ix2 r l) = Cert.ActBwdRefIdeal.Read.val_main_v10 (F := Ideal) x0 x1 (ix2 r l) := by
  unfold Cert.ActBwdIdeal.Value.G5
  rw [← Cert.ActBwdRefIdeal.Read.val_main_v10_eq]
  pointwise []
  rw [zero_sub]

end Cert.ActBwdIdeal.Val

namespace Cert.Claims

/-- The gradient of the gate and its reference end with equal results on finite arguments. -/
theorem actbwd [hp : Cert.Pre_finite_act.Facts] :
    Cert.algebraic_ActBwdIdeal_ActBwdRefIdeal_pre_finite_act (hActBwdIdeal := Cert.ActBwdIdeal.Gen.facts)
      (hActBwdRefIdeal := Cert.ActBwdRefIdeal.Gen.facts) (hPre_finite_act := hp) := by
  intro m g m' g' hpre hargs
  refine ⟨fun c => _, fun c => _, fun c => _, Cert.ActBwdIdeal.Value.run m g,
    (θ_run _ _ _).mono (fun r h c => ⟨(h c).1.trans ?_, (h c).2.1.trans ?_, (h c).2.2.1.trans ?_, (h c).2.2.2⟩) (Cert.ActBwdRefIdeal.Value.run m' g')⟩
  · rw [(hargs c).1, (hargs c).2.1, (hargs c).2.2]
    refine (Cert.ActBwdRefIdeal.Read.val_main_v8_eq _ _ _).trans (funext fun j => ?_)
    obtain ⟨r, l, rfl⟩ : ∃ (r : Fin 2048) (l : Fin 5632), j = ix2 r l := ⟨j 0, j 1, by idx_ext⟩
    have h := Cert.ActBwdIdeal.Val.pre_real _ _ _ (fun a => a.elim0) (congrFun (hpre c) _) (ix2 r l)
    exact (Cert.ActBwdIdeal.Val.g3 _ _ _ r l h.1 h.2.1 h.2.2).symm
  · rw [(hargs c).1, (hargs c).2.2]
    refine (Cert.ActBwdRefIdeal.Read.val_main_v9_eq _ _).trans (funext fun j => ?_)
    obtain ⟨r, l, rfl⟩ : ∃ (r : Fin 2048) (l : Fin 5632), j = ix2 r l := ⟨j 0, j 1, by idx_ext⟩
    exact (Cert.ActBwdIdeal.Val.g4 _ _ r l).symm
  · rw [(hargs c).1, (hargs c).2.1]
    refine (Cert.ActBwdRefIdeal.Read.val_main_v10_eq _ _).trans (funext fun j => ?_)
    obtain ⟨r, l, rfl⟩ : ∃ (r : Fin 2048) (l : Fin 5632), j = ix2 r l := ⟨j 0, j 1, by idx_ext⟩
    exact (Cert.ActBwdIdeal.Val.g5 _ _ r l).symm

end Cert.Claims
-- ==== Proof.DwdVal.lean ====
/-
  The gradient of the half-weight down product with respect to its weight: the tiled product computes `0.5 · actᵀ · dh`, cut by chip.
-/
module

public import proofs.«01_k».proof.Defs
public import proofs.«01_k».proof.Proof.Gen.DwdIdeal.Value
public import proofs.«01_k».proof.Proof.Gen.DwdRefIdeal.Read
public import proofs.«01_k».proof.Proof.Consts
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DwdIdeal.Val

open Cert.DwdIdeal Cert.DwdIdeal.Gen

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Where window 0's block lies at a grid point. -/
theorem idx0 : ∀ t : Fin cfg0.N, win0_0.index t 0 = 0 ∧ win0_0.index t 1 = t.val / 2 :=
  (by decide +kernel : ∀ t : Fin grid0.N, win0_0.index t 0 = 0 ∧ win0_0.index t 1 = t.val / 2)

/-- Where window 1's block lies at a grid point. -/
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)

/-- Where window 2's block lies at a grid point. -/
theorem idx2 : ∀ t : Fin cfg0.N, win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2)

/-- The array the second window stages is the second argument. -/
theorem V_main_v0 (c : Dev nD) (i : S2048x2048.Idx) : V m c main_v0 i = m ((c : Thread nD τ).loc main_arg1) i := by
  unfold V
  after_reads_at

/-- Window 0's block at a grid point, read at an index. -/
theorem blk0 (c : Dev nD) (t : Fin cfg0.N) (x : Fin 2048) (k : Fin 1408) :
    iblk m c 0 t (ix2 x k) = m ((c : Thread nD τ).loc main_arg0) (ix2 x (⟨t.val / 2 * 1408 + k.val, by have := t.isLt; have : cfg0.N = 8 := N_0; omega⟩ : Fin 5632)) := by
  have hN : t.val < 8 := by have := t.isLt; have : cfg0.N = 8 := N_0; omega
  rw [← V_main_arg0 m c]
  unfold iblk
  rw [View.read_apply]
  refine congrArg (V m c main_arg0) (funext fun a => Fin.ext ?_)
  have h := idx0 t
  match a with
  | ⟨0, _⟩ => show win0_0.index t 0 * 2048 + 1 * x.val = x.val; rw [h.1] <;> omega
  | ⟨1, _⟩ => show win0_0.index t 1 * 1408 + 1 * k.val = t.val / 2 * 1408 + k.val; rw [h.2] <;> omega

/-- Window 1's block at a grid point, read at an index. -/
theorem blk1 (c : Dev nD) (t : Fin cfg0.N) (x : Fin 2048) (l : Fin 1024) :
    iblk m c 1 t (ix2 x l) = m ((c : Thread nD τ).loc main_arg1) (ix2 x (⟨t.val % 2 * 1024 + l.val, by have := t.isLt; have : cfg0.N = 8 := N_0; omega⟩ : Fin 2048)) := by
  have hN : t.val < 8 := by have := t.isLt; have : cfg0.N = 8 := N_0; omega
  rw [← V_main_v0 m c]
  unfold iblk
  rw [View.read_apply]
  refine congrArg (V m c main_v0) (funext fun a => Fin.ext ?_)
  have h := idx1 t
  match a with
  | ⟨0, _⟩ => show win0_1.index t 0 * 2048 + 1 * x.val = x.val; rw [h.1] <;> omega
  | ⟨1, _⟩ => show win0_1.index t 1 * 1024 + 1 * l.val = t.val % 2 * 1024 + l.val; rw [h.2] <;> omega

/-- The body's result at an index: a product over the rows. -/
theorem pay (x0 : Vec Ideal S2048x1408 .bf16) (x1 : Vec Ideal S2048x1024 .bf16) (k : Fin 1408) (l : Fin 1024) :
    k0_pay1 x0 x1 (ix3 0 k l) = (∑ x : Fin 2048, x0 (ix2 x k) * x1 (ix2 x l)) * Ideal.ofBits FTy.f32 1056964608#32 := by
  pointwise [k0_pay1]

/-- The reference's result at an index. -/
theorem ref (x0 : Vec Ideal S2048x5632 .bf16) (x1 : Vec Ideal S2048x2048 .f32) (a : Fin 4) (k : Fin 1408) (l : Fin 2048) :
    Cert.DwdRefIdeal.Read.val_main_v10 (F := Ideal) x0 x1 (ix3 a k l) = ∑ x : Fin 2048, Ideal.ofBits FTy.f32 1056964608#32 * x1 (ix2 x l) * x0 (ix2 x (⟨a.val * 1408 + k.val, by omega⟩ : Fin 5632)) := by
  rw [← Cert.DwdRefIdeal.Read.val_main_v10_eq]
  pointwise

/-- Where an index of window 2's block lies in its array. -/
theorem emb2 (t : Fin cfg0.N) (k : Fin 1408) (l : Fin 1024) : ((cfg0.win 2).blk t).view.emb (ix3 0 k l) = ix3 (⟨t.val / 2, by have := t.isLt; have : cfg0.N = 8 := N_0; omega⟩ : Fin 4) k (⟨t.val % 2 * 1024 + l.val, by have := t.isLt; have : cfg0.N = 8 := N_0; omega⟩ : Fin 2048) := by
  refine funext fun a => Fin.ext ?_
  have h := idx2 t
  match a with
  | ⟨0, _⟩ => show win0_2.index t 0 * 1 + 1 * 0 = t.val / 2; rw [h.1] <;> omega
  | ⟨1, _⟩ => show win0_2.index t 1 * 1408 + 1 * k.val = k.val; rw [h.2.1] <;> omega
  | ⟨2, _⟩ => show win0_2.index t 2 * 1024 + 1 * l.val = t.val % 2 * 1024 + l.val; rw [h.2.2] <;> omega

/-- The reference's result on a device's two arguments. -/
abbrev goal (c : Dev nD) : Buf (Elt Ideal) ((c : Thread nD τ).loc main_v1) :=
  Cert.DwdRefIdeal.Read.val_main_v10 (F := Ideal) (m ((c : Thread nD τ).loc main_arg0)) (m ((c : Thread nD τ).loc main_arg1))

/-- What a grid point writes back is its block of the reference's result. -/
theorem flushed_eq (c : Dev nD) (t : Fin cfg0.N) :
    (dats m 0 c).flushed 2 t = ((cfg0.win 2).blk t).view.read (Elt Ideal) (goal m c) := by
  rw [Value.flushed2]
  unfold out0_2
  rw [View.canon_unit_zero hz3, View.ld_unit_zero hz2, View.ld_unit_zero hz2]
  funext j
  obtain ⟨k, l, rfl⟩ : ∃ (k : Fin 1408) (l : Fin 1024), j = ix3 0 k l := ⟨j 1, j 2, by
    have h0 : (j 0).val < 1 := (j 0).isLt
    funext a; apply Fin.ext
    match a with
    | ⟨0, _⟩ => show (j 0).val = 0; omega
    | ⟨1, _⟩ => rfl
    | ⟨2, _⟩ => rfl⟩
  show k0_pay1 _ _ (ix3 0 k l) = _
  rw [pay, View.read_apply, emb2]
  refine Eq.trans ?_ (ref _ _ _ _ _).symm
  rw [Cert.Facts.sum_half]
  refine Finset.sum_congr rfl fun x _ => ?_
  rw [blk0, blk1]

/-- The blocks written back tile window 2's array. -/
theorem cover2 (i : S4x1408x2048.Idx) :
    ∃ t : Fin cfg0.N, (cfg0.win 2).flush t = true ∧ i ∈ ((cfg0.win 2).blk t).view.set := by
  have h0 : (i 0 : Nat) < 4 := (i 0).isLt
  have h1 : (i 1 : Nat) < 1408 := (i 1).isLt
  have h2 : (i 2 : Nat) < 2048 := (i 2).isLt
  have hN : cfg0.N = 8 := N_0
  obtain ⟨t, ht⟩ : ∃ t : Fin cfg0.N, t.val = (i 0 : Nat) * 2 + (i 2 : Nat) / 1024 := ⟨⟨_, by omega⟩, rfl⟩
  refine ⟨t, flush0_2 _, ?_⟩
  show i ∈ ((View.whole main_v1).slice (win0_2.rect t)).set
  rw [View.set_slice_whole, Rect.mem_set_unit]
  have h := idx2 t
  intro a
  match a with
  | ⟨0, _⟩ =>
    show win0_2.index t 0 * 1 ≤ (i 0 : Nat) ∧ (i 0 : Nat) < win0_2.index t 0 * 1 + 1
    rw [h.1]; omega
  | ⟨1, _⟩ =>
    show win0_2.index t 1 * 1408 ≤ (i 1 : Nat) ∧ (i 1 : Nat) < win0_2.index t 1 * 1408 + 1408
    rw [h.2.1]; omega
  | ⟨2, _⟩ =>
    show win0_2.index t 2 * 1024 ≤ (i 2 : Nat) ∧ (i 2 : Nat) < win0_2.index t 2 * 1024 + 1024
    rw [h.2.2]; omega

/-- After the region the result array holds the reference's result. -/
theorem final (c : Dev nD) : (dats m 0 c).arrAt 2 cfg0.N = goal m c :=
  (dats m 0 c).arrAt_eq_of_cover 2 (goal m c) (fun t _ => flushed_eq m c t) cover2

end Cert.DwdIdeal.Val

namespace Cert.Claims

/-- The gradient product and its reference end with equal results. -/
theorem dwd : Cert.algebraic_DwdIdeal_DwdRefIdeal (hDwdIdeal := Cert.DwdIdeal.Gen.facts)
    (hDwdRefIdeal := Cert.DwdRefIdeal.Gen.facts) := by
  intro m g m' g' _ hargs
  refine ⟨fun c => Cert.DwdIdeal.Val.goal m c,
    (θ_run _ _ _).mono (fun r h c => ⟨(h c).1.trans (Cert.DwdIdeal.Val.final m c), (h c).2⟩) (Cert.DwdIdeal.Value.run_blocks m g),
    (θ_run _ _ _).mono (fun r h c => ⟨(h c).1.trans ?_, (h c).2⟩) (Cert.DwdRefIdeal.Value.run m' g')⟩
  rw [(hargs c).1, (hargs c).2]
  exact Cert.DwdRefIdeal.Read.val_main_v10_eq _ _

end Cert.Claims
-- ==== Proof.DwupVal.lean ====
/-
  The gradient of an up product with respect to its weight: the tiled product computes `nᵀ · dg`, cut by chip.
-/
module

public import proofs.«01_k».proof.Defs
public import proofs.«01_k».proof.Proof.Gen.DwupIdeal.Value
public import proofs.«01_k».proof.Proof.Gen.DwupRefIdeal.Read
public import proofs.«01_k».proof.Proof.Consts
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DwupIdeal.Val

open Cert.DwupIdeal Cert.DwupIdeal.Gen

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Where window 0's block lies at a grid point. -/
theorem idx0 : ∀ t : Fin cfg0.N, win0_0.index t 0 = 0 ∧ win0_0.index t 1 = t.val / 4 :=
  (by decide +kernel : ∀ t : Fin grid0.N, win0_0.index t 0 = 0 ∧ win0_0.index t 1 = t.val / 4)

/-- Where window 1's block lies at a grid point. -/
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)

/-- Where window 2's block lies at a grid point. -/
theorem idx2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)

/-- Window 0's block at a grid point, read at an index. -/
theorem blk0 (c : Dev nD) (t : Fin cfg0.N) (x : Fin 2048) (k : Fin 1024) :
    iblk m c 0 t (ix2 x k) = m ((c : Thread nD τ).loc main_arg0) (ix2 x (⟨t.val / 4 * 1024 + k.val, by have := t.isLt; have : cfg0.N = 8 := N_0; omega⟩ : Fin 2048)) := by
  have hN : t.val < 8 := by have := t.isLt; have : cfg0.N = 8 := N_0; omega
  rw [← V_main_arg0 m c]
  unfold iblk
  rw [View.read_apply]
  refine congrArg (V m c main_arg0) (funext fun a => Fin.ext ?_)
  have h := idx0 t
  match a with
  | ⟨0, _⟩ => show win0_0.index t 0 * 2048 + 1 * x.val = x.val; rw [h.1] <;> omega
  | ⟨1, _⟩ => show win0_0.index t 1 * 1024 + 1 * k.val = t.val / 4 * 1024 + k.val; rw [h.2] <;> omega

/-- Window 1's block at a grid point, read at an index. -/
theorem blk1 (c : Dev nD) (t : Fin cfg0.N) (x : Fin 2048) (l : Fin 1408) :
    iblk m c 1 t (ix2 x l) = m ((c : Thread nD τ).loc main_arg1) (ix2 x (⟨t.val % 4 * 1408 + l.val, by have := t.isLt; have : cfg0.N = 8 := N_0; omega⟩ : Fin 5632)) := by
  have hN : t.val < 8 := by have := t.isLt; have : cfg0.N = 8 := N_0; omega
  rw [← V_main_arg1 m c]
  unfold iblk
  rw [View.read_apply]
  refine congrArg (V m c main_arg1) (funext fun a => Fin.ext ?_)
  have h := idx1 t
  match a with
  | ⟨0, _⟩ => show win0_1.index t 0 * 2048 + 1 * x.val = x.val; rw [h.1] <;> omega
  | ⟨1, _⟩ => show win0_1.index t 1 * 1408 + 1 * l.val = t.val % 4 * 1408 + l.val; rw [h.2] <;> omega

/-- The body's result at an index: a product over the rows. -/
theorem pay (x0 : Vec Ideal S2048x1024 .bf16) (x1 : Vec Ideal S2048x1408 .bf16) (k : Fin 1024) (l : Fin 1408) :
    k0_pay1 x0 x1 (ix3 0 k l) = (∑ x : Fin 2048, x0 (ix2 x k) * x1 (ix2 x l)) := by
  pointwise [k0_pay1]

/-- The reference's result at an index. -/
theorem ref (x0 : Vec Ideal S2048x2048 .bf16) (x1 : Vec Ideal S2048x5632 .bf16) (a : Fin 4) (k : Fin 2048) (l : Fin 1408) :
    Cert.DwupRefIdeal.Read.val_main_v8 (F := Ideal) x0 x1 (ix3 a k l) = ∑ x : Fin 2048, x1 (ix2 x (⟨a.val * 1408 + l.val, by omega⟩ : Fin 5632)) * x0 (ix2 x k) := by
  rw [← Cert.DwupRefIdeal.Read.val_main_v8_eq]
  pointwise

/-- Where an index of window 2's block lies in its array. -/
theorem emb2 (t : Fin cfg0.N) (k : Fin 1024) (l : Fin 1408) : ((cfg0.win 2).blk t).view.emb (ix3 0 k l) = ix3 (⟨t.val % 4, by have := t.isLt; have : cfg0.N = 8 := N_0; omega⟩ : Fin 4) (⟨t.val / 4 * 1024 + k.val, by have := t.isLt; have : cfg0.N = 8 := N_0; omega⟩ : Fin 2048) l := by
  refine funext fun a => Fin.ext ?_
  have h := idx2 t
  match a with
  | ⟨0, _⟩ => show win0_2.index t 0 * 1 + 1 * 0 = t.val % 4; rw [h.1] <;> omega
  | ⟨1, _⟩ => show win0_2.index t 1 * 1024 + 1 * k.val = t.val / 4 * 1024 + k.val; rw [h.2.1] <;> omega
  | ⟨2, _⟩ => show win0_2.index t 2 * 1408 + 1 * l.val = l.val; rw [h.2.2] <;> omega

/-- The reference's result on a device's two arguments. -/
abbrev goal (c : Dev nD) : Buf (Elt Ideal) ((c : Thread nD τ).loc main_v0) :=
  Cert.DwupRefIdeal.Read.val_main_v8 (F := Ideal) (m ((c : Thread nD τ).loc main_arg0)) (m ((c : Thread nD τ).loc main_arg1))

/-- What a grid point writes back is its block of the reference's result. -/
theorem flushed_eq (c : Dev nD) (t : Fin cfg0.N) :
    (dats m 0 c).flushed 2 t = ((cfg0.win 2).blk t).view.read (Elt Ideal) (goal m c) := by
  rw [Value.flushed2]
  unfold out0_2
  rw [View.canon_unit_zero hz3, View.ld_unit_zero hz2, View.ld_unit_zero hz2]
  funext j
  obtain ⟨k, l, rfl⟩ : ∃ (k : Fin 1024) (l : Fin 1408), j = ix3 0 k l := ⟨j 1, j 2, by
    have h0 : (j 0).val < 1 := (j 0).isLt
    funext a; apply Fin.ext
    match a with
    | ⟨0, _⟩ => show (j 0).val = 0; omega
    | ⟨1, _⟩ => rfl
    | ⟨2, _⟩ => rfl⟩
  show k0_pay1 _ _ (ix3 0 k l) = _
  rw [pay, View.read_apply, emb2]
  refine Eq.trans ?_ (ref _ _ _ _ _).symm

  refine Finset.sum_congr rfl fun x _ => ?_
  rw [blk0, blk1]
  exact mul_comm _ _

/-- The blocks written back tile window 2's array. -/
theorem cover2 (i : S4x2048x1408.Idx) :
    ∃ t : Fin cfg0.N, (cfg0.win 2).flush t = true ∧ i ∈ ((cfg0.win 2).blk t).view.set := by
  have h0 : (i 0 : Nat) < 4 := (i 0).isLt
  have h1 : (i 1 : Nat) < 2048 := (i 1).isLt
  have h2 : (i 2 : Nat) < 1408 := (i 2).isLt
  have hN : cfg0.N = 8 := N_0
  obtain ⟨t, ht⟩ : ∃ t : Fin cfg0.N, t.val = (i 1 : Nat) / 1024 * 4 + (i 0 : Nat) := ⟨⟨_, by omega⟩, rfl⟩
  refine ⟨t, flush0_2 _, ?_⟩
  show i ∈ ((View.whole main_v0).slice (win0_2.rect t)).set
  rw [View.set_slice_whole, Rect.mem_set_unit]
  have h := idx2 t
  intro a
  match a with
  | ⟨0, _⟩ =>
    show win0_2.index t 0 * 1 ≤ (i 0 : Nat) ∧ (i 0 : Nat) < win0_2.index t 0 * 1 + 1
    rw [h.1]; omega
  | ⟨1, _⟩ =>
    show win0_2.index t 1 * 1024 ≤ (i 1 : Nat) ∧ (i 1 : Nat) < win0_2.index t 1 * 1024 + 1024
    rw [h.2.1]; omega
  | ⟨2, _⟩ =>
    show win0_2.index t 2 * 1408 ≤ (i 2 : Nat) ∧ (i 2 : Nat) < win0_2.index t 2 * 1408 + 1408
    rw [h.2.2]; omega

/-- After the region the result array holds the reference's result. -/
theorem final (c : Dev nD) : (dats m 0 c).arrAt 2 cfg0.N = goal m c :=
  (dats m 0 c).arrAt_eq_of_cover 2 (goal m c) (fun t _ => flushed_eq m c t) cover2

end Cert.DwupIdeal.Val

namespace Cert.Claims

/-- The gradient product and its reference end with equal results. -/
theorem dwup : Cert.algebraic_DwupIdeal_DwupRefIdeal (hDwupIdeal := Cert.DwupIdeal.Gen.facts)
    (hDwupRefIdeal := Cert.DwupRefIdeal.Gen.facts) := by
  intro m g m' g' _ hargs
  refine ⟨fun c => Cert.DwupIdeal.Val.goal m c,
    (θ_run _ _ _).mono (fun r h c => ⟨(h c).1.trans (Cert.DwupIdeal.Val.final m c), (h c).2⟩) (Cert.DwupIdeal.Value.run_blocks m g),
    (θ_run _ _ _).mono (fun r h c => ⟨(h c).1.trans ?_, (h c).2⟩) (Cert.DwupRefIdeal.Value.run m' g')⟩
  rw [(hargs c).1, (hargs c).2]
  exact Cert.DwupRefIdeal.Read.val_main_v8_eq _ _

end Cert.Claims
-- ==== Proof.DnVal.lean ====
/-
  The first product of the backward of the two up products: the gradient of the gate times the transposed weight, accumulated over four stretches of the contracted axis, and its reference.
-/
module

public import proofs.«01_k».proof.Defs
public import proofs.«01_k».proof.Proof.Gen.DnIdeal.Value
public import proofs.«01_k».proof.Proof.Gen.DnRefIdeal.Read
public import proofs.«01_k».proof.Proof.Consts
public import Idealize.ShloMosaic.Lib.Pipeline.ValueKit.Acc
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DnIdeal.Val

open Cert.DnIdeal Cert.DnIdeal.Gen

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Where window 0's block lies at a grid point. -/
theorem idx0 : ∀ t : Fin cfg0.N, win0_0.index t 0 = 0 ∧ win0_0.index t 1 = t.val % 4 :=
  (by decide +kernel : ∀ t : Fin grid0.N, win0_0.index t 0 = 0 ∧ win0_0.index t 1 = t.val % 4)

/-- Where window 1's block lies at a grid point. -/
theorem idx1 : ∀ t : Fin cfg0.N, win0_1.index t 0 = t.val % 4 ∧ win0_1.index t 1 = 0 ∧ win0_1.index t 2 = 0 ∧ win0_1.index t 3 = t.val / 4 ∧ win0_1.index t 4 = 0 :=
  (by decide +kernel : ∀ t : Fin grid0.N, win0_1.index t 0 = t.val % 4 ∧ win0_1.index t 1 = 0 ∧ win0_1.index t 2 = 0 ∧ win0_1.index t 3 = t.val / 4 ∧ win0_1.index t 4 = 0)

/-- Where window 2's block lies at a grid point. -/
theorem idx2 : ∀ t : Fin cfg0.N, win0_2.index t 0 = 0 ∧ win0_2.index t 1 = t.val / 4 :=
  (by decide +kernel : ∀ t : Fin grid0.N, win0_2.index t 0 = 0 ∧ win0_2.index t 1 = t.val / 4)

/-- The array the weight window stages: the weight cut into four column groups. -/
theorem V_main_v2 (c : Dev nD) (a : Fin 4) (k : Fin 2048) (l : Fin 1408) :
    V m c main_v2 (ix5 a (0 : Fin 4) (0 : Fin 2) k l)
      = m ((c : Thread nD τ).loc main_arg1) (ix4 (0 : Fin 4) (0 : Fin 2) k (⟨a.val * 1408 + l.val, by omega⟩ : Fin 5632)) := by
  unfold V
  after_reads_at

/-- Window 0's block at a grid point, read at an index. -/
theorem blk0 (c : Dev nD) (t : Fin cfg0.N) (r : Fin 2048) (x : Fin 1408) :
    iblk m c 0 t (ix2 r x) = m ((c : Thread nD τ).loc main_arg0) (ix2 (⟨0 * 2048 + r.val, by have := t.isLt; have : cfg0.N = 16 := N_0; omega⟩ : Fin 2048) (⟨t.val % 4 * 1408 + x.val, by have := t.isLt; have : cfg0.N = 16 := N_0; omega⟩ : Fin 5632)) := by
  have hN : t.val < 16 := by have := t.isLt; have : cfg0.N = 16 := N_0; omega
  rw [← V_main_arg0 m c]
  unfold iblk
  rw [View.read_apply]
  refine congrArg (V m c main_arg0) (funext fun a => Fin.ext ?_)
  have h := idx0 t
  match a with
  | ⟨0, _⟩ => show win0_0.index t 0 * 2048 + 1 * r.val = 0 * 2048 + r.val; rw [h.1] <;> omega
  | ⟨1, _⟩ => show win0_0.index t 1 * 1408 + 1 * x.val = t.val % 4 * 1408 + x.val; rw [h.2] <;> omega

/-- Window 1's block at a grid point, read at an index. -/
theorem blk1 (c : Dev nD) (t : Fin cfg0.N) (l : Fin 512) (x : Fin 1408) :
    iblk m c 1 t (ix5 0 0 0 l x) = m ((c : Thread nD τ).loc main_arg1) (ix4 (0 : Fin 4) (0 : Fin 2) (⟨t.val / 4 * 512 + l.val, by have := t.isLt; have : cfg0.N = 16 := N_0; omega⟩ : Fin 2048) (⟨t.val % 4 * 1408 + x.val, by have := t.isLt; have : cfg0.N = 16 := N_0; omega⟩ : Fin 5632)) := by
  have hN : t.val < 16 := by have := t.isLt; have : cfg0.N = 16 := N_0; omega
  rw [← V_main_v2 m c (⟨t.val % 4, by omega⟩ : Fin 4) (⟨t.val / 4 * 512 + l.val, by omega⟩ : Fin 2048) x]
  unfold iblk
  rw [View.read_apply]
  refine congrArg (V m c main_v2) (funext fun a => Fin.ext ?_)
  have h := idx1 t
  match a with
  | ⟨0, _⟩ => show win0_1.index t 0 * 1 + 1 * 0 = t.val % 4; rw [h.1] <;> omega
  | ⟨1, _⟩ => show win0_1.index t 1 * 1 + 1 * 0 = 0; rw [h.2.1] <;> omega
  | ⟨2, _⟩ => show win0_1.index t 2 * 1 + 1 * 0 = 0; rw [h.2.2.1] <;> omega
  | ⟨3, _⟩ => show win0_1.index t 3 * 512 + 1 * l.val = t.val / 4 * 512 + l.val; rw [h.2.2.2.1] <;> omega
  | ⟨4, _⟩ => show win0_1.index t 4 * 1408 + 1 * x.val = x.val; rw [h.2.2.2.2] <;> omega

/-- Where an index of window 2's block lies in its array. -/
theorem emb2 (t : Fin cfg0.N) (r : Fin 2048) (l : Fin 512) : ((cfg0.win 2).blk t).view.emb (ix2 r l) = ix2 (⟨0 * 2048 + r.val, by have := t.isLt; have : cfg0.N = 16 := N_0; omega⟩ : Fin 2048) (⟨t.val / 4 * 512 + l.val, by have := t.isLt; have : cfg0.N = 16 := N_0; omega⟩ : Fin 2048) := by
  refine funext fun a => Fin.ext ?_
  have h := idx2 t
  match a with
  | ⟨0, _⟩ => show win0_2.index t 0 * 2048 + 1 * r.val = 0 * 2048 + r.val; rw [h.1] <;> omega
  | ⟨1, _⟩ => show win0_2.index t 1 * 512 + 1 * l.val = t.val / 4 * 512 + l.val; rw [h.2] <;> omega

/-- The body's partial product at an index. -/
theorem pay1 (x0 : Vec Ideal S2048x1408 .bf16) (x1 : Vec Ideal S1x1x1x512x1408 .bf16) (r : Fin 2048) (l : Fin 512) :
    k0_pay1 x0 x1 (ix2 r l) = ∑ x : Fin 1408, x0 (ix2 r x) * x1 (ix5 0 0 0 l x) := by
  pointwise [k0_pay1]

/-- What the first contraction step leaves in the scratch. -/
theorem sout_A (c : Dev nD) (i : grid0.Coords) (arg3 : Memref sig .tc .vmem S2048x1408 .bf16) (harg3 : arg3.IsWhole) (arg4 : Memref sig .tc .vmem S1x1x1x512x1408 .bf16) (harg4 : arg4.IsWhole) (arg5 : Memref sig .tc .vmem S2048x512 .f32) (harg5 : arg5.IsWhole) (arg6 : Memref sig .tc .vmem S2048x512 .f32) (harg6 : arg6.IsWhole) (h0 : cond0_0 i) (h1 : ¬cond0_1 i) (h2 : ¬cond0_2 i) (x0 : Vec Ideal S2048x1408 .bf16) (x1 : Vec Ideal S1x1x1x512x1408 .bf16) :
    sout0_A_0 c i arg3 harg3 arg4 harg4 arg5 harg5 arg6 harg6 h0 h1 h2 x0 x1 = k0_pay1 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_unit_zero hz2]
  unfold k0_pay2
  simp only [View.readAt_eq_ld, harg3.read_unread, harg4.read_unread, harg6.read_unread, View.ld_unit_zero (S := S2048x1408) hz2, View.ld_unit_zero (S := S1x1x1x512x1408) hz5, shapeCast_self]

/-- What a middle contraction step leaves in the scratch. -/
theorem sout_B (c : Dev nD) (i : grid0.Coords) (arg3 : Memref sig .tc .vmem S2048x1408 .bf16) (harg3 : arg3.IsWhole) (arg4 : Memref sig .tc .vmem S1x1x1x512x1408 .bf16) (harg4 : arg4.IsWhole) (arg5 : Memref sig .tc .vmem S2048x512 .f32) (harg5 : arg5.IsWhole) (arg6 : Memref sig .tc .vmem S2048x512 .f32) (harg6 : arg6.IsWhole) (h0 : ¬cond0_0 i) (h1 : cond0_1 i) (h2 : ¬cond0_2 i) (x0 : Vec Ideal S2048x1408 .bf16) (x1 : Vec Ideal S1x1x1x512x1408 .bf16) (xs : Vec Ideal S2048x512 .f32) :
    sout0_B_0 c i arg3 harg3 arg4 harg4 arg5 harg5 arg6 harg6 h0 h1 h2 x0 x1 xs = addf xs (k0_pay1 x0 x1) := by
  unfold sout0_B_0
  rw [View.read_writes_eq_canon _ _ _ (scover0_B_0 c i arg3 harg3 arg4 harg4 arg5 harg5 arg6 harg6 h0 h1 h2 x0 x1 xs)]
  unfold kernelRun0_B
  dsimp only
  sl_unfold_words
  rw [View.canon_unit_zero hz2]
  unfold k0_pay3
  simp only [View.readAt_eq_ld, harg3.read_unread, harg4.read_unread, harg6.read_unread, View.ld_unit_zero (S := S2048x1408) hz2, View.ld_unit_zero (S := S1x1x1x512x1408) hz5, View.ld_unit_zero (S := S2048x512) hz2, shapeCast_self]

/-- What the last contraction step leaves in the result's buffer. -/
theorem out_C (c : Dev nD) (i : grid0.Coords) (arg3 : Memref sig .tc .vmem S2048x1408 .bf16) (harg3 : arg3.IsWhole) (arg4 : Memref sig .tc .vmem S1x1x1x512x1408 .bf16) (harg4 : arg4.IsWhole) (arg5 : Memref sig .tc .vmem S2048x512 .f32) (harg5 : arg5.IsWhole) (arg6 : Memref sig .tc .vmem S2048x512 .f32) (harg6 : arg6.IsWhole) (h0 : ¬cond0_0 i) (h1 : cond0_1 i) (h2 : cond0_2 i) (x0 : Vec Ideal S2048x1408 .bf16) (x1 : Vec Ideal S1x1x1x512x1408 .bf16) (xs : Vec Ideal S2048x512 .f32) :
    out0_C_2 c i arg3 harg3 arg4 harg4 arg5 harg5 arg6 harg6 h0 h1 h2 x0 x1 xs = addf xs (k0_pay1 x0 x1) := by
  unfold out0_C_2
  rw [View.read_writes_eq_canon _ _ _ (cover0_C_2 c i arg3 harg3 arg4 harg4 arg5 harg5 arg6 harg6 h0 h1 h2 x0 x1 xs)]
  unfold kernelRun0_C
  dsimp only
  sl_unfold_words
  rw [View.canon_unit_zero hz2]
  try rw [View.readCov_unit_zero (S := S2048x512) _ hz2]
  unfold k0_pay3
  simp only [View.readAt_eq_ld, harg3.read_unread, harg4.read_unread, harg6.read_unread, View.ld_unit_zero (S := S2048x1408) hz2, View.ld_unit_zero (S := S1x1x1x512x1408) hz5, View.ld_unit_zero (S := S2048x512) hz2, shapeCast_self]

/-- A grid point's partial product at an index of its block. -/
def part (c : Dev nD) (n : ℕ) (h : n < cfg0.N) (r : Fin 2048) (l : Fin 512) : EReal :=
  k0_pay1 (iblk m c 0 ⟨n, h⟩) (iblk m c 1 ⟨n, h⟩) (ix2 r l)

/-- The scratch after a first step. -/
theorem scr_A (c : Dev nD) (n : ℕ) (h : n < cfg0.N) (hm : n % 4 = 0) (r : Fin 2048) (l : Fin 512) :
    (outsAt0 m c n h).2 (ix2 r l) = part m c n h r l := by
  rw [outsAt0_A m c ⟨n, h⟩ hm (by dsimp only; omega) (by dsimp only; omega)]
  dsimp only
  rw [sout_A]
  rfl

/-- The scratch after a middle step. -/
theorem scr_B (c : Dev nD) (n : ℕ) (h : n + 1 < cfg0.N) (hm : (n + 1) % 4 = 1 ∨ (n + 1) % 4 = 2) (r : Fin 2048) (l : Fin 512) :
    (outsAt0 m c (n + 1) h).2 (ix2 r l) = (outsAt0 m c n (Nat.lt_of_succ_lt h)).2 (ix2 r l) + part m c (n + 1) h r l := by
  rw [outsAt0_B m c ⟨n + 1, h⟩ (by dsimp only; omega) (by dsimp only; omega) (by dsimp only; omega)]
  dsimp only
  rw [sout_B]
  rfl

/-- The sum of the four steps that end at a writing point. -/
theorem sum4 (c : Dev nD) (q : ℕ) (h : 4 * q + 3 < cfg0.N) (r : Fin 2048) (l : Fin 512) :
    (outsAt0 m c (4 * q + 2) (by omega)).2 (ix2 r l) + part m c (4 * q + 3) h r l
      = ∑ k : Fin 4, part m c (4 * q + k.val) (by omega) r l := by
  rw [Fin.sum_univ_four, scr_B m c (4 * q + 1) (by omega) (by omega), scr_B m c (4 * q) (by omega) (by omega), scr_A m c (4 * q) (by omega) (by omega)]
  rfl

/-- One term of the whole product. -/
def term (x0 : Vec Ideal S2048x5632 .bf16) (x1 : Vec Ideal S4x2x2048x5632 .f32) (r l : Fin 2048) (x : Fin 5632) : EReal :=
  x0 (ix2 r x) * x1 (ix4 (0 : Fin 4) (0 : Fin 2) l x)

/-- The whole product at an index. -/
def prod (x0 : Vec Ideal S2048x5632 .bf16) (x1 : Vec Ideal S4x2x2048x5632 .f32) (r l : Fin 2048) : EReal :=
  ∑ x : Fin 5632, term x0 x1 r l x

/-- A grid point's partial product over the arguments. -/
theorem part_eq (c : Dev nD) (t : Fin cfg0.N) (r : Fin 2048) (l : Fin 512) :
    part m c t.val t.isLt r l = ∑ x : Fin 1408,
      term (m ((c : Thread nD τ).loc main_arg0)) (m ((c : Thread nD τ).loc main_arg1)) (⟨0 * 2048 + r.val, by have := t.isLt; have : cfg0.N = 16 := N_0; omega⟩ : Fin 2048)
        (⟨t.val / 4 * 512 + l.val, by have := t.isLt; have : cfg0.N = 16 := N_0; omega⟩ : Fin 2048) (⟨t.val % 4 * 1408 + x.val, by have := t.isLt; have : cfg0.N = 16 := N_0; omega⟩ : Fin 5632) := by
  unfold part
  rw [pay1]
  exact Finset.sum_congr rfl fun x _ => by rw [blk0, blk1]; rfl

/-- The reference's result at an index. -/
theorem ref (x0 : Vec Ideal S2048x5632 .bf16) (x1 : Vec Ideal S4x2x2048x5632 .f32) (r l : Fin 2048) :
    Cert.DnRefIdeal.Read.val_main_v5 (F := Ideal) x0 x1 (ix2 r l) = prod x0 x1 r l := by
  rw [← Cert.DnRefIdeal.Read.val_main_v5_eq]
  pointwise [prod, term]

/-- The reference's result on a device's arguments. -/
abbrev goal (c : Dev nD) : Buf (Elt Ideal) ((c : Thread nD τ).loc main_v3) :=
  Cert.DnRefIdeal.Read.val_main_v5 (F := Ideal) (m ((c : Thread nD τ).loc main_arg0)) (m ((c : Thread nD τ).loc main_arg1))

/-- The four partial products of a block add up to the whole product. -/
theorem total (c : Dev nD) (t : Fin cfg0.N) (q : ℕ) (hq : t.val = 4 * q + 3) (r : Fin 2048) (l : Fin 512) :
    (outsAt0 m c (t.val - 1) (Nat.lt_of_le_of_lt (Nat.sub_le _ _) t.isLt)).2 (ix2 r l) + part m c t.val t.isLt r l
      = prod (m ((c : Thread nD τ).loc main_arg0)) (m ((c : Thread nD τ).loc main_arg1)) (⟨0 * 2048 + r.val, by have := t.isLt; have : cfg0.N = 16 := N_0; omega⟩ : Fin 2048) (⟨t.val / 4 * 512 + l.val, by have := t.isLt; have : cfg0.N = 16 := N_0; omega⟩ : Fin 2048) := by
  obtain ⟨n, hn⟩ := t
  dsimp only at hq
  subst hq
  have hN : cfg0.N = 16 := N_0
  refine (sum4 m c q hn r l).trans ?_
  unfold prod
  refine Eq.trans (Finset.sum_congr rfl fun k _ => part_eq m c ⟨4 * q + k.val, by omega⟩ r l) ?_
  refine Fin.sum_mul_add_congr (S := 4) (n := 1408) (fun s k hl => ?_)
  have hs := s.isLt
  refine congr (congrArg₂ (term _ _) (Fin.ext ?_) (Fin.ext ?_)) (Fin.ext ?_)
  · show 0 * 2048 + r.val = 0 * 2048 + r.val
    omega
  · show (4 * q + s.val) / 4 * 512 + l.val = (4 * q + 3) / 4 * 512 + l.val
    omega
  · show (4 * q + s.val) % 4 * 1408 + k.val = s.val * 1408 + k.val
    omega

/-- What a writing grid point writes back is its block of the reference's result. -/
theorem flushed_eq (c : Dev nD) (t : Fin cfg0.N) (hf : (cfg0.win 2).flush t = true) :
    (dats m 0 c).flushed 2 t = ((cfg0.win 2).blk t).view.read (Elt Ideal) (goal m c) := by
  have hm : t.val % 4 = 3 := (flush0_2 t).mp hf
  rw [Value.flushed2_C m c t (by omega) (by omega) hm, out_C]
  funext j
  obtain ⟨r, l, rfl⟩ : ∃ (r : Fin 2048) (l : Fin 512), j = ix2 r l := ⟨j 0, j 1, by idx_ext⟩
  rw [View.read_apply, emb2]
  refine Eq.trans ?_ (ref _ _ _ _).symm
  rw [← total m c t (t.val / 4) (by omega) r l]
  rfl

/-- The blocks written back tile window 2's array. -/
theorem cover2 (i : S2048x2048.Idx) :
    ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have hN : cfg0.N = 16 := N_0
  obtain ⟨t, ht⟩ : ∃ t : Fin cfg0.N, t.val = (i 1 : Nat) / 512 * 4 + (i 0 : Nat) / 2048 * 4 + 3 := ⟨⟨_, by omega⟩, rfl⟩
  refine ⟨t, (flush0_2 _).mpr (by omega), ?_⟩
  show i ∈ ((View.whole main_v3).slice (win0_2.rect t)).set
  rw [View.set_slice_whole, Rect.mem_set_unit]
  have h := idx2 t
  intro a
  match a with
  | ⟨0, _⟩ =>
    show win0_2.index t 0 * 2048 ≤ (i 0 : Nat) ∧ (i 0 : Nat) < win0_2.index t 0 * 2048 + 2048
    rw [h.1]; omega
  | ⟨1, _⟩ =>
    show win0_2.index t 1 * 512 ≤ (i 1 : Nat) ∧ (i 1 : Nat) < win0_2.index t 1 * 512 + 512
    rw [h.2]; omega

/-- After the region the result's array holds the reference's result. -/
theorem final (c : Dev nD) : (dats m 0 c).arrAt 2 cfg0.N = goal m c :=
  (dats m 0 c).arrAt_eq_of_cover 2 (goal m c) (fun t hf => flushed_eq m c t hf) cover2

end Cert.DnIdeal.Val

namespace Cert.Claims

/-- The product that starts the gradient of the normalised state and its reference end with equal results. -/
theorem dn : Cert.algebraic_DnIdeal_DnRefIdeal (hDnIdeal := Cert.DnIdeal.Gen.facts)
    (hDnRefIdeal := Cert.DnRefIdeal.Gen.facts) := by
  intro m g m' g' _ hargs
  refine ⟨fun c => Cert.DnIdeal.Val.goal m c,
    (θ_run _ _ _).mono (fun r h c => ⟨(h c).1.trans (Cert.DnIdeal.Val.final m c), (h c).2⟩) (Cert.DnIdeal.Value.run_blocks m g),
    (θ_run _ _ _).mono (fun r h c => ⟨(h c).1.trans ?_, (h c).2⟩) (Cert.DnRefIdeal.Value.run m' g')⟩
  rw [(hargs c).1, (hargs c).2]
  exact Cert.DnRefIdeal.Read.val_main_v5_eq _ _

end Cert.Claims
-- ==== Proof.DnAccVal.lean ====
/-
  The second product of the backward of the two up products, added to the first one, and its reference.
-/
module

public import proofs.«01_k».proof.Defs
public import proofs.«01_k».proof.Proof.Gen.DnAccIdeal.Value
public import proofs.«01_k».proof.Proof.Gen.DnAccRefIdeal.Read
public import proofs.«01_k».proof.Proof.Consts
public import Idealize.ShloMosaic.Lib.Pipeline.ValueKit.Acc
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DnAccIdeal.Val

open Cert.DnAccIdeal Cert.DnAccIdeal.Gen

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Where window 0's block lies at a grid point. -/
theorem idx0 : ∀ t : Fin cfg0.N, win0_0.index t 0 = t.val / 4 % 2 ∧ win0_0.index t 1 = t.val % 4 :=
  (by decide +kernel : ∀ t : Fin grid0.N, win0_0.index t 0 = t.val / 4 % 2 ∧ win0_0.index t 1 = t.val % 4)

/-- Where window 1's block lies at a grid point. -/
theorem idx1 : ∀ t : Fin cfg0.N, win0_1.index t 0 = t.val % 4 ∧ win0_1.index t 1 = 0 ∧ win0_1.index t 2 = 0 ∧ win0_1.index t 3 = t.val / 8 ∧ win0_1.index t 4 = 0 :=
  (by decide +kernel : ∀ t : Fin grid0.N, win0_1.index t 0 = t.val % 4 ∧ win0_1.index t 1 = 0 ∧ win0_1.index t 2 = 0 ∧ win0_1.index t 3 = t.val / 8 ∧ win0_1.index t 4 = 0)

/-- Where window 2's block lies at a grid point. -/
theorem idx2 : ∀ t : Fin cfg0.N, win0_2.index t 0 = t.val / 4 % 2 ∧ win0_2.index t 1 = t.val / 8 :=
  (by decide +kernel : ∀ t : Fin grid0.N, win0_2.index t 0 = t.val / 4 % 2 ∧ win0_2.index t 1 = t.val / 8)

/-- Where window 3's block lies at a grid point. -/
theorem idx3 : ∀ t : Fin cfg0.N, win0_3.index t 0 = t.val / 4 % 2 ∧ win0_3.index t 1 = t.val / 8 :=
  (by decide +kernel : ∀ t : Fin grid0.N, win0_3.index t 0 = t.val / 4 % 2 ∧ win0_3.index t 1 = t.val / 8)

/-- The array the weight window stages: the weight cut into four column groups. -/
theorem V_main_v2 (c : Dev nD) (a : Fin 4) (k : Fin 2048) (l : Fin 1408) :
    V m c main_v2 (ix5 a (0 : Fin 4) (0 : Fin 2) k l)
      = m ((c : Thread nD τ).loc main_arg1) (ix4 (0 : Fin 4) (0 : Fin 2) k (⟨a.val * 1408 + l.val, by omega⟩ : Fin 5632)) := by
  unfold V
  after_reads_at

/-- Window 0's block at a grid point, read at an index. -/
theorem blk0 (c : Dev nD) (t : Fin cfg0.N) (r : Fin 1024) (x : Fin 1408) :
    iblk m c 0 t (ix2 r x) = m ((c : Thread nD τ).loc main_arg0) (ix2 (⟨t.val / 4 % 2 * 1024 + r.val, by have := t.isLt; have : cfg0.N = 16 := N_0; omega⟩ : Fin 2048) (⟨t.val % 4 * 1408 + x.val, by have := t.isLt; have : cfg0.N = 16 := N_0; omega⟩ : Fin 5632)) := by
  have hN : t.val < 16 := by have := t.isLt; have : cfg0.N = 16 := N_0; omega
  rw [← V_main_arg0 m c]
  unfold iblk
  rw [View.read_apply]
  refine congrArg (V m c main_arg0) (funext fun a => Fin.ext ?_)
  have h := idx0 t
  match a with
  | ⟨0, _⟩ => show win0_0.index t 0 * 1024 + 1 * r.val = t.val / 4 % 2 * 1024 + r.val; rw [h.1] <;> omega
  | ⟨1, _⟩ => show win0_0.index t 1 * 1408 + 1 * x.val = t.val % 4 * 1408 + x.val; rw [h.2] <;> omega

/-- Window 1's block at a grid point, read at an index. -/
theorem blk1 (c : Dev nD) (t : Fin cfg0.N) (l : Fin 1024) (x : Fin 1408) :
    iblk m c 1 t (ix5 0 0 0 l x) = m ((c : Thread nD τ).loc main_arg1) (ix4 (0 : Fin 4) (0 : Fin 2) (⟨t.val / 8 * 1024 + l.val, by have := t.isLt; have : cfg0.N = 16 := N_0; omega⟩ : Fin 2048) (⟨t.val % 4 * 1408 + x.val, by have := t.isLt; have : cfg0.N = 16 := N_0; omega⟩ : Fin 5632)) := by
  have hN : t.val < 16 := by have := t.isLt; have : cfg0.N = 16 := N_0; omega
  rw [← V_main_v2 m c (⟨t.val % 4, by omega⟩ : Fin 4) (⟨t.val / 8 * 1024 + l.val, by omega⟩ : Fin 2048) x]
  unfold iblk
  rw [View.read_apply]
  refine congrArg (V m c main_v2) (funext fun a => Fin.ext ?_)
  have h := idx1 t
  match a with
  | ⟨0, _⟩ => show win0_1.index t 0 * 1 + 1 * 0 = t.val % 4; rw [h.1] <;> omega
  | ⟨1, _⟩ => show win0_1.index t 1 * 1 + 1 * 0 = 0; rw [h.2.1] <;> omega
  | ⟨2, _⟩ => show win0_1.index t 2 * 1 + 1 * 0 = 0; rw [h.2.2.1] <;> omega
  | ⟨3, _⟩ => show win0_1.index t 3 * 1024 + 1 * l.val = t.val / 8 * 1024 + l.val; rw [h.2.2.2.1] <;> omega
  | ⟨4, _⟩ => show win0_1.index t 4 * 1408 + 1 * x.val = x.val; rw [h.2.2.2.2] <;> omega

/-- Window 2's block at a grid point, read at an index. -/
theorem blk2 (c : Dev nD) (t : Fin cfg0.N) (r : Fin 1024) (l : Fin 1024) :
    iblk m c 2 t (ix2 r l) = m ((c : Thread nD τ).loc main_arg2) (ix2 (⟨t.val / 4 % 2 * 1024 + r.val, by have := t.isLt; have : cfg0.N = 16 := N_0; omega⟩ : Fin 2048) (⟨t.val / 8 * 1024 + l.val, by have := t.isLt; have : cfg0.N = 16 := N_0; omega⟩ : Fin 2048)) := by
  have hN : t.val < 16 := by have := t.isLt; have : cfg0.N = 16 := N_0; omega
  rw [← V_main_arg2 m c]
  unfold iblk
  rw [View.read_apply]
  refine congrArg (V m c main_arg2) (funext fun a => Fin.ext ?_)
  have h := idx2 t
  match a with
  | ⟨0, _⟩ => show win0_2.index t 0 * 1024 + 1 * r.val = t.val / 4 % 2 * 1024 + r.val; rw [h.1] <;> omega
  | ⟨1, _⟩ => show win0_2.index t 1 * 1024 + 1 * l.val = t.val / 8 * 1024 + l.val; rw [h.2] <;> omega

/-- Where an index of window 3's block lies in its array. -/
theorem emb3 (t : Fin cfg0.N) (r : Fin 1024) (l : Fin 1024) : ((cfg0.win 3).blk t).view.emb (ix2 r l) = ix2 (⟨t.val / 4 % 2 * 1024 + r.val, by have := t.isLt; have : cfg0.N = 16 := N_0; omega⟩ : Fin 2048) (⟨t.val / 8 * 1024 + l.val, by have := t.isLt; have : cfg0.N = 16 := N_0; omega⟩ : Fin 2048) := by
  refine funext fun a => Fin.ext ?_
  have h := idx3 t
  match a with
  | ⟨0, _⟩ => show win0_3.index t 0 * 1024 + 1 * r.val = t.val / 4 % 2 * 1024 + r.val; rw [h.1] <;> omega
  | ⟨1, _⟩ => show win0_3.index t 1 * 1024 + 1 * l.val = t.val / 8 * 1024 + l.val; rw [h.2] <;> omega

/-- The body's partial product at an index. -/
theorem pay1 (x0 : Vec Ideal S1024x1408 .bf16) (x1 : Vec Ideal S1x1x1x1024x1408 .bf16) (r : Fin 1024) (l : Fin 1024) :
    k0_pay1 x0 x1 (ix2 r l) = ∑ x : Fin 1408, x0 (ix2 r x) * x1 (ix5 0 0 0 l x) := by
  pointwise [k0_pay1]

/-- What the first contraction step leaves in the scratch. -/
theorem sout_A (c : Dev nD) (i : grid0.Coords) (arg3 : Memref sig .tc .vmem S1024x1408 .bf16) (harg3 : arg3.IsWhole) (arg4 : Memref sig .tc .vmem S1x1x1x1024x1408 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (h0 : cond0_0 i) (h1 : ¬cond0_1 i) (h2 : ¬cond0_2 i) (x0 : Vec Ideal S1024x1408 .bf16) (x1 : Vec Ideal S1x1x1x1024x1408 .bf16) (x2 : Vec Ideal S1024x1024 .f32) :
    sout0_A_0 c i arg3 harg3 arg4 harg4 arg5 harg5 arg6 harg6 arg7 harg7 h0 h1 h2 x0 x1 x2 = k0_pay1 x0 x1 := by
  unfold sout0_A_0
  rw [View.read_writes_eq_canon _ _ _ (scover0_A_0 c i arg3 harg3 arg4 harg4 arg5 harg5 arg6 harg6 arg7 harg7 h0 h1 h2 x0 x1 x2)]
  unfold kernelRun0_A
  dsimp only
  sl_unfold_words
  rw [View.canon_unit_zero hz2]
  unfold k0_pay2
  simp only [View.readAt_eq_ld, harg3.read_unread, harg4.read_unread, harg5.read_unread, harg7.read_unread, View.ld_unit_zero (S := S1024x1408) hz2, View.ld_unit_zero (S := S1x1x1x1024x1408) hz5, shapeCast_self]

/-- What a middle contraction step leaves in the scratch. -/
theorem sout_B (c : Dev nD) (i : grid0.Coords) (arg3 : Memref sig .tc .vmem S1024x1408 .bf16) (harg3 : arg3.IsWhole) (arg4 : Memref sig .tc .vmem S1x1x1x1024x1408 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (h0 : ¬cond0_0 i) (h1 : cond0_1 i) (h2 : ¬cond0_2 i) (x0 : Vec Ideal S1024x1408 .bf16) (x1 : Vec Ideal S1x1x1x1024x1408 .bf16) (x2 : Vec Ideal S1024x1024 .f32) (xs : Vec Ideal S1024x1024 .f32) :
    sout0_B_0 c i arg3 harg3 arg4 harg4 arg5 harg5 arg6 harg6 arg7 harg7 h0 h1 h2 x0 x1 x2 xs = addf xs (k0_pay1 x0 x1) := by
  unfold sout0_B_0
  rw [View.read_writes_eq_canon _ _ _ (scover0_B_0 c i arg3 harg3 arg4 harg4 arg5 harg5 arg6 harg6 arg7 harg7 h0 h1 h2 x0 x1 x2 xs)]
  unfold kernelRun0_B
  dsimp only
  sl_unfold_words
  rw [View.canon_unit_zero hz2]
  unfold k0_pay3
  simp only [View.readAt_eq_ld, harg3.read_unread, harg4.read_unread, harg5.read_unread, harg7.read_unread, View.ld_unit_zero (S := S1024x1408) hz2, View.ld_unit_zero (S := S1x1x1x1024x1408) hz5, View.ld_unit_zero (S := S1024x1024) hz2, shapeCast_self]

/-- What the last contraction step leaves in the result's buffer. -/
theorem out_C (c : Dev nD) (i : grid0.Coords) (arg3 : Memref sig .tc .vmem S1024x1408 .bf16) (harg3 : arg3.IsWhole) (arg4 : Memref sig .tc .vmem S1x1x1x1024x1408 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (h0 : ¬cond0_0 i) (h1 : cond0_1 i) (h2 : cond0_2 i) (x0 : Vec Ideal S1024x1408 .bf16) (x1 : Vec Ideal S1x1x1x1024x1408 .bf16) (x2 : Vec Ideal S1024x1024 .f32) (xs : Vec Ideal S1024x1024 .f32) :
    out0_C_3 c i arg3 harg3 arg4 harg4 arg5 harg5 arg6 harg6 arg7 harg7 h0 h1 h2 x0 x1 x2 xs = k0_pay4 (addf xs (k0_pay1 x0 x1)) x2 := by
  unfold out0_C_3
  rw [View.read_writes_eq_canon _ _ _ (cover0_C_3 c i arg3 harg3 arg4 harg4 arg5 harg5 arg6 harg6 arg7 harg7 h0 h1 h2 x0 x1 x2 xs)]
  unfold kernelRun0_C
  dsimp only
  sl_unfold_words
  rw [View.canon_unit_zero hz2]
  try rw [View.readCov_unit_zero (S := S1024x1024) _ hz2]
  unfold k0_pay3
  simp only [View.readAt_eq_ld, harg3.read_unread, harg4.read_unread, harg5.read_unread, harg7.read_unread, View.ld_unit_zero (S := S1024x1408) hz2, View.ld_unit_zero (S := S1x1x1x1024x1408) hz5, View.ld_unit_zero (S := S1024x1024) hz2, shapeCast_self]

/-- A grid point's partial product at an index of its block. -/
def part (c : Dev nD) (n : ℕ) (h : n < cfg0.N) (r : Fin 1024) (l : Fin 1024) : EReal :=
  k0_pay1 (iblk m c 0 ⟨n, h⟩) (iblk m c 1 ⟨n, h⟩) (ix2 r l)

/-- The scratch after a first step. -/
theorem scr_A (c : Dev nD) (n : ℕ) (h : n < cfg0.N) (hm : n % 4 = 0) (r : Fin 1024) (l : Fin 1024) :
    (outsAt0 m c n h).2 (ix2 r l) = part m c n h r l := by
  rw [outsAt0_A m c ⟨n, h⟩ hm (by dsimp only; omega) (by dsimp only; omega)]
  dsimp only
  rw [sout_A]
  rfl

/-- The scratch after a middle step. -/
theorem scr_B (c : Dev nD) (n : ℕ) (h : n + 1 < cfg0.N) (hm : (n + 1) % 4 = 1 ∨ (n + 1) % 4 = 2) (r : Fin 1024) (l : Fin 1024) :
    (outsAt0 m c (n + 1) h).2 (ix2 r l) = (outsAt0 m c n (Nat.lt_of_succ_lt h)).2 (ix2 r l) + part m c (n + 1) h r l := by
  rw [outsAt0_B m c ⟨n + 1, h⟩ (by dsimp only; omega) (by dsimp only; omega) (by dsimp only; omega)]
  dsimp only
  rw [sout_B]
  rfl

/-- The sum of the four steps that end at a writing point. -/
theorem sum4 (c : Dev nD) (q : ℕ) (h : 4 * q + 3 < cfg0.N) (r : Fin 1024) (l : Fin 1024) :
    (outsAt0 m c (4 * q + 2) (by omega)).2 (ix2 r l) + part m c (4 * q + 3) h r l
      = ∑ k : Fin 4, part m c (4 * q + k.val) (by omega) r l := by
  rw [Fin.sum_univ_four, scr_B m c (4 * q + 1) (by omega) (by omega), scr_B m c (4 * q) (by omega) (by omega), scr_A m c (4 * q) (by omega) (by omega)]
  rfl

/-- One term of the whole product. -/
def term (x0 : Vec Ideal S2048x5632 .bf16) (x1 : Vec Ideal S4x2x2048x5632 .f32) (r l : Fin 2048) (x : Fin 5632) : EReal :=
  x0 (ix2 r x) * x1 (ix4 (0 : Fin 4) (0 : Fin 2) l x)

/-- The whole product at an index. -/
def prod (x0 : Vec Ideal S2048x5632 .bf16) (x1 : Vec Ideal S4x2x2048x5632 .f32) (r l : Fin 2048) : EReal :=
  ∑ x : Fin 5632, term x0 x1 r l x

/-- A grid point's partial product over the arguments. -/
theorem part_eq (c : Dev nD) (t : Fin cfg0.N) (r : Fin 1024) (l : Fin 1024) :
    part m c t.val t.isLt r l = ∑ x : Fin 1408,
      term (m ((c : Thread nD τ).loc main_arg0)) (m ((c : Thread nD τ).loc main_arg1)) (⟨t.val / 4 % 2 * 1024 + r.val, by have := t.isLt; have : cfg0.N = 16 := N_0; omega⟩ : Fin 2048)
        (⟨t.val / 8 * 1024 + l.val, by have := t.isLt; have : cfg0.N = 16 := N_0; omega⟩ : Fin 2048) (⟨t.val % 4 * 1408 + x.val, by have := t.isLt; have : cfg0.N = 16 := N_0; omega⟩ : Fin 5632) := by
  unfold part
  rw [pay1]
  exact Finset.sum_congr rfl fun x _ => by rw [blk0, blk1]; rfl

/-- The reference's result at an index. -/
theorem ref (x0 : Vec Ideal S2048x5632 .bf16) (x1 : Vec Ideal S4x2x2048x5632 .f32) (x2 : Vec Ideal S2048x2048 .f32) (r l : Fin 2048) :
    Cert.DnAccRefIdeal.Read.val_main_v6 (F := Ideal) x0 x1 x2 (ix2 r l) = x2 (ix2 r l) + prod x0 x1 r l := by
  rw [← Cert.DnAccRefIdeal.Read.val_main_v6_eq]
  pointwise [prod, term]

/-- The reference's result on a device's arguments. -/
abbrev goal (c : Dev nD) : Buf (Elt Ideal) ((c : Thread nD τ).loc main_v3) :=
  Cert.DnAccRefIdeal.Read.val_main_v6 (F := Ideal) (m ((c : Thread nD τ).loc main_arg0)) (m ((c : Thread nD τ).loc main_arg1)) (m ((c : Thread nD τ).loc main_arg2))

/-- The four partial products of a block add up to the whole product. -/
theorem total (c : Dev nD) (t : Fin cfg0.N) (q : ℕ) (hq : t.val = 4 * q + 3) (r : Fin 1024) (l : Fin 1024) :
    (outsAt0 m c (t.val - 1) (Nat.lt_of_le_of_lt (Nat.sub_le _ _) t.isLt)).2 (ix2 r l) + part m c t.val t.isLt r l
      = prod (m ((c : Thread nD τ).loc main_arg0)) (m ((c : Thread nD τ).loc main_arg1)) (⟨t.val / 4 % 2 * 1024 + r.val, by have := t.isLt; have : cfg0.N = 16 := N_0; omega⟩ : Fin 2048) (⟨t.val / 8 * 1024 + l.val, by have := t.isLt; have : cfg0.N = 16 := N_0; omega⟩ : Fin 2048) := by
  obtain ⟨n, hn⟩ := t
  dsimp only at hq
  subst hq
  have hN : cfg0.N = 16 := N_0
  refine (sum4 m c q hn r l).trans ?_
  unfold prod
  refine Eq.trans (Finset.sum_congr rfl fun k _ => part_eq m c ⟨4 * q + k.val, by omega⟩ r l) ?_
  refine Fin.sum_mul_add_congr (S := 4) (n := 1408) (fun s k hl => ?_)
  have hs := s.isLt
  refine congr (congrArg₂ (term _ _) (Fin.ext ?_) (Fin.ext ?_)) (Fin.ext ?_)
  · show (4 * q + s.val) / 4 % 2 * 1024 + r.val = (4 * q + 3) / 4 % 2 * 1024 + r.val
    omega
  · show (4 * q + s.val) / 8 * 1024 + l.val = (4 * q + 3) / 8 * 1024 + l.val
    omega
  · show (4 * q + s.val) % 4 * 1408 + k.val = s.val * 1408 + k.val
    omega

/-- What a writing grid point writes back is its block of the reference's result. -/
theorem flushed_eq (c : Dev nD) (t : Fin cfg0.N) (hf : (cfg0.win 3).flush t = true) :
    (dats m 0 c).flushed 3 t = ((cfg0.win 3).blk t).view.read (Elt Ideal) (goal m c) := by
  have hm : t.val % 4 = 3 := (flush0_3 t).mp hf
  rw [Value.flushed3_C m c t (by omega) (by omega) hm, out_C]
  funext j
  obtain ⟨r, l, rfl⟩ : ∃ (r : Fin 1024) (l : Fin 1024), j = ix2 r l := ⟨j 0, j 1, by idx_ext⟩
  rw [View.read_apply, emb3]
  refine Eq.trans ?_ (ref _ _ _ _ _).symm
  rw [← total m c t (t.val / 4) (by omega) r l]
  rw [← blk2 m c t r l]
  refine Eq.trans ?_ (add_comm _ _)
  exact rfl

/-- The blocks written back tile window 3's array. -/
theorem cover3 (i : S2048x2048.Idx) :
    ∃ t : Fin cfg0.N, (cfg0.win 3).flush t = true ∧ i ∈ ((cfg0.win 3).blk t).view.set := by
  have h0 : (i 0 : Nat) < 2048 := (i 0).isLt
  have h1 : (i 1 : Nat) < 2048 := (i 1).isLt
  have hN : cfg0.N = 16 := N_0
  obtain ⟨t, ht⟩ : ∃ t : Fin cfg0.N, t.val = (i 1 : Nat) / 1024 * 8 + (i 0 : Nat) / 1024 * 4 + 3 := ⟨⟨_, by omega⟩, rfl⟩
  refine ⟨t, (flush0_3 _).mpr (by omega), ?_⟩
  show i ∈ ((View.whole main_v3).slice (win0_3.rect t)).set
  rw [View.set_slice_whole, Rect.mem_set_unit]
  have h := idx3 t
  intro a
  match a with
  | ⟨0, _⟩ =>
    show win0_3.index t 0 * 1024 ≤ (i 0 : Nat) ∧ (i 0 : Nat) < win0_3.index t 0 * 1024 + 1024
    rw [h.1]; omega
  | ⟨1, _⟩ =>
    show win0_3.index t 1 * 1024 ≤ (i 1 : Nat) ∧ (i 1 : Nat) < win0_3.index t 1 * 1024 + 1024
    rw [h.2]; omega

/-- After the region the result's array holds the reference's result. -/
theorem final (c : Dev nD) : (dats m 0 c).arrAt 3 cfg0.N = goal m c :=
  (dats m 0 c).arrAt_eq_of_cover 3 (goal m c) (fun t hf => flushed_eq m c t hf) cover3

end Cert.DnAccIdeal.Val

namespace Cert.Claims

/-- The product that completes the gradient of the normalised state and its reference end with equal results. -/
theorem dnacc : Cert.algebraic_DnAccIdeal_DnAccRefIdeal (hDnAccIdeal := Cert.DnAccIdeal.Gen.facts)
    (hDnAccRefIdeal := Cert.DnAccRefIdeal.Gen.facts) := by
  intro m g m' g' _ hargs
  refine ⟨fun c => Cert.DnAccIdeal.Val.goal m c,
    (θ_run _ _ _).mono (fun r h c => ⟨(h c).1.trans (Cert.DnAccIdeal.Val.final m c), (h c).2⟩) (Cert.DnAccIdeal.Value.run_blocks m g),
    (θ_run _ _ _).mono (fun r h c => ⟨(h c).1.trans ?_, (h c).2⟩) (Cert.DnAccRefIdeal.Value.run m' g')⟩
  rw [(hargs c).1, (hargs c).2.1, (hargs c).2.2]
  exact Cert.DnAccRefIdeal.Read.val_main_v6_eq _ _ _

end Cert.Claims
-- ==== Proof.RmsBwdVal.lean ====
/-
  The gradient of the root mean square normalisation and its reference: the gradient of the state block by block, the gradient of the gain accumulated over the grid.
-/
module

public import proofs.«01_k».proof.Defs
public import proofs.«01_k».proof.Proof.Gen.RmsBwdIdeal.Value
public import proofs.«01_k».proof.Proof.Gen.RmsBwdRefIdeal.Read
public import proofs.«01_k».proof.Proof.Consts
public import proofs.«01_k».proof.Proof.Finite
public import Idealize.ShloMosaic.Lib.Pipeline.ValueKit.Acc
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.RmsBwdIdeal.Val

open Cert.RmsBwdIdeal Cert.RmsBwdIdeal.Gen

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Where window 0's block lies at a grid point. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Where window 1's block lies at a grid point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Where window 2's block lies at a grid point. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Where window 3's block lies at a grid point. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Where window 4's block lies at a grid point. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Where window 5's block lies at a grid point. -/
theorem idx5 : ∀ t : Fin cfg0.N, win0_5.index t 0 = 0 ∧ win0_5.index t 1 = 0 :=
  (by decide +kernel : ∀ t : Fin grid0.N, win0_5.index t 0 = 0 ∧ win0_5.index t 1 = 0)

/-- The gain as a row. -/
theorem V_main_v0 (c : Dev nD) (l : Fin 2048) :
    V m c main_v0 (ix2 (0 : Fin 1) l) = m ((c : Thread nD τ).loc main_arg1) (ix1 l) := by
  unfold V
  after_reads_at

/-- Window 0's block at a grid point, read at an index. -/
theorem blk0 (c : Dev nD) (t : Fin cfg0.N) (r : Fin 128) (l : Fin 2048) :
    iblk m c 0 t (ix2 r l) = m ((c : Thread nD τ).loc main_arg0) (ix2 (⟨t.val * 128 + r.val, by have := t.isLt; have : cfg0.N = 16 := N_0; omega⟩ : Fin 2048) l) := by
  have hN : t.val < 16 := by have := t.isLt; have : cfg0.N = 16 := N_0; omega
  rw [← V_main_arg0 m c]
  unfold iblk
  rw [View.read_apply]
  refine congrArg (V m c main_arg0) (funext fun a => Fin.ext ?_)
  have h := idx0 t
  match a with
  | ⟨0, _⟩ => show win0_0.index t 0 * 128 + 1 * r.val = t.val * 128 + r.val; rw [h.1] <;> omega
  | ⟨1, _⟩ => show win0_0.index t 1 * 2048 + 1 * l.val = l.val; rw [h.2] <;> omega

/-- Window 2's block at a grid point, read at an index. -/
theorem blk2 (c : Dev nD) (t : Fin cfg0.N) (r : Fin 128) (l : Fin 2048) :
    iblk m c 2 t (ix2 r l) = m ((c : Thread nD τ).loc main_arg2) (ix2 (⟨t.val * 128 + r.val, by have := t.isLt; have : cfg0.N = 16 := N_0; omega⟩ : Fin 2048) l) := by
  have hN : t.val < 16 := by have := t.isLt; have : cfg0.N = 16 := N_0; omega
  rw [← V_main_arg2 m c]
  unfold iblk
  rw [View.read_apply]
  refine congrArg (V m c main_arg2) (funext fun a => Fin.ext ?_)
  have h := idx2 t
  match a with
  | ⟨0, _⟩ => show win0_2.index t 0 * 128 + 1 * r.val = t.val * 128 + r.val; rw [h.1] <;> omega
  | ⟨1, _⟩ => show win0_2.index t 1 * 2048 + 1 * l.val = l.val; rw [h.2] <;> omega

/-- Window 3's block at a grid point, read at an index. -/
theorem blk3 (c : Dev nD) (t : Fin cfg0.N) (r : Fin 128) (l : Fin 2048) :
    iblk m c 3 t (ix2 r l) = m ((c : Thread nD τ).loc main_arg3) (ix2 (⟨t.val * 128 + r.val, by have := t.isLt; have : cfg0.N = 16 := N_0; omega⟩ : Fin 2048) l) := by
  have hN : t.val < 16 := by have := t.isLt; have : cfg0.N = 16 := N_0; omega
  rw [← V_main_arg3 m c]
  unfold iblk
  rw [View.read_apply]
  refine congrArg (V m c main_arg3) (funext fun a => Fin.ext ?_)
  have h := idx3 t
  match a with
  | ⟨0, _⟩ => show win0_3.index t 0 * 128 + 1 * r.val = t.val * 128 + r.val; rw [h.1] <;> omega
  | ⟨1, _⟩ => show win0_3.index t 1 * 2048 + 1 * l.val = l.val; rw [h.2] <;> omega

/-- Window 1's block at a grid point, read at an index. -/
theorem blk1 (c : Dev nD) (t : Fin cfg0.N) (l : Fin 2048) :
    iblk m c 1 t (ix2 0 l) = m ((c : Thread nD τ).loc main_arg1) (ix1 l) := by
  have hN : t.val < 16 := by have := t.isLt; have : cfg0.N = 16 := N_0; omega
  rw [← V_main_v0 m c l]
  unfold iblk
  rw [View.read_apply]
  refine congrArg (V m c main_v0) (funext fun a => Fin.ext ?_)
  have h := idx1 t
  match a with
  | ⟨0, _⟩ => show win0_1.index t 0 * 1 + 1 * 0 = 0; rw [h.1] <;> omega
  | ⟨1, _⟩ => show win0_1.index t 1 * 2048 + 1 * l.val = l.val; rw [h.2] <;> omega

/-- Where an index of window 4's block lies in its array. -/
theorem emb4 (t : Fin cfg0.N) (r : Fin 128) (l : Fin 2048) : ((cfg0.win 4).blk t).view.emb (ix2 r l) = ix2 (⟨t.val * 128 + r.val, by have := t.isLt; have : cfg0.N = 16 := N_0; omega⟩ : Fin 2048) l := by
  refine funext fun a => Fin.ext ?_
  have h := idx4 t
  match a with
  | ⟨0, _⟩ => show win0_4.index t 0 * 128 + 1 * r.val = t.val * 128 + r.val; rw [h.1] <;> omega
  | ⟨1, _⟩ => show win0_4.index t 1 * 2048 + 1 * l.val = l.val; rw [h.2] <;> omega

/-- Where an index of window 5's block lies in its array. -/
theorem emb5 (t : Fin cfg0.N) (l : Fin 2048) : ((cfg0.win 5).blk t).view.emb (ix2 0 l) = ix2 0 l := by
  refine funext fun a => Fin.ext ?_
  have h := idx5 t
  match a with
  | ⟨0, _⟩ => show win0_5.index t 0 * 1 + 1 * 0 = 0; rw [h.1] <;> omega
  | ⟨1, _⟩ => show win0_5.index t 1 * 2048 + 1 * l.val = l.val; rw [h.2] <;> omega

/-- The inverse root mean square of a row. -/
def rms (x : Fin 2048 → EReal) : EReal :=
  Ideal.rsqrt (Ideal.div (∑ k, x k * x k) (Ideal.ofBits .f32 0x45000000#32) + Ideal.ofBits .f32 0x358637BD#32)

/-- The gradient of the state at one place, as the kernel writes it. -/
def kern (x g d : Fin 2048 → EReal) (h : EReal) (l : Fin 2048) : EReal :=
  h + rms x * (d l * g l - x l * rms x * Ideal.div (∑ k, d k * g k * (x k * rms x)) (Ideal.ofBits .f32 0x45000000#32))

/-- The gradient of the state at one place, as the derivative of the reference's lines. -/
def deriv (x g d : Fin 2048 → EReal) (h : EReal) (l : Fin 2048) : EReal :=
  h + d l * g l * rms x
    + x l * (∑ _x : Fin 1, Ideal.div ((∑ k, x k * (d k * g k)) * (Ideal.ofBits .f32 0xBF000000#32 * Ideal.div (rms x)
        (Ideal.div (∑ k, x k * x k) (Ideal.ofBits .f32 0x45000000#32) + Ideal.ofBits .f32 0x358637BD#32))) (Ideal.ofBits .f32 0x45000000#32))
    + (∑ _x : Fin 1, Ideal.div ((∑ k, x k * (d k * g k)) * (Ideal.ofBits .f32 0xBF000000#32 * Ideal.div (rms x)
        (Ideal.div (∑ k, x k * x k) (Ideal.ofBits .f32 0x45000000#32) + Ideal.ofBits .f32 0x358637BD#32))) (Ideal.ofBits .f32 0x45000000#32)) * x l

/-- The identity of the two forms over the reals. -/
theorem real_form (h d g x S T r : ℝ) (hr : r * r * T = 1) (hT : T ≠ 0) :
    h + r * (d * g - x * r * (r * S * (1 / 2048)))
      = h + d * g * r + x * (S * (-(1 / 2) * (r * (1 / T))) * (1 / 2048)) + S * (-(1 / 2) * (r * (1 / T))) * (1 / 2048) * x := by
  have h3 : r * (1 / T) = r * r * r := by
    field_simp
    linear_combination (-r) * hr
  rw [h3]
  ring

/-- The two forms agree at reals. -/
theorem kern_deriv (x g d : Fin 2048 → EReal) (h : EReal) (l : Fin 2048) (hx : ∀ k, ∃ a : ℝ, x k = (a : EReal))
    (hg : ∀ k, ∃ a : ℝ, g k = (a : EReal)) (hd : ∀ k, ∃ a : ℝ, d k = (a : EReal)) (hh : ∃ a : ℝ, h = (a : EReal)) :
    kern x g d h l = deriv x g d h l := by
  choose X hX using hx
  choose G hG using hg
  choose D hD using hd
  obtain ⟨H, rfl⟩ := hh
  obtain rfl : x = fun k => (X k : EReal) := funext hX
  obtain rfl : g = fun k => (G k : EReal) := funext hG
  obtain rfl : d = fun k => (D k : EReal) := funext hD
  obtain ⟨e, he, hew⟩ := Cert.Facts.eps_word
  have hT : 0 < (∑ k, X k * X k) * (1 / 2048) + e :=
    add_pos_of_nonneg_of_pos (mul_nonneg (Finset.sum_nonneg fun k _ => mul_self_nonneg _) (by norm_num)) he
  have hrs : rms (fun k => (X k : EReal)) = (((Real.sqrt ((∑ k, X k * X k) * (1 / 2048) + e))⁻¹ : ℝ) : EReal) := by
    unfold rms
    rw [Cert.Facts.width_word, hew]
    simp only [← EReal.coe_mul, Cert.Facts.coe_sum]
    rw [Ideal.div_coe (by norm_num), ← EReal.coe_mul, ← EReal.coe_add, Cert.Facts.rsqrt_pos _ hT]
  unfold kern deriv
  rw [hrs, Cert.Facts.width_word, hew, Cert.Facts.neg_half_word]
  have hrT := Cert.Facts.inv_sqrt_sq _ hT
  generalize (Real.sqrt ((∑ k, X k * X k) * (1 / 2048) + e))⁻¹ = r at hrT ⊢
  simp only [← EReal.coe_mul, Cert.Facts.coe_sum, Ideal.div_coe (show (2048 : ℝ) ≠ 0 by norm_num), ← EReal.coe_add, ← EReal.coe_sub,
    Ideal.div_coe hT.ne', Finset.univ_unique, Finset.sum_singleton]
  refine congrArg _ ?_
  have hS : ∑ k, D k * G k * (X k * r) = r * ∑ k, X k * (D k * G k) := by
    rw [Finset.mul_sum]
    exact Finset.sum_congr rfl fun k _ => by ring
  rw [hS]
  exact real_form _ _ _ _ _ _ _ hrT hT.ne'

/-- The reference's first result at an index. -/
theorem ref36 (x0 : Vec Ideal S2048x2048 .f32) (x1 : Vec Ideal S2048 .f32) (x2 x3 : Vec Ideal S2048x2048 .f32) (r l : Fin 2048) :
    Cert.RmsBwdRefIdeal.Read.val_main_v36 (F := Ideal) x0 x1 x2 x3 (ix2 r l)
      = deriv (fun k => x0 (ix2 r k)) (fun k => x1 (ix1 k)) (fun k => x2 (ix2 r k)) (x3 (ix2 r l)) l := by
  rw [← Cert.RmsBwdRefIdeal.Read.val_main_v36_eq]
  pointwise []
  rfl

/-- One term of the gradient of the gain. -/
def term (x0 x2 : Vec Ideal S2048x2048 .f32) (l r : Fin 2048) : EReal :=
  x2 (ix2 r l) * (x0 (ix2 r l) * rms fun k => x0 (ix2 r k))

/-- The reference's second result at an index. -/
theorem ref37 (x0 x2 : Vec Ideal S2048x2048 .f32) (l : Fin 2048) :
    Cert.RmsBwdRefIdeal.Read.val_main_v37 (F := Ideal) x0 x2 (ix2 (0 : Fin 1) l) = ∑ r, term x0 x2 l r := by
  rw [← Cert.RmsBwdRefIdeal.Read.val_main_v37_eq]
  pointwise []
  simp only [Finset.univ_unique, Finset.sum_singleton]
  exact Finset.sum_congr rfl fun r _ => mul_comm _ _

/-- The body's first payload at an index. -/
theorem pay4 (x0 : Vec Ideal S128x2048 .f32) (x1 : Vec Ideal S1x2048 .f32) (x2 x3 : Vec Ideal S128x2048 .f32) (r : Fin 128) (l : Fin 2048) :
    k0_pay4 x0 x1 x2 x3 (ix2 r l)
      = kern (fun k => x0 (ix2 r k)) (fun k => x1 (ix2 (0 : Fin 1) k)) (fun k => x2 (ix2 r k)) (x3 (ix2 r l)) l := by
  pointwise [k0_pay4, k0_pay3, k0_pay2]
  rfl

/-- The body's addition to the gradient of the gain at an index. -/
theorem pay5 (x0 x2 : Vec Ideal S128x2048 .f32) (l : Fin 2048) :
    k0_pay5 x0 x2 (ix2 (0 : Fin 1) l) = ∑ r, x2 (ix2 r l) * (x0 (ix2 r l) * rms fun k => x0 (ix2 r k)) := by
  pointwise [k0_pay5, k0_pay3, k0_pay2]
  rfl

/-- A grid point's addition to the gradient of the gain. -/
def part (c : Dev nD) (n : ℕ) (l : Fin 2048) : EReal :=
  if h : n < cfg0.N then k0_pay5 (iblk m c 0 ⟨n, h⟩) (iblk m c 2 ⟨n, h⟩) (ix2 (0 : Fin 1) l) else 0

/-- A grid point's addition over the arguments. -/
theorem part_eq (c : Dev nD) (t : Fin cfg0.N) (l : Fin 2048) :
    part m c t.val l = ∑ r : Fin 128, term (m ((c : Thread nD τ).loc main_arg0)) (m ((c : Thread nD τ).loc main_arg2)) l
      (⟨t.val * 128 + r.val, by have := t.isLt; have : cfg0.N = 16 := N_0; omega⟩ : Fin 2048) := by
  unfold part
  rw [dif_pos t.isLt, pay5]
  refine Finset.sum_congr rfl fun r _ => ?_
  rw [blk0, blk2]
  simp only [blk0]
  rfl

/-- What the accumulated window holds after a point. -/
theorem acc (c : Dev nD) (t : Fin cfg0.N) (h : t.val % 16 = 15) (l : Fin 2048) :
    (outsAt0 m c t.val t.isLt).2 (ix2 (0 : Fin 1) l) = 0 + ∑ k ∈ Finset.range (15 + 1), part m c (16 * (t.val / 16) + k) l :=
  Pipeline.eq_sum_of_reset_step_apply_of_mod (N := cfg0.N) (fun n hn (l : Fin 2048) => (outsAt0 m c n hn).2 (ix2 (0 : Fin 1) l)) 16 (fun _ => 0) (part m c)
    (fun t h l => by
      rw [outsAt0_A m c t h]
      frame_out
      unfold part
      rw [dif_pos t.isLt]
      show k0_pay1 (F := Ideal) _ _ (ix2 (0 : Fin 1) l) = _
      generalize k0_pay5 (F := Ideal) (iblk m c 0 t) (iblk m c 2 t) = w
      pointwise [k0_pay1, k0_pay7, k0_pay6])
    (fun t h l => by
      rw [outsAt0_B m c t h]
      frame_out
      unfold part
      rw [dif_pos t.isLt]
      show k0_pay1 (F := Ideal) _ _ (ix2 (0 : Fin 1) l) = _
      generalize k0_pay5 (F := Ideal) (iblk m c 0 t) (iblk m c 2 t) = w
      generalize (outsAt0 m c (t.val - 1) (Nat.lt_of_le_of_lt (Nat.sub_le _ _) t.isLt)).2 = v
      pointwise [k0_pay1, k0_pay7])
    t h l

/-- The first result of the reference on a device's arguments. -/
abbrev goal4 (c : Dev nD) : Buf (Elt Ideal) ((c : Thread nD τ).loc main_v1_0) :=
  Cert.RmsBwdRefIdeal.Read.val_main_v36 (F := Ideal) (m ((c : Thread nD τ).loc main_arg0)) (m ((c : Thread nD τ).loc main_arg1)) (m ((c : Thread nD τ).loc main_arg2)) (m ((c : Thread nD τ).loc main_arg3))

/-- The second result of the reference on a device's arguments. -/
abbrev goal5 (c : Dev nD) : Buf (Elt Ideal) ((c : Thread nD τ).loc main_v1_1) :=
  Cert.RmsBwdRefIdeal.Read.val_main_v37 (F := Ideal) (m ((c : Thread nD τ).loc main_arg0)) (m ((c : Thread nD τ).loc main_arg2))

/-- A device's arguments are arrays of reals. -/
def Reals (c : Dev nD) : Prop :=
  (∀ i : S2048x2048.Idx, ∃ a : ℝ, m ((c : Thread nD τ).loc main_arg0) i = (a : EReal))
    ∧ (∀ i : S2048.Idx, ∃ a : ℝ, m ((c : Thread nD τ).loc main_arg1) i = (a : EReal))
    ∧ (∀ i : S2048x2048.Idx, ∃ a : ℝ, m ((c : Thread nD τ).loc main_arg2) i = (a : EReal))
    ∧ ∀ i : S2048x2048.Idx, ∃ a : ℝ, m ((c : Thread nD τ).loc main_arg3) i = (a : EReal)

/-- What a grid point leaves in the first result's buffer. -/
theorem left4 (c : Dev nD) (t : Fin cfg0.N) :
    (outsAt0 m c t.val t.isLt).1 = k0_pay4 (iblk m c 0 t) (iblk m c 1 t) (iblk m c 2 t) (iblk m c 3 t) := by
  by_cases h : t.val % 16 = 0
  · rw [outsAt0_A m c t h]
    frame_out
  · rw [outsAt0_B m c t h]
    frame_out

/-- What a grid point writes back of the first result is its block of the reference's result. -/
theorem flushed_eq4 (c : Dev nD) (hre : Reals m c) (t : Fin cfg0.N) :
    (dats m 0 c).flushed 4 t = ((cfg0.win 4).blk t).view.read (Elt Ideal) (goal4 m c) := by
  rw [Value.flushed4, left4]
  funext j
  obtain ⟨r, l, rfl⟩ : ∃ (r : Fin 128) (l : Fin 2048), j = ix2 r l := ⟨j 0, j 1, by idx_ext⟩
  rw [View.read_apply, emb4]
  show k0_pay4 (F := Ideal) _ _ _ _ (ix2 r l) = _
  refine Eq.trans ?_ (ref36 _ _ _ _ _ _).symm
  rw [← kern_deriv _ _ _ _ _ (fun k => hre.1 _) (fun k => hre.2.1 _) (fun k => hre.2.2.1 _) (hre.2.2.2 _)]
  rw [pay4]
  simp only [blk0, blk1, blk2, blk3]

/-- What the last grid point writes back of the second result is the reference's result. -/
theorem flushed_eq5 (c : Dev nD) (t : Fin cfg0.N) (hf : (cfg0.win 5).flush t = true) :
    (dats m 0 c).flushed 5 t = ((cfg0.win 5).blk t).view.read (Elt Ideal) (goal5 m c) := by
  have hm : t.val % 16 = 15 := (flush0_5 t).mp hf
  have hN : cfg0.N = 16 := N_0
  have ht := t.isLt
  rw [Value.flushed5]
  funext j
  obtain ⟨z, l, rfl⟩ : ∃ (z : Fin 1) (l : Fin 2048), j = ix2 z l := ⟨j 0, j 1, by idx_ext⟩
  obtain rfl : z = 0 := Subsingleton.elim _ _
  rw [View.read_apply, emb5]
  show (outsAt0 m c t.val t.isLt).2 (ix2 (0 : Fin 1) l) = _
  refine Eq.trans ?_ (ref37 _ _ _).symm
  rw [acc m c t hm, zero_add, Finset.sum_range]
  refine Eq.trans (Finset.sum_congr rfl fun k _ => part_eq m c ⟨16 * (t.val / 16) + k.val, by have := k.isLt; omega⟩ l) ?_
  refine Fin.sum_mul_add_congr (S := 16) (n := 128) (fun s k hl => ?_)
  have hs := s.isLt
  refine congrArg (term _ _ _) (Fin.ext ?_)
  show (16 * (t.val / 16) + s.val) * 128 + k.val = s.val * 128 + k.val
  omega

/-- The blocks written back tile window 4's array. -/
theorem cover4 (i : S2048x2048.Idx) :
    ∃ t : Fin cfg0.N, (cfg0.win 4).flush t = true ∧ i ∈ ((cfg0.win 4).blk t).view.set := by
  have h0 : (i 0 : Nat) < 2048 := (i 0).isLt
  have h1 : (i 1 : Nat) < 2048 := (i 1).isLt
  have hN : cfg0.N = 16 := N_0
  obtain ⟨t, ht⟩ : ∃ t : Fin cfg0.N, t.val = (i 0 : Nat) / 128 := ⟨⟨_, by omega⟩, rfl⟩
  refine ⟨t, flush0_4 _, ?_⟩
  show i ∈ ((View.whole main_v1_0).slice (win0_4.rect t)).set
  rw [View.set_slice_whole, Rect.mem_set_unit]
  have h := idx4 t
  intro a
  match a with
  | ⟨0, _⟩ =>
    show win0_4.index t 0 * 128 ≤ (i 0 : Nat) ∧ (i 0 : Nat) < win0_4.index t 0 * 128 + 128
    rw [h.1]; omega
  | ⟨1, _⟩ =>
    show win0_4.index t 1 * 2048 ≤ (i 1 : Nat) ∧ (i 1 : Nat) < win0_4.index t 1 * 2048 + 2048
    rw [h.2]; omega

/-- The blocks written back tile window 5's array. -/
theorem cover5 (i : S1x2048.Idx) :
    ∃ t : Fin cfg0.N, (cfg0.win 5).flush t = true ∧ i ∈ ((cfg0.win 5).blk t).view.set := by
  have h0 : (i 0 : Nat) < 1 := (i 0).isLt
  have h1 : (i 1 : Nat) < 2048 := (i 1).isLt
  have hN : cfg0.N = 16 := N_0
  obtain ⟨t, ht⟩ : ∃ t : Fin cfg0.N, t.val = 15 := ⟨⟨_, by omega⟩, rfl⟩
  refine ⟨t, (flush0_5 _).mpr (by omega), ?_⟩
  show i ∈ ((View.whole main_v1_1).slice (win0_5.rect t)).set
  rw [View.set_slice_whole, Rect.mem_set_unit]
  have h := idx5 t
  intro a
  match a with
  | ⟨0, _⟩ =>
    show win0_5.index t 0 * 1 ≤ (i 0 : Nat) ∧ (i 0 : Nat) < win0_5.index t 0 * 1 + 1
    rw [h.1]; omega
  | ⟨1, _⟩ =>
    show win0_5.index t 1 * 2048 ≤ (i 1 : Nat) ∧ (i 1 : Nat) < win0_5.index t 1 * 2048 + 2048
    rw [h.2]; omega

/-- After the region the first result's array holds the reference's result. -/
theorem final4 (c : Dev nD) (hre : Reals m c) : (dats m 0 c).arrAt 4 cfg0.N = goal4 m c :=
  (dats m 0 c).arrAt_eq_of_cover 4 (goal4 m c) (fun t _ => flushed_eq4 m c hre t) cover4

/-- After the region the second result's array holds the reference's result. -/
theorem final5 (c : Dev nD) : (dats m 0 c).arrAt 5 cfg0.N = goal5 m c :=
  (dats m 0 c).arrAt_eq_of_cover 5 (goal5 m c) (fun t hf => flushed_eq5 m c t hf) cover5

/-- Arrays that pass the precondition's test hold reals. -/
theorem pre_real [hp : Cert.Pre_finite_rms.Facts] (c : Dev nD) (j : Cert.Pre_finite_rms.S_.Idx)
    (h : Cert.Pre_finite_rms.fn (F := Ideal) (m ((c : Thread nD τ).loc main_arg0)) (m ((c : Thread nD τ).loc main_arg1)) (m ((c : Thread nD τ).loc main_arg2)) (m ((c : Thread nD τ).loc main_arg3)) j = 1#1) :
    Reals m c := by
  unfold Cert.Pre_finite_rms.fn at h
  dsimp only at h
  obtain ⟨h012, h3⟩ := Cert.Facts.andi_one _ _ _ h
  obtain ⟨h01, h2⟩ := Cert.Facts.andi_one _ _ _ h012
  obtain ⟨h0, h1⟩ := Cert.Facts.andi_one _ _ _ h01
  haveI : Subsingleton Cert.Pre_finite_rms.S_.Idx := ⟨fun a b => funext fun q => q.elim0⟩
  exact ⟨fun i => Cert.Facts.real_of_lt _ (Host.reduce_andi_all _ _ _ _ _ h0 i), fun i => Cert.Facts.real_of_lt _ (Host.reduce_andi_all _ _ _ _ _ h1 i),
    fun i => Cert.Facts.real_of_lt _ (Host.reduce_andi_all _ _ _ _ _ h2 i), fun i => Cert.Facts.real_of_lt _ (Host.reduce_andi_all _ _ _ _ _ h3 i)⟩

end Cert.RmsBwdIdeal.Val

namespace Cert.Claims

/-- The gradient of the normalisation and its reference end with equal results on finite arguments. -/
theorem rmsbwd [hp : Cert.Pre_finite_rms.Facts] :
    Cert.algebraic_RmsBwdIdeal_RmsBwdRefIdeal_pre_finite_rms (hRmsBwdIdeal := Cert.RmsBwdIdeal.Gen.facts)
      (hRmsBwdRefIdeal := Cert.RmsBwdRefIdeal.Gen.facts) (hPre_finite_rms := hp) := by
  intro m g m' g' hpre hargs
  have hre : ∀ c, Cert.RmsBwdIdeal.Val.Reals m c := fun c => Cert.RmsBwdIdeal.Val.pre_real m c (fun a => a.elim0) (congrFun (hpre c) _)
  refine ⟨fun c => Cert.RmsBwdIdeal.Val.goal4 m c, fun c => Cert.RmsBwdIdeal.Val.goal5 m c,
    (θ_run _ _ _).mono (fun r h c => ⟨(h c).1.trans (Cert.RmsBwdIdeal.Val.final4 m c (hre c)), (h c).2.1.trans (Cert.RmsBwdIdeal.Val.final5 m c), (h c).2.2⟩) (Cert.RmsBwdIdeal.Value.run_blocks m g),
    (θ_run _ _ _).mono (fun r h c => ⟨(h c).1.trans ?_, (h c).2.1.trans ?_, (h c).2.2⟩) (Cert.RmsBwdRefIdeal.Value.run m' g')⟩
  · rw [(hargs c).1, (hargs c).2.1, (hargs c).2.2.1, (hargs c).2.2.2]
    exact Cert.RmsBwdRefIdeal.Read.val_main_v36_eq _ _ _ _
  · rw [(hargs c).1, (hargs c).2.2.1]
    exact Cert.RmsBwdRefIdeal.Read.val_main_v37_eq _ _

end Cert.Claims
-- ==== Proof.UpVal.lean ====
/-
  The two up products with the gate: the tiled kernel computes `n · wg`, `n · wu` and `silu (n · wg) · (n · wu)`.
-/
module

public import proofs.«01_k».proof.Defs
public import proofs.«01_k».proof.Proof.Gen.UpIdeal.Value
public import proofs.«01_k».proof.Proof.Gen.UpRefIdeal.Read
public import proofs.«01_k».proof.Proof.Consts
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.UpIdeal.Val

open Cert.UpIdeal Cert.UpIdeal.Gen

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Where window 0's block lies at a grid point. -/
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)

/-- Where window 1's block lies at a grid point. -/
theorem idx1 : ∀ t : Fin cfg0.N, win0_1.index t 0 = t.val / 8 ∧ win0_1.index t 1 = 0 ∧ win0_1.index t 2 = 0 ∧ win0_1.index t 3 = 0 ∧ win0_1.index t 4 = 0 :=
  (by decide +kernel : ∀ t : Fin grid0.N, win0_1.index t 0 = t.val / 8 ∧ win0_1.index t 1 = 0 ∧ win0_1.index t 2 = 0 ∧ win0_1.index t 3 = 0 ∧ win0_1.index t 4 = 0)

/-- Where window 2's block lies at a grid point. -/
theorem idx2 : ∀ t : Fin cfg0.N, win0_2.index t 0 = t.val / 8 ∧ win0_2.index t 1 = 0 ∧ win0_2.index t 2 = 0 ∧ win0_2.index t 3 = 0 ∧ win0_2.index t 4 = 0 :=
  (by decide +kernel : ∀ t : Fin grid0.N, win0_2.index t 0 = t.val / 8 ∧ win0_2.index t 1 = 0 ∧ win0_2.index t 2 = 0 ∧ win0_2.index t 3 = 0 ∧ win0_2.index t 4 = 0)

/-- Where window 3's block lies at a grid point. -/
theorem idx3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

/-- Where window 4's block lies at a grid point. -/
theorem idx4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)

/-- Where window 5's block lies at a grid point. -/
theorem idx5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)

/-- The array a weight window stages: the weight cut into four column groups. -/
theorem V_main_v2 (c : Dev nD) (a : Fin 4) (k : Fin 2048) (l : Fin 1408) :
    V m c main_v2 (ix5 a (0 : Fin 4) (0 : Fin 2) k l)
      = m ((c : Thread nD τ).loc main_arg1) (ix4 (0 : Fin 4) (0 : Fin 2) k (⟨a.val * 1408 + l.val, by omega⟩ : Fin 5632)) := by
  unfold V
  after_reads_at

/-- The array a weight window stages: the weight cut into four column groups. -/
theorem V_main_v5 (c : Dev nD) (a : Fin 4) (k : Fin 2048) (l : Fin 1408) :
    V m c main_v5 (ix5 a (0 : Fin 4) (0 : Fin 2) k l)
      = m ((c : Thread nD τ).loc main_arg2) (ix4 (0 : Fin 4) (0 : Fin 2) k (⟨a.val * 1408 + l.val, by omega⟩ : Fin 5632)) := by
  unfold V
  after_reads_at

/-- Window 0's block at a grid point, read at an index. -/
theorem blk0 (c : Dev nD) (t : Fin cfg0.N) (r : Fin 256) (x : Fin 2048) :
    iblk m c 0 t (ix2 r x) = m ((c : Thread nD τ).loc main_arg0) (ix2 (⟨t.val % 8 * 256 + r.val, by have := t.isLt; have : cfg0.N = 32 := N_0; omega⟩ : Fin 2048) x) := by
  have hN : t.val < 32 := by have := t.isLt; have : cfg0.N = 32 := N_0; omega
  rw [← V_main_arg0 m c]
  unfold iblk
  rw [View.read_apply]
  refine congrArg (V m c main_arg0) (funext fun a => Fin.ext ?_)
  have h := idx0 t
  match a with
  | ⟨0, _⟩ => show win0_0.index t 0 * 256 + 1 * r.val = t.val % 8 * 256 + r.val; rw [h.1] <;> omega
  | ⟨1, _⟩ => show win0_0.index t 1 * 2048 + 1 * x.val = x.val; rw [h.2] <;> omega

/-- Window 1's block at a grid point, read at an index. -/
theorem blk1 (c : Dev nD) (t : Fin cfg0.N) (x : Fin 2048) (l : Fin 1408) :
    iblk m c 1 t (ix5 0 0 0 x l) = m ((c : Thread nD τ).loc main_arg1) (ix4 (0 : Fin 4) (0 : Fin 2) x (⟨t.val / 8 * 1408 + l.val, by have := t.isLt; have : cfg0.N = 32 := N_0; omega⟩ : Fin 5632)) := by
  have hN : t.val < 32 := by have := t.isLt; have : cfg0.N = 32 := N_0; omega
  rw [← V_main_v2 m c (⟨t.val / 8, by omega⟩ : Fin 4) x l]
  unfold iblk
  rw [View.read_apply]
  refine congrArg (V m c main_v2) (funext fun a => Fin.ext ?_)
  have h := idx1 t
  match a with
  | ⟨0, _⟩ => show win0_1.index t 0 * 1 + 1 * 0 = t.val / 8; rw [h.1] <;> omega
  | ⟨1, _⟩ => show win0_1.index t 1 * 1 + 1 * 0 = 0; rw [h.2.1] <;> omega
  | ⟨2, _⟩ => show win0_1.index t 2 * 1 + 1 * 0 = 0; rw [h.2.2.1] <;> omega
  | ⟨3, _⟩ => show win0_1.index t 3 * 2048 + 1 * x.val = x.val; rw [h.2.2.2.1] <;> omega
  | ⟨4, _⟩ => show win0_1.index t 4 * 1408 + 1 * l.val = l.val; rw [h.2.2.2.2] <;> omega

/-- Window 2's block at a grid point, read at an index. -/
theorem blk2 (c : Dev nD) (t : Fin cfg0.N) (x : Fin 2048) (l : Fin 1408) :
    iblk m c 2 t (ix5 0 0 0 x l) = m ((c : Thread nD τ).loc main_arg2) (ix4 (0 : Fin 4) (0 : Fin 2) x (⟨t.val / 8 * 1408 + l.val, by have := t.isLt; have : cfg0.N = 32 := N_0; omega⟩ : Fin 5632)) := by
  have hN : t.val < 32 := by have := t.isLt; have : cfg0.N = 32 := N_0; omega
  rw [← V_main_v5 m c (⟨t.val / 8, by omega⟩ : Fin 4) x l]
  unfold iblk
  rw [View.read_apply]
  refine congrArg (V m c main_v5) (funext fun a => Fin.ext ?_)
  have h := idx2 t
  match a with
  | ⟨0, _⟩ => show win0_2.index t 0 * 1 + 1 * 0 = t.val / 8; rw [h.1] <;> omega
  | ⟨1, _⟩ => show win0_2.index t 1 * 1 + 1 * 0 = 0; rw [h.2.1] <;> omega
  | ⟨2, _⟩ => show win0_2.index t 2 * 1 + 1 * 0 = 0; rw [h.2.2.1] <;> omega
  | ⟨3, _⟩ => show win0_2.index t 3 * 2048 + 1 * x.val = x.val; rw [h.2.2.2.1] <;> omega
  | ⟨4, _⟩ => show win0_2.index t 4 * 1408 + 1 * l.val = l.val; rw [h.2.2.2.2] <;> omega

/-- The first product of the body at an index. -/
theorem pay1 (x0 : Vec Ideal S256x2048 .bf16) (x1 : Vec Ideal S1x1x1x2048x1408 .bf16) (r : Fin 256) (l : Fin 1408) :
    k0_pay1 x0 x1 (ix2 r l) = ∑ x : Fin 2048, x0 (ix2 r x) * x1 (ix5 0 0 0 x l) := by
  pointwise [k0_pay1]

/-- The second product of the body at an index. -/
theorem pay2 (x0 : Vec Ideal S256x2048 .bf16) (x1 : Vec Ideal S1x1x1x2048x1408 .bf16) (r : Fin 256) (l : Fin 1408) :
    k0_pay2 x0 x1 (ix2 r l) = ∑ x : Fin 2048, x0 (ix2 r x) * x1 (ix5 0 0 0 x l) := by
  pointwise [k0_pay2]

/-- The product a weight takes part in, as a number per row and column. -/
def prod (x0 : Vec Ideal S2048x2048 .bf16) (x1 : Vec Ideal S4x2x2048x5632 .f32) (r : Fin 2048) (l : Fin 5632) : EReal :=
  ∑ x : Fin 2048, x0 (ix2 r x) * x1 (ix4 (0 : Fin 4) (0 : Fin 2) x l)

/-- The gate's value of two numbers. -/
def gate (g u : EReal) : EReal := g * Ideal.div 1 (1 + Ideal.exp (-g)) * u

/-- The gated payload at an index. -/
theorem pay5 (x0 : Vec Ideal S256x2048 .bf16) (x1 x2 : Vec Ideal S1x1x1x2048x1408 .bf16) (r : Fin 256) (l : Fin 1408) :
    k0_pay5 x0 x1 x2 (ix2 r l) = gate (k0_pay1 x0 x1 (ix2 r l)) (k0_pay2 x0 x2 (ix2 r l)) := by
  unfold k0_pay5 gate
  generalize k0_pay1 x0 x1 = y
  generalize k0_pay2 x0 x2 = z
  pointwise
  rw [zero_sub]

/-- The reference's first result at an index. -/
theorem ref7 (x0 : Vec Ideal S2048x2048 .bf16) (x1 : Vec Ideal S4x2x2048x5632 .f32) (r : Fin 2048) (l : Fin 5632) :
    Cert.UpRefIdeal.Read.val_main_v7 (F := Ideal) x0 x1 (ix2 r l) = prod x0 x1 r l := by
  rw [← Cert.UpRefIdeal.Read.val_main_v7_eq]
  pointwise [prod]

/-- The reference's second result at an index. -/
theorem ref8 (x0 : Vec Ideal S2048x2048 .bf16) (x1 : Vec Ideal S4x2x2048x5632 .f32) (r : Fin 2048) (l : Fin 5632) :
    Cert.UpRefIdeal.Read.val_main_v8 (F := Ideal) x0 x1 (ix2 r l) = prod x0 x1 r l := by
  rw [← Cert.UpRefIdeal.Read.val_main_v8_eq]
  pointwise [prod]

/-- The reference's third result at an index. -/
theorem ref11 (x0 : Vec Ideal S2048x2048 .bf16) (x1 x2 : Vec Ideal S4x2x2048x5632 .f32) (r : Fin 2048) (l : Fin 5632) :
    Cert.UpRefIdeal.Read.val_main_v11 (F := Ideal) x0 x1 x2 (ix2 r l) = gate (prod x0 x1 r l) (prod x0 x2 r l) := by
  rw [← Cert.UpRefIdeal.Read.val_main_v11_eq]
  pointwise [prod, gate]

/-- Where an index of window 3's block lies in its array. -/
theorem emb3 (t : Fin cfg0.N) (r : Fin 256) (l : Fin 1408) : ((cfg0.win 3).blk t).view.emb (ix2 r l) = ix2 (⟨t.val % 8 * 256 + r.val, by have := t.isLt; have : cfg0.N = 32 := N_0; omega⟩ : Fin 2048) (⟨t.val / 8 * 1408 + l.val, by have := t.isLt; have : cfg0.N = 32 := N_0; omega⟩ : Fin 5632) := by
  refine funext fun a => Fin.ext ?_
  have h := idx3 t
  match a with
  | ⟨0, _⟩ => show win0_3.index t 0 * 256 + 1 * r.val = t.val % 8 * 256 + r.val; rw [h.1] <;> omega
  | ⟨1, _⟩ => show win0_3.index t 1 * 1408 + 1 * l.val = t.val / 8 * 1408 + l.val; rw [h.2] <;> omega

/-- Where an index of window 4's block lies in its array. -/
theorem emb4 (t : Fin cfg0.N) (r : Fin 256) (l : Fin 1408) : ((cfg0.win 4).blk t).view.emb (ix2 r l) = ix2 (⟨t.val % 8 * 256 + r.val, by have := t.isLt; have : cfg0.N = 32 := N_0; omega⟩ : Fin 2048) (⟨t.val / 8 * 1408 + l.val, by have := t.isLt; have : cfg0.N = 32 := N_0; omega⟩ : Fin 5632) := by
  refine funext fun a => Fin.ext ?_
  have h := idx4 t
  match a with
  | ⟨0, _⟩ => show win0_4.index t 0 * 256 + 1 * r.val = t.val % 8 * 256 + r.val; rw [h.1] <;> omega
  | ⟨1, _⟩ => show win0_4.index t 1 * 1408 + 1 * l.val = t.val / 8 * 1408 + l.val; rw [h.2] <;> omega

/-- Where an index of window 5's block lies in its array. -/
theorem emb5 (t : Fin cfg0.N) (r : Fin 256) (l : Fin 1408) : ((cfg0.win 5).blk t).view.emb (ix2 r l) = ix2 (⟨t.val % 8 * 256 + r.val, by have := t.isLt; have : cfg0.N = 32 := N_0; omega⟩ : Fin 2048) (⟨t.val / 8 * 1408 + l.val, by have := t.isLt; have : cfg0.N = 32 := N_0; omega⟩ : Fin 5632) := by
  refine funext fun a => Fin.ext ?_
  have h := idx5 t
  match a with
  | ⟨0, _⟩ => show win0_5.index t 0 * 256 + 1 * r.val = t.val % 8 * 256 + r.val; rw [h.1] <;> omega
  | ⟨1, _⟩ => show win0_5.index t 1 * 1408 + 1 * l.val = t.val / 8 * 1408 + l.val; rw [h.2] <;> omega

/-- The reference's result for window 3 on a device's arguments. -/
abbrev goal3 (c : Dev nD) : Buf (Elt Ideal) ((c : Thread nD τ).loc main_v6_0) :=
  Cert.UpRefIdeal.Read.val_main_v7 (F := Ideal) (m ((c : Thread nD τ).loc main_arg0)) (m ((c : Thread nD τ).loc main_arg1))

/-- What a grid point writes back to window 3 is its block of the reference's result. -/
theorem flushed_eq3 (c : Dev nD) (t : Fin cfg0.N) :
    (dats m 0 c).flushed 3 t = ((cfg0.win 3).blk t).view.read (Elt Ideal) (goal3 m c) := by
  rw [Value.flushed3]
  unfold out0_3
  rw [View.canon_unit_zero hz2, View.ld_unit_zero hz2, View.ld_unit_zero hz5]
  funext j
  obtain ⟨r, l, rfl⟩ : ∃ (r : Fin 256) (l : Fin 1408), j = ix2 r l := ⟨j 0, j 1, by idx_ext⟩
  rw [View.read_apply, emb3]
  show k0_pay3 (F := Ideal) _ _ (ix2 r l) = _
  refine Eq.trans ?_ (ref7 _ _ _ _).symm
  show k0_pay1 (F := Ideal) _ _ (ix2 r l) = _
  rw [pay1]
  exact Finset.sum_congr rfl fun x _ => by rw [blk0, blk1]

/-- The blocks written back tile window 3's array. -/
theorem cover3 (i : S2048x5632.Idx) :
    ∃ t : Fin cfg0.N, (cfg0.win 3).flush t = true ∧ i ∈ ((cfg0.win 3).blk t).view.set := by
  have h0 : (i 0 : Nat) < 2048 := (i 0).isLt
  have h1 : (i 1 : Nat) < 5632 := (i 1).isLt
  have hN : cfg0.N = 32 := N_0
  obtain ⟨t, ht⟩ : ∃ t : Fin cfg0.N, t.val = (i 1 : Nat) / 1408 * 8 + (i 0 : Nat) / 256 := ⟨⟨_, by omega⟩, rfl⟩
  refine ⟨t, flush0_3 _, ?_⟩
  show i ∈ ((View.whole main_v6_0).slice (win0_3.rect t)).set
  rw [View.set_slice_whole, Rect.mem_set_unit]
  have h := idx3 t
  intro a
  match a with
  | ⟨0, _⟩ =>
    show win0_3.index t 0 * 256 ≤ (i 0 : Nat) ∧ (i 0 : Nat) < win0_3.index t 0 * 256 + 256
    rw [h.1]; omega
  | ⟨1, _⟩ =>
    show win0_3.index t 1 * 1408 ≤ (i 1 : Nat) ∧ (i 1 : Nat) < win0_3.index t 1 * 1408 + 1408
    rw [h.2]; omega

/-- After the region window 3's array holds the reference's result. -/
theorem final3 (c : Dev nD) : (dats m 0 c).arrAt 3 cfg0.N = goal3 m c :=
  (dats m 0 c).arrAt_eq_of_cover 3 (goal3 m c) (fun t _ => flushed_eq3 m c t) cover3

/-- The reference's result for window 4 on a device's arguments. -/
abbrev goal4 (c : Dev nD) : Buf (Elt Ideal) ((c : Thread nD τ).loc main_v6_1) :=
  Cert.UpRefIdeal.Read.val_main_v8 (F := Ideal) (m ((c : Thread nD τ).loc main_arg0)) (m ((c : Thread nD τ).loc main_arg2))

/-- What a grid point writes back to window 4 is its block of the reference's result. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz5]
  funext j
  obtain ⟨r, l, rfl⟩ : ∃ (r : Fin 256) (l : Fin 1408), j = ix2 r l := ⟨j 0, j 1, by idx_ext⟩
  rw [View.read_apply, emb4]
  show k0_pay4 (F := Ideal) _ _ (ix2 r l) = _
  refine Eq.trans ?_ (ref8 _ _ _ _).symm
  show k0_pay2 (F := Ideal) _ _ (ix2 r l) = _
  rw [pay2]
  exact Finset.sum_congr rfl fun x _ => by rw [blk0, blk2]

/-- The blocks written back tile window 4's array. -/
theorem cover4 (i : S2048x5632.Idx) :
    ∃ t : Fin cfg0.N, (cfg0.win 4).flush t = true ∧ i ∈ ((cfg0.win 4).blk t).view.set := by
  have h0 : (i 0 : Nat) < 2048 := (i 0).isLt
  have h1 : (i 1 : Nat) < 5632 := (i 1).isLt
  have hN : cfg0.N = 32 := N_0
  obtain ⟨t, ht⟩ : ∃ t : Fin cfg0.N, t.val = (i 1 : Nat) / 1408 * 8 + (i 0 : Nat) / 256 := ⟨⟨_, by omega⟩, rfl⟩
  refine ⟨t, flush0_4 _, ?_⟩
  show i ∈ ((View.whole main_v6_1).slice (win0_4.rect t)).set
  rw [View.set_slice_whole, Rect.mem_set_unit]
  have h := idx4 t
  intro a
  match a with
  | ⟨0, _⟩ =>
    show win0_4.index t 0 * 256 ≤ (i 0 : Nat) ∧ (i 0 : Nat) < win0_4.index t 0 * 256 + 256
    rw [h.1]; omega
  | ⟨1, _⟩ =>
    show win0_4.index t 1 * 1408 ≤ (i 1 : Nat) ∧ (i 1 : Nat) < win0_4.index t 1 * 1408 + 1408
    rw [h.2]; omega

/-- After the region window 4's array holds the reference's result. -/
theorem final4 (c : Dev nD) : (dats m 0 c).arrAt 4 cfg0.N = goal4 m c :=
  (dats m 0 c).arrAt_eq_of_cover 4 (goal4 m c) (fun t _ => flushed_eq4 m c t) cover4

/-- The reference's result for window 5 on a device's arguments. -/
abbrev goal5 (c : Dev nD) : Buf (Elt Ideal) ((c : Thread nD τ).loc main_v6_2) :=
  Cert.UpRefIdeal.Read.val_main_v11 (F := Ideal) (m ((c : Thread nD τ).loc main_arg0)) (m ((c : Thread nD τ).loc main_arg1)) (m ((c : Thread nD τ).loc main_arg2))

/-- What a grid point writes back to window 5 is its block of the reference's result. -/
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz5, View.ld_unit_zero hz5]
  funext j
  obtain ⟨r, l, rfl⟩ : ∃ (r : Fin 256) (l : Fin 1408), j = ix2 r l := ⟨j 0, j 1, by idx_ext⟩
  rw [View.read_apply, emb5]
  show k0_pay5 (F := Ideal) _ _ _ (ix2 r l) = _
  refine Eq.trans ?_ (ref11 _ _ _ _ _).symm
  rw [pay5, pay1, pay2]
  unfold prod
  exact congrArg₂ gate (Finset.sum_congr rfl fun x _ => by rw [blk0, blk1]) (Finset.sum_congr rfl fun x _ => by rw [blk0, blk2])

/-- The blocks written back tile window 5's array. -/
theorem cover5 (i : S2048x5632.Idx) :
    ∃ t : Fin cfg0.N, (cfg0.win 5).flush t = true ∧ i ∈ ((cfg0.win 5).blk t).view.set := by
  have h0 : (i 0 : Nat) < 2048 := (i 0).isLt
  have h1 : (i 1 : Nat) < 5632 := (i 1).isLt
  have hN : cfg0.N = 32 := N_0
  obtain ⟨t, ht⟩ : ∃ t : Fin cfg0.N, t.val = (i 1 : Nat) / 1408 * 8 + (i 0 : Nat) / 256 := ⟨⟨_, by omega⟩, rfl⟩
  refine ⟨t, flush0_5 _, ?_⟩
  show i ∈ ((View.whole main_v6_2).slice (win0_5.rect t)).set
  rw [View.set_slice_whole, Rect.mem_set_unit]
  have h := idx5 t
  intro a
  match a with
  | ⟨0, _⟩ =>
    show win0_5.index t 0 * 256 ≤ (i 0 : Nat) ∧ (i 0 : Nat) < win0_5.index t 0 * 256 + 256
    rw [h.1]; omega
  | ⟨1, _⟩ =>
    show win0_5.index t 1 * 1408 ≤ (i 1 : Nat) ∧ (i 1 : Nat) < win0_5.index t 1 * 1408 + 1408
    rw [h.2]; omega

/-- After the region window 5's array holds the reference's result. -/
theorem final5 (c : Dev nD) : (dats m 0 c).arrAt 5 cfg0.N = goal5 m c :=
  (dats m 0 c).arrAt_eq_of_cover 5 (goal5 m c) (fun t _ => flushed_eq5 m c t) cover5

end Cert.UpIdeal.Val

namespace Cert.Claims

/-- The two up products with the gate and their reference end with equal results. -/
theorem up : Cert.algebraic_UpIdeal_UpRefIdeal (hUpIdeal := Cert.UpIdeal.Gen.facts)
    (hUpRefIdeal := Cert.UpRefIdeal.Gen.facts) := by
  intro m g m' g' _ hargs
  refine ⟨fun c => Cert.UpIdeal.Val.goal3 m c, fun c => Cert.UpIdeal.Val.goal4 m c, fun c => Cert.UpIdeal.Val.goal5 m c,
    (θ_run _ _ _).mono (fun r h c => ⟨(h c).1.trans (Cert.UpIdeal.Val.final3 m c), (h c).2.1.trans (Cert.UpIdeal.Val.final4 m c),
      (h c).2.2.1.trans (Cert.UpIdeal.Val.final5 m c), (h c).2.2.2⟩) (Cert.UpIdeal.Value.run_blocks m g),
    (θ_run _ _ _).mono (fun r h c => ⟨(h c).1.trans ?_, (h c).2.1.trans ?_, (h c).2.2.1.trans ?_, (h c).2.2.2⟩) (Cert.UpRefIdeal.Value.run m' g')⟩
  · rw [(hargs c).1, (hargs c).2.1]
    exact Cert.UpRefIdeal.Read.val_main_v7_eq _ _
  · rw [(hargs c).1, (hargs c).2.2]
    exact Cert.UpRefIdeal.Read.val_main_v8_eq _ _
  · rw [(hargs c).1, (hargs c).2.1, (hargs c).2.2]
    exact Cert.UpRefIdeal.Read.val_main_v11_eq _ _ _

end Cert.Claims
-- ==== Proof.DownVal.lean ====
/-
  The down product with the half residual step, and its reference.
-/
module

public import proofs.«01_k».proof.Defs
public import proofs.«01_k».proof.Proof.Gen.DownIdeal.Value
public import proofs.«01_k».proof.Proof.Gen.DownRefIdeal.Read
public import proofs.«01_k».proof.Proof.Consts
public import Idealize.ShloMosaic.Lib.Pipeline.ValueKit.Acc
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DownIdeal.Val

open Cert.DownIdeal Cert.DownIdeal.Gen

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Where window 0's block lies at a grid point. -/
theorem idx0 : ∀ t : Fin cfg0.N, win0_0.index t 0 = t.val / 4 % 2 ∧ win0_0.index t 1 = t.val % 4 :=
  (by decide +kernel : ∀ t : Fin grid0.N, win0_0.index t 0 = t.val / 4 % 2 ∧ win0_0.index t 1 = t.val % 4)

/-- Where window 1's block lies at a grid point. -/
theorem idx1 : ∀ t : Fin cfg0.N, win0_1.index t 0 = t.val % 4 ∧ win0_1.index t 1 = 0 ∧ win0_1.index t 2 = 0 ∧ win0_1.index t 3 = 0 ∧ win0_1.index t 4 = t.val / 8 :=
  (by decide +kernel : ∀ t : Fin grid0.N, win0_1.index t 0 = t.val % 4 ∧ win0_1.index t 1 = 0 ∧ win0_1.index t 2 = 0 ∧ win0_1.index t 3 = 0 ∧ win0_1.index t 4 = t.val / 8)

/-- Where window 2's block lies at a grid point. -/
theorem idx2 : ∀ t : Fin cfg0.N, win0_2.index t 0 = t.val / 4 % 2 ∧ win0_2.index t 1 = t.val / 8 :=
  (by decide +kernel : ∀ t : Fin grid0.N, win0_2.index t 0 = t.val / 4 % 2 ∧ win0_2.index t 1 = t.val / 8)

/-- Where window 3's block lies at a grid point. -/
theorem idx3 : ∀ t : Fin cfg0.N, win0_3.index t 0 = t.val / 4 % 2 ∧ win0_3.index t 1 = t.val / 8 :=
  (by decide +kernel : ∀ t : Fin grid0.N, win0_3.index t 0 = t.val / 4 % 2 ∧ win0_3.index t 1 = t.val / 8)

/-- The array the weight window stages: the weight cut into four row groups. -/
theorem V_main_v2 (c : Dev nD) (a : Fin 4) (k : Fin 1408) (l : Fin 2048) :
    V m c main_v2 (ix5 a (0 : Fin 4) (0 : Fin 2) k l)
      = m ((c : Thread nD τ).loc main_arg1) (ix4 (0 : Fin 4) (0 : Fin 2) (⟨a.val * 1408 + k.val, by omega⟩ : Fin 5632) l) := by
  unfold V
  after_reads_at

/-- Window 0's block at a grid point, read at an index. -/
theorem blk0 (c : Dev nD) (t : Fin cfg0.N) (r : Fin 1024) (x : Fin 1408) :
    iblk m c 0 t (ix2 r x) = m ((c : Thread nD τ).loc main_arg0) (ix2 (⟨t.val / 4 % 2 * 1024 + r.val, by have := t.isLt; have : cfg0.N = 16 := N_0; omega⟩ : Fin 2048) (⟨t.val % 4 * 1408 + x.val, by have := t.isLt; have : cfg0.N = 16 := N_0; omega⟩ : Fin 5632)) := by
  have hN : t.val < 16 := by have := t.isLt; have : cfg0.N = 16 := N_0; omega
  rw [← V_main_arg0 m c]
  unfold iblk
  rw [View.read_apply]
  refine congrArg (V m c main_arg0) (funext fun a => Fin.ext ?_)
  have h := idx0 t
  match a with
  | ⟨0, _⟩ => show win0_0.index t 0 * 1024 + 1 * r.val = t.val / 4 % 2 * 1024 + r.val; rw [h.1] <;> omega
  | ⟨1, _⟩ => show win0_0.index t 1 * 1408 + 1 * x.val = t.val % 4 * 1408 + x.val; rw [h.2] <;> omega

/-- Window 1's block at a grid point, read at an index. -/
theorem blk1 (c : Dev nD) (t : Fin cfg0.N) (x : Fin 1408) (l : Fin 1024) :
    iblk m c 1 t (ix5 0 0 0 x l) = m ((c : Thread nD τ).loc main_arg1) (ix4 (0 : Fin 4) (0 : Fin 2) (⟨t.val % 4 * 1408 + x.val, by have := t.isLt; have : cfg0.N = 16 := N_0; omega⟩ : Fin 5632) (⟨t.val / 8 * 1024 + l.val, by have := t.isLt; have : cfg0.N = 16 := N_0; omega⟩ : Fin 2048)) := by
  have hN : t.val < 16 := by have := t.isLt; have : cfg0.N = 16 := N_0; omega
  rw [← V_main_v2 m c (⟨t.val % 4, by omega⟩ : Fin 4) x (⟨t.val / 8 * 1024 + l.val, by omega⟩ : Fin 2048)]
  unfold iblk
  rw [View.read_apply]
  refine congrArg (V m c main_v2) (funext fun a => Fin.ext ?_)
  have h := idx1 t
  match a with
  | ⟨0, _⟩ => show win0_1.index t 0 * 1 + 1 * 0 = t.val % 4; rw [h.1] <;> omega
  | ⟨1, _⟩ => show win0_1.index t 1 * 1 + 1 * 0 = 0; rw [h.2.1] <;> omega
  | ⟨2, _⟩ => show win0_1.index t 2 * 1 + 1 * 0 = 0; rw [h.2.2.1] <;> omega
  | ⟨3, _⟩ => show win0_1.index t 3 * 1408 + 1 * x.val = x.val; rw [h.2.2.2.1] <;> omega
  | ⟨4, _⟩ => show win0_1.index t 4 * 1024 + 1 * l.val = t.val / 8 * 1024 + l.val; rw [h.2.2.2.2] <;> omega

/-- Window 2's block at a grid point, read at an index. -/
theorem blk2 (c : Dev nD) (t : Fin cfg0.N) (r : Fin 1024) (l : Fin 1024) :
    iblk m c 2 t (ix2 r l) = m ((c : Thread nD τ).loc main_arg2) (ix2 (⟨t.val / 4 % 2 * 1024 + r.val, by have := t.isLt; have : cfg0.N = 16 := N_0; omega⟩ : Fin 2048) (⟨t.val / 8 * 1024 + l.val, by have := t.isLt; have : cfg0.N = 16 := N_0; omega⟩ : Fin 2048)) := by
  have hN : t.val < 16 := by have := t.isLt; have : cfg0.N = 16 := N_0; omega
  rw [← V_main_arg2 m c]
  unfold iblk
  rw [View.read_apply]
  refine congrArg (V m c main_arg2) (funext fun a => Fin.ext ?_)
  have h := idx2 t
  match a with
  | ⟨0, _⟩ => show win0_2.index t 0 * 1024 + 1 * r.val = t.val / 4 % 2 * 1024 + r.val; rw [h.1] <;> omega
  | ⟨1, _⟩ => show win0_2.index t 1 * 1024 + 1 * l.val = t.val / 8 * 1024 + l.val; rw [h.2] <;> omega

/-- Where an index of window 3's block lies in its array. -/
theorem emb3 (t : Fin cfg0.N) (r : Fin 1024) (l : Fin 1024) : ((cfg0.win 3).blk t).view.emb (ix2 r l) = ix2 (⟨t.val / 4 % 2 * 1024 + r.val, by have := t.isLt; have : cfg0.N = 16 := N_0; omega⟩ : Fin 2048) (⟨t.val / 8 * 1024 + l.val, by have := t.isLt; have : cfg0.N = 16 := N_0; omega⟩ : Fin 2048) := by
  refine funext fun a => Fin.ext ?_
  have h := idx3 t
  match a with
  | ⟨0, _⟩ => show win0_3.index t 0 * 1024 + 1 * r.val = t.val / 4 % 2 * 1024 + r.val; rw [h.1] <;> omega
  | ⟨1, _⟩ => show win0_3.index t 1 * 1024 + 1 * l.val = t.val / 8 * 1024 + l.val; rw [h.2] <;> omega

/-- The body's partial product at an index. -/
theorem pay1 (x0 : Vec Ideal S1024x1408 .bf16) (x1 : Vec Ideal S1x1x1x1408x1024 .bf16) (r : Fin 1024) (l : Fin 1024) :
    k0_pay1 x0 x1 (ix2 r l) = ∑ x : Fin 1408, x0 (ix2 r x) * x1 (ix5 0 0 0 x l) := by
  pointwise [k0_pay1]

/-- What the first contraction step leaves in the scratch. -/
theorem sout_A (c : Dev nD) (i : grid0.Coords) (arg3 : Memref sig .tc .vmem S1024x1408 .bf16) (harg3 : arg3.IsWhole) (arg4 : Memref sig .tc .vmem S1x1x1x1408x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (h0 : cond0_0 i) (h1 : ¬cond0_1 i) (h2 : ¬cond0_2 i) (x0 : Vec Ideal S1024x1408 .bf16) (x1 : Vec Ideal S1x1x1x1408x1024 .bf16) (x2 : Vec Ideal S1024x1024 .f32) :
    sout0_A_0 c i arg3 harg3 arg4 harg4 arg5 harg5 arg6 harg6 arg7 harg7 h0 h1 h2 x0 x1 x2 = k0_pay1 x0 x1 := by
  unfold sout0_A_0
  rw [View.read_writes_eq_canon _ _ _ (scover0_A_0 c i arg3 harg3 arg4 harg4 arg5 harg5 arg6 harg6 arg7 harg7 h0 h1 h2 x0 x1 x2)]
  unfold kernelRun0_A
  dsimp only
  sl_unfold_words
  rw [View.canon_unit_zero hz2]
  unfold k0_pay2
  simp only [View.readAt_eq_ld, harg3.read_unread, harg4.read_unread, harg5.read_unread, harg7.read_unread, View.ld_unit_zero (S := S1024x1408) hz2, View.ld_unit_zero (S := S1x1x1x1408x1024) hz5, shapeCast_self]

/-- What a middle contraction step leaves in the scratch. -/
theorem sout_B (c : Dev nD) (i : grid0.Coords) (arg3 : Memref sig .tc .vmem S1024x1408 .bf16) (harg3 : arg3.IsWhole) (arg4 : Memref sig .tc .vmem S1x1x1x1408x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (h0 : ¬cond0_0 i) (h1 : cond0_1 i) (h2 : ¬cond0_2 i) (x0 : Vec Ideal S1024x1408 .bf16) (x1 : Vec Ideal S1x1x1x1408x1024 .bf16) (x2 : Vec Ideal S1024x1024 .f32) (xs : Vec Ideal S1024x1024 .f32) :
    sout0_B_0 c i arg3 harg3 arg4 harg4 arg5 harg5 arg6 harg6 arg7 harg7 h0 h1 h2 x0 x1 x2 xs = addf xs (k0_pay1 x0 x1) := by
  unfold sout0_B_0
  rw [View.read_writes_eq_canon _ _ _ (scover0_B_0 c i arg3 harg3 arg4 harg4 arg5 harg5 arg6 harg6 arg7 harg7 h0 h1 h2 x0 x1 x2 xs)]
  unfold kernelRun0_B
  dsimp only
  sl_unfold_words
  rw [View.canon_unit_zero hz2]
  unfold k0_pay3
  simp only [View.readAt_eq_ld, harg3.read_unread, harg4.read_unread, harg5.read_unread, harg7.read_unread, View.ld_unit_zero (S := S1024x1408) hz2, View.ld_unit_zero (S := S1x1x1x1408x1024) hz5, View.ld_unit_zero (S := S1024x1024) hz2, shapeCast_self]

/-- What the last contraction step leaves in the result's buffer. -/
theorem out_C (c : Dev nD) (i : grid0.Coords) (arg3 : Memref sig .tc .vmem S1024x1408 .bf16) (harg3 : arg3.IsWhole) (arg4 : Memref sig .tc .vmem S1x1x1x1408x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (h0 : ¬cond0_0 i) (h1 : cond0_1 i) (h2 : cond0_2 i) (x0 : Vec Ideal S1024x1408 .bf16) (x1 : Vec Ideal S1x1x1x1408x1024 .bf16) (x2 : Vec Ideal S1024x1024 .f32) (xs : Vec Ideal S1024x1024 .f32) :
    out0_C_3 c i arg3 harg3 arg4 harg4 arg5 harg5 arg6 harg6 arg7 harg7 h0 h1 h2 x0 x1 x2 xs = k0_pay4 (addf xs (k0_pay1 x0 x1)) x2 := by
  unfold out0_C_3
  rw [View.read_writes_eq_canon _ _ _ (cover0_C_3 c i arg3 harg3 arg4 harg4 arg5 harg5 arg6 harg6 arg7 harg7 h0 h1 h2 x0 x1 x2 xs)]
  unfold kernelRun0_C
  dsimp only
  sl_unfold_words
  rw [View.canon_unit_zero hz2]
  try rw [View.readCov_unit_zero (S := S1024x1024) _ hz2]
  unfold k0_pay3
  simp only [View.readAt_eq_ld, harg3.read_unread, harg4.read_unread, harg5.read_unread, harg7.read_unread, View.ld_unit_zero (S := S1024x1408) hz2, View.ld_unit_zero (S := S1x1x1x1408x1024) hz5, View.ld_unit_zero (S := S1024x1024) hz2, shapeCast_self]

/-- The last step's payload at an index. -/
theorem pay4 (v w : Vec Ideal S1024x1024 .f32) (r : Fin 1024) (l : Fin 1024) :
    k0_pay4 v w (ix2 r l) = Ideal.ofBits .f32 0x3F000000#32 * v (ix2 r l) + w (ix2 r l) := by
  refine Eq.trans ?_ (congrArg (· + w (ix2 r l)) (mul_comm (v (ix2 r l)) (Ideal.ofBits .f32 0x3F000000#32)))
  rfl

/-- A grid point's partial product at an index of its block. -/
def part (c : Dev nD) (n : ℕ) (h : n < cfg0.N) (r : Fin 1024) (l : Fin 1024) : EReal :=
  k0_pay1 (iblk m c 0 ⟨n, h⟩) (iblk m c 1 ⟨n, h⟩) (ix2 r l)

/-- The scratch after a first step. -/
theorem scr_A (c : Dev nD) (n : ℕ) (h : n < cfg0.N) (hm : n % 4 = 0) (r : Fin 1024) (l : Fin 1024) :
    (outsAt0 m c n h).2 (ix2 r l) = part m c n h r l := by
  rw [outsAt0_A m c ⟨n, h⟩ hm (by dsimp only; omega) (by dsimp only; omega)]
  dsimp only
  rw [sout_A]
  rfl

/-- The scratch after a middle step. -/
theorem scr_B (c : Dev nD) (n : ℕ) (h : n + 1 < cfg0.N) (hm : (n + 1) % 4 = 1 ∨ (n + 1) % 4 = 2) (r : Fin 1024) (l : Fin 1024) :
    (outsAt0 m c (n + 1) h).2 (ix2 r l) = (outsAt0 m c n (Nat.lt_of_succ_lt h)).2 (ix2 r l) + part m c (n + 1) h r l := by
  rw [outsAt0_B m c ⟨n + 1, h⟩ (by dsimp only; omega) (by dsimp only; omega) (by dsimp only; omega)]
  dsimp only
  rw [sout_B]
  rfl

/-- The sum of the four steps that end at a writing point. -/
theorem sum4 (c : Dev nD) (q : ℕ) (h : 4 * q + 3 < cfg0.N) (r : Fin 1024) (l : Fin 1024) :
    (outsAt0 m c (4 * q + 2) (by omega)).2 (ix2 r l) + part m c (4 * q + 3) h r l
      = ∑ k : Fin 4, part m c (4 * q + k.val) (by omega) r l := by
  rw [Fin.sum_univ_four, scr_B m c (4 * q + 1) (by omega) (by omega), scr_B m c (4 * q) (by omega) (by omega), scr_A m c (4 * q) (by omega) (by omega)]
  rfl

/-- One term of the whole product. -/
def term (x0 : Vec Ideal S2048x5632 .bf16) (x1 : Vec Ideal S4x2x5632x2048 .f32) (r l : Fin 2048) (x : Fin 5632) : EReal :=
  x0 (ix2 r x) * x1 (ix4 (0 : Fin 4) (0 : Fin 2) x l)

/-- The whole product at an index. -/
def prod (x0 : Vec Ideal S2048x5632 .bf16) (x1 : Vec Ideal S4x2x5632x2048 .f32) (r l : Fin 2048) : EReal :=
  ∑ x : Fin 5632, term x0 x1 r l x

/-- A grid point's partial product over the arguments. -/
theorem part_eq (c : Dev nD) (t : Fin cfg0.N) (r : Fin 1024) (l : Fin 1024) :
    part m c t.val t.isLt r l = ∑ x : Fin 1408,
      term (m ((c : Thread nD τ).loc main_arg0)) (m ((c : Thread nD τ).loc main_arg1)) (⟨t.val / 4 % 2 * 1024 + r.val, by have := t.isLt; have : cfg0.N = 16 := N_0; omega⟩ : Fin 2048)
        (⟨t.val / 8 * 1024 + l.val, by have := t.isLt; have : cfg0.N = 16 := N_0; omega⟩ : Fin 2048) (⟨t.val % 4 * 1408 + x.val, by have := t.isLt; have : cfg0.N = 16 := N_0; omega⟩ : Fin 5632) := by
  unfold part
  rw [pay1]
  exact Finset.sum_congr rfl fun x _ => by rw [blk0, blk1]; rfl

/-- The reference's result at an index. -/
theorem ref (x0 : Vec Ideal S2048x5632 .bf16) (x1 : Vec Ideal S4x2x5632x2048 .f32) (x2 : Vec Ideal S2048x2048 .f32) (r l : Fin 2048) :
    Cert.DownRefIdeal.Read.val_main_v6 (F := Ideal) x0 x1 x2 (ix2 r l) = x2 (ix2 r l) + Ideal.ofBits .f32 0x3F000000#32 * prod x0 x1 r l := by
  rw [← Cert.DownRefIdeal.Read.val_main_v6_eq]
  pointwise [prod, term]

/-- The reference's result on a device's arguments. -/
abbrev goal (c : Dev nD) : Buf (Elt Ideal) ((c : Thread nD τ).loc main_v3) :=
  Cert.DownRefIdeal.Read.val_main_v6 (F := Ideal) (m ((c : Thread nD τ).loc main_arg0)) (m ((c : Thread nD τ).loc main_arg1)) (m ((c : Thread nD τ).loc main_arg2))

/-- The four partial products of a block add up to the whole product. -/
theorem total (c : Dev nD) (t : Fin cfg0.N) (q : ℕ) (hq : t.val = 4 * q + 3) (r : Fin 1024) (l : Fin 1024) :
    (outsAt0 m c (t.val - 1) (Nat.lt_of_le_of_lt (Nat.sub_le _ _) t.isLt)).2 (ix2 r l) + part m c t.val t.isLt r l
      = prod (m ((c : Thread nD τ).loc main_arg0)) (m ((c : Thread nD τ).loc main_arg1)) (⟨t.val / 4 % 2 * 1024 + r.val, by have := t.isLt; have : cfg0.N = 16 := N_0; omega⟩ : Fin 2048) (⟨t.val / 8 * 1024 + l.val, by have := t.isLt; have : cfg0.N = 16 := N_0; omega⟩ : Fin 2048) := by
  obtain ⟨n, hn⟩ := t
  dsimp only at hq
  subst hq
  have hN : cfg0.N = 16 := N_0
  refine (sum4 m c q hn r l).trans ?_
  unfold prod
  refine Eq.trans (Finset.sum_congr rfl fun k _ => part_eq m c ⟨4 * q + k.val, by omega⟩ r l) ?_
  refine Fin.sum_mul_add_congr (S := 4) (n := 1408) (fun s k hl => ?_)
  have hs := s.isLt
  refine congr (congrArg₂ (term _ _) (Fin.ext ?_) (Fin.ext ?_)) (Fin.ext ?_)
  · show (4 * q + s.val) / 4 % 2 * 1024 + r.val = (4 * q + 3) / 4 % 2 * 1024 + r.val
    omega
  · show (4 * q + s.val) / 8 * 1024 + l.val = (4 * q + 3) / 8 * 1024 + l.val
    omega
  · show (4 * q + s.val) % 4 * 1408 + k.val = s.val * 1408 + k.val
    omega

/-- What a writing grid point writes back is its block of the reference's result. -/
theorem flushed_eq (c : Dev nD) (t : Fin cfg0.N) (hf : (cfg0.win 3).flush t = true) :
    (dats m 0 c).flushed 3 t = ((cfg0.win 3).blk t).view.read (Elt Ideal) (goal m c) := by
  have hm : t.val % 4 = 3 := (flush0_3 t).mp hf
  rw [Value.flushed3_C m c t (by omega) (by omega) hm, out_C]
  funext j
  obtain ⟨r, l, rfl⟩ : ∃ (r : Fin 1024) (l : Fin 1024), j = ix2 r l := ⟨j 0, j 1, by idx_ext⟩
  rw [View.read_apply, emb3]
  refine Eq.trans ?_ (ref _ _ _ _ _).symm
  rw [← total m c t (t.val / 4) (by omega) r l]
  rw [← blk2 m c t r l]
  refine Eq.trans ?_ (add_comm _ _)
  exact pay4 _ _ r l

/-- The blocks written back tile window 3's array. -/
theorem cover3 (i : S2048x2048.Idx) :
    ∃ t : Fin cfg0.N, (cfg0.win 3).flush t = true ∧ i ∈ ((cfg0.win 3).blk t).view.set := by
  have h0 : (i 0 : Nat) < 2048 := (i 0).isLt
  have h1 : (i 1 : Nat) < 2048 := (i 1).isLt
  have hN : cfg0.N = 16 := N_0
  obtain ⟨t, ht⟩ : ∃ t : Fin cfg0.N, t.val = (i 1 : Nat) / 1024 * 8 + (i 0 : Nat) / 1024 * 4 + 3 := ⟨⟨_, by omega⟩, rfl⟩
  refine ⟨t, (flush0_3 _).mpr (by omega), ?_⟩
  show i ∈ ((View.whole main_v3).slice (win0_3.rect t)).set
  rw [View.set_slice_whole, Rect.mem_set_unit]
  have h := idx3 t
  intro a
  match a with
  | ⟨0, _⟩ =>
    show win0_3.index t 0 * 1024 ≤ (i 0 : Nat) ∧ (i 0 : Nat) < win0_3.index t 0 * 1024 + 1024
    rw [h.1]; omega
  | ⟨1, _⟩ =>
    show win0_3.index t 1 * 1024 ≤ (i 1 : Nat) ∧ (i 1 : Nat) < win0_3.index t 1 * 1024 + 1024
    rw [h.2]; omega

/-- After the region the result's array holds the reference's result. -/
theorem final (c : Dev nD) : (dats m 0 c).arrAt 3 cfg0.N = goal m c :=
  (dats m 0 c).arrAt_eq_of_cover 3 (goal m c) (fun t hf => flushed_eq m c t hf) cover3

end Cert.DownIdeal.Val

namespace Cert.Claims

/-- The down product and its reference end with equal results. -/
theorem down : Cert.algebraic_DownIdeal_DownRefIdeal (hDownIdeal := Cert.DownIdeal.Gen.facts)
    (hDownRefIdeal := Cert.DownRefIdeal.Gen.facts) := by
  intro m g m' g' _ hargs
  refine ⟨fun c => Cert.DownIdeal.Val.goal m c,
    (θ_run _ _ _).mono (fun r h c => ⟨(h c).1.trans (Cert.DownIdeal.Val.final m c), (h c).2⟩) (Cert.DownIdeal.Value.run_blocks m g),
    (θ_run _ _ _).mono (fun r h c => ⟨(h c).1.trans ?_, (h c).2⟩) (Cert.DownRefIdeal.Value.run m' g')⟩
  rw [(hargs c).1, (hargs c).2.1, (hargs c).2.2]
  exact Cert.DownRefIdeal.Read.val_main_v6_eq _ _ _

end Cert.Claims
-- ==== Proof.GmlpPay.lean ====
/-
  The eight groups of the gate's gradient do one computation: what each group stores, as one family of vectors.
-/
module

public import proofs.«01_k».proof.Defs
public import proofs.«01_k».proof.Proof.Gen.KernelIdeal.Value
public import Idealize.ShloMosaic.Lib.Pipeline.ValueKit.Acc
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

section

variable {F : FTy → Type} [FloatOps F] [Named F] (x0 : Vec F S128x128 .f32) (x1 : Vec F S128x128 .f32) (x2 : Vec F S128x128 .f32) (x3 : Vec F S1x128 .f32) (x4 : Vec F S1x128x128 .f32) (x5 : Vec F S128x8 .f32)

/-- A group's column of the biases. -/
def biasV {F : FTy → Type} [FloatOps F] (g : BitVec 32) (x5 : Vec F S128x8 .f32) : FVec F S128x128 .f32 :=
  broadcastTo S128x128 (shapeCast S128x1 (multiReduction .add [1] S128
    (select (cmpi .eq (iota .tc S128x8 32 [1] iota_S128x8_d1_w32) (broadcast S128x8 g)) (shapeCast S128x8 x5 shapeCasts_S128x8_S128x8)
      (broadcast S128x8 (Scalar.ofBits (F := F) .f32 0x00000000#32)))
    0x00000000#32 reduces_S128x8_S128 (.inl rfl) rfl) shapeCasts_S128_S128x1) broadcasts_S128x1_S128x128

/-- A group's gradient of the first half, from the blocks. -/
def duV {F : FTy → Type} [FloatOps F] [Named F] (g : BitVec 32) (x0 x1 x2 : Vec F S128x128 .f32) (x3 : Vec F S1x128 .f32) (x4 : Vec F S1x128x128 .f32)
    (x5 : Vec F S128x8 .f32) : FVec F S128x128 .bf16 :=
  k0_pay19 x0 (mulf x2 (addf (matmul dot_S128x128_S128x128_S128x128_1_0_0_1_n_n none (k0_pay15 k0_pay6 x4) (k0_pay14 (k0_pay10 x1) x3)
    (constant S128x128 .f32 0x00000000#32)) (biasV g x5))) (k0_pay17 x0) (k0_pay18 x0) (Scalar.ofBits .f32 0x3F000000#32)

/-- A group's gradient of the second half, from the blocks. -/
def dvV {F : FTy → Type} [FloatOps F] [Named F] (x0 x1 x2 : Vec F S128x128 .f32) (x3 : Vec F S1x128 .f32) (x4 : Vec F S1x128x128 .f32) : FVec F S128x128 .bf16 :=
  k0_pay31 (k0_pay26 (k0_pay11 (k0_pay10 x1)) (k0_pay12 (k0_pay10 x1)) (k0_pay13 x3) (k0_pay24 x2 (k0_pay9 x0) (k0_pay15 k0_pay6 x4))) (k0_pay28 x1) (k0_pay29 x1) (k0_pay30 x1)

/-- A group's gradient of the mixing matrix added to what stood there. -/
def dwsV {F : FTy → Type} [FloatOps F] [Named F] (x0 x1 x2 : Vec F S128x128 .f32) (x3 : Vec F S1x128 .f32) (old : Vec F S1x128x128 .f32) : FVec F S1x128x128 .f32 :=
  k0_pay22 k0_pay6 x2 (k0_pay9 x0) (k0_pay14 (k0_pay10 x1) x3) old

/-- A group's gradient of the gain added to what stood there. -/
def dgV {F : FTy → Type} [FloatOps F] [Named F] (x0 x1 x2 : Vec F S128x128 .f32) (x4 : Vec F S1x128x128 .f32) (old : Vec F S1x128 .f32) : FVec F S1x128 .f32 :=
  k0_pay25 (k0_pay12 (k0_pay10 x1)) (k0_pay24 x2 (k0_pay9 x0) (k0_pay15 k0_pay6 x4)) old

/-- A group's gradient of the biases added to the columns before it. -/
def dbV {F : FTy → Type} [FloatOps F] [Named F] (g : BitVec 32) (x0 x2 : Vec F S128x128 .f32) (acc : FVec F S128x8 .f32) : FVec F S128x8 .f32 :=
  addf acc (select (cmpi .eq (iota .tc S128x8 32 [1] iota_S128x8_d1_w32) (broadcast S128x8 g))
    (broadcastTo S128x8 (shapeCast S128x1 (shapeCast S128x1 (multiReduction .add [1] S128 (k0_pay20 x2 (k0_pay9 x0)) 0x00000000#32 reduces_S128x128_S128 (.inl rfl) rfl)
      shapeCasts_S128_S128x1) shapeCasts_S128x1_S128x1) broadcasts_S128x1_S128x8) (broadcast S128x8 (Scalar.ofBits (F := F) .f32 0x00000000#32)))

/-- Group 7's gradient of the first half. -/
theorem du_7 :
    k0_pay178 (F := F) x0 (k0_pay173 k0_pay6 (iota Kind.tc S128x8 32 [1] iota_S128x8_d1_w32) (k0_pay7 x5) x2 (k0_pay166 x1) (k0_pay167 x1) x3 x4) (k0_pay175 x0) (k0_pay176 x0) (k0_pay177 x0) = duV (F := F) 7#32 x0 x1 x2 x3 x4 x5 := rfl

/-- Group 6's gradient of the first half. -/
theorem du_6 :
    k0_pay151 (F := F) x0 (k0_pay149 k0_pay6 (iota Kind.tc S128x8 32 [1] iota_S128x8_d1_w32) (k0_pay7 x5) x2 (k0_pay140 x1) (k0_pay141 x1) k0_pay142 x3 x4) (k0_pay150 x0) (FloatOps.ofBits (F := F) FTy.f32 1065353216#32) = duV (F := F) 6#32 x0 x1 x2 x3 x4 x5 := rfl

/-- Group 5's gradient of the first half. -/
theorem du_5 :
    k0_pay127 (F := F) x0 (k0_pay125 k0_pay6 (iota Kind.tc S128x8 32 [1] iota_S128x8_d1_w32) (k0_pay7 x5) x1 x2 k0_pay118 x3 x4) k0_pay126 = duV (F := F) 5#32 x0 x1 x2 x3 x4 x5 := rfl

/-- Group 4's gradient of the first half. -/
theorem du_4 :
    k0_pay104 (F := F) x0 x2 (k0_pay101 x1 x3) (k0_pay102 k0_pay6 x4) (k0_pay103 (iota Kind.tc S128x8 32 [1] iota_S128x8_d1_w32) (k0_pay7 x5)) = duV (F := F) 4#32 x0 x1 x2 x3 x4 x5 := rfl

/-- Group 3's gradient of the first half. -/
theorem du_3 :
    k0_pay85 (F := F) k0_pay6 (iota Kind.tc S128x8 32 [1] iota_S128x8_d1_w32) (k0_pay7 x5) x0 x2 (k0_pay81 x1 x3) (k0_pay82 x4) k0_pay83 = duV (F := F) 3#32 x0 x1 x2 x3 x4 x5 := rfl

/-- Group 2's gradient of the first half. -/
theorem du_2 :
    k0_pay66 (F := F) (k0_pay62 k0_pay6 (iota Kind.tc S128x8 32 [1] iota_S128x8_d1_w32) (k0_pay7 x5) x2 (k0_pay57 x1) (k0_pay59 x3) x4) (k0_pay64 x0) (k0_pay65 x0) = duV (F := F) 2#32 x0 x1 x2 x3 x4 x5 := rfl

/-- Group 1's gradient of the first half. -/
theorem du_1 :
    k0_pay46 (F := F) x0 (k0_pay41 k0_pay6 (iota Kind.tc S128x8 32 [1] iota_S128x8_d1_w32) (k0_pay7 x5) x2 (k0_pay33 x1) (k0_pay34 x1) k0_pay35 x3 x4) (k0_pay43 x0) (k0_pay44 x0) k0_pay45 = duV (F := F) 1#32 x0 x1 x2 x3 x4 x5 := rfl

/-- Group 0's gradient of the first half. -/
theorem du_0 :
    k0_pay19 (F := F) x0 (k0_pay16 k0_pay6 (iota Kind.tc S128x8 32 [1] iota_S128x8_d1_w32) (k0_pay7 x5) x2 (k0_pay10 x1) x3 x4) (k0_pay17 x0) (k0_pay18 x0) (FloatOps.ofBits (F := F) FTy.f32 1056964608#32) = duV (F := F) 0#32 x0 x1 x2 x3 x4 x5 := rfl

/-- Group 7's gradient of the second half. -/
theorem dv_7 :
    k0_pay1 (F := F) (k0_pay186 x1 (k0_pay168 (k0_pay167 x1)) (k0_pay169 (k0_pay166 x1) (k0_pay167 x1)) (k0_pay170 x3) (k0_pay183 x2 (k0_pay165 x0) (k0_pay172 k0_pay6 x4))) = dvV (F := F) x0 x1 x2 x3 x4 := rfl

/-- Group 6's gradient of the second half. -/
theorem dv_6 :
    k0_pay164 (F := F) x1 (k0_pay160 (k0_pay144 (k0_pay140 x1) (k0_pay141 x1) k0_pay142) (k0_pay145 (k0_pay140 x1) (k0_pay141 x1) k0_pay142) (k0_pay146 x3) (k0_pay148 k0_pay6 x4) (k0_pay153 x2 (k0_pay139 x0))) (k0_pay162 x1) (k0_pay163 x1) (Named.named κ "cube3" 1040801103#32) = dvV (F := F) x0 x1 x2 x3 x4 := rfl

/-- Group 5's gradient of the second half. -/
theorem dv_5 :
    k0_pay138 (F := F) x1 (k0_pay134 (k0_pay120 x1 k0_pay118) (k0_pay121 x1 k0_pay118) (k0_pay122 x3) (k0_pay124 k0_pay6 x4) (k0_pay129 x2 (k0_pay117 x0))) (k0_pay135 x1) (k0_pay136 x1) (k0_pay137 x1) = dvV (F := F) x0 x1 x2 x3 x4 := rfl

/-- Group 4's gradient of the second half. -/
theorem dv_4 :
    k0_pay116 (F := F) x1 (k0_pay114 (k0_pay98 x1) (k0_pay99 x1) (k0_pay100 x3) (k0_pay102 k0_pay6 x4) (k0_pay106 x2 (k0_pay96 (k0_pay94 x0) (k0_pay95 x0) (FloatOps.ofBits (F := F) FTy.f32 1061962282#32)))) (k0_pay115 x1) = dvV (F := F) x0 x1 x2 x3 x4 := rfl

/-- Group 3's gradient of the second half. -/
theorem dv_3 :
    k0_pay93 (F := F) x1 (k0_pay92 (k0_pay78 x1) (k0_pay79 x1) (k0_pay80 x3) (k0_pay84 k0_pay6 (k0_pay82 x4) k0_pay83) (k0_pay87 x2 (k0_pay76 x0 (FloatOps.ofBits (F := F) FTy.f32 1056964608#32)))) (Named.named κ "cube" 1027024659#32) = dvV (F := F) x0 x1 x2 x3 x4 := rfl

/-- Group 2's gradient of the second half. -/
theorem dv_2 :
    k0_pay75 (F := F) x1 (k0_pay56 x1) (k0_pay57 x1) (k0_pay73 x2 (k0_pay54 x0) (k0_pay58 x3) (k0_pay61 k0_pay6 x4)) (k0_pay74 x2 (k0_pay54 x0) (k0_pay57 x1) (k0_pay58 x3) (k0_pay61 k0_pay6 x4)) = dvV (F := F) x0 x1 x2 x3 x4 := rfl

/-- Group 1's gradient of the second half. -/
theorem dv_1 :
    k0_pay53 (F := F) x1 (k0_pay36 (k0_pay34 x1) k0_pay35) (k0_pay37 (k0_pay33 x1) (k0_pay34 x1) k0_pay35) (k0_pay38 x3) (k0_pay51 x2 (k0_pay32 x0) (k0_pay40 k0_pay6 x4)) = dvV (F := F) x0 x1 x2 x3 x4 := rfl

/-- Group 0's gradient of the second half. -/
theorem dv_0 :
    k0_pay31 (F := F) (k0_pay26 (k0_pay11 (k0_pay10 x1)) (k0_pay12 (k0_pay10 x1)) (k0_pay13 x3) (k0_pay24 x2 (k0_pay9 x0) (k0_pay15 k0_pay6 x4))) (k0_pay28 x1) (k0_pay29 x1) (k0_pay30 x1) = dvV (F := F) x0 x1 x2 x3 x4 := rfl

/-- Group 7's gradient of the mixing matrix. -/
theorem dws_7 {F : FTy → Type} [FloatOps F] [Named F] (x0 : Vec F S128x128 .f32) (x1 : Vec F S128x128 .f32) (x2 : Vec F S128x128 .f32) (x3 : Vec F S1x128 .f32) (old : Vec F S1x128x128 .f32) :
    k0_pay181 (F := F) k0_pay6 x2 (k0_pay165 x0) (k0_pay171 (k0_pay166 x1) (k0_pay167 x1) x3) old = dwsV (F := F) x0 x1 x2 x3 old := rfl

/-- Group 6's gradient of the mixing matrix. -/
theorem dws_6 {F : FTy → Type} [FloatOps F] [Named F] (x0 : Vec F S128x128 .f32) (x1 : Vec F S128x128 .f32) (x2 : Vec F S128x128 .f32) (x3 : Vec F S1x128 .f32) (old : Vec F S1x128x128 .f32) :
    k0_pay154 (F := F) k0_pay6 x2 (k0_pay139 x0) (k0_pay147 (k0_pay140 x1) (k0_pay141 x1) k0_pay142 x3) old = dwsV (F := F) x0 x1 x2 x3 old := rfl

/-- Group 5's gradient of the mixing matrix. -/
theorem dws_5 {F : FTy → Type} [FloatOps F] [Named F] (x0 : Vec F S128x128 .f32) (x1 : Vec F S128x128 .f32) (x2 : Vec F S128x128 .f32) (x3 : Vec F S1x128 .f32) (old : Vec F S1x128x128 .f32) :
    k0_pay130 (F := F) k0_pay6 x2 (k0_pay117 x0) (k0_pay123 x1 k0_pay118 x3) old = dwsV (F := F) x0 x1 x2 x3 old := rfl

/-- Group 4's gradient of the mixing matrix. -/
theorem dws_4 {F : FTy → Type} [FloatOps F] [Named F] (x0 : Vec F S128x128 .f32) (x1 : Vec F S128x128 .f32) (x2 : Vec F S128x128 .f32) (x3 : Vec F S1x128 .f32) (old : Vec F S1x128x128 .f32) :
    k0_pay110 (F := F) k0_pay6 (k0_pay107 x2 (k0_pay96 (k0_pay94 x0) (k0_pay95 x0) (FloatOps.ofBits (F := F) FTy.f32 1061962282#32)) (k0_pay101 x1 x3)) (k0_pay108 old) k0_pay109 = dwsV (F := F) x0 x1 x2 x3 old := rfl

/-- Group 3's gradient of the mixing matrix. -/
theorem dws_3 {F : FTy → Type} [FloatOps F] [Named F] (x0 : Vec F S128x128 .f32) (x1 : Vec F S128x128 .f32) (x2 : Vec F S128x128 .f32) (x3 : Vec F S1x128 .f32) (old : Vec F S1x128x128 .f32) :
    k0_pay88 (F := F) k0_pay6 (k0_pay81 x1 x3) (k0_pay87 x2 (k0_pay76 x0 (FloatOps.ofBits (F := F) FTy.f32 1056964608#32))) old = dwsV (F := F) x0 x1 x2 x3 old := rfl

/-- Group 2's gradient of the mixing matrix. -/
theorem dws_2 {F : FTy → Type} [FloatOps F] [Named F] (x0 : Vec F S128x128 .f32) (x1 : Vec F S128x128 .f32) (x2 : Vec F S128x128 .f32) (x3 : Vec F S1x128 .f32) (old : Vec F S1x128x128 .f32) :
    k0_pay69 (F := F) k0_pay6 x2 (k0_pay54 x0) (k0_pay60 (k0_pay57 x1) (k0_pay59 x3)) old = dwsV (F := F) x0 x1 x2 x3 old := rfl

/-- Group 1's gradient of the mixing matrix. -/
theorem dws_1 {F : FTy → Type} [FloatOps F] [Named F] (x0 : Vec F S128x128 .f32) (x1 : Vec F S128x128 .f32) (x2 : Vec F S128x128 .f32) (x3 : Vec F S1x128 .f32) (old : Vec F S1x128x128 .f32) :
    k0_pay49 (F := F) k0_pay6 x2 (k0_pay32 x0) (k0_pay39 (k0_pay33 x1) (k0_pay34 x1) k0_pay35 x3) old = dwsV (F := F) x0 x1 x2 x3 old := rfl

/-- Group 0's gradient of the mixing matrix. -/
theorem dws_0 {F : FTy → Type} [FloatOps F] [Named F] (x0 : Vec F S128x128 .f32) (x1 : Vec F S128x128 .f32) (x2 : Vec F S128x128 .f32) (x3 : Vec F S1x128 .f32) (old : Vec F S1x128x128 .f32) :
    k0_pay22 (F := F) k0_pay6 x2 (k0_pay9 x0) (k0_pay14 (k0_pay10 x1) x3) old = dwsV (F := F) x0 x1 x2 x3 old := rfl

/-- Group 7's gradient of the gain. -/
theorem dg_7 {F : FTy → Type} [FloatOps F] [Named F] (x0 : Vec F S128x128 .f32) (x1 : Vec F S128x128 .f32) (x2 : Vec F S128x128 .f32) (x4 : Vec F S1x128x128 .f32) (old : Vec F S1x128 .f32) :
    k0_pay185 (F := F) (k0_pay169 (k0_pay166 x1) (k0_pay167 x1)) (k0_pay183 x2 (k0_pay165 x0) (k0_pay172 k0_pay6 x4)) (k0_pay184 old) = dgV (F := F) x0 x1 x2 x4 old := rfl

/-- Group 6's gradient of the gain. -/
theorem dg_6 {F : FTy → Type} [FloatOps F] [Named F] (x0 : Vec F S128x128 .f32) (x1 : Vec F S128x128 .f32) (x2 : Vec F S128x128 .f32) (x4 : Vec F S1x128x128 .f32) (old : Vec F S1x128 .f32) :
    k0_pay159 (F := F) (k0_pay145 (k0_pay140 x1) (k0_pay141 x1) k0_pay142) (k0_pay148 k0_pay6 x4) (k0_pay153 x2 (k0_pay139 x0)) old = dgV (F := F) x0 x1 x2 x4 old := rfl

/-- Group 5's gradient of the gain. -/
theorem dg_5 {F : FTy → Type} [FloatOps F] [Named F] (x0 : Vec F S128x128 .f32) (x1 : Vec F S128x128 .f32) (x2 : Vec F S128x128 .f32) (x4 : Vec F S1x128x128 .f32) (old : Vec F S1x128 .f32) :
    k0_pay133 (F := F) (k0_pay121 x1 k0_pay118) (k0_pay124 k0_pay6 x4) (k0_pay129 x2 (k0_pay117 x0)) old = dgV (F := F) x0 x1 x2 x4 old := rfl

/-- Group 4's gradient of the gain. -/
theorem dg_4 {F : FTy → Type} [FloatOps F] [Named F] (x0 : Vec F S128x128 .f32) (x1 : Vec F S128x128 .f32) (x2 : Vec F S128x128 .f32) (x4 : Vec F S1x128x128 .f32) (old : Vec F S1x128 .f32) :
    k0_pay113 (F := F) (k0_pay99 x1) (k0_pay102 k0_pay6 x4) (k0_pay106 x2 (k0_pay96 (k0_pay94 x0) (k0_pay95 x0) (FloatOps.ofBits (F := F) FTy.f32 1061962282#32))) old = dgV (F := F) x0 x1 x2 x4 old := rfl

/-- Group 3's gradient of the gain. -/
theorem dg_3 {F : FTy → Type} [FloatOps F] [Named F] (x0 : Vec F S128x128 .f32) (x1 : Vec F S128x128 .f32) (x2 : Vec F S128x128 .f32) (x4 : Vec F S1x128x128 .f32) (old : Vec F S1x128 .f32) :
    k0_pay91 (F := F) (k0_pay79 x1) (k0_pay84 k0_pay6 (k0_pay82 x4) k0_pay83) (k0_pay87 x2 (k0_pay76 x0 (FloatOps.ofBits (F := F) FTy.f32 1056964608#32))) old = dgV (F := F) x0 x1 x2 x4 old := rfl

/-- Group 2's gradient of the gain. -/
theorem dg_2 {F : FTy → Type} [FloatOps F] [Named F] (x0 : Vec F S128x128 .f32) (x1 : Vec F S128x128 .f32) (x2 : Vec F S128x128 .f32) (x4 : Vec F S1x128x128 .f32) (old : Vec F S1x128 .f32) :
    k0_pay72 (F := F) x2 (k0_pay54 x0) (k0_pay57 x1) (k0_pay61 k0_pay6 x4) old = dgV (F := F) x0 x1 x2 x4 old := rfl

/-- Group 1's gradient of the gain. -/
theorem dg_1 {F : FTy → Type} [FloatOps F] [Named F] (x0 : Vec F S128x128 .f32) (x1 : Vec F S128x128 .f32) (x2 : Vec F S128x128 .f32) (x4 : Vec F S1x128x128 .f32) (old : Vec F S1x128 .f32) :
    k0_pay52 (F := F) x2 (k0_pay32 x0) (k0_pay37 (k0_pay33 x1) (k0_pay34 x1) k0_pay35) (k0_pay40 k0_pay6 x4) old = dgV (F := F) x0 x1 x2 x4 old := rfl

/-- Group 0's gradient of the gain. -/
theorem dg_0 {F : FTy → Type} [FloatOps F] [Named F] (x0 : Vec F S128x128 .f32) (x1 : Vec F S128x128 .f32) (x2 : Vec F S128x128 .f32) (x4 : Vec F S1x128x128 .f32) (old : Vec F S1x128 .f32) :
    k0_pay25 (F := F) (k0_pay12 (k0_pay10 x1)) (k0_pay24 x2 (k0_pay9 x0) (k0_pay15 k0_pay6 x4)) old = dgV (F := F) x0 x1 x2 x4 old := rfl

/-- The gradient of the biases. -/
theorem db_all {F : FTy → Type} [FloatOps F] [Named F] (x00 x20 x01 x21 x02 x22 x03 x23 x04 x24 x05 x25 x06 x26 x07 x27 : Vec F S128x128 .f32) (old : Vec F S128x8 .f32) :
    k0_pay2 (F := F) (k0_pay182 (iota Kind.tc S128x8 32 [1] iota_S128x8_d1_w32) (k0_pay157 (k0_pay131 (iota Kind.tc S128x8 32 [1] iota_S128x8_d1_w32) (k0_pay111 (iota Kind.tc S128x8 32 [1] iota_S128x8_d1_w32) (k0_pay89 (iota Kind.tc S128x8 32 [1] iota_S128x8_d1_w32) (k0_pay70 (iota Kind.tc S128x8 32 [1] iota_S128x8_d1_w32) (k0_pay50 (iota Kind.tc S128x8 32 [1] iota_S128x8_d1_w32) (k0_pay23 (iota Kind.tc S128x8 32 [1] iota_S128x8_d1_w32) k0_pay8 x20 (k0_pay9 x00)) x21 (k0_pay32 x01)) x22 (k0_pay54 x02)) (k0_pay86 x23 (k0_pay76 x03 (FloatOps.ofBits (F := F) FTy.f32 1056964608#32)))) (k0_pay105 x24 (k0_pay96 (k0_pay94 x04) (k0_pay95 x04) (FloatOps.ofBits (F := F) FTy.f32 1061962282#32)))) (k0_pay128 x25 (k0_pay117 x05))) (k0_pay155 (iota Kind.tc S128x8 32 [1] iota_S128x8_d1_w32)) (FloatOps.ofBits (F := F) FTy.f32 0#32) (k0_pay156 x26 (k0_pay139 x06))) x27 (k0_pay165 x07)) old = k0_pay2 (dbV (F := F) 7#32 x07 x27 (dbV (F := F) 6#32 x06 x26 (dbV (F := F) 5#32 x05 x25 (dbV (F := F) 4#32 x04 x24 (dbV (F := F) 3#32 x03 x23 (dbV (F := F) 2#32 x02 x22 (dbV (F := F) 1#32 x01 x21 (dbV (F := F) 0#32 x00 x20 k0_pay8)))))))) old := rfl

end

end Cert.KernelIdeal.Val
end
-- ==== Proof.GmlpDefs.lean ====
/-
  The gate's gradient at one group and one chunk of positions: the formulas of the kernel, the formulas the derivative of
  the reference's lines gives, and that they agree.
-/
module

public import proofs.«01_k».proof.Proof.Finite

@[expose] public section

noncomputable section

open Idealize.ShloMosaic

namespace Cert.Gmlp

/-- One half. -/
abbrev hf : EReal := Ideal.ofBits .f32 0x3F000000#32
/-- The factor inside the hyperbolic tangent. -/
abbrev cC : EReal := Ideal.ofBits .f32 0x3F4C422A#32
/-- The width of a group. -/
abbrev w128 : EReal := Ideal.ofBits .f32 0x43000000#32
/-- The small number under the root. -/
abbrev eps : EReal := Ideal.ofBits .f32 0x358637BD#32
/-- Minus one half. -/
abbrev nhf : EReal := Ideal.ofBits .f32 0xBF000000#32
/-- The numerator of the cubic's factor. -/
abbrev wnum : EReal := Ideal.ofBits .f32 0x460BBC00#32
/-- The denominator of the cubic's factor. -/
abbrev wden : EReal := Ideal.ofBits .f32 0x48435000#32
/-- Three. -/
abbrev w3 : EReal := Ideal.ofBits .f32 0x40400000#32
/-- The cubic's factor. -/
def q : EReal := ((8943 / 200000 : ℝ) : EReal)
/-- Three times the cubic's factor. -/
def q3 : EReal := ((26829 / 200000 : ℝ) : EReal)

theorem hf_word : hf = ((1 / 2 : ℝ) : EReal) := by
  simp [Ideal.ofBits, Ideal.ieee, -EReal.coe_mul]; norm_num

theorem w128_word : w128 = ((128 : ℝ) : EReal) := by
  simp [Ideal.ofBits, Ideal.ieee, -EReal.coe_mul]; norm_num

theorem wnum_word : wnum = ((8943 : ℝ) : EReal) := by
  simp [Ideal.ofBits, Ideal.ieee, -EReal.coe_mul]; norm_num

theorem wden_word : wden = ((200000 : ℝ) : EReal) := by
  simp [Ideal.ofBits, Ideal.ieee, -EReal.coe_mul]; norm_num

theorem w3_word : w3 = ((3 : ℝ) : EReal) := by
  simp [Ideal.ofBits, Ideal.ieee, -EReal.coe_mul]; norm_num

theorem cC_word : ∃ k : ℝ, cC = (k : EReal) := by
  refine ⟨13386282 * (2 : ℝ) ^ (-24 : ℤ), ?_⟩
  simp [Ideal.ofBits, Ideal.ieee, -EReal.coe_mul]

/-- The hyperbolic tangent of the gate's activation. -/
def th (x : EReal) : EReal := Ideal.tanh (cC * (x + q * x * x * x))

/-- The gate's activation. -/
def gel (x : EReal) : EReal := hf * x * (1 + th x)

/-- Its derivative, as the kernel writes it. -/
def dgel (x : EReal) : EReal := hf * (1 + th x) + hf * x * (1 - th x * th x) * cC * (1 + q3 * x * x)

/-- The hyperbolic tangent, as the reference writes its argument. -/
def thR (x : EReal) : EReal := Ideal.tanh (cC * (x + Ideal.div (wnum * (x * x * x)) wden))

/-- The activation, as the reference writes it. -/
def gelR (x : EReal) : EReal := x * (hf * (1 + thR x))

/-- A cotangent times the activation's derivative, as the derivative of the reference's lines. -/
def dgelR (x a : EReal) : EReal :=
  a * (hf * (1 + thR x)) + cC * (hf * (x * a) * ((1 + thR x) * (1 - thR x)))
    + wnum * Ideal.div (cC * (hf * (x * a) * ((1 + thR x) * (1 - thR x)))) wden * (w3 * (x * x))

/-- The two arguments agree. -/
theorem thR_eq (x : EReal) : thR x = th x := by
  unfold thR th
  refine congrArg (fun y => Ideal.tanh (cC * (x + y))) ?_
  rw [wnum_word, wden_word, Ideal.div_coe (by norm_num)]
  have h : q = ((8943 : ℝ) : EReal) * ((1 / 200000 : ℝ) : EReal) := by
    unfold q
    rw [← EReal.coe_mul]
    norm_num
  rw [h]
  ac_rfl

/-- The two activations agree. -/
theorem gelR_eq (x : EReal) : gelR x = gel x := by
  unfold gelR gel
  rw [thR_eq]
  ac_rfl

/-- The hyperbolic tangent of a real is a real. -/
theorem th_real (x : ℝ) : ∃ t : ℝ, th (x : EReal) = (t : EReal) := by
  obtain ⟨k, hk⟩ := cC_word
  unfold th q
  rw [hk]
  simp only [← EReal.coe_mul, ← EReal.coe_add, Ideal.tanh_coe]
  exact ⟨_, rfl⟩

/-- The activation of a real is a real. -/
theorem gel_real (x : ℝ) : ∃ t : ℝ, gel (x : EReal) = (t : EReal) := by
  obtain ⟨t, ht⟩ := th_real x
  unfold gel
  rw [ht, hf_word, ← EReal.coe_one]
  simp only [← EReal.coe_mul, ← EReal.coe_add]
  exact ⟨_, rfl⟩

/-- The two derivatives agree at reals. -/
theorem dgelR_eq (x a : EReal) (hx : ∃ r : ℝ, x = (r : EReal)) (ha : ∃ r : ℝ, a = (r : EReal)) : dgelR x a = a * dgel x := by
  obtain ⟨x, rfl⟩ := hx
  obtain ⟨a, rfl⟩ := ha
  obtain ⟨t, ht⟩ := th_real x
  obtain ⟨k, hk⟩ := cC_word
  unfold dgelR dgel q3
  rw [thR_eq, ht, hf_word, hk, wnum_word, wden_word, w3_word, ← EReal.coe_one]
  simp only [← EReal.coe_mul, ← EReal.coe_add, ← EReal.coe_sub, Ideal.div_coe (show (200000 : ℝ) ≠ 0 by norm_num)]
  refine congrArg _ ?_
  ring

/-- The inverse root mean square of a group's activations. -/
def inv (v : Fin 128 → EReal) : EReal := Ideal.rsqrt (Ideal.div (∑ k, gel (v k) * gel (v k)) w128 + eps)

/-- The normalised activation. -/
def nrm (v : Fin 128 → EReal) (l : Fin 128) : EReal := gel (v l) * inv v

/-- A value kept where one position is not after the other. -/
def msk (s t : Fin 128) (a : EReal) : EReal := if s ≤ t then a else 0

/-- A group's gradient of the activated second half, as the kernel writes it. -/
def kern (v y : Fin 128 → EReal) (l : Fin 128) : EReal :=
  inv v * (y l - nrm v l * Ideal.div (∑ k, y k * nrm v k) w128)

/-- A group's gradient of the activated second half, as the derivative of the reference's lines. -/
def deriv (v y : Fin 128 → EReal) (l : Fin 128) : EReal :=
  y l * inv v
    + gel (v l) * Ideal.div ((∑ k, gel (v k) * y k) * (nhf * Ideal.div (inv v) (Ideal.div (∑ k, gel (v k) * gel (v k)) w128 + eps))) w128
    + Ideal.div ((∑ k, gel (v k) * y k) * (nhf * Ideal.div (inv v) (Ideal.div (∑ k, gel (v k) * gel (v k)) w128 + eps))) w128 * gel (v l)

/-- The identity of the two forms over the reals. -/
theorem real_form (y x S T r : ℝ) (hr : r * r * T = 1) (hT : T ≠ 0) :
    r * (y - x * r * (r * S * (1 / 128)))
      = y * r + x * (S * (-(1 / 2) * (r * (1 / T))) * (1 / 128)) + S * (-(1 / 2) * (r * (1 / T))) * (1 / 128) * x := by
  have h3 : r * (1 / T) = r * r * r := by
    field_simp
    linear_combination (-r) * hr
  rw [h3]
  ring

/-- The inverse root mean square of reals is a real whose square times the mean square is one. -/
theorem inv_real (G : Fin 128 → ℝ) (v : Fin 128 → EReal) (hG : ∀ k, gel (v k) = (G k : EReal)) :
    ∃ r T : ℝ, r * r * T = 1 ∧ T ≠ 0 ∧ inv v = (r : EReal) ∧ Ideal.div (∑ k, gel (v k) * gel (v k)) w128 + eps = (T : EReal) := by
  obtain ⟨e, he, hew⟩ := Cert.Facts.eps_word
  have hT : 0 < (∑ k, G k * G k) * (1 / 128) + e :=
    add_pos_of_nonneg_of_pos (mul_nonneg (Finset.sum_nonneg fun k _ => mul_self_nonneg _) (by norm_num)) he
  have hm : Ideal.div (∑ k, gel (v k) * gel (v k)) w128 + eps = (((∑ k, G k * G k) * (1 / 128) + e : ℝ) : EReal) := by
    rw [w128_word, show eps = _ from hew]
    simp only [hG, ← EReal.coe_mul, Cert.Facts.coe_sum]
    rw [Ideal.div_coe (by norm_num), ← EReal.coe_mul, ← EReal.coe_add]
  refine ⟨(Real.sqrt ((∑ k, G k * G k) * (1 / 128) + e))⁻¹, _, Cert.Facts.inv_sqrt_sq _ hT, hT.ne', ?_, hm⟩
  unfold inv
  rw [hm, Cert.Facts.rsqrt_pos _ hT]

/-- The two forms agree at reals. -/
theorem kern_deriv (v y : Fin 128 → EReal) (l : Fin 128) (hv : ∀ k, ∃ a : ℝ, v k = (a : EReal)) (hy : ∀ k, ∃ a : ℝ, y k = (a : EReal)) :
    deriv v y l = kern v y l := by
  have hg : ∀ k, ∃ a : ℝ, gel (v k) = (a : EReal) := fun k => by
    obtain ⟨a, ha⟩ := hv k
    rw [ha]
    exact gel_real a
  choose G hG using hg
  choose Y hY using hy
  obtain ⟨r, T, hr, hT, hi, hm⟩ := inv_real G v hG
  unfold kern deriv nrm
  rw [hm]
  simp only [hi, hG, hY, w128_word, show nhf = _ from Cert.Facts.neg_half_word]
  simp only [← EReal.coe_mul, Cert.Facts.coe_sum, Ideal.div_coe (show (128 : ℝ) ≠ 0 by norm_num), ← EReal.coe_add, ← EReal.coe_sub,
    Ideal.div_coe hT]
  refine congrArg _ ?_
  have hS : ∑ k, Y k * (G k * r) = r * ∑ k, G k * Y k := by
    rw [Finset.mul_sum]
    exact Finset.sum_congr rfl fun k _ => by ring
  rw [hS]
  exact (real_form _ _ _ _ _ hr hT).symm

/-- The kernel's form at reals is a real. -/
theorem kern_real (v y : Fin 128 → EReal) (l : Fin 128) (hv : ∀ k, ∃ a : ℝ, v k = (a : EReal)) (hy : ∀ k, ∃ a : ℝ, y k = (a : EReal)) :
    ∃ a : ℝ, kern v y l = (a : EReal) := by
  have hg : ∀ k, ∃ a : ℝ, gel (v k) = (a : EReal) := fun k => by
    obtain ⟨a, ha⟩ := hv k
    rw [ha]
    exact gel_real a
  choose G hG using hg
  choose Y hY using hy
  obtain ⟨r, T, hr, hT, hi, hm⟩ := inv_real G v hG
  unfold kern nrm
  simp only [hi, hG, hY, w128_word]
  simp only [← EReal.coe_mul, Cert.Facts.coe_sum, Ideal.div_coe (show (128 : ℝ) ≠ 0 by norm_num), ← EReal.coe_add, ← EReal.coe_sub]
  exact ⟨_, rfl⟩

/-- The normalised activation of reals is a real. -/
theorem nrm_real (v : Fin 128 → EReal) (l : Fin 128) (hv : ∀ k, ∃ a : ℝ, v k = (a : EReal)) : ∃ a : ℝ, nrm v l = (a : EReal) := by
  have hg : ∀ k, ∃ a : ℝ, gel (v k) = (a : EReal) := fun k => by
    obtain ⟨a, ha⟩ := hv k
    rw [ha]
    exact gel_real a
  choose G hG using hg
  obtain ⟨r, T, hr, hT, hi, hm⟩ := inv_real G v hG
  unfold nrm
  rw [hi, hG, ← EReal.coe_mul]
  exact ⟨_, rfl⟩

/-- What is kept of a real is a real. -/
theorem msk_real (s t : Fin 128) (a : EReal) (h : ∃ r : ℝ, a = (r : EReal)) : ∃ r : ℝ, msk s t a = (r : EReal) := by
  unfold msk
  split
  · exact h
  · exact ⟨0, rfl⟩

/-- A sum of reals is a real. -/
theorem sum_real {ι : Type} (s : Finset ι) (f : ι → EReal) (h : ∀ k, ∃ r : ℝ, f k = (r : EReal)) : ∃ r : ℝ, ∑ k ∈ s, f k = (r : EReal) := by
  choose F hF using h
  simp only [hF, Cert.Facts.coe_sum]
  exact ⟨_, rfl⟩

/-- A product of reals is a real. -/
theorem mul_real (a b : EReal) (ha : ∃ r : ℝ, a = (r : EReal)) (hb : ∃ r : ℝ, b = (r : EReal)) : ∃ r : ℝ, a * b = (r : EReal) := by
  obtain ⟨a, rfl⟩ := ha
  obtain ⟨b, rfl⟩ := hb
  exact ⟨a * b, (EReal.coe_mul a b).symm⟩

/-- A sum of two reals is a real. -/
theorem add_real (a b : EReal) (ha : ∃ r : ℝ, a = (r : EReal)) (hb : ∃ r : ℝ, b = (r : EReal)) : ∃ r : ℝ, a + b = (r : EReal) := by
  obtain ⟨a, rfl⟩ := ha
  obtain ⟨b, rfl⟩ := hb
  exact ⟨a + b, (EReal.coe_add a b).symm⟩

/-- The comparison of two positions, as a test of their numbers. -/
theorem sle_iff : ∀ s t : Fin 128, (IntOp.cmpi .sle (BitVec.ofNat 32 s.val) (BitVec.ofNat 32 t.val) = 1#1) ↔ s ≤ t := by
  decide +kernel

/-- The kernel's mask keeps what the formula keeps. -/
theorem select_sle (s t : Fin 128) (a : EReal) :
    Scalar.select (IntOp.cmpi .sle (BitVec.ofNat 32 s.val) (BitVec.ofNat 32 t.val)) a 0 = msk s t a := by
  unfold Scalar.select msk
  by_cases h : s ≤ t
  · rw [if_pos h]
    exact if_pos ((sle_iff s t).2 h)
  · rw [if_neg h]
    exact if_neg fun h' => h ((sle_iff s t).1 h')

/-- The comparison of two group numbers. -/
theorem eq_iff : ∀ s t : Fin 8, (IntOp.cmpi .eq (BitVec.ofNat 32 s.val) (BitVec.ofNat 32 t.val) = 1#1) ↔ s = t := by
  decide +kernel

/-- The kernel's choice of a group. -/
theorem select_eq (s t : Fin 8) (a : EReal) :
    Scalar.select (IntOp.cmpi .eq (BitVec.ofNat 32 s.val) (BitVec.ofNat 32 t.val)) a 0 = if s = t then a else 0 := by
  unfold Scalar.select
  by_cases h : s = t
  · rw [if_pos h]
    exact if_pos ((eq_iff s t).2 h)
  · rw [if_neg h]
    exact if_neg fun h' => h ((eq_iff s t).1 h')

/-- A product with a kept value is kept. -/
theorem msk_mul (s t : Fin 128) (a b : EReal) : msk s t a * b = msk s t (a * b) := by
  unfold msk
  split
  · rfl
  · exact zero_mul b

/-- A product with a kept value is kept, from the left. -/
theorem mul_msk (s t : Fin 128) (a b : EReal) : b * msk s t a = msk s t (b * a) := by
  unfold msk
  split
  · rfl
  · exact mul_zero b

/-- The mixed second half at a position and a column of a group. -/
def mix (v : Fin 128 → Fin 128 → EReal) (gn : Fin 128 → EReal) (w : Fin 128 → Fin 128 → EReal) (b : Fin 128 → EReal) (t l : Fin 128) : EReal :=
  (∑ s, msk s t (w t s * (nrm (v s) l * gn l))) + b t

/-- The gradient of the first half. -/
def du (u v d : Fin 128 → Fin 128 → EReal) (gn : Fin 128 → EReal) (w : Fin 128 → Fin 128 → EReal) (b : Fin 128 → EReal) (t l : Fin 128) : EReal :=
  d t l * mix v gn w b t l * dgel (u t l)

/-- The gradient of the mixed second half. -/
def ds (u d : Fin 128 → Fin 128 → EReal) (t l : Fin 128) : EReal := d t l * gel (u t l)

/-- The gradient of the normalised second half times its gain. -/
def dvg (u d : Fin 128 → Fin 128 → EReal) (w : Fin 128 → Fin 128 → EReal) (t l : Fin 128) : EReal :=
  ∑ s, msk t s (w s t * ds u d s l)

/-- The gradient of the second half. -/
def dv (u v d : Fin 128 → Fin 128 → EReal) (gn : Fin 128 → EReal) (w : Fin 128 → Fin 128 → EReal) (t l : Fin 128) : EReal :=
  kern (v t) (fun k => dvg u d w t k * gn k) l * dgel (v t l)

/-- A chunk's part of the gradient of the mixing matrix. -/
def dws (u v d : Fin 128 → Fin 128 → EReal) (gn : Fin 128 → EReal) (t s : Fin 128) : EReal :=
  msk s t (∑ l, ds u d t l * (nrm (v s) l * gn l))

/-- A chunk's part of the gradient of the gain. -/
def dgn (u v d : Fin 128 → Fin 128 → EReal) (w : Fin 128 → Fin 128 → EReal) (l : Fin 128) : EReal :=
  ∑ t, dvg u d w t l * nrm (v t) l

/-- A chunk's part of the gradient of the biases. -/
def dbs (u d : Fin 128 → Fin 128 → EReal) (t : Fin 128) : EReal := ∑ l, ds u d t l

/-- A position of the sequence from its chunk. -/
def row (n : Fin 16) (t : Fin 128) : Fin 2048 := ⟨n.val * 128 + t.val, by omega⟩

/-- A column of the gate from its group. -/
def col (g : Fin 8) (l : Fin 128) : Fin 1024 := ⟨128 * g.val + l.val, by omega⟩

/-- The group of a column. -/
def grp (k : ℕ) (h : k < 1024) : Fin 8 := ⟨k / 128, by omega⟩

/-- The place of a column in its group. -/
def lan (k : ℕ) : Fin 128 := ⟨k % 128, by omega⟩

/-- The first half of the projection, of a chunk and a group. -/
def uOf (p : Fin 2048 → Fin 6144 → EReal) (n : Fin 16) (g : Fin 8) (t l : Fin 128) : EReal :=
  p (row n t) ⟨128 * g.val + l.val, by omega⟩

/-- The second half of the projection, of a chunk and a group. -/
def vOf (p : Fin 2048 → Fin 6144 → EReal) (n : Fin 16) (g : Fin 8) (t l : Fin 128) : EReal :=
  p (row n t) ⟨1024 + (128 * g.val + l.val), by omega⟩

/-- The cotangent, of a chunk and a group. -/
def dOf (p : Fin 2048 → Fin 2048 → EReal) (n : Fin 16) (g : Fin 8) (t l : Fin 128) : EReal :=
  p (row n t) ⟨128 * g.val + l.val, by omega⟩

/-- The gain of a group. -/
def gOf (p : Fin 1024 → EReal) (g : Fin 8) (l : Fin 128) : EReal := p (col g l)

end Cert.Gmlp
end
-- ==== Proof.GmlpRead.lean ====
/-
  What each group stores, read at an index: the formulas of the gate's gradient.
-/
module

public import proofs.«01_k».proof.Defs
public import proofs.«01_k».proof.Proof.GmlpPay
public import proofs.«01_k».proof.Proof.GmlpDefs
public import proofs.«01_k».proof.Proof.Gen.KernelIdeal.Value
public import Idealize.ShloMosaic.Lib.Pipeline.ValueKit.Acc
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

open Cert.Gmlp

/-- The cubic's factor by name. -/
theorem cube_named : Named.named (F := Ideal) κ "cube" (φ := .f32) 1027024659#32 = q := rfl
/-- Three times the cubic's factor by name. -/
theorem cube3_named : Named.named (F := Ideal) κ "cube3" (φ := .f32) 1040801103#32 = q3 := rfl

/-- A block as a function of its row and column. -/
abbrev fn2 (x : Vec Ideal S128x128 .f32) : Fin 128 → Fin 128 → EReal := fun r l => x (ix2 r l)
/-- A row as a function of its column. -/
abbrev fnr (x : Vec Ideal S1x128 .f32) : Fin 128 → EReal := fun l => x (ix2 (0 : Fin 1) l)
/-- A group's matrix as a function of its two positions. -/
abbrev fnw (x : Vec Ideal S1x128x128 .f32) : Fin 128 → Fin 128 → EReal := fun t s => x (ix3 (0 : Fin 1) t s)

/-- The gradient of the first half, read at an index. -/
theorem duV_read (g : Fin 8) (x0 x1 x2 : Vec Ideal S128x128 .f32) (x3 : Vec Ideal S1x128 .f32) (x4 : Vec Ideal S1x128x128 .f32) (x5 : Vec Ideal S128x8 .f32)
    (r l : Fin 128) :
    duV (BitVec.ofNat 32 g.val) x0 x1 x2 x3 x4 x5 (ix2 r l) = du (fn2 x0) (fn2 x1) (fn2 x2) (fnr x3) (fnw x4) (fun t => x5 (ix2 t g)) r l := by
  unfold duV biasV
  pointwise [k0_pay19, k0_pay14, k0_pay15, k0_pay6, k0_pay10, k0_pay17, k0_pay18, k0_pay12, k0_pay13, k0_pay11]
  simp only [cube_named, cube3_named, select_sle, select_eq, Finset.sum_ite_eq', Finset.sum_ite_eq, Finset.mem_univ, if_true]
  rfl

/-- The gradient of the second half, read at an index. -/
theorem dvV_read (x0 x1 x2 : Vec Ideal S128x128 .f32) (x3 : Vec Ideal S1x128 .f32) (x4 : Vec Ideal S1x128x128 .f32) (r l : Fin 128) :
    dvV x0 x1 x2 x3 x4 (ix2 r l) = dv (fn2 x0) (fn2 x1) (fn2 x2) (fnr x3) (fnw x4) r l := by
  unfold dvV
  pointwise [k0_pay31, k0_pay26, k0_pay11, k0_pay10, k0_pay12, k0_pay13, k0_pay24, k0_pay9, k0_pay15, k0_pay6, k0_pay28, k0_pay29, k0_pay30, k0_pay20, k0_pay21, k0_pay27, k0_pay16, k0_pay14]
  simp only [cube_named, cube3_named, select_sle]
  rfl

/-- The gradient of the mixing matrix, read at an index. -/
theorem dwsV_read (x0 x1 x2 : Vec Ideal S128x128 .f32) (x3 : Vec Ideal S1x128 .f32) (old : Vec Ideal S1x128x128 .f32) (t s : Fin 128) :
    dwsV x0 x1 x2 x3 old (ix3 (0 : Fin 1) t s) = old (ix3 (0 : Fin 1) t s) + dws (fn2 x0) (fn2 x1) (fn2 x2) (fnr x3) t s := by
  unfold dwsV
  pointwise [k0_pay22, k0_pay26, k0_pay11, k0_pay10, k0_pay12, k0_pay13, k0_pay24, k0_pay9, k0_pay15, k0_pay6, k0_pay28, k0_pay29, k0_pay30, k0_pay20, k0_pay21, k0_pay27, k0_pay16, k0_pay14]
  simp only [cube_named, select_sle]
  rfl

/-- The gradient of the gain, read at an index. -/
theorem dgV_read (x0 x1 x2 : Vec Ideal S128x128 .f32) (x4 : Vec Ideal S1x128x128 .f32) (old : Vec Ideal S1x128 .f32) (l : Fin 128) :
    dgV x0 x1 x2 x4 old (ix2 (0 : Fin 1) l) = old (ix2 (0 : Fin 1) l) + dgn (fn2 x0) (fn2 x1) (fn2 x2) (fnw x4) l := by
  unfold dgV
  pointwise [k0_pay25, k0_pay26, k0_pay11, k0_pay10, k0_pay12, k0_pay13, k0_pay24, k0_pay9, k0_pay15, k0_pay6, k0_pay28, k0_pay29, k0_pay30, k0_pay20, k0_pay21, k0_pay27, k0_pay16, k0_pay14]
  simp only [cube_named, select_sle]
  rfl

/-- The gradient of the biases, read at an index. -/
theorem dbV_read (g k : Fin 8) (x0 x2 : Vec Ideal S128x128 .f32) (acc : FVec Ideal S128x8 .f32) (t : Fin 128) :
    dbV (BitVec.ofNat 32 g.val) x0 x2 acc (ix2 t k) = acc (ix2 t k) + if k = g then dbs (fn2 x0) (fn2 x2) t else 0 := by
  unfold dbV
  pointwise [k0_pay20, k0_pay9]
  simp only [cube_named, select_eq]
  rfl

end Cert.KernelIdeal.Val
end
-- ==== Proof.GmlpKer.lean ====
/-
  What the kernel's grid points leave in the five results' buffers, over the arguments.
-/
module

public import proofs.«01_k».proof.Defs
public import proofs.«01_k».proof.Proof.GmlpRead
public import proofs.«01_k».proof.Proof.Gen.KernelIdeal.Value
public import Idealize.ShloMosaic.Lib.Pipeline.ValueKit.Acc
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

open Cert.Gmlp

variable (m : (ℓ : Loc nD τ sig) → Buf (Elt Ideal) ℓ)

/-- Where window 0's block lies at a grid point. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Where window 1's block lies at a grid point. -/
theorem idx1 : ∀ t : Fin cfg0.N, win0_1.index t 0 = t.val ∧ win0_1.index t 1 = 1 :=
  (by decide +kernel : ∀ t : Fin grid0.N, win0_1.index t 0 = t.val ∧ win0_1.index t 1 = 1)

/-- Where window 2's block lies at a grid point. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Where window 3's block lies at a grid point. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Where window 4's block lies at a grid point. -/
theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

/-- Where window 5's block lies at a grid point. -/
theorem idx5 : ∀ t : Fin cfg0.N, win0_5.index t 0 = 0 ∧ win0_5.index t 1 = 0 :=
  (by decide +kernel : ∀ t : Fin grid0.N, win0_5.index t 0 = 0 ∧ win0_5.index t 1 = 0)

/-- Where window 6's block lies at a grid point. -/
theorem idx6 : ∀ t : Fin cfg0.N, win0_6.index t 0 = t.val ∧ win0_6.index t 1 = 0 :=
  (by decide +kernel : ∀ t : Fin grid0.N, win0_6.index t 0 = t.val ∧ win0_6.index t 1 = 0)

/-- Where window 7's block lies at a grid point. -/
theorem idx7 : ∀ t : Fin cfg0.N, win0_7.index t 0 = t.val ∧ win0_7.index t 1 = 0 :=
  (by decide +kernel : ∀ t : Fin grid0.N, win0_7.index t 0 = t.val ∧ win0_7.index t 1 = 0)

/-- Where window 8's block lies at a grid point. -/
theorem idx8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

/-- Where window 9's block lies at a grid point. -/
theorem idx9 : ∀ t : Fin cfg0.N, win0_9.index t 0 = 0 ∧ win0_9.index t 1 = 0 :=
  (by decide +kernel : ∀ t : Fin grid0.N, win0_9.index t 0 = 0 ∧ win0_9.index t 1 = 0)

/-- Where window 10's block lies at a grid point. -/
theorem idx10 : ∀ t : Fin cfg0.N, win0_10.index t 0 = 0 ∧ win0_10.index t 1 = 0 :=
  (by decide +kernel : ∀ t : Fin grid0.N, win0_10.index t 0 = 0 ∧ win0_10.index t 1 = 0)

/-- The gain as a row. -/
theorem V_main_v0 (c : Dev nD) (l : Fin 1024) :
    V m c main_v0 (ix2 (0 : Fin 1) l) = m ((c : Thread nD τ).loc main_arg2) (ix1 l) := by
  unfold V
  after_reads_at

/-- The biases with the group last. -/
theorem V_main_v1 (c : Dev nD) (t : Fin 128) (g : Fin 8) :
    V m c main_v1 (ix2 t g) = m ((c : Thread nD τ).loc main_arg4) (ix2 g t) := by
  unfold V
  after_reads_at

/-- A grid point as a chunk of the sequence. -/
def pt (t : Fin cfg0.N) : Fin 16 := ⟨t.val, by have := t.isLt; have : cfg0.N = 16 := N_0; omega⟩

/-- The first argument. -/
abbrev aP (c : Dev nD) : Fin 2048 → Fin 6144 → EReal := fun r k => m ((c : Thread nD τ).loc main_arg0) (ix2 r k)
/-- The second argument. -/
abbrev aD (c : Dev nD) : Fin 2048 → Fin 2048 → EReal := fun r k => m ((c : Thread nD τ).loc main_arg1) (ix2 r k)
/-- The third argument. -/
abbrev aG (c : Dev nD) : Fin 1024 → EReal := fun k => m ((c : Thread nD τ).loc main_arg2) (ix1 k)
/-- The fourth argument. -/
abbrev aW (c : Dev nD) (g : Fin 8) : Fin 128 → Fin 128 → EReal := fun t s => m ((c : Thread nD τ).loc main_arg3) (ix3 g t s)
/-- The fifth argument. -/
abbrev aB (c : Dev nD) (g : Fin 8) : Fin 128 → EReal := fun t => m ((c : Thread nD τ).loc main_arg4) (ix2 g t)

/-- The first half's block, read at an index. -/
theorem blk0 (c : Dev nD) (t : Fin cfg0.N) (r : Fin 128) (l : Fin 1024) :
    iblk m c 0 t (ix2 r l) = m ((c : Thread nD τ).loc main_arg0) (ix2 (row (pt t) r) (⟨l.val, by omega⟩ : Fin 6144)) := by
  rw [← V_main_arg0 m c]
  unfold iblk
  rw [View.read_apply]
  refine congrArg (V m c main_arg0) (funext fun a => Fin.ext ?_)
  have h := idx0 t
  match a with
  | ⟨0, _⟩ => show win0_0.index t 0 * 128 + 1 * r.val = t.val * 128 + r.val; rw [h.1] <;> omega
  | ⟨1, _⟩ => show win0_0.index t 1 * 1024 + 1 * l.val = l.val; rw [h.2] <;> omega

/-- The second half's block, read at an index. -/
theorem blk1 (c : Dev nD) (t : Fin cfg0.N) (r : Fin 128) (l : Fin 1024) :
    iblk m c 1 t (ix2 r l) = m ((c : Thread nD τ).loc main_arg0) (ix2 (row (pt t) r) (⟨1024 + l.val, by omega⟩ : Fin 6144)) := by
  rw [← V_main_arg0 m c]
  unfold iblk
  rw [View.read_apply]
  refine congrArg (V m c main_arg0) (funext fun a => Fin.ext ?_)
  have h := idx1 t
  match a with
  | ⟨0, _⟩ => show win0_1.index t 0 * 128 + 1 * r.val = t.val * 128 + r.val; rw [h.1] <;> omega
  | ⟨1, _⟩ => show win0_1.index t 1 * 1024 + 1 * l.val = 1024 + l.val; rw [h.2] <;> omega

/-- The cotangent's block, read at an index. -/
theorem blk2 (c : Dev nD) (t : Fin cfg0.N) (r : Fin 128) (l : Fin 1024) :
    iblk m c 2 t (ix2 r l) = m ((c : Thread nD τ).loc main_arg1) (ix2 (row (pt t) r) (⟨l.val, by omega⟩ : Fin 2048)) := by
  rw [← V_main_arg1 m c]
  unfold iblk
  rw [View.read_apply]
  refine congrArg (V m c main_arg1) (funext fun a => Fin.ext ?_)
  have h := idx2 t
  match a with
  | ⟨0, _⟩ => show win0_2.index t 0 * 128 + 1 * r.val = t.val * 128 + r.val; rw [h.1] <;> omega
  | ⟨1, _⟩ => show win0_2.index t 1 * 1024 + 1 * l.val = l.val; rw [h.2] <;> omega

/-- The gain's block, read at an index. -/
theorem blk3 (c : Dev nD) (t : Fin cfg0.N) (l : Fin 1024) :
    iblk m c 3 t (ix2 (0 : Fin 1) l) = m ((c : Thread nD τ).loc main_arg2) (ix1 l) := by
  rw [← V_main_v0 m c l]
  unfold iblk
  rw [View.read_apply]
  refine congrArg (V m c main_v0) (funext fun a => Fin.ext ?_)
  have h := idx3 t
  match a with
  | ⟨0, _⟩ => show win0_3.index t 0 * 1 + 1 * 0 = 0; rw [h.1] <;> omega
  | ⟨1, _⟩ => show win0_3.index t 1 * 1024 + 1 * l.val = l.val; rw [h.2] <;> omega

/-- The matrices' block, read at an index. -/
theorem blk4 (c : Dev nD) (t : Fin cfg0.N) (g : Fin 8) (r s : Fin 128) :
    iblk m c 4 t (ix3 g r s) = m ((c : Thread nD τ).loc main_arg3) (ix3 g r s) := by
  rw [← V_main_arg3 m c]
  unfold iblk
  rw [View.read_apply]
  refine congrArg (V m c main_arg3) (funext fun a => Fin.ext ?_)
  have h := idx4 t
  match a with
  | ⟨0, _⟩ => show win0_4.index t 0 * 8 + 1 * g.val = g.val; rw [h.1] <;> omega
  | ⟨1, _⟩ => show win0_4.index t 1 * 128 + 1 * r.val = r.val; rw [h.2.1] <;> omega
  | ⟨2, _⟩ => show win0_4.index t 2 * 128 + 1 * s.val = s.val; rw [h.2.2] <;> omega

/-- The biases' block, read at an index. -/
theorem blk5 (c : Dev nD) (t : Fin cfg0.N) (r : Fin 128) (g : Fin 8) :
    iblk m c 5 t (ix2 r g) = m ((c : Thread nD τ).loc main_arg4) (ix2 g r) := by
  rw [← V_main_v1 m c r g]
  unfold iblk
  rw [View.read_apply]
  refine congrArg (V m c main_v1) (funext fun a => Fin.ext ?_)
  have h := idx5 t
  match a with
  | ⟨0, _⟩ => show win0_5.index t 0 * 128 + 1 * r.val = r.val; rw [h.1] <;> omega
  | ⟨1, _⟩ => show win0_5.index t 1 * 8 + 1 * g.val = g.val; rw [h.2] <;> omega

/-- The first half's piece of a group. -/
theorem piece0 (c : Dev nD) (t : Fin cfg0.N) (g : Fin 8) (off : ℕ) (h : off = 128 * g.val) (inb) :
    fn2 (View.ld (Val := Elt Ideal) (e' := .f32) (iblk m c 0 t) (Rect.unit (s := S128x1024) ![0, off] ![128, 128] inb)) = uOf (aP m c) (pt t) g := by
  subst h
  refine funext fun r => funext fun l => ?_
  refine (View.ld_unit_apply_of _ _ _ _ _ (ix2 r (col g l)) (fun a => ?_)).trans (blk0 m c t r (col g l))
  match a with
  | ⟨0, _⟩ => exact (Nat.zero_add _).symm
  | ⟨1, _⟩ => rfl

/-- The second half's piece of a group. -/
theorem piece1 (c : Dev nD) (t : Fin cfg0.N) (g : Fin 8) (off : ℕ) (h : off = 128 * g.val) (inb) :
    fn2 (View.ld (Val := Elt Ideal) (e' := .f32) (iblk m c 1 t) (Rect.unit (s := S128x1024) ![0, off] ![128, 128] inb)) = vOf (aP m c) (pt t) g := by
  subst h
  refine funext fun r => funext fun l => ?_
  refine (View.ld_unit_apply_of _ _ _ _ _ (ix2 r (col g l)) (fun a => ?_)).trans (blk1 m c t r (col g l))
  match a with
  | ⟨0, _⟩ => exact (Nat.zero_add _).symm
  | ⟨1, _⟩ => rfl

/-- The cotangent's piece of a group. -/
theorem piece2 (c : Dev nD) (t : Fin cfg0.N) (g : Fin 8) (off : ℕ) (h : off = 128 * g.val) (inb) :
    fn2 (View.ld (Val := Elt Ideal) (e' := .f32) (iblk m c 2 t) (Rect.unit (s := S128x1024) ![0, off] ![128, 128] inb)) = dOf (aD m c) (pt t) g := by
  subst h
  refine funext fun r => funext fun l => ?_
  refine (View.ld_unit_apply_of _ _ _ _ _ (ix2 r (col g l)) (fun a => ?_)).trans (blk2 m c t r (col g l))
  match a with
  | ⟨0, _⟩ => exact (Nat.zero_add _).symm
  | ⟨1, _⟩ => rfl

/-- The gain's piece of a group. -/
theorem piece3 (c : Dev nD) (t : Fin cfg0.N) (g : Fin 8) (off : ℕ) (h : off = 128 * g.val) (inb) :
    fnr (View.ld (Val := Elt Ideal) (e' := .f32) (iblk m c 3 t) (Rect.unit (s := S1x1024) ![0, off] ![1, 128] inb)) = gOf (aG m c) g := by
  subst h
  refine funext fun l => ?_
  refine (View.ld_unit_apply_of _ _ _ _ _ (ix2 (0 : Fin 1) (col g l)) (fun a => ?_)).trans (blk3 m c t (col g l))
  match a with
  | ⟨0, _⟩ => rfl
  | ⟨1, _⟩ => rfl

/-- A group's matrix. -/
theorem piece4 (c : Dev nD) (t : Fin cfg0.N) (g : Fin 8) (off : ℕ) (h : off = g.val) (inb) :
    fnw (View.ld (Val := Elt Ideal) (e' := .f32) (iblk m c 4 t) (Rect.unit (s := S8x128x128) ![off, 0, 0] ![1, 128, 128] inb)) = aW m c g := by
  subst h
  refine funext fun r => funext fun s => ?_
  refine (View.ld_unit_apply_of _ _ _ _ _ (ix3 g r s) (fun a => ?_)).trans (blk4 m c t g r s)
  match a with
  | ⟨0, _⟩ => rfl
  | ⟨1, _⟩ => exact (Nat.zero_add _).symm
  | ⟨2, _⟩ => exact (Nat.zero_add _).symm

/-- The biases' block read through a whole rectangle. -/
theorem piece5 (c : Dev nD) (t : Fin cfg0.N) (g : Fin 8) :
    (fun r : Fin 128 => (iblk m c 5 t : Vec Ideal S128x8 .f32) (ix2 r g)) = aB m c g :=
  funext fun r => blk5 m c t r g

/-- What a grid point leaves in the first result's buffer. -/
def k6 (c : Dev nD) (t : Fin cfg0.N) : Vec Ideal S128x1024 .bf16 := fun y =>
  du (uOf (aP m c) (pt t) (grp (y 1).val (y 1).isLt)) (vOf (aP m c) (pt t) (grp (y 1).val (y 1).isLt)) (dOf (aD m c) (pt t) (grp (y 1).val (y 1).isLt))
    (gOf (aG m c) (grp (y 1).val (y 1).isLt)) (aW m c (grp (y 1).val (y 1).isLt)) (aB m c (grp (y 1).val (y 1).isLt)) (y 0) (lan (y 1).val)

/-- What a grid point leaves in the second result's buffer. -/
def k7 (c : Dev nD) (t : Fin cfg0.N) : Vec Ideal S128x1024 .bf16 := fun y =>
  dv (uOf (aP m c) (pt t) (grp (y 1).val (y 1).isLt)) (vOf (aP m c) (pt t) (grp (y 1).val (y 1).isLt)) (dOf (aD m c) (pt t) (grp (y 1).val (y 1).isLt))
    (gOf (aG m c) (grp (y 1).val (y 1).isLt)) (aW m c (grp (y 1).val (y 1).isLt)) (y 0) (lan (y 1).val)

/-- A group's piece of the first result is the result there. -/
theorem at6 (c : Dev nD) (t : Fin cfg0.N) (g : Fin 8) (off : ℕ) (h : off = 128 * g.val) (o4 : ℕ) (h4 : o4 = g.val) (i0 i1 i2 i3 i4) (x : S128x128.Idx) (y : S128x1024.Idx)
    (h0 : (y 0).val = 0 + (x 0).val) (h1 : (y 1).val = off + (x 1).val) :
    duV (F := Ideal) (BitVec.ofNat 32 g.val) (View.ld (Val := Elt Ideal) (e' := .f32) (iblk m c 0 t) (Rect.unit (s := S128x1024) ![0, off] ![128, 128] i0))
      (View.ld (Val := Elt Ideal) (e' := .f32) (iblk m c 1 t) (Rect.unit (s := S128x1024) ![0, off] ![128, 128] i1))
      (View.ld (Val := Elt Ideal) (e' := .f32) (iblk m c 2 t) (Rect.unit (s := S128x1024) ![0, off] ![128, 128] i2))
      (View.ld (Val := Elt Ideal) (e' := .f32) (iblk m c 3 t) (Rect.unit (s := S1x1024) ![0, off] ![1, 128] i3))
      (View.ld (Val := Elt Ideal) (e' := .f32) (iblk m c 4 t) (Rect.unit (s := S8x128x128) ![o4, 0, 0] ![1, 128, 128] i4)) (iblk m c 5 t) x
      = k6 m c t y := by
  have hx : (x 1).val < 128 := (x 1).isLt
  obtain ⟨r, l, rfl⟩ : ∃ (r l : Fin 128), x = ix2 r l := ⟨x 0, x 1, by idx_ext⟩
  have hg : grp (y 1).val (y 1).isLt = g := Fin.ext (show (y 1).val / 128 = g.val by rw [h1, h]; show (128 * g.val + l.val) / 128 = g.val; omega)
  have hl : lan (y 1).val = l := Fin.ext (show (y 1).val % 128 = l.val by rw [h1, h]; show (128 * g.val + l.val) % 128 = l.val; omega)
  have hr : y 0 = r := Fin.ext (h0.trans (Nat.zero_add _))
  refine (duV_read g _ _ _ _ _ _ r l).trans ?_
  rw [piece0 m c t g off h i0, piece1 m c t g off h i1, piece2 m c t g off h i2, piece3 m c t g off h i3, piece4 m c t g o4 h4 i4, piece5 m c t g]
  unfold k6
  rw [hg, hl, hr]

/-- A group's piece of the second result is the result there. -/
theorem at7 (c : Dev nD) (t : Fin cfg0.N) (g : Fin 8) (off : ℕ) (h : off = 128 * g.val) (o4 : ℕ) (h4 : o4 = g.val) (i0 i1 i2 i3 i4) (x : S128x128.Idx) (y : S128x1024.Idx)
    (h0 : (y 0).val = 0 + (x 0).val) (h1 : (y 1).val = off + (x 1).val) :
    dvV (F := Ideal) (View.ld (Val := Elt Ideal) (e' := .f32) (iblk m c 0 t) (Rect.unit (s := S128x1024) ![0, off] ![128, 128] i0))
      (View.ld (Val := Elt Ideal) (e' := .f32) (iblk m c 1 t) (Rect.unit (s := S128x1024) ![0, off] ![128, 128] i1))
      (View.ld (Val := Elt Ideal) (e' := .f32) (iblk m c 2 t) (Rect.unit (s := S128x1024) ![0, off] ![128, 128] i2))
      (View.ld (Val := Elt Ideal) (e' := .f32) (iblk m c 3 t) (Rect.unit (s := S1x1024) ![0, off] ![1, 128] i3))
      (View.ld (Val := Elt Ideal) (e' := .f32) (iblk m c 4 t) (Rect.unit (s := S8x128x128) ![o4, 0, 0] ![1, 128, 128] i4)) x
      = k7 m c t y := by
  have hx : (x 1).val < 128 := (x 1).isLt
  obtain ⟨r, l, rfl⟩ : ∃ (r l : Fin 128), x = ix2 r l := ⟨x 0, x 1, by idx_ext⟩
  have hg : grp (y 1).val (y 1).isLt = g := Fin.ext (show (y 1).val / 128 = g.val by rw [h1, h]; show (128 * g.val + l.val) / 128 = g.val; omega)
  have hl : lan (y 1).val = l := Fin.ext (show (y 1).val % 128 = l.val by rw [h1, h]; show (128 * g.val + l.val) % 128 = l.val; omega)
  have hr : y 0 = r := Fin.ext (h0.trans (Nat.zero_add _))
  refine (dvV_read _ _ _ _ _ r l).trans ?_
  rw [piece0 m c t g off h i0, piece1 m c t g off h i1, piece2 m c t g off h i2, piece3 m c t g off h i3, piece4 m c t g o4 h4 i4]
  unfold k7
  rw [hg, hl, hr]

/-- What a grid point leaves in result buffer 6, every group. -/
theorem left6 (c : Dev nD) (t : Fin cfg0.N) : (outsAt0 m c t.val t.isLt).1 = k6 m c t := by
  by_cases h : t.val % 16 = 0
  · rw [outsAt0_A m c t h]
    frame_out
    funext y
    canon_tiles x h
    · rw [du_7]
      exact at6 m c t 7 896 rfl 7 rfl _ _ _ _ _ x y (by omega) (by omega)
    · rw [du_6]
      exact at6 m c t 6 768 rfl 6 rfl _ _ _ _ _ x y (by omega) (by omega)
    · rw [du_5]
      exact at6 m c t 5 640 rfl 5 rfl _ _ _ _ _ x y (by omega) (by omega)
    · rw [du_4]
      exact at6 m c t 4 512 rfl 4 rfl _ _ _ _ _ x y (by omega) (by omega)
    · rw [du_3]
      exact at6 m c t 3 384 rfl 3 rfl _ _ _ _ _ x y (by omega) (by omega)
    · rw [du_2]
      exact at6 m c t 2 256 rfl 2 rfl _ _ _ _ _ x y (by omega) (by omega)
    · rw [du_1]
      exact at6 m c t 1 128 rfl 1 rfl _ _ _ _ _ x y (by omega) (by omega)
    · rw [du_0]
      exact at6 m c t 0 0 rfl 0 rfl _ _ _ _ _ x y (by omega) (by omega)
  · rw [outsAt0_B m c t h]
    frame_out
    funext y
    canon_tiles x h
    · rw [du_7]
      exact at6 m c t 7 896 rfl 7 rfl _ _ _ _ _ x y (by omega) (by omega)
    · rw [du_6]
      exact at6 m c t 6 768 rfl 6 rfl _ _ _ _ _ x y (by omega) (by omega)
    · rw [du_5]
      exact at6 m c t 5 640 rfl 5 rfl _ _ _ _ _ x y (by omega) (by omega)
    · rw [du_4]
      exact at6 m c t 4 512 rfl 4 rfl _ _ _ _ _ x y (by omega) (by omega)
    · rw [du_3]
      exact at6 m c t 3 384 rfl 3 rfl _ _ _ _ _ x y (by omega) (by omega)
    · rw [du_2]
      exact at6 m c t 2 256 rfl 2 rfl _ _ _ _ _ x y (by omega) (by omega)
    · rw [du_1]
      exact at6 m c t 1 128 rfl 1 rfl _ _ _ _ _ x y (by omega) (by omega)
    · rw [du_0]
      exact at6 m c t 0 0 rfl 0 rfl _ _ _ _ _ x y (by omega) (by omega)

/-- What a grid point leaves in result buffer 7, every group. -/
theorem left7 (c : Dev nD) (t : Fin cfg0.N) : (outsAt0 m c t.val t.isLt).2.1 = k7 m c t := by
  by_cases h : t.val % 16 = 0
  · rw [outsAt0_A m c t h]
    frame_out
    funext y
    canon_tiles x h
    · rw [dv_7]
      exact at7 m c t 7 896 rfl 7 rfl _ _ _ _ _ x y (by omega) (by omega)
    · rw [dv_6]
      exact at7 m c t 6 768 rfl 6 rfl _ _ _ _ _ x y (by omega) (by omega)
    · rw [dv_5]
      exact at7 m c t 5 640 rfl 5 rfl _ _ _ _ _ x y (by omega) (by omega)
    · rw [dv_4]
      exact at7 m c t 4 512 rfl 4 rfl _ _ _ _ _ x y (by omega) (by omega)
    · rw [dv_3]
      exact at7 m c t 3 384 rfl 3 rfl _ _ _ _ _ x y (by omega) (by omega)
    · rw [dv_2]
      exact at7 m c t 2 256 rfl 2 rfl _ _ _ _ _ x y (by omega) (by omega)
    · rw [dv_1]
      exact at7 m c t 1 128 rfl 1 rfl _ _ _ _ _ x y (by omega) (by omega)
    · rw [dv_0]
      exact at7 m c t 0 0 rfl 0 rfl _ _ _ _ _ x y (by omega) (by omega)
  · rw [outsAt0_B m c t h]
    frame_out
    funext y
    canon_tiles x h
    · rw [dv_7]
      exact at7 m c t 7 896 rfl 7 rfl _ _ _ _ _ x y (by omega) (by omega)
    · rw [dv_6]
      exact at7 m c t 6 768 rfl 6 rfl _ _ _ _ _ x y (by omega) (by omega)
    · rw [dv_5]
      exact at7 m c t 5 640 rfl 5 rfl _ _ _ _ _ x y (by omega) (by omega)
    · rw [dv_4]
      exact at7 m c t 4 512 rfl 4 rfl _ _ _ _ _ x y (by omega) (by omega)
    · rw [dv_3]
      exact at7 m c t 3 384 rfl 3 rfl _ _ _ _ _ x y (by omega) (by omega)
    · rw [dv_2]
      exact at7 m c t 2 256 rfl 2 rfl _ _ _ _ _ x y (by omega) (by omega)
    · rw [dv_1]
      exact at7 m c t 1 128 rfl 1 rfl _ _ _ _ _ x y (by omega) (by omega)
    · rw [dv_0]
      exact at7 m c t 0 0 rfl 0 rfl _ _ _ _ _ x y (by omega) (by omega)

end Cert.KernelIdeal.Val
end
-- ==== Proof.GmlpAcc.lean ====
/-
  The accumulated results' buffers over the grid: the gradients of the mixing matrices, of the biases and of the gain.
-/
module

public import proofs.«01_k».proof.Defs
public import proofs.«01_k».proof.Proof.GmlpKer
public import proofs.«01_k».proof.Proof.Gen.KernelIdeal.Value
public import Idealize.ShloMosaic.Lib.Pipeline.ValueKit.Acc
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

open Cert.Gmlp

variable (m : (ℓ : Loc nD τ sig) → Buf (Elt Ideal) ℓ)

/-- A chunk's addition to the gradient of the matrices. -/
def add8 (c : Dev nD) (n : Fin 16) (y : S8x128x128.Idx) : EReal :=
  dws (uOf (aP m c) n (y 0)) (vOf (aP m c) n (y 0)) (dOf (aD m c) n (y 0)) (gOf (aG m c) (y 0)) (y 1) (y 2)

/-- A chunk's addition to the gradient of the biases. -/
def add9 (c : Dev nD) (n : Fin 16) (y : S128x8.Idx) : EReal :=
  dbs (uOf (aP m c) n (y 1)) (dOf (aD m c) n (y 1)) (y 0)

/-- A chunk's addition to the gradient of the gain. -/
def add10 (c : Dev nD) (n : Fin 16) (y : S1x1024.Idx) : EReal :=
  dgn (uOf (aP m c) n (grp (y 1).val (y 1).isLt)) (vOf (aP m c) n (grp (y 1).val (y 1).isLt)) (dOf (aD m c) n (grp (y 1).val (y 1).isLt))
    (aW m c (grp (y 1).val (y 1).isLt)) (lan (y 1).val)

/-- A group's piece of the matrices' gradient. -/
theorem at8 (c : Dev nD) (t : Fin cfg0.N) (O : Vec Ideal S8x128x128 .f32) (g : Fin 8) (off : ℕ) (h : off = 128 * g.val) (o4 : ℕ) (h4 : o4 = g.val) (i0 i1 i2 i3 i4)
    (x : S1x128x128.Idx) (y : S8x128x128.Idx) (h0 : (y 0).val = o4 + (x 0).val) (h1 : (y 1).val = (x 1).val) (h2 : (y 2).val = (x 2).val) :
    dwsV (F := Ideal) (View.ld (Val := Elt Ideal) (e' := .f32) (iblk m c 0 t) (Rect.unit (s := S128x1024) ![0, off] ![128, 128] i0))
      (View.ld (Val := Elt Ideal) (e' := .f32) (iblk m c 1 t) (Rect.unit (s := S128x1024) ![0, off] ![128, 128] i1))
      (View.ld (Val := Elt Ideal) (e' := .f32) (iblk m c 2 t) (Rect.unit (s := S128x1024) ![0, off] ![128, 128] i2))
      (View.ld (Val := Elt Ideal) (e' := .f32) (iblk m c 3 t) (Rect.unit (s := S1x1024) ![0, off] ![1, 128] i3))
      (View.ld (Val := Elt Ideal) (e' := .f32) O (Rect.unit (s := S8x128x128) ![o4, 0, 0] ![1, 128, 128] i4)) x
      = O y + add8 m c (pt t) y := by
  obtain ⟨z, r, s, rfl⟩ : ∃ (z : Fin 1) (r s : Fin 128), x = ix3 z r s := ⟨x 0, x 1, x 2, by idx_ext⟩
  obtain rfl : z = 0 := Subsingleton.elim _ _
  obtain rfl : y = ix3 g r s := by
    refine funext fun a => Fin.ext ?_
    match a with
    | ⟨0, _⟩ => exact h0.trans h4
    | ⟨1, _⟩ => exact h1
    | ⟨2, _⟩ => exact h2
  refine (dwsV_read _ _ _ _ _ r s).trans ?_
  rw [piece0 m c t g off h i0, piece1 m c t g off h i1, piece2 m c t g off h i2, piece3 m c t g off h i3]
  refine congrArg (· + _) (View.ld_unit_apply_of O _ _ _ _ (ix3 g r s) (fun a => ?_))
  match a with
  | ⟨0, _⟩ => exact h4.symm
  | ⟨1, _⟩ => exact (Nat.zero_add _).symm
  | ⟨2, _⟩ => exact (Nat.zero_add _).symm

/-- A group's piece of the gain's gradient. -/
theorem at10 (c : Dev nD) (t : Fin cfg0.N) (O : Vec Ideal S1x1024 .f32) (g : Fin 8) (off : ℕ) (h : off = 128 * g.val) (o4 : ℕ) (h4 : o4 = g.val) (i0 i1 i2 i3 i4)
    (x : S1x128.Idx) (y : S1x1024.Idx) (h1 : (y 1).val = off + (x 1).val) :
    dgV (F := Ideal) (View.ld (Val := Elt Ideal) (e' := .f32) (iblk m c 0 t) (Rect.unit (s := S128x1024) ![0, off] ![128, 128] i0))
      (View.ld (Val := Elt Ideal) (e' := .f32) (iblk m c 1 t) (Rect.unit (s := S128x1024) ![0, off] ![128, 128] i1))
      (View.ld (Val := Elt Ideal) (e' := .f32) (iblk m c 2 t) (Rect.unit (s := S128x1024) ![0, off] ![128, 128] i2))
      (View.ld (Val := Elt Ideal) (e' := .f32) (iblk m c 4 t) (Rect.unit (s := S8x128x128) ![o4, 0, 0] ![1, 128, 128] i4))
      (View.ld (Val := Elt Ideal) (e' := .f32) O (Rect.unit (s := S1x1024) ![0, off] ![1, 128] i3)) x
      = O y + add10 m c (pt t) y := by
  obtain ⟨z, l, rfl⟩ : ∃ (z : Fin 1) (l : Fin 128), x = ix2 z l := ⟨x 0, x 1, by idx_ext⟩
  obtain rfl : z = 0 := Subsingleton.elim _ _
  subst h
  obtain rfl : y = ix2 (0 : Fin 1) (col g l) := by
    refine funext fun a => ?_
    match a with
    | ⟨0, _⟩ => exact Subsingleton.elim (α := Fin 1) _ _
    | ⟨1, _⟩ => exact Fin.ext h1
  have hg : grp (col g l).val (col g l).isLt = g := Fin.ext (show (128 * g.val + l.val) / 128 = g.val by omega)
  have hl : lan (col g l).val = l := Fin.ext (show (128 * g.val + l.val) % 128 = l.val by omega)
  refine (dgV_read _ _ _ _ _ l).trans ?_
  rw [piece0 m c t g _ rfl i0, piece1 m c t g _ rfl i1, piece2 m c t g _ rfl i2, piece4 m c t g o4 h4 i4]
  refine congr (congrArg HAdd.hAdd (View.ld_unit_apply_of O _ _ _ _ (ix2 (0 : Fin 1) (col g l)) (fun a => ?_))) ?_
  · match a with
    | ⟨0, _⟩ => rfl
    | ⟨1, _⟩ => rfl
  · show _ = dgn (uOf (aP m c) (pt t) (grp (col g l).val (col g l).isLt)) (vOf (aP m c) (pt t) (grp (col g l).val (col g l).isLt))
      (dOf (aD m c) (pt t) (grp (col g l).val (col g l).isLt)) (aW m c (grp (col g l).val (col g l).isLt)) (lan (col g l).val)
    rw [hg, hl]

/-- The eight groups' additions to the biases' gradient, read at an index. -/
theorem db_read (x0 x2 : Fin 8 → Vec Ideal S128x128 .f32) (O : Vec Ideal S128x8 .f32) (t : Fin 128) (k : Fin 8) :
    k0_pay2 (F := Ideal) (dbV (BitVec.ofNat 32 (7 : Fin 8).val) (x0 7) (x2 7) (dbV (BitVec.ofNat 32 (6 : Fin 8).val) (x0 6) (x2 6) (dbV (BitVec.ofNat 32 (5 : Fin 8).val) (x0 5) (x2 5) (dbV (BitVec.ofNat 32 (4 : Fin 8).val) (x0 4) (x2 4) (dbV (BitVec.ofNat 32 (3 : Fin 8).val) (x0 3) (x2 3)
      (dbV (BitVec.ofNat 32 (2 : Fin 8).val) (x0 2) (x2 2) (dbV (BitVec.ofNat 32 (1 : Fin 8).val) (x0 1) (x2 1) (dbV (BitVec.ofNat 32 (0 : Fin 8).val) (x0 0) (x2 0) k0_pay8)))))))) O (ix2 t k)
      = O (ix2 t k) + dbs (fn2 (x0 k)) (fn2 (x2 k)) t := by
  have h : ∀ N : FVec Ideal S128x8 .f32, k0_pay2 (F := Ideal) N O (ix2 t k) = O (ix2 t k) + N (ix2 t k) := fun N => by pointwise [k0_pay2]
  have hz : (k0_pay8 : FVec Ideal S128x8 .f32) (ix2 t k) = 0 := by pointwise [k0_pay8]
  rw [h]
  refine congrArg _ ?_
  rw [dbV_read 7 k, dbV_read 6 k, dbV_read 5 k, dbV_read 4 k, dbV_read 3 k, dbV_read 2 k, dbV_read 1 k, dbV_read 0 k, hz]
  fin_cases k <;> simp

/-- The biases' gradient of a grid point over what stood there. -/
theorem at9 (c : Dev nD) (t : Fin cfg0.N) (O : Vec Ideal S128x8 .f32) (y : S128x8.Idx) (i : ∀ g : Fin 8, ∀ a, (![0, 128 * g.val] : Fin 2 → ℕ) a + (![128, 128] : Fin 2 → ℕ) a ≤ S128x1024.size a) :
    k0_pay2 (F := Ideal) (dbV 7#32 (View.ld (Val := Elt Ideal) (e' := .f32) (iblk m c 0 t) (Rect.unit (s := S128x1024) ![0, 896] ![128, 128] (i 7))) (View.ld (Val := Elt Ideal) (e' := .f32) (iblk m c 2 t) (Rect.unit (s := S128x1024) ![0, 896] ![128, 128] (i 7))) (dbV 6#32 (View.ld (Val := Elt Ideal) (e' := .f32) (iblk m c 0 t) (Rect.unit (s := S128x1024) ![0, 768] ![128, 128] (i 6))) (View.ld (Val := Elt Ideal) (e' := .f32) (iblk m c 2 t) (Rect.unit (s := S128x1024) ![0, 768] ![128, 128] (i 6))) (dbV 5#32 (View.ld (Val := Elt Ideal) (e' := .f32) (iblk m c 0 t) (Rect.unit (s := S128x1024) ![0, 640] ![128, 128] (i 5))) (View.ld (Val := Elt Ideal) (e' := .f32) (iblk m c 2 t) (Rect.unit (s := S128x1024) ![0, 640] ![128, 128] (i 5))) (dbV 4#32 (View.ld (Val := Elt Ideal) (e' := .f32) (iblk m c 0 t) (Rect.unit (s := S128x1024) ![0, 512] ![128, 128] (i 4))) (View.ld (Val := Elt Ideal) (e' := .f32) (iblk m c 2 t) (Rect.unit (s := S128x1024) ![0, 512] ![128, 128] (i 4))) (dbV 3#32 (View.ld (Val := Elt Ideal) (e' := .f32) (iblk m c 0 t) (Rect.unit (s := S128x1024) ![0, 384] ![128, 128] (i 3))) (View.ld (Val := Elt Ideal) (e' := .f32) (iblk m c 2 t) (Rect.unit (s := S128x1024) ![0, 384] ![128, 128] (i 3)))
      (dbV 2#32 (View.ld (Val := Elt Ideal) (e' := .f32) (iblk m c 0 t) (Rect.unit (s := S128x1024) ![0, 256] ![128, 128] (i 2))) (View.ld (Val := Elt Ideal) (e' := .f32) (iblk m c 2 t) (Rect.unit (s := S128x1024) ![0, 256] ![128, 128] (i 2))) (dbV 1#32 (View.ld (Val := Elt Ideal) (e' := .f32) (iblk m c 0 t) (Rect.unit (s := S128x1024) ![0, 128] ![128, 128] (i 1))) (View.ld (Val := Elt Ideal) (e' := .f32) (iblk m c 2 t) (Rect.unit (s := S128x1024) ![0, 128] ![128, 128] (i 1))) (dbV 0#32 (View.ld (Val := Elt Ideal) (e' := .f32) (iblk m c 0 t) (Rect.unit (s := S128x1024) ![0, 0] ![128, 128] (i 0))) (View.ld (Val := Elt Ideal) (e' := .f32) (iblk m c 2 t) (Rect.unit (s := S128x1024) ![0, 0] ![128, 128] (i 0))) k0_pay8)))))))) O y
      = O y + add9 m c (pt t) y := by
  obtain ⟨r, k, rfl⟩ : ∃ (r : Fin 128) (k : Fin 8), y = ix2 r k := ⟨y 0, y 1, by idx_ext⟩
  refine (db_read (fun g => View.ld (Val := Elt Ideal) (e' := .f32) (iblk m c 0 t) (Rect.unit (s := S128x1024) ![0, 128 * g.val] ![128, 128] (i g)))
    (fun g => View.ld (Val := Elt Ideal) (e' := .f32) (iblk m c 2 t) (Rect.unit (s := S128x1024) ![0, 128 * g.val] ![128, 128] (i g))) O r k).trans ?_
  rw [piece0 m c t k _ rfl (i k), piece2 m c t k _ rfl (i k)]
  rfl

/-- The zero fill of the matrices' gradient. -/
theorem zero8 (y : S8x128x128.Idx) : (k0_pay3 : FVec Ideal S8x128x128 .f32) y = 0 := by
  pointwise [k0_pay3]

/-- A group's piece of the matrices' gradient over a zero fill. -/
theorem at8z (c : Dev nD) (t : Fin cfg0.N) (O : Vec Ideal S8x128x128 .f32) (hO : ∀ y, O y = 0) (g : Fin 8) (off : ℕ) (h : off = 128 * g.val) (o4 : ℕ) (h4 : o4 = g.val) (i0 i1 i2 i3 i4)
    (x : S1x128x128.Idx) (y : S8x128x128.Idx) (h0 : (y 0).val = o4 + (x 0).val) (h1 : (y 1).val = (x 1).val) (h2 : (y 2).val = (x 2).val) :
    dwsV (F := Ideal) (View.ld (Val := Elt Ideal) (e' := .f32) (iblk m c 0 t) (Rect.unit (s := S128x1024) ![0, off] ![128, 128] i0))
      (View.ld (Val := Elt Ideal) (e' := .f32) (iblk m c 1 t) (Rect.unit (s := S128x1024) ![0, off] ![128, 128] i1))
      (View.ld (Val := Elt Ideal) (e' := .f32) (iblk m c 2 t) (Rect.unit (s := S128x1024) ![0, off] ![128, 128] i2))
      (View.ld (Val := Elt Ideal) (e' := .f32) (iblk m c 3 t) (Rect.unit (s := S1x1024) ![0, off] ![1, 128] i3))
      (View.ld (Val := Elt Ideal) (e' := .f32) O (Rect.unit (s := S8x128x128) ![o4, 0, 0] ![1, 128, 128] i4)) x
      = 0 +  add8 m c (pt t) y :=
  (at8 m c t O g off h o4 h4 i0 i1 i2 i3 i4 x y h0 h1 h2).trans (congrArg (· + add8 m c (pt t) y) (hO y))

/-- The first grid point's matrices' gradient. -/
theorem first8 (c : Dev nD) (t : Fin cfg0.N) (h : t.val % 16 = 0) (y : S8x128x128.Idx) :
    (outsAt0 m c t.val t.isLt).2.2.1 y = 0 + add8 m c (pt t) y := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (fun y => 0 + add8 m c (pt t) y) [_] [_, _, _, _, _, _, _, _] ⟨fun x => ?_, fun x => ?_, fun x => ?_, fun x => ?_, fun x => ?_, fun x => ?_, fun x => ?_, fun x => ?_, trivial⟩ y ?_
  · refine Eq.trans ?_ (at8z m c t (k0_pay3 (F := Ideal)) zero8 7 896 rfl 7 rfl inb_S128x1024_S128x128_0_896 inb_S128x1024_S128x128_0_896 inb_S128x1024_S128x128_0_896 inb_S1x1024_S1x128_0_896 inb_S8x128x128_S1x128x128_7_0_0 x _ (by show 7 + 1 * (x 0).val = 7 + (x 0).val; omega) (by show 0 + 1 * (x 1).val = (x 1).val; omega) (by show 0 + 1 * (x 2).val = (x 2).val; omega))
    exact congrFun (dws_7 (F := Ideal) _ _ _ _ _) x
  · refine Eq.trans ?_ (at8z m c t (k0_pay3 (F := Ideal)) zero8 6 768 rfl 6 rfl inb_S128x1024_S128x128_0_768 inb_S128x1024_S128x128_0_768 inb_S128x1024_S128x128_0_768 inb_S1x1024_S1x128_0_768 inb_S8x128x128_S1x128x128_6_0_0 x _ (by show 6 + 1 * (x 0).val = 6 + (x 0).val; omega) (by show 0 + 1 * (x 1).val = (x 1).val; omega) (by show 0 + 1 * (x 2).val = (x 2).val; omega))
    exact congrFun (dws_6 (F := Ideal) _ _ _ _ _) x
  · refine Eq.trans ?_ (at8z m c t (k0_pay3 (F := Ideal)) zero8 5 640 rfl 5 rfl inb_S128x1024_S128x128_0_640 inb_S128x1024_S128x128_0_640 inb_S128x1024_S128x128_0_640 inb_S1x1024_S1x128_0_640 inb_S8x128x128_S1x128x128_5_0_0 x _ (by show 5 + 1 * (x 0).val = 5 + (x 0).val; omega) (by show 0 + 1 * (x 1).val = (x 1).val; omega) (by show 0 + 1 * (x 2).val = (x 2).val; omega))
    exact congrFun (dws_5 (F := Ideal) _ _ _ _ _) x
  · refine Eq.trans ?_ (at8z m c t (k0_pay3 (F := Ideal)) zero8 4 512 rfl 4 rfl inb_S128x1024_S128x128_0_512 inb_S128x1024_S128x128_0_512 inb_S128x1024_S128x128_0_512 inb_S1x1024_S1x128_0_512 inb_S8x128x128_S1x128x128_4_0_0 x _ (by show 4 + 1 * (x 0).val = 4 + (x 0).val; omega) (by show 0 + 1 * (x 1).val = (x 1).val; omega) (by show 0 + 1 * (x 2).val = (x 2).val; omega))
    exact congrFun (dws_4 (F := Ideal) _ _ _ _ _) x
  · refine Eq.trans ?_ (at8z m c t (k0_pay3 (F := Ideal)) zero8 3 384 rfl 3 rfl inb_S128x1024_S128x128_0_384 inb_S128x1024_S128x128_0_384 inb_S128x1024_S128x128_0_384 inb_S1x1024_S1x128_0_384 inb_S8x128x128_S1x128x128_3_0_0 x _ (by show 3 + 1 * (x 0).val = 3 + (x 0).val; omega) (by show 0 + 1 * (x 1).val = (x 1).val; omega) (by show 0 + 1 * (x 2).val = (x 2).val; omega))
    exact congrFun (dws_3 (F := Ideal) _ _ _ _ _) x
  · refine Eq.trans ?_ (at8z m c t (k0_pay3 (F := Ideal)) zero8 2 256 rfl 2 rfl inb_S128x1024_S128x128_0_256 inb_S128x1024_S128x128_0_256 inb_S128x1024_S128x128_0_256 inb_S1x1024_S1x128_0_256 inb_S8x128x128_S1x128x128_2_0_0 x _ (by show 2 + 1 * (x 0).val = 2 + (x 0).val; omega) (by show 0 + 1 * (x 1).val = (x 1).val; omega) (by show 0 + 1 * (x 2).val = (x 2).val; omega))
    exact congrFun (dws_2 (F := Ideal) _ _ _ _ _) x
  · refine Eq.trans ?_ (at8z m c t (k0_pay3 (F := Ideal)) zero8 1 128 rfl 1 rfl inb_S128x1024_S128x128_0_128 inb_S128x1024_S128x128_0_128 inb_S128x1024_S128x128_0_128 inb_S1x1024_S1x128_0_128 inb_S8x128x128_S1x128x128_1_0_0 x _ (by show 1 + 1 * (x 0).val = 1 + (x 0).val; omega) (by show 0 + 1 * (x 1).val = (x 1).val; omega) (by show 0 + 1 * (x 2).val = (x 2).val; omega))
    exact congrFun (dws_1 (F := Ideal) _ _ _ _ _) x
  · refine Eq.trans ?_ (at8z m c t (k0_pay3 (F := Ideal)) zero8 0 0 rfl 0 rfl inb_S128x1024_S128x128_0_0 inb_S128x1024_S128x128_0_0 inb_S128x1024_S128x128_0_0 inb_S1x1024_S1x128_0_0 inb_S8x128x128_S1x128x128_0_0_0 x _ (by show 0 + 1 * (x 0).val = 0 + (x 0).val; omega) (by show 0 + 1 * (x 1).val = (x 1).val; omega) (by show 0 + 1 * (x 2).val = (x 2).val; omega))
    exact congrFun (dws_0 (F := Ideal) _ _ _ _ _) x
  · exact View.cover_of_tiledL _ ![1, 128, 128] rfl y

/-- A later grid point's matrices' gradient. -/
theorem next8 (c : Dev nD) (t : Fin cfg0.N) (h : ¬ t.val % 16 = 0) (y : S8x128x128.Idx) :
    (outsAt0 m c t.val t.isLt).2.2.1 y
      = (outsAt0 m c (t.val - 1) (Nat.lt_of_le_of_lt (Nat.sub_le _ _) t.isLt)).2.2.1 y + add8 m c (pt t) y := by
  rw [outsAt0_B m c t h]
  frame_out
  generalize (outsAt0 m c (t.val - 1) (Nat.lt_of_le_of_lt (Nat.sub_le _ _) t.isLt)).2.2.1 = O
  canon_tiles x h
  · refine Eq.trans ?_ (at8 m c t O 7 896 rfl 7 rfl inb_S128x1024_S128x128_0_896 inb_S128x1024_S128x128_0_896 inb_S128x1024_S128x128_0_896 inb_S1x1024_S1x128_0_896 inb_S8x128x128_S1x128x128_7_0_0 x y (by omega) (by omega) (by omega))
    exact congrFun (dws_7 (F := Ideal) _ _ _ _ _) x
  · refine Eq.trans ?_ (at8 m c t O 6 768 rfl 6 rfl inb_S128x1024_S128x128_0_768 inb_S128x1024_S128x128_0_768 inb_S128x1024_S128x128_0_768 inb_S1x1024_S1x128_0_768 inb_S8x128x128_S1x128x128_6_0_0 x y (by omega) (by omega) (by omega))
    exact congrFun (dws_6 (F := Ideal) _ _ _ _ _) x
  · refine Eq.trans ?_ (at8 m c t O 5 640 rfl 5 rfl inb_S128x1024_S128x128_0_640 inb_S128x1024_S128x128_0_640 inb_S128x1024_S128x128_0_640 inb_S1x1024_S1x128_0_640 inb_S8x128x128_S1x128x128_5_0_0 x y (by omega) (by omega) (by omega))
    exact congrFun (dws_5 (F := Ideal) _ _ _ _ _) x
  · refine Eq.trans ?_ (at8 m c t O 4 512 rfl 4 rfl inb_S128x1024_S128x128_0_512 inb_S128x1024_S128x128_0_512 inb_S128x1024_S128x128_0_512 inb_S1x1024_S1x128_0_512 inb_S8x128x128_S1x128x128_4_0_0 x y (by omega) (by omega) (by omega))
    exact congrFun (dws_4 (F := Ideal) _ _ _ _ _) x
  · refine Eq.trans ?_ (at8 m c t O 3 384 rfl 3 rfl inb_S128x1024_S128x128_0_384 inb_S128x1024_S128x128_0_384 inb_S128x1024_S128x128_0_384 inb_S1x1024_S1x128_0_384 inb_S8x128x128_S1x128x128_3_0_0 x y (by omega) (by omega) (by omega))
    exact congrFun (dws_3 (F := Ideal) _ _ _ _ _) x
  · refine Eq.trans ?_ (at8 m c t O 2 256 rfl 2 rfl inb_S128x1024_S128x128_0_256 inb_S128x1024_S128x128_0_256 inb_S128x1024_S128x128_0_256 inb_S1x1024_S1x128_0_256 inb_S8x128x128_S1x128x128_2_0_0 x y (by omega) (by omega) (by omega))
    exact congrFun (dws_2 (F := Ideal) _ _ _ _ _) x
  · refine Eq.trans ?_ (at8 m c t O 1 128 rfl 1 rfl inb_S128x1024_S128x128_0_128 inb_S128x1024_S128x128_0_128 inb_S128x1024_S128x128_0_128 inb_S1x1024_S1x128_0_128 inb_S8x128x128_S1x128x128_1_0_0 x y (by omega) (by omega) (by omega))
    exact congrFun (dws_1 (F := Ideal) _ _ _ _ _) x
  · refine Eq.trans ?_ (at8 m c t O 0 0 rfl 0 rfl inb_S128x1024_S128x128_0_0 inb_S128x1024_S128x128_0_0 inb_S128x1024_S128x128_0_0 inb_S1x1024_S1x128_0_0 inb_S8x128x128_S1x128x128_0_0_0 x y (by omega) (by omega) (by omega))
    exact congrFun (dws_0 (F := Ideal) _ _ _ _ _) x

/-- The matrices' gradient after the last grid point. -/
theorem acc8 (c : Dev nD) (t : Fin cfg0.N) (h : t.val % 16 = 15) (y : S8x128x128.Idx) :
    (outsAt0 m c t.val t.isLt).2.2.1 y = ∑ n : Fin 16, add8 m c n y := by
  have hN : cfg0.N = 16 := N_0
  have ht := t.isLt
  have hp : ∀ s : Fin cfg0.N, (if h : s.val < cfg0.N then add8 m c (pt ⟨s.val, h⟩) y else 0) = add8 m c (pt s) y := fun s => dif_pos s.isLt
  refine (Pipeline.eq_sum_of_reset_step_apply_of_mod (N := cfg0.N) (fun n hn (y : S8x128x128.Idx) => (outsAt0 m c n hn).2.2.1 y) 16 (fun _ => 0)
    (fun n y => if h : n < cfg0.N then add8 m c (pt ⟨n, h⟩) y else 0)
    (fun t h y => (first8 m c t h y).trans (by rw [dif_pos t.isLt]))
    (fun t h y => (next8 m c t h y).trans (by rw [dif_pos t.isLt])) t h y).trans ?_
  rw [zero_add, Finset.sum_range]
  refine Finset.sum_congr rfl fun k _ => ?_
  rw [dif_pos (show 16 * (t.val / 16) + k.val < cfg0.N by have := k.isLt; omega)]
  exact congrArg (fun n => add8 m c n y) (Fin.ext (show 16 * (t.val / 16) + k.val = k.val by omega))

/-- The zero fill of the biases' gradient. -/
theorem zero9 (y : S128x8.Idx) : (k0_pay4 : FVec Ideal S128x8 .f32) y = 0 := by
  pointwise [k0_pay4]

/-- The first grid point's biases' gradient. -/
theorem first9 (c : Dev nD) (t : Fin cfg0.N) (h : t.val % 16 = 0) (y : S128x8.Idx) :
    (outsAt0 m c t.val t.isLt).2.2.2.1 y = 0 + add9 m c (pt t) y := by
  rw [outsAt0_A m c t h]
  frame_out
  rw [db_all]
  exact (at9 m c t _ y (fun g a => by fin_cases g <;> fin_cases a <;> decide)).trans (congrArg (· + _) (zero9 y))

/-- A later grid point's biases' gradient. -/
theorem next9 (c : Dev nD) (t : Fin cfg0.N) (h : ¬ t.val % 16 = 0) (y : S128x8.Idx) :
    (outsAt0 m c t.val t.isLt).2.2.2.1 y
      = (outsAt0 m c (t.val - 1) (Nat.lt_of_le_of_lt (Nat.sub_le _ _) t.isLt)).2.2.2.1 y + add9 m c (pt t) y := by
  rw [outsAt0_B m c t h]
  frame_out
  rw [db_all]
  exact at9 m c t _ y (fun g a => by fin_cases g <;> fin_cases a <;> decide)

/-- The biases' gradient after the last grid point. -/
theorem acc9 (c : Dev nD) (t : Fin cfg0.N) (h : t.val % 16 = 15) (y : S128x8.Idx) :
    (outsAt0 m c t.val t.isLt).2.2.2.1 y = ∑ n : Fin 16, add9 m c n y := by
  have hN : cfg0.N = 16 := N_0
  have ht := t.isLt
  have hp : ∀ s : Fin cfg0.N, (if h : s.val < cfg0.N then add9 m c (pt ⟨s.val, h⟩) y else 0) = add9 m c (pt s) y := fun s => dif_pos s.isLt
  refine (Pipeline.eq_sum_of_reset_step_apply_of_mod (N := cfg0.N) (fun n hn (y : S128x8.Idx) => (outsAt0 m c n hn).2.2.2.1 y) 16 (fun _ => 0)
    (fun n y => if h : n < cfg0.N then add9 m c (pt ⟨n, h⟩) y else 0)
    (fun t h y => (first9 m c t h y).trans (by rw [dif_pos t.isLt]))
    (fun t h y => (next9 m c t h y).trans (by rw [dif_pos t.isLt])) t h y).trans ?_
  rw [zero_add, Finset.sum_range]
  refine Finset.sum_congr rfl fun k _ => ?_
  rw [dif_pos (show 16 * (t.val / 16) + k.val < cfg0.N by have := k.isLt; omega)]
  exact congrArg (fun n => add9 m c n y) (Fin.ext (show 16 * (t.val / 16) + k.val = k.val by omega))

/-- The zero fill of the gain's gradient. -/
theorem zero10 (y : S1x1024.Idx) : (k0_pay5 : FVec Ideal S1x1024 .f32) y = 0 := by
  pointwise [k0_pay5]

/-- A group's piece of the gain's gradient over a zero fill. -/
theorem at10z (c : Dev nD) (t : Fin cfg0.N) (O : Vec Ideal S1x1024 .f32) (hO : ∀ y, O y = 0) (g : Fin 8) (off : ℕ) (h : off = 128 * g.val) (o4 : ℕ) (h4 : o4 = g.val) (i0 i1 i2 i3 i4)
    (x : S1x128.Idx) (y : S1x1024.Idx) (h1 : (y 1).val = off + (x 1).val) :
    dgV (F := Ideal) (View.ld (Val := Elt Ideal) (e' := .f32) (iblk m c 0 t) (Rect.unit (s := S128x1024) ![0, off] ![128, 128] i0))
      (View.ld (Val := Elt Ideal) (e' := .f32) (iblk m c 1 t) (Rect.unit (s := S128x1024) ![0, off] ![128, 128] i1))
      (View.ld (Val := Elt Ideal) (e' := .f32) (iblk m c 2 t) (Rect.unit (s := S128x1024) ![0, off] ![128, 128] i2))
      (View.ld (Val := Elt Ideal) (e' := .f32) (iblk m c 4 t) (Rect.unit (s := S8x128x128) ![o4, 0, 0] ![1, 128, 128] i4))
      (View.ld (Val := Elt Ideal) (e' := .f32) O (Rect.unit (s := S1x1024) ![0, off] ![1, 128] i3)) x
      = 0 +  add10 m c (pt t) y :=
  (at10 m c t O g off h o4 h4 i0 i1 i2 i3 i4 x y h1).trans (congrArg (· + add10 m c (pt t) y) (hO y))

/-- The first grid point's gain's gradient. -/
theorem first10 (c : Dev nD) (t : Fin cfg0.N) (h : t.val % 16 = 0) (y : S1x1024.Idx) :
    (outsAt0 m c t.val t.isLt).2.2.2.2 y = 0 + add10 m c (pt t) y := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (fun y => 0 + add10 m c (pt t) y) [_] [_, _, _, _, _, _, _, _] ⟨fun x => ?_, fun x => ?_, fun x => ?_, fun x => ?_, fun x => ?_, fun x => ?_, fun x => ?_, fun x => ?_, trivial⟩ y ?_
  · refine Eq.trans ?_ (at10z m c t (k0_pay5 (F := Ideal)) zero10 7 896 rfl 7 rfl inb_S128x1024_S128x128_0_896 inb_S128x1024_S128x128_0_896 inb_S128x1024_S128x128_0_896 inb_S1x1024_S1x128_0_896 inb_S8x128x128_S1x128x128_7_0_0 x _ (by show 896 + 1 * (x 1).val = 896 + (x 1).val; omega))
    exact congrFun (dg_7 (F := Ideal) _ _ _ _ _) x
  · refine Eq.trans ?_ (at10z m c t (k0_pay5 (F := Ideal)) zero10 6 768 rfl 6 rfl inb_S128x1024_S128x128_0_768 inb_S128x1024_S128x128_0_768 inb_S128x1024_S128x128_0_768 inb_S1x1024_S1x128_0_768 inb_S8x128x128_S1x128x128_6_0_0 x _ (by show 768 + 1 * (x 1).val = 768 + (x 1).val; omega))
    exact congrFun (dg_6 (F := Ideal) _ _ _ _ _) x
  · refine Eq.trans ?_ (at10z m c t (k0_pay5 (F := Ideal)) zero10 5 640 rfl 5 rfl inb_S128x1024_S128x128_0_640 inb_S128x1024_S128x128_0_640 inb_S128x1024_S128x128_0_640 inb_S1x1024_S1x128_0_640 inb_S8x128x128_S1x128x128_5_0_0 x _ (by show 640 + 1 * (x 1).val = 640 + (x 1).val; omega))
    exact congrFun (dg_5 (F := Ideal) _ _ _ _ _) x
  · refine Eq.trans ?_ (at10z m c t (k0_pay5 (F := Ideal)) zero10 4 512 rfl 4 rfl inb_S128x1024_S128x128_0_512 inb_S128x1024_S128x128_0_512 inb_S128x1024_S128x128_0_512 inb_S1x1024_S1x128_0_512 inb_S8x128x128_S1x128x128_4_0_0 x _ (by show 512 + 1 * (x 1).val = 512 + (x 1).val; omega))
    exact congrFun (dg_4 (F := Ideal) _ _ _ _ _) x
  · refine Eq.trans ?_ (at10z m c t (k0_pay5 (F := Ideal)) zero10 3 384 rfl 3 rfl inb_S128x1024_S128x128_0_384 inb_S128x1024_S128x128_0_384 inb_S128x1024_S128x128_0_384 inb_S1x1024_S1x128_0_384 inb_S8x128x128_S1x128x128_3_0_0 x _ (by show 384 + 1 * (x 1).val = 384 + (x 1).val; omega))
    exact congrFun (dg_3 (F := Ideal) _ _ _ _ _) x
  · refine Eq.trans ?_ (at10z m c t (k0_pay5 (F := Ideal)) zero10 2 256 rfl 2 rfl inb_S128x1024_S128x128_0_256 inb_S128x1024_S128x128_0_256 inb_S128x1024_S128x128_0_256 inb_S1x1024_S1x128_0_256 inb_S8x128x128_S1x128x128_2_0_0 x _ (by show 256 + 1 * (x 1).val = 256 + (x 1).val; omega))
    exact congrFun (dg_2 (F := Ideal) _ _ _ _ _) x
  · refine Eq.trans ?_ (at10z m c t (k0_pay5 (F := Ideal)) zero10 1 128 rfl 1 rfl inb_S128x1024_S128x128_0_128 inb_S128x1024_S128x128_0_128 inb_S128x1024_S128x128_0_128 inb_S1x1024_S1x128_0_128 inb_S8x128x128_S1x128x128_1_0_0 x _ (by show 128 + 1 * (x 1).val = 128 + (x 1).val; omega))
    exact congrFun (dg_1 (F := Ideal) _ _ _ _ _) x
  · refine Eq.trans ?_ (at10z m c t (k0_pay5 (F := Ideal)) zero10 0 0 rfl 0 rfl inb_S128x1024_S128x128_0_0 inb_S128x1024_S128x128_0_0 inb_S128x1024_S128x128_0_0 inb_S1x1024_S1x128_0_0 inb_S8x128x128_S1x128x128_0_0_0 x _ (by show 0 + 1 * (x 1).val = 0 + (x 1).val; omega))
    exact congrFun (dg_0 (F := Ideal) _ _ _ _ _) x
  · exact View.cover_of_tiledL _ ![1, 128] rfl y

/-- A later grid point's gain's gradient. -/
theorem next10 (c : Dev nD) (t : Fin cfg0.N) (h : ¬ t.val % 16 = 0) (y : S1x1024.Idx) :
    (outsAt0 m c t.val t.isLt).2.2.2.2 y
      = (outsAt0 m c (t.val - 1) (Nat.lt_of_le_of_lt (Nat.sub_le _ _) t.isLt)).2.2.2.2 y + add10 m c (pt t) y := by
  rw [outsAt0_B m c t h]
  frame_out
  generalize (outsAt0 m c (t.val - 1) (Nat.lt_of_le_of_lt (Nat.sub_le _ _) t.isLt)).2.2.2.2 = O
  canon_tiles x h
  · refine Eq.trans ?_ (at10 m c t O 7 896 rfl 7 rfl inb_S128x1024_S128x128_0_896 inb_S128x1024_S128x128_0_896 inb_S128x1024_S128x128_0_896 inb_S1x1024_S1x128_0_896 inb_S8x128x128_S1x128x128_7_0_0 x y (by omega))
    exact congrFun (dg_7 (F := Ideal) _ _ _ _ _) x
  · refine Eq.trans ?_ (at10 m c t O 6 768 rfl 6 rfl inb_S128x1024_S128x128_0_768 inb_S128x1024_S128x128_0_768 inb_S128x1024_S128x128_0_768 inb_S1x1024_S1x128_0_768 inb_S8x128x128_S1x128x128_6_0_0 x y (by omega))
    exact congrFun (dg_6 (F := Ideal) _ _ _ _ _) x
  · refine Eq.trans ?_ (at10 m c t O 5 640 rfl 5 rfl inb_S128x1024_S128x128_0_640 inb_S128x1024_S128x128_0_640 inb_S128x1024_S128x128_0_640 inb_S1x1024_S1x128_0_640 inb_S8x128x128_S1x128x128_5_0_0 x y (by omega))
    exact congrFun (dg_5 (F := Ideal) _ _ _ _ _) x
  · refine Eq.trans ?_ (at10 m c t O 4 512 rfl 4 rfl inb_S128x1024_S128x128_0_512 inb_S128x1024_S128x128_0_512 inb_S128x1024_S128x128_0_512 inb_S1x1024_S1x128_0_512 inb_S8x128x128_S1x128x128_4_0_0 x y (by omega))
    exact congrFun (dg_4 (F := Ideal) _ _ _ _ _) x
  · refine Eq.trans ?_ (at10 m c t O 3 384 rfl 3 rfl inb_S128x1024_S128x128_0_384 inb_S128x1024_S128x128_0_384 inb_S128x1024_S128x128_0_384 inb_S1x1024_S1x128_0_384 inb_S8x128x128_S1x128x128_3_0_0 x y (by omega))
    exact congrFun (dg_3 (F := Ideal) _ _ _ _ _) x
  · refine Eq.trans ?_ (at10 m c t O 2 256 rfl 2 rfl inb_S128x1024_S128x128_0_256 inb_S128x1024_S128x128_0_256 inb_S128x1024_S128x128_0_256 inb_S1x1024_S1x128_0_256 inb_S8x128x128_S1x128x128_2_0_0 x y (by omega))
    exact congrFun (dg_2 (F := Ideal) _ _ _ _ _) x
  · refine Eq.trans ?_ (at10 m c t O 1 128 rfl 1 rfl inb_S128x1024_S128x128_0_128 inb_S128x1024_S128x128_0_128 inb_S128x1024_S128x128_0_128 inb_S1x1024_S1x128_0_128 inb_S8x128x128_S1x128x128_1_0_0 x y (by omega))
    exact congrFun (dg_1 (F := Ideal) _ _ _ _ _) x
  · refine Eq.trans ?_ (at10 m c t O 0 0 rfl 0 rfl inb_S128x1024_S128x128_0_0 inb_S128x1024_S128x128_0_0 inb_S128x1024_S128x128_0_0 inb_S1x1024_S1x128_0_0 inb_S8x128x128_S1x128x128_0_0_0 x y (by omega))
    exact congrFun (dg_0 (F := Ideal) _ _ _ _ _) x

/-- The gain's gradient after the last grid point. -/
theorem acc10 (c : Dev nD) (t : Fin cfg0.N) (h : t.val % 16 = 15) (y : S1x1024.Idx) :
    (outsAt0 m c t.val t.isLt).2.2.2.2 y = ∑ n : Fin 16, add10 m c n y := by
  have hN : cfg0.N = 16 := N_0
  have ht := t.isLt
  have hp : ∀ s : Fin cfg0.N, (if h : s.val < cfg0.N then add10 m c (pt ⟨s.val, h⟩) y else 0) = add10 m c (pt s) y := fun s => dif_pos s.isLt
  refine (Pipeline.eq_sum_of_reset_step_apply_of_mod (N := cfg0.N) (fun n hn (y : S1x1024.Idx) => (outsAt0 m c n hn).2.2.2.2 y) 16 (fun _ => 0)
    (fun n y => if h : n < cfg0.N then add10 m c (pt ⟨n, h⟩) y else 0)
    (fun t h y => (first10 m c t h y).trans (by rw [dif_pos t.isLt]))
    (fun t h y => (next10 m c t h y).trans (by rw [dif_pos t.isLt])) t h y).trans ?_
  rw [zero_add, Finset.sum_range]
  refine Finset.sum_congr rfl fun k _ => ?_
  rw [dif_pos (show 16 * (t.val / 16) + k.val < cfg0.N by have := k.isLt; omega)]
  exact congrArg (fun n => add10 m c n y) (Fin.ext (show 16 * (t.val / 16) + k.val = k.val by omega))

end Cert.KernelIdeal.Val
end
-- ==== Proof.GmlpRed.lean ====
module

public import proofs.«01_k».proof.Defs
public import proofs.«01_k».proof.Proof.Gen.ReferenceIdeal.Run
public import proofs.«01_k».proof.Proof.Gen.ReferenceIdeal.Read
public import proofs.«01_k».proof.Proof.GmlpDefs
public import Idealize.ShloMosaic.Lib.IdealHost
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.ReferenceIdeal.Val

open Cert.ReferenceIdeal Cert.ReferenceIdeal.Read
open Cert.Gmlp

/-- A host sum read as the sum over any listing of the indices of its fibre. -/
theorem reduce_read {s r w : Shape} {axes : List (Fin s.rank)} {κ : Type} [Fintype κ] (x : FVec Ideal s .f32) (init : w.Idx → Ideal .f32)
    (h : s.ReducesTo axes r) (hu : 0 < w.numel) (j : r.Idx) (e : κ → s.Idx) (hinj : Function.Injective e)
    (hd : ∀ k, h.drop (e k) = j) (hs : ∀ i, h.drop i = j → ∃ k, e k = i) :
    Host.reduceAdd x init h hu j = init (Shape.Idx.first hu) + ∑ k, x (e k) := by
  rw [ValueIdx.hostReduceAdd_apply]
  unfold Ideal.hostReduceAdd
  refine congrArg (_ + ·) ?_
  symm
  refine Finset.sum_nbij e (fun k _ => Finset.mem_filter.2 ⟨Finset.mem_univ _, hd k⟩) (fun a _ b _ hab => hinj hab) (fun i hi => ?_) (fun _ _ => rfl)
  obtain ⟨k, rfl⟩ := hs i (Finset.mem_filter.1 (Finset.mem_coe.1 hi)).2
  exact ⟨k, Finset.mem_coe.2 (Finset.mem_univ _), rfl⟩

/-- The dimension numbers of the matrices' gradient. -/
abbrev Db : DotDims S8x1x16x128x128 S1x16x128x8x128 S8x128x128 := dot_S8x1x16x128x128_S1x16x128x8x128_S8x128x128_123_014_4_2_0_3

/-- The contraction index of a chunk and a lane. -/
def eb (p : Fin 16 × Fin 128) : Db.contr.Idx := fun a => match a with
  | ⟨0, _⟩ => (0 : Fin 1)
  | ⟨1, _⟩ => p.1
  | ⟨2, _⟩ => p.2

/-- The matrices' gradient's product read at an index. -/
theorem dot_read (L : FVec Ideal S8x1x16x128x128 .f32) (R : FVec Ideal S1x16x128x8x128 .f32) (g : Fin 8) (t s : Fin 128) :
    (Host.dotGeneral Db none L R : FVec Ideal S8x128x128 .f32) (ix3 g t s)
      = ∑ n : Fin 16, ∑ l : Fin 128, L (ix5 g 0 n l t) * R (ix5 0 n s g l) := by
  refine (Ideal.dotGeneral_apply Db none _ L R (ix3 g t s)).trans ?_
  rw [← Fintype.sum_prod_type']
  symm
  refine Finset.sum_nbij eb (fun _ _ => Finset.mem_univ _) (fun a _ b _ hab => ?_) (fun i _ => ?_) (fun p _ => ?_)
  · exact Prod.ext (congrFun hab ⟨1, by decide⟩) (congrFun hab ⟨2, by decide⟩)
  · refine ⟨(i ⟨1, by decide⟩, i ⟨2, by decide⟩), Finset.mem_coe.2 (Finset.mem_univ _), ?_⟩
    funext a
    match a with
    | ⟨0, _⟩ => exact Subsingleton.elim (α := Fin 1) _ _
    | ⟨1, _⟩ => rfl
    | ⟨2, _⟩ => rfl
  · refine congr (congrArg HMul.hMul (congrArg L ?_)) (congrArg R ?_)
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
      | ⟨4, _⟩ => rfl

/-- The sum over chunks and lanes read. -/
theorem v87_read (x0 x1) (t : Fin 128) (g : Fin 8) :
    val_main_v87 (F := Ideal) x0 x1 (ix3 (0 : Fin 1) t g) = ∑ n : Fin 16, ∑ l : Fin 128, val_main_v86 (F := Ideal) x0 x1 (ix5 (0 : Fin 1) n t g l) := by
  unfold val_main_v87
  generalize val_main_v86 (F := Ideal) x0 x1 = y
  rw [reduce_read y _ _ Gen.h_S_ _ (fun p : Fin 16 × Fin 128 => (ix5 (0 : Fin 1) p.1 t g p.2 : S1x16x128x8x128.Idx))
    (fun a b hab => by
      have h1 := congrFun hab ⟨1, by decide⟩
      have h4 := congrFun hab ⟨4, by decide⟩
      exact Prod.ext h1 h4) (fun k => ?_) (fun i hi => ?_), Fintype.sum_prod_type]
  · exact (congrArg (· + _) (show val_main_cst_20 (F := Ideal) (Shape.Idx.first Gen.h_S_) = 0 by pointwise [val_main_cst_20])).trans (zero_add _)
  · funext a
    match a with
    | ⟨0, _⟩ => rfl
    | ⟨1, _⟩ => rfl
    | ⟨2, _⟩ => rfl
  · refine ⟨(i 1, i 4), ?_⟩
    have h1 := congrFun hi ⟨1, by decide⟩
    have h2 := congrFun hi ⟨2, by decide⟩
    funext a
    match a with
    | ⟨0, _⟩ => exact Subsingleton.elim (α := Fin 1) _ _
    | ⟨1, _⟩ => rfl
    | ⟨2, _⟩ => exact h1.symm
    | ⟨3, _⟩ => exact h2.symm
    | ⟨4, _⟩ => rfl

/-- The sum over unit axes read. -/
theorem v89_read (x0 x1) (t : Fin 128) (g : Fin 8) :
    val_main_v89 (F := Ideal) x0 x1 (ix2 t g) = val_main_v88 (F := Ideal) x0 x1 (ix5 (0 : Fin 1) (0 : Fin 1) t g (0 : Fin 1)) := by
  unfold val_main_v89
  generalize val_main_v88 (F := Ideal) x0 x1 = y
  rw [reduce_read y _ _ Gen.h_S_ _ (fun p : Unit => (ix5 (0 : Fin 1) (0 : Fin 1) t g (0 : Fin 1) : S1x1x128x8x1.Idx))
    (fun a b hab => rfl) (fun k => ?_) (fun i hi => ?_)]
  · refine (congrArg (· + _) (show val_main_cst_21 (F := Ideal) (Shape.Idx.first Gen.h_S_) = 0 by pointwise [val_main_cst_21])).trans ((zero_add _).trans ?_)
    exact Fintype.sum_unique _
  · funext a
    match a with
    | ⟨0, _⟩ => rfl
    | ⟨1, _⟩ => rfl
  · refine ⟨(), ?_⟩
    have h1 := congrFun hi ⟨0, by decide⟩
    have h2 := congrFun hi ⟨1, by decide⟩
    funext a
    match a with
    | ⟨0, _⟩ => exact Subsingleton.elim (α := Fin 1) _ _
    | ⟨1, _⟩ => exact Subsingleton.elim (α := Fin 1) _ _
    | ⟨2, _⟩ => exact h1.symm
    | ⟨3, _⟩ => exact h2.symm
    | ⟨4, _⟩ => exact Subsingleton.elim (α := Fin 1) _ _

/-- The sum over unit axes read. -/
theorem v102_read (x0 x1 x3) (g : Fin 8) (l : Fin 128) :
    val_main_v102 (F := Ideal) x0 x1 x3 (ix2 g l) = val_main_v99 (F := Ideal) x0 x1 x3 (ix4 (0 : Fin 1) (0 : Fin 1) g l) := by
  unfold val_main_v102
  generalize val_main_v99 (F := Ideal) x0 x1 x3 = y
  rw [reduce_read y _ _ Gen.h_S_ _ (fun p : Unit => (ix4 (0 : Fin 1) (0 : Fin 1) g l : S1x1x8x128.Idx))
    (fun a b hab => rfl) (fun k => ?_) (fun i hi => ?_)]
  · refine (congrArg (· + _) (show val_main_cst_23 (F := Ideal) (Shape.Idx.first Gen.h_S_) = 0 by pointwise [val_main_cst_23])).trans ((zero_add _).trans ?_)
    exact Fintype.sum_unique _
  · funext a
    match a with
    | ⟨0, _⟩ => rfl
    | ⟨1, _⟩ => rfl
  · refine ⟨(), ?_⟩
    have h1 := congrFun hi ⟨0, by decide⟩
    have h2 := congrFun hi ⟨1, by decide⟩
    funext a
    match a with
    | ⟨0, _⟩ => exact Subsingleton.elim (α := Fin 1) _ _
    | ⟨1, _⟩ => exact Subsingleton.elim (α := Fin 1) _ _
    | ⟨2, _⟩ => exact h1.symm
    | ⟨3, _⟩ => exact h2.symm

/-- The sum over unit axes read. -/
theorem v111_read (x0 x1 x2 x3) (R : Fin 2048) (g : Fin 8) :
    val_main_v111 (F := Ideal) x0 x1 x2 x3 (ix2 R g) = val_main_v110 (F := Ideal) x0 x1 x2 x3 (ix4 (0 : Fin 1) R g (0 : Fin 1)) := by
  unfold val_main_v111
  generalize val_main_v110 (F := Ideal) x0 x1 x2 x3 = y
  rw [reduce_read y _ _ Gen.h_S_ _ (fun p : Unit => (ix4 (0 : Fin 1) R g (0 : Fin 1) : S1x2048x8x1.Idx))
    (fun a b hab => rfl) (fun k => ?_) (fun i hi => ?_)]
  · refine (congrArg (· + _) (show val_main_cst_26 (F := Ideal) (Shape.Idx.first Gen.h_S_) = 0 by pointwise [val_main_cst_26])).trans ((zero_add _).trans ?_)
    exact Fintype.sum_unique _
  · funext a
    match a with
    | ⟨0, _⟩ => rfl
    | ⟨1, _⟩ => rfl
  · refine ⟨(), ?_⟩
    have h1 := congrFun hi ⟨0, by decide⟩
    have h2 := congrFun hi ⟨1, by decide⟩
    funext a
    match a with
    | ⟨0, _⟩ => exact Subsingleton.elim (α := Fin 1) _ _
    | ⟨1, _⟩ => exact h1.symm
    | ⟨2, _⟩ => exact h2.symm
    | ⟨3, _⟩ => exact Subsingleton.elim (α := Fin 1) _ _

end Cert.ReferenceIdeal.Val
end
-- ==== Proof.GmlpRef.lean ====
module

public import proofs.«01_k».proof.Defs
public import proofs.«01_k».proof.Proof.Gen.ReferenceIdeal.Run
public import proofs.«01_k».proof.Proof.Gen.ReferenceIdeal.Read
public import proofs.«01_k».proof.Proof.GmlpRed
public import Idealize.ShloMosaic.Lib.Pipeline.ValueKit.Acc
public import Idealize.ShloMosaic.Lib.IdealHost
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.ReferenceIdeal.Val

open Cert.ReferenceIdeal Cert.ReferenceIdeal.Read
open Cert.Gmlp

variable (x0 : FVec Ideal S2048x6144 .f32) (x1 : FVec Ideal S2048x2048 .f32) (x2 : FVec Ideal S1024 .f32) (x3 : FVec Ideal S8x128x128 .f32) (x4 : FVec Ideal S8x128 .f32)

/-- The projection by coordinates. -/
abbrev fP : Fin 2048 → Fin 6144 → EReal := fun r c => x0 (ix2 r c)
/-- The cotangent by coordinates. -/
abbrev fD : Fin 2048 → Fin 2048 → EReal := fun r c => x1 (ix2 r c)
/-- The gain by its coordinate. -/
abbrev fG : Fin 1024 → EReal := fun k => x2 (ix1 k)
/-- A group's matrix by coordinates. -/
abbrev fW : Fin 8 → Fin 128 → Fin 128 → EReal := fun g t s => x3 (ix3 g t s)
/-- A group's biases. -/
abbrev fB : Fin 8 → Fin 128 → EReal := fun g t => x4 (ix2 g t)

variable (n : Fin 16) (g : Fin 8) (t s l : Fin 128)

/-- The first half at an index. -/
theorem u_read : val_main_v1 (F := Ideal) x0 (ix3 (0 : Fin 1) (row n t) (col g l)) = uOf (fP x0) n g t l := by
  pointwise [val_main_v1, val_main_v0] <;> rfl

/-- The second half at an index. -/
theorem v_read : val_main_v3 (F := Ideal) x0 (ix3 (0 : Fin 1) (row n t) (col g l)) = vOf (fP x0) n g t l := by
  pointwise [val_main_v3, val_main_v2] <;> rfl

/-- The cotangent at an index. -/
theorem d_read : val_main_v83 (F := Ideal) x1 (ix3 (0 : Fin 1) (row n t) (col g l)) = dOf (fD x1) n g t l := by
  pointwise [val_main_v83, val_main_v82] <;> rfl

/-- The first half's tanh. -/
theorem thu (R : Fin 2048) (C : Fin 1024) : val_main_v16 (F := Ideal) x0 (ix3 (0 : Fin 1) R C) = thR (val_main_v1 (F := Ideal) x0 (ix3 (0 : Fin 1) R C)) := by
  generalize h : val_main_v1 (F := Ideal) x0 = y
  pointwise [val_main_v16, val_main_v15, val_main_v14, val_main_cst_2, val_main_v13, val_main_v12, val_main_v11, val_main_cst_1, val_main_v10, val_main_v9,
    val_main_cst_0, val_main_v5, val_main_v4, h] <;> rfl

/-- The second half's tanh. -/
theorem thv (R : Fin 2048) (C : Fin 1024) : val_main_v39 (F := Ideal) x0 (ix3 (0 : Fin 1) R C) = thR (val_main_v3 (F := Ideal) x0 (ix3 (0 : Fin 1) R C)) := by
  generalize h : val_main_v3 (F := Ideal) x0 = y
  pointwise [val_main_v39, val_main_v38, val_main_v37, val_main_cst_10, val_main_v36, val_main_v35, val_main_v34, val_main_cst_9, val_main_v33, val_main_v32,
    val_main_cst_8, val_main_v28, val_main_v27, h] <;> rfl

/-- The first half activated. -/
theorem gu : val_main_v26 (F := Ideal) x0 (ix3 (0 : Fin 1) (row n t) (col g l)) = gel (uOf (fP x0) n g t l) := by
  have h1 := thu x0 (row n t) (col g l)
  have h2 := u_read x0 n g t l
  rw [← gelR_eq, ← h2]
  unfold gelR
  rw [← h1]
  pointwise [val_main_v26, val_main_v25, val_main_v24, val_main_cst_6, val_main_v23, val_main_v22, val_main_cst_5] <;> rfl

/-- The second half activated. -/
theorem gv : val_main_v49 (F := Ideal) x0 (ix3 (0 : Fin 1) (row n t) (col g l)) = gel (vOf (fP x0) n g t l) := by
  have h1 := thv x0 (row n t) (col g l)
  have h2 := v_read x0 n g t l
  rw [← gelR_eq, ← h2]
  unfold gelR
  rw [← h1]
  pointwise [val_main_v49, val_main_v48, val_main_v47, val_main_cst_14, val_main_v46, val_main_v45, val_main_cst_13] <;> rfl

/-- The second half activated, by groups. -/
theorem v50_read : val_main_v50 (F := Ideal) x0 (ix4 (0 : Fin 1) (row n t) g l) = gel (vOf (fP x0) n g t l) := by
  rw [val_main_v50_apply, show idx_main_v50 (ix4 (0 : Fin 1) (row n t) g l) = ix3 (0 : Fin 1) (row n t) (col g l) by unfold row col; idx_ext]
  exact gv x0 n g t l

/-- The mean square with the small constant. -/
theorem v58_read : val_main_v58 (F := Ideal) x0 (ix4 (0 : Fin 1) (row n t) g (0 : Fin 1))
    = Ideal.div (∑ k, gel (vOf (fP x0) n g t k) * gel (vOf (fP x0) n g t k)) w128 + eps := by
  have h : val_main_v53 (F := Ideal) x0 (ix3 (0 : Fin 1) (row n t) g) = ∑ k, gel (vOf (fP x0) n g t k) * gel (vOf (fP x0) n g t k) := by
    rw [val_main_v53_apply]
    refine (congrArg (· + _) (show val_main_cst_15 (F := Ideal) (Shape.Idx.first Gen.h_S_) = 0 by pointwise [val_main_cst_15])).trans ((zero_add _).trans ?_)
    refine Finset.sum_congr rfl fun k _ => ?_
    rw [show idx_main_v53 (ix3 (0 : Fin 1) (row n t) g) k = ix4 (0 : Fin 1) (row n t) g k by idx_ext, val_main_v52_apply, v50_read]
    rfl
  rw [← h]
  pointwise [val_main_v58, val_main_v57, val_main_cst_17, val_main_v56, val_main_v55, val_main_cst_16, val_main_v54] <;> rfl

/-- The reciprocal root. -/
theorem v59_read : val_main_v59 (F := Ideal) x0 (ix4 (0 : Fin 1) (row n t) g (0 : Fin 1)) = inv (vOf (fP x0) n g t) := by
  rw [val_main_v59_apply, v58_read]
  rfl

/-- The factor of the mean's derivative. -/
theorem v62_read : val_main_v62 (F := Ideal) x0 (ix4 (0 : Fin 1) (row n t) g (0 : Fin 1))
    = nhf * Ideal.div (inv (vOf (fP x0) n g t)) (Ideal.div (∑ k, gel (vOf (fP x0) n g t k) * gel (vOf (fP x0) n g t k)) w128 + eps) := by
  rw [← v58_read x0 n g t, ← v59_read x0 n g t]
  pointwise [val_main_v62, val_main_v61, val_main_cst_18, val_main_v60] <;> rfl

/-- The normalised second half. -/
theorem v64_read : val_main_v64 (F := Ideal) x0 (ix4 (0 : Fin 1) (row n t) g l) = nrm (vOf (fP x0) n g t) l := by
  unfold nrm
  rw [← v59_read x0 n g t, ← v50_read x0 n g t l]
  pointwise [val_main_v64, val_main_v63] <;> rfl

/-- The gain by groups. -/
theorem gain_read : val_main_v51 (F := Ideal) x2 (ix2 g l) = gOf (fG x2) g l := by
  rw [val_main_v51_apply]
  exact congrArg x2 (by unfold col; idx_ext)

/-- The normalised second half times its gain. -/
theorem v67_read : val_main_v67 (F := Ideal) x0 x2 (ix4 (0 : Fin 1) (row n t) g l) = nrm (vOf (fP x0) n g t) l * gOf (fG x2) g l := by
  rw [← v64_read x0 n g t l, ← gain_read x2 g l]
  pointwise [val_main_v67, val_main_v66, val_main_v65] <;> rfl

/-- The same by chunks. -/
theorem v68_read : val_main_v68 (F := Ideal) x0 x2 (ix5 (0 : Fin 1) n s g l) = nrm (vOf (fP x0) n g s) l * gOf (fG x2) g l := by
  rw [val_main_v68_apply, show idx_main_v68 (ix5 (0 : Fin 1) n s g l) = ix4 (0 : Fin 1) (row n s) g l by unfold row; idx_ext, v67_read]

/-- The lower triangle as a choice. -/
theorem mask_read (a : Ideal .f32) : (if val_main_v73_1 (F := Ideal) (ix3 g t s) = 1#1 then a else 0) = msk s t a := by
  have h : val_main_v73_1 (F := Ideal) (ix3 g t s) = if s ≤ t then 1#1 else 0#1 := by
    have hl : val_main_v70 (F := Ideal) (ix2 t s) = if IntOp.cmpi .sge (IntOp.addi (BitVec.ofNat 32 t.val) 0#32) (BitVec.ofNat 32 s.val) = 1#1 then 1#1 else 0#1 := by
      pointwise [val_main_v70, val_main_call0_v4, val_main_call0_v2, val_main_call0_v0, val_main_call0_v1, val_main_call0_c, val_main_call0_v3, val_main_call0_c_0, val_main_call0_v5, val_main_v69, val_main_c] <;> rfl
    have h2 : val_main_v73_1 (F := Ideal) (ix3 g t s) = val_main_v70 (F := Ideal) (ix2 t s) := by
      pointwise [val_main_v73_1, val_main_v71] <;> rfl
    rw [h2, hl]
    have : (IntOp.cmpi .sge (IntOp.addi (BitVec.ofNat 32 t.val) 0#32) (BitVec.ofNat 32 s.val) = 1#1) ↔ s ≤ t := by
      clear h2 hl
      revert t s
      decide +kernel
    by_cases hh : s ≤ t
    · rw [if_pos hh]; exact if_pos (this.2 hh)
    · rw [if_neg hh]; exact if_neg (fun h => hh (this.1 h))
  rw [h]
  unfold msk
  by_cases hh : s ≤ t
  · rw [if_pos hh, if_pos hh]; exact if_pos rfl
  · rw [if_neg hh, if_neg hh]; exact if_neg (by decide)

/-- The masked matrices. -/
theorem w_read : val_main_v73_0 (F := Ideal) x3 (ix3 g t s) = msk s t (fW x3 g t s) := by
  rw [← mask_read g t s]
  pointwise [val_main_v73_0, val_main_v72, val_main_cst_19] <;> rfl

/-- The mixed second half with its biases. -/
theorem mix_read : val_main_v80 (F := Ideal) x0 x2 x3 x4 (ix3 (0 : Fin 1) (row n t) (col g l))
    = mix (vOf (fP x0) n g) (gOf (fG x2) g) (fW x3 g) (fB x4 g) t l := by
  rw [val_main_v80_apply, show idx_main_v80 (ix3 (0 : Fin 1) (row n t) (col g l)) = ix5 (0 : Fin 1) n t g l by unfold row col; idx_ext]
  have h : val_main_v74 (F := Ideal) x0 x2 x3 (ix5 g (0 : Fin 1) n l t) = ∑ s, msk s t (fW x3 g t s * (nrm (vOf (fP x0) n g s) l * gOf (fG x2) g l)) := by
    rw [val_main_v74_apply]
    refine Finset.sum_congr rfl fun s _ => ?_
    rw [show lidx_main_v74 (ix5 g (0 : Fin 1) n l t) s = ix5 (0 : Fin 1) n s g l by idx_ext, show ridx_main_v74 (ix5 g (0 : Fin 1) n l t) s = ix3 g t s by idx_ext,
      v68_read, w_read, mul_msk, mul_comm]
  unfold mix
  rw [← h]
  pointwise [val_main_v79, val_main_v78, val_main_v77, val_main_v76, val_main_v75] <;> rfl

/-- The cotangent times the activated first half, by chunks. -/
theorem ds_read : val_main_v86 (F := Ideal) x0 x1 (ix5 (0 : Fin 1) n t g l) = ds (uOf (fP x0) n g) (dOf (fD x1) n g) t l := by
  rw [val_main_v86_apply, show idx_main_v86 (ix5 (0 : Fin 1) n t g l) = ix3 (0 : Fin 1) (row n t) (col g l) by unfold row col; idx_ext, val_main_v84_apply, gu, d_read]
  exact mul_comm _ _

/-- The same transposed. -/
theorem dst_read : val_main_v91 (F := Ideal) x0 x1 (ix5 g (0 : Fin 1) n l t) = ds (uOf (fP x0) n g) (dOf (fD x1) n g) t l := by
  rw [val_main_v91_apply, show idx_main_v91 (ix5 g (0 : Fin 1) n l t) = ix5 (0 : Fin 1) n t g l by idx_ext, ds_read]

/-- The biases' gradient. -/
theorem bias_read : val_main_v152 (F := Ideal) x0 x1 (ix2 t g) = ∑ n, dbs (uOf (fP x0) n g) (dOf (fD x1) n g) t := by
  have h : val_main_v152 (F := Ideal) x0 x1 (ix2 t g) = val_main_v89 (F := Ideal) x0 x1 (ix2 t g) := by
    pointwise [val_main_v152, val_main_v90] <;> rfl
  rw [h, v89_read, val_main_v88_apply, show idx_main_v88 (ix5 (0 : Fin 1) (0 : Fin 1) t g (0 : Fin 1)) = ix3 (0 : Fin 1) t g by idx_ext, v87_read]
  refine Finset.sum_congr rfl fun n _ => ?_
  unfold dbs
  exact Finset.sum_congr rfl fun l _ => ds_read x0 x1 n g t l

/-- A masked sum is the sum of the masked terms. -/
theorem sum_msk {ι : Type} [Fintype ι] (f : ι → EReal) : msk s t (∑ k, f k) = ∑ k, msk s t (f k) := by
  unfold msk
  by_cases h : s ≤ t
  · simp [h]
  · simp [h]

/-- The matrices' gradient. -/
theorem mat_read : val_main_v95 (F := Ideal) x0 x1 x2 (ix3 g t s) = ∑ n, dws (uOf (fP x0) n g) (vOf (fP x0) n g) (dOf (fD x1) n g) (gOf (fG x2) g) t s := by
  have h : val_main_v92 (F := Ideal) x0 x1 x2 (ix3 g t s) = ∑ n, ∑ l, ds (uOf (fP x0) n g) (dOf (fD x1) n g) t l * (nrm (vOf (fP x0) n g s) l * gOf (fG x2) g l) := by
    unfold val_main_v92
    refine (dot_read _ _ g t s).trans ?_
    refine Finset.sum_congr rfl fun n _ => Finset.sum_congr rfl fun l _ => ?_
    rw [dst_read, v68_read]
  unfold dws
  rw [← sum_msk, ← h, ← mask_read g t s]
  pointwise [val_main_v95, val_main_call2_v0, val_main_call2_cst] <;> rfl

/-- The gradient of the normalised second half times its gain. -/
theorem dvg_read : val_main_v96 (F := Ideal) x0 x1 x3 (ix4 (0 : Fin 1) (row n t) g l) = dvg (uOf (fP x0) n g) (dOf (fD x1) n g) (fW x3 g) t l := by
  rw [val_main_v96_apply, show idx_main_v96 (ix4 (0 : Fin 1) (row n t) g l) = ix5 (0 : Fin 1) n t g l by unfold row; idx_ext, val_main_v94_apply,
    show idx_main_v94 (ix5 (0 : Fin 1) n t g l) = ix5 g (0 : Fin 1) n l t by idx_ext, val_main_v93_apply]
  unfold dvg
  refine Finset.sum_congr rfl fun s _ => ?_
  rw [show lidx_main_v93 (ix5 g (0 : Fin 1) n l t) s = ix5 g (0 : Fin 1) n l s by idx_ext, show ridx_main_v93 (ix5 g (0 : Fin 1) n l t) s = ix3 g s t by idx_ext,
    dst_read, w_read, mul_msk, mul_comm]

/-- The gain's gradient. -/
theorem dgain_read : val_main_v153 (F := Ideal) x0 x1 x3 (ix2 (0 : Fin 1) (col g l)) = ∑ n, dgn (uOf (fP x0) n g) (vOf (fP x0) n g) (dOf (fD x1) n g) (fW x3 g) l := by
  rw [val_main_v153_apply, show idx_main_v153 (ix2 (0 : Fin 1) (col g l)) = ix1 (col g l) by idx_ext, val_main_v118_apply,
    show idx_main_v118 (ix1 (col g l)) = ix2 g l by unfold col; idx_ext, v102_read, val_main_v99_apply,
    show idx_main_v99 (ix4 (0 : Fin 1) (0 : Fin 1) g l) = ix3 (0 : Fin 1) g l by idx_ext, val_main_v98_apply]
  refine (congrArg (· + _) (show val_main_cst_22 (F := Ideal) (Shape.Idx.first Gen.h_S_) = 0 by pointwise [val_main_cst_22])).trans ((zero_add _).trans ?_)
  symm
  refine Fin.sum_mul_add_congr (S := 16) (n := 128) (fun n t hl => ?_)
  rw [show idx_main_v98 (ix3 (0 : Fin 1) g l) ⟨n.val * 128 + t.val, hl⟩ = ix4 (0 : Fin 1) (row n t) g l by unfold row; idx_ext, val_main_v97_apply, v64_read, dvg_read]
  exact mul_comm _ _

/-- The gradient of the normalised second half. -/
theorem y_read : val_main_v101 (F := Ideal) x0 x1 x2 x3 (ix4 (0 : Fin 1) (row n t) g l)
    = dvg (uOf (fP x0) n g) (dOf (fD x1) n g) (fW x3 g) t l * gOf (fG x2) g l := by
  rw [← dvg_read x0 x1 x3 n g t l, ← gain_read x2 g l]
  pointwise [val_main_v101, val_main_v100, val_main_v65] <;> rfl

/-- The gradient of the activated second half. -/
theorem deriv_read : val_main_v117 (F := Ideal) x0 x1 x2 x3 (ix4 (0 : Fin 1) (row n t) g l)
    = Gmlp.deriv (vOf (fP x0) n g t) (fun k => dvg (uOf (fP x0) n g) (dOf (fD x1) n g) (fW x3 g) t k * gOf (fG x2) g k) l := by
  have h : val_main_v104 (F := Ideal) x0 x1 x2 x3 (ix3 (0 : Fin 1) (row n t) g)
      = ∑ k, gel (vOf (fP x0) n g t k) * (dvg (uOf (fP x0) n g) (dOf (fD x1) n g) (fW x3 g) t k * gOf (fG x2) g k) := by
    rw [val_main_v104_apply]
    refine (congrArg (· + _) (show val_main_cst_24 (F := Ideal) (Shape.Idx.first Gen.h_S_) = 0 by pointwise [val_main_cst_24])).trans ((zero_add _).trans ?_)
    refine Finset.sum_congr rfl fun k _ => ?_
    rw [show idx_main_v104 (ix3 (0 : Fin 1) (row n t) g) k = ix4 (0 : Fin 1) (row n t) g k by idx_ext, val_main_v103_apply, v50_read, y_read]
    rfl
  have h5 : val_main_v105 (F := Ideal) x0 x1 x2 x3 (ix4 (0 : Fin 1) (row n t) g (0 : Fin 1)) = val_main_v104 (F := Ideal) x0 x1 x2 x3 (ix3 (0 : Fin 1) (row n t) g) := by
    rw [val_main_v105_apply]
    exact congrArg _ (by unfold row; idx_ext)
  have h3 : val_main_v113 (F := Ideal) x0 x1 x2 x3 (ix4 (0 : Fin 1) (row n t) g l) = val_main_v110 (F := Ideal) x0 x1 x2 x3 (ix4 (0 : Fin 1) (row n t) g (0 : Fin 1)) := by
    rw [← v111_read x0 x1 x2 x3 (row n t) g]
    pointwise [val_main_v113, val_main_v112] <;> rfl
  have h0 : val_main_v110 (F := Ideal) x0 x1 x2 x3 (ix4 (0 : Fin 1) (row n t) g (0 : Fin 1))
      = Ideal.div (val_main_v105 (F := Ideal) x0 x1 x2 x3 (ix4 (0 : Fin 1) (row n t) g (0 : Fin 1)) * val_main_v62 (F := Ideal) x0 (ix4 (0 : Fin 1) (row n t) g (0 : Fin 1))) w128 := by
    pointwise [val_main_v110, val_main_v109, val_main_cst_25, val_main_v108] <;> rfl
  unfold Gmlp.deriv
  rw [← h, ← h5, ← v62_read, ← h0, ← h3, ← v59_read x0 n g t, ← v50_read x0 n g t l]
  beta_reduce
  rw [← y_read x0 x1 x2 x3 n g t l]
  pointwise [val_main_v117, val_main_v116, val_main_v115, val_main_v114, val_main_v107, val_main_v106] <;> rfl

/-- The derivative of the activation, of the second half. -/
theorem dgv (R : Fin 2048) (C : Fin 1024) : val_main_v133 (F := Ideal) x0 x1 x2 x3 (ix3 (0 : Fin 1) R C)
    = dgelR (val_main_v3 (F := Ideal) x0 (ix3 (0 : Fin 1) R C)) (val_main_v119 (F := Ideal) x0 x1 x2 x3 (ix3 (0 : Fin 1) R C)) := by
  unfold dgelR
  rw [← thv x0 R C]
  pointwise [val_main_v133, val_main_v132, val_main_v131, val_main_v130, val_main_cst_30, val_main_v129, val_main_v128, val_main_cst_29, val_main_v127, val_main_v126,
    val_main_v125, val_main_cst_28, val_main_v124, val_main_v123, val_main_v122, val_main_cst_27, val_main_v121, val_main_v120, val_main_v48, val_main_v47, val_main_cst_14,
    val_main_v46, val_main_v45, val_main_cst_13, val_main_v44, val_main_v43, val_main_v42, val_main_cst_12, val_main_v41, val_main_v40, val_main_cst_11, val_main_v31,
    val_main_v30, val_main_cst_7, val_main_v29] <;> rfl

/-- The derivative of the activation, of the first half. -/
theorem dgu (R : Fin 2048) (C : Fin 1024) : val_main_v147 (F := Ideal) x0 x1 x2 x3 x4 (ix3 (0 : Fin 1) R C)
    = dgelR (val_main_v1 (F := Ideal) x0 (ix3 (0 : Fin 1) R C)) (val_main_v85 (F := Ideal) x0 x1 x2 x3 x4 (ix3 (0 : Fin 1) R C)) := by
  unfold dgelR
  rw [← thu x0 R C]
  pointwise [val_main_v147, val_main_v146, val_main_v145, val_main_v144, val_main_cst_34, val_main_v143, val_main_v142, val_main_cst_33, val_main_v141, val_main_v140,
    val_main_v139, val_main_cst_32, val_main_v138, val_main_v137, val_main_v136, val_main_cst_31, val_main_v135, val_main_v134, val_main_v25, val_main_v24, val_main_cst_6,
    val_main_v23, val_main_v22, val_main_cst_5, val_main_v21, val_main_v20, val_main_v19, val_main_cst_4, val_main_v18, val_main_v17, val_main_cst_3, val_main_v8,
    val_main_v7, val_main_cst, val_main_v6] <;> rfl

/-- The first half's gradient. -/
theorem du_read : val_main_v149 (F := Ideal) x0 x1 x2 x3 x4 (ix2 (row n t) (col g l))
    = dgelR (uOf (fP x0) n g t l) (dOf (fD x1) n g t l * mix (vOf (fP x0) n g) (gOf (fG x2) g) (fW x3 g) (fB x4 g) t l) := by
  have h : val_main_v149 (F := Ideal) x0 x1 x2 x3 x4 (ix2 (row n t) (col g l)) = val_main_v148 (F := Ideal) x0 x1 x2 x3 x4 (ix2 (row n t) (col g l)) := rfl
  rw [h, val_main_v148_apply, show idx_main_v148 (ix2 (row n t) (col g l)) = ix3 (0 : Fin 1) (row n t) (col g l) by unfold row col; idx_ext, dgu, u_read, val_main_v85_apply,
    d_read, mix_read]
  rfl

/-- The second half's gradient. -/
theorem dv_read : val_main_v151 (F := Ideal) x0 x1 x2 x3 (ix2 (row n t) (col g l))
    = dgelR (vOf (fP x0) n g t l) (Gmlp.deriv (vOf (fP x0) n g t) (fun k => dvg (uOf (fP x0) n g) (dOf (fD x1) n g) (fW x3 g) t k * gOf (fG x2) g k) l) := by
  have h : val_main_v151 (F := Ideal) x0 x1 x2 x3 (ix2 (row n t) (col g l)) = val_main_v150 (F := Ideal) x0 x1 x2 x3 (ix2 (row n t) (col g l)) := rfl
  rw [h, val_main_v150_apply, show idx_main_v150 (ix2 (row n t) (col g l)) = ix3 (0 : Fin 1) (row n t) (col g l) by unfold row col; idx_ext, dgv, v_read, val_main_v119_apply,
    show idx_main_v119 (ix3 (0 : Fin 1) (row n t) (col g l)) = ix4 (0 : Fin 1) (row n t) g l by unfold row col; idx_ext, deriv_read]

end Cert.ReferenceIdeal.Val
end
-- ==== Proof.GmlpVal.lean ====
/-
  The gradient of the gating unit and its reference: the results' arrays after the region, and the claims.
-/
module

public import proofs.«01_k».proof.Defs
public import proofs.«01_k».proof.Proof.GmlpAcc
public import proofs.«01_k».proof.Proof.GmlpRef
public import proofs.«01_k».proof.Proof.Finite
public import proofs.«01_k».proof.Proof.Gen.KernelIdeal.Value
public import Idealize.ShloMosaic.Lib.Pipeline.ValueKit.Acc
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

open Cert.Gmlp

variable (m : (ℓ : Loc nD τ sig) → Buf (Elt Ideal) ℓ)

/-- The arguments are reals. -/
def Reals (c : Dev nD) : Prop :=
  (∀ i : S2048x6144.Idx, ∃ a : ℝ, m ((c : Thread nD τ).loc main_arg0) i = (a : EReal))
    ∧ (∀ i : S2048x2048.Idx, ∃ a : ℝ, m ((c : Thread nD τ).loc main_arg1) i = (a : EReal))
    ∧ (∀ i : S1024.Idx, ∃ a : ℝ, m ((c : Thread nD τ).loc main_arg2) i = (a : EReal))
    ∧ (∀ i : S8x128x128.Idx, ∃ a : ℝ, m ((c : Thread nD τ).loc main_arg3) i = (a : EReal))
    ∧ ∀ i : S8x128.Idx, ∃ a : ℝ, m ((c : Thread nD τ).loc main_arg4) i = (a : EReal)

/-- A column is its group's lane. -/
theorem col_grp (k : Fin 1024) : col (grp k.val k.isLt) (lan k.val) = k :=
  Fin.ext (show 128 * (k.val / 128) + k.val % 128 = k.val by omega)

/-- Where an index of window 6's block lies in its array. -/
theorem emb6 (t : Fin cfg0.N) (r : Fin 128) (k : Fin 1024) : ((cfg0.win 6).blk t).view.emb (ix2 r k) = ix2 (row (pt t) r) k := by
  refine funext fun a => Fin.ext ?_
  have h := idx6 t
  match a with
  | ⟨0, _⟩ => show win0_6.index t 0 * 128 + 1 * r.val = t.val * 128 + r.val; rw [h.1] <;> omega
  | ⟨1, _⟩ => show win0_6.index t 1 * 1024 + 1 * k.val = k.val; rw [h.2] <;> omega

/-- The reference's result of window 6. -/
abbrev goal6 (c : Dev nD) : Buf (Elt Ideal) ((c : Thread nD τ).loc main_v2_0) :=
  Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Where an index of window 7's block lies in its array. -/
theorem emb7 (t : Fin cfg0.N) (r : Fin 128) (k : Fin 1024) : ((cfg0.win 7).blk t).view.emb (ix2 r k) = ix2 (row (pt t) r) k := by
  refine funext fun a => Fin.ext ?_
  have h := idx7 t
  match a with
  | ⟨0, _⟩ => show win0_7.index t 0 * 128 + 1 * r.val = t.val * 128 + r.val; rw [h.1] <;> omega
  | ⟨1, _⟩ => show win0_7.index t 1 * 1024 + 1 * k.val = k.val; rw [h.2] <;> omega

/-- The reference's result of window 7. -/
abbrev goal7 (c : Dev nD) : Buf (Elt Ideal) ((c : Thread nD τ).loc main_v2_1) :=
  Cert.ReferenceIdeal.Read.val_main_v151 (F := Ideal) (m ((c : Thread nD τ).loc main_arg0)) (m ((c : Thread nD τ).loc main_arg1)) (m ((c : Thread nD τ).loc main_arg2)) (m ((c : Thread nD τ).loc main_arg3))

/-- Where an index of window 8's block lies in its array. -/
theorem emb8 (t : Fin cfg0.N) (g : Fin 8) (r : Fin 128) (s : Fin 128) : ((cfg0.win 8).blk t).view.emb (ix3 g r s) = ix3 g r s := by
  refine funext fun a => Fin.ext ?_
  have h := idx8 t
  match a with
  | ⟨0, _⟩ => show win0_8.index t 0 * 8 + 1 * g.val = g.val; rw [h.1] <;> omega
  | ⟨1, _⟩ => show win0_8.index t 1 * 128 + 1 * r.val = r.val; rw [h.2.1] <;> omega
  | ⟨2, _⟩ => show win0_8.index t 2 * 128 + 1 * s.val = s.val; rw [h.2.2] <;> omega

/-- The reference's result of window 8. -/
abbrev goal8 (c : Dev nD) : Buf (Elt Ideal) ((c : Thread nD τ).loc main_v2_2) :=
  Cert.ReferenceIdeal.Read.val_main_v95 (F := Ideal) (m ((c : Thread nD τ).loc main_arg0)) (m ((c : Thread nD τ).loc main_arg1)) (m ((c : Thread nD τ).loc main_arg2))

/-- Where an index of window 9's block lies in its array. -/
theorem emb9 (t : Fin cfg0.N) (r : Fin 128) (k : Fin 8) : ((cfg0.win 9).blk t).view.emb (ix2 r k) = ix2 r k := by
  refine funext fun a => Fin.ext ?_
  have h := idx9 t
  match a with
  | ⟨0, _⟩ => show win0_9.index t 0 * 128 + 1 * r.val = r.val; rw [h.1] <;> omega
  | ⟨1, _⟩ => show win0_9.index t 1 * 8 + 1 * k.val = k.val; rw [h.2] <;> omega

/-- The reference's result of window 9. -/
abbrev goal9 (c : Dev nD) : Buf (Elt Ideal) ((c : Thread nD τ).loc main_v2_3) :=
  Cert.ReferenceIdeal.Read.val_main_v152 (F := Ideal) (m ((c : Thread nD τ).loc main_arg0)) (m ((c : Thread nD τ).loc main_arg1))

/-- Where an index of window 10's block lies in its array. -/
theorem emb10 (t : Fin cfg0.N) (r : Fin 1) (k : Fin 1024) : ((cfg0.win 10).blk t).view.emb (ix2 r k) = ix2 r k := by
  refine funext fun a => Fin.ext ?_
  have h := idx10 t
  match a with
  | ⟨0, _⟩ => show win0_10.index t 0 * 1 + 1 * r.val = r.val; rw [h.1] <;> omega
  | ⟨1, _⟩ => show win0_10.index t 1 * 1024 + 1 * k.val = k.val; rw [h.2] <;> omega

/-- The reference's result of window 10. -/
abbrev goal10 (c : Dev nD) : Buf (Elt Ideal) ((c : Thread nD τ).loc main_v2_4) :=
  Cert.ReferenceIdeal.Read.val_main_v153 (F := Ideal) (m ((c : Thread nD τ).loc main_arg0)) (m ((c : Thread nD τ).loc main_arg1)) (m ((c : Thread nD τ).loc main_arg3))

/-- The first half's gradient is the reference's. -/
theorem eq6 (c : Dev nD) (hre : Reals m c) (t : Fin cfg0.N) (r : Fin 128) (k : Fin 1024) : k6 m c t (ix2 r k) = goal6 m c (ix2 (row (pt t) r) k) := by
  obtain ⟨hP, hD, hG, hW, hB⟩ := hre
  have h := Cert.ReferenceIdeal.Val.du_read (m ((c : Thread nD τ).loc main_arg0)) (m ((c : Thread nD τ).loc main_arg1)) (m ((c : Thread nD τ).loc main_arg2)) (m ((c : Thread nD τ).loc main_arg3)) (m ((c : Thread nD τ).loc main_arg4)) (pt t) (grp k.val k.isLt) r (lan k.val)
  rw [col_grp] at h
  refine Eq.trans ?_ h.symm
  refine Eq.trans ?_ (dgelR_eq _ _ (hP _) (mul_real _ _ (hD _) (add_real _ _ (sum_real _ _ fun s => msk_real _ _ _ (mul_real _ _ (hW _)
    (mul_real _ _ (nrm_real _ _ fun q => hP _) (hG _)))) (hB _)))).symm
  rfl

/-- The second half's gradient is the reference's. -/
theorem eq7 (c : Dev nD) (hre : Reals m c) (t : Fin cfg0.N) (r : Fin 128) (k : Fin 1024) : k7 m c t (ix2 r k) = goal7 m c (ix2 (row (pt t) r) k) := by
  obtain ⟨hP, hD, hG, hW, hB⟩ := hre
  have h := Cert.ReferenceIdeal.Val.dv_read (m ((c : Thread nD τ).loc main_arg0)) (m ((c : Thread nD τ).loc main_arg1)) (m ((c : Thread nD τ).loc main_arg2)) (m ((c : Thread nD τ).loc main_arg3)) (pt t) (grp k.val k.isLt) r (lan k.val)
  rw [col_grp] at h
  refine Eq.trans ?_ h.symm
  have hy : ∀ q, ∃ a : ℝ, dvg (uOf (aP m c) (pt t) (grp k.val k.isLt)) (dOf (aD m c) (pt t) (grp k.val k.isLt)) (aW m c (grp k.val k.isLt)) r q
      * gOf (aG m c) (grp k.val k.isLt) q = (a : EReal) := fun q =>
    mul_real _ _ (sum_real _ _ fun s => msk_real _ _ _ (mul_real _ _ (hW _) (mul_real _ _ (hD _) (by
      obtain ⟨a, ha⟩ := hP (ix2 (row (pt t) s) ⟨128 * (grp k.val k.isLt).val + q.val, by omega⟩)
      obtain ⟨b, hb⟩ := gel_real a
      exact ⟨b, (congrArg gel ha).trans hb⟩)))) (hG _)
  have hk := kern_deriv (vOf (aP m c) (pt t) (grp k.val k.isLt) r) _ (lan k.val) (fun q => hP _) hy
  have hkr := kern_real (vOf (aP m c) (pt t) (grp k.val k.isLt) r) _ (lan k.val) (fun q => hP _) hy
  refine Eq.trans ?_ (dgelR_eq _ _ (hP _) (hk ▸ hkr)).symm
  exact congrArg (· * _) hk.symm

/-- What a grid point writes back of window 6 is its block of the reference's result. -/
theorem flushed_eq6 (c : Dev nD) (hre : Reals m c) (t : Fin cfg0.N) :
    (dats m 0 c).flushed 6 t = ((cfg0.win 6).blk t).view.read (Elt Ideal) (goal6 m c) := by
  rw [Value.flushed6, left6]
  funext j
  obtain ⟨r, k, rfl⟩ : ∃ (r : Fin 128) (k : Fin 1024), j = ix2 r k := ⟨j 0, j 1, by idx_ext⟩
  rw [View.read_apply, emb6]
  exact eq6 m c hre t r k

/-- What a grid point writes back of window 7 is its block of the reference's result. -/
theorem flushed_eq7 (c : Dev nD) (hre : Reals m c) (t : Fin cfg0.N) :
    (dats m 0 c).flushed 7 t = ((cfg0.win 7).blk t).view.read (Elt Ideal) (goal7 m c) := by
  rw [Value.flushed7, left7]
  funext j
  obtain ⟨r, k, rfl⟩ : ∃ (r : Fin 128) (k : Fin 1024), j = ix2 r k := ⟨j 0, j 1, by idx_ext⟩
  rw [View.read_apply, emb7]
  exact eq7 m c hre t r k

/-- What the last grid point writes back of window 8 is the reference's result. -/
theorem flushed_eq8 (c : Dev nD) (t : Fin cfg0.N) (hf : (cfg0.win 8).flush t = true) :
    (dats m 0 c).flushed 8 t = ((cfg0.win 8).blk t).view.read (Elt Ideal) (goal8 m c) := by
  have hm : t.val % 16 = 15 := (flush0_8 t).mp hf
  rw [Value.flushed8]
  funext j
  obtain ⟨g, r, s, rfl⟩ : ∃ (g : Fin 8) (r : Fin 128) (s : Fin 128), j = ix3 g r s := ⟨j 0, j 1, j 2, by idx_ext⟩
  rw [View.read_apply, emb8]
  show (outsAt0 m c t.val t.isLt).2.2.1 (ix3 g r s) = _
  rw [acc8 m c t hm]
  exact (Cert.ReferenceIdeal.Val.mat_read (m ((c : Thread nD τ).loc main_arg0)) (m ((c : Thread nD τ).loc main_arg1)) (m ((c : Thread nD τ).loc main_arg2)) g r s).symm

/-- What the last grid point writes back of window 9 is the reference's result. -/
theorem flushed_eq9 (c : Dev nD) (t : Fin cfg0.N) (hf : (cfg0.win 9).flush t = true) :
    (dats m 0 c).flushed 9 t = ((cfg0.win 9).blk t).view.read (Elt Ideal) (goal9 m c) := by
  have hm : t.val % 16 = 15 := (flush0_9 t).mp hf
  rw [Value.flushed9]
  funext j
  obtain ⟨r, k, rfl⟩ : ∃ (r : Fin 128) (k : Fin 8), j = ix2 r k := ⟨j 0, j 1, by idx_ext⟩
  rw [View.read_apply, emb9]
  show (outsAt0 m c t.val t.isLt).2.2.2.1 (ix2 r k) = _
  rw [acc9 m c t hm]
  exact (Cert.ReferenceIdeal.Val.bias_read (m ((c : Thread nD τ).loc main_arg0)) (m ((c : Thread nD τ).loc main_arg1)) k r).symm

/-- What the last grid point writes back of window 10 is the reference's result. -/
theorem flushed_eq10 (c : Dev nD) (t : Fin cfg0.N) (hf : (cfg0.win 10).flush t = true) :
    (dats m 0 c).flushed 10 t = ((cfg0.win 10).blk t).view.read (Elt Ideal) (goal10 m c) := by
  have hm : t.val % 16 = 15 := (flush0_10 t).mp hf
  rw [Value.flushed10]
  funext j
  obtain ⟨z, k, rfl⟩ : ∃ (z : Fin 1) (k : Fin 1024), j = ix2 z k := ⟨j 0, j 1, by idx_ext⟩
  rw [View.read_apply, emb10]
  show (outsAt0 m c t.val t.isLt).2.2.2.2 (ix2 z k) = _
  rw [acc10 m c t hm]
  obtain rfl : z = 0 := Subsingleton.elim _ _
  have h := Cert.ReferenceIdeal.Val.dgain_read (m ((c : Thread nD τ).loc main_arg0)) (m ((c : Thread nD τ).loc main_arg1)) (m ((c : Thread nD τ).loc main_arg3)) (grp k.val k.isLt) (lan k.val)
  rw [col_grp] at h
  exact h.symm

/-- The blocks written back tile window 6's array. -/
theorem cover6 (i : S2048x1024.Idx) :
    ∃ t : Fin cfg0.N, (cfg0.win 6).flush t = true ∧ i ∈ ((cfg0.win 6).blk t).view.set := by
  have h0 : (i 0 : Nat) < 2048 := (i 0).isLt
  have h1 : (i 1 : Nat) < 1024 := (i 1).isLt
  have hN : cfg0.N = 16 := N_0
  obtain ⟨t, ht⟩ : ∃ t : Fin cfg0.N, t.val = (i 0 : Nat) / 128 := ⟨⟨_, by omega⟩, rfl⟩
  refine ⟨t, flush0_6 _, ?_⟩
  show i ∈ ((View.whole main_v2_0).slice (win0_6.rect t)).set
  rw [View.set_slice_whole, Rect.mem_set_unit]
  have h := idx6 t
  intro a
  match a with
  | ⟨0, _⟩ =>
    show win0_6.index t 0 * 128 ≤ (i 0 : Nat) ∧ (i 0 : Nat) < win0_6.index t 0 * 128 + 128
    rw [h.1]; omega
  | ⟨1, _⟩ =>
    show win0_6.index t 1 * 1024 ≤ (i 1 : Nat) ∧ (i 1 : Nat) < win0_6.index t 1 * 1024 + 1024
    rw [h.2]; omega

/-- After the region window 6's array holds the reference's result. -/
theorem final6 (c : Dev nD) (hre : Reals m c) : (dats m 0 c).arrAt 6 cfg0.N = goal6 m c :=
  (dats m 0 c).arrAt_eq_of_cover 6 (goal6 m c) (fun t _ => flushed_eq6 m c hre t) cover6

/-- The blocks written back tile window 7's array. -/
theorem cover7 (i : S2048x1024.Idx) :
    ∃ t : Fin cfg0.N, (cfg0.win 7).flush t = true ∧ i ∈ ((cfg0.win 7).blk t).view.set := by
  have h0 : (i 0 : Nat) < 2048 := (i 0).isLt
  have h1 : (i 1 : Nat) < 1024 := (i 1).isLt
  have hN : cfg0.N = 16 := N_0
  obtain ⟨t, ht⟩ : ∃ t : Fin cfg0.N, t.val = (i 0 : Nat) / 128 := ⟨⟨_, by omega⟩, rfl⟩
  refine ⟨t, flush0_7 _, ?_⟩
  show i ∈ ((View.whole main_v2_1).slice (win0_7.rect t)).set
  rw [View.set_slice_whole, Rect.mem_set_unit]
  have h := idx7 t
  intro a
  match a with
  | ⟨0, _⟩ =>
    show win0_7.index t 0 * 128 ≤ (i 0 : Nat) ∧ (i 0 : Nat) < win0_7.index t 0 * 128 + 128
    rw [h.1]; omega
  | ⟨1, _⟩ =>
    show win0_7.index t 1 * 1024 ≤ (i 1 : Nat) ∧ (i 1 : Nat) < win0_7.index t 1 * 1024 + 1024
    rw [h.2]; omega

/-- After the region window 7's array holds the reference's result. -/
theorem final7 (c : Dev nD) (hre : Reals m c) : (dats m 0 c).arrAt 7 cfg0.N = goal7 m c :=
  (dats m 0 c).arrAt_eq_of_cover 7 (goal7 m c) (fun t _ => flushed_eq7 m c hre t) cover7

/-- The blocks written back tile window 8's array. -/
theorem cover8 (i : S8x128x128.Idx) :
    ∃ t : Fin cfg0.N, (cfg0.win 8).flush t = true ∧ i ∈ ((cfg0.win 8).blk t).view.set := by
  have h0 : (i 0 : Nat) < 8 := (i 0).isLt
  have h1 : (i 1 : Nat) < 128 := (i 1).isLt
  have h2 : (i 2 : Nat) < 128 := (i 2).isLt
  have hN : cfg0.N = 16 := N_0
  obtain ⟨t, ht⟩ : ∃ t : Fin cfg0.N, t.val = 15 := ⟨⟨_, by omega⟩, rfl⟩
  refine ⟨t, (flush0_8 _).mpr (by omega), ?_⟩
  show i ∈ ((View.whole main_v2_2).slice (win0_8.rect t)).set
  rw [View.set_slice_whole, Rect.mem_set_unit]
  have h := idx8 t
  intro a
  match a with
  | ⟨0, _⟩ =>
    show win0_8.index t 0 * 8 ≤ (i 0 : Nat) ∧ (i 0 : Nat) < win0_8.index t 0 * 8 + 8
    rw [h.1]; omega
  | ⟨1, _⟩ =>
    show win0_8.index t 1 * 128 ≤ (i 1 : Nat) ∧ (i 1 : Nat) < win0_8.index t 1 * 128 + 128
    rw [h.2.1]; omega
  | ⟨2, _⟩ =>
    show win0_8.index t 2 * 128 ≤ (i 2 : Nat) ∧ (i 2 : Nat) < win0_8.index t 2 * 128 + 128
    rw [h.2.2]; omega

/-- After the region window 8's array holds the reference's result. -/
theorem final8 (c : Dev nD) : (dats m 0 c).arrAt 8 cfg0.N = goal8 m c :=
  (dats m 0 c).arrAt_eq_of_cover 8 (goal8 m c) (fun t hf => flushed_eq8 m c t hf) cover8

/-- The blocks written back tile window 9's array. -/
theorem cover9 (i : S128x8.Idx) :
    ∃ t : Fin cfg0.N, (cfg0.win 9).flush t = true ∧ i ∈ ((cfg0.win 9).blk t).view.set := by
  have h0 : (i 0 : Nat) < 128 := (i 0).isLt
  have h1 : (i 1 : Nat) < 8 := (i 1).isLt
  have hN : cfg0.N = 16 := N_0
  obtain ⟨t, ht⟩ : ∃ t : Fin cfg0.N, t.val = 15 := ⟨⟨_, by omega⟩, rfl⟩
  refine ⟨t, (flush0_9 _).mpr (by omega), ?_⟩
  show i ∈ ((View.whole main_v2_3).slice (win0_9.rect t)).set
  rw [View.set_slice_whole, Rect.mem_set_unit]
  have h := idx9 t
  intro a
  match a with
  | ⟨0, _⟩ =>
    show win0_9.index t 0 * 128 ≤ (i 0 : Nat) ∧ (i 0 : Nat) < win0_9.index t 0 * 128 + 128
    rw [h.1]; omega
  | ⟨1, _⟩ =>
    show win0_9.index t 1 * 8 ≤ (i 1 : Nat) ∧ (i 1 : Nat) < win0_9.index t 1 * 8 + 8
    rw [h.2]; omega

/-- After the region window 9's array holds the reference's result. -/
theorem final9 (c : Dev nD) : (dats m 0 c).arrAt 9 cfg0.N = goal9 m c :=
  (dats m 0 c).arrAt_eq_of_cover 9 (goal9 m c) (fun t hf => flushed_eq9 m c t hf) cover9

/-- The blocks written back tile window 10's array. -/
theorem cover10 (i : S1x1024.Idx) :
    ∃ t : Fin cfg0.N, (cfg0.win 10).flush t = true ∧ i ∈ ((cfg0.win 10).blk t).view.set := by
  have h0 : (i 0 : Nat) < 1 := (i 0).isLt
  have h1 : (i 1 : Nat) < 1024 := (i 1).isLt
  have hN : cfg0.N = 16 := N_0
  obtain ⟨t, ht⟩ : ∃ t : Fin cfg0.N, t.val = 15 := ⟨⟨_, by omega⟩, rfl⟩
  refine ⟨t, (flush0_10 _).mpr (by omega), ?_⟩
  show i ∈ ((View.whole main_v2_4).slice (win0_10.rect t)).set
  rw [View.set_slice_whole, Rect.mem_set_unit]
  have h := idx10 t
  intro a
  match a with
  | ⟨0, _⟩ =>
    show win0_10.index t 0 * 1 ≤ (i 0 : Nat) ∧ (i 0 : Nat) < win0_10.index t 0 * 1 + 1
    rw [h.1]; omega
  | ⟨1, _⟩ =>
    show win0_10.index t 1 * 1024 ≤ (i 1 : Nat) ∧ (i 1 : Nat) < win0_10.index t 1 * 1024 + 1024
    rw [h.2]; omega

/-- After the region window 10's array holds the reference's result. -/
theorem final10 (c : Dev nD) : (dats m 0 c).arrAt 10 cfg0.N = goal10 m c :=
  (dats m 0 c).arrAt_eq_of_cover 10 (goal10 m c) (fun t hf => flushed_eq10 m c t hf) cover10

/-- Arrays that pass the precondition's test hold reals. -/
theorem pre_real [hp : Cert.Pre_finite.Facts] (c : Dev nD) (j : Cert.Pre_finite.S_.Idx)
    (h : Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) j = 1#1) :
    Reals m c := by
  unfold Cert.Pre_finite.fn Cert.Pre_finite.fn_part1 at h
  dsimp only at h
  obtain ⟨h0123, h4⟩ := Cert.Facts.andi_one _ _ _ h
  obtain ⟨h012, h3⟩ := Cert.Facts.andi_one _ _ _ h0123
  obtain ⟨h01, h2⟩ := Cert.Facts.andi_one _ _ _ h012
  obtain ⟨h0, h1⟩ := Cert.Facts.andi_one _ _ _ h01
  haveI : Subsingleton Cert.Pre_finite.S_.Idx := ⟨fun a b => funext fun q => q.elim0⟩
  exact ⟨fun i => Cert.Facts.real_of_lt _ (Host.reduce_andi_all _ _ _ _ _ h0 i), fun i => Cert.Facts.real_of_lt _ (Host.reduce_andi_all _ _ _ _ _ h1 i), fun i => Cert.Facts.real_of_lt _ (Host.reduce_andi_all _ _ _ _ _ h2 i), fun i => Cert.Facts.real_of_lt _ (Host.reduce_andi_all _ _ _ _ _ h3 i), fun i => Cert.Facts.real_of_lt _ (Host.reduce_andi_all _ _ _ _ _ h4 i)⟩

end Cert.KernelIdeal.Val

namespace Cert.Claims

/-- The two folded constants of the kernel are the named rationals. -/
theorem gmlp_preserves : IdealRules.named_const.Statement Cert.KernelIdeal.κ "cube" .f32 0x3D372713#32 ((8943/200000:ℝ):EReal)
    ∧ IdealRules.named_const.Statement Cert.KernelIdeal.κ "cube3" .f32 0x3E095D4F#32 ((26829/200000:ℝ):EReal) :=
  ⟨IdealRules.named_const.statement Cert.KernelIdeal.κ "cube" .f32 0x3D372713#32 _ rfl,
    IdealRules.named_const.statement Cert.KernelIdeal.κ "cube3" .f32 0x3E095D4F#32 _ rfl⟩

/-- The gradient of the gating unit and its reference end with equal results on finite arguments. -/
theorem gmlp [hp : Cert.Pre_finite.Facts] :
    Cert.algebraic_KernelIdeal_ReferenceIdeal_pre_finite (hKernelIdeal := Cert.KernelIdeal.Gen.facts)
      (hReferenceIdeal := Cert.ReferenceIdeal.Gen.facts) (hPre_finite := hp) := by
  intro m g m' g' hpre hargs
  have hre : ∀ c, Cert.KernelIdeal.Val.Reals m c := fun c => Cert.KernelIdeal.Val.pre_real m c (fun a => a.elim0) (congrFun (hpre c) _)
  refine ⟨fun c => Cert.KernelIdeal.Val.goal6 m c, fun c => Cert.KernelIdeal.Val.goal7 m c, fun c => Cert.KernelIdeal.Val.goal8 m c, fun c => Cert.KernelIdeal.Val.goal9 m c, fun c => Cert.KernelIdeal.Val.goal10 m c,
    (θ_run _ _ _).mono (fun r h c => ⟨(h c).1.trans (Cert.KernelIdeal.Val.final6 m c (hre c)), (h c).2.1.trans (Cert.KernelIdeal.Val.final7 m c (hre c)),
      (h c).2.2.1.trans (Cert.KernelIdeal.Val.final8 m c), (h c).2.2.2.1.trans (Cert.KernelIdeal.Val.final9 m c), (h c).2.2.2.2.1.trans (Cert.KernelIdeal.Val.final10 m c),
      (h c).2.2.2.2.2⟩) (Cert.KernelIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.ReferenceIdeal.Value.run m' g')⟩
  · refine (Cert.ReferenceIdeal.Read.val_main_v149_eq _).trans ?_
    show Cert.ReferenceIdeal.Read.val_main_v149 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [(hargs c).1, (hargs c).2.1, (hargs c).2.2.1, (hargs c).2.2.2.1, (hargs c).2.2.2.2]
  · refine (Cert.ReferenceIdeal.Read.val_main_v151_eq _).trans ?_
    show Cert.ReferenceIdeal.Read.val_main_v151 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [(hargs c).1, (hargs c).2.1, (hargs c).2.2.1, (hargs c).2.2.2.1]
  · refine (Cert.ReferenceIdeal.Read.val_main_v95_eq _).trans ?_
    show Cert.ReferenceIdeal.Read.val_main_v95 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [(hargs c).1, (hargs c).2.1, (hargs c).2.2.1]
  · refine (Cert.ReferenceIdeal.Read.val_main_v152_eq _).trans ?_
    show Cert.ReferenceIdeal.Read.val_main_v152 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) = _
    rw [(hargs c).1, (hargs c).2.1]
  · refine (Cert.ReferenceIdeal.Read.val_main_v153_eq _).trans ?_
    show Cert.ReferenceIdeal.Read.val_main_v153 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
    rw [(hargs c).1, (hargs c).2.1, (hargs c).2.2.2.1]

end Cert.Claims
end
-- ==== Proof.Tile.lean ====
/-
  Blocks of consecutive rows cover a matrix.
-/
module

public import Idealize.ShloMosaic.Lib.Pointwise

@[expose] public section

open Idealize.ShloMosaic Idealize.ShloMosaic.TcCoe

namespace Cert.Tile

/-- Every place of a matrix of `N` blocks of `T` rows lies in one of the blocks. -/
theorem rows {N R : Nat} (T C : Nat) (f : Fin N → Fin 2 → Nat) (hf : ∀ t, f t 0 = t.val ∧ f t 1 = 0) (hR : N * T = R)
    (i : (⟨2, ![R, C]⟩ : Shape).Idx) :
    ∃ t, (f t 0 * T ≤ (i 0 : Nat) ∧ (i 0 : Nat) < f t 0 * T + T) ∧ (f t 1 * C ≤ (i 1 : Nat) ∧ (i 1 : Nat) < f t 1 * C + C) := by
  have h0 : (i 0 : Nat) < R := (i 0).isLt
  have h1 : (i 1 : Nat) < C := (i 1).isLt
  have hT : 0 < T := Nat.pos_of_ne_zero fun h => by subst h; omega
  refine ⟨⟨(i 0 : Nat) / T, (Nat.div_lt_iff_lt_mul hT).2 (hR ▸ h0)⟩, ?_⟩
  rw [(hf _).1, (hf _).2]
  refine ⟨⟨Nat.div_mul_le_self _ _, ?_⟩, by omega, by omega⟩
  have := Nat.div_add_mod (i 0 : Nat) T
  have := Nat.mod_lt (i 0 : Nat) hT
  show (i 0 : Nat) < (i 0 : Nat) / T * T + T
  rw [Nat.mul_comm]; omega

/-- The corner of a matrix. -/
theorem hz2 : (![0, 0] : Fin 2 → Nat) = fun _ => 0 := funext fun a => by fin_cases a <;> rfl

end Cert.Tile
-- ==== Proof.AdamStep.lean ====
/-
  One step of the optimiser at one entry: the new first and second moments and the change of the weight, over the extended reals.
-/
module

public import proofs.«01_k».proof.Defs

@[expose] public section

noncomputable section

open Idealize.ShloMosaic Idealize.ShloMosaic.TcCoe

namespace Cert.Adam

/-- The new first moment of an entry: nine tenths of the old one and a tenth of the gradient. -/
def moment (g m : Ideal .f32) : Ideal .f32 :=
  Ideal.ofBits FTy.f32 0x3F666666#32 * m + Ideal.ofBits FTy.f32 0x3DCCCCCD#32 * g

/-- The new second moment of an entry, from the gradient's square. -/
def square (g v : Ideal .f32) : Ideal .f32 :=
  Ideal.ofBits FTy.f32 0x3F7FBE77#32 * v + Ideal.ofBits FTy.f32 0x3A83126F#32 * (g * g)

/-- The change of a weight's entry: the corrected first moment over the root of the corrected second one, with the decay. -/
def delta (w g m v : Ideal .f32) : Ideal .f32 :=
  Ideal.ofBits FTy.f32 0xBA83126F#32
    * (Ideal.div (Ideal.div (moment g m) (Ideal.ofBits FTy.f32 0x3F26BD02#32))
        (Ideal.sqrt (Ideal.div (square g v) (Ideal.ofBits FTy.f32 0x3C231ACC#32)) + Ideal.ofBits FTy.f32 0x322BCC77#32)
      + Ideal.ofBits FTy.f32 0x3C23D70A#32 * w)

end Cert.Adam
-- ==== Proof.AdamUpVal.lean ====
/-
  The optimiser's step on an up-projection of the feed-forward block: every entry takes the step of the reference.
-/
module

public import proofs.«01_k».proof.Proof.Tile
public import proofs.«01_k».proof.Proof.AdamStep
public import proofs.«01_k».proof.Proof.Gen.AdamUpIdeal.Value
public import proofs.«01_k».proof.Proof.Gen.AdamUpRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamUpIdeal.Val

open Cert.AdamUpIdeal Cert.AdamUpIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S4x2x2048x1408 .f32) : Vec Ideal S16384x1408 .f32 := shapeCast S16384x1408 x shapeCasts_S4x2x2048x1408_S16384x1408

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S256x1408 .f32) (j : S256x1408.Idx) :
    k0_pay2 x0 x2 j = Cert.Adam.moment (x0 j) (x2 j) := by
  pointwise [k0_pay2, k0_pay1] <;> rfl
/-- The block's new second moment at an index. -/
theorem pay3 (x0 x3 : Vec Ideal S256x1408 .f32) (j : S256x1408.Idx) :
    k0_pay3 x0 x3 j = Cert.Adam.square (x0 j) (x3 j) := by
  pointwise [k0_pay3, k0_pay1] <;> rfl
/-- The block's change of the weight at an index. -/
theorem pay4 (x0 x1 x2 x3 : Vec Ideal S256x1408 .f32) (j : S256x1408.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S16384x1408.Idx) : ∃ t : Fin cfg0.N, i ∈ ((cfg0.win 4).blk t).view.set := by
  obtain ⟨t, h⟩ := Cert.Tile.rows 256 1408 win0_4.index idxs (congrArg (· * 256) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamUpIdeal.Val

namespace Cert.Claims

open Cert.AdamUpIdeal.Gen Cert.AdamUpIdeal.Val Cert.AdamUpRefIdeal.Read in
/-- The optimiser's step on an up-projection of the feed-forward block and its reference end with equal results. -/
theorem adam_up : Cert.algebraic_AdamUpIdeal_AdamUpRefIdeal (hAdamUpIdeal := Cert.AdamUpIdeal.Gen.facts)
    (hAdamUpRefIdeal := Cert.AdamUpRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamUpIdeal.Value.run_blocks m g),
    (θ_run _ _ _).mono (fun r h c => ⟨(h c).1.trans ?_, (h c).2.1.trans ?_, (h c).2.2.1.trans ?_, (h c).2.2.2⟩)
      (Cert.AdamUpRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamDownVal.lean ====
/-
  The optimiser's step on the down-projection of the feed-forward block: every entry takes the step of the reference.
-/
module

public import proofs.«01_k».proof.Proof.Tile
public import proofs.«01_k».proof.Proof.AdamStep
public import proofs.«01_k».proof.Proof.Gen.AdamDownIdeal.Value
public import proofs.«01_k».proof.Proof.Gen.AdamDownRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamDownIdeal.Val

open Cert.AdamDownIdeal Cert.AdamDownIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S4x2x1408x2048 .f32) : Vec Ideal S11264x2048 .f32 := shapeCast S11264x2048 x shapeCasts_S4x2x1408x2048_S11264x2048

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S128x2048 .f32) (j : S128x2048.Idx) :
    k0_pay2 x0 x2 j = Cert.Adam.moment (x0 j) (x2 j) := by
  pointwise [k0_pay2, k0_pay1] <;> rfl
/-- The block's new second moment at an index. -/
theorem pay3 (x0 x3 : Vec Ideal S128x2048 .f32) (j : S128x2048.Idx) :
    k0_pay3 x0 x3 j = Cert.Adam.square (x0 j) (x3 j) := by
  pointwise [k0_pay3, k0_pay1] <;> rfl
/-- The block's change of the weight at an index. -/
theorem pay4 (x0 x1 x2 x3 : Vec Ideal S128x2048 .f32) (j : S128x2048.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S11264x2048.Idx) : ∃ t : Fin cfg0.N, i ∈ ((cfg0.win 4).blk t).view.set := by
  obtain ⟨t, h⟩ := Cert.Tile.rows 128 2048 win0_4.index idxs (congrArg (· * 128) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamDownIdeal.Val

namespace Cert.Claims

open Cert.AdamDownIdeal.Gen Cert.AdamDownIdeal.Val Cert.AdamDownRefIdeal.Read in
/-- The optimiser's step on the down-projection of the feed-forward block and its reference end with equal results. -/
theorem adam_down : Cert.algebraic_AdamDownIdeal_AdamDownRefIdeal (hAdamDownIdeal := Cert.AdamDownIdeal.Gen.facts)
    (hAdamDownRefIdeal := Cert.AdamDownRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamDownIdeal.Value.run_blocks m g),
    (θ_run _ _ _).mono (fun r h c => ⟨(h c).1.trans ?_, (h c).2.1.trans ?_, (h c).2.2.1.trans ?_, (h c).2.2.2⟩)
      (Cert.AdamDownRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamPleGateVal.lean ====
/-
  The optimiser's step on the gate of the per-layer embedding: every entry takes the step of the reference.
-/
module

public import proofs.«01_k».proof.Proof.Tile
public import proofs.«01_k».proof.Proof.AdamStep
public import proofs.«01_k».proof.Proof.Gen.AdamPleGateIdeal.Value
public import proofs.«01_k».proof.Proof.Gen.AdamPleGateRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamPleGateIdeal.Val

open Cert.AdamPleGateIdeal Cert.AdamPleGateIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S4x512x2048 .f32) : Vec Ideal S2048x2048 .f32 := shapeCast S2048x2048 x shapeCasts_S4x512x2048_S2048x2048

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S128x2048 .f32) (j : S128x2048.Idx) :
    k0_pay2 x0 x2 j = Cert.Adam.moment (x0 j) (x2 j) := by
  pointwise [k0_pay2, k0_pay1] <;> rfl
/-- The block's new second moment at an index. -/
theorem pay3 (x0 x3 : Vec Ideal S128x2048 .f32) (j : S128x2048.Idx) :
    k0_pay3 x0 x3 j = Cert.Adam.square (x0 j) (x3 j) := by
  pointwise [k0_pay3, k0_pay1] <;> rfl
/-- The block's change of the weight at an index. -/
theorem pay4 (x0 x1 x2 x3 : Vec Ideal S128x2048 .f32) (j : S128x2048.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S2048x2048.Idx) : ∃ t : Fin cfg0.N, i ∈ ((cfg0.win 4).blk t).view.set := by
  obtain ⟨t, h⟩ := Cert.Tile.rows 128 2048 win0_4.index idxs (congrArg (· * 128) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamPleGateIdeal.Val

namespace Cert.Claims

open Cert.AdamPleGateIdeal.Gen Cert.AdamPleGateIdeal.Val Cert.AdamPleGateRefIdeal.Read in
/-- The optimiser's step on the gate of the per-layer embedding and its reference end with equal results. -/
theorem adam_ple_gate : Cert.algebraic_AdamPleGateIdeal_AdamPleGateRefIdeal (hAdamPleGateIdeal := Cert.AdamPleGateIdeal.Gen.facts)
    (hAdamPleGateRefIdeal := Cert.AdamPleGateRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamPleGateIdeal.Value.run_blocks m g),
    (θ_run _ _ _).mono (fun r h c => ⟨(h c).1.trans ?_, (h c).2.1.trans ?_, (h c).2.2.1.trans ?_, (h c).2.2.2⟩)
      (Cert.AdamPleGateRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamEvenInVal.lean ====
/-
  The optimiser's step on the input projection of the even layers: every entry takes the step of the reference.
-/
module

public import proofs.«01_k».proof.Proof.Tile
public import proofs.«01_k».proof.Proof.AdamStep
public import proofs.«01_k».proof.Proof.Gen.AdamEvenInIdeal.Value
public import proofs.«01_k».proof.Proof.Gen.AdamEvenInRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamEvenInIdeal.Val

open Cert.AdamEvenInIdeal Cert.AdamEvenInIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S2x2048x1536 .f32) : Vec Ideal S4096x1536 .f32 := shapeCast S4096x1536 x shapeCasts_S2x2048x1536_S4096x1536

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S256x1536 .f32) (j : S256x1536.Idx) :
    k0_pay2 x0 x2 j = Cert.Adam.moment (x0 j) (x2 j) := by
  pointwise [k0_pay2, k0_pay1] <;> rfl
/-- The block's new second moment at an index. -/
theorem pay3 (x0 x3 : Vec Ideal S256x1536 .f32) (j : S256x1536.Idx) :
    k0_pay3 x0 x3 j = Cert.Adam.square (x0 j) (x3 j) := by
  pointwise [k0_pay3, k0_pay1] <;> rfl
/-- The block's change of the weight at an index. -/
theorem pay4 (x0 x1 x2 x3 : Vec Ideal S256x1536 .f32) (j : S256x1536.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S4096x1536.Idx) : ∃ t : Fin cfg0.N, i ∈ ((cfg0.win 4).blk t).view.set := by
  obtain ⟨t, h⟩ := Cert.Tile.rows 256 1536 win0_4.index idxs (congrArg (· * 256) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamEvenInIdeal.Val

namespace Cert.Claims

open Cert.AdamEvenInIdeal.Gen Cert.AdamEvenInIdeal.Val Cert.AdamEvenInRefIdeal.Read in
/-- The optimiser's step on the input projection of the even layers and its reference end with equal results. -/
theorem adam_even_in : Cert.algebraic_AdamEvenInIdeal_AdamEvenInRefIdeal (hAdamEvenInIdeal := Cert.AdamEvenInIdeal.Gen.facts)
    (hAdamEvenInRefIdeal := Cert.AdamEvenInRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamEvenInIdeal.Value.run_blocks m g),
    (θ_run _ _ _).mono (fun r h c => ⟨(h c).1.trans ?_, (h c).2.1.trans ?_, (h c).2.2.1.trans ?_, (h c).2.2.2⟩)
      (Cert.AdamEvenInRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamMixVal.lean ====
/-
  The optimiser's step on a square projection of the mixers: every entry takes the step of the reference.
-/
module

public import proofs.«01_k».proof.Proof.Tile
public import proofs.«01_k».proof.Proof.AdamStep
public import proofs.«01_k».proof.Proof.Gen.AdamMixIdeal.Value
public import proofs.«01_k».proof.Proof.Gen.AdamMixRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamMixIdeal.Val

open Cert.AdamMixIdeal Cert.AdamMixIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S2x512x2048 .f32) : Vec Ideal S1024x2048 .f32 := shapeCast S1024x2048 x shapeCasts_S2x512x2048_S1024x2048

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S128x2048 .f32) (j : S128x2048.Idx) :
    k0_pay2 x0 x2 j = Cert.Adam.moment (x0 j) (x2 j) := by
  pointwise [k0_pay2, k0_pay1] <;> rfl
/-- The block's new second moment at an index. -/
theorem pay3 (x0 x3 : Vec Ideal S128x2048 .f32) (j : S128x2048.Idx) :
    k0_pay3 x0 x3 j = Cert.Adam.square (x0 j) (x3 j) := by
  pointwise [k0_pay3, k0_pay1] <;> rfl
/-- The block's change of the weight at an index. -/
theorem pay4 (x0 x1 x2 x3 : Vec Ideal S128x2048 .f32) (j : S128x2048.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S1024x2048.Idx) : ∃ t : Fin cfg0.N, i ∈ ((cfg0.win 4).blk t).view.set := by
  obtain ⟨t, h⟩ := Cert.Tile.rows 128 2048 win0_4.index idxs (congrArg (· * 128) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamMixIdeal.Val

namespace Cert.Claims

open Cert.AdamMixIdeal.Gen Cert.AdamMixIdeal.Val Cert.AdamMixRefIdeal.Read in
/-- The optimiser's step on a square projection of the mixers and its reference end with equal results. -/
theorem adam_mix : Cert.algebraic_AdamMixIdeal_AdamMixRefIdeal (hAdamMixIdeal := Cert.AdamMixIdeal.Gen.facts)
    (hAdamMixRefIdeal := Cert.AdamMixRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamMixIdeal.Value.run_blocks m g),
    (θ_run _ _ _).mono (fun r h c => ⟨(h c).1.trans ?_, (h c).2.1.trans ?_, (h c).2.2.1.trans ?_, (h c).2.2.2⟩)
      (Cert.AdamMixRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamPleProjVal.lean ====
/-
  The optimiser's step on the projection of the per-layer embedding: every entry takes the step of the reference.
-/
module

public import proofs.«01_k».proof.Proof.Tile
public import proofs.«01_k».proof.Proof.AdamStep
public import proofs.«01_k».proof.Proof.Gen.AdamPleProjIdeal.Value
public import proofs.«01_k».proof.Proof.Gen.AdamPleProjRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamPleProjIdeal.Val

open Cert.AdamPleProjIdeal Cert.AdamPleProjIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S4x256x512 .f32) : Vec Ideal S1024x512 .f32 := shapeCast S1024x512 x shapeCasts_S4x256x512_S1024x512

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S512x512 .f32) (j : S512x512.Idx) :
    k0_pay2 x0 x2 j = Cert.Adam.moment (x0 j) (x2 j) := by
  pointwise [k0_pay2, k0_pay1] <;> rfl
/-- The block's new second moment at an index. -/
theorem pay3 (x0 x3 : Vec Ideal S512x512 .f32) (j : S512x512.Idx) :
    k0_pay3 x0 x3 j = Cert.Adam.square (x0 j) (x3 j) := by
  pointwise [k0_pay3, k0_pay1] <;> rfl
/-- The block's change of the weight at an index. -/
theorem pay4 (x0 x1 x2 x3 : Vec Ideal S512x512 .f32) (j : S512x512.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S1024x512.Idx) : ∃ t : Fin cfg0.N, i ∈ ((cfg0.win 4).blk t).view.set := by
  obtain ⟨t, h⟩ := Cert.Tile.rows 512 512 win0_4.index idxs (congrArg (· * 512) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamPleProjIdeal.Val

namespace Cert.Claims

open Cert.AdamPleProjIdeal.Gen Cert.AdamPleProjIdeal.Val Cert.AdamPleProjRefIdeal.Read in
/-- The optimiser's step on the projection of the per-layer embedding and its reference end with equal results. -/
theorem adam_ple_proj : Cert.algebraic_AdamPleProjIdeal_AdamPleProjRefIdeal (hAdamPleProjIdeal := Cert.AdamPleProjIdeal.Gen.facts)
    (hAdamPleProjRefIdeal := Cert.AdamPleProjRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamPleProjIdeal.Value.run_blocks m g),
    (θ_run _ _ _).mono (fun r h c => ⟨(h c).1.trans ?_, (h c).2.1.trans ?_, (h c).2.2.1.trans ?_, (h c).2.2.2⟩)
      (Cert.AdamPleProjRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamLoraInVal.lean ====
/-
  The optimiser's step on the first factor of the decay's or the rate's low-rank map: every entry takes the step of the reference.
-/
module

public import proofs.«01_k».proof.Proof.Tile
public import proofs.«01_k».proof.Proof.AdamStep
public import proofs.«01_k».proof.Proof.Gen.AdamLoraInIdeal.Value
public import proofs.«01_k».proof.Proof.Gen.AdamLoraInRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamLoraInIdeal.Val

open Cert.AdamLoraInIdeal Cert.AdamLoraInIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S2x512x96 .f32) : Vec Ideal S1024x96 .f32 := shapeCast S1024x96 x shapeCasts_S2x512x96_S1024x96

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S1024x96 .f32) (j : S1024x96.Idx) :
    k0_pay2 x0 x2 j = Cert.Adam.moment (x0 j) (x2 j) := by
  pointwise [k0_pay2, k0_pay1] <;> rfl
/-- The block's new second moment at an index. -/
theorem pay3 (x0 x3 : Vec Ideal S1024x96 .f32) (j : S1024x96.Idx) :
    k0_pay3 x0 x3 j = Cert.Adam.square (x0 j) (x3 j) := by
  pointwise [k0_pay3, k0_pay1] <;> rfl
/-- The block's change of the weight at an index. -/
theorem pay4 (x0 x1 x2 x3 : Vec Ideal S1024x96 .f32) (j : S1024x96.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S1024x96.Idx) : ∃ t : Fin cfg0.N, i ∈ ((cfg0.win 4).blk t).view.set := by
  obtain ⟨t, h⟩ := Cert.Tile.rows 1024 96 win0_4.index idxs (congrArg (· * 1024) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamLoraInIdeal.Val

namespace Cert.Claims

open Cert.AdamLoraInIdeal.Gen Cert.AdamLoraInIdeal.Val Cert.AdamLoraInRefIdeal.Read in
/-- The optimiser's step on the first factor of the decay's or the rate's low-rank map and its reference end with equal results. -/
theorem adam_lora_in : Cert.algebraic_AdamLoraInIdeal_AdamLoraInRefIdeal (hAdamLoraInIdeal := Cert.AdamLoraInIdeal.Gen.facts)
    (hAdamLoraInRefIdeal := Cert.AdamLoraInRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamLoraInIdeal.Value.run_blocks m g),
    (θ_run _ _ _).mono (fun r h c => ⟨(h c).1.trans ?_, (h c).2.1.trans ?_, (h c).2.2.1.trans ?_, (h c).2.2.2⟩)
      (Cert.AdamLoraInRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamLoraOutVal.lean ====
/-
  The optimiser's step on the second factor of the decay's or the rate's low-rank map: every entry takes the step of the reference.
-/
module

public import proofs.«01_k».proof.Proof.Tile
public import proofs.«01_k».proof.Proof.AdamStep
public import proofs.«01_k».proof.Proof.Gen.AdamLoraOutIdeal.Value
public import proofs.«01_k».proof.Proof.Gen.AdamLoraOutRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamLoraOutIdeal.Val

open Cert.AdamLoraOutIdeal Cert.AdamLoraOutIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S2x96x512 .f32) : Vec Ideal S192x512 .f32 := shapeCast S192x512 x shapeCasts_S2x96x512_S192x512

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S64x512 .f32) (j : S64x512.Idx) :
    k0_pay2 x0 x2 j = Cert.Adam.moment (x0 j) (x2 j) := by
  pointwise [k0_pay2, k0_pay1] <;> rfl
/-- The block's new second moment at an index. -/
theorem pay3 (x0 x3 : Vec Ideal S64x512 .f32) (j : S64x512.Idx) :
    k0_pay3 x0 x3 j = Cert.Adam.square (x0 j) (x3 j) := by
  pointwise [k0_pay3, k0_pay1] <;> rfl
/-- The block's change of the weight at an index. -/
theorem pay4 (x0 x1 x2 x3 : Vec Ideal S64x512 .f32) (j : S64x512.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S192x512.Idx) : ∃ t : Fin cfg0.N, i ∈ ((cfg0.win 4).blk t).view.set := by
  obtain ⟨t, h⟩ := Cert.Tile.rows 64 512 win0_4.index idxs (congrArg (· * 64) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamLoraOutIdeal.Val

namespace Cert.Claims

open Cert.AdamLoraOutIdeal.Gen Cert.AdamLoraOutIdeal.Val Cert.AdamLoraOutRefIdeal.Read in
/-- The optimiser's step on the second factor of the decay's or the rate's low-rank map and its reference end with equal results. -/
theorem adam_lora_out : Cert.algebraic_AdamLoraOutIdeal_AdamLoraOutRefIdeal (hAdamLoraOutIdeal := Cert.AdamLoraOutIdeal.Gen.facts)
    (hAdamLoraOutRefIdeal := Cert.AdamLoraOutRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamLoraOutIdeal.Value.run_blocks m g),
    (θ_run _ _ _).mono (fun r h c => ⟨(h c).1.trans ?_, (h c).2.1.trans ?_, (h c).2.2.1.trans ?_, (h c).2.2.2⟩)
      (Cert.AdamLoraOutRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamGateInVal.lean ====
/-
  The optimiser's step on the first factor of the gate's low-rank map: every entry takes the step of the reference.
-/
module

public import proofs.«01_k».proof.Proof.Tile
public import proofs.«01_k».proof.Proof.AdamStep
public import proofs.«01_k».proof.Proof.Gen.AdamGateInIdeal.Value
public import proofs.«01_k».proof.Proof.Gen.AdamGateInRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamGateInIdeal.Val

open Cert.AdamGateInIdeal Cert.AdamGateInIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S2x512x256 .f32) : Vec Ideal S1024x256 .f32 := shapeCast S1024x256 x shapeCasts_S2x512x256_S1024x256

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S1024x256 .f32) (j : S1024x256.Idx) :
    k0_pay2 x0 x2 j = Cert.Adam.moment (x0 j) (x2 j) := by
  pointwise [k0_pay2, k0_pay1] <;> rfl
/-- The block's new second moment at an index. -/
theorem pay3 (x0 x3 : Vec Ideal S1024x256 .f32) (j : S1024x256.Idx) :
    k0_pay3 x0 x3 j = Cert.Adam.square (x0 j) (x3 j) := by
  pointwise [k0_pay3, k0_pay1] <;> rfl
/-- The block's change of the weight at an index. -/
theorem pay4 (x0 x1 x2 x3 : Vec Ideal S1024x256 .f32) (j : S1024x256.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S1024x256.Idx) : ∃ t : Fin cfg0.N, i ∈ ((cfg0.win 4).blk t).view.set := by
  obtain ⟨t, h⟩ := Cert.Tile.rows 1024 256 win0_4.index idxs (congrArg (· * 1024) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamGateInIdeal.Val

namespace Cert.Claims

open Cert.AdamGateInIdeal.Gen Cert.AdamGateInIdeal.Val Cert.AdamGateInRefIdeal.Read in
/-- The optimiser's step on the first factor of the gate's low-rank map and its reference end with equal results. -/
theorem adam_gate_in : Cert.algebraic_AdamGateInIdeal_AdamGateInRefIdeal (hAdamGateInIdeal := Cert.AdamGateInIdeal.Gen.facts)
    (hAdamGateInRefIdeal := Cert.AdamGateInRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamGateInIdeal.Value.run_blocks m g),
    (θ_run _ _ _).mono (fun r h c => ⟨(h c).1.trans ?_, (h c).2.1.trans ?_, (h c).2.2.1.trans ?_, (h c).2.2.2⟩)
      (Cert.AdamGateInRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamGateOutVal.lean ====
/-
  The optimiser's step on the second factor of the gate's low-rank map: every entry takes the step of the reference.
-/
module

public import proofs.«01_k».proof.Proof.Tile
public import proofs.«01_k».proof.Proof.AdamStep
public import proofs.«01_k».proof.Proof.Gen.AdamGateOutIdeal.Value
public import proofs.«01_k».proof.Proof.Gen.AdamGateOutRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamGateOutIdeal.Val

open Cert.AdamGateOutIdeal Cert.AdamGateOutIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S2x256x512 .f32) : Vec Ideal S512x512 .f32 := shapeCast S512x512 x shapeCasts_S2x256x512_S512x512

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S512x512 .f32) (j : S512x512.Idx) :
    k0_pay2 x0 x2 j = Cert.Adam.moment (x0 j) (x2 j) := by
  pointwise [k0_pay2, k0_pay1] <;> rfl
/-- The block's new second moment at an index. -/
theorem pay3 (x0 x3 : Vec Ideal S512x512 .f32) (j : S512x512.Idx) :
    k0_pay3 x0 x3 j = Cert.Adam.square (x0 j) (x3 j) := by
  pointwise [k0_pay3, k0_pay1] <;> rfl
/-- The block's change of the weight at an index. -/
theorem pay4 (x0 x1 x2 x3 : Vec Ideal S512x512 .f32) (j : S512x512.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S512x512.Idx) : ∃ t : Fin cfg0.N, i ∈ ((cfg0.win 4).blk t).view.set := by
  obtain ⟨t, h⟩ := Cert.Tile.rows 512 512 win0_4.index idxs (congrArg (· * 512) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamGateOutIdeal.Val

namespace Cert.Claims

open Cert.AdamGateOutIdeal.Gen Cert.AdamGateOutIdeal.Val Cert.AdamGateOutRefIdeal.Read in
/-- The optimiser's step on the second factor of the gate's low-rank map and its reference end with equal results. -/
theorem adam_gate_out : Cert.algebraic_AdamGateOutIdeal_AdamGateOutRefIdeal (hAdamGateOutIdeal := Cert.AdamGateOutIdeal.Gen.facts)
    (hAdamGateOutRefIdeal := Cert.AdamGateOutRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamGateOutIdeal.Value.run_blocks m g),
    (θ_run _ _ _).mono (fun r h c => ⟨(h c).1.trans ?_, (h c).2.1.trans ?_, (h c).2.2.1.trans ?_, (h c).2.2.2⟩)
      (Cert.AdamGateOutRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamValInVal.lean ====
/-
  The optimiser's step on the first factor of the value residual's low-rank map: every entry takes the step of the reference.
-/
module

public import proofs.«01_k».proof.Proof.Tile
public import proofs.«01_k».proof.Proof.AdamStep
public import proofs.«01_k».proof.Proof.Gen.AdamValInIdeal.Value
public import proofs.«01_k».proof.Proof.Gen.AdamValInRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamValInIdeal.Val

open Cert.AdamValInIdeal Cert.AdamValInIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S1x512x64 .f32) : Vec Ideal S512x64 .f32 := shapeCast S512x64 x shapeCasts_S1x512x64_S512x64

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S512x64 .f32) (j : S512x64.Idx) :
    k0_pay2 x0 x2 j = Cert.Adam.moment (x0 j) (x2 j) := by
  pointwise [k0_pay2, k0_pay1] <;> rfl
/-- The block's new second moment at an index. -/
theorem pay3 (x0 x3 : Vec Ideal S512x64 .f32) (j : S512x64.Idx) :
    k0_pay3 x0 x3 j = Cert.Adam.square (x0 j) (x3 j) := by
  pointwise [k0_pay3, k0_pay1] <;> rfl
/-- The block's change of the weight at an index. -/
theorem pay4 (x0 x1 x2 x3 : Vec Ideal S512x64 .f32) (j : S512x64.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S512x64.Idx) : ∃ t : Fin cfg0.N, i ∈ ((cfg0.win 4).blk t).view.set := by
  obtain ⟨t, h⟩ := Cert.Tile.rows 512 64 win0_4.index idxs (congrArg (· * 512) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamValInIdeal.Val

namespace Cert.Claims

open Cert.AdamValInIdeal.Gen Cert.AdamValInIdeal.Val Cert.AdamValInRefIdeal.Read in
/-- The optimiser's step on the first factor of the value residual's low-rank map and its reference end with equal results. -/
theorem adam_val_in : Cert.algebraic_AdamValInIdeal_AdamValInRefIdeal (hAdamValInIdeal := Cert.AdamValInIdeal.Gen.facts)
    (hAdamValInRefIdeal := Cert.AdamValInRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamValInIdeal.Value.run_blocks m g),
    (θ_run _ _ _).mono (fun r h c => ⟨(h c).1.trans ?_, (h c).2.1.trans ?_, (h c).2.2.1.trans ?_, (h c).2.2.2⟩)
      (Cert.AdamValInRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamValOutVal.lean ====
/-
  The optimiser's step on the second factor of the value residual's low-rank map: every entry takes the step of the reference.
-/
module

public import proofs.«01_k».proof.Proof.Tile
public import proofs.«01_k».proof.Proof.AdamStep
public import proofs.«01_k».proof.Proof.Gen.AdamValOutIdeal.Value
public import proofs.«01_k».proof.Proof.Gen.AdamValOutRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamValOutIdeal.Val

open Cert.AdamValOutIdeal Cert.AdamValOutIdeal.Gen Cert.Tile

variable (m : (ℓ : Loc nD τ sig) → Buf (Elt Ideal) ℓ)

theorem idxs : ∀ t : Fin cfg0.N, win0_4.index t 0 = t.val ∧ win0_4.index t 1 = 0 :=
  (by decide +kernel : ∀ t : Fin grid0.N, win0_4.index t 0 = t.val ∧ win0_4.index t 1 = 0)

/-- An argument of the step with its leading axes joined. -/
abbrev rows (x : Vec Ideal S1x64x512 .f32) : Vec Ideal S64x512 .f32 := shapeCast S64x512 x shapeCasts_S1x64x512_S64x512

theorem V_v (c : Dev nD) : V m c main_v0 = rows (m ((c : Thread nD τ).loc main_arg1))
    ∧ V m c main_v1 = rows (m ((c : Thread nD τ).loc main_arg0))
    ∧ V m c main_v2 = rows (m ((c : Thread nD τ).loc main_arg2))
    ∧ V m c main_v3 = rows (m ((c : Thread nD τ).loc main_arg3)) := by
  refine ⟨?_, ?_, ?_, ?_⟩ <;> (unfold V; after_reads_simp; rfl)

/-- The block's new first moment at an index. -/
theorem pay2 (x0 x2 : Vec Ideal S64x512 .f32) (j : S64x512.Idx) :
    k0_pay2 x0 x2 j = Cert.Adam.moment (x0 j) (x2 j) := by
  pointwise [k0_pay2, k0_pay1] <;> rfl
/-- The block's new second moment at an index. -/
theorem pay3 (x0 x3 : Vec Ideal S64x512 .f32) (j : S64x512.Idx) :
    k0_pay3 x0 x3 j = Cert.Adam.square (x0 j) (x3 j) := by
  pointwise [k0_pay3, k0_pay1] <;> rfl
/-- The block's change of the weight at an index. -/
theorem pay4 (x0 x1 x2 x3 : Vec Ideal S64x512 .f32) (j : S64x512.Idx) :
    k0_pay4 x0 x1 x2 x3 j = Cert.Adam.delta (x1 j) (x0 j) (x2 j) (x3 j) := by
  pointwise [k0_pay4, k0_pay3, k0_pay2, k0_pay1] <;> rfl

/-- The three arrays that the step leaves. -/
abbrev goal4 (c : Dev nD) : Buf (Elt Ideal) ((c : Thread nD τ).loc main_v4_0) :=
  fun i => Cert.Adam.delta (V m c main_v1 i) (V m c main_v0 i) (V m c main_v2 i) (V m c main_v3 i)
abbrev goal5 (c : Dev nD) : Buf (Elt Ideal) ((c : Thread nD τ).loc main_v4_1) :=
  fun i => Cert.Adam.moment (V m c main_v0 i) (V m c main_v2 i)
abbrev goal6 (c : Dev nD) : Buf (Elt Ideal) ((c : Thread nD τ).loc main_v4_2) :=
  fun i => Cert.Adam.square (V m c main_v0 i) (V m c main_v3 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  exact pay4 _ _ _ _ j
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  exact pay2 _ _ j
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay3 _ _ j

/-- The blocks of a result tile its array. -/
theorem cover4 (i : S64x512.Idx) : ∃ t : Fin cfg0.N, i ∈ ((cfg0.win 4).blk t).view.set := by
  obtain ⟨t, h⟩ := Cert.Tile.rows 64 512 win0_4.index idxs (congrArg (· * 64) N_0) i
  refine ⟨t, ?_⟩
  show i ∈ ((View.whole main_v4_0).slice (win0_4.rect t)).set
  rw [View.set_slice_whole, Rect.mem_set_unit]
  exact fun | ⟨0, _⟩ => h.1 | ⟨1, _⟩ => h.2

end Cert.AdamValOutIdeal.Val

namespace Cert.Claims

open Cert.AdamValOutIdeal.Gen Cert.AdamValOutIdeal.Val Cert.AdamValOutRefIdeal.Read in
/-- The optimiser's step on the second factor of the value residual's low-rank map and its reference end with equal results. -/
theorem adam_val_out : Cert.algebraic_AdamValOutIdeal_AdamValOutRefIdeal (hAdamValOutIdeal := Cert.AdamValOutIdeal.Gen.facts)
    (hAdamValOutRefIdeal := Cert.AdamValOutRefIdeal.Gen.facts) := by
  intro m g m' g' _ hargs
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamValOutIdeal.Value.run_blocks m g),
    (θ_run _ _ _).mono (fun r h c => ⟨(h c).1.trans ?_, (h c).2.1.trans ?_, (h c).2.2.1.trans ?_, (h c).2.2.2⟩)
      (Cert.AdamValOutRefIdeal.Value.run m' g')⟩
  · exact (dats m 0 c).arrAt_eq_of_cover 4 (goal4 m c) (fun t _ => flushed_eq4 m c t) fun i => (cover4 i).imp fun t h => ⟨flush0_4 t, h⟩
  · exact (dats m 0 c).arrAt_eq_of_cover 5 (goal5 m c) (fun t _ => flushed_eq5 m c t) fun i => (cover4 i).imp fun t h => ⟨flush0_5 t, h⟩
  · exact (dats m 0 c).arrAt_eq_of_cover 6 (goal6 m c) (fun t _ => flushed_eq6 m c t) fun i => (cover4 i).imp fun t h => ⟨flush0_6 t, h⟩
  · rw [(hargs c).1, (hargs c).2.1, (hargs c).2.2.1, (hargs c).2.2.2]
    refine (val_main_v24_eq _ _ _ _).trans ?_
    unfold goal4; beta_reduce; rw [(V_v m c).1, (V_v m c).2.1, (V_v m c).2.2.1, (V_v m c).2.2.2]; rfl
  · rw [(hargs c).2.1, (hargs c).2.2.1]
    refine (val_main_v25_eq _ _).trans ?_
    unfold goal5; beta_reduce; rw [(V_v m c).1, (V_v m c).2.2.1]; rfl
  · rw [(hargs c).2.1, (hargs c).2.2.2]
    refine (val_main_v26_eq _ _).trans ?_
    unfold goal6; beta_reduce; rw [(V_v m c).1, (V_v m c).2.2.2]; rfl

end Cert.Claims
-- ==== Proof.AdamPack.lean ====
/-
  The optimiser's step on several weights packed into one array: the step of the packed arrays is the packed steps.
-/
module

public import proofs.«01_k».proof.Proof.AdamStep
public import Idealize.ShloMosaic.Lib.Pointwise

@[expose] public section

noncomputable section

open Idealize.ShloMosaic Idealize.ShloMosaic.TcCoe

namespace Cert.Adam

/-- One weight with its gradient and its two moments. -/
structure Piece where
  s : Shape
  w : s.Idx → EReal
  g : s.Idx → EReal
  m : s.Idx → EReal
  v : s.Idx → EReal

/-- The four arrays of a piece with their shape. -/
abbrev Piece.pw (p : Piece) : (s : Shape) × (s.Idx → EReal) := ⟨p.s, p.w⟩
abbrev Piece.pg (p : Piece) : (s : Shape) × (s.Idx → EReal) := ⟨p.s, p.g⟩
abbrev Piece.pm (p : Piece) : (s : Shape) × (s.Idx → EReal) := ⟨p.s, p.m⟩
abbrev Piece.pv (p : Piece) : (s : Shape) × (s.Idx → EReal) := ⟨p.s, p.v⟩
/-- A piece with a function of its four arrays, entry by entry. -/
abbrev Piece.out (f : EReal → EReal → EReal → EReal → EReal) (p : Piece) : (s : Shape) × (s.Idx → EReal) :=
  ⟨p.s, fun i => f (p.w i) (p.g i) (p.m i) (p.v i)⟩

/-- A position past the first piece falls, less that piece's extent, within the others. -/
theorem rest_lt (t : Shape) (a : Fin t.rank) (p : (s : Shape) × (s.Idx → EReal)) (xs : List ((s : Shape) × (s.Idx → EReal)))
    (hp : p.1.FitsOff t a) (c : Nat) (hc : c < (axisSizes t a (p :: xs)).sum) (hn : ¬ c < p.1.size (a.cast hp.rank_eq.symm)) :
    c - p.1.size (a.cast hp.rank_eq.symm) < (axisSizes t a xs).sum := by
  rw [axisSizes_cons t a p xs hp, List.sum_cons] at hc
  omega

/-- A function of four arrays, entry by entry, read in joined pieces at a position along the axis. -/
theorem joinedAt (f : EReal → EReal → EReal → EReal → EReal) (t : Shape) (a : Fin t.rank) (j : t.Idx) :
    ∀ (L : List Piece) (c : Nat) (h hw hg hm hv) (k kw kg km kv),
      concatenateAt t a j (L.map (Piece.out f)) h c k
        = f (concatenateAt t a j (L.map Piece.pw) hw c kw) (concatenateAt t a j (L.map Piece.pg) hg c kg)
            (concatenateAt t a j (L.map Piece.pm) hm c km) (concatenateAt t a j (L.map Piece.pv) hv c kv) := by
  intro L
  induction L with
  | nil => intro c h hw hg hm hv k; exact absurd k (Nat.not_lt_zero _)
  | cons p L ih =>
    intro c h hw hg hm hv k kw kg km kv
    cases L with
    | nil => rfl
    | cons q L =>
      simp only [List.map_cons] at ih ⊢
      rw [concatenateAt, concatenateAt, concatenateAt, concatenateAt, concatenateAt]
      have hp : p.s.FitsOff t a := h p.s List.mem_cons_self
      by_cases hc : c < p.s.size (a.cast hp.rank_eq.symm)
      · rw [dif_pos hc, dif_pos hc, dif_pos hc, dif_pos hc, dif_pos hc]
      · rw [dif_neg hc, dif_neg hc, dif_neg hc, dif_neg hc, dif_neg hc]
        have tl : ∀ {l : List Shape}, (∀ s ∈ p.s :: l, s.FitsOff t a) → ∀ s ∈ l, s.FitsOff t a :=
          fun H s hs => H s (List.mem_cons_of_mem _ hs)
        exact ih _ (tl h) (tl hw) (tl hg) (tl hm) (tl hv) (rest_lt t a _ _ hp c k hc) (rest_lt t a _ _ hp c kw hc)
          (rest_lt t a _ _ hp c kg hc) (rest_lt t a _ _ hp c km hc) (rest_lt t a _ _ hp c kv hc)

/-- A function of four arrays, entry by entry, of joined pieces is the joined pieces of that function. -/
theorem joined (f : EReal → EReal → EReal → EReal → EReal) (t : Shape) (a : Fin t.rank) (L : List Piece) (h hw hg hm hv) :
    concatenate t a (L.map (Piece.out f)) h
      = fun j => f (concatenate t a (L.map Piece.pw) hw j) (concatenate t a (L.map Piece.pg) hg j)
          (concatenate t a (L.map Piece.pm) hm j) (concatenate t a (L.map Piece.pv) hv j) := by
  funext j
  simp only [concatenate_apply]
  exact joinedAt f t a j L _ _ _ _ _ _ _ _ _ _ _

theorem word_c1 : Ideal.ofBits FTy.f32 0x3F26BD02#32 ≠ 0 := by
  simp [Ideal.ofBits, Ideal.ieee, -EReal.coe_mul]
theorem word_c2 : Ideal.ofBits FTy.f32 0x3C231ACC#32 ≠ 0 := by
  simp [Ideal.ofBits, Ideal.ieee, -EReal.coe_mul]
theorem word_eps : Ideal.ofBits FTy.f32 0x322BCC77#32 ≠ 0 := by
  simp [Ideal.ofBits, Ideal.ieee, -EReal.coe_mul]

/-- Zero over anything but zero is zero. -/
theorem div_zero_left (y : EReal) (h : y ≠ 0) : Ideal.div 0 y = 0 := by
  unfold Ideal.div
  rw [if_neg h, zero_mul]

/-- The step of a padded entry, where all four arrays are zero, is zero. -/
theorem moment_zero : moment 0 0 = 0 := by
  unfold moment
  show _ * (0 : EReal) + _ * (0 : EReal) = 0
  rw [mul_zero, mul_zero, add_zero]
theorem square_zero : square 0 0 = 0 := by
  unfold square
  show _ * (0 : EReal) + _ * ((0 : EReal) * 0) = 0
  rw [mul_zero, mul_zero, mul_zero, add_zero]
theorem delta_zero : delta 0 0 0 0 = 0 := by
  have hs : Ideal.sqrt (0 : EReal) = 0 := by
    show (if (0 : ℝ) < 0 then (⊥ : EReal) else (Real.sqrt 0 : EReal)) = 0
    rw [if_neg (lt_irrefl _), Real.sqrt_zero, EReal.coe_zero]
  unfold delta
  rw [moment_zero, square_zero, div_zero_left _ word_c1, div_zero_left _ word_c2, hs]
  show _ * (Ideal.div (0 : EReal) ((0 : EReal) + _) + _ * (0 : EReal)) = 0
  rw [zero_add, div_zero_left _ word_eps, mul_zero, add_zero, mul_zero]

/-- Joined pieces followed by zeros, in rows: a function of four arrays, entry by entry, that is zero at zeros commutes with it. -/
theorem packed (f : EReal → EReal → EReal → EReal → EReal) (f0 : f 0 0 0 0 = 0) (t₁ t₂ t₃ sz : Shape) (a₁ : Fin t₁.rank) (a₂ : Fin t₂.rank)
    (L : List Piece) (z : sz.Idx → EReal) (hz : ∀ i, z i = 0) (h hw hg hm hv) (k) (h₃ : t₂.ShapeCasts t₃) :
    shapeCast t₃ (concatenate t₂ a₂ [⟨t₁, concatenate t₁ a₁ (L.map (Piece.out f)) h⟩, ⟨sz, z⟩] k) h₃
      = fun i => f (shapeCast t₃ (concatenate t₂ a₂ [⟨t₁, concatenate t₁ a₁ (L.map Piece.pw) hw⟩, ⟨sz, z⟩] k) h₃ i)
          (shapeCast t₃ (concatenate t₂ a₂ [⟨t₁, concatenate t₁ a₁ (L.map Piece.pg) hg⟩, ⟨sz, z⟩] k) h₃ i)
          (shapeCast t₃ (concatenate t₂ a₂ [⟨t₁, concatenate t₁ a₁ (L.map Piece.pm) hm⟩, ⟨sz, z⟩] k) h₃ i)
          (shapeCast t₃ (concatenate t₂ a₂ [⟨t₁, concatenate t₁ a₁ (L.map Piece.pv) hv⟩, ⟨sz, z⟩] k) h₃ i) := by
  rw [joined f t₁ a₁ L h hw hg hm hv]
  have hzf : z = fun i => f (z i) (z i) (z i) (z i) := funext fun i => by rw [hz i, f0]
  have hj := joined f t₂ a₂ [⟨t₁, concatenate t₁ a₁ (L.map Piece.pw) hw, concatenate t₁ a₁ (L.map Piece.pg) hg,
    concatenate t₁ a₁ (L.map Piece.pm) hm, concatenate t₁ a₁ (L.map Piece.pv) hv⟩, ⟨sz, z, z, z, z⟩] k k k k k
  have hl : ([⟨t₁, fun j => f (concatenate t₁ a₁ (L.map Piece.pw) hw j) (concatenate t₁ a₁ (L.map Piece.pg) hg j)
      (concatenate t₁ a₁ (L.map Piece.pm) hm j) (concatenate t₁ a₁ (L.map Piece.pv) hv j)⟩, ⟨sz, z⟩] : List ((s : Shape) × (s.Idx → EReal)))
      = [⟨t₁, fun j => f (concatenate t₁ a₁ (L.map Piece.pw) hw j) (concatenate t₁ a₁ (L.map Piece.pg) hg j)
      (concatenate t₁ a₁ (L.map Piece.pm) hm j) (concatenate t₁ a₁ (L.map Piece.pv) hv j)⟩, ⟨sz, fun i => f (z i) (z i) (z i) (z i)⟩] := by
    rw [← hzf]
  have hc : ∀ (xs ys : List ((s : Shape) × (s.Idx → EReal))) (hxy : xs = ys) (hx hy), concatenate t₂ a₂ xs hx = concatenate t₂ a₂ ys hy := by
    intro xs ys hxy hx hy
    subst hxy
    rfl
  rw [hc _ _ hl k k]
  exact congrArg (fun y => shapeCast t₃ y h₃) hj

end Cert.Adam
-- ==== Proof.AdamSmallVal.lean ====
/-
  The optimiser's step on the small sharded weights, packed into one array: every entry takes the step of the reference.
-/
module

public import proofs.«01_k».proof.Proof.AdamPack
public import proofs.«01_k».proof.Proof.Gen.AdamSmallIdeal.Value
public import proofs.«01_k».proof.Proof.Gen.AdamSmallRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamSmallIdeal.Val

open Cert.AdamSmallIdeal Cert.AdamSmallIdeal.Gen

variable (m : (ℓ : Loc nD τ sig) → Buf (Elt Ideal) ℓ)

theorem hz2 : (![0, 0] : Fin 2 → Nat) = fun _ => 0 := funext fun a => by fin_cases a <;> rfl

theorem idxs : ∀ t : Fin cfg0.N, win0_4.index t 0 = t.val ∧ win0_4.index t 1 = 0 :=
  (by decide +kernel : ∀ t : Fin grid0.N, win0_4.index t 0 = t.val ∧ win0_4.index t 1 = 0)

/-- The zeros that fill the packed array. -/
abbrev fill : Vec Ideal S110080 .f32 := broadcastInDim S110080 ![] bcast_S_S110080 (constant (F := Ideal) S_ .f32 0x00000000#32)

theorem fill_zero (i : S110080.Idx) : fill i = (0 : EReal) := by
  show Ideal.ofBits FTy.f32 0x00000000#32 = 0
  simp [Ideal.ofBits, Ideal.ieee]

/-- One array per weight, joined and filled with zeros, in rows of 128. -/
abbrev pack (x0 : Vec Ideal S4x4x512 .f32) (x1 : Vec Ideal S2x6x512 .f32) (x2 : Vec Ideal S2x512 .f32) (x3 : Vec Ideal S2x512 .f32) (x4 : Vec Ideal S2x512 .f32) (x5 : Vec Ideal S2x512 .f32) (x6 : Vec Ideal S2x512 .f32) (x7 : Vec Ideal S2x512 .f32) (x8 : Vec Ideal S1x512 .f32) : Vec Ideal S1024x128 .f32 :=
  shapeCast S1024x128 (concatenate S131072 0 [⟨S20992, concatenate S20992 0 [⟨S8192, shapeCast S8192 x0 shapeCasts_S4x4x512_S8192⟩, ⟨S6144, shapeCast S6144 x1 shapeCasts_S2x6x512_S6144⟩, ⟨S1024, shapeCast S1024 x2 shapeCasts_S2x512_S1024⟩, ⟨S1024, shapeCast S1024 x3 shapeCasts_S2x512_S1024⟩, ⟨S1024, shapeCast S1024 x4 shapeCasts_S2x512_S1024⟩, ⟨S1024, shapeCast S1024 x5 shapeCasts_S2x512_S1024⟩, ⟨S1024, shapeCast S1024 x6 shapeCasts_S2x512_S1024⟩, ⟨S1024, shapeCast S1024 x7 shapeCasts_S2x512_S1024⟩, ⟨S512, shapeCast S512 x8 shapeCasts_S1x512_S512⟩]
    concatenates_S8192_S6144_S1024_S1024_S1024_S1024_S1024_S1024_S512_S20992_d0⟩, ⟨S110080, fill⟩] concatenates_S20992_S110080_S131072_d0) shapeCasts_S131072_S1024x128

theorem V_v12 (c : Dev nD) : V m c main_v12 = pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold V
  after_reads_simp
  rfl
theorem V_v25 (c : Dev nD) : V m c main_v25 = pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold V
  after_reads_simp
  rfl
theorem V_v38 (c : Dev nD) : V m c main_v38 = pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  unfold V
  after_reads_simp
  rfl
theorem V_v51 (c : Dev nD) : V m c main_v51 = pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  unfold V
  after_reads_simp
  rfl

/-- The block's new first moment at an index. -/
theorem pay2 (x0 x2 : Vec Ideal S1024x128 .f32) (r : Fin 1024) (l : Fin 128) :
    k0_pay2 x0 x2 (ix2 r l) = Cert.Adam.moment (x0 (ix2 r l)) (x2 (ix2 r l)) := by
  pointwise [k0_pay2, k0_pay1] <;> rfl
/-- The block's new second moment at an index. -/
theorem pay3 (x0 x3 : Vec Ideal S1024x128 .f32) (r : Fin 1024) (l : Fin 128) :
    k0_pay3 x0 x3 (ix2 r l) = Cert.Adam.square (x0 (ix2 r l)) (x3 (ix2 r l)) := by
  pointwise [k0_pay3, k0_pay1] <;> rfl
/-- The block's change of the weights at an index. -/
theorem pay4 (x0 x1 x2 x3 : Vec Ideal S1024x128 .f32) (r : Fin 1024) (l : Fin 128) :
    k0_pay4 x0 x1 x2 x3 (ix2 r l) = Cert.Adam.delta (x1 (ix2 r l)) (x0 (ix2 r l)) (x2 (ix2 r l)) (x3 (ix2 r l)) := by
  pointwise [k0_pay4, k0_pay3, k0_pay2, k0_pay1] <;> rfl

/-- The weights' steps, joined and filled, are the step of the packed arrays. -/
theorem steps (w0 g0 m0 v0 : Vec Ideal S4x4x512 .f32) (w1 g1 m1 v1 : Vec Ideal S2x6x512 .f32) (w2 g2 m2 v2 : Vec Ideal S2x512 .f32) (w3 g3 m3 v3 : Vec Ideal S2x512 .f32) (w4 g4 m4 v4 : Vec Ideal S2x512 .f32) (w5 g5 m5 v5 : Vec Ideal S2x512 .f32) (w6 g6 m6 v6 : Vec Ideal S2x512 .f32) (w7 g7 m7 v7 : Vec Ideal S2x512 .f32) (w8 g8 m8 v8 : Vec Ideal S1x512 .f32) (f : EReal → EReal → EReal → EReal → EReal) (f0 : f 0 0 0 0 = 0) :
    pack (fun i => f (w0 i) (g0 i) (m0 i) (v0 i)) (fun i => f (w1 i) (g1 i) (m1 i) (v1 i)) (fun i => f (w2 i) (g2 i) (m2 i) (v2 i)) (fun i => f (w3 i) (g3 i) (m3 i) (v3 i)) (fun i => f (w4 i) (g4 i) (m4 i) (v4 i)) (fun i => f (w5 i) (g5 i) (m5 i) (v5 i)) (fun i => f (w6 i) (g6 i) (m6 i) (v6 i)) (fun i => f (w7 i) (g7 i) (m7 i) (v7 i)) (fun i => f (w8 i) (g8 i) (m8 i) (v8 i))
      = fun i => f (pack w0 w1 w2 w3 w4 w5 w6 w7 w8 i) (pack g0 g1 g2 g3 g4 g5 g6 g7 g8 i) (pack m0 m1 m2 m3 m4 m5 m6 m7 m8 i) (pack v0 v1 v2 v3 v4 v5 v6 v7 v8 i) :=
  Cert.Adam.packed f f0 S20992 S131072 S1024x128 S110080 0 0 [
    ⟨S8192, shapeCast S8192 w0 shapeCasts_S4x4x512_S8192, shapeCast S8192 g0 shapeCasts_S4x4x512_S8192, shapeCast S8192 m0 shapeCasts_S4x4x512_S8192, shapeCast S8192 v0 shapeCasts_S4x4x512_S8192⟩,
    ⟨S6144, shapeCast S6144 w1 shapeCasts_S2x6x512_S6144, shapeCast S6144 g1 shapeCasts_S2x6x512_S6144, shapeCast S6144 m1 shapeCasts_S2x6x512_S6144, shapeCast S6144 v1 shapeCasts_S2x6x512_S6144⟩,
    ⟨S1024, shapeCast S1024 w2 shapeCasts_S2x512_S1024, shapeCast S1024 g2 shapeCasts_S2x512_S1024, shapeCast S1024 m2 shapeCasts_S2x512_S1024, shapeCast S1024 v2 shapeCasts_S2x512_S1024⟩,
    ⟨S1024, shapeCast S1024 w3 shapeCasts_S2x512_S1024, shapeCast S1024 g3 shapeCasts_S2x512_S1024, shapeCast S1024 m3 shapeCasts_S2x512_S1024, shapeCast S1024 v3 shapeCasts_S2x512_S1024⟩,
    ⟨S1024, shapeCast S1024 w4 shapeCasts_S2x512_S1024, shapeCast S1024 g4 shapeCasts_S2x512_S1024, shapeCast S1024 m4 shapeCasts_S2x512_S1024, shapeCast S1024 v4 shapeCasts_S2x512_S1024⟩,
    ⟨S1024, shapeCast S1024 w5 shapeCasts_S2x512_S1024, shapeCast S1024 g5 shapeCasts_S2x512_S1024, shapeCast S1024 m5 shapeCasts_S2x512_S1024, shapeCast S1024 v5 shapeCasts_S2x512_S1024⟩,
    ⟨S1024, shapeCast S1024 w6 shapeCasts_S2x512_S1024, shapeCast S1024 g6 shapeCasts_S2x512_S1024, shapeCast S1024 m6 shapeCasts_S2x512_S1024, shapeCast S1024 v6 shapeCasts_S2x512_S1024⟩,
    ⟨S1024, shapeCast S1024 w7 shapeCasts_S2x512_S1024, shapeCast S1024 g7 shapeCasts_S2x512_S1024, shapeCast S1024 m7 shapeCasts_S2x512_S1024, shapeCast S1024 v7 shapeCasts_S2x512_S1024⟩,
    ⟨S512, shapeCast S512 w8 shapeCasts_S1x512_S512, shapeCast S512 g8 shapeCasts_S1x512_S512, shapeCast S512 m8 shapeCasts_S1x512_S512, shapeCast S512 v8 shapeCasts_S1x512_S512⟩]
    fill fill_zero concatenates_S8192_S6144_S1024_S1024_S1024_S1024_S1024_S1024_S512_S20992_d0 concatenates_S8192_S6144_S1024_S1024_S1024_S1024_S1024_S1024_S512_S20992_d0 concatenates_S8192_S6144_S1024_S1024_S1024_S1024_S1024_S1024_S512_S20992_d0
    concatenates_S8192_S6144_S1024_S1024_S1024_S1024_S1024_S1024_S512_S20992_d0 concatenates_S8192_S6144_S1024_S1024_S1024_S1024_S1024_S1024_S512_S20992_d0
    concatenates_S20992_S110080_S131072_d0 shapeCasts_S131072_S1024x128

/-- The reference's changes of the weights are the step's, of the packed arrays. -/
theorem ref248 (w0 : Vec Ideal S4x4x512 .f32) (w1 : Vec Ideal S2x6x512 .f32) (w2 : Vec Ideal S2x512 .f32) (w3 : Vec Ideal S2x512 .f32) (w4 : Vec Ideal S2x512 .f32) (w5 : Vec Ideal S2x512 .f32) (w6 : Vec Ideal S2x512 .f32) (w7 : Vec Ideal S2x512 .f32) (w8 : Vec Ideal S1x512 .f32) (g0 : Vec Ideal S4x4x512 .f32) (g1 : Vec Ideal S2x6x512 .f32) (g2 : Vec Ideal S2x512 .f32) (g3 : Vec Ideal S2x512 .f32) (g4 : Vec Ideal S2x512 .f32) (g5 : Vec Ideal S2x512 .f32) (g6 : Vec Ideal S2x512 .f32) (g7 : Vec Ideal S2x512 .f32) (g8 : Vec Ideal S1x512 .f32) (m0 : Vec Ideal S4x4x512 .f32) (m1 : Vec Ideal S2x6x512 .f32) (m2 : Vec Ideal S2x512 .f32) (m3 : Vec Ideal S2x512 .f32) (m4 : Vec Ideal S2x512 .f32) (m5 : Vec Ideal S2x512 .f32) (m6 : Vec Ideal S2x512 .f32) (m7 : Vec Ideal S2x512 .f32) (m8 : Vec Ideal S1x512 .f32) (v0 : Vec Ideal S4x4x512 .f32) (v1 : Vec Ideal S2x6x512 .f32) (v2 : Vec Ideal S2x512 .f32) (v3 : Vec Ideal S2x512 .f32) (v4 : Vec Ideal S2x512 .f32) (v5 : Vec Ideal S2x512 .f32) (v6 : Vec Ideal S2x512 .f32) (v7 : Vec Ideal S2x512 .f32) (v8 : Vec Ideal S1x512 .f32) :
    Cert.AdamSmallRefIdeal.Read.val_main_v248 (F := Ideal) w0 w1 w2 w3 w4 w5 w6 w7 w8 g0 g1 g2 g3 g4 g5 g6 g7 g8 m0 m1 m2 m3 m4 m5 m6 m7 m8 v0 v1 v2 v3 v4 v5 v6 v7 v8
      = fun i => Cert.Adam.delta (pack w0 w1 w2 w3 w4 w5 w6 w7 w8 i) (pack g0 g1 g2 g3 g4 g5 g6 g7 g8 i) (pack m0 m1 m2 m3 m4 m5 m6 m7 m8 i) (pack v0 v1 v2 v3 v4 v5 v6 v7 v8 i) :=
  Eq.trans (b := pack (fun i => Cert.Adam.delta (w0 i) (g0 i) (m0 i) (v0 i)) (fun i => Cert.Adam.delta (w1 i) (g1 i) (m1 i) (v1 i)) (fun i => Cert.Adam.delta (w2 i) (g2 i) (m2 i) (v2 i)) (fun i => Cert.Adam.delta (w3 i) (g3 i) (m3 i) (v3 i)) (fun i => Cert.Adam.delta (w4 i) (g4 i) (m4 i) (v4 i)) (fun i => Cert.Adam.delta (w5 i) (g5 i) (m5 i) (v5 i)) (fun i => Cert.Adam.delta (w6 i) (g6 i) (m6 i) (v6 i)) (fun i => Cert.Adam.delta (w7 i) (g7 i) (m7 i) (v7 i)) (fun i => Cert.Adam.delta (w8 i) (g8 i) (m8 i) (v8 i))) rfl
    (steps w0 g0 m0 v0 w1 g1 m1 v1 w2 g2 m2 v2 w3 g3 m3 v3 w4 g4 m4 v4 w5 g5 m5 v5 w6 g6 m6 v6 w7 g7 m7 v7 w8 g8 m8 v8 (fun w g m v => Cert.Adam.delta w g m v) Cert.Adam.delta_zero)

/-- The reference's first moments are the step's, of the packed arrays. -/
theorem ref250 (g0 : Vec Ideal S4x4x512 .f32) (g1 : Vec Ideal S2x6x512 .f32) (g2 : Vec Ideal S2x512 .f32) (g3 : Vec Ideal S2x512 .f32) (g4 : Vec Ideal S2x512 .f32) (g5 : Vec Ideal S2x512 .f32) (g6 : Vec Ideal S2x512 .f32) (g7 : Vec Ideal S2x512 .f32) (g8 : Vec Ideal S1x512 .f32) (m0 : Vec Ideal S4x4x512 .f32) (m1 : Vec Ideal S2x6x512 .f32) (m2 : Vec Ideal S2x512 .f32) (m3 : Vec Ideal S2x512 .f32) (m4 : Vec Ideal S2x512 .f32) (m5 : Vec Ideal S2x512 .f32) (m6 : Vec Ideal S2x512 .f32) (m7 : Vec Ideal S2x512 .f32) (m8 : Vec Ideal S1x512 .f32) :
    Cert.AdamSmallRefIdeal.Read.val_main_v250 (F := Ideal) g0 g1 g2 g3 g4 g5 g6 g7 g8 m0 m1 m2 m3 m4 m5 m6 m7 m8
      = fun i => Cert.Adam.moment (pack g0 g1 g2 g3 g4 g5 g6 g7 g8 i) (pack m0 m1 m2 m3 m4 m5 m6 m7 m8 i) :=
  Eq.trans (b := pack (fun i => Cert.Adam.moment (g0 i) (m0 i)) (fun i => Cert.Adam.moment (g1 i) (m1 i)) (fun i => Cert.Adam.moment (g2 i) (m2 i)) (fun i => Cert.Adam.moment (g3 i) (m3 i)) (fun i => Cert.Adam.moment (g4 i) (m4 i)) (fun i => Cert.Adam.moment (g5 i) (m5 i)) (fun i => Cert.Adam.moment (g6 i) (m6 i)) (fun i => Cert.Adam.moment (g7 i) (m7 i)) (fun i => Cert.Adam.moment (g8 i) (m8 i))) rfl
    (steps g0 g0 m0 g0 g1 g1 m1 g1 g2 g2 m2 g2 g3 g3 m3 g3 g4 g4 m4 g4 g5 g5 m5 g5 g6 g6 m6 g6 g7 g7 m7 g7 g8 g8 m8 g8 (fun w g m v => Cert.Adam.moment g m) Cert.Adam.moment_zero)

/-- The reference's second moments are the step's, of the packed arrays. -/
theorem ref252 (g0 : Vec Ideal S4x4x512 .f32) (g1 : Vec Ideal S2x6x512 .f32) (g2 : Vec Ideal S2x512 .f32) (g3 : Vec Ideal S2x512 .f32) (g4 : Vec Ideal S2x512 .f32) (g5 : Vec Ideal S2x512 .f32) (g6 : Vec Ideal S2x512 .f32) (g7 : Vec Ideal S2x512 .f32) (g8 : Vec Ideal S1x512 .f32) (v0 : Vec Ideal S4x4x512 .f32) (v1 : Vec Ideal S2x6x512 .f32) (v2 : Vec Ideal S2x512 .f32) (v3 : Vec Ideal S2x512 .f32) (v4 : Vec Ideal S2x512 .f32) (v5 : Vec Ideal S2x512 .f32) (v6 : Vec Ideal S2x512 .f32) (v7 : Vec Ideal S2x512 .f32) (v8 : Vec Ideal S1x512 .f32) :
    Cert.AdamSmallRefIdeal.Read.val_main_v252 (F := Ideal) g0 g1 g2 g3 g4 g5 g6 g7 g8 v0 v1 v2 v3 v4 v5 v6 v7 v8
      = fun i => Cert.Adam.square (pack g0 g1 g2 g3 g4 g5 g6 g7 g8 i) (pack v0 v1 v2 v3 v4 v5 v6 v7 v8 i) :=
  Eq.trans (b := pack (fun i => Cert.Adam.square (g0 i) (v0 i)) (fun i => Cert.Adam.square (g1 i) (v1 i)) (fun i => Cert.Adam.square (g2 i) (v2 i)) (fun i => Cert.Adam.square (g3 i) (v3 i)) (fun i => Cert.Adam.square (g4 i) (v4 i)) (fun i => Cert.Adam.square (g5 i) (v5 i)) (fun i => Cert.Adam.square (g6 i) (v6 i)) (fun i => Cert.Adam.square (g7 i) (v7 i)) (fun i => Cert.Adam.square (g8 i) (v8 i))) rfl
    (steps g0 g0 g0 v0 g1 g1 g1 v1 g2 g2 g2 v2 g3 g3 g3 v3 g4 g4 g4 v4 g5 g5 g5 v5 g6 g6 g6 v6 g7 g7 g7 v7 g8 g8 g8 v8 (fun w g m v => Cert.Adam.square g v) Cert.Adam.square_zero)

/-- The three arrays that the step leaves. -/
abbrev goal4 (c : Dev nD) : Buf (Elt Ideal) ((c : Thread nD τ).loc main_v52_0) :=
  fun i => Cert.Adam.delta (V m c main_v25 i) (V m c main_v12 i) (V m c main_v38 i) (V m c main_v51 i)
abbrev goal5 (c : Dev nD) : Buf (Elt Ideal) ((c : Thread nD τ).loc main_v52_1) :=
  fun i => Cert.Adam.moment (V m c main_v12 i) (V m c main_v38 i)
abbrev goal6 (c : Dev nD) : Buf (Elt Ideal) ((c : Thread nD τ).loc main_v52_2) :=
  fun i => Cert.Adam.square (V m c main_v12 i) (V m c main_v51 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  obtain ⟨r, l, rfl⟩ : ∃ (r : Fin 1024) (l : Fin 128), j = ix2 r l := ⟨j 0, j 1, by idx_ext⟩
  show k0_pay4 _ _ _ _ (ix2 r l) = _
  rw [pay4]
  rfl
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  obtain ⟨r, l, rfl⟩ : ∃ (r : Fin 1024) (l : Fin 128), j = ix2 r l := ⟨j 0, j 1, by idx_ext⟩
  show k0_pay2 _ _ (ix2 r l) = _
  rw [pay2]
  rfl
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  obtain ⟨r, l, rfl⟩ : ∃ (r : Fin 1024) (l : Fin 128), j = ix2 r l := ⟨j 0, j 1, by idx_ext⟩
  show k0_pay3 _ _ (ix2 r l) = _
  rw [pay3]
  rfl

/-- The blocks of a result tile its array. -/
theorem cover4 (i : S1024x128.Idx) : ∃ t : Fin cfg0.N, (cfg0.win 4).flush t = true ∧ i ∈ ((cfg0.win 4).blk t).view.set := by
  have h0 : (i 0 : Nat) < 1024 := (i 0).isLt
  have h1 : (i 1 : Nat) < 128 := (i 1).isLt
  have hN : cfg0.N = 1 := N_0
  obtain ⟨t, ht⟩ : ∃ t : Fin cfg0.N, t.val = (i 0 : Nat) / 1024 := ⟨⟨_, by omega⟩, rfl⟩
  refine ⟨t, flush0_4 _, ?_⟩
  show i ∈ ((View.whole main_v52_0).slice (win0_4.rect t)).set
  rw [View.set_slice_whole, Rect.mem_set_unit]
  have h := idxs t
  intro a
  match a with
  | ⟨0, _⟩ =>
    show win0_4.index t 0 * 1024 ≤ (i 0 : Nat) ∧ (i 0 : Nat) < win0_4.index t 0 * 1024 + 1024
    rw [h.1]; omega
  | ⟨1, _⟩ =>
    show win0_4.index t 1 * 128 ≤ (i 1 : Nat) ∧ (i 1 : Nat) < win0_4.index t 1 * 128 + 128
    rw [h.2]; omega
theorem cover5 (i : S1024x128.Idx) : ∃ t : Fin cfg0.N, (cfg0.win 5).flush t = true ∧ i ∈ ((cfg0.win 5).blk t).view.set := by
  obtain ⟨t, _, h⟩ := cover4 i
  exact ⟨t, flush0_5 _, h⟩
theorem cover6 (i : S1024x128.Idx) : ∃ t : Fin cfg0.N, (cfg0.win 6).flush t = true ∧ i ∈ ((cfg0.win 6).blk t).view.set := by
  obtain ⟨t, _, h⟩ := cover4 i
  exact ⟨t, flush0_6 _, h⟩

end Cert.AdamSmallIdeal.Val

namespace Cert.Claims

set_option maxHeartbeats 2000000 in
open Cert.AdamSmallIdeal Cert.AdamSmallIdeal.Gen Cert.AdamSmallIdeal.Val in
/-- The optimiser's step on the small sharded weights and its reference end with equal results. -/
theorem adam_small : Cert.algebraic_AdamSmallIdeal_AdamSmallRefIdeal (hAdamSmallIdeal := Cert.AdamSmallIdeal.Gen.facts)
    (hAdamSmallRefIdeal := Cert.AdamSmallRefIdeal.Gen.facts) := by
  intro m g m' g' _ hargs
  have hw (c : Dev Cert.AdamSmallIdeal.nD) : pack (m' ((c : Thread Cert.AdamSmallRefIdeal.nD Cert.AdamSmallRefIdeal.τ).loc Cert.AdamSmallRefIdeal.main_arg0)) (m' ((c : Thread Cert.AdamSmallRefIdeal.nD Cert.AdamSmallRefIdeal.τ).loc Cert.AdamSmallRefIdeal.main_arg1)) (m' ((c : Thread Cert.AdamSmallRefIdeal.nD Cert.AdamSmallRefIdeal.τ).loc Cert.AdamSmallRefIdeal.main_arg2)) (m' ((c : Thread Cert.AdamSmallRefIdeal.nD Cert.AdamSmallRefIdeal.τ).loc Cert.AdamSmallRefIdeal.main_arg3)) (m' ((c : Thread Cert.AdamSmallRefIdeal.nD Cert.AdamSmallRefIdeal.τ).loc Cert.AdamSmallRefIdeal.main_arg4)) (m' ((c : Thread Cert.AdamSmallRefIdeal.nD Cert.AdamSmallRefIdeal.τ).loc Cert.AdamSmallRefIdeal.main_arg5)) (m' ((c : Thread Cert.AdamSmallRefIdeal.nD Cert.AdamSmallRefIdeal.τ).loc Cert.AdamSmallRefIdeal.main_arg6)) (m' ((c : Thread Cert.AdamSmallRefIdeal.nD Cert.AdamSmallRefIdeal.τ).loc Cert.AdamSmallRefIdeal.main_arg7)) (m' ((c : Thread Cert.AdamSmallRefIdeal.nD Cert.AdamSmallRefIdeal.τ).loc Cert.AdamSmallRefIdeal.main_arg8)) = V m c main_v25 := by
    rw [V_v25, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1]
  have hg (c : Dev Cert.AdamSmallIdeal.nD) : pack (m' ((c : Thread Cert.AdamSmallRefIdeal.nD Cert.AdamSmallRefIdeal.τ).loc Cert.AdamSmallRefIdeal.main_arg9)) (m' ((c : Thread Cert.AdamSmallRefIdeal.nD Cert.AdamSmallRefIdeal.τ).loc Cert.AdamSmallRefIdeal.main_arg10)) (m' ((c : Thread Cert.AdamSmallRefIdeal.nD Cert.AdamSmallRefIdeal.τ).loc Cert.AdamSmallRefIdeal.main_arg11)) (m' ((c : Thread Cert.AdamSmallRefIdeal.nD Cert.AdamSmallRefIdeal.τ).loc Cert.AdamSmallRefIdeal.main_arg12)) (m' ((c : Thread Cert.AdamSmallRefIdeal.nD Cert.AdamSmallRefIdeal.τ).loc Cert.AdamSmallRefIdeal.main_arg13)) (m' ((c : Thread Cert.AdamSmallRefIdeal.nD Cert.AdamSmallRefIdeal.τ).loc Cert.AdamSmallRefIdeal.main_arg14)) (m' ((c : Thread Cert.AdamSmallRefIdeal.nD Cert.AdamSmallRefIdeal.τ).loc Cert.AdamSmallRefIdeal.main_arg15)) (m' ((c : Thread Cert.AdamSmallRefIdeal.nD Cert.AdamSmallRefIdeal.τ).loc Cert.AdamSmallRefIdeal.main_arg16)) (m' ((c : Thread Cert.AdamSmallRefIdeal.nD Cert.AdamSmallRefIdeal.τ).loc Cert.AdamSmallRefIdeal.main_arg17)) = V m c main_v12 := by
    rw [V_v12, (hargs c).2.2.2.2.2.2.2.2.2.1, (hargs c).2.2.2.2.2.2.2.2.2.2.1, (hargs c).2.2.2.2.2.2.2.2.2.2.2.1, (hargs c).2.2.2.2.2.2.2.2.2.2.2.2.1, (hargs c).2.2.2.2.2.2.2.2.2.2.2.2.2.1, (hargs c).2.2.2.2.2.2.2.2.2.2.2.2.2.2.1, (hargs c).2.2.2.2.2.2.2.2.2.2.2.2.2.2.2.1, (hargs c).2.2.2.2.2.2.2.2.2.2.2.2.2.2.2.2.1, (hargs c).2.2.2.2.2.2.2.2.2.2.2.2.2.2.2.2.2.1]
  have hm (c : Dev Cert.AdamSmallIdeal.nD) : pack (m' ((c : Thread Cert.AdamSmallRefIdeal.nD Cert.AdamSmallRefIdeal.τ).loc Cert.AdamSmallRefIdeal.main_arg18)) (m' ((c : Thread Cert.AdamSmallRefIdeal.nD Cert.AdamSmallRefIdeal.τ).loc Cert.AdamSmallRefIdeal.main_arg19)) (m' ((c : Thread Cert.AdamSmallRefIdeal.nD Cert.AdamSmallRefIdeal.τ).loc Cert.AdamSmallRefIdeal.main_arg20)) (m' ((c : Thread Cert.AdamSmallRefIdeal.nD Cert.AdamSmallRefIdeal.τ).loc Cert.AdamSmallRefIdeal.main_arg21)) (m' ((c : Thread Cert.AdamSmallRefIdeal.nD Cert.AdamSmallRefIdeal.τ).loc Cert.AdamSmallRefIdeal.main_arg22)) (m' ((c : Thread Cert.AdamSmallRefIdeal.nD Cert.AdamSmallRefIdeal.τ).loc Cert.AdamSmallRefIdeal.main_arg23)) (m' ((c : Thread Cert.AdamSmallRefIdeal.nD Cert.AdamSmallRefIdeal.τ).loc Cert.AdamSmallRefIdeal.main_arg24)) (m' ((c : Thread Cert.AdamSmallRefIdeal.nD Cert.AdamSmallRefIdeal.τ).loc Cert.AdamSmallRefIdeal.main_arg25)) (m' ((c : Thread Cert.AdamSmallRefIdeal.nD Cert.AdamSmallRefIdeal.τ).loc Cert.AdamSmallRefIdeal.main_arg26)) = V m c main_v38 := by
    rw [V_v38, (hargs c).2.2.2.2.2.2.2.2.2.2.2.2.2.2.2.2.2.2.1, (hargs c).2.2.2.2.2.2.2.2.2.2.2.2.2.2.2.2.2.2.2.1, (hargs c).2.2.2.2.2.2.2.2.2.2.2.2.2.2.2.2.2.2.2.2.1, (hargs c).2.2.2.2.2.2.2.2.2.2.2.2.2.2.2.2.2.2.2.2.2.1, (hargs c).2.2.2.2.2.2.2.2.2.2.2.2.2.2.2.2.2.2.2.2.2.2.1, (hargs c).2.2.2.2.2.2.2.2.2.2.2.2.2.2.2.2.2.2.2.2.2.2.2.1, (hargs c).2.2.2.2.2.2.2.2.2.2.2.2.2.2.2.2.2.2.2.2.2.2.2.2.1, (hargs c).2.2.2.2.2.2.2.2.2.2.2.2.2.2.2.2.2.2.2.2.2.2.2.2.2.1, (hargs c).2.2.2.2.2.2.2.2.2.2.2.2.2.2.2.2.2.2.2.2.2.2.2.2.2.2.1]
  have hv (c : Dev Cert.AdamSmallIdeal.nD) : pack (m' ((c : Thread Cert.AdamSmallRefIdeal.nD Cert.AdamSmallRefIdeal.τ).loc Cert.AdamSmallRefIdeal.main_arg27)) (m' ((c : Thread Cert.AdamSmallRefIdeal.nD Cert.AdamSmallRefIdeal.τ).loc Cert.AdamSmallRefIdeal.main_arg28)) (m' ((c : Thread Cert.AdamSmallRefIdeal.nD Cert.AdamSmallRefIdeal.τ).loc Cert.AdamSmallRefIdeal.main_arg29)) (m' ((c : Thread Cert.AdamSmallRefIdeal.nD Cert.AdamSmallRefIdeal.τ).loc Cert.AdamSmallRefIdeal.main_arg30)) (m' ((c : Thread Cert.AdamSmallRefIdeal.nD Cert.AdamSmallRefIdeal.τ).loc Cert.AdamSmallRefIdeal.main_arg31)) (m' ((c : Thread Cert.AdamSmallRefIdeal.nD Cert.AdamSmallRefIdeal.τ).loc Cert.AdamSmallRefIdeal.main_arg32)) (m' ((c : Thread Cert.AdamSmallRefIdeal.nD Cert.AdamSmallRefIdeal.τ).loc Cert.AdamSmallRefIdeal.main_arg33)) (m' ((c : Thread Cert.AdamSmallRefIdeal.nD Cert.AdamSmallRefIdeal.τ).loc Cert.AdamSmallRefIdeal.main_arg34)) (m' ((c : Thread Cert.AdamSmallRefIdeal.nD Cert.AdamSmallRefIdeal.τ).loc Cert.AdamSmallRefIdeal.main_arg35)) = V m c main_v51 := by
    rw [V_v51, (hargs c).2.2.2.2.2.2.2.2.2.2.2.2.2.2.2.2.2.2.2.2.2.2.2.2.2.2.2.1, (hargs c).2.2.2.2.2.2.2.2.2.2.2.2.2.2.2.2.2.2.2.2.2.2.2.2.2.2.2.2.1, (hargs c).2.2.2.2.2.2.2.2.2.2.2.2.2.2.2.2.2.2.2.2.2.2.2.2.2.2.2.2.2.1, (hargs c).2.2.2.2.2.2.2.2.2.2.2.2.2.2.2.2.2.2.2.2.2.2.2.2.2.2.2.2.2.2.1, (hargs c).2.2.2.2.2.2.2.2.2.2.2.2.2.2.2.2.2.2.2.2.2.2.2.2.2.2.2.2.2.2.2.1, (hargs c).2.2.2.2.2.2.2.2.2.2.2.2.2.2.2.2.2.2.2.2.2.2.2.2.2.2.2.2.2.2.2.2.1, (hargs c).2.2.2.2.2.2.2.2.2.2.2.2.2.2.2.2.2.2.2.2.2.2.2.2.2.2.2.2.2.2.2.2.2.1, (hargs c).2.2.2.2.2.2.2.2.2.2.2.2.2.2.2.2.2.2.2.2.2.2.2.2.2.2.2.2.2.2.2.2.2.2.1, (hargs c).2.2.2.2.2.2.2.2.2.2.2.2.2.2.2.2.2.2.2.2.2.2.2.2.2.2.2.2.2.2.2.2.2.2.2]
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamSmallIdeal.Value.run_blocks m g),
    (θ_run _ _ _).mono (fun r h c => ⟨(h c).1.trans ?_, (h c).2.1.trans ?_, (h c).2.2.1.trans ?_, (h c).2.2.2⟩)
      (Cert.AdamSmallRefIdeal.Value.run m' g')⟩
  · exact (Cert.AdamSmallIdeal.Gen.dats m 0 c).arrAt_eq_of_cover 4 (goal4 m c) (fun t _ => flushed_eq4 m c t) cover4
  · exact (Cert.AdamSmallIdeal.Gen.dats m 0 c).arrAt_eq_of_cover 5 (goal5 m c) (fun t _ => flushed_eq5 m c t) cover5
  · exact (Cert.AdamSmallIdeal.Gen.dats m 0 c).arrAt_eq_of_cover 6 (goal6 m c) (fun t _ => flushed_eq6 m c t) cover6
  · refine (Cert.AdamSmallRefIdeal.Read.val_main_v248_eq (fun b => m' (c, b))).trans ?_
    show Cert.AdamSmallRefIdeal.Read.val_main_v248 (F := Ideal) (m' ((c : Thread Cert.AdamSmallRefIdeal.nD Cert.AdamSmallRefIdeal.τ).loc Cert.AdamSmallRefIdeal.main_arg0)) (m' ((c : Thread Cert.AdamSmallRefIdeal.nD Cert.AdamSmallRefIdeal.τ).loc Cert.AdamSmallRefIdeal.main_arg1)) (m' ((c : Thread Cert.AdamSmallRefIdeal.nD Cert.AdamSmallRefIdeal.τ).loc Cert.AdamSmallRefIdeal.main_arg2)) (m' ((c : Thread Cert.AdamSmallRefIdeal.nD Cert.AdamSmallRefIdeal.τ).loc Cert.AdamSmallRefIdeal.main_arg3)) (m' ((c : Thread Cert.AdamSmallRefIdeal.nD Cert.AdamSmallRefIdeal.τ).loc Cert.AdamSmallRefIdeal.main_arg4)) (m' ((c : Thread Cert.AdamSmallRefIdeal.nD Cert.AdamSmallRefIdeal.τ).loc Cert.AdamSmallRefIdeal.main_arg5)) (m' ((c : Thread Cert.AdamSmallRefIdeal.nD Cert.AdamSmallRefIdeal.τ).loc Cert.AdamSmallRefIdeal.main_arg6)) (m' ((c : Thread Cert.AdamSmallRefIdeal.nD Cert.AdamSmallRefIdeal.τ).loc Cert.AdamSmallRefIdeal.main_arg7)) (m' ((c : Thread Cert.AdamSmallRefIdeal.nD Cert.AdamSmallRefIdeal.τ).loc Cert.AdamSmallRefIdeal.main_arg8)) (m' ((c : Thread Cert.AdamSmallRefIdeal.nD Cert.AdamSmallRefIdeal.τ).loc Cert.AdamSmallRefIdeal.main_arg9)) (m' ((c : Thread Cert.AdamSmallRefIdeal.nD Cert.AdamSmallRefIdeal.τ).loc Cert.AdamSmallRefIdeal.main_arg10)) (m' ((c : Thread Cert.AdamSmallRefIdeal.nD Cert.AdamSmallRefIdeal.τ).loc Cert.AdamSmallRefIdeal.main_arg11)) (m' ((c : Thread Cert.AdamSmallRefIdeal.nD Cert.AdamSmallRefIdeal.τ).loc Cert.AdamSmallRefIdeal.main_arg12)) (m' ((c : Thread Cert.AdamSmallRefIdeal.nD Cert.AdamSmallRefIdeal.τ).loc Cert.AdamSmallRefIdeal.main_arg13)) (m' ((c : Thread Cert.AdamSmallRefIdeal.nD Cert.AdamSmallRefIdeal.τ).loc Cert.AdamSmallRefIdeal.main_arg14)) (m' ((c : Thread Cert.AdamSmallRefIdeal.nD Cert.AdamSmallRefIdeal.τ).loc Cert.AdamSmallRefIdeal.main_arg15)) (m' ((c : Thread Cert.AdamSmallRefIdeal.nD Cert.AdamSmallRefIdeal.τ).loc Cert.AdamSmallRefIdeal.main_arg16)) (m' ((c : Thread Cert.AdamSmallRefIdeal.nD Cert.AdamSmallRefIdeal.τ).loc Cert.AdamSmallRefIdeal.main_arg17)) (m' ((c : Thread Cert.AdamSmallRefIdeal.nD Cert.AdamSmallRefIdeal.τ).loc Cert.AdamSmallRefIdeal.main_arg18)) (m' ((c : Thread Cert.AdamSmallRefIdeal.nD Cert.AdamSmallRefIdeal.τ).loc Cert.AdamSmallRefIdeal.main_arg19)) (m' ((c : Thread Cert.AdamSmallRefIdeal.nD Cert.AdamSmallRefIdeal.τ).loc Cert.AdamSmallRefIdeal.main_arg20)) (m' ((c : Thread Cert.AdamSmallRefIdeal.nD Cert.AdamSmallRefIdeal.τ).loc Cert.AdamSmallRefIdeal.main_arg21)) (m' ((c : Thread Cert.AdamSmallRefIdeal.nD Cert.AdamSmallRefIdeal.τ).loc Cert.AdamSmallRefIdeal.main_arg22)) (m' ((c : Thread Cert.AdamSmallRefIdeal.nD Cert.AdamSmallRefIdeal.τ).loc Cert.AdamSmallRefIdeal.main_arg23)) (m' ((c : Thread Cert.AdamSmallRefIdeal.nD Cert.AdamSmallRefIdeal.τ).loc Cert.AdamSmallRefIdeal.main_arg24)) (m' ((c : Thread Cert.AdamSmallRefIdeal.nD Cert.AdamSmallRefIdeal.τ).loc Cert.AdamSmallRefIdeal.main_arg25)) (m' ((c : Thread Cert.AdamSmallRefIdeal.nD Cert.AdamSmallRefIdeal.τ).loc Cert.AdamSmallRefIdeal.main_arg26)) (m' ((c : Thread Cert.AdamSmallRefIdeal.nD Cert.AdamSmallRefIdeal.τ).loc Cert.AdamSmallRefIdeal.main_arg27)) (m' ((c : Thread Cert.AdamSmallRefIdeal.nD Cert.AdamSmallRefIdeal.τ).loc Cert.AdamSmallRefIdeal.main_arg28)) (m' ((c : Thread Cert.AdamSmallRefIdeal.nD Cert.AdamSmallRefIdeal.τ).loc Cert.AdamSmallRefIdeal.main_arg29)) (m' ((c : Thread Cert.AdamSmallRefIdeal.nD Cert.AdamSmallRefIdeal.τ).loc Cert.AdamSmallRefIdeal.main_arg30)) (m' ((c : Thread Cert.AdamSmallRefIdeal.nD Cert.AdamSmallRefIdeal.τ).loc Cert.AdamSmallRefIdeal.main_arg31)) (m' ((c : Thread Cert.AdamSmallRefIdeal.nD Cert.AdamSmallRefIdeal.τ).loc Cert.AdamSmallRefIdeal.main_arg32)) (m' ((c : Thread Cert.AdamSmallRefIdeal.nD Cert.AdamSmallRefIdeal.τ).loc Cert.AdamSmallRefIdeal.main_arg33)) (m' ((c : Thread Cert.AdamSmallRefIdeal.nD Cert.AdamSmallRefIdeal.τ).loc Cert.AdamSmallRefIdeal.main_arg34)) (m' ((c : Thread Cert.AdamSmallRefIdeal.nD Cert.AdamSmallRefIdeal.τ).loc Cert.AdamSmallRefIdeal.main_arg35)) = _
    refine (ref248 _ _ _ _ _ _ _ _ _ _ _ _ _ _ _ _ _ _ _ _ _ _ _ _ _ _ _ _ _ _ _ _ _ _ _ _).trans ?_
    rw [hw c, hg c, hm c, hv c] <;> rfl
  · refine (Cert.AdamSmallRefIdeal.Read.val_main_v250_eq (fun b => m' (c, b))).trans ?_
    show Cert.AdamSmallRefIdeal.Read.val_main_v250 (F := Ideal) (m' ((c : Thread Cert.AdamSmallRefIdeal.nD Cert.AdamSmallRefIdeal.τ).loc Cert.AdamSmallRefIdeal.main_arg9)) (m' ((c : Thread Cert.AdamSmallRefIdeal.nD Cert.AdamSmallRefIdeal.τ).loc Cert.AdamSmallRefIdeal.main_arg10)) (m' ((c : Thread Cert.AdamSmallRefIdeal.nD Cert.AdamSmallRefIdeal.τ).loc Cert.AdamSmallRefIdeal.main_arg11)) (m' ((c : Thread Cert.AdamSmallRefIdeal.nD Cert.AdamSmallRefIdeal.τ).loc Cert.AdamSmallRefIdeal.main_arg12)) (m' ((c : Thread Cert.AdamSmallRefIdeal.nD Cert.AdamSmallRefIdeal.τ).loc Cert.AdamSmallRefIdeal.main_arg13)) (m' ((c : Thread Cert.AdamSmallRefIdeal.nD Cert.AdamSmallRefIdeal.τ).loc Cert.AdamSmallRefIdeal.main_arg14)) (m' ((c : Thread Cert.AdamSmallRefIdeal.nD Cert.AdamSmallRefIdeal.τ).loc Cert.AdamSmallRefIdeal.main_arg15)) (m' ((c : Thread Cert.AdamSmallRefIdeal.nD Cert.AdamSmallRefIdeal.τ).loc Cert.AdamSmallRefIdeal.main_arg16)) (m' ((c : Thread Cert.AdamSmallRefIdeal.nD Cert.AdamSmallRefIdeal.τ).loc Cert.AdamSmallRefIdeal.main_arg17)) (m' ((c : Thread Cert.AdamSmallRefIdeal.nD Cert.AdamSmallRefIdeal.τ).loc Cert.AdamSmallRefIdeal.main_arg18)) (m' ((c : Thread Cert.AdamSmallRefIdeal.nD Cert.AdamSmallRefIdeal.τ).loc Cert.AdamSmallRefIdeal.main_arg19)) (m' ((c : Thread Cert.AdamSmallRefIdeal.nD Cert.AdamSmallRefIdeal.τ).loc Cert.AdamSmallRefIdeal.main_arg20)) (m' ((c : Thread Cert.AdamSmallRefIdeal.nD Cert.AdamSmallRefIdeal.τ).loc Cert.AdamSmallRefIdeal.main_arg21)) (m' ((c : Thread Cert.AdamSmallRefIdeal.nD Cert.AdamSmallRefIdeal.τ).loc Cert.AdamSmallRefIdeal.main_arg22)) (m' ((c : Thread Cert.AdamSmallRefIdeal.nD Cert.AdamSmallRefIdeal.τ).loc Cert.AdamSmallRefIdeal.main_arg23)) (m' ((c : Thread Cert.AdamSmallRefIdeal.nD Cert.AdamSmallRefIdeal.τ).loc Cert.AdamSmallRefIdeal.main_arg24)) (m' ((c : Thread Cert.AdamSmallRefIdeal.nD Cert.AdamSmallRefIdeal.τ).loc Cert.AdamSmallRefIdeal.main_arg25)) (m' ((c : Thread Cert.AdamSmallRefIdeal.nD Cert.AdamSmallRefIdeal.τ).loc Cert.AdamSmallRefIdeal.main_arg26)) = _
    refine (ref250 _ _ _ _ _ _ _ _ _ _ _ _ _ _ _ _ _ _).trans ?_
    rw [hg c, hm c] <;> rfl
  · refine (Cert.AdamSmallRefIdeal.Read.val_main_v252_eq (fun b => m' (c, b))).trans ?_
    show Cert.AdamSmallRefIdeal.Read.val_main_v252 (F := Ideal) (m' ((c : Thread Cert.AdamSmallRefIdeal.nD Cert.AdamSmallRefIdeal.τ).loc Cert.AdamSmallRefIdeal.main_arg9)) (m' ((c : Thread Cert.AdamSmallRefIdeal.nD Cert.AdamSmallRefIdeal.τ).loc Cert.AdamSmallRefIdeal.main_arg10)) (m' ((c : Thread Cert.AdamSmallRefIdeal.nD Cert.AdamSmallRefIdeal.τ).loc Cert.AdamSmallRefIdeal.main_arg11)) (m' ((c : Thread Cert.AdamSmallRefIdeal.nD Cert.AdamSmallRefIdeal.τ).loc Cert.AdamSmallRefIdeal.main_arg12)) (m' ((c : Thread Cert.AdamSmallRefIdeal.nD Cert.AdamSmallRefIdeal.τ).loc Cert.AdamSmallRefIdeal.main_arg13)) (m' ((c : Thread Cert.AdamSmallRefIdeal.nD Cert.AdamSmallRefIdeal.τ).loc Cert.AdamSmallRefIdeal.main_arg14)) (m' ((c : Thread Cert.AdamSmallRefIdeal.nD Cert.AdamSmallRefIdeal.τ).loc Cert.AdamSmallRefIdeal.main_arg15)) (m' ((c : Thread Cert.AdamSmallRefIdeal.nD Cert.AdamSmallRefIdeal.τ).loc Cert.AdamSmallRefIdeal.main_arg16)) (m' ((c : Thread Cert.AdamSmallRefIdeal.nD Cert.AdamSmallRefIdeal.τ).loc Cert.AdamSmallRefIdeal.main_arg17)) (m' ((c : Thread Cert.AdamSmallRefIdeal.nD Cert.AdamSmallRefIdeal.τ).loc Cert.AdamSmallRefIdeal.main_arg27)) (m' ((c : Thread Cert.AdamSmallRefIdeal.nD Cert.AdamSmallRefIdeal.τ).loc Cert.AdamSmallRefIdeal.main_arg28)) (m' ((c : Thread Cert.AdamSmallRefIdeal.nD Cert.AdamSmallRefIdeal.τ).loc Cert.AdamSmallRefIdeal.main_arg29)) (m' ((c : Thread Cert.AdamSmallRefIdeal.nD Cert.AdamSmallRefIdeal.τ).loc Cert.AdamSmallRefIdeal.main_arg30)) (m' ((c : Thread Cert.AdamSmallRefIdeal.nD Cert.AdamSmallRefIdeal.τ).loc Cert.AdamSmallRefIdeal.main_arg31)) (m' ((c : Thread Cert.AdamSmallRefIdeal.nD Cert.AdamSmallRefIdeal.τ).loc Cert.AdamSmallRefIdeal.main_arg32)) (m' ((c : Thread Cert.AdamSmallRefIdeal.nD Cert.AdamSmallRefIdeal.τ).loc Cert.AdamSmallRefIdeal.main_arg33)) (m' ((c : Thread Cert.AdamSmallRefIdeal.nD Cert.AdamSmallRefIdeal.τ).loc Cert.AdamSmallRefIdeal.main_arg34)) (m' ((c : Thread Cert.AdamSmallRefIdeal.nD Cert.AdamSmallRefIdeal.τ).loc Cert.AdamSmallRefIdeal.main_arg35)) = _
    refine (ref252 _ _ _ _ _ _ _ _ _ _ _ _ _ _ _ _ _ _).trans ?_
    rw [hg c, hv c] <;> rfl

end Cert.Claims
-- ==== Proof.AdamRepVal.lean ====
/-
  The optimiser's step on the replicated weights, packed into one array: every entry takes the step of the reference.
-/
module

public import proofs.«01_k».proof.Proof.AdamPack
public import proofs.«01_k».proof.Proof.Gen.AdamRepIdeal.Value
public import proofs.«01_k».proof.Proof.Gen.AdamRepRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AdamRepIdeal.Val

open Cert.AdamRepIdeal Cert.AdamRepIdeal.Gen

variable (m : (ℓ : Loc nD τ sig) → Buf (Elt Ideal) ℓ)

theorem hz2 : (![0, 0] : Fin 2 → Nat) = fun _ => 0 := funext fun a => by fin_cases a <;> rfl

theorem idxs : ∀ t : Fin cfg0.N, win0_4.index t 0 = t.val ∧ win0_4.index t 1 = 0 :=
  (by decide +kernel : ∀ t : Fin grid0.N, win0_4.index t 0 = t.val ∧ win0_4.index t 1 = 0)

/-- The zeros that fill the packed array. -/
abbrev fill : Vec Ideal S114688 .f32 := broadcastInDim S114688 ![] bcast_S_S114688 (constant (F := Ideal) S_ .f32 0x00000000#32)

theorem fill_zero (i : S114688.Idx) : fill i = (0 : EReal) := by
  show Ideal.ofBits FTy.f32 0x00000000#32 = 0
  simp [Ideal.ofBits, Ideal.ieee]

/-- One array per weight, joined and filled with zeros, in rows of 128. -/
abbrev pack (x0 : Vec Ideal S2048 .f32) (x1 : Vec Ideal S2x1024 .f32) (x2 : Vec Ideal S2x8x128x128 .f32) (x3 : Vec Ideal S2x8x128 .f32) (x4 : Vec Ideal S2x1024 .f32) (x5 : Vec Ideal S4x1024 .f32) (x6 : Vec Ideal S2x32x64 .f32) : Vec Ideal S3072x128 .f32 :=
  shapeCast S3072x128 (concatenate S393216 0 [⟨S278528, concatenate S278528 0 [⟨S2048, x0⟩, ⟨S2048, shapeCast S2048 x1 shapeCasts_S2x1024_S2048⟩, ⟨S262144, shapeCast S262144 x2 shapeCasts_S2x8x128x128_S262144⟩, ⟨S2048, shapeCast S2048 x3 shapeCasts_S2x8x128_S2048⟩, ⟨S2048, shapeCast S2048 x4 shapeCasts_S2x1024_S2048⟩, ⟨S4096, shapeCast S4096 x5 shapeCasts_S4x1024_S4096⟩, ⟨S4096, shapeCast S4096 x6 shapeCasts_S2x32x64_S4096⟩]
    concatenates_S2048_S2048_S262144_S2048_S2048_S4096_S4096_S278528_d0⟩, ⟨S114688, fill⟩] concatenates_S278528_S114688_S393216_d0) shapeCasts_S393216_S3072x128

theorem V_v9 (c : Dev nD) : V m c main_v9 = pack (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold V
  after_reads_simp
  rfl
theorem V_v19 (c : Dev nD) : V m c main_v19 = pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold V
  after_reads_simp
  rfl
theorem V_v29 (c : Dev nD) : V m c main_v29 = pack (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  unfold V
  after_reads_simp
  rfl
theorem V_v39 (c : Dev nD) : V m c main_v39 = pack (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  unfold V
  after_reads_simp
  rfl

/-- The block's new first moment at an index. -/
theorem pay2 (x0 x2 : Vec Ideal S1024x128 .f32) (r : Fin 1024) (l : Fin 128) :
    k0_pay2 x0 x2 (ix2 r l) = Cert.Adam.moment (x0 (ix2 r l)) (x2 (ix2 r l)) := by
  pointwise [k0_pay2, k0_pay1] <;> rfl
/-- The block's new second moment at an index. -/
theorem pay3 (x0 x3 : Vec Ideal S1024x128 .f32) (r : Fin 1024) (l : Fin 128) :
    k0_pay3 x0 x3 (ix2 r l) = Cert.Adam.square (x0 (ix2 r l)) (x3 (ix2 r l)) := by
  pointwise [k0_pay3, k0_pay1] <;> rfl
/-- The block's change of the weights at an index. -/
theorem pay4 (x0 x1 x2 x3 : Vec Ideal S1024x128 .f32) (r : Fin 1024) (l : Fin 128) :
    k0_pay4 x0 x1 x2 x3 (ix2 r l) = Cert.Adam.delta (x1 (ix2 r l)) (x0 (ix2 r l)) (x2 (ix2 r l)) (x3 (ix2 r l)) := by
  pointwise [k0_pay4, k0_pay3, k0_pay2, k0_pay1] <;> rfl

/-- The weights' steps, joined and filled, are the step of the packed arrays. -/
theorem steps (w0 g0 m0 v0 : Vec Ideal S2048 .f32) (w1 g1 m1 v1 : Vec Ideal S2x1024 .f32) (w2 g2 m2 v2 : Vec Ideal S2x8x128x128 .f32) (w3 g3 m3 v3 : Vec Ideal S2x8x128 .f32) (w4 g4 m4 v4 : Vec Ideal S2x1024 .f32) (w5 g5 m5 v5 : Vec Ideal S4x1024 .f32) (w6 g6 m6 v6 : Vec Ideal S2x32x64 .f32) (f : EReal → EReal → EReal → EReal → EReal) (f0 : f 0 0 0 0 = 0) :
    pack (fun i => f (w0 i) (g0 i) (m0 i) (v0 i)) (fun i => f (w1 i) (g1 i) (m1 i) (v1 i)) (fun i => f (w2 i) (g2 i) (m2 i) (v2 i)) (fun i => f (w3 i) (g3 i) (m3 i) (v3 i)) (fun i => f (w4 i) (g4 i) (m4 i) (v4 i)) (fun i => f (w5 i) (g5 i) (m5 i) (v5 i)) (fun i => f (w6 i) (g6 i) (m6 i) (v6 i))
      = fun i => f (pack w0 w1 w2 w3 w4 w5 w6 i) (pack g0 g1 g2 g3 g4 g5 g6 i) (pack m0 m1 m2 m3 m4 m5 m6 i) (pack v0 v1 v2 v3 v4 v5 v6 i) :=
  Cert.Adam.packed f f0 S278528 S393216 S3072x128 S114688 0 0 [
    ⟨S2048, w0, g0, m0, v0⟩,
    ⟨S2048, shapeCast S2048 w1 shapeCasts_S2x1024_S2048, shapeCast S2048 g1 shapeCasts_S2x1024_S2048, shapeCast S2048 m1 shapeCasts_S2x1024_S2048, shapeCast S2048 v1 shapeCasts_S2x1024_S2048⟩,
    ⟨S262144, shapeCast S262144 w2 shapeCasts_S2x8x128x128_S262144, shapeCast S262144 g2 shapeCasts_S2x8x128x128_S262144, shapeCast S262144 m2 shapeCasts_S2x8x128x128_S262144, shapeCast S262144 v2 shapeCasts_S2x8x128x128_S262144⟩,
    ⟨S2048, shapeCast S2048 w3 shapeCasts_S2x8x128_S2048, shapeCast S2048 g3 shapeCasts_S2x8x128_S2048, shapeCast S2048 m3 shapeCasts_S2x8x128_S2048, shapeCast S2048 v3 shapeCasts_S2x8x128_S2048⟩,
    ⟨S2048, shapeCast S2048 w4 shapeCasts_S2x1024_S2048, shapeCast S2048 g4 shapeCasts_S2x1024_S2048, shapeCast S2048 m4 shapeCasts_S2x1024_S2048, shapeCast S2048 v4 shapeCasts_S2x1024_S2048⟩,
    ⟨S4096, shapeCast S4096 w5 shapeCasts_S4x1024_S4096, shapeCast S4096 g5 shapeCasts_S4x1024_S4096, shapeCast S4096 m5 shapeCasts_S4x1024_S4096, shapeCast S4096 v5 shapeCasts_S4x1024_S4096⟩,
    ⟨S4096, shapeCast S4096 w6 shapeCasts_S2x32x64_S4096, shapeCast S4096 g6 shapeCasts_S2x32x64_S4096, shapeCast S4096 m6 shapeCasts_S2x32x64_S4096, shapeCast S4096 v6 shapeCasts_S2x32x64_S4096⟩]
    fill fill_zero concatenates_S2048_S2048_S262144_S2048_S2048_S4096_S4096_S278528_d0 concatenates_S2048_S2048_S262144_S2048_S2048_S4096_S4096_S278528_d0 concatenates_S2048_S2048_S262144_S2048_S2048_S4096_S4096_S278528_d0
    concatenates_S2048_S2048_S262144_S2048_S2048_S4096_S4096_S278528_d0 concatenates_S2048_S2048_S262144_S2048_S2048_S4096_S4096_S278528_d0
    concatenates_S278528_S114688_S393216_d0 shapeCasts_S393216_S3072x128

/-- The reference's changes of the weights are the step's, of the packed arrays. -/
theorem ref191 (w0 : Vec Ideal S2048 .f32) (w1 : Vec Ideal S2x1024 .f32) (w2 : Vec Ideal S2x8x128x128 .f32) (w3 : Vec Ideal S2x8x128 .f32) (w4 : Vec Ideal S2x1024 .f32) (w5 : Vec Ideal S4x1024 .f32) (w6 : Vec Ideal S2x32x64 .f32) (g0 : Vec Ideal S2048 .f32) (g1 : Vec Ideal S2x1024 .f32) (g2 : Vec Ideal S2x8x128x128 .f32) (g3 : Vec Ideal S2x8x128 .f32) (g4 : Vec Ideal S2x1024 .f32) (g5 : Vec Ideal S4x1024 .f32) (g6 : Vec Ideal S2x32x64 .f32) (m0 : Vec Ideal S2048 .f32) (m1 : Vec Ideal S2x1024 .f32) (m2 : Vec Ideal S2x8x128x128 .f32) (m3 : Vec Ideal S2x8x128 .f32) (m4 : Vec Ideal S2x1024 .f32) (m5 : Vec Ideal S4x1024 .f32) (m6 : Vec Ideal S2x32x64 .f32) (v0 : Vec Ideal S2048 .f32) (v1 : Vec Ideal S2x1024 .f32) (v2 : Vec Ideal S2x8x128x128 .f32) (v3 : Vec Ideal S2x8x128 .f32) (v4 : Vec Ideal S2x1024 .f32) (v5 : Vec Ideal S4x1024 .f32) (v6 : Vec Ideal S2x32x64 .f32) :
    Cert.AdamRepRefIdeal.Read.val_main_v191 (F := Ideal) w0 w1 w2 w3 w4 w5 w6 g0 g1 g2 g3 g4 g5 g6 m0 m1 m2 m3 m4 m5 m6 v0 v1 v2 v3 v4 v5 v6
      = fun i => Cert.Adam.delta (pack w0 w1 w2 w3 w4 w5 w6 i) (pack g0 g1 g2 g3 g4 g5 g6 i) (pack m0 m1 m2 m3 m4 m5 m6 i) (pack v0 v1 v2 v3 v4 v5 v6 i) :=
  Eq.trans (b := pack (fun i => Cert.Adam.delta (w0 i) (g0 i) (m0 i) (v0 i)) (fun i => Cert.Adam.delta (w1 i) (g1 i) (m1 i) (v1 i)) (fun i => Cert.Adam.delta (w2 i) (g2 i) (m2 i) (v2 i)) (fun i => Cert.Adam.delta (w3 i) (g3 i) (m3 i) (v3 i)) (fun i => Cert.Adam.delta (w4 i) (g4 i) (m4 i) (v4 i)) (fun i => Cert.Adam.delta (w5 i) (g5 i) (m5 i) (v5 i)) (fun i => Cert.Adam.delta (w6 i) (g6 i) (m6 i) (v6 i))) rfl
    (steps w0 g0 m0 v0 w1 g1 m1 v1 w2 g2 m2 v2 w3 g3 m3 v3 w4 g4 m4 v4 w5 g5 m5 v5 w6 g6 m6 v6 (fun w g m v => Cert.Adam.delta w g m v) Cert.Adam.delta_zero)

/-- The reference's first moments are the step's, of the packed arrays. -/
theorem ref193 (g0 : Vec Ideal S2048 .f32) (g1 : Vec Ideal S2x1024 .f32) (g2 : Vec Ideal S2x8x128x128 .f32) (g3 : Vec Ideal S2x8x128 .f32) (g4 : Vec Ideal S2x1024 .f32) (g5 : Vec Ideal S4x1024 .f32) (g6 : Vec Ideal S2x32x64 .f32) (m0 : Vec Ideal S2048 .f32) (m1 : Vec Ideal S2x1024 .f32) (m2 : Vec Ideal S2x8x128x128 .f32) (m3 : Vec Ideal S2x8x128 .f32) (m4 : Vec Ideal S2x1024 .f32) (m5 : Vec Ideal S4x1024 .f32) (m6 : Vec Ideal S2x32x64 .f32) :
    Cert.AdamRepRefIdeal.Read.val_main_v193 (F := Ideal) g0 g1 g2 g3 g4 g5 g6 m0 m1 m2 m3 m4 m5 m6
      = fun i => Cert.Adam.moment (pack g0 g1 g2 g3 g4 g5 g6 i) (pack m0 m1 m2 m3 m4 m5 m6 i) :=
  Eq.trans (b := pack (fun i => Cert.Adam.moment (g0 i) (m0 i)) (fun i => Cert.Adam.moment (g1 i) (m1 i)) (fun i => Cert.Adam.moment (g2 i) (m2 i)) (fun i => Cert.Adam.moment (g3 i) (m3 i)) (fun i => Cert.Adam.moment (g4 i) (m4 i)) (fun i => Cert.Adam.moment (g5 i) (m5 i)) (fun i => Cert.Adam.moment (g6 i) (m6 i))) rfl
    (steps g0 g0 m0 g0 g1 g1 m1 g1 g2 g2 m2 g2 g3 g3 m3 g3 g4 g4 m4 g4 g5 g5 m5 g5 g6 g6 m6 g6 (fun w g m v => Cert.Adam.moment g m) Cert.Adam.moment_zero)

/-- The reference's second moments are the step's, of the packed arrays. -/
theorem ref195 (g0 : Vec Ideal S2048 .f32) (g1 : Vec Ideal S2x1024 .f32) (g2 : Vec Ideal S2x8x128x128 .f32) (g3 : Vec Ideal S2x8x128 .f32) (g4 : Vec Ideal S2x1024 .f32) (g5 : Vec Ideal S4x1024 .f32) (g6 : Vec Ideal S2x32x64 .f32) (v0 : Vec Ideal S2048 .f32) (v1 : Vec Ideal S2x1024 .f32) (v2 : Vec Ideal S2x8x128x128 .f32) (v3 : Vec Ideal S2x8x128 .f32) (v4 : Vec Ideal S2x1024 .f32) (v5 : Vec Ideal S4x1024 .f32) (v6 : Vec Ideal S2x32x64 .f32) :
    Cert.AdamRepRefIdeal.Read.val_main_v195 (F := Ideal) g0 g1 g2 g3 g4 g5 g6 v0 v1 v2 v3 v4 v5 v6
      = fun i => Cert.Adam.square (pack g0 g1 g2 g3 g4 g5 g6 i) (pack v0 v1 v2 v3 v4 v5 v6 i) :=
  Eq.trans (b := pack (fun i => Cert.Adam.square (g0 i) (v0 i)) (fun i => Cert.Adam.square (g1 i) (v1 i)) (fun i => Cert.Adam.square (g2 i) (v2 i)) (fun i => Cert.Adam.square (g3 i) (v3 i)) (fun i => Cert.Adam.square (g4 i) (v4 i)) (fun i => Cert.Adam.square (g5 i) (v5 i)) (fun i => Cert.Adam.square (g6 i) (v6 i))) rfl
    (steps g0 g0 g0 v0 g1 g1 g1 v1 g2 g2 g2 v2 g3 g3 g3 v3 g4 g4 g4 v4 g5 g5 g5 v5 g6 g6 g6 v6 (fun w g m v => Cert.Adam.square g v) Cert.Adam.square_zero)

/-- The three arrays that the step leaves. -/
abbrev goal4 (c : Dev nD) : Buf (Elt Ideal) ((c : Thread nD τ).loc main_v40_0) :=
  fun i => Cert.Adam.delta (V m c main_v19 i) (V m c main_v9 i) (V m c main_v29 i) (V m c main_v39 i)
abbrev goal5 (c : Dev nD) : Buf (Elt Ideal) ((c : Thread nD τ).loc main_v40_1) :=
  fun i => Cert.Adam.moment (V m c main_v9 i) (V m c main_v29 i)
abbrev goal6 (c : Dev nD) : Buf (Elt Ideal) ((c : Thread nD τ).loc main_v40_2) :=
  fun i => Cert.Adam.square (V m c main_v9 i) (V m c main_v39 i)

/-- What a grid point writes back of each result is its block of that array. -/
theorem flushed_eq4 (c : Dev nD) (t : Fin cfg0.N) :
    (dats m 0 c).flushed 4 t = ((cfg0.win 4).blk t).view.read (Elt Ideal) (goal4 m c) := by
  rw [Value.flushed4]
  unfold out0_4
  rw [View.canon_unit_zero hz2, View.ld_unit_zero hz2, View.ld_unit_zero hz2, View.ld_unit_zero hz2, View.ld_unit_zero hz2]
  funext j
  obtain ⟨r, l, rfl⟩ : ∃ (r : Fin 1024) (l : Fin 128), j = ix2 r l := ⟨j 0, j 1, by idx_ext⟩
  show k0_pay4 _ _ _ _ (ix2 r l) = _
  rw [pay4]
  rfl
theorem flushed_eq5 (c : Dev nD) (t : Fin cfg0.N) :
    (dats m 0 c).flushed 5 t = ((cfg0.win 5).blk t).view.read (Elt Ideal) (goal5 m c) := by
  rw [Value.flushed5]
  unfold out0_5
  rw [View.canon_unit_zero hz2, View.ld_unit_zero hz2, View.ld_unit_zero hz2]
  funext j
  obtain ⟨r, l, rfl⟩ : ∃ (r : Fin 1024) (l : Fin 128), j = ix2 r l := ⟨j 0, j 1, by idx_ext⟩
  show k0_pay2 _ _ (ix2 r l) = _
  rw [pay2]
  rfl
theorem flushed_eq6 (c : Dev nD) (t : Fin cfg0.N) :
    (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  obtain ⟨r, l, rfl⟩ : ∃ (r : Fin 1024) (l : Fin 128), j = ix2 r l := ⟨j 0, j 1, by idx_ext⟩
  show k0_pay3 _ _ (ix2 r l) = _
  rw [pay3]
  rfl

/-- The blocks of a result tile its array. -/
theorem cover4 (i : S3072x128.Idx) : ∃ t : Fin cfg0.N, (cfg0.win 4).flush t = true ∧ i ∈ ((cfg0.win 4).blk t).view.set := by
  have h0 : (i 0 : Nat) < 3072 := (i 0).isLt
  have h1 : (i 1 : Nat) < 128 := (i 1).isLt
  have hN : cfg0.N = 3 := N_0
  obtain ⟨t, ht⟩ : ∃ t : Fin cfg0.N, t.val = (i 0 : Nat) / 1024 := ⟨⟨_, by omega⟩, rfl⟩
  refine ⟨t, flush0_4 _, ?_⟩
  show i ∈ ((View.whole main_v40_0).slice (win0_4.rect t)).set
  rw [View.set_slice_whole, Rect.mem_set_unit]
  have h := idxs t
  intro a
  match a with
  | ⟨0, _⟩ =>
    show win0_4.index t 0 * 1024 ≤ (i 0 : Nat) ∧ (i 0 : Nat) < win0_4.index t 0 * 1024 + 1024
    rw [h.1]; omega
  | ⟨1, _⟩ =>
    show win0_4.index t 1 * 128 ≤ (i 1 : Nat) ∧ (i 1 : Nat) < win0_4.index t 1 * 128 + 128
    rw [h.2]; omega
theorem cover5 (i : S3072x128.Idx) : ∃ t : Fin cfg0.N, (cfg0.win 5).flush t = true ∧ i ∈ ((cfg0.win 5).blk t).view.set := by
  obtain ⟨t, _, h⟩ := cover4 i
  exact ⟨t, flush0_5 _, h⟩
theorem cover6 (i : S3072x128.Idx) : ∃ t : Fin cfg0.N, (cfg0.win 6).flush t = true ∧ i ∈ ((cfg0.win 6).blk t).view.set := by
  obtain ⟨t, _, h⟩ := cover4 i
  exact ⟨t, flush0_6 _, h⟩

end Cert.AdamRepIdeal.Val

namespace Cert.Claims

set_option maxHeartbeats 2000000 in
open Cert.AdamRepIdeal Cert.AdamRepIdeal.Gen Cert.AdamRepIdeal.Val in
/-- The optimiser's step on the replicated weights and its reference end with equal results. -/
theorem adam_rep : Cert.algebraic_AdamRepIdeal_AdamRepRefIdeal (hAdamRepIdeal := Cert.AdamRepIdeal.Gen.facts)
    (hAdamRepRefIdeal := Cert.AdamRepRefIdeal.Gen.facts) := by
  intro m g m' g' _ hargs
  have hw (c : Dev Cert.AdamRepIdeal.nD) : pack (m' ((c : Thread Cert.AdamRepRefIdeal.nD Cert.AdamRepRefIdeal.τ).loc Cert.AdamRepRefIdeal.main_arg0)) (m' ((c : Thread Cert.AdamRepRefIdeal.nD Cert.AdamRepRefIdeal.τ).loc Cert.AdamRepRefIdeal.main_arg1)) (m' ((c : Thread Cert.AdamRepRefIdeal.nD Cert.AdamRepRefIdeal.τ).loc Cert.AdamRepRefIdeal.main_arg2)) (m' ((c : Thread Cert.AdamRepRefIdeal.nD Cert.AdamRepRefIdeal.τ).loc Cert.AdamRepRefIdeal.main_arg3)) (m' ((c : Thread Cert.AdamRepRefIdeal.nD Cert.AdamRepRefIdeal.τ).loc Cert.AdamRepRefIdeal.main_arg4)) (m' ((c : Thread Cert.AdamRepRefIdeal.nD Cert.AdamRepRefIdeal.τ).loc Cert.AdamRepRefIdeal.main_arg5)) (m' ((c : Thread Cert.AdamRepRefIdeal.nD Cert.AdamRepRefIdeal.τ).loc Cert.AdamRepRefIdeal.main_arg6)) = V m c main_v19 := by
    rw [V_v19, (hargs c).1, (hargs c).2.1, (hargs c).2.2.1, (hargs c).2.2.2.1, (hargs c).2.2.2.2.1, (hargs c).2.2.2.2.2.1, (hargs c).2.2.2.2.2.2.1]
  have hg (c : Dev Cert.AdamRepIdeal.nD) : pack (m' ((c : Thread Cert.AdamRepRefIdeal.nD Cert.AdamRepRefIdeal.τ).loc Cert.AdamRepRefIdeal.main_arg7)) (m' ((c : Thread Cert.AdamRepRefIdeal.nD Cert.AdamRepRefIdeal.τ).loc Cert.AdamRepRefIdeal.main_arg8)) (m' ((c : Thread Cert.AdamRepRefIdeal.nD Cert.AdamRepRefIdeal.τ).loc Cert.AdamRepRefIdeal.main_arg9)) (m' ((c : Thread Cert.AdamRepRefIdeal.nD Cert.AdamRepRefIdeal.τ).loc Cert.AdamRepRefIdeal.main_arg10)) (m' ((c : Thread Cert.AdamRepRefIdeal.nD Cert.AdamRepRefIdeal.τ).loc Cert.AdamRepRefIdeal.main_arg11)) (m' ((c : Thread Cert.AdamRepRefIdeal.nD Cert.AdamRepRefIdeal.τ).loc Cert.AdamRepRefIdeal.main_arg12)) (m' ((c : Thread Cert.AdamRepRefIdeal.nD Cert.AdamRepRefIdeal.τ).loc Cert.AdamRepRefIdeal.main_arg13)) = V m c main_v9 := by
    rw [V_v9, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2.1, (hargs c).2.2.2.2.2.2.2.2.2.2.2.2.1, (hargs c).2.2.2.2.2.2.2.2.2.2.2.2.2.1]
  have hm (c : Dev Cert.AdamRepIdeal.nD) : pack (m' ((c : Thread Cert.AdamRepRefIdeal.nD Cert.AdamRepRefIdeal.τ).loc Cert.AdamRepRefIdeal.main_arg14)) (m' ((c : Thread Cert.AdamRepRefIdeal.nD Cert.AdamRepRefIdeal.τ).loc Cert.AdamRepRefIdeal.main_arg15)) (m' ((c : Thread Cert.AdamRepRefIdeal.nD Cert.AdamRepRefIdeal.τ).loc Cert.AdamRepRefIdeal.main_arg16)) (m' ((c : Thread Cert.AdamRepRefIdeal.nD Cert.AdamRepRefIdeal.τ).loc Cert.AdamRepRefIdeal.main_arg17)) (m' ((c : Thread Cert.AdamRepRefIdeal.nD Cert.AdamRepRefIdeal.τ).loc Cert.AdamRepRefIdeal.main_arg18)) (m' ((c : Thread Cert.AdamRepRefIdeal.nD Cert.AdamRepRefIdeal.τ).loc Cert.AdamRepRefIdeal.main_arg19)) (m' ((c : Thread Cert.AdamRepRefIdeal.nD Cert.AdamRepRefIdeal.τ).loc Cert.AdamRepRefIdeal.main_arg20)) = V m c main_v29 := by
    rw [V_v29, (hargs c).2.2.2.2.2.2.2.2.2.2.2.2.2.2.1, (hargs c).2.2.2.2.2.2.2.2.2.2.2.2.2.2.2.1, (hargs c).2.2.2.2.2.2.2.2.2.2.2.2.2.2.2.2.1, (hargs c).2.2.2.2.2.2.2.2.2.2.2.2.2.2.2.2.2.1, (hargs c).2.2.2.2.2.2.2.2.2.2.2.2.2.2.2.2.2.2.1, (hargs c).2.2.2.2.2.2.2.2.2.2.2.2.2.2.2.2.2.2.2.1, (hargs c).2.2.2.2.2.2.2.2.2.2.2.2.2.2.2.2.2.2.2.2.1]
  have hv (c : Dev Cert.AdamRepIdeal.nD) : pack (m' ((c : Thread Cert.AdamRepRefIdeal.nD Cert.AdamRepRefIdeal.τ).loc Cert.AdamRepRefIdeal.main_arg21)) (m' ((c : Thread Cert.AdamRepRefIdeal.nD Cert.AdamRepRefIdeal.τ).loc Cert.AdamRepRefIdeal.main_arg22)) (m' ((c : Thread Cert.AdamRepRefIdeal.nD Cert.AdamRepRefIdeal.τ).loc Cert.AdamRepRefIdeal.main_arg23)) (m' ((c : Thread Cert.AdamRepRefIdeal.nD Cert.AdamRepRefIdeal.τ).loc Cert.AdamRepRefIdeal.main_arg24)) (m' ((c : Thread Cert.AdamRepRefIdeal.nD Cert.AdamRepRefIdeal.τ).loc Cert.AdamRepRefIdeal.main_arg25)) (m' ((c : Thread Cert.AdamRepRefIdeal.nD Cert.AdamRepRefIdeal.τ).loc Cert.AdamRepRefIdeal.main_arg26)) (m' ((c : Thread Cert.AdamRepRefIdeal.nD Cert.AdamRepRefIdeal.τ).loc Cert.AdamRepRefIdeal.main_arg27)) = V m c main_v39 := by
    rw [V_v39, (hargs c).2.2.2.2.2.2.2.2.2.2.2.2.2.2.2.2.2.2.2.2.2.1, (hargs c).2.2.2.2.2.2.2.2.2.2.2.2.2.2.2.2.2.2.2.2.2.2.1, (hargs c).2.2.2.2.2.2.2.2.2.2.2.2.2.2.2.2.2.2.2.2.2.2.2.1, (hargs c).2.2.2.2.2.2.2.2.2.2.2.2.2.2.2.2.2.2.2.2.2.2.2.2.1, (hargs c).2.2.2.2.2.2.2.2.2.2.2.2.2.2.2.2.2.2.2.2.2.2.2.2.2.1, (hargs c).2.2.2.2.2.2.2.2.2.2.2.2.2.2.2.2.2.2.2.2.2.2.2.2.2.2.1, (hargs c).2.2.2.2.2.2.2.2.2.2.2.2.2.2.2.2.2.2.2.2.2.2.2.2.2.2.2]
  refine ⟨fun c => goal4 m c, fun c => goal5 m c, fun c => goal6 m c,
    (θ_run _ _ _).mono (fun r h c => ⟨(h c).1.trans ?_, (h c).2.1.trans ?_, (h c).2.2.1.trans ?_, (h c).2.2.2⟩)
      (Cert.AdamRepIdeal.Value.run_blocks m g),
    (θ_run _ _ _).mono (fun r h c => ⟨(h c).1.trans ?_, (h c).2.1.trans ?_, (h c).2.2.1.trans ?_, (h c).2.2.2⟩)
      (Cert.AdamRepRefIdeal.Value.run m' g')⟩
  · exact (Cert.AdamRepIdeal.Gen.dats m 0 c).arrAt_eq_of_cover 4 (goal4 m c) (fun t _ => flushed_eq4 m c t) cover4
  · exact (Cert.AdamRepIdeal.Gen.dats m 0 c).arrAt_eq_of_cover 5 (goal5 m c) (fun t _ => flushed_eq5 m c t) cover5
  · exact (Cert.AdamRepIdeal.Gen.dats m 0 c).arrAt_eq_of_cover 6 (goal6 m c) (fun t _ => flushed_eq6 m c t) cover6
  · refine (Cert.AdamRepRefIdeal.Read.val_main_v191_eq (fun b => m' (c, b))).trans ?_
    show Cert.AdamRepRefIdeal.Read.val_main_v191 (F := Ideal) (m' ((c : Thread Cert.AdamRepRefIdeal.nD Cert.AdamRepRefIdeal.τ).loc Cert.AdamRepRefIdeal.main_arg0)) (m' ((c : Thread Cert.AdamRepRefIdeal.nD Cert.AdamRepRefIdeal.τ).loc Cert.AdamRepRefIdeal.main_arg1)) (m' ((c : Thread Cert.AdamRepRefIdeal.nD Cert.AdamRepRefIdeal.τ).loc Cert.AdamRepRefIdeal.main_arg2)) (m' ((c : Thread Cert.AdamRepRefIdeal.nD Cert.AdamRepRefIdeal.τ).loc Cert.AdamRepRefIdeal.main_arg3)) (m' ((c : Thread Cert.AdamRepRefIdeal.nD Cert.AdamRepRefIdeal.τ).loc Cert.AdamRepRefIdeal.main_arg4)) (m' ((c : Thread Cert.AdamRepRefIdeal.nD Cert.AdamRepRefIdeal.τ).loc Cert.AdamRepRefIdeal.main_arg5)) (m' ((c : Thread Cert.AdamRepRefIdeal.nD Cert.AdamRepRefIdeal.τ).loc Cert.AdamRepRefIdeal.main_arg6)) (m' ((c : Thread Cert.AdamRepRefIdeal.nD Cert.AdamRepRefIdeal.τ).loc Cert.AdamRepRefIdeal.main_arg7)) (m' ((c : Thread Cert.AdamRepRefIdeal.nD Cert.AdamRepRefIdeal.τ).loc Cert.AdamRepRefIdeal.main_arg8)) (m' ((c : Thread Cert.AdamRepRefIdeal.nD Cert.AdamRepRefIdeal.τ).loc Cert.AdamRepRefIdeal.main_arg9)) (m' ((c : Thread Cert.AdamRepRefIdeal.nD Cert.AdamRepRefIdeal.τ).loc Cert.AdamRepRefIdeal.main_arg10)) (m' ((c : Thread Cert.AdamRepRefIdeal.nD Cert.AdamRepRefIdeal.τ).loc Cert.AdamRepRefIdeal.main_arg11)) (m' ((c : Thread Cert.AdamRepRefIdeal.nD Cert.AdamRepRefIdeal.τ).loc Cert.AdamRepRefIdeal.main_arg12)) (m' ((c : Thread Cert.AdamRepRefIdeal.nD Cert.AdamRepRefIdeal.τ).loc Cert.AdamRepRefIdeal.main_arg13)) (m' ((c : Thread Cert.AdamRepRefIdeal.nD Cert.AdamRepRefIdeal.τ).loc Cert.AdamRepRefIdeal.main_arg14)) (m' ((c : Thread Cert.AdamRepRefIdeal.nD Cert.AdamRepRefIdeal.τ).loc Cert.AdamRepRefIdeal.main_arg15)) (m' ((c : Thread Cert.AdamRepRefIdeal.nD Cert.AdamRepRefIdeal.τ).loc Cert.AdamRepRefIdeal.main_arg16)) (m' ((c : Thread Cert.AdamRepRefIdeal.nD Cert.AdamRepRefIdeal.τ).loc Cert.AdamRepRefIdeal.main_arg17)) (m' ((c : Thread Cert.AdamRepRefIdeal.nD Cert.AdamRepRefIdeal.τ).loc Cert.AdamRepRefIdeal.main_arg18)) (m' ((c : Thread Cert.AdamRepRefIdeal.nD Cert.AdamRepRefIdeal.τ).loc Cert.AdamRepRefIdeal.main_arg19)) (m' ((c : Thread Cert.AdamRepRefIdeal.nD Cert.AdamRepRefIdeal.τ).loc Cert.AdamRepRefIdeal.main_arg20)) (m' ((c : Thread Cert.AdamRepRefIdeal.nD Cert.AdamRepRefIdeal.τ).loc Cert.AdamRepRefIdeal.main_arg21)) (m' ((c : Thread Cert.AdamRepRefIdeal.nD Cert.AdamRepRefIdeal.τ).loc Cert.AdamRepRefIdeal.main_arg22)) (m' ((c : Thread Cert.AdamRepRefIdeal.nD Cert.AdamRepRefIdeal.τ).loc Cert.AdamRepRefIdeal.main_arg23)) (m' ((c : Thread Cert.AdamRepRefIdeal.nD Cert.AdamRepRefIdeal.τ).loc Cert.AdamRepRefIdeal.main_arg24)) (m' ((c : Thread Cert.AdamRepRefIdeal.nD Cert.AdamRepRefIdeal.τ).loc Cert.AdamRepRefIdeal.main_arg25)) (m' ((c : Thread Cert.AdamRepRefIdeal.nD Cert.AdamRepRefIdeal.τ).loc Cert.AdamRepRefIdeal.main_arg26)) (m' ((c : Thread Cert.AdamRepRefIdeal.nD Cert.AdamRepRefIdeal.τ).loc Cert.AdamRepRefIdeal.main_arg27)) = _
    refine (ref191 _ _ _ _ _ _ _ _ _ _ _ _ _ _ _ _ _ _ _ _ _ _ _ _ _ _ _ _).trans ?_
    rw [hw c, hg c, hm c, hv c] <;> rfl
  · refine (Cert.AdamRepRefIdeal.Read.val_main_v193_eq (fun b => m' (c, b))).trans ?_
    show Cert.AdamRepRefIdeal.Read.val_main_v193 (F := Ideal) (m' ((c : Thread Cert.AdamRepRefIdeal.nD Cert.AdamRepRefIdeal.τ).loc Cert.AdamRepRefIdeal.main_arg7)) (m' ((c : Thread Cert.AdamRepRefIdeal.nD Cert.AdamRepRefIdeal.τ).loc Cert.AdamRepRefIdeal.main_arg8)) (m' ((c : Thread Cert.AdamRepRefIdeal.nD Cert.AdamRepRefIdeal.τ).loc Cert.AdamRepRefIdeal.main_arg9)) (m' ((c : Thread Cert.AdamRepRefIdeal.nD Cert.AdamRepRefIdeal.τ).loc Cert.AdamRepRefIdeal.main_arg10)) (m' ((c : Thread Cert.AdamRepRefIdeal.nD Cert.AdamRepRefIdeal.τ).loc Cert.AdamRepRefIdeal.main_arg11)) (m' ((c : Thread Cert.AdamRepRefIdeal.nD Cert.AdamRepRefIdeal.τ).loc Cert.AdamRepRefIdeal.main_arg12)) (m' ((c : Thread Cert.AdamRepRefIdeal.nD Cert.AdamRepRefIdeal.τ).loc Cert.AdamRepRefIdeal.main_arg13)) (m' ((c : Thread Cert.AdamRepRefIdeal.nD Cert.AdamRepRefIdeal.τ).loc Cert.AdamRepRefIdeal.main_arg14)) (m' ((c : Thread Cert.AdamRepRefIdeal.nD Cert.AdamRepRefIdeal.τ).loc Cert.AdamRepRefIdeal.main_arg15)) (m' ((c : Thread Cert.AdamRepRefIdeal.nD Cert.AdamRepRefIdeal.τ).loc Cert.AdamRepRefIdeal.main_arg16)) (m' ((c : Thread Cert.AdamRepRefIdeal.nD Cert.AdamRepRefIdeal.τ).loc Cert.AdamRepRefIdeal.main_arg17)) (m' ((c : Thread Cert.AdamRepRefIdeal.nD Cert.AdamRepRefIdeal.τ).loc Cert.AdamRepRefIdeal.main_arg18)) (m' ((c : Thread Cert.AdamRepRefIdeal.nD Cert.AdamRepRefIdeal.τ).loc Cert.AdamRepRefIdeal.main_arg19)) (m' ((c : Thread Cert.AdamRepRefIdeal.nD Cert.AdamRepRefIdeal.τ).loc Cert.AdamRepRefIdeal.main_arg20)) = _
    refine (ref193 _ _ _ _ _ _ _ _ _ _ _ _ _ _).trans ?_
    rw [hg c, hm c] <;> rfl
  · refine (Cert.AdamRepRefIdeal.Read.val_main_v195_eq (fun b => m' (c, b))).trans ?_
    show Cert.AdamRepRefIdeal.Read.val_main_v195 (F := Ideal) (m' ((c : Thread Cert.AdamRepRefIdeal.nD Cert.AdamRepRefIdeal.τ).loc Cert.AdamRepRefIdeal.main_arg7)) (m' ((c : Thread Cert.AdamRepRefIdeal.nD Cert.AdamRepRefIdeal.τ).loc Cert.AdamRepRefIdeal.main_arg8)) (m' ((c : Thread Cert.AdamRepRefIdeal.nD Cert.AdamRepRefIdeal.τ).loc Cert.AdamRepRefIdeal.main_arg9)) (m' ((c : Thread Cert.AdamRepRefIdeal.nD Cert.AdamRepRefIdeal.τ).loc Cert.AdamRepRefIdeal.main_arg10)) (m' ((c : Thread Cert.AdamRepRefIdeal.nD Cert.AdamRepRefIdeal.τ).loc Cert.AdamRepRefIdeal.main_arg11)) (m' ((c : Thread Cert.AdamRepRefIdeal.nD Cert.AdamRepRefIdeal.τ).loc Cert.AdamRepRefIdeal.main_arg12)) (m' ((c : Thread Cert.AdamRepRefIdeal.nD Cert.AdamRepRefIdeal.τ).loc Cert.AdamRepRefIdeal.main_arg13)) (m' ((c : Thread Cert.AdamRepRefIdeal.nD Cert.AdamRepRefIdeal.τ).loc Cert.AdamRepRefIdeal.main_arg21)) (m' ((c : Thread Cert.AdamRepRefIdeal.nD Cert.AdamRepRefIdeal.τ).loc Cert.AdamRepRefIdeal.main_arg22)) (m' ((c : Thread Cert.AdamRepRefIdeal.nD Cert.AdamRepRefIdeal.τ).loc Cert.AdamRepRefIdeal.main_arg23)) (m' ((c : Thread Cert.AdamRepRefIdeal.nD Cert.AdamRepRefIdeal.τ).loc Cert.AdamRepRefIdeal.main_arg24)) (m' ((c : Thread Cert.AdamRepRefIdeal.nD Cert.AdamRepRefIdeal.τ).loc Cert.AdamRepRefIdeal.main_arg25)) (m' ((c : Thread Cert.AdamRepRefIdeal.nD Cert.AdamRepRefIdeal.τ).loc Cert.AdamRepRefIdeal.main_arg26)) (m' ((c : Thread Cert.AdamRepRefIdeal.nD Cert.AdamRepRefIdeal.τ).loc Cert.AdamRepRefIdeal.main_arg27)) = _
    refine (ref195 _ _ _ _ _ _ _ _ _ _ _ _ _ _).trans ?_
    rw [hg c, hv c] <;> rfl

end Cert.Claims
-- ==== Proof.SumSlots.lean ====
/-
  Arrays of eight rows joined along their second axis: the sums over the rows of the joined array are the joined sums.
-/
module

public import Idealize.ShloMosaic.Lib.Pointwise
public import Idealize.ShloMosaic.Lib.Pipeline.ValueKit.Acc

@[expose] public section

noncomputable section

open Idealize.ShloMosaic Idealize.ShloMosaic.TcCoe

namespace Cert.Sum

/-- An array of eight rows. -/
structure Rows where
  n : Nat
  x : (⟨2, ![8, n]⟩ : Shape).Idx → EReal

/-- The array with its shape. -/
abbrev Rows.all (p : Rows) : (s : Shape) × (s.Idx → EReal) := ⟨⟨2, ![8, p.n]⟩, p.x⟩
/-- The sum of the eight rows. -/
abbrev Rows.sum (p : Rows) : (s : Shape) × (s.Idx → EReal) := ⟨⟨1, ![p.n]⟩, fun i => ∑ r : Fin 8, p.x (ix2 r (i 0))⟩

/-- The joined sums read at a position are the sum over the rows of the joined rows read there. -/
theorem joinedAt (N : Nat) (j : Fin N) :
    ∀ (L : List Rows) (c : Nat) (h h') (k k'),
      concatenateAt ⟨1, ![N]⟩ 0 (ix1 j) (L.map Rows.sum) h c k
        = ∑ r : Fin 8, concatenateAt ⟨2, ![8, N]⟩ 1 (ix2 r j) (L.map Rows.all) h' c k' := by
  intro L
  induction L with
  | nil => intro c h h' k; exact absurd k (Nat.not_lt_zero _)
  | cons p L ih =>
    intro c h h' k k'
    have leaf : ∀ (hlt : c < p.n) (f : ∀ b : Fin 1, Fin ((⟨1, ![p.n]⟩ : Shape).size b)) (g : ∀ r : Fin 8, ∀ b : Fin 2, Fin ((⟨2, ![8, p.n]⟩ : Shape).size b)),
        (f 0).val = c → (∀ r, (g r 0).val = r.val) → (∀ r, (g r 1).val = c) →
        (Rows.sum p).2 (Shape.Idx.norm f) = ∑ r : Fin 8, (Rows.all p).2 (Shape.Idx.norm (g r)) := by
      intro hlt f g hf hg0 hg1
      show ∑ r : Fin 8, p.x (ix2 r (f 0)) = ∑ r : Fin 8, p.x (g r)
      refine Finset.sum_congr rfl fun r _ => congrArg p.x (funext fun a => Fin.ext ?_)
      match a with
      | ⟨0, _⟩ => exact (hg0 r).symm
      | ⟨1, _⟩ => exact hf.trans (hg1 r).symm
    cases L with
    | nil =>
      have hlt : c < p.n := by
        have hp : (Rows.sum p).1.FitsOff ⟨1, ![N]⟩ 0 := h _ List.mem_cons_self
        have k2 := k
        simp only [List.map_cons, List.map_nil] at k2
        rw [axisSizes_cons _ _ _ _ hp, List.sum_cons] at k2
        simpa using k2
      exact leaf hlt _ _ rfl (fun _ => rfl) (fun _ => rfl)
    | cons q L =>
      simp only [List.map_cons] at ih ⊢
      have hp : (Rows.sum p).1.FitsOff ⟨1, ![N]⟩ 0 := h _ List.mem_cons_self
      have hp' : (Rows.all p).1.FitsOff ⟨2, ![8, N]⟩ 1 := h' _ List.mem_cons_self
      rw [concatenateAt]
      have rhs : ∀ r : Fin 8, concatenateAt ⟨2, ![8, N]⟩ 1 (ix2 r j) (Rows.all p :: Rows.all q :: L.map Rows.all) h' c k' = _ :=
        fun r => by rw [concatenateAt]
      rw [Finset.sum_congr rfl fun r _ => rhs r]
      by_cases hc : c < p.n
      · rw [dif_pos (show c < (Rows.sum p).1.size ((0 : Fin 1).cast hp.rank_eq.symm) from hc)]
        rw [Finset.sum_congr rfl fun r _ => dif_pos (show c < (Rows.all p).1.size ((1 : Fin 2).cast hp'.rank_eq.symm) from hc)]
        exact leaf hc _ _ rfl (fun _ => rfl) (fun _ => rfl)
      · rw [dif_neg (show ¬ c < (Rows.sum p).1.size ((0 : Fin 1).cast hp.rank_eq.symm) from hc)]
        rw [Finset.sum_congr rfl fun r _ => dif_neg (show ¬ c < (Rows.all p).1.size ((1 : Fin 2).cast hp'.rank_eq.symm) from hc)]
        have k1 : c - p.n < (axisSizes ⟨1, ![N]⟩ 0 (Rows.sum q :: L.map Rows.sum)).sum := by
          have k2 := k
          simp only [List.map_cons] at k2
          rw [axisSizes_cons _ _ _ _ hp, List.sum_cons] at k2
          change c < p.n + _ at k2
          omega
        have k1' : c - p.n < (axisSizes ⟨2, ![8, N]⟩ 1 (Rows.all q :: L.map Rows.all)).sum := by
          have k2 := k'
          simp only [List.map_cons] at k2
          rw [axisSizes_cons _ _ _ _ hp', List.sum_cons] at k2
          change c < p.n + _ at k2
          omega
        exact ih _ (fun s hs => h s (List.mem_cons_of_mem _ hs)) (fun s hs => h' s (List.mem_cons_of_mem _ hs)) k1 k1'

/-- Joined sums are the sums of the joined rows. -/
theorem joined (N : Nat) (L : List Rows) (h h') :
    concatenate ⟨1, ![N]⟩ 0 (L.map Rows.sum) h = fun i => ∑ r : Fin 8, concatenate ⟨2, ![8, N]⟩ 1 (L.map Rows.all) h' (ix2 r (i 0)) := by
  funext i
  obtain ⟨j, rfl⟩ : ∃ j : Fin N, i = ix1 j := ⟨i 0, (ix1_eta i).symm⟩
  simp only [concatenate_apply]
  exact joinedAt N j L _ _ _ _ _

/-- Concatenations of equal lists are equal. -/
theorem concat_congr (t : Shape) (a : Fin t.rank) (xs ys : List ((s : Shape) × (s.Idx → EReal))) (hxy : xs = ys) (hx hy) :
    concatenate t a xs hx = concatenate t a ys hy := by
  subst hxy
  rfl

/-- Joined sums followed by zeros are the sums of the joined rows followed by zeros. -/
theorem packed (n z N : Nat) (L : List Rows) (z1 : (⟨1, ![z]⟩ : Shape).Idx → EReal) (z8 : (⟨2, ![8, z]⟩ : Shape).Idx → EReal)
    (h1 : ∀ i, z1 i = 0) (h8 : ∀ i, z8 i = 0) (h h' k k') :
    concatenate ⟨1, ![N]⟩ 0 [⟨⟨1, ![n]⟩, concatenate ⟨1, ![n]⟩ 0 (L.map Rows.sum) h⟩, ⟨⟨1, ![z]⟩, z1⟩] k
      = fun i => ∑ r : Fin 8, concatenate ⟨2, ![8, N]⟩ 1
          [⟨⟨2, ![8, n]⟩, concatenate ⟨2, ![8, n]⟩ 1 (L.map Rows.all) h'⟩, ⟨⟨2, ![8, z]⟩, z8⟩] k' (ix2 r (i 0)) := by
  have hz : z1 = fun i => ∑ r : Fin 8, z8 (ix2 r (i 0)) := funext fun i => by
    rw [h1]
    exact (Finset.sum_eq_zero fun r _ => h8 _).symm
  rw [joined n L h h']
  subst hz
  exact joined N [⟨n, concatenate ⟨2, ![8, n]⟩ 1 (L.map Rows.all) h'⟩, ⟨z, z8⟩] k k'

end Cert.Sum
-- ==== Proof.SumSmallVal.lean ====
/-
  The sum over the devices of the small sharded weights' gradients, packed into one array: every entry is the sum of the devices' entries.
-/
module

public import proofs.«01_k».proof.Defs
public import proofs.«01_k».proof.Proof.SumSlots
public import proofs.«01_k».proof.Proof.Gen.SumSmallIdeal.Value
public import proofs.«01_k».proof.Proof.Gen.SumSmallRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.SumSmallIdeal.Val

open Cert.SumSmallIdeal Cert.SumSmallIdeal.Gen

variable (m : (ℓ : Loc nD τ sig) → Buf (Elt Ideal) ℓ)

theorem hz2 : (![0, 0] : Fin 2 → Nat) = fun _ => 0 := funext fun a => by fin_cases a <;> rfl

theorem zero_word : Ideal.ofBits FTy.f32 0x00000000#32 = 0 := by simp [Ideal.ofBits, Ideal.ieee]

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The zeros that fill the eight packed rows. -/
abbrev fill : Vec Ideal S8x110080 .f32 := broadcastInDim S8x110080 ![] bcast_S_S8x110080 (constant (F := Ideal) S_ .f32 0x00000000#32)

/-- The eight devices' arrays, joined and filled with zeros, one row for each device. -/
abbrev rows (x0 : Vec Ideal S8x4x4x512 .f32) (x1 : Vec Ideal S8x2x6x512 .f32) (x2 : Vec Ideal S8x2x512 .f32) (x3 : Vec Ideal S8x2x512 .f32) (x4 : Vec Ideal S8x2x512 .f32) (x5 : Vec Ideal S8x2x512 .f32) (x6 : Vec Ideal S8x2x512 .f32) (x7 : Vec Ideal S8x2x512 .f32) (x8 : Vec Ideal S8x1x512 .f32) : Vec Ideal S8x131072 .f32 :=
  concatenate S8x131072 1 [⟨S8x20992, concatenate S8x20992 1 [⟨S8x8192, shapeCast S8x8192 x0 shapeCasts_S8x4x4x512_S8x8192⟩, ⟨S8x6144, shapeCast S8x6144 x1 shapeCasts_S8x2x6x512_S8x6144⟩, ⟨S8x1024, shapeCast S8x1024 x2 shapeCasts_S8x2x512_S8x1024⟩, ⟨S8x1024, shapeCast S8x1024 x3 shapeCasts_S8x2x512_S8x1024⟩, ⟨S8x1024, shapeCast S8x1024 x4 shapeCasts_S8x2x512_S8x1024⟩, ⟨S8x1024, shapeCast S8x1024 x5 shapeCasts_S8x2x512_S8x1024⟩, ⟨S8x1024, shapeCast S8x1024 x6 shapeCasts_S8x2x512_S8x1024⟩, ⟨S8x1024, shapeCast S8x1024 x7 shapeCasts_S8x2x512_S8x1024⟩, ⟨S8x512, shapeCast S8x512 x8 shapeCasts_S8x1x512_S8x512⟩]
    concatenates_S8x8192_S8x6144_S8x1024_S8x1024_S8x1024_S8x1024_S8x1024_S8x1024_S8x512_S8x20992_d1⟩, ⟨S8x110080, fill⟩] concatenates_S8x20992_S8x110080_S8x131072_d1

/-- The rows of the devices, each in rows of 128. -/
abbrev slots (x0 : Vec Ideal S8x4x4x512 .f32) (x1 : Vec Ideal S8x2x6x512 .f32) (x2 : Vec Ideal S8x2x512 .f32) (x3 : Vec Ideal S8x2x512 .f32) (x4 : Vec Ideal S8x2x512 .f32) (x5 : Vec Ideal S8x2x512 .f32) (x6 : Vec Ideal S8x2x512 .f32) (x7 : Vec Ideal S8x2x512 .f32) (x8 : Vec Ideal S8x1x512 .f32) : Vec Ideal S8x1024x128 .f32 :=
  shapeCast S8x1024x128 (rows x0 x1 x2 x3 x4 x5 x6 x7 x8) shapeCasts_S8x131072_S8x1024x128

theorem V_slots (c : Dev nD) : V m c main_v12 = slots (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold V
  after_reads_simp
  rfl

/-- The body's result at an index: the sum of the eight slots. -/
theorem body (x : Vec Ideal S8x1024x128 .f32) (r : Fin 1024) (l : Fin 128) : out0_1 x (ix2 r l) = ∑ k : Fin 8, x (ix3 k r l) := by
  unfold out0_1
  rw [View.canon_unit_zero hz2, Fin.sum_univ_eight]
  pointwise [k0_pay1] <;> rfl

/-- The block of slots at a grid point, read at an index. -/
theorem blk0 (c : Dev nD) (t : Fin cfg0.N) (k : Fin 8) (r : Fin 1024) (l : Fin 128) :
    iblk m c 0 t (ix3 k r l) = V m c main_v12 (ix3 k (⟨t.val * 1024 + r.val, by have := t.isLt; have : cfg0.N = 1 := N_0; omega⟩ : Fin 1024) l) := by
  have hN : t.val < 1 := by have := t.isLt; have : cfg0.N = 1 := N_0; omega
  unfold iblk
  rw [View.read_apply]
  refine congrArg (V m c main_v12) (funext fun a => Fin.ext ?_)
  have h := idx0 t
  match a with
  | ⟨0, _⟩ => show win0_0.index t 0 * 8 + 1 * k.val = k.val; rw [h.1] <;> omega
  | ⟨1, _⟩ => show win0_0.index t 1 * 1024 + 1 * r.val = t.val * 1024 + r.val; rw [h.2.1] <;> omega
  | ⟨2, _⟩ => show win0_0.index t 2 * 128 + 1 * l.val = l.val; rw [h.2.2] <;> omega

/-- Where an index of the result's block lies in its array. -/
theorem emb1 (t : Fin cfg0.N) (r : Fin 1024) (l : Fin 128) : ((cfg0.win 1).blk t).view.emb (ix2 r l) = ix2 (⟨t.val * 1024 + r.val, by have := t.isLt; have : cfg0.N = 1 := N_0; omega⟩ : Fin 1024) l := by
  refine funext fun a => Fin.ext ?_
  have h := idx1 t
  match a with
  | ⟨0, _⟩ => show win0_1.index t 0 * 1024 + 1 * r.val = t.val * 1024 + r.val; rw [h.1] <;> omega
  | ⟨1, _⟩ => show win0_1.index t 1 * 128 + 1 * l.val = l.val; rw [h.2] <;> omega

/-- The sum of eight slots. -/
def total (y : Vec Ideal S8x1024x128 .f32) : Vec Ideal S1024x128 .f32 := fun i => ∑ k : Fin 8, y (ix3 k (i 0 : Fin 1024) (i 1 : Fin 128))

/-- The sum of the eight slots of a device. -/
abbrev goal (c : Dev nD) : Buf (Elt Ideal) ((c : Thread nD τ).loc main_v13) :=
  total (V m c main_v12)

/-- What a grid point writes back is its block of the sum. -/
theorem flushed_eq (c : Dev nD) (t : Fin cfg0.N) :
    (dats m 0 c).flushed 1 t = ((cfg0.win 1).blk t).view.read (Elt Ideal) (goal m c) := by
  rw [Value.flushed1]
  funext j
  obtain ⟨r, l, rfl⟩ : ∃ (r : Fin 1024) (l : Fin 128), j = ix2 r l := ⟨j 0, j 1, by idx_ext⟩
  rw [View.read_apply, emb1]
  show out0_1 (iblk m c 0 t) (ix2 r l) = _
  rw [body]
  show _ = total (V m c main_v12) (ix2 _ l)
  unfold total
  exact Finset.sum_congr rfl fun k _ => blk0 m c t k r l

/-- The blocks of the result tile its array. -/
theorem cover (i : S1024x128.Idx) : ∃ t : Fin cfg0.N, (cfg0.win 1).flush t = true ∧ i ∈ ((cfg0.win 1).blk t).view.set := by
  have h0 : (i 0 : Nat) < 1024 := (i 0).isLt
  have h1 : (i 1 : Nat) < 128 := (i 1).isLt
  have hN : cfg0.N = 1 := N_0
  obtain ⟨t, ht⟩ : ∃ t : Fin cfg0.N, t.val = (i 0 : Nat) / 1024 := ⟨⟨_, by omega⟩, rfl⟩
  refine ⟨t, flush0_1 _, ?_⟩
  show i ∈ ((View.whole main_v13).slice (win0_1.rect t)).set
  rw [View.set_slice_whole, Rect.mem_set_unit]
  have h := idx1 t
  intro a
  match a with
  | ⟨0, _⟩ =>
    show win0_1.index t 0 * 1024 ≤ (i 0 : Nat) ∧ (i 0 : Nat) < win0_1.index t 0 * 1024 + 1024
    rw [h.1]; omega
  | ⟨1, _⟩ =>
    show win0_1.index t 1 * 128 ≤ (i 1 : Nat) ∧ (i 1 : Nat) < win0_1.index t 1 * 128 + 128
    rw [h.2]; omega

/-- The reference's sum of weight 0's arrays, as the sum of the devices' rows. -/
theorem piece0 (x : Vec Ideal S8x4x4x512 .f32) :
    Cert.SumSmallRefIdeal.Read.val_main_v1 (F := Ideal) x = fun j => ∑ k : Fin 8, (shapeCast S8x8192 x shapeCasts_S8x4x4x512_S8x8192) (ix2 k (j 0)) := by
  funext j
  rw [Cert.SumSmallRefIdeal.Read.val_main_v1_apply, Cert.SumSmallRefIdeal.Read.val_main_v0_apply]
  show Ideal.ofBits FTy.f32 0x00000000#32 + _ = _
  rw [zero_word, zero_add]
  refine Finset.sum_congr rfl fun k _ => ?_
  refine (shapeCast_apply x _ _ _ ?_).symm
  rewrite [Shape.rowMajor_val_four, Shape.rowMajor_val_two]
  have h0 : (j 0).val < 8192 := (j 0).isLt
  show (((k.val) * 4 + ((j 0).val / 2048)) * 4 + ((j 0).val / 512 % 4)) * 512 + ((j 0).val % 512) = k.val * 8192 + (j 0).val
  omega

/-- The reference's sum of weight 1's arrays, as the sum of the devices' rows. -/
theorem piece1 (x : Vec Ideal S8x2x6x512 .f32) :
    Cert.SumSmallRefIdeal.Read.val_main_v3 (F := Ideal) x = fun j => ∑ k : Fin 8, (shapeCast S8x6144 x shapeCasts_S8x2x6x512_S8x6144) (ix2 k (j 0)) := by
  funext j
  rw [Cert.SumSmallRefIdeal.Read.val_main_v3_apply, Cert.SumSmallRefIdeal.Read.val_main_v2_apply]
  show Ideal.ofBits FTy.f32 0x00000000#32 + _ = _
  rw [zero_word, zero_add]
  refine Finset.sum_congr rfl fun k _ => ?_
  refine (shapeCast_apply x _ _ _ ?_).symm
  rewrite [Shape.rowMajor_val_four, Shape.rowMajor_val_two]
  have h0 : (j 0).val < 6144 := (j 0).isLt
  show (((k.val) * 2 + ((j 0).val / 3072)) * 6 + ((j 0).val / 512 % 6)) * 512 + ((j 0).val % 512) = k.val * 6144 + (j 0).val
  omega

/-- The reference's sum of weight 2's arrays, as the sum of the devices' rows. -/
theorem piece2 (x : Vec Ideal S8x2x512 .f32) :
    Cert.SumSmallRefIdeal.Read.val_main_v5 (F := Ideal) x = fun j => ∑ k : Fin 8, (shapeCast S8x1024 x shapeCasts_S8x2x512_S8x1024) (ix2 k (j 0)) := by
  funext j
  rw [Cert.SumSmallRefIdeal.Read.val_main_v5_apply, Cert.SumSmallRefIdeal.Read.val_main_v4_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 1024 := (j 0).isLt
  show ((k.val) * 2 + ((j 0).val / 512)) * 512 + ((j 0).val % 512) = k.val * 1024 + (j 0).val
  omega

/-- The reference's sum of weight 3's arrays, as the sum of the devices' rows. -/
theorem piece3 (x : Vec Ideal S8x2x512 .f32) :
    Cert.SumSmallRefIdeal.Read.val_main_v7 (F := Ideal) x = fun j => ∑ k : Fin 8, (shapeCast S8x1024 x shapeCasts_S8x2x512_S8x1024) (ix2 k (j 0)) := by
  funext j
  rw [Cert.SumSmallRefIdeal.Read.val_main_v7_apply, Cert.SumSmallRefIdeal.Read.val_main_v6_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 1024 := (j 0).isLt
  show ((k.val) * 2 + ((j 0).val / 512)) * 512 + ((j 0).val % 512) = k.val * 1024 + (j 0).val
  omega

/-- The reference's sum of weight 4's arrays, as the sum of the devices' rows. -/
theorem piece4 (x : Vec Ideal S8x2x512 .f32) :
    Cert.SumSmallRefIdeal.Read.val_main_v9 (F := Ideal) x = fun j => ∑ k : Fin 8, (shapeCast S8x1024 x shapeCasts_S8x2x512_S8x1024) (ix2 k (j 0)) := by
  funext j
  rw [Cert.SumSmallRefIdeal.Read.val_main_v9_apply, Cert.SumSmallRefIdeal.Read.val_main_v8_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 1024 := (j 0).isLt
  show ((k.val) * 2 + ((j 0).val / 512)) * 512 + ((j 0).val % 512) = k.val * 1024 + (j 0).val
  omega

/-- The reference's sum of weight 5's arrays, as the sum of the devices' rows. -/
theorem piece5 (x : Vec Ideal S8x2x512 .f32) :
    Cert.SumSmallRefIdeal.Read.val_main_v11 (F := Ideal) x = fun j => ∑ k : Fin 8, (shapeCast S8x1024 x shapeCasts_S8x2x512_S8x1024) (ix2 k (j 0)) := by
  funext j
  rw [Cert.SumSmallRefIdeal.Read.val_main_v11_apply, Cert.SumSmallRefIdeal.Read.val_main_v10_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 1024 := (j 0).isLt
  show ((k.val) * 2 + ((j 0).val / 512)) * 512 + ((j 0).val % 512) = k.val * 1024 + (j 0).val
  omega

/-- The reference's sum of weight 6's arrays, as the sum of the devices' rows. -/
theorem piece6 (x : Vec Ideal S8x2x512 .f32) :
    Cert.SumSmallRefIdeal.Read.val_main_v13 (F := Ideal) x = fun j => ∑ k : Fin 8, (shapeCast S8x1024 x shapeCasts_S8x2x512_S8x1024) (ix2 k (j 0)) := by
  funext j
  rw [Cert.SumSmallRefIdeal.Read.val_main_v13_apply, Cert.SumSmallRefIdeal.Read.val_main_v12_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 1024 := (j 0).isLt
  show ((k.val) * 2 + ((j 0).val / 512)) * 512 + ((j 0).val % 512) = k.val * 1024 + (j 0).val
  omega

/-- The reference's sum of weight 7's arrays, as the sum of the devices' rows. -/
theorem piece7 (x : Vec Ideal S8x2x512 .f32) :
    Cert.SumSmallRefIdeal.Read.val_main_v15 (F := Ideal) x = fun j => ∑ k : Fin 8, (shapeCast S8x1024 x shapeCasts_S8x2x512_S8x1024) (ix2 k (j 0)) := by
  funext j
  rw [Cert.SumSmallRefIdeal.Read.val_main_v15_apply, Cert.SumSmallRefIdeal.Read.val_main_v14_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 1024 := (j 0).isLt
  show ((k.val) * 2 + ((j 0).val / 512)) * 512 + ((j 0).val % 512) = k.val * 1024 + (j 0).val
  omega

/-- The reference's sum of weight 8's arrays, as the sum of the devices' rows. -/
theorem piece8 (x : Vec Ideal S8x1x512 .f32) :
    Cert.SumSmallRefIdeal.Read.val_main_v17 (F := Ideal) x = fun j => ∑ k : Fin 8, (shapeCast S8x512 x shapeCasts_S8x1x512_S8x512) (ix2 k (j 0)) := by
  funext j
  rw [Cert.SumSmallRefIdeal.Read.val_main_v17_apply, Cert.SumSmallRefIdeal.Read.val_main_v16_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 512 := (j 0).isLt
  show ((k.val) * 1 + (0)) * 512 + ((j 0).val % 512) = k.val * 512 + (j 0).val
  omega

/-- The reference's joined sums are the sums of the devices' rows. -/
theorem ref20 (x0 : Vec Ideal S8x4x4x512 .f32) (x1 : Vec Ideal S8x2x6x512 .f32) (x2 : Vec Ideal S8x2x512 .f32) (x3 : Vec Ideal S8x2x512 .f32) (x4 : Vec Ideal S8x2x512 .f32) (x5 : Vec Ideal S8x2x512 .f32) (x6 : Vec Ideal S8x2x512 .f32) (x7 : Vec Ideal S8x2x512 .f32) (x8 : Vec Ideal S8x1x512 .f32) :
    Cert.SumSmallRefIdeal.Read.val_main_v20 (F := Ideal) x0 x1 x2 x3 x4 x5 x6 x7 x8 = fun i => ∑ k : Fin 8, rows x0 x1 x2 x3 x4 x5 x6 x7 x8 (ix2 k (i 0)) := by
  unfold Cert.SumSmallRefIdeal.Read.val_main_v20 Cert.SumSmallRefIdeal.Read.val_main_v18
  rw [piece0, piece1, piece2, piece3, piece4, piece5, piece6, piece7, piece8]
  exact Cert.Sum.packed 20992 110080 131072 [⟨8192, shapeCast S8x8192 x0 shapeCasts_S8x4x4x512_S8x8192⟩, ⟨6144, shapeCast S8x6144 x1 shapeCasts_S8x2x6x512_S8x6144⟩, ⟨1024, shapeCast S8x1024 x2 shapeCasts_S8x2x512_S8x1024⟩, ⟨1024, shapeCast S8x1024 x3 shapeCasts_S8x2x512_S8x1024⟩, ⟨1024, shapeCast S8x1024 x4 shapeCasts_S8x2x512_S8x1024⟩, ⟨1024, shapeCast S8x1024 x5 shapeCasts_S8x2x512_S8x1024⟩, ⟨1024, shapeCast S8x1024 x6 shapeCasts_S8x2x512_S8x1024⟩, ⟨1024, shapeCast S8x1024 x7 shapeCasts_S8x2x512_S8x1024⟩, ⟨512, shapeCast S8x512 x8 shapeCasts_S8x1x512_S8x512⟩]
    (Cert.SumSmallRefIdeal.Read.val_main_v19 (F := Ideal)) fill (fun _ => zero_word) (fun _ => zero_word) _ concatenates_S8x8192_S8x6144_S8x1024_S8x1024_S8x1024_S8x1024_S8x1024_S8x1024_S8x512_S8x20992_d1 _ concatenates_S8x20992_S8x110080_S8x131072_d1

/-- The reference's result is the sum of the devices' slots. -/
theorem ref21 (x0 : Vec Ideal S8x4x4x512 .f32) (x1 : Vec Ideal S8x2x6x512 .f32) (x2 : Vec Ideal S8x2x512 .f32) (x3 : Vec Ideal S8x2x512 .f32) (x4 : Vec Ideal S8x2x512 .f32) (x5 : Vec Ideal S8x2x512 .f32) (x6 : Vec Ideal S8x2x512 .f32) (x7 : Vec Ideal S8x2x512 .f32) (x8 : Vec Ideal S8x1x512 .f32) :
    Cert.SumSmallRefIdeal.Read.val_main_v21 (F := Ideal) x0 x1 x2 x3 x4 x5 x6 x7 x8 = total (slots x0 x1 x2 x3 x4 x5 x6 x7 x8) := by
  funext i
  rw [Cert.SumSmallRefIdeal.Read.val_main_v21_apply, ref20]
  unfold total
  refine Finset.sum_congr rfl fun k _ => ?_
  unfold slots
  generalize rows x0 x1 x2 x3 x4 x5 x6 x7 x8 = y
  refine (shapeCast_apply y _ _ _ ?_).symm
  rewrite [Shape.rowMajor_val_three, Shape.rowMajor_val_two]
  show k.val * 131072 + ((i 0).val * 128 + (i 1).val) = (k.val * 1024 + (i 0).val) * 128 + (i 1).val
  omega

end Cert.SumSmallIdeal.Val

namespace Cert.Claims

set_option maxHeartbeats 2000000 in
open Cert.SumSmallIdeal Cert.SumSmallIdeal.Gen Cert.SumSmallIdeal.Val in
/-- The sum over the devices of the small sharded weights' gradients and its reference end with equal results. -/
theorem sum_small : Cert.algebraic_SumSmallIdeal_SumSmallRefIdeal (hSumSmallIdeal := Cert.SumSmallIdeal.Gen.facts) (hSumSmallRefIdeal := Cert.SumSmallRefIdeal.Gen.facts) := by
  intro m g m' g' _ hargs
  refine ⟨fun c => goal m c,
    (θ_run _ _ _).mono (fun r h c => ⟨(h c).1.trans ?_, (h c).2⟩) (Cert.SumSmallIdeal.Value.run_blocks m g),
    (θ_run _ _ _).mono (fun r h c => ⟨(h c).1.trans ?_, (h c).2⟩) (Cert.SumSmallRefIdeal.Value.run m' g')⟩
  · exact (Cert.SumSmallIdeal.Gen.dats m 0 c).arrAt_eq_of_cover 1 (goal m c) (fun t _ => flushed_eq m c t) cover
  · refine (Cert.SumSmallRefIdeal.Read.val_main_v21_eq _ _ _ _ _ _ _ _ _).trans ?_
    refine (ref21 _ _ _ _ _ _ _ _ _).trans ?_
    show _ = total (V m c main_v12)
    rw [V_slots, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2]

end Cert.Claims
-- ==== Proof.SumRepVal.lean ====
/-
  The sum over the devices of the replicated weights' gradients, packed into one array: every entry is the sum of the devices' entries.
-/
module

public import proofs.«01_k».proof.Defs
public import proofs.«01_k».proof.Proof.SumSlots
public import proofs.«01_k».proof.Proof.Gen.SumRepIdeal.Value
public import proofs.«01_k».proof.Proof.Gen.SumRepRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.SumRepIdeal.Val

open Cert.SumRepIdeal Cert.SumRepIdeal.Gen

variable (m : (ℓ : Loc nD τ sig) → Buf (Elt Ideal) ℓ)

theorem hz2 : (![0, 0] : Fin 2 → Nat) = fun _ => 0 := funext fun a => by fin_cases a <;> rfl

theorem zero_word : Ideal.ofBits FTy.f32 0x00000000#32 = 0 := by simp [Ideal.ofBits, Ideal.ieee]

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The zeros that fill the eight packed rows. -/
abbrev fill : Vec Ideal S8x114688 .f32 := broadcastInDim S8x114688 ![] bcast_S_S8x114688 (constant (F := Ideal) S_ .f32 0x00000000#32)

/-- The eight devices' arrays, joined and filled with zeros, one row for each device. -/
abbrev rows (x0 : Vec Ideal S8x2048 .f32) (x1 : Vec Ideal S8x2x1024 .f32) (x2 : Vec Ideal S8x2x8x128x128 .f32) (x3 : Vec Ideal S8x2x8x128 .f32) (x4 : Vec Ideal S8x2x1024 .f32) (x5 : Vec Ideal S8x4x1024 .f32) (x6 : Vec Ideal S8x2x32x64 .f32) : Vec Ideal S8x393216 .f32 :=
  concatenate S8x393216 1 [⟨S8x278528, concatenate S8x278528 1 [⟨S8x2048, x0⟩, ⟨S8x2048, shapeCast S8x2048 x1 shapeCasts_S8x2x1024_S8x2048⟩, ⟨S8x262144, shapeCast S8x262144 x2 shapeCasts_S8x2x8x128x128_S8x262144⟩, ⟨S8x2048, shapeCast S8x2048 x3 shapeCasts_S8x2x8x128_S8x2048⟩, ⟨S8x2048, shapeCast S8x2048 x4 shapeCasts_S8x2x1024_S8x2048⟩, ⟨S8x4096, shapeCast S8x4096 x5 shapeCasts_S8x4x1024_S8x4096⟩, ⟨S8x4096, shapeCast S8x4096 x6 shapeCasts_S8x2x32x64_S8x4096⟩]
    concatenates_S8x2048_S8x2048_S8x262144_S8x2048_S8x2048_S8x4096_S8x4096_S8x278528_d1⟩, ⟨S8x114688, fill⟩] concatenates_S8x278528_S8x114688_S8x393216_d1

/-- The rows of the devices, each in rows of 128. -/
abbrev slots (x0 : Vec Ideal S8x2048 .f32) (x1 : Vec Ideal S8x2x1024 .f32) (x2 : Vec Ideal S8x2x8x128x128 .f32) (x3 : Vec Ideal S8x2x8x128 .f32) (x4 : Vec Ideal S8x2x1024 .f32) (x5 : Vec Ideal S8x4x1024 .f32) (x6 : Vec Ideal S8x2x32x64 .f32) : Vec Ideal S8x3072x128 .f32 :=
  shapeCast S8x3072x128 (rows x0 x1 x2 x3 x4 x5 x6) shapeCasts_S8x393216_S8x3072x128

theorem V_slots (c : Dev nD) : V m c main_v9 = slots (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold V
  after_reads_simp
  rfl

/-- The body's result at an index: the sum of the eight slots. -/
theorem body (x : Vec Ideal S8x1024x128 .f32) (r : Fin 1024) (l : Fin 128) : out0_1 x (ix2 r l) = ∑ k : Fin 8, x (ix3 k r l) := by
  unfold out0_1
  rw [View.canon_unit_zero hz2, Fin.sum_univ_eight]
  pointwise [k0_pay1] <;> rfl

/-- The block of slots at a grid point, read at an index. -/
theorem blk0 (c : Dev nD) (t : Fin cfg0.N) (k : Fin 8) (r : Fin 1024) (l : Fin 128) :
    iblk m c 0 t (ix3 k r l) = V m c main_v9 (ix3 k (⟨t.val * 1024 + r.val, by have := t.isLt; have : cfg0.N = 3 := N_0; omega⟩ : Fin 3072) l) := by
  have hN : t.val < 3 := by have := t.isLt; have : cfg0.N = 3 := N_0; omega
  unfold iblk
  rw [View.read_apply]
  refine congrArg (V m c main_v9) (funext fun a => Fin.ext ?_)
  have h := idx0 t
  match a with
  | ⟨0, _⟩ => show win0_0.index t 0 * 8 + 1 * k.val = k.val; rw [h.1] <;> omega
  | ⟨1, _⟩ => show win0_0.index t 1 * 1024 + 1 * r.val = t.val * 1024 + r.val; rw [h.2.1] <;> omega
  | ⟨2, _⟩ => show win0_0.index t 2 * 128 + 1 * l.val = l.val; rw [h.2.2] <;> omega

/-- Where an index of the result's block lies in its array. -/
theorem emb1 (t : Fin cfg0.N) (r : Fin 1024) (l : Fin 128) : ((cfg0.win 1).blk t).view.emb (ix2 r l) = ix2 (⟨t.val * 1024 + r.val, by have := t.isLt; have : cfg0.N = 3 := N_0; omega⟩ : Fin 3072) l := by
  refine funext fun a => Fin.ext ?_
  have h := idx1 t
  match a with
  | ⟨0, _⟩ => show win0_1.index t 0 * 1024 + 1 * r.val = t.val * 1024 + r.val; rw [h.1] <;> omega
  | ⟨1, _⟩ => show win0_1.index t 1 * 128 + 1 * l.val = l.val; rw [h.2] <;> omega

/-- The sum of eight slots. -/
def total (y : Vec Ideal S8x3072x128 .f32) : Vec Ideal S3072x128 .f32 := fun i => ∑ k : Fin 8, y (ix3 k (i 0 : Fin 3072) (i 1 : Fin 128))

/-- The sum of the eight slots of a device. -/
abbrev goal (c : Dev nD) : Buf (Elt Ideal) ((c : Thread nD τ).loc main_v10) :=
  total (V m c main_v9)

/-- What a grid point writes back is its block of the sum. -/
theorem flushed_eq (c : Dev nD) (t : Fin cfg0.N) :
    (dats m 0 c).flushed 1 t = ((cfg0.win 1).blk t).view.read (Elt Ideal) (goal m c) := by
  rw [Value.flushed1]
  funext j
  obtain ⟨r, l, rfl⟩ : ∃ (r : Fin 1024) (l : Fin 128), j = ix2 r l := ⟨j 0, j 1, by idx_ext⟩
  rw [View.read_apply, emb1]
  show out0_1 (iblk m c 0 t) (ix2 r l) = _
  rw [body]
  show _ = total (V m c main_v9) (ix2 _ l)
  unfold total
  exact Finset.sum_congr rfl fun k _ => blk0 m c t k r l

/-- The blocks of the result tile its array. -/
theorem cover (i : S3072x128.Idx) : ∃ t : Fin cfg0.N, (cfg0.win 1).flush t = true ∧ i ∈ ((cfg0.win 1).blk t).view.set := by
  have h0 : (i 0 : Nat) < 3072 := (i 0).isLt
  have h1 : (i 1 : Nat) < 128 := (i 1).isLt
  have hN : cfg0.N = 3 := N_0
  obtain ⟨t, ht⟩ : ∃ t : Fin cfg0.N, t.val = (i 0 : Nat) / 1024 := ⟨⟨_, by omega⟩, rfl⟩
  refine ⟨t, flush0_1 _, ?_⟩
  show i ∈ ((View.whole main_v10).slice (win0_1.rect t)).set
  rw [View.set_slice_whole, Rect.mem_set_unit]
  have h := idx1 t
  intro a
  match a with
  | ⟨0, _⟩ =>
    show win0_1.index t 0 * 1024 ≤ (i 0 : Nat) ∧ (i 0 : Nat) < win0_1.index t 0 * 1024 + 1024
    rw [h.1]; omega
  | ⟨1, _⟩ =>
    show win0_1.index t 1 * 128 ≤ (i 1 : Nat) ∧ (i 1 : Nat) < win0_1.index t 1 * 128 + 128
    rw [h.2]; omega

/-- The reference's sum of weight 0's arrays, as the sum of the devices' rows. -/
theorem piece0 (x : Vec Ideal S8x2048 .f32) :
    Cert.SumRepRefIdeal.Read.val_main_v0 (F := Ideal) x = fun j => ∑ k : Fin 8, x (ix2 k (j 0)) := by
  funext j
  rw [Cert.SumRepRefIdeal.Read.val_main_v0_apply]
  show Ideal.ofBits FTy.f32 0x00000000#32 + _ = _
  rw [zero_word, zero_add]
  exact Finset.sum_congr rfl fun k _ => congrArg x (funext fun a => Fin.ext (by match a with | ⟨0, _⟩ => rfl | ⟨1, _⟩ => rfl))

/-- The reference's sum of weight 1's arrays, as the sum of the devices' rows. -/
theorem piece1 (x : Vec Ideal S8x2x1024 .f32) :
    Cert.SumRepRefIdeal.Read.val_main_v2 (F := Ideal) x = fun j => ∑ k : Fin 8, (shapeCast S8x2048 x shapeCasts_S8x2x1024_S8x2048) (ix2 k (j 0)) := by
  funext j
  rw [Cert.SumRepRefIdeal.Read.val_main_v2_apply, Cert.SumRepRefIdeal.Read.val_main_v1_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 2048 := (j 0).isLt
  show ((k.val) * 2 + ((j 0).val / 1024)) * 1024 + ((j 0).val % 1024) = k.val * 2048 + (j 0).val
  omega

/-- The reference's sum of weight 2's arrays, as the sum of the devices' rows. -/
theorem piece2 (x : Vec Ideal S8x2x8x128x128 .f32) :
    Cert.SumRepRefIdeal.Read.val_main_v4 (F := Ideal) x = fun j => ∑ k : Fin 8, (shapeCast S8x262144 x shapeCasts_S8x2x8x128x128_S8x262144) (ix2 k (j 0)) := by
  funext j
  rw [Cert.SumRepRefIdeal.Read.val_main_v4_apply, Cert.SumRepRefIdeal.Read.val_main_v3_apply]
  show Ideal.ofBits FTy.f32 0x00000000#32 + _ = _
  rw [zero_word, zero_add]
  refine Finset.sum_congr rfl fun k _ => ?_
  refine (shapeCast_apply x _ _ _ ?_).symm
  rewrite [Shape.rowMajor_val_five, Shape.rowMajor_val_two]
  have h0 : (j 0).val < 262144 := (j 0).isLt
  show ((((k.val) * 2 + ((j 0).val / 131072)) * 8 + ((j 0).val / 16384 % 8)) * 128 + ((j 0).val / 128 % 128)) * 128 + ((j 0).val % 128) = k.val * 262144 + (j 0).val
  omega

/-- The reference's sum of weight 3's arrays, as the sum of the devices' rows. -/
theorem piece3 (x : Vec Ideal S8x2x8x128 .f32) :
    Cert.SumRepRefIdeal.Read.val_main_v6 (F := Ideal) x = fun j => ∑ k : Fin 8, (shapeCast S8x2048 x shapeCasts_S8x2x8x128_S8x2048) (ix2 k (j 0)) := by
  funext j
  rw [Cert.SumRepRefIdeal.Read.val_main_v6_apply, Cert.SumRepRefIdeal.Read.val_main_v5_apply]
  show Ideal.ofBits FTy.f32 0x00000000#32 + _ = _
  rw [zero_word, zero_add]
  refine Finset.sum_congr rfl fun k _ => ?_
  refine (shapeCast_apply x _ _ _ ?_).symm
  rewrite [Shape.rowMajor_val_four, Shape.rowMajor_val_two]
  have h0 : (j 0).val < 2048 := (j 0).isLt
  show (((k.val) * 2 + ((j 0).val / 1024)) * 8 + ((j 0).val / 128 % 8)) * 128 + ((j 0).val % 128) = k.val * 2048 + (j 0).val
  omega

/-- The reference's sum of weight 4's arrays, as the sum of the devices' rows. -/
theorem piece4 (x : Vec Ideal S8x2x1024 .f32) :
    Cert.SumRepRefIdeal.Read.val_main_v8 (F := Ideal) x = fun j => ∑ k : Fin 8, (shapeCast S8x2048 x shapeCasts_S8x2x1024_S8x2048) (ix2 k (j 0)) := by
  funext j
  rw [Cert.SumRepRefIdeal.Read.val_main_v8_apply, Cert.SumRepRefIdeal.Read.val_main_v7_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 2048 := (j 0).isLt
  show ((k.val) * 2 + ((j 0).val / 1024)) * 1024 + ((j 0).val % 1024) = k.val * 2048 + (j 0).val
  omega

/-- The reference's sum of weight 5's arrays, as the sum of the devices' rows. -/
theorem piece5 (x : Vec Ideal S8x4x1024 .f32) :
    Cert.SumRepRefIdeal.Read.val_main_v10 (F := Ideal) x = fun j => ∑ k : Fin 8, (shapeCast S8x4096 x shapeCasts_S8x4x1024_S8x4096) (ix2 k (j 0)) := by
  funext j
  rw [Cert.SumRepRefIdeal.Read.val_main_v10_apply, Cert.SumRepRefIdeal.Read.val_main_v9_apply]
  show Ideal.ofBits FTy.f32 0x00000000#32 + _ = _
  rw [zero_word, zero_add]
  refine Finset.sum_congr rfl fun k _ => ?_
  refine (shapeCast_apply x _ _ _ ?_).symm
  rewrite [Shape.rowMajor_val_three, Shape.rowMajor_val_two]
  have h0 : (j 0).val < 4096 := (j 0).isLt
  show ((k.val) * 4 + ((j 0).val / 1024)) * 1024 + ((j 0).val % 1024) = k.val * 4096 + (j 0).val
  omega

/-- The reference's sum of weight 6's arrays, as the sum of the devices' rows. -/
theorem piece6 (x : Vec Ideal S8x2x32x64 .f32) :
    Cert.SumRepRefIdeal.Read.val_main_v12 (F := Ideal) x = fun j => ∑ k : Fin 8, (shapeCast S8x4096 x shapeCasts_S8x2x32x64_S8x4096) (ix2 k (j 0)) := by
  funext j
  rw [Cert.SumRepRefIdeal.Read.val_main_v12_apply, Cert.SumRepRefIdeal.Read.val_main_v11_apply]
  show Ideal.ofBits FTy.f32 0x00000000#32 + _ = _
  rw [zero_word, zero_add]
  refine Finset.sum_congr rfl fun k _ => ?_
  refine (shapeCast_apply x _ _ _ ?_).symm
  rewrite [Shape.rowMajor_val_four, Shape.rowMajor_val_two]
  have h0 : (j 0).val < 4096 := (j 0).isLt
  show (((k.val) * 2 + ((j 0).val / 2048)) * 32 + ((j 0).val / 64 % 32)) * 64 + ((j 0).val % 64) = k.val * 4096 + (j 0).val
  omega

/-- The reference's joined sums are the sums of the devices' rows. -/
theorem ref15 (x0 : Vec Ideal S8x2048 .f32) (x1 : Vec Ideal S8x2x1024 .f32) (x2 : Vec Ideal S8x2x8x128x128 .f32) (x3 : Vec Ideal S8x2x8x128 .f32) (x4 : Vec Ideal S8x2x1024 .f32) (x5 : Vec Ideal S8x4x1024 .f32) (x6 : Vec Ideal S8x2x32x64 .f32) :
    Cert.SumRepRefIdeal.Read.val_main_v15 (F := Ideal) x0 x1 x2 x3 x4 x5 x6 = fun i => ∑ k : Fin 8, rows x0 x1 x2 x3 x4 x5 x6 (ix2 k (i 0)) := by
  unfold Cert.SumRepRefIdeal.Read.val_main_v15 Cert.SumRepRefIdeal.Read.val_main_v13
  rw [piece0, piece1, piece2, piece3, piece4, piece5, piece6]
  exact Cert.Sum.packed 278528 114688 393216 [⟨2048, x0⟩, ⟨2048, shapeCast S8x2048 x1 shapeCasts_S8x2x1024_S8x2048⟩, ⟨262144, shapeCast S8x262144 x2 shapeCasts_S8x2x8x128x128_S8x262144⟩, ⟨2048, shapeCast S8x2048 x3 shapeCasts_S8x2x8x128_S8x2048⟩, ⟨2048, shapeCast S8x2048 x4 shapeCasts_S8x2x1024_S8x2048⟩, ⟨4096, shapeCast S8x4096 x5 shapeCasts_S8x4x1024_S8x4096⟩, ⟨4096, shapeCast S8x4096 x6 shapeCasts_S8x2x32x64_S8x4096⟩]
    (Cert.SumRepRefIdeal.Read.val_main_v14 (F := Ideal)) fill (fun _ => zero_word) (fun _ => zero_word) _ concatenates_S8x2048_S8x2048_S8x262144_S8x2048_S8x2048_S8x4096_S8x4096_S8x278528_d1 _ concatenates_S8x278528_S8x114688_S8x393216_d1

/-- The reference's result is the sum of the devices' slots. -/
theorem ref16 (x0 : Vec Ideal S8x2048 .f32) (x1 : Vec Ideal S8x2x1024 .f32) (x2 : Vec Ideal S8x2x8x128x128 .f32) (x3 : Vec Ideal S8x2x8x128 .f32) (x4 : Vec Ideal S8x2x1024 .f32) (x5 : Vec Ideal S8x4x1024 .f32) (x6 : Vec Ideal S8x2x32x64 .f32) :
    Cert.SumRepRefIdeal.Read.val_main_v16 (F := Ideal) x0 x1 x2 x3 x4 x5 x6 = total (slots x0 x1 x2 x3 x4 x5 x6) := by
  funext i
  rw [Cert.SumRepRefIdeal.Read.val_main_v16_apply, ref15]
  unfold total
  refine Finset.sum_congr rfl fun k _ => ?_
  unfold slots
  generalize rows x0 x1 x2 x3 x4 x5 x6 = y
  refine (shapeCast_apply y _ _ _ ?_).symm
  rewrite [Shape.rowMajor_val_three, Shape.rowMajor_val_two]
  show k.val * 393216 + ((i 0).val * 128 + (i 1).val) = (k.val * 3072 + (i 0).val) * 128 + (i 1).val
  omega

end Cert.SumRepIdeal.Val

namespace Cert.Claims

set_option maxHeartbeats 2000000 in
open Cert.SumRepIdeal Cert.SumRepIdeal.Gen Cert.SumRepIdeal.Val in
/-- The sum over the devices of the replicated weights' gradients and its reference end with equal results. -/
theorem sum_rep : Cert.algebraic_SumRepIdeal_SumRepRefIdeal (hSumRepIdeal := Cert.SumRepIdeal.Gen.facts) (hSumRepRefIdeal := Cert.SumRepRefIdeal.Gen.facts) := by
  intro m g m' g' _ hargs
  refine ⟨fun c => goal m c,
    (θ_run _ _ _).mono (fun r h c => ⟨(h c).1.trans ?_, (h c).2⟩) (Cert.SumRepIdeal.Value.run_blocks m g),
    (θ_run _ _ _).mono (fun r h c => ⟨(h c).1.trans ?_, (h c).2⟩) (Cert.SumRepRefIdeal.Value.run m' g')⟩
  · exact (Cert.SumRepIdeal.Gen.dats m 0 c).arrAt_eq_of_cover 1 (goal m c) (fun t _ => flushed_eq m c t) cover
  · refine (Cert.SumRepRefIdeal.Read.val_main_v16_eq _ _ _ _ _ _ _).trans ?_
    refine (ref16 _ _ _ _ _ _ _).trans ?_
    show _ = total (V m c main_v9)
    rw [V_slots, (hargs c).1, (hargs c).2.1, (hargs c).2.2.1, (hargs c).2.2.2.1, (hargs c).2.2.2.2.1, (hargs c).2.2.2.2.2.1, (hargs c).2.2.2.2.2.2]

end Cert.Claims
-- ==== Proof.LossVal.lean ====
/-
  The loss head and its reference: the gradient of the final state block by block, the gradient of the gain and the loss accumulated over the grid.
-/
module

public import proofs.«01_k».proof.Defs
public import proofs.«01_k».proof.Proof.Gen.LossIdeal.Value
public import proofs.«01_k».proof.Proof.Gen.LossRefIdeal.Read
public import proofs.«01_k».proof.Proof.Consts
public import proofs.«01_k».proof.Proof.Finite
public import Idealize.ShloMosaic.Lib.Pipeline.ValueKit.Acc
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossIdeal.Val

open Cert.LossIdeal Cert.LossIdeal.Gen

variable (m : (ℓ : Loc nD τ sig) → Buf (Elt Ideal) ℓ)

/-- Where window 0's block lies at a grid point. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Where window 1's block lies at a grid point. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Where window 2's block lies at a grid point. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Where window 3's block lies at a grid point. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Where window 4's block lies at a grid point. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Where window 5's block lies at a grid point. -/
theorem idx5 : ∀ t : Fin cfg0.N, win0_5.index t 0 = 0 ∧ win0_5.index t 1 = 0 :=
  (by decide +kernel : ∀ t : Fin grid0.N, win0_5.index t 0 = 0 ∧ win0_5.index t 1 = 0)

/-- The gain as a row. -/
theorem V_main_v0 (c : Dev nD) (l : Fin 2048) :
    V m c main_v0 (ix2 (0 : Fin 1) l) = m ((c : Thread nD τ).loc main_arg2) (ix1 l) := by
  unfold V
  after_reads_at

/-- Window 0's block at a grid point, read at an index. -/
theorem blk0 (c : Dev nD) (t : Fin cfg0.N) (r : Fin 128) (l : Fin 2048) :
    iblk m c 0 t (ix2 r l) = m ((c : Thread nD τ).loc main_arg0) (ix2 (⟨t.val * 128 + r.val, by have := t.isLt; have : cfg0.N = 16 := N_0; omega⟩ : Fin 2048) l) := by
  have hN : t.val < 16 := by have := t.isLt; have : cfg0.N = 16 := N_0; omega
  rw [← V_main_arg0 m c]
  unfold iblk
  rw [View.read_apply]
  refine congrArg (V m c main_arg0) (funext fun a => Fin.ext ?_)
  have h := idx0 t
  match a with
  | ⟨0, _⟩ => show win0_0.index t 0 * 128 + 1 * r.val = t.val * 128 + r.val; rw [h.1] <;> omega
  | ⟨1, _⟩ => show win0_0.index t 1 * 2048 + 1 * l.val = l.val; rw [h.2] <;> omega

/-- Window 1's block at a grid point, read at an index. -/
theorem blk1 (c : Dev nD) (t : Fin cfg0.N) (r : Fin 128) (l : Fin 2048) :
    iblk m c 1 t (ix2 r l) = m ((c : Thread nD τ).loc main_arg1) (ix2 (⟨t.val * 128 + r.val, by have := t.isLt; have : cfg0.N = 16 := N_0; omega⟩ : Fin 2048) l) := by
  have hN : t.val < 16 := by have := t.isLt; have : cfg0.N = 16 := N_0; omega
  rw [← V_main_arg1 m c]
  unfold iblk
  rw [View.read_apply]
  refine congrArg (V m c main_arg1) (funext fun a => Fin.ext ?_)
  have h := idx1 t
  match a with
  | ⟨0, _⟩ => show win0_1.index t 0 * 128 + 1 * r.val = t.val * 128 + r.val; rw [h.1] <;> omega
  | ⟨1, _⟩ => show win0_1.index t 1 * 2048 + 1 * l.val = l.val; rw [h.2] <;> omega

/-- Window 2's block at a grid point, read at an index. -/
theorem blk2 (c : Dev nD) (t : Fin cfg0.N) (l : Fin 2048) :
    iblk m c 2 t (ix2 0 l) = m ((c : Thread nD τ).loc main_arg2) (ix1 l) := by
  rw [← V_main_v0 m c l]
  unfold iblk
  rw [View.read_apply]
  refine congrArg (V m c main_v0) (funext fun a => Fin.ext ?_)
  have h := idx2 t
  match a with
  | ⟨0, _⟩ => show win0_2.index t 0 * 1 + 1 * 0 = 0; rw [h.1] <;> omega
  | ⟨1, _⟩ => show win0_2.index t 1 * 2048 + 1 * l.val = l.val; rw [h.2] <;> omega

/-- Where an index of window 3's block lies in its array. -/
theorem emb3 (t : Fin cfg0.N) (r : Fin 128) (l : Fin 2048) : ((cfg0.win 3).blk t).view.emb (ix2 r l) = ix2 (⟨t.val * 128 + r.val, by have := t.isLt; have : cfg0.N = 16 := N_0; omega⟩ : Fin 2048) l := by
  refine funext fun a => Fin.ext ?_
  have h := idx3 t
  match a with
  | ⟨0, _⟩ => show win0_3.index t 0 * 128 + 1 * r.val = t.val * 128 + r.val; rw [h.1] <;> omega
  | ⟨1, _⟩ => show win0_3.index t 1 * 2048 + 1 * l.val = l.val; rw [h.2] <;> omega

/-- Where an index of window 4's block lies in its array. -/
theorem emb4 (t : Fin cfg0.N) (l : Fin 2048) : ((cfg0.win 4).blk t).view.emb (ix2 0 l) = ix2 0 l := by
  refine funext fun a => Fin.ext ?_
  have h := idx4 t
  match a with
  | ⟨0, _⟩ => show win0_4.index t 0 * 1 + 1 * 0 = 0; rw [h.1] <;> omega
  | ⟨1, _⟩ => show win0_4.index t 1 * 2048 + 1 * l.val = l.val; rw [h.2] <;> omega

/-- Where an index of window 5's block lies in its array. -/
theorem emb5 (t : Fin cfg0.N) (l : Fin 128) : ((cfg0.win 5).blk t).view.emb (ix2 0 l) = ix2 0 l := by
  refine funext fun a => Fin.ext ?_
  have h := idx5 t
  match a with
  | ⟨0, _⟩ => show win0_5.index t 0 * 1 + 1 * 0 = 0; rw [h.1] <;> omega
  | ⟨1, _⟩ => show win0_5.index t 1 * 128 + 1 * l.val = l.val; rw [h.2] <;> omega

/-- The words of the constants. -/
theorem inv_width : Ideal.ofBits .f32 0x3A000000#32 = ((1 / 2048 : ℝ) : EReal) := by
  simp [Ideal.ofBits, Ideal.ieee, -EReal.coe_mul]; norm_num
theorem half_inv_width : Ideal.ofBits .f32 0x39800000#32 = ((1 / 4096 : ℝ) : EReal) := by
  simp [Ideal.ofBits, Ideal.ieee, -EReal.coe_mul]; norm_num
theorem half_word : Ideal.ofBits .f32 0x3F000000#32 = ((1 / 2 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num

/-- The inverse root mean square of a row. -/
def rms (x : Fin 2048 → EReal) : EReal :=
  Ideal.rsqrt (Ideal.div (∑ k, x k * x k) (Ideal.ofBits .f32 0x45000000#32) + Ideal.ofBits .f32 0x358637BD#32)

/-- The error of a row at one place: the normalised row less the target. -/
def err (x g y : Fin 2048 → EReal) (l : Fin 2048) : EReal := x l * rms x * g l - y l

/-- The gradient of the state at one place, as the kernel writes it. -/
def kern (x g y : Fin 2048 → EReal) (l : Fin 2048) : EReal :=
  rms x * (err x g y l * Ideal.ofBits .f32 0x3A000000#32 * g l - x l * rms x
    * Ideal.div (∑ k, err x g y k * Ideal.ofBits .f32 0x3A000000#32 * g k * (x k * rms x)) (Ideal.ofBits .f32 0x45000000#32))

/-- The gradient of the loss by the normalised row, as the derivative of the reference's lines. -/
def cot (x g y : Fin 2048 → EReal) (l : Fin 2048) : EReal :=
  Ideal.div (Ideal.ofBits .f32 0x3F000000#32) (Ideal.ofBits .f32 0x45000000#32)
    * (Ideal.ofBits .f32 0x40000000#32 * err x g y l)

/-- The gradient of the state at one place, as the derivative of the reference's lines. -/
def deriv (x g y : Fin 2048 → EReal) (l : Fin 2048) : EReal :=
  cot x g y l * g l * rms x
    + x l * (∑ _x : Fin 1, Ideal.div ((∑ k, x k * (cot x g y k * g k)) * (Ideal.ofBits .f32 0xBF000000#32 * Ideal.div (rms x)
        (Ideal.div (∑ k, x k * x k) (Ideal.ofBits .f32 0x45000000#32) + Ideal.ofBits .f32 0x358637BD#32))) (Ideal.ofBits .f32 0x45000000#32))
    + (∑ _x : Fin 1, Ideal.div ((∑ k, x k * (cot x g y k * g k)) * (Ideal.ofBits .f32 0xBF000000#32 * Ideal.div (rms x)
        (Ideal.div (∑ k, x k * x k) (Ideal.ofBits .f32 0x45000000#32) + Ideal.ofBits .f32 0x358637BD#32))) (Ideal.ofBits .f32 0x45000000#32)) * x l

/-- The gradient by the normalised row is the error over the width. -/
theorem cot_eq (x g y : Fin 2048 → EReal) (l : Fin 2048) : cot x g y l = err x g y l * Ideal.ofBits .f32 0x3A000000#32 := by
  unfold cot
  rw [half_word, two_word, Cert.Facts.width_word, inv_width, Ideal.div_coe (by norm_num), ← mul_assoc, ← EReal.coe_mul,
    ← EReal.coe_mul, mul_comm]
  norm_num

/-- The identity of the two forms over the reals. -/
theorem real_form (d g x S T r : ℝ) (hr : r * r * T = 1) (hT : T ≠ 0) :
    r * (d * g - x * r * (r * S * (1 / 2048)))
      = d * g * r + x * (S * (-(1 / 2) * (r * (1 / T))) * (1 / 2048)) + S * (-(1 / 2) * (r * (1 / T))) * (1 / 2048) * x := by
  have h3 : r * (1 / T) = r * r * r := by
    field_simp
    linear_combination (-r) * hr
  rw [h3]
  ring

/-- The inverse root mean square of a row of reals. -/
theorem rms_real (X : Fin 2048 → ℝ) : ∃ r T : ℝ, r * r * T = 1 ∧ T ≠ 0 ∧ rms (fun k => (X k : EReal)) = (r : EReal)
    ∧ Ideal.div (∑ k, (X k : EReal) * (X k : EReal)) (Ideal.ofBits .f32 0x45000000#32) + Ideal.ofBits .f32 0x358637BD#32 = (T : EReal) := by
  obtain ⟨e, he, hew⟩ := Cert.Facts.eps_word
  have hT : 0 < (∑ k, X k * X k) * (1 / 2048) + e :=
    add_pos_of_nonneg_of_pos (mul_nonneg (Finset.sum_nonneg fun k _ => mul_self_nonneg _) (by norm_num)) he
  have hv : Ideal.div (∑ k, (X k : EReal) * (X k : EReal)) (Ideal.ofBits .f32 0x45000000#32) + Ideal.ofBits .f32 0x358637BD#32
      = (((∑ k, X k * X k) * (1 / 2048) + e : ℝ) : EReal) := by
    rw [Cert.Facts.width_word, hew]
    simp only [← EReal.coe_mul, Cert.Facts.coe_sum]
    rw [Ideal.div_coe (by norm_num), ← EReal.coe_mul, ← EReal.coe_add]
  refine ⟨(Real.sqrt ((∑ k, X k * X k) * (1 / 2048) + e))⁻¹, _, Cert.Facts.inv_sqrt_sq _ hT, hT.ne', ?_, hv⟩
  unfold rms
  rw [hv, Cert.Facts.rsqrt_pos _ hT]

/-- The errors of a row of reals are reals. -/
theorem err_real (x g y : Fin 2048 → EReal) (hx : ∀ k, ∃ a : ℝ, x k = (a : EReal))
    (hg : ∀ k, ∃ a : ℝ, g k = (a : EReal)) (hy : ∀ k, ∃ a : ℝ, y k = (a : EReal)) (l : Fin 2048) : ∃ a : ℝ, err x g y l = (a : EReal) := by
  choose X hX using hx
  obtain rfl : x = fun k => (X k : EReal) := funext hX
  obtain ⟨G, hG⟩ := hg l
  obtain ⟨Y, hY⟩ := hy l
  obtain ⟨r, T, _, _, hrs, _⟩ := rms_real X
  exact ⟨X l * r * G - Y, by unfold err; rw [hrs, hG, hY, ← EReal.coe_mul, ← EReal.coe_mul, ← EReal.coe_sub]⟩

/-- The two forms of the state's gradient agree at reals. -/
theorem kern_deriv (x g y : Fin 2048 → EReal) (l : Fin 2048) (hx : ∀ k, ∃ a : ℝ, x k = (a : EReal))
    (hg : ∀ k, ∃ a : ℝ, g k = (a : EReal)) (hy : ∀ k, ∃ a : ℝ, y k = (a : EReal)) : kern x g y l = deriv x g y l := by
  choose E hE using err_real x g y hx hg hy
  choose X hX using hx
  choose G hG using hg
  obtain rfl : x = fun k => (X k : EReal) := funext hX
  obtain rfl : g = fun k => (G k : EReal) := funext hG
  obtain ⟨r, T, hrT, hT, hrs, hv⟩ := rms_real X
  unfold kern deriv
  simp only [cot_eq, hE]
  rw [hrs, hv, Cert.Facts.width_word, inv_width, Cert.Facts.neg_half_word]
  simp only [← EReal.coe_mul, Cert.Facts.coe_sum, Ideal.div_coe (show (2048 : ℝ) ≠ 0 by norm_num), ← EReal.coe_add, ← EReal.coe_sub,
    Ideal.div_coe hT, Finset.univ_unique, Finset.sum_singleton]
  refine congrArg _ ?_
  have hS : ∑ k, E k * (1 / 2048) * G k * (X k * r) = r * ∑ k, X k * (E k * (1 / 2048) * G k) := by
    rw [Finset.mul_sum]
    exact Finset.sum_congr rfl fun k _ => by ring
  rw [hS]
  exact real_form _ _ _ _ _ _ hrT hT

/-- The reference's gradient of the state at an index. -/
theorem ref50 (x0 x1 : Vec Ideal S2048x2048 .f32) (x2 : Vec Ideal S2048 .f32) (r l : Fin 2048) :
    Cert.LossRefIdeal.Read.val_main_v50 (F := Ideal) x0 x1 x2 (ix2 r l)
      = deriv (fun k => x0 (ix2 r k)) (fun k => x2 (ix1 k)) (fun k => x1 (ix2 r k)) l := by
  unfold Cert.LossRefIdeal.Read.val_main_v50
  pointwise [Cert.LossRefIdeal.Read.val_main_v49, Cert.LossRefIdeal.Read.val_main_v48, Cert.LossRefIdeal.Read.val_main_v47, Cert.LossRefIdeal.Read.val_main_v46, Cert.LossRefIdeal.Read.val_main_v45, Cert.LossRefIdeal.Read.val_main_cst_15, Cert.LossRefIdeal.Read.val_main_v44, Cert.LossRefIdeal.Read.val_main_v43, Cert.LossRefIdeal.Read.val_main_cst_14, Cert.LossRefIdeal.Read.val_main_v42, Cert.LossRefIdeal.Read.val_main_v41, Cert.LossRefIdeal.Read.val_main_v40, Cert.LossRefIdeal.Read.val_main_v39, Cert.LossRefIdeal.Read.val_main_v38, Cert.LossRefIdeal.Read.val_main_cst_13, Cert.LossRefIdeal.Read.val_main_v37, Cert.LossRefIdeal.Read.val_main_v36, Cert.LossRefIdeal.Read.val_main_cst_12, Cert.LossRefIdeal.Read.val_main_v35, Cert.LossRefIdeal.Read.val_main_v34, Cert.LossRefIdeal.Read.val_main_v33, Cert.LossRefIdeal.Read.val_main_v32, Cert.LossRefIdeal.Read.val_main_cst_11, Cert.LossRefIdeal.Read.val_main_v31, Cert.LossRefIdeal.Read.val_main_v30, Cert.LossRefIdeal.Read.val_main_v29, Cert.LossRefIdeal.Read.val_main_v28, Cert.LossRefIdeal.Read.val_main_v27, Cert.LossRefIdeal.Read.val_main_cst_10, Cert.LossRefIdeal.Read.val_main_v26, Cert.LossRefIdeal.Read.val_main_v25, Cert.LossRefIdeal.Read.val_main_cst_9, Cert.LossRefIdeal.Read.val_main_cst_8, Cert.LossRefIdeal.Read.val_main_v24, Cert.LossRefIdeal.Read.val_main_cst_7, Cert.LossRefIdeal.Read.val_main_v23, Cert.LossRefIdeal.Read.val_main_cst_6, Cert.LossRefIdeal.Read.val_main_v22, Cert.LossRefIdeal.Read.val_main_v21, Cert.LossRefIdeal.Read.val_main_cst_5, Cert.LossRefIdeal.Read.val_main_v20, Cert.LossRefIdeal.Read.val_main_cst_4, Cert.LossRefIdeal.Read.val_main_v19, Cert.LossRefIdeal.Read.val_main_v18, Cert.LossRefIdeal.Read.val_main_cst_3, Cert.LossRefIdeal.Read.val_main_v17, Cert.LossRefIdeal.Read.val_main_v16, Cert.LossRefIdeal.Read.val_main_v15, Cert.LossRefIdeal.Read.val_main_v14, Cert.LossRefIdeal.Read.val_main_v13, Cert.LossRefIdeal.Read.val_main_v12, Cert.LossRefIdeal.Read.val_main_v11, Cert.LossRefIdeal.Read.val_main_v10, Cert.LossRefIdeal.Read.val_main_v9, Cert.LossRefIdeal.Read.val_main_cst_2, Cert.LossRefIdeal.Read.val_main_v8, Cert.LossRefIdeal.Read.val_main_v7, Cert.LossRefIdeal.Read.val_main_v6, Cert.LossRefIdeal.Read.val_main_v5, Cert.LossRefIdeal.Read.val_main_cst_1, Cert.LossRefIdeal.Read.val_main_v4, Cert.LossRefIdeal.Read.val_main_v3, Cert.LossRefIdeal.Read.val_main_cst_0, Cert.LossRefIdeal.Read.val_main_v2, Cert.LossRefIdeal.Read.val_main_v1, Cert.LossRefIdeal.Read.val_main_cst, Cert.LossRefIdeal.Read.val_main_v0]
  rfl

/-- One term of the gradient of the gain. -/
def term (x0 x1 : Vec Ideal S2048x2048 .f32) (x2 : Vec Ideal S2048 .f32) (l r : Fin 2048) : EReal :=
  err (fun k => x0 (ix2 r k)) (fun k => x2 (ix1 k)) (fun k => x1 (ix2 r k)) l * Ideal.ofBits .f32 0x3A000000#32
    * (x0 (ix2 r l) * rms fun k => x0 (ix2 r k))

/-- The reference's gradient of the gain at an index. -/
theorem ref51 (x0 x1 : Vec Ideal S2048x2048 .f32) (x2 : Vec Ideal S2048 .f32) (l : Fin 2048) :
    Cert.LossRefIdeal.Read.val_main_v51 (F := Ideal) x0 x1 x2 (ix2 (0 : Fin 1) l) = ∑ r, term x0 x1 x2 l r := by
  rw [← Cert.LossRefIdeal.Read.val_main_v51_eq]
  pointwise []
  simp only [Finset.univ_unique, Finset.sum_singleton]
  refine Finset.sum_congr rfl fun r _ => ?_
  unfold term
  rw [← cot_eq]
  exact mul_comm (x0 (ix2 r l) * rms fun k => x0 (ix2 r k) : EReal) (cot (fun k => x0 (ix2 r k)) (fun k => x2 (ix1 k)) (fun k => x1 (ix2 r k)) l)

/-- A row's sum of squared errors. -/
def square (x0 x1 : Vec Ideal S2048x2048 .f32) (x2 : Vec Ideal S2048 .f32) (r : Fin 2048) : EReal :=
  ∑ l, err (fun k => x0 (ix2 r k)) (fun k => x2 (ix1 k)) (fun k => x1 (ix2 r k)) l * err (fun k => x0 (ix2 r k)) (fun k => x2 (ix1 k)) (fun k => x1 (ix2 r k)) l

/-- The reference's loss. -/
theorem ref52 (x0 x1 : Vec Ideal S2048x2048 .f32) (x2 : Vec Ideal S2048 .f32) (l : Fin 128) :
    Cert.LossRefIdeal.Read.val_main_v52 (F := Ideal) x0 x1 x2 (ix2 (0 : Fin 1) l)
      = Ideal.ofBits .f32 0x3F000000#32 * ∑ r, Ideal.div (square x0 x1 x2 r) (Ideal.ofBits .f32 0x45000000#32) := by
  rw [← Cert.LossRefIdeal.Read.val_main_v52_eq]
  pointwise []
  rfl

/-- The body's gradient of the state at an index. -/
theorem pay10 (x0 x1 : Vec Ideal S128x2048 .f32) (x2 : Vec Ideal S1x2048 .f32) (r : Fin 128) (l : Fin 2048) :
    k0_pay10 x0 x1 x2 (ix2 r l)
      = kern (fun k => x0 (ix2 r k)) (fun k => x2 (ix2 (0 : Fin 1) k)) (fun k => x1 (ix2 r k)) l := by
  pointwise [k0_pay10, k0_pay9, k0_pay8, k0_pay7, k0_pay6, k0_pay5]
  rfl

/-- The body's addition to the gradient of the gain at an index. -/
theorem pay11 (x0 x1 : Vec Ideal S128x2048 .f32) (x2 : Vec Ideal S1x2048 .f32) (l : Fin 2048) :
    k0_pay11 x0 x1 x2 (ix2 (0 : Fin 1) l)
      = ∑ r : Fin 128, err (fun k => x0 (ix2 r k)) (fun k => x2 (ix2 (0 : Fin 1) k)) (fun k => x1 (ix2 r k)) l * Ideal.ofBits .f32 0x3A000000#32
        * (x0 (ix2 r l) * rms fun k => x0 (ix2 r k)) := by
  pointwise [k0_pay11, k0_pay9, k0_pay8, k0_pay7, k0_pay6, k0_pay5]
  rfl

/-- The body's addition to the loss at an index. -/
theorem pay12 (x0 x1 : Vec Ideal S128x2048 .f32) (x2 : Vec Ideal S1x2048 .f32) (l : Fin 128) :
    k0_pay12 x0 x1 x2 (ix2 (0 : Fin 1) l)
      = (∑ r : Fin 128, ∑ l, err (fun k => x0 (ix2 r k)) (fun k => x2 (ix2 (0 : Fin 1) k)) (fun k => x1 (ix2 r k)) l
          * err (fun k => x0 (ix2 r k)) (fun k => x2 (ix2 (0 : Fin 1) k)) (fun k => x1 (ix2 r k)) l) * Ideal.ofBits .f32 0x39800000#32 := by
  pointwise [k0_pay12, k0_pay8, k0_pay7, k0_pay6, k0_pay5]
  rfl

/-- A grid point's addition to the gradient of the gain. -/
def part_gain (c : Dev nD) (n : ℕ) (l : Fin 2048) : EReal :=
  if h : n < cfg0.N then k0_pay11 (iblk m c 0 ⟨n, h⟩) (iblk m c 1 ⟨n, h⟩) (iblk m c 2 ⟨n, h⟩) (ix2 (0 : Fin 1) l) else 0

/-- What the window of the gradient of the gain holds after a point. -/
theorem acc_gain (c : Dev nD) (t : Fin cfg0.N) (h : t.val % 16 = 15) (l : Fin 2048) :
    (outsAt0 m c t.val t.isLt).2.1 (ix2 (0 : Fin 1) l) = 0 + ∑ k ∈ Finset.range (15 + 1), part_gain m c (16 * (t.val / 16) + k) l :=
  Pipeline.eq_sum_of_reset_step_apply_of_mod (N := cfg0.N) (fun n hn (l : Fin 2048) => (outsAt0 m c n hn).2.1 (ix2 (0 : Fin 1) l)) 16 (fun _ => 0) (part_gain m c)
    (fun t h l => by
      rw [outsAt0_A m c t h]
      frame_out
      unfold part_gain
      rw [dif_pos t.isLt]
      show k0_pay3 (F := Ideal) _ _ (ix2 (0 : Fin 1) l) = _
      generalize k0_pay11 (F := Ideal) (iblk m c 0 t) (iblk m c 1 t) (iblk m c 2 t) = w
      pointwise [k0_pay3, k0_pay1])
    (fun t h l => by
      rw [outsAt0_B m c t h]
      frame_out
      unfold part_gain
      rw [dif_pos t.isLt]
      show k0_pay3 (F := Ideal) _ _ (ix2 (0 : Fin 1) l) = _
      generalize k0_pay11 (F := Ideal) (iblk m c 0 t) (iblk m c 1 t) (iblk m c 2 t) = w
      generalize (outsAt0 m c (t.val - 1) (Nat.lt_of_le_of_lt (Nat.sub_le _ _) t.isLt)).2.1 = v
      pointwise [k0_pay3])
    t h l

/-- A grid point's addition to the loss. -/
def part_loss (c : Dev nD) (n : ℕ) (l : Fin 128) : EReal :=
  if h : n < cfg0.N then k0_pay12 (iblk m c 0 ⟨n, h⟩) (iblk m c 1 ⟨n, h⟩) (iblk m c 2 ⟨n, h⟩) (ix2 (0 : Fin 1) l) else 0

/-- What the window of the loss holds after a point. -/
theorem acc_loss (c : Dev nD) (t : Fin cfg0.N) (h : t.val % 16 = 15) (l : Fin 128) :
    (outsAt0 m c t.val t.isLt).2.2 (ix2 (0 : Fin 1) l) = 0 + ∑ k ∈ Finset.range (15 + 1), part_loss m c (16 * (t.val / 16) + k) l :=
  Pipeline.eq_sum_of_reset_step_apply_of_mod (N := cfg0.N) (fun n hn (l : Fin 128) => (outsAt0 m c n hn).2.2 (ix2 (0 : Fin 1) l)) 16 (fun _ => 0) (part_loss m c)
    (fun t h l => by
      rw [outsAt0_A m c t h]
      frame_out
      unfold part_loss
      rw [dif_pos t.isLt]
      show k0_pay4 (F := Ideal) _ _ (ix2 (0 : Fin 1) l) = _
      generalize k0_pay12 (F := Ideal) (iblk m c 0 t) (iblk m c 1 t) (iblk m c 2 t) = w
      pointwise [k0_pay4, k0_pay2])
    (fun t h l => by
      rw [outsAt0_B m c t h]
      frame_out
      unfold part_loss
      rw [dif_pos t.isLt]
      show k0_pay4 (F := Ideal) _ _ (ix2 (0 : Fin 1) l) = _
      generalize k0_pay12 (F := Ideal) (iblk m c 0 t) (iblk m c 1 t) (iblk m c 2 t) = w
      generalize (outsAt0 m c (t.val - 1) (Nat.lt_of_le_of_lt (Nat.sub_le _ _) t.isLt)).2.2 = v
      pointwise [k0_pay4])
    t h l

/-- A grid point's addition to the gradient of the gain over the arguments. -/
theorem part_gain_eq (c : Dev nD) (t : Fin cfg0.N) (l : Fin 2048) :
    part_gain m c t.val l = ∑ r : Fin 128, term (m ((c : Thread nD τ).loc main_arg0)) (m ((c : Thread nD τ).loc main_arg1)) (m ((c : Thread nD τ).loc main_arg2)) l (⟨t.val * 128 + r.val, by have := t.isLt; have : cfg0.N = 16 := N_0; omega⟩ : Fin 2048) := by
  unfold part_gain
  rw [dif_pos t.isLt, pay11]
  refine Finset.sum_congr rfl fun r _ => ?_
  simp only [blk0, blk1, blk2]
  rfl

/-- A grid point's addition to the loss over the arguments. -/
theorem part_loss_eq (c : Dev nD) (t : Fin cfg0.N) (l : Fin 128) :
    part_loss m c t.val l = (∑ r : Fin 128, square (m ((c : Thread nD τ).loc main_arg0)) (m ((c : Thread nD τ).loc main_arg1)) (m ((c : Thread nD τ).loc main_arg2)) (⟨t.val * 128 + r.val, by have := t.isLt; have : cfg0.N = 16 := N_0; omega⟩ : Fin 2048)) * Ideal.ofBits .f32 0x39800000#32 := by
  unfold part_loss
  rw [dif_pos t.isLt, pay12]
  refine congrArg (· * _) (Finset.sum_congr rfl fun r _ => ?_)
  simp only [blk0, blk1, blk2]
  rfl

/-- The reference's result 0 on a device's arguments. -/
abbrev goal3 (c : Dev nD) : Buf (Elt Ideal) ((c : Thread nD τ).loc main_v1_0) :=
  Cert.LossRefIdeal.Read.val_main_v50 (F := Ideal) (m ((c : Thread nD τ).loc main_arg0)) (m ((c : Thread nD τ).loc main_arg1)) (m ((c : Thread nD τ).loc main_arg2))

/-- The reference's result 1 on a device's arguments. -/
abbrev goal4 (c : Dev nD) : Buf (Elt Ideal) ((c : Thread nD τ).loc main_v1_1) :=
  Cert.LossRefIdeal.Read.val_main_v51 (F := Ideal) (m ((c : Thread nD τ).loc main_arg0)) (m ((c : Thread nD τ).loc main_arg1)) (m ((c : Thread nD τ).loc main_arg2))

/-- The reference's result 2 on a device's arguments. -/
abbrev goal5 (c : Dev nD) : Buf (Elt Ideal) ((c : Thread nD τ).loc main_v1_2) :=
  Cert.LossRefIdeal.Read.val_main_v52 (F := Ideal) (m ((c : Thread nD τ).loc main_arg0)) (m ((c : Thread nD τ).loc main_arg1)) (m ((c : Thread nD τ).loc main_arg2))

/-- A device's arguments are arrays of reals. -/
def Reals (c : Dev nD) : Prop :=
  (∀ i : S2048x2048.Idx, ∃ a : ℝ, m ((c : Thread nD τ).loc main_arg0) i = (a : EReal))
    ∧ (∀ i : S2048x2048.Idx, ∃ a : ℝ, m ((c : Thread nD τ).loc main_arg1) i = (a : EReal))
    ∧ ∀ i : S2048.Idx, ∃ a : ℝ, m ((c : Thread nD τ).loc main_arg2) i = (a : EReal)

/-- What a grid point leaves in the first result's buffer. -/
theorem left3 (c : Dev nD) (t : Fin cfg0.N) :
    (outsAt0 m c t.val t.isLt).1 = k0_pay10 (iblk m c 0 t) (iblk m c 1 t) (iblk m c 2 t) := by
  by_cases h : t.val % 16 = 0
  · rw [outsAt0_A m c t h]
    frame_out
  · rw [outsAt0_B m c t h]
    frame_out

/-- What a grid point writes back of the state's gradient is its block of the reference's. -/
theorem flushed_eq3 (c : Dev nD) (hre : Reals m c) (t : Fin cfg0.N) :
    (dats m 0 c).flushed 3 t = ((cfg0.win 3).blk t).view.read (Elt Ideal) (goal3 m c) := by
  rw [Value.flushed3, left3]
  funext j
  obtain ⟨r, l, rfl⟩ : ∃ (r : Fin 128) (l : Fin 2048), j = ix2 r l := ⟨j 0, j 1, by idx_ext⟩
  rw [View.read_apply, emb3]
  show k0_pay10 (F := Ideal) _ _ _ (ix2 r l) = _
  refine Eq.trans ?_ (ref50 _ _ _ _ _).symm
  rw [← kern_deriv _ _ _ _ (fun k => hre.1 _) (fun k => hre.2.2 _) (fun k => hre.2.1 _)]
  rw [pay10]
  simp only [blk0, blk1, blk2]

/-- What the last grid point writes back of the gain's gradient is the reference's. -/
theorem flushed_eq4 (c : Dev nD) (t : Fin cfg0.N) (hf : (cfg0.win 4).flush t = true) :
    (dats m 0 c).flushed 4 t = ((cfg0.win 4).blk t).view.read (Elt Ideal) (goal4 m c) := by
  have hm : t.val % 16 = 15 := (flush0_4 t).mp hf
  have hN : cfg0.N = 16 := N_0
  have ht := t.isLt
  rw [Value.flushed4]
  funext j
  obtain ⟨z, l, rfl⟩ : ∃ (z : Fin 1) (l : Fin 2048), j = ix2 z l := ⟨j 0, j 1, by idx_ext⟩
  obtain rfl : z = 0 := Subsingleton.elim _ _
  rw [View.read_apply, emb4]
  show (outsAt0 m c t.val t.isLt).2.1 (ix2 (0 : Fin 1) l) = _
  refine Eq.trans ?_ (ref51 _ _ _ _).symm
  rw [acc_gain m c t hm, zero_add, Finset.sum_range]
  refine Eq.trans (Finset.sum_congr rfl fun k _ => part_gain_eq m c ⟨16 * (t.val / 16) + k.val, by have := k.isLt; omega⟩ l) ?_
  refine Fin.sum_mul_add_congr (S := 16) (n := 128) (fun s k hl => ?_)
  have hs := s.isLt
  refine congrArg (term _ _ _ _) (Fin.ext ?_)
  show (16 * (t.val / 16) + s.val) * 128 + k.val = s.val * 128 + k.val
  omega

/-- The loss as the reference groups it and as one sum over the rows. -/
theorem loss_rows (q : Fin 2048 → EReal) (hq : ∀ r, ∃ a : ℝ, q r = (a : EReal)) :
    ∑ r, q r * Ideal.ofBits .f32 0x39800000#32
      = Ideal.ofBits .f32 0x3F000000#32 * ∑ r, Ideal.div (q r) (Ideal.ofBits .f32 0x45000000#32) := by
  choose Q hQ using hq
  rw [half_inv_width, half_word, Cert.Facts.width_word]
  simp only [hQ, Ideal.div_coe (show (2048 : ℝ) ≠ 0 by norm_num), ← EReal.coe_mul, Cert.Facts.coe_sum]
  refine congrArg _ ?_
  rw [Finset.mul_sum]
  exact Finset.sum_congr rfl fun r _ => by ring

/-- A tile's sum times a number is the sum of the products, at reals. -/
theorem tile_mul (q : Fin 128 → EReal) (hq : ∀ r, ∃ a : ℝ, q r = (a : EReal)) :
    (∑ r, q r) * Ideal.ofBits .f32 0x39800000#32 = ∑ r, q r * Ideal.ofBits .f32 0x39800000#32 := by
  choose Q hQ using hq
  rw [half_inv_width]
  simp only [hQ, ← EReal.coe_mul, Cert.Facts.coe_sum]
  rw [Finset.sum_mul]

/-- A row's sum of squared errors is a real. -/
theorem square_real (c : Dev nD) (hre : Reals m c) (r : Fin 2048) : ∃ a : ℝ, square (m ((c : Thread nD τ).loc main_arg0)) (m ((c : Thread nD τ).loc main_arg1)) (m ((c : Thread nD τ).loc main_arg2)) r = (a : EReal) := by
  choose E hE using err_real (fun k => m ((c : Thread nD τ).loc main_arg0) (ix2 r k)) (fun k => m ((c : Thread nD τ).loc main_arg2) (ix1 k))
    (fun k => m ((c : Thread nD τ).loc main_arg1) (ix2 r k)) (fun k => hre.1 _) (fun k => hre.2.2 _) (fun k => hre.2.1 _)
  refine ⟨∑ l, E l * E l, ?_⟩
  unfold square
  rw [← Cert.Facts.coe_sum]
  exact Finset.sum_congr rfl fun l _ => by rw [hE l, EReal.coe_mul]

/-- What the last grid point writes back of the loss is the reference's. -/
theorem flushed_eq5 (c : Dev nD) (hre : Reals m c) (t : Fin cfg0.N) (hf : (cfg0.win 5).flush t = true) :
    (dats m 0 c).flushed 5 t = ((cfg0.win 5).blk t).view.read (Elt Ideal) (goal5 m c) := by
  have hm : t.val % 16 = 15 := (flush0_5 t).mp hf
  have hN : cfg0.N = 16 := N_0
  have ht := t.isLt
  rw [Value.flushed5]
  funext j
  obtain ⟨z, l, rfl⟩ : ∃ (z : Fin 1) (l : Fin 128), j = ix2 z l := ⟨j 0, j 1, by idx_ext⟩
  obtain rfl : z = 0 := Subsingleton.elim _ _
  rw [View.read_apply, emb5]
  show (outsAt0 m c t.val t.isLt).2.2 (ix2 (0 : Fin 1) l) = _
  refine Eq.trans ?_ (ref52 _ _ _ _).symm
  refine Eq.trans ?_ (loss_rows _ (square_real m c hre))
  rw [acc_loss m c t hm, zero_add, Finset.sum_range]
  refine Eq.trans (Finset.sum_congr rfl fun k _ => (part_loss_eq m c ⟨16 * (t.val / 16) + k.val, by have := k.isLt; omega⟩ l).trans
    (tile_mul _ fun r => square_real m c hre _)) ?_
  refine Fin.sum_mul_add_congr (S := 16) (n := 128) (fun s k hl => ?_)
  have hs := s.isLt
  refine congrArg (fun r => square (m ((c : Thread nD τ).loc main_arg0)) (m ((c : Thread nD τ).loc main_arg1)) (m ((c : Thread nD τ).loc main_arg2)) r * Ideal.ofBits .f32 0x39800000#32) (Fin.ext ?_)
  show (16 * (t.val / 16) + s.val) * 128 + k.val = s.val * 128 + k.val
  omega

/-- The blocks written back tile window 3's array. -/
theorem cover3 (i : S2048x2048.Idx) :
    ∃ t : Fin cfg0.N, (cfg0.win 3).flush t = true ∧ i ∈ ((cfg0.win 3).blk t).view.set := by
  have h0 : (i 0 : Nat) < 2048 := (i 0).isLt
  have h1 : (i 1 : Nat) < 2048 := (i 1).isLt
  have hN : cfg0.N = 16 := N_0
  obtain ⟨t, ht⟩ : ∃ t : Fin cfg0.N, t.val = (i 0 : Nat) / 128 := ⟨⟨_, by omega⟩, rfl⟩
  refine ⟨t, flush0_3 _, ?_⟩
  show i ∈ ((View.whole main_v1_0).slice (win0_3.rect t)).set
  rw [View.set_slice_whole, Rect.mem_set_unit]
  have h := idx3 t
  intro a
  match a with
  | ⟨0, _⟩ =>
    show win0_3.index t 0 * 128 ≤ (i 0 : Nat) ∧ (i 0 : Nat) < win0_3.index t 0 * 128 + 128
    rw [h.1]; omega
  | ⟨1, _⟩ =>
    show win0_3.index t 1 * 2048 ≤ (i 1 : Nat) ∧ (i 1 : Nat) < win0_3.index t 1 * 2048 + 2048
    rw [h.2]; omega

/-- The last block written back is window 4's array. -/
theorem cover4 (i : S1x2048.Idx) :
    ∃ t : Fin cfg0.N, (cfg0.win 4).flush t = true ∧ i ∈ ((cfg0.win 4).blk t).view.set := by
  have h0 : (i 0 : Nat) < 1 := (i 0).isLt
  have h1 : (i 1 : Nat) < 2048 := (i 1).isLt
  have hN : cfg0.N = 16 := N_0
  obtain ⟨t, ht⟩ : ∃ t : Fin cfg0.N, t.val = 15 := ⟨⟨_, by omega⟩, rfl⟩
  refine ⟨t, (flush0_4 _).mpr (by omega), ?_⟩
  show i ∈ ((View.whole main_v1_1).slice (win0_4.rect t)).set
  rw [View.set_slice_whole, Rect.mem_set_unit]
  have h := idx4 t
  intro a
  match a with
  | ⟨0, _⟩ =>
    show win0_4.index t 0 * 1 ≤ (i 0 : Nat) ∧ (i 0 : Nat) < win0_4.index t 0 * 1 + 1
    rw [h.1]; omega
  | ⟨1, _⟩ =>
    show win0_4.index t 1 * 2048 ≤ (i 1 : Nat) ∧ (i 1 : Nat) < win0_4.index t 1 * 2048 + 2048
    rw [h.2]; omega

/-- The last block written back is window 5's array. -/
theorem cover5 (i : S1x128.Idx) :
    ∃ t : Fin cfg0.N, (cfg0.win 5).flush t = true ∧ i ∈ ((cfg0.win 5).blk t).view.set := by
  have h0 : (i 0 : Nat) < 1 := (i 0).isLt
  have h1 : (i 1 : Nat) < 128 := (i 1).isLt
  have hN : cfg0.N = 16 := N_0
  obtain ⟨t, ht⟩ : ∃ t : Fin cfg0.N, t.val = 15 := ⟨⟨_, by omega⟩, rfl⟩
  refine ⟨t, (flush0_5 _).mpr (by omega), ?_⟩
  show i ∈ ((View.whole main_v1_2).slice (win0_5.rect t)).set
  rw [View.set_slice_whole, Rect.mem_set_unit]
  have h := idx5 t
  intro a
  match a with
  | ⟨0, _⟩ =>
    show win0_5.index t 0 * 1 ≤ (i 0 : Nat) ∧ (i 0 : Nat) < win0_5.index t 0 * 1 + 1
    rw [h.1]; omega
  | ⟨1, _⟩ =>
    show win0_5.index t 1 * 128 ≤ (i 1 : Nat) ∧ (i 1 : Nat) < win0_5.index t 1 * 128 + 128
    rw [h.2]; omega

/-- Arrays that pass the precondition's test hold reals. -/
theorem pre_real [hp : Cert.Pre_finite_loss.Facts] (c : Dev nD) (j : Cert.Pre_finite_loss.S_.Idx)
    (h : Cert.Pre_finite_loss.fn (F := Ideal) (m ((c : Thread nD τ).loc main_arg0)) (m ((c : Thread nD τ).loc main_arg1)) (m ((c : Thread nD τ).loc main_arg2)) j = 1#1) :
    Reals m c := by
  unfold Cert.Pre_finite_loss.fn at h
  dsimp only at h
  obtain ⟨h01, h2⟩ := Cert.Facts.andi_one _ _ _ h
  obtain ⟨h0, h1⟩ := Cert.Facts.andi_one _ _ _ h01
  haveI : Subsingleton Cert.Pre_finite_loss.S_.Idx := ⟨fun a b => funext fun q => q.elim0⟩
  exact ⟨fun i => Cert.Facts.real_of_lt _ (Host.reduce_andi_all _ _ _ _ _ h0 i), fun i => Cert.Facts.real_of_lt _ (Host.reduce_andi_all _ _ _ _ _ h1 i),
    fun i => Cert.Facts.real_of_lt _ (Host.reduce_andi_all _ _ _ _ _ h2 i)⟩

end Cert.LossIdeal.Val

namespace Cert.Claims

open Cert.LossIdeal.Val in
/-- The loss head and its reference end with equal results on finite arguments. -/
theorem loss [hp : Cert.Pre_finite_loss.Facts] :
    Cert.algebraic_LossIdeal_LossRefIdeal_pre_finite_loss (hLossIdeal := Cert.LossIdeal.Gen.facts)
      (hLossRefIdeal := Cert.LossRefIdeal.Gen.facts) (hPre_finite_loss := hp) := by
  intro m g m' g' hpre hargs
  have hre : ∀ c, Reals m c := fun c => pre_real m c (fun a => a.elim0) (congrFun (hpre c) _)
  refine ⟨fun c => goal3 m c, fun c => goal4 m c, fun c => goal5 m c,
    (θ_run _ _ _).mono (fun r h c => ⟨(h c).1.trans ?_, (h c).2.1.trans ?_, (h c).2.2.1.trans ?_, (h c).2.2.2⟩) (Cert.LossIdeal.Value.run_blocks m g),
    (θ_run _ _ _).mono (fun r h c => ⟨(h c).1.trans ?_, (h c).2.1.trans ?_, (h c).2.2.1.trans ?_, (h c).2.2.2⟩) (Cert.LossRefIdeal.Value.run m' g')⟩
  · exact (Cert.LossIdeal.Gen.dats m 0 c).arrAt_eq_of_cover 3 (goal3 m c) (fun t _ => flushed_eq3 m c (hre c) t) cover3
  · exact (Cert.LossIdeal.Gen.dats m 0 c).arrAt_eq_of_cover 4 (goal4 m c) (fun t hf => flushed_eq4 m c t hf) cover4
  · exact (Cert.LossIdeal.Gen.dats m 0 c).arrAt_eq_of_cover 5 (goal5 m c) (fun t hf => flushed_eq5 m c (hre c) t hf) cover5
  · unfold goal3
    rw [Cert.LossRefIdeal.Read.val_main_v50_eq, (hargs c).1, (hargs c).2.1, (hargs c).2.2]
  · unfold goal4
    rw [(hargs c).1, (hargs c).2.1, (hargs c).2.2]
    exact Cert.LossRefIdeal.Read.val_main_v51_eq _ _ _
  · unfold goal5
    rw [(hargs c).1, (hargs c).2.1, (hargs c).2.2]
    exact Cert.LossRefIdeal.Read.val_main_v52_eq _ _ _

end Cert.Claims
-- ==== Proof.ChipSum.lean ====
/-
  The sum of four slots, one for each chip, in the order in which a device adds them.
-/
module

public import Idealize.ShloMosaic.Lib.Pointwise
public import Idealize.ShloMosaic.PureOps.Ideal.Laws

@[expose] public section

noncomputable section

open Idealize.ShloMosaic Idealize.ShloMosaic.TcCoe

namespace Cert.Chips

/-- The sum of four slots at a place. -/
def total (R C : Nat) (y : (⟨3, ![4, R, C]⟩ : Shape).Idx → EReal) : (⟨2, ![R, C]⟩ : Shape).Idx → EReal :=
  fun i => ∑ k : Fin 4, y (ix3 k (i 0 : Fin R) (i 1 : Fin C))

/-- The own slot first and then the other three: the same sum. -/
theorem own_first (f : Fin 4 → EReal) : f 3 + f 0 + f 1 + f 2 = ∑ k, f k := by
  rw [Fin.sum_univ_four, add_assoc, add_assoc, add_comm, ← add_assoc]

/-- A host sum over the slots, from its zero, is their sum. -/
theorem host_total (R C : Nat) (y : (⟨3, ![4, R, C]⟩ : Shape).Idx → EReal) (i : (⟨2, ![R, C]⟩ : Shape).Idx)
    (g : Fin 4 → (⟨3, ![4, R, C]⟩ : Shape).Idx) (h0 : ∀ k, (g k 0).val = k.val) (h1 : ∀ k, (g k 1).val = (i 0).val)
    (h2 : ∀ k, (g k 2).val = (i 1).val) : Ideal.ofBits FTy.f32 0x00000000#32 + ∑ k, y (g k) = total R C y i := by
  have hz : Ideal.ofBits FTy.f32 0x00000000#32 = 0 := by simp [Ideal.ofBits, Ideal.ieee]
  rw [hz, zero_add]
  refine Finset.sum_congr rfl fun k _ => congrArg y (funext fun a => Fin.ext ?_)
  match a with
  | ⟨0, _⟩ => exact h0 k
  | ⟨1, _⟩ => exact h1 k
  | ⟨2, _⟩ => exact h2 k

end Cert.Chips
-- ==== Proof.ChipsUpVal.lean ====
/-
  The sum over the chips of their slots of 1024 rows and 1408 columns, block by block.
-/
module

public import proofs.«01_k».proof.Proof.Tile
public import proofs.«01_k».proof.Defs
public import proofs.«01_k».proof.Proof.ChipSum
public import proofs.«01_k».proof.Proof.Gen.ChipsUpIdeal.Value
public import proofs.«01_k».proof.Proof.Gen.ChipsUpRefIdeal.Read

@[expose] public section

set_option maxRecDepth 16384

noncomputable section

open Idealize.ShloMosaic Idealize.ShloMosaic.TcCoe Idealize.SL.Sem

namespace Cert.ChipsUpIdeal.Val

open Cert.ChipsUpIdeal Cert.ChipsUpIdeal.Gen

variable (m : (ℓ : Loc nD τ sig) → Buf (Elt Ideal) ℓ)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The body's result at an index: the sum of the four slots. -/
theorem body (x : Vec Ideal S4x256x1408 .bf16) (r : Fin 256) (l : Fin 1408) : out0_1 x (ix2 r l) = ∑ k : Fin 4, x (ix3 k r l) := by
  unfold out0_1
  rw [View.canon_unit_zero (funext fun a => by fin_cases a <;> rfl), ← Cert.Chips.own_first]
  pointwise [k0_pay1] <;> rfl

/-- The block of slots at a grid point, read at an index. -/
theorem blk0 (c : Dev nD) (t : Fin cfg0.N) (k : Fin 4) (r : Fin 256) (l : Fin 1408) :
    iblk m c 0 t (ix3 k r l) = m ((c : Thread nD τ).loc main_arg0) (ix3 k (⟨t.val * 256 + r.val, by have := t.isLt; have : cfg0.N = 4 := N_0; omega⟩ : Fin 1024) l) := by
  have hN : t.val < 4 := by have := t.isLt; have : cfg0.N = 4 := N_0; omega
  rw [← V_main_arg0 m c]
  unfold iblk
  rw [View.read_apply]
  refine congrArg (V m c main_arg0) (funext fun a => Fin.ext ?_)
  have h := idx0 t
  match a with
  | ⟨0, _⟩ => show win0_0.index t 0 * 4 + 1 * k.val = k.val; rw [h.1] <;> omega
  | ⟨1, _⟩ => show win0_0.index t 1 * 256 + 1 * r.val = t.val * 256 + r.val; rw [h.2.1] <;> omega
  | ⟨2, _⟩ => show win0_0.index t 2 * 1408 + 1 * l.val = l.val; rw [h.2.2] <;> omega

/-- Where an index of the result's block lies in its array. -/
theorem emb1 (t : Fin cfg0.N) (r : Fin 256) (l : Fin 1408) : ((cfg0.win 1).blk t).view.emb (ix2 r l) = ix2 (⟨t.val * 256 + r.val, by have := t.isLt; have : cfg0.N = 4 := N_0; omega⟩ : Fin 1024) l := by
  refine funext fun a => Fin.ext ?_
  have h := idx1 t
  match a with
  | ⟨0, _⟩ => show win0_1.index t 0 * 256 + 1 * r.val = t.val * 256 + r.val; rw [h.1] <;> omega
  | ⟨1, _⟩ => show win0_1.index t 1 * 1408 + 1 * l.val = l.val; rw [h.2] <;> omega

/-- The sum of a device's four slots. -/
abbrev goal (c : Dev nD) : Buf (Elt Ideal) ((c : Thread nD τ).loc main_v0) :=
  Cert.Chips.total 1024 1408 (m ((c : Thread nD τ).loc main_arg0))

/-- What a grid point writes back is its block of the sum. -/
theorem flushed_eq (c : Dev nD) (t : Fin cfg0.N) :
    (dats m 0 c).flushed 1 t = ((cfg0.win 1).blk t).view.read (Elt Ideal) (goal m c) := by
  rw [Value.flushed1]
  funext j
  obtain ⟨r, l, rfl⟩ : ∃ (r : Fin 256) (l : Fin 1408), j = ix2 r l := ⟨j 0, j 1, by idx_ext⟩
  rw [View.read_apply, emb1]
  show out0_1 (iblk m c 0 t) (ix2 r l) = Cert.Chips.total 1024 1408 (m ((c : Thread nD τ).loc main_arg0)) (ix2 _ l)
  rw [body]
  exact Finset.sum_congr rfl fun k _ => blk0 m c t k r l

/-- The blocks of the result tile its array. -/
theorem cover (i : S1024x1408.Idx) : ∃ t : Fin cfg0.N, (cfg0.win 1).flush t = true ∧ i ∈ ((cfg0.win 1).blk t).view.set := by
  obtain ⟨t, h⟩ := Cert.Tile.rows 256 1408 win0_1.index idx1 (congrArg (· * 256) N_0) i
  refine ⟨t, flush0_1 _, ?_⟩
  show i ∈ ((View.whole main_v0).slice (win0_1.rect t)).set
  rw [View.set_slice_whole, Rect.mem_set_unit]
  exact fun | ⟨0, _⟩ => h.1 | ⟨1, _⟩ => h.2

end Cert.ChipsUpIdeal.Val

namespace Cert.Claims

open Cert.ChipsUpIdeal Cert.ChipsUpIdeal.Gen Cert.ChipsUpIdeal.Val in
/-- The sum over the chips and its reference end with equal results. -/
theorem chips_up : Cert.algebraic_ChipsUpIdeal_ChipsUpRefIdeal (hChipsUpIdeal := Cert.ChipsUpIdeal.Gen.facts) (hChipsUpRefIdeal := Cert.ChipsUpRefIdeal.Gen.facts) := by
  intro m g m' g' _ hargs
  refine ⟨fun c => goal m c,
    (θ_run _ _ _).mono (fun r h c => ⟨(h c).1.trans ?_, (h c).2⟩) (Cert.ChipsUpIdeal.Value.run_blocks m g),
    (θ_run _ _ _).mono (fun r h c => ⟨(h c).1.trans ?_, (h c).2⟩) (Cert.ChipsUpRefIdeal.Value.run m' g')⟩
  · exact (dats m 0 c).arrAt_eq_of_cover 1 (goal m c) (fun t _ => flushed_eq m c t) cover
  · refine (Cert.ChipsUpRefIdeal.Read.val_main_v1_eq _).trans (funext fun i => ?_)
    rw [Cert.ChipsUpRefIdeal.Read.val_main_v1_apply, hargs c]
    exact Cert.Chips.host_total 1024 1408 (m ((c : Thread nD τ).loc main_arg0)) i (Cert.ChipsUpRefIdeal.Read.idx_main_v1 i) (fun _ => rfl) (fun _ => rfl) (fun _ => rfl)

end Cert.Claims
-- ==== Proof.ChipsDownVal.lean ====
/-
  The sum over the chips of their slots of 704 rows and 2048 columns, block by block.
-/
module

public import proofs.«01_k».proof.Proof.Tile
public import proofs.«01_k».proof.Defs
public import proofs.«01_k».proof.Proof.ChipSum
public import proofs.«01_k».proof.Proof.Gen.ChipsDownIdeal.Value
public import proofs.«01_k».proof.Proof.Gen.ChipsDownRefIdeal.Read

@[expose] public section

set_option maxRecDepth 16384

noncomputable section

open Idealize.ShloMosaic Idealize.ShloMosaic.TcCoe Idealize.SL.Sem

namespace Cert.ChipsDownIdeal.Val

open Cert.ChipsDownIdeal Cert.ChipsDownIdeal.Gen

variable (m : (ℓ : Loc nD τ sig) → Buf (Elt Ideal) ℓ)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The body's result at an index: the sum of the four slots. -/
theorem body (x : Vec Ideal S4x64x2048 .bf16) (r : Fin 64) (l : Fin 2048) : out0_1 x (ix2 r l) = ∑ k : Fin 4, x (ix3 k r l) := by
  unfold out0_1
  rw [View.canon_unit_zero (funext fun a => by fin_cases a <;> rfl), ← Cert.Chips.own_first]
  pointwise [k0_pay1] <;> rfl

/-- The block of slots at a grid point, read at an index. -/
theorem blk0 (c : Dev nD) (t : Fin cfg0.N) (k : Fin 4) (r : Fin 64) (l : Fin 2048) :
    iblk m c 0 t (ix3 k r l) = m ((c : Thread nD τ).loc main_arg0) (ix3 k (⟨t.val * 64 + r.val, by have := t.isLt; have : cfg0.N = 11 := N_0; omega⟩ : Fin 704) l) := by
  have hN : t.val < 11 := by have := t.isLt; have : cfg0.N = 11 := N_0; omega
  rw [← V_main_arg0 m c]
  unfold iblk
  rw [View.read_apply]
  refine congrArg (V m c main_arg0) (funext fun a => Fin.ext ?_)
  have h := idx0 t
  match a with
  | ⟨0, _⟩ => show win0_0.index t 0 * 4 + 1 * k.val = k.val; rw [h.1] <;> omega
  | ⟨1, _⟩ => show win0_0.index t 1 * 64 + 1 * r.val = t.val * 64 + r.val; rw [h.2.1] <;> omega
  | ⟨2, _⟩ => show win0_0.index t 2 * 2048 + 1 * l.val = l.val; rw [h.2.2] <;> omega

/-- Where an index of the result's block lies in its array. -/
theorem emb1 (t : Fin cfg0.N) (r : Fin 64) (l : Fin 2048) : ((cfg0.win 1).blk t).view.emb (ix2 r l) = ix2 (⟨t.val * 64 + r.val, by have := t.isLt; have : cfg0.N = 11 := N_0; omega⟩ : Fin 704) l := by
  refine funext fun a => Fin.ext ?_
  have h := idx1 t
  match a with
  | ⟨0, _⟩ => show win0_1.index t 0 * 64 + 1 * r.val = t.val * 64 + r.val; rw [h.1] <;> omega
  | ⟨1, _⟩ => show win0_1.index t 1 * 2048 + 1 * l.val = l.val; rw [h.2] <;> omega

/-- The sum of a device's four slots. -/
abbrev goal (c : Dev nD) : Buf (Elt Ideal) ((c : Thread nD τ).loc main_v0) :=
  Cert.Chips.total 704 2048 (m ((c : Thread nD τ).loc main_arg0))

/-- What a grid point writes back is its block of the sum. -/
theorem flushed_eq (c : Dev nD) (t : Fin cfg0.N) :
    (dats m 0 c).flushed 1 t = ((cfg0.win 1).blk t).view.read (Elt Ideal) (goal m c) := by
  rw [Value.flushed1]
  funext j
  obtain ⟨r, l, rfl⟩ : ∃ (r : Fin 64) (l : Fin 2048), j = ix2 r l := ⟨j 0, j 1, by idx_ext⟩
  rw [View.read_apply, emb1]
  show out0_1 (iblk m c 0 t) (ix2 r l) = Cert.Chips.total 704 2048 (m ((c : Thread nD τ).loc main_arg0)) (ix2 _ l)
  rw [body]
  exact Finset.sum_congr rfl fun k _ => blk0 m c t k r l

/-- The blocks of the result tile its array. -/
theorem cover (i : S704x2048.Idx) : ∃ t : Fin cfg0.N, (cfg0.win 1).flush t = true ∧ i ∈ ((cfg0.win 1).blk t).view.set := by
  obtain ⟨t, h⟩ := Cert.Tile.rows 64 2048 win0_1.index idx1 (congrArg (· * 64) N_0) i
  refine ⟨t, flush0_1 _, ?_⟩
  show i ∈ ((View.whole main_v0).slice (win0_1.rect t)).set
  rw [View.set_slice_whole, Rect.mem_set_unit]
  exact fun | ⟨0, _⟩ => h.1 | ⟨1, _⟩ => h.2

end Cert.ChipsDownIdeal.Val

namespace Cert.Claims

open Cert.ChipsDownIdeal Cert.ChipsDownIdeal.Gen Cert.ChipsDownIdeal.Val in
/-- The sum over the chips and its reference end with equal results. -/
theorem chips_down : Cert.algebraic_ChipsDownIdeal_ChipsDownRefIdeal (hChipsDownIdeal := Cert.ChipsDownIdeal.Gen.facts) (hChipsDownRefIdeal := Cert.ChipsDownRefIdeal.Gen.facts) := by
  intro m g m' g' _ hargs
  refine ⟨fun c => goal m c,
    (θ_run _ _ _).mono (fun r h c => ⟨(h c).1.trans ?_, (h c).2⟩) (Cert.ChipsDownIdeal.Value.run_blocks m g),
    (θ_run _ _ _).mono (fun r h c => ⟨(h c).1.trans ?_, (h c).2⟩) (Cert.ChipsDownRefIdeal.Value.run m' g')⟩
  · exact (dats m 0 c).arrAt_eq_of_cover 1 (goal m c) (fun t _ => flushed_eq m c t) cover
  · refine (Cert.ChipsDownRefIdeal.Read.val_main_v1_eq _).trans (funext fun i => ?_)
    rw [Cert.ChipsDownRefIdeal.Read.val_main_v1_apply, hargs c]
    exact Cert.Chips.host_total 704 2048 (m ((c : Thread nD τ).loc main_arg0)) i (Cert.ChipsDownRefIdeal.Read.idx_main_v1 i) (fun _ => rfl) (fun _ => rfl) (fun _ => rfl)

end Cert.Claims
-- ==== Proof.ChipsRowVal.lean ====
/-
  The sum over the chips of their slots of 256 rows and 2048 columns, in one block.
-/
module

public import proofs.«01_k».proof.Defs
public import proofs.«01_k».proof.Proof.ChipSum
public import proofs.«01_k».proof.Proof.Gen.ChipsRowIdeal.Value
public import proofs.«01_k».proof.Proof.Gen.ChipsRowRefIdeal.Read

@[expose] public section

noncomputable section

open Idealize.ShloMosaic Idealize.ShloMosaic.TcCoe Idealize.SL.Sem

namespace Cert.Claims

open Cert.ChipsRowRefIdeal.Read Cert.ChipsRowRefIdeal in
/-- The sum of the four slots, as the kernel writes it. -/
theorem chips_row_sum (y : S4x256x2048.Idx → EReal) : val_main_v1 (F := Ideal) y = Cert.ChipsRowIdeal.Value.G1 (F := Ideal) y := by
  funext i
  obtain ⟨r, l, rfl⟩ : ∃ (r : Fin 256) (l : Fin 2048), i = ix2 r l := ⟨i 0, i 1, by idx_ext⟩
  rw [val_main_v1_apply]
  refine (Cert.Chips.host_total 256 2048 y _ (idx_main_v1 _) (fun _ => rfl) (fun _ => rfl) (fun _ => rfl)).trans
    ((Cert.Chips.own_first fun k => y (ix3 k r l)).symm.trans ?_)
  pointwise [Cert.ChipsRowIdeal.Value.G1, Cert.ChipsRowIdeal.Gen.k0_pay1] <;> rfl

/-- The sum over the chips and its reference end with equal results. -/
theorem chips_row : Cert.algebraic_ChipsRowIdeal_ChipsRowRefIdeal (hChipsRowIdeal := Cert.ChipsRowIdeal.Gen.facts) (hChipsRowRefIdeal := Cert.ChipsRowRefIdeal.Gen.facts) := by
  intro m g m' g' _ hargs
  refine ⟨fun c => _, Cert.ChipsRowIdeal.Value.run m g,
    (θ_run _ _ _).mono (fun r h c => ⟨(h c).1.trans ?_, (h c).2⟩) (Cert.ChipsRowRefIdeal.Value.run m' g')⟩
  rw [hargs c]
  exact (Cert.ChipsRowRefIdeal.Read.val_main_v1_eq _).trans (chips_row_sum _)

end Cert.Claims
-- ==== Proof.ChipsProjVal.lean ====
/-
  The sum over the chips of their slots of 128 rows and 512 columns, in one block.
-/
module

public import proofs.«01_k».proof.Defs
public import proofs.«01_k».proof.Proof.ChipSum
public import proofs.«01_k».proof.Proof.Gen.ChipsProjIdeal.Value
public import proofs.«01_k».proof.Proof.Gen.ChipsProjRefIdeal.Read

@[expose] public section

noncomputable section

open Idealize.ShloMosaic Idealize.ShloMosaic.TcCoe Idealize.SL.Sem

namespace Cert.Claims

open Cert.ChipsProjRefIdeal.Read Cert.ChipsProjRefIdeal in
/-- The sum of the four slots, as the kernel writes it. -/
theorem chips_proj_sum (y : S4x128x512.Idx → EReal) : val_main_v1 (F := Ideal) y = Cert.ChipsProjIdeal.Value.G1 (F := Ideal) y := by
  funext i
  obtain ⟨r, l, rfl⟩ : ∃ (r : Fin 128) (l : Fin 512), i = ix2 r l := ⟨i 0, i 1, by idx_ext⟩
  rw [val_main_v1_apply]
  refine (Cert.Chips.host_total 128 512 y _ (idx_main_v1 _) (fun _ => rfl) (fun _ => rfl) (fun _ => rfl)).trans
    ((Cert.Chips.own_first fun k => y (ix3 k r l)).symm.trans ?_)
  pointwise [Cert.ChipsProjIdeal.Value.G1, Cert.ChipsProjIdeal.Gen.k0_pay1] <;> rfl

/-- The sum over the chips and its reference end with equal results. -/
theorem chips_proj : Cert.algebraic_ChipsProjIdeal_ChipsProjRefIdeal (hChipsProjIdeal := Cert.ChipsProjIdeal.Gen.facts) (hChipsProjRefIdeal := Cert.ChipsProjRefIdeal.Gen.facts) := by
  intro m g m' g' _ hargs
  refine ⟨fun c => _, Cert.ChipsProjIdeal.Value.run m g,
    (θ_run _ _ _).mono (fun r h c => ⟨(h c).1.trans ?_, (h c).2⟩) (Cert.ChipsProjRefIdeal.Value.run m' g')⟩
  rw [hargs c]
  exact (Cert.ChipsProjRefIdeal.Read.val_main_v1_eq _).trans (chips_proj_sum _)

end Cert.Claims
-- ==== Proof.ChipsEvenInVal.lean ====
/-
  The sum over the chips of their slots of 1024 rows and 1536 columns, block by block.
-/
module

public import proofs.«01_k».proof.Proof.Tile
public import proofs.«01_k».proof.Defs
public import proofs.«01_k».proof.Proof.ChipSum
public import proofs.«01_k».proof.Proof.Gen.ChipsEvenInIdeal.Value
public import proofs.«01_k».proof.Proof.Gen.ChipsEvenInRefIdeal.Read

@[expose] public section

set_option maxRecDepth 16384

noncomputable section

open Idealize.ShloMosaic Idealize.ShloMosaic.TcCoe Idealize.SL.Sem

namespace Cert.ChipsEvenInIdeal.Val

open Cert.ChipsEvenInIdeal Cert.ChipsEvenInIdeal.Gen

variable (m : (ℓ : Loc nD τ sig) → Buf (Elt Ideal) ℓ)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The body's result at an index: the sum of the four slots. -/
theorem body (x : Vec Ideal S4x256x1536 .bf16) (r : Fin 256) (l : Fin 1536) : out0_1 x (ix2 r l) = ∑ k : Fin 4, x (ix3 k r l) := by
  unfold out0_1
  rw [View.canon_unit_zero (funext fun a => by fin_cases a <;> rfl), ← Cert.Chips.own_first]
  pointwise [k0_pay1] <;> rfl

/-- The block of slots at a grid point, read at an index. -/
theorem blk0 (c : Dev nD) (t : Fin cfg0.N) (k : Fin 4) (r : Fin 256) (l : Fin 1536) :
    iblk m c 0 t (ix3 k r l) = m ((c : Thread nD τ).loc main_arg0) (ix3 k (⟨t.val * 256 + r.val, by have := t.isLt; have : cfg0.N = 4 := N_0; omega⟩ : Fin 1024) l) := by
  have hN : t.val < 4 := by have := t.isLt; have : cfg0.N = 4 := N_0; omega
  rw [← V_main_arg0 m c]
  unfold iblk
  rw [View.read_apply]
  refine congrArg (V m c main_arg0) (funext fun a => Fin.ext ?_)
  have h := idx0 t
  match a with
  | ⟨0, _⟩ => show win0_0.index t 0 * 4 + 1 * k.val = k.val; rw [h.1] <;> omega
  | ⟨1, _⟩ => show win0_0.index t 1 * 256 + 1 * r.val = t.val * 256 + r.val; rw [h.2.1] <;> omega
  | ⟨2, _⟩ => show win0_0.index t 2 * 1536 + 1 * l.val = l.val; rw [h.2.2] <;> omega

/-- Where an index of the result's block lies in its array. -/
theorem emb1 (t : Fin cfg0.N) (r : Fin 256) (l : Fin 1536) : ((cfg0.win 1).blk t).view.emb (ix2 r l) = ix2 (⟨t.val * 256 + r.val, by have := t.isLt; have : cfg0.N = 4 := N_0; omega⟩ : Fin 1024) l := by
  refine funext fun a => Fin.ext ?_
  have h := idx1 t
  match a with
  | ⟨0, _⟩ => show win0_1.index t 0 * 256 + 1 * r.val = t.val * 256 + r.val; rw [h.1] <;> omega
  | ⟨1, _⟩ => show win0_1.index t 1 * 1536 + 1 * l.val = l.val; rw [h.2] <;> omega

/-- The sum of a device's four slots. -/
abbrev goal (c : Dev nD) : Buf (Elt Ideal) ((c : Thread nD τ).loc main_v0) :=
  Cert.Chips.total 1024 1536 (m ((c : Thread nD τ).loc main_arg0))

/-- What a grid point writes back is its block of the sum. -/
theorem flushed_eq (c : Dev nD) (t : Fin cfg0.N) :
    (dats m 0 c).flushed 1 t = ((cfg0.win 1).blk t).view.read (Elt Ideal) (goal m c) := by
  rw [Value.flushed1]
  funext j
  obtain ⟨r, l, rfl⟩ : ∃ (r : Fin 256) (l : Fin 1536), j = ix2 r l := ⟨j 0, j 1, by idx_ext⟩
  rw [View.read_apply, emb1]
  show out0_1 (iblk m c 0 t) (ix2 r l) = Cert.Chips.total 1024 1536 (m ((c : Thread nD τ).loc main_arg0)) (ix2 _ l)
  rw [body]
  exact Finset.sum_congr rfl fun k _ => blk0 m c t k r l

/-- The blocks of the result tile its array. -/
theorem cover (i : S1024x1536.Idx) : ∃ t : Fin cfg0.N, (cfg0.win 1).flush t = true ∧ i ∈ ((cfg0.win 1).blk t).view.set := by
  obtain ⟨t, h⟩ := Cert.Tile.rows 256 1536 win0_1.index idx1 (congrArg (· * 256) N_0) i
  refine ⟨t, flush0_1 _, ?_⟩
  show i ∈ ((View.whole main_v0).slice (win0_1.rect t)).set
  rw [View.set_slice_whole, Rect.mem_set_unit]
  exact fun | ⟨0, _⟩ => h.1 | ⟨1, _⟩ => h.2

end Cert.ChipsEvenInIdeal.Val

namespace Cert.Claims

open Cert.ChipsEvenInIdeal Cert.ChipsEvenInIdeal.Gen Cert.ChipsEvenInIdeal.Val in
/-- The sum over the chips and its reference end with equal results. -/
theorem chips_even_in : Cert.algebraic_ChipsEvenInIdeal_ChipsEvenInRefIdeal (hChipsEvenInIdeal := Cert.ChipsEvenInIdeal.Gen.facts) (hChipsEvenInRefIdeal := Cert.ChipsEvenInRefIdeal.Gen.facts) := by
  intro m g m' g' _ hargs
  refine ⟨fun c => goal m c,
    (θ_run _ _ _).mono (fun r h c => ⟨(h c).1.trans ?_, (h c).2⟩) (Cert.ChipsEvenInIdeal.Value.run_blocks m g),
    (θ_run _ _ _).mono (fun r h c => ⟨(h c).1.trans ?_, (h c).2⟩) (Cert.ChipsEvenInRefIdeal.Value.run m' g')⟩
  · exact (dats m 0 c).arrAt_eq_of_cover 1 (goal m c) (fun t _ => flushed_eq m c t) cover
  · refine (Cert.ChipsEvenInRefIdeal.Read.val_main_v1_eq _).trans (funext fun i => ?_)
    rw [Cert.ChipsEvenInRefIdeal.Read.val_main_v1_apply, hargs c]
    exact Cert.Chips.host_total 1024 1536 (m ((c : Thread nD τ).loc main_arg0)) i (Cert.ChipsEvenInRefIdeal.Read.idx_main_v1 i) (fun _ => rfl) (fun _ => rfl) (fun _ => rfl)

end Cert.Claims
-- ==== Proof.ChipsLoraInVal.lean ====
/-
  The sum over the chips of their slots of 256 rows and 96 columns, in one block.
-/
module

public import proofs.«01_k».proof.Defs
public import proofs.«01_k».proof.Proof.ChipSum
public import proofs.«01_k».proof.Proof.Gen.ChipsLoraInIdeal.Value
public import proofs.«01_k».proof.Proof.Gen.ChipsLoraInRefIdeal.Read

@[expose] public section

noncomputable section

open Idealize.ShloMosaic Idealize.ShloMosaic.TcCoe Idealize.SL.Sem

namespace Cert.Claims

open Cert.ChipsLoraInRefIdeal.Read Cert.ChipsLoraInRefIdeal in
/-- The sum of the four slots, as the kernel writes it. -/
theorem chips_lora_in_sum (y : S4x256x96.Idx → EReal) : val_main_v1 (F := Ideal) y = Cert.ChipsLoraInIdeal.Value.G1 (F := Ideal) y := by
  funext i
  obtain ⟨r, l, rfl⟩ : ∃ (r : Fin 256) (l : Fin 96), i = ix2 r l := ⟨i 0, i 1, by idx_ext⟩
  rw [val_main_v1_apply]
  refine (Cert.Chips.host_total 256 96 y _ (idx_main_v1 _) (fun _ => rfl) (fun _ => rfl) (fun _ => rfl)).trans
    ((Cert.Chips.own_first fun k => y (ix3 k r l)).symm.trans ?_)
  pointwise [Cert.ChipsLoraInIdeal.Value.G1, Cert.ChipsLoraInIdeal.Gen.k0_pay1] <;> rfl

/-- The sum over the chips and its reference end with equal results. -/
theorem chips_lora_in : Cert.algebraic_ChipsLoraInIdeal_ChipsLoraInRefIdeal (hChipsLoraInIdeal := Cert.ChipsLoraInIdeal.Gen.facts) (hChipsLoraInRefIdeal := Cert.ChipsLoraInRefIdeal.Gen.facts) := by
  intro m g m' g' _ hargs
  refine ⟨fun c => _, Cert.ChipsLoraInIdeal.Value.run m g,
    (θ_run _ _ _).mono (fun r h c => ⟨(h c).1.trans ?_, (h c).2⟩) (Cert.ChipsLoraInRefIdeal.Value.run m' g')⟩
  rw [hargs c]
  exact (Cert.ChipsLoraInRefIdeal.Read.val_main_v1_eq _).trans (chips_lora_in_sum _)

end Cert.Claims
-- ==== Proof.ChipsLoraOutVal.lean ====
/-
  The sum over the chips of their slots of 48 rows and 512 columns, block by block.
-/
module

public import proofs.«01_k».proof.Proof.Tile
public import proofs.«01_k».proof.Defs
public import proofs.«01_k».proof.Proof.ChipSum
public import proofs.«01_k».proof.Proof.Gen.ChipsLoraOutIdeal.Value
public import proofs.«01_k».proof.Proof.Gen.ChipsLoraOutRefIdeal.Read

@[expose] public section

set_option maxRecDepth 16384

noncomputable section

open Idealize.ShloMosaic Idealize.ShloMosaic.TcCoe Idealize.SL.Sem

namespace Cert.ChipsLoraOutIdeal.Val

open Cert.ChipsLoraOutIdeal Cert.ChipsLoraOutIdeal.Gen

variable (m : (ℓ : Loc nD τ sig) → Buf (Elt Ideal) ℓ)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The body's result at an index: the sum of the four slots. -/
theorem body (x : Vec Ideal S4x16x512 .bf16) (r : Fin 16) (l : Fin 512) : out0_1 x (ix2 r l) = ∑ k : Fin 4, x (ix3 k r l) := by
  unfold out0_1
  rw [View.canon_unit_zero (funext fun a => by fin_cases a <;> rfl), ← Cert.Chips.own_first]
  pointwise [k0_pay1] <;> rfl

/-- The block of slots at a grid point, read at an index. -/
theorem blk0 (c : Dev nD) (t : Fin cfg0.N) (k : Fin 4) (r : Fin 16) (l : Fin 512) :
    iblk m c 0 t (ix3 k r l) = m ((c : Thread nD τ).loc main_arg0) (ix3 k (⟨t.val * 16 + r.val, by have := t.isLt; have : cfg0.N = 3 := N_0; omega⟩ : Fin 48) l) := by
  have hN : t.val < 3 := by have := t.isLt; have : cfg0.N = 3 := N_0; omega
  rw [← V_main_arg0 m c]
  unfold iblk
  rw [View.read_apply]
  refine congrArg (V m c main_arg0) (funext fun a => Fin.ext ?_)
  have h := idx0 t
  match a with
  | ⟨0, _⟩ => show win0_0.index t 0 * 4 + 1 * k.val = k.val; rw [h.1] <;> omega
  | ⟨1, _⟩ => show win0_0.index t 1 * 16 + 1 * r.val = t.val * 16 + r.val; rw [h.2.1] <;> omega
  | ⟨2, _⟩ => show win0_0.index t 2 * 512 + 1 * l.val = l.val; rw [h.2.2] <;> omega

/-- Where an index of the result's block lies in its array. -/
theorem emb1 (t : Fin cfg0.N) (r : Fin 16) (l : Fin 512) : ((cfg0.win 1).blk t).view.emb (ix2 r l) = ix2 (⟨t.val * 16 + r.val, by have := t.isLt; have : cfg0.N = 3 := N_0; omega⟩ : Fin 48) l := by
  refine funext fun a => Fin.ext ?_
  have h := idx1 t
  match a with
  | ⟨0, _⟩ => show win0_1.index t 0 * 16 + 1 * r.val = t.val * 16 + r.val; rw [h.1] <;> omega
  | ⟨1, _⟩ => show win0_1.index t 1 * 512 + 1 * l.val = l.val; rw [h.2] <;> omega

/-- The sum of a device's four slots. -/
abbrev goal (c : Dev nD) : Buf (Elt Ideal) ((c : Thread nD τ).loc main_v0) :=
  Cert.Chips.total 48 512 (m ((c : Thread nD τ).loc main_arg0))

/-- What a grid point writes back is its block of the sum. -/
theorem flushed_eq (c : Dev nD) (t : Fin cfg0.N) :
    (dats m 0 c).flushed 1 t = ((cfg0.win 1).blk t).view.read (Elt Ideal) (goal m c) := by
  rw [Value.flushed1]
  funext j
  obtain ⟨r, l, rfl⟩ : ∃ (r : Fin 16) (l : Fin 512), j = ix2 r l := ⟨j 0, j 1, by idx_ext⟩
  rw [View.read_apply, emb1]
  show out0_1 (iblk m c 0 t) (ix2 r l) = Cert.Chips.total 48 512 (m ((c : Thread nD τ).loc main_arg0)) (ix2 _ l)
  rw [body]
  exact Finset.sum_congr rfl fun k _ => blk0 m c t k r l

/-- The blocks of the result tile its array. -/
theorem cover (i : S48x512.Idx) : ∃ t : Fin cfg0.N, (cfg0.win 1).flush t = true ∧ i ∈ ((cfg0.win 1).blk t).view.set := by
  obtain ⟨t, h⟩ := Cert.Tile.rows 16 512 win0_1.index idx1 (congrArg (· * 16) N_0) i
  refine ⟨t, flush0_1 _, ?_⟩
  show i ∈ ((View.whole main_v0).slice (win0_1.rect t)).set
  rw [View.set_slice_whole, Rect.mem_set_unit]
  exact fun | ⟨0, _⟩ => h.1 | ⟨1, _⟩ => h.2

end Cert.ChipsLoraOutIdeal.Val

namespace Cert.Claims

open Cert.ChipsLoraOutIdeal Cert.ChipsLoraOutIdeal.Gen Cert.ChipsLoraOutIdeal.Val in
/-- The sum over the chips and its reference end with equal results. -/
theorem chips_lora_out : Cert.algebraic_ChipsLoraOutIdeal_ChipsLoraOutRefIdeal (hChipsLoraOutIdeal := Cert.ChipsLoraOutIdeal.Gen.facts) (hChipsLoraOutRefIdeal := Cert.ChipsLoraOutRefIdeal.Gen.facts) := by
  intro m g m' g' _ hargs
  refine ⟨fun c => goal m c,
    (θ_run _ _ _).mono (fun r h c => ⟨(h c).1.trans ?_, (h c).2⟩) (Cert.ChipsLoraOutIdeal.Value.run_blocks m g),
    (θ_run _ _ _).mono (fun r h c => ⟨(h c).1.trans ?_, (h c).2⟩) (Cert.ChipsLoraOutRefIdeal.Value.run m' g')⟩
  · exact (dats m 0 c).arrAt_eq_of_cover 1 (goal m c) (fun t _ => flushed_eq m c t) cover
  · refine (Cert.ChipsLoraOutRefIdeal.Read.val_main_v1_eq _).trans (funext fun i => ?_)
    rw [Cert.ChipsLoraOutRefIdeal.Read.val_main_v1_apply, hargs c]
    exact Cert.Chips.host_total 48 512 (m ((c : Thread nD τ).loc main_arg0)) i (Cert.ChipsLoraOutRefIdeal.Read.idx_main_v1 i) (fun _ => rfl) (fun _ => rfl) (fun _ => rfl)

end Cert.Claims
-- ==== Proof.ChipsGateInVal.lean ====
/-
  The sum over the chips of their slots of 256 rows and 256 columns, in one block.
-/
module

public import proofs.«01_k».proof.Defs
public import proofs.«01_k».proof.Proof.ChipSum
public import proofs.«01_k».proof.Proof.Gen.ChipsGateInIdeal.Value
public import proofs.«01_k».proof.Proof.Gen.ChipsGateInRefIdeal.Read

@[expose] public section

noncomputable section

open Idealize.ShloMosaic Idealize.ShloMosaic.TcCoe Idealize.SL.Sem

namespace Cert.Claims

open Cert.ChipsGateInRefIdeal.Read Cert.ChipsGateInRefIdeal in
/-- The sum of the four slots, as the kernel writes it. -/
theorem chips_gate_in_sum (y : S4x256x256.Idx → EReal) : val_main_v1 (F := Ideal) y = Cert.ChipsGateInIdeal.Value.G1 (F := Ideal) y := by
  funext i
  obtain ⟨r, l, rfl⟩ : ∃ (r : Fin 256) (l : Fin 256), i = ix2 r l := ⟨i 0, i 1, by idx_ext⟩
  rw [val_main_v1_apply]
  refine (Cert.Chips.host_total 256 256 y _ (idx_main_v1 _) (fun _ => rfl) (fun _ => rfl) (fun _ => rfl)).trans
    ((Cert.Chips.own_first fun k => y (ix3 k r l)).symm.trans ?_)
  pointwise [Cert.ChipsGateInIdeal.Value.G1, Cert.ChipsGateInIdeal.Gen.k0_pay1] <;> rfl

/-- The sum over the chips and its reference end with equal results. -/
theorem chips_gate_in : Cert.algebraic_ChipsGateInIdeal_ChipsGateInRefIdeal (hChipsGateInIdeal := Cert.ChipsGateInIdeal.Gen.facts) (hChipsGateInRefIdeal := Cert.ChipsGateInRefIdeal.Gen.facts) := by
  intro m g m' g' _ hargs
  refine ⟨fun c => _, Cert.ChipsGateInIdeal.Value.run m g,
    (θ_run _ _ _).mono (fun r h c => ⟨(h c).1.trans ?_, (h c).2⟩) (Cert.ChipsGateInRefIdeal.Value.run m' g')⟩
  rw [hargs c]
  exact (Cert.ChipsGateInRefIdeal.Read.val_main_v1_eq _).trans (chips_gate_in_sum _)

end Cert.Claims
-- ==== Proof.ChipsValInVal.lean ====
/-
  The sum over the chips of their slots of 256 rows and 64 columns, in one block.
-/
module

public import proofs.«01_k».proof.Defs
public import proofs.«01_k».proof.Proof.ChipSum
public import proofs.«01_k».proof.Proof.Gen.ChipsValInIdeal.Value
public import proofs.«01_k».proof.Proof.Gen.ChipsValInRefIdeal.Read

@[expose] public section

noncomputable section

open Idealize.ShloMosaic Idealize.ShloMosaic.TcCoe Idealize.SL.Sem

namespace Cert.Claims

open Cert.ChipsValInRefIdeal.Read Cert.ChipsValInRefIdeal in
/-- The sum of the four slots, as the kernel writes it. -/
theorem chips_val_in_sum (y : S4x256x64.Idx → EReal) : val_main_v1 (F := Ideal) y = Cert.ChipsValInIdeal.Value.G1 (F := Ideal) y := by
  funext i
  obtain ⟨r, l, rfl⟩ : ∃ (r : Fin 256) (l : Fin 64), i = ix2 r l := ⟨i 0, i 1, by idx_ext⟩
  rw [val_main_v1_apply]
  refine (Cert.Chips.host_total 256 64 y _ (idx_main_v1 _) (fun _ => rfl) (fun _ => rfl) (fun _ => rfl)).trans
    ((Cert.Chips.own_first fun k => y (ix3 k r l)).symm.trans ?_)
  pointwise [Cert.ChipsValInIdeal.Value.G1, Cert.ChipsValInIdeal.Gen.k0_pay1] <;> rfl

/-- The sum over the chips and its reference end with equal results. -/
theorem chips_val_in : Cert.algebraic_ChipsValInIdeal_ChipsValInRefIdeal (hChipsValInIdeal := Cert.ChipsValInIdeal.Gen.facts) (hChipsValInRefIdeal := Cert.ChipsValInRefIdeal.Gen.facts) := by
  intro m g m' g' _ hargs
  refine ⟨fun c => _, Cert.ChipsValInIdeal.Value.run m g,
    (θ_run _ _ _).mono (fun r h c => ⟨(h c).1.trans ?_, (h c).2⟩) (Cert.ChipsValInRefIdeal.Value.run m' g')⟩
  rw [hargs c]
  exact (Cert.ChipsValInRefIdeal.Read.val_main_v1_eq _).trans (chips_val_in_sum _)

end Cert.Claims
-- ==== Proof.ChipsValOutVal.lean ====
/-
  The sum over the chips of their slots of 32 rows and 512 columns, in one block.
-/
module

public import proofs.«01_k».proof.Defs
public import proofs.«01_k».proof.Proof.ChipSum
public import proofs.«01_k».proof.Proof.Gen.ChipsValOutIdeal.Value
public import proofs.«01_k».proof.Proof.Gen.ChipsValOutRefIdeal.Read

@[expose] public section

noncomputable section

open Idealize.ShloMosaic Idealize.ShloMosaic.TcCoe Idealize.SL.Sem

namespace Cert.Claims

open Cert.ChipsValOutRefIdeal.Read Cert.ChipsValOutRefIdeal in
/-- The sum of the four slots, as the kernel writes it. -/
theorem chips_val_out_sum (y : S4x32x512.Idx → EReal) : val_main_v1 (F := Ideal) y = Cert.ChipsValOutIdeal.Value.G1 (F := Ideal) y := by
  funext i
  obtain ⟨r, l, rfl⟩ : ∃ (r : Fin 32) (l : Fin 512), i = ix2 r l := ⟨i 0, i 1, by idx_ext⟩
  rw [val_main_v1_apply]
  refine (Cert.Chips.host_total 32 512 y _ (idx_main_v1 _) (fun _ => rfl) (fun _ => rfl) (fun _ => rfl)).trans
    ((Cert.Chips.own_first fun k => y (ix3 k r l)).symm.trans ?_)
  pointwise [Cert.ChipsValOutIdeal.Value.G1, Cert.ChipsValOutIdeal.Gen.k0_pay1] <;> rfl

/-- The sum over the chips and its reference end with equal results. -/
theorem chips_val_out : Cert.algebraic_ChipsValOutIdeal_ChipsValOutRefIdeal (hChipsValOutIdeal := Cert.ChipsValOutIdeal.Gen.facts) (hChipsValOutRefIdeal := Cert.ChipsValOutRefIdeal.Gen.facts) := by
  intro m g m' g' _ hargs
  refine ⟨fun c => _, Cert.ChipsValOutIdeal.Value.run m g,
    (θ_run _ _ _).mono (fun r h c => ⟨(h c).1.trans ?_, (h c).2⟩) (Cert.ChipsValOutRefIdeal.Value.run m' g')⟩
  rw [hargs c]
  exact (Cert.ChipsValOutRefIdeal.Read.val_main_v1_eq _).trans (chips_val_out_sum _)

end Cert.Claims
-- ==== Proof.PleAddVal.lean ====
/-
  The state with the gated per-layer embedding added, and its reference.
-/
module

public import proofs.«01_k».proof.Defs
public import proofs.«01_k».proof.Proof.Gen.PleAddIdeal.Value
public import proofs.«01_k».proof.Proof.Gen.PleAddRefIdeal.Run
public import proofs.«01_k».proof.Proof.Gen.PleAddRefIdeal.Read
public import Idealize.ShloMosaic.Lib.Pointwise

@[expose] public section

set_option maxRecDepth 16384

noncomputable section

open Idealize.ShloMosaic Idealize.ShloMosaic.TcCoe Idealize.SL.Sem

namespace Cert.Claims

open Cert.PleAddRefIdeal Cert.PleAddRefIdeal.Read in
/-- The reference's sum, as the kernel writes it. -/
theorem ple_add_eq (x y z : S2048x2048.Idx → EReal) : val_main_v7 (F := Ideal) x y z = Cert.PleAddIdeal.Value.G3 (F := Ideal) x y z := by
  funext i
  pointwise [val_main_v7, val_main_v6, val_main_v5, val_main_v4, val_main_cst_0, val_main_v3, val_main_v2, val_main_cst, val_main_v1, val_main_v0, Cert.PleAddIdeal.Value.G3]
  rw [zero_sub]

/-- The gated embedding's sum and its reference end with equal results. -/
theorem ple_add : Cert.algebraic_PleAddIdeal_PleAddRefIdeal (hPleAddIdeal := Cert.PleAddIdeal.Gen.facts) (hPleAddRefIdeal := Cert.PleAddRefIdeal.Gen.facts) := by
  intro m g m' g' _ hargs
  refine ⟨fun c => _, Cert.PleAddIdeal.Value.run m g,
    (θ_run _ _ _).mono (fun r h c => ⟨(h c).1.trans ?_, (h c).2⟩) (Cert.PleAddRefIdeal.Value.run m' g')⟩
  rw [(hargs c).1, (hargs c).2.1, (hargs c).2.2]
  exact (Cert.PleAddRefIdeal.Read.val_main_v7_eq _ _ _).trans (ple_add_eq _ _ _)

end Cert.Claims
-- ==== Proof.PleBwdVal.lean ====
/-
  The gradients of the per-layer embedding and of its gate's argument, and their reference.
-/
module

public import proofs.«01_k».proof.Defs
public import proofs.«01_k».proof.Proof.Gen.PleBwdIdeal.Value
public import proofs.«01_k».proof.Proof.Gen.PleBwdRefIdeal.Run
public import proofs.«01_k».proof.Proof.Gen.PleBwdRefIdeal.Read
public import Idealize.ShloMosaic.Lib.Pointwise

@[expose] public section

set_option maxRecDepth 16384

noncomputable section

open Idealize.ShloMosaic Idealize.ShloMosaic.TcCoe Idealize.SL.Sem

namespace Cert.Claims

open Cert.PleBwdRefIdeal Cert.PleBwdRefIdeal.Read in
/-- The gradient of the gate's argument, as the kernel writes it. -/
theorem ple_bwd_pre (x y z : S2048x2048.Idx → EReal) : val_main_v13 (F := Ideal) x y z = Cert.PleBwdIdeal.Value.G3 (F := Ideal) x y z := by
  funext i
  pointwise [val_main_v13, val_main_v12, val_main_v11, val_main_v8, val_main_v7, val_main_v6, val_main_cst_1, val_main_v5, val_main_v4, val_main_cst_0, val_main_v3, val_main_v2, val_main_cst, val_main_v1, val_main_v0, Cert.PleBwdIdeal.Value.G3]
  rw [zero_sub, mul_assoc (x i * z i)]

open Cert.PleBwdRefIdeal Cert.PleBwdRefIdeal.Read in
/-- The gradient of the embedding, as the kernel writes it. -/
theorem ple_bwd_emb (x y : S2048x2048.Idx → EReal) : val_main_v14 (F := Ideal) x y = Cert.PleBwdIdeal.Value.G4 (F := Ideal) x y := by
  funext i
  pointwise [val_main_v14, val_main_v10, val_main_v5, val_main_v4, val_main_cst_0, val_main_v3, val_main_v2, val_main_cst, val_main_v1, val_main_v0, Cert.PleBwdIdeal.Value.G4]
  rw [zero_sub, mul_comm]

/-- The gradients of the gated embedding and their reference end with equal results. -/
theorem ple_bwd : Cert.algebraic_PleBwdIdeal_PleBwdRefIdeal (hPleBwdIdeal := Cert.PleBwdIdeal.Gen.facts) (hPleBwdRefIdeal := Cert.PleBwdRefIdeal.Gen.facts) := by
  intro m g m' g' _ hargs
  refine ⟨fun c => _, fun c => _, Cert.PleBwdIdeal.Value.run m g,
    (θ_run _ _ _).mono (fun r h c => ⟨(h c).1.trans ?_, (h c).2.1.trans ?_, (h c).2.2⟩) (Cert.PleBwdRefIdeal.Value.run m' g')⟩
  · rw [(hargs c).1, (hargs c).2.1, (hargs c).2.2]
    exact (Cert.PleBwdRefIdeal.Read.val_main_v13_eq _ _ _).trans (ple_bwd_pre _ _ _)
  · rw [(hargs c).1, (hargs c).2.1]
    exact (Cert.PleBwdRefIdeal.Read.val_main_v14_eq _ _).trans (ple_bwd_emb _ _)

end Cert.Claims
-- ==== Proof.LoraActVal.lean ====
/-
  The activations between the two products of the mixer's low-rank maps, and their reference.
-/
module

public import proofs.«01_k».proof.Defs
public import proofs.«01_k».proof.Proof.Gen.LoraActIdeal.Value
public import proofs.«01_k».proof.Proof.Gen.LoraActRefIdeal.Run
public import proofs.«01_k».proof.Proof.Gen.LoraActRefIdeal.Read
public import Idealize.ShloMosaic.Lib.Pointwise

@[expose] public section

set_option maxRecDepth 16384

noncomputable section

open Idealize.ShloMosaic Idealize.ShloMosaic.TcCoe Idealize.SL.Sem

namespace Cert.Claims

open Cert.LoraActRefIdeal Cert.LoraActRefIdeal.Read in
/-- The logistic function of the third map, as the kernel writes it. -/
theorem lora_act_sig (x : S2048x256.Idx → EReal) : val_main_v9 (F := Ideal) x = Cert.LoraActIdeal.Value.G6 (F := Ideal) x := by
  funext i
  pointwise [val_main_v9, val_main_v6, val_main_v5, val_main_v4, val_main_cst_0, val_main_v3, val_main_v2, val_main_cst, val_main_v1, val_main_v0, Cert.LoraActIdeal.Value.G6]
  rw [zero_sub]

/-- The activations and their reference end with equal results. -/
theorem lora_act : Cert.algebraic_LoraActIdeal_LoraActRefIdeal (hLoraActIdeal := Cert.LoraActIdeal.Gen.facts) (hLoraActRefIdeal := Cert.LoraActRefIdeal.Gen.facts) := by
  intro m g m' g' _ hargs
  refine ⟨fun c => _, fun c => _, fun c => _, fun c => _, Cert.LoraActIdeal.Value.run m g,
    (θ_run _ _ _).mono (fun r h c => ⟨(h c).1.trans ?_, (h c).2.1.trans ?_, (h c).2.2.1.trans ?_, (h c).2.2.2.1.trans ?_, (h c).2.2.2.2⟩)
      (Cert.LoraActRefIdeal.Value.run m' g')⟩
  · rw [(hargs c).1]
    rfl
  · rw [(hargs c).2.1]
    rfl
  · rw [(hargs c).2.2.1]
    exact (Cert.LoraActRefIdeal.Read.val_main_v9_eq _).trans (lora_act_sig _)
  · rw [(hargs c).2.2.2]
    rfl

end Cert.Claims
-- ==== Proof.LoraBwdVal.lean ====
/-
  The gradients through the activations of the mixer's low-rank maps and their reference, block by block.
-/
module

public import proofs.«01_k».proof.Defs
public import proofs.«01_k».proof.Proof.Tile
public import proofs.«01_k».proof.Proof.Gen.LoraBwdIdeal.Value
public import proofs.«01_k».proof.Proof.Gen.LoraBwdRefIdeal.Run
public import proofs.«01_k».proof.Proof.Gen.LoraBwdRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.LoraBwdIdeal.Val

open Cert.LoraBwdIdeal Cert.LoraBwdIdeal.Gen Cert.Tile

variable (m : (ℓ : Loc nD τ sig) → Buf (Elt Ideal) ℓ)

/-- The gradient through a hyperbolic tangent of value `a`, and through a logistic function of value `a`. -/
def tgrad (d a : EReal) : EReal := d * (1 - a * a)
def sgrad (d a : EReal) : EReal := d * a * (1 - a)

/-- A hyperbolic tangent is a real number. -/
theorem tanh_real (x : EReal) : ∃ a : ℝ, Ideal.tanh x = (a : EReal) := by
  induction x using EReal.rec with
  | bot => exact ⟨-1, show (-1 : EReal) = _ by rw [EReal.coe_neg, EReal.coe_one]⟩
  | top => exact ⟨1, EReal.coe_one.symm⟩
  | coe r => exact ⟨Real.tanh r, rfl⟩

open Cert.LoraBwdRefIdeal.Read in
/-- The reference's two derivatives. -/
theorem ref_t (x y : Vec Ideal S2048x96 .f32) : val_main_v17 (F := Ideal) x y = fun i => tgrad (x i) (Ideal.tanh (y i)) := by
  funext i
  pointwise [val_main_v17, val_main_v6, val_main_v5, val_main_v4, val_main_v3, val_main_cst_0, val_main_v2, val_main_v1, val_main_cst, val_main_v0]
  obtain ⟨a, ha⟩ := tanh_real (y i)
  unfold tgrad
  rw [ha, ← EReal.coe_one]
  simp only [← EReal.coe_mul, ← EReal.coe_add, ← EReal.coe_sub]
  exact congrArg (fun q : ℝ => x i * (q : EReal)) (by ring)
open Cert.LoraBwdRefIdeal.Read in
theorem ref_s (x y : Vec Ideal S2048x256 .f32) : val_main_v19 (F := Ideal) x y = fun i => sgrad (x i) (val_main_v12 (F := Ideal) y i) := by
  funext i
  generalize hv : val_main_v12 (F := Ideal) y = v
  pointwise [val_main_v19, val_main_v16, val_main_v15, val_main_v14, val_main_v13, val_main_cst_3]
  rw [hv]
  exact (mul_assoc _ _ _).symm

/-- The values of the two functions, as the call gets them. -/
theorem V_v1 (c : Dev nD) : V m c main_v1 = fun i => Ideal.tanh (m ((c : Thread nD τ).loc main_arg1) i) := by
  unfold V
  after_reads_simp
  rfl
theorem V_v8 (c : Dev nD) : V m c main_v8 = Cert.LoraBwdRefIdeal.Read.val_main_v12 (F := Ideal) (m ((c : Thread nD τ).loc main_arg4)) := by
  unfold V
  after_reads_simp
  rfl

/-- The body's two gradients at an index. -/
theorem pay1 (x0 : Vec Ideal S512x96 .f32) (x1 : Vec Ideal S512x96 .bf16) (j : S512x96.Idx) : k0_pay1 x0 x1 j = tgrad (x0 j) (x1 j) := by
  pointwise [k0_pay1] <;> rfl
theorem pay3 (x0 : Vec Ideal S512x256 .f32) (x1 : Vec Ideal S512x256 .bf16) (j : S512x256.Idx) : k0_pay3 x0 x1 j = sgrad (x0 j) (x1 j) := by
  pointwise [k0_pay3] <;> rfl

/-- The four arrays that the call leaves. -/
abbrev goal6 (c : Dev nD) : Buf (Elt Ideal) ((c : Thread nD τ).loc main_v9_0) := fun i => tgrad (V m c main_arg0 i) (V m c main_v1 i)
abbrev goal7 (c : Dev nD) : Buf (Elt Ideal) ((c : Thread nD τ).loc main_v9_1) := V m c main_arg2
abbrev goal8 (c : Dev nD) : Buf (Elt Ideal) ((c : Thread nD τ).loc main_v9_2) := fun i => sgrad (V m c main_arg3 i) (V m c main_v8 i)
abbrev goal9 (c : Dev nD) : Buf (Elt Ideal) ((c : Thread nD τ).loc main_v9_3) := V m c main_arg5

/-- What a grid point writes back of each result is its block of that array. -/
theorem flushed_eq6 (c : Dev nD) (t : Fin cfg0.N) : (dats m 0 c).flushed 6 t = ((cfg0.win 6).blk t).view.read (Elt Ideal) (goal6 m c) := by
  rw [Value.flushed6]
  unfold out0_6
  rw [View.canon_unit_zero hz2, View.ld_unit_zero hz2, View.ld_unit_zero hz2]
  funext j
  exact pay1 _ _ j
theorem flushed_eq7 (c : Dev nD) (t : Fin cfg0.N) : (dats m 0 c).flushed 7 t = ((cfg0.win 7).blk t).view.read (Elt Ideal) (goal7 m c) := by
  rw [Value.flushed7]
  unfold out0_7
  rw [View.canon_unit_zero hz2, View.ld_unit_zero hz2]
  rfl
theorem flushed_eq8 (c : Dev nD) (t : Fin cfg0.N) : (dats m 0 c).flushed 8 t = ((cfg0.win 8).blk t).view.read (Elt Ideal) (goal8 m c) := by
  rw [Value.flushed8]
  unfold out0_8
  rw [View.canon_unit_zero hz2, View.ld_unit_zero hz2, View.ld_unit_zero hz2]
  funext j
  exact pay3 _ _ j
theorem flushed_eq9 (c : Dev nD) (t : Fin cfg0.N) : (dats m 0 c).flushed 9 t = ((cfg0.win 9).blk t).view.read (Elt Ideal) (goal9 m c) := by
  rw [Value.flushed9]
  unfold out0_9
  rw [View.canon_unit_zero hz2, View.ld_unit_zero hz2]
  rfl

/-- The blocks of a result tile its array. -/
theorem cover6 (i : S2048x96.Idx) : ∃ t : Fin cfg0.N, (cfg0.win 6).flush t = true ∧ i ∈ ((cfg0.win 6).blk t).view.set := by
  obtain ⟨t, h⟩ := rows 512 96 win0_6.index (by decide +kernel : ∀ t : Fin grid0.N, win0_6.index t 0 = t.val ∧ win0_6.index t 1 = 0) (congrArg (· * 512) N_0) i
  refine ⟨t, flush0_6 t, ?_⟩
  show i ∈ ((View.whole main_v9_0).slice (win0_6.rect t)).set
  rw [View.set_slice_whole, Rect.mem_set_unit]
  exact fun | ⟨0, _⟩ => h.1 | ⟨1, _⟩ => h.2
theorem cover7 (i : S2048x96.Idx) : ∃ t : Fin cfg0.N, (cfg0.win 7).flush t = true ∧ i ∈ ((cfg0.win 7).blk t).view.set := by
  exact (cover6 i).imp fun t h => ⟨flush0_7 t, h.2⟩
theorem cover8 (i : S2048x256.Idx) : ∃ t : Fin cfg0.N, (cfg0.win 8).flush t = true ∧ i ∈ ((cfg0.win 8).blk t).view.set := by
  obtain ⟨t, h⟩ := rows 512 256 win0_8.index (by decide +kernel : ∀ t : Fin grid0.N, win0_8.index t 0 = t.val ∧ win0_8.index t 1 = 0) (congrArg (· * 512) N_0) i
  refine ⟨t, flush0_8 t, ?_⟩
  show i ∈ ((View.whole main_v9_2).slice (win0_8.rect t)).set
  rw [View.set_slice_whole, Rect.mem_set_unit]
  exact fun | ⟨0, _⟩ => h.1 | ⟨1, _⟩ => h.2
theorem cover9 (i : S2048x64.Idx) : ∃ t : Fin cfg0.N, (cfg0.win 9).flush t = true ∧ i ∈ ((cfg0.win 9).blk t).view.set := by
  obtain ⟨t, h⟩ := rows 512 64 win0_9.index (by decide +kernel : ∀ t : Fin grid0.N, win0_9.index t 0 = t.val ∧ win0_9.index t 1 = 0) (congrArg (· * 512) N_0) i
  refine ⟨t, flush0_9 t, ?_⟩
  show i ∈ ((View.whole main_v9_3).slice (win0_9.rect t)).set
  rw [View.set_slice_whole, Rect.mem_set_unit]
  exact fun | ⟨0, _⟩ => h.1 | ⟨1, _⟩ => h.2

end Cert.LoraBwdIdeal.Val

namespace Cert.Claims

open Cert.LoraBwdIdeal Cert.LoraBwdIdeal.Gen Cert.LoraBwdIdeal.Val Cert.LoraBwdRefIdeal.Read in
/-- The gradients through the activations and their reference end with equal results. -/
theorem lora_bwd : Cert.algebraic_LoraBwdIdeal_LoraBwdRefIdeal (hLoraBwdIdeal := Cert.LoraBwdIdeal.Gen.facts) (hLoraBwdRefIdeal := Cert.LoraBwdRefIdeal.Gen.facts) := by
  intro m g m' g' _ hargs
  refine ⟨fun c => goal6 m c, fun c => goal7 m c, fun c => goal8 m c, fun c => goal9 m c,
    (θ_run _ _ _).mono (fun r h c => ⟨(h c).1.trans ?_, (h c).2.1.trans ?_, (h c).2.2.1.trans ?_, (h c).2.2.2.1.trans ?_, (h c).2.2.2.2⟩) (Cert.LoraBwdIdeal.Value.run_blocks m g),
    (θ_run _ _ _).mono (fun r h c => ⟨(h c).1.trans ?_, (h c).2.1.trans ?_, (h c).2.2.1.trans ?_, (h c).2.2.2.1.trans ?_, (h c).2.2.2.2⟩) (Cert.LoraBwdRefIdeal.Value.run m' g')⟩
  · exact (dats m 0 c).arrAt_eq_of_cover 6 (goal6 m c) (fun t _ => flushed_eq6 m c t) cover6
  · exact (dats m 0 c).arrAt_eq_of_cover 7 (goal7 m c) (fun t _ => flushed_eq7 m c t) cover7
  · exact (dats m 0 c).arrAt_eq_of_cover 8 (goal8 m c) (fun t _ => flushed_eq8 m c t) cover8
  · exact (dats m 0 c).arrAt_eq_of_cover 9 (goal9 m c) (fun t _ => flushed_eq9 m c t) cover9
  · rw [(hargs c).1, (hargs c).2.1]
    refine (val_main_v17_eq _ _).trans ((ref_t _ _).trans ?_)
    unfold goal6; beta_reduce
    rw [V_main_arg0, V_v1]
    rfl
  · rw [(hargs c).2.2.1]
    exact (V_main_arg2 m c).symm
  · rw [(hargs c).2.2.2.1, (hargs c).2.2.2.2.1]
    refine (val_main_v19_eq _ _).trans ((ref_s _ _).trans ?_)
    unfold goal8; beta_reduce
    rw [V_main_arg3, V_v8]
    rfl
  · rw [(hargs c).2.2.2.2.2]
    exact (V_main_arg5 m c).symm

end Cert.Claims
-- ==== Proof.RmsFwdVal.lean ====
/-
  The normalised state in bfloat16 and its reference, block by block.
-/
module

public import proofs.«01_k».proof.Defs
public import proofs.«01_k».proof.Proof.Gen.RmsFwdIdeal.Value
public import proofs.«01_k».proof.Proof.Gen.RmsFwdRefIdeal.Run
public import proofs.«01_k».proof.Proof.Gen.RmsFwdRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Rms

/-- The inverse root mean square of a row. -/
def rms (x : Fin 2048 → EReal) : EReal :=
  Ideal.rsqrt (Ideal.div (∑ k, x k * x k) (Ideal.ofBits .f32 0x45000000#32) + Ideal.ofBits .f32 0x358637BD#32)

/-- The rows of a state, normalised and times the gain. -/
def normed (x : (⟨2, ![2048, 2048]⟩ : Shape).Idx → EReal) (g : (⟨1, ![2048]⟩ : Shape).Idx → EReal) : (⟨2, ![2048, 2048]⟩ : Shape).Idx → EReal :=
  fun i => x i * rms (fun k => x (ix2 (i 0 : Fin 2048) k)) * g (ix1 (i 1 : Fin 2048))

end Cert.Rms

namespace Cert.RmsFwdIdeal.Val

open Cert.RmsFwdIdeal Cert.RmsFwdIdeal.Gen
open Cert.Rms

variable (m : (ℓ : Loc nD τ sig) → Buf (Elt Ideal) ℓ)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The gain as a row. -/
theorem V_main_v0 (c : Dev nD) (l : Fin 2048) : V m c main_v0 (ix2 (0 : Fin 1) l) = m ((c : Thread nD τ).loc main_arg1) (ix1 l) := by
  unfold V
  after_reads_at

/-- The body's result at an index. -/
theorem body (x : Vec Ideal S256x2048 .f32) (y : Vec Ideal S1x2048 .f32) (r : Fin 256) (l : Fin 2048) :
    out0_2 x y (ix2 r l) = x (ix2 r l) * rms (fun k => x (ix2 r k)) * y (ix2 (0 : Fin 1) l) := by
  unfold out0_2
  rw [View.canon_unit_zero (funext fun a => by fin_cases a <;> rfl)]
  pointwise [k0_pay1]
  rfl

/-- The state's block at a grid point, read at an index. -/
theorem blk0 (c : Dev nD) (t : Fin cfg0.N) (r : Fin 256) (l : Fin 2048) :
    iblk m c 0 t (ix2 r l) = m ((c : Thread nD τ).loc main_arg0) (ix2 (⟨t.val * 256 + r.val, by have := t.isLt; have : cfg0.N = 8 := N_0; omega⟩ : Fin 2048) l) := by
  rw [← V_main_arg0 m c]
  unfold iblk
  rw [View.read_apply]
  refine congrArg (V m c main_arg0) (funext fun a => Fin.ext ?_)
  have h := idx0 t
  match a with
  | ⟨0, _⟩ => show win0_0.index t 0 * 256 + 1 * r.val = t.val * 256 + r.val; rw [h.1] <;> omega
  | ⟨1, _⟩ => show win0_0.index t 1 * 2048 + 1 * l.val = l.val; rw [h.2] <;> omega

/-- The gain's block, read at an index. -/
theorem blk1 (c : Dev nD) (t : Fin cfg0.N) (l : Fin 2048) :
    iblk m c 1 t (ix2 (0 : Fin 1) l) = m ((c : Thread nD τ).loc main_arg1) (ix1 l) := by
  rw [← V_main_v0 m c l]
  unfold iblk
  rw [View.read_apply]
  refine congrArg (V m c main_v0) (funext fun a => Fin.ext ?_)
  have h := idx1 t
  match a with
  | ⟨0, _⟩ => show win0_1.index t 0 * 1 + 1 * 0 = 0; rw [h.1] <;> omega
  | ⟨1, _⟩ => show win0_1.index t 1 * 2048 + 1 * l.val = l.val; rw [h.2] <;> omega

/-- Where an index of the result's block lies in its array. -/
theorem emb2 (t : Fin cfg0.N) (r : Fin 256) (l : Fin 2048) : ((cfg0.win 2).blk t).view.emb (ix2 r l) = ix2 (⟨t.val * 256 + r.val, by have := t.isLt; have : cfg0.N = 8 := N_0; omega⟩ : Fin 2048) l := by
  refine funext fun a => Fin.ext ?_
  have h := idx2 t
  match a with
  | ⟨0, _⟩ => show win0_2.index t 0 * 256 + 1 * r.val = t.val * 256 + r.val; rw [h.1] <;> omega
  | ⟨1, _⟩ => show win0_2.index t 1 * 2048 + 1 * l.val = l.val; rw [h.2] <;> omega

/-- A device's normalised state. -/
abbrev goal (c : Dev nD) : Buf (Elt Ideal) ((c : Thread nD τ).loc main_v1) :=
  normed (m ((c : Thread nD τ).loc main_arg0)) (m ((c : Thread nD τ).loc main_arg1))

/-- What a grid point writes back is its block of the normalised state. -/
theorem flushed_eq (c : Dev nD) (t : Fin cfg0.N) :
    (dats m 0 c).flushed 2 t = ((cfg0.win 2).blk t).view.read (Elt Ideal) (goal m c) := by
  rw [Value.flushed2]
  funext j
  obtain ⟨r, l, rfl⟩ : ∃ (r : Fin 256) (l : Fin 2048), j = ix2 r l := ⟨j 0, j 1, by idx_ext⟩
  rw [View.read_apply, emb2]
  show out0_2 (iblk m c 0 t) (iblk m c 1 t) (ix2 r l) = goal m c (ix2 _ l)
  rw [body, blk1]
  simp only [blk0]
  rfl

/-- The blocks of the result tile its array. -/
theorem cover (i : S2048x2048.Idx) : ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have hN : cfg0.N = 8 := N_0
  obtain ⟨t, ht⟩ : ∃ t : Fin cfg0.N, t.val = (i 0 : Nat) / 256 := ⟨⟨_, by omega⟩, rfl⟩
  refine ⟨t, flush0_2 _, ?_⟩
  show i ∈ ((View.whole main_v1).slice (win0_2.rect t)).set
  rw [View.set_slice_whole, Rect.mem_set_unit]
  have h := idx2 t
  intro a
  match a with
  | ⟨0, _⟩ => show win0_2.index t 0 * 256 ≤ (i 0 : Nat) ∧ (i 0 : Nat) < win0_2.index t 0 * 256 + 256; rw [h.1]; omega
  | ⟨1, _⟩ => show win0_2.index t 1 * 2048 ≤ (i 1 : Nat) ∧ (i 1 : Nat) < win0_2.index t 1 * 2048 + 2048; rw [h.2]; omega

end Cert.RmsFwdIdeal.Val

namespace Cert.Claims

open Cert.RmsFwdRefIdeal Cert.RmsFwdRefIdeal.Read in
/-- The reference's normalised state. -/
theorem rms_fwd_eq (x : S2048x2048.Idx → EReal) (g : S2048.Idx → EReal) : val_main_v13 (F := Ideal) x g = Cert.Rms.normed x g := by
  funext i
  obtain ⟨r, l, rfl⟩ : ∃ r l : Fin 2048, i = ix2 r l := ⟨i 0, i 1, by idx_ext⟩
  have h : val_main_v1 (F := Ideal) x (ix1 r) = ∑ k, x (ix2 r k) * x (ix2 r k) := by
    rw [val_main_v1_apply]
    refine (congrArg (· + _) (show val_main_cst (F := Ideal) (Shape.Idx.first Gen.h_S_) = 0 by pointwise [val_main_cst])).trans ((zero_add _).trans ?_)
    refine Finset.sum_congr rfl fun k _ => ?_
    rw [show idx_main_v1 (ix1 r) k = ix2 r k by idx_ext]
    rfl
  unfold Cert.Rms.normed Cert.Rms.rms
  show _ = x (ix2 r l) * Ideal.rsqrt (Ideal.div (∑ k, x (ix2 r k) * x (ix2 r k)) _ + _) * g (ix1 l)
  rw [← h]
  pointwise [val_main_v13, val_main_v12, val_main_v11, val_main_v10, val_main_v9, val_main_v8, val_main_v7, val_main_v6, val_main_v5, val_main_cst_1, val_main_v4,
    val_main_v3, val_main_cst_0, val_main_v2] <;> rfl

open Cert.RmsFwdIdeal Cert.RmsFwdIdeal.Gen Cert.RmsFwdIdeal.Val in
/-- The normalised state and its reference end with equal results. -/
theorem rms_fwd : Cert.algebraic_RmsFwdIdeal_RmsFwdRefIdeal (hRmsFwdIdeal := Cert.RmsFwdIdeal.Gen.facts) (hRmsFwdRefIdeal := Cert.RmsFwdRefIdeal.Gen.facts) := by
  intro m g m' g' _ hargs
  refine ⟨fun c => goal m c,
    (θ_run _ _ _).mono (fun r h c => ⟨(h c).1.trans ?_, (h c).2⟩) (Cert.RmsFwdIdeal.Value.run_blocks m g),
    (θ_run _ _ _).mono (fun r h c => ⟨(h c).1.trans ?_, (h c).2⟩) (Cert.RmsFwdRefIdeal.Value.run m' g')⟩
  · exact (dats m 0 c).arrAt_eq_of_cover 2 (goal m c) (fun t _ => flushed_eq m c t) cover
  · rw [(hargs c).1, (hargs c).2]
    exact (Cert.RmsFwdRefIdeal.Read.val_main_v13_eq _ _).trans (rms_fwd_eq _ _)

end Cert.Claims
-- ==== Proof.RmsFwd32Val.lean ====
/-
  The normalised state in float32 and its reference, block by block.
-/
module

public import proofs.«01_k».proof.Defs
public import proofs.«01_k».proof.Proof.Gen.RmsFwd32Ideal.Value
public import proofs.«01_k».proof.Proof.Gen.RmsFwd32RefIdeal.Run
public import proofs.«01_k».proof.Proof.Gen.RmsFwd32RefIdeal.Read
public import proofs.«01_k».proof.Proof.RmsFwdVal
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.RmsFwd32Ideal.Val

open Cert.RmsFwd32Ideal Cert.RmsFwd32Ideal.Gen
open Cert.Rms

variable (m : (ℓ : Loc nD τ sig) → Buf (Elt Ideal) ℓ)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The gain as a row. -/
theorem V_main_v0 (c : Dev nD) (l : Fin 2048) : V m c main_v0 (ix2 (0 : Fin 1) l) = m ((c : Thread nD τ).loc main_arg1) (ix1 l) := by
  unfold V
  after_reads_at

/-- The body's result at an index. -/
theorem body (x : Vec Ideal S256x2048 .f32) (y : Vec Ideal S1x2048 .f32) (r : Fin 256) (l : Fin 2048) :
    out0_2 x y (ix2 r l) = x (ix2 r l) * rms (fun k => x (ix2 r k)) * y (ix2 (0 : Fin 1) l) := by
  unfold out0_2
  rw [View.canon_unit_zero (funext fun a => by fin_cases a <;> rfl)]
  pointwise [k0_pay1]
  rfl

/-- The state's block at a grid point, read at an index. -/
theorem blk0 (c : Dev nD) (t : Fin cfg0.N) (r : Fin 256) (l : Fin 2048) :
    iblk m c 0 t (ix2 r l) = m ((c : Thread nD τ).loc main_arg0) (ix2 (⟨t.val * 256 + r.val, by have := t.isLt; have : cfg0.N = 8 := N_0; omega⟩ : Fin 2048) l) := by
  rw [← V_main_arg0 m c]
  unfold iblk
  rw [View.read_apply]
  refine congrArg (V m c main_arg0) (funext fun a => Fin.ext ?_)
  have h := idx0 t
  match a with
  | ⟨0, _⟩ => show win0_0.index t 0 * 256 + 1 * r.val = t.val * 256 + r.val; rw [h.1] <;> omega
  | ⟨1, _⟩ => show win0_0.index t 1 * 2048 + 1 * l.val = l.val; rw [h.2] <;> omega

/-- The gain's block, read at an index. -/
theorem blk1 (c : Dev nD) (t : Fin cfg0.N) (l : Fin 2048) :
    iblk m c 1 t (ix2 (0 : Fin 1) l) = m ((c : Thread nD τ).loc main_arg1) (ix1 l) := by
  rw [← V_main_v0 m c l]
  unfold iblk
  rw [View.read_apply]
  refine congrArg (V m c main_v0) (funext fun a => Fin.ext ?_)
  have h := idx1 t
  match a with
  | ⟨0, _⟩ => show win0_1.index t 0 * 1 + 1 * 0 = 0; rw [h.1] <;> omega
  | ⟨1, _⟩ => show win0_1.index t 1 * 2048 + 1 * l.val = l.val; rw [h.2] <;> omega

/-- Where an index of the result's block lies in its array. -/
theorem emb2 (t : Fin cfg0.N) (r : Fin 256) (l : Fin 2048) : ((cfg0.win 2).blk t).view.emb (ix2 r l) = ix2 (⟨t.val * 256 + r.val, by have := t.isLt; have : cfg0.N = 8 := N_0; omega⟩ : Fin 2048) l := by
  refine funext fun a => Fin.ext ?_
  have h := idx2 t
  match a with
  | ⟨0, _⟩ => show win0_2.index t 0 * 256 + 1 * r.val = t.val * 256 + r.val; rw [h.1] <;> omega
  | ⟨1, _⟩ => show win0_2.index t 1 * 2048 + 1 * l.val = l.val; rw [h.2] <;> omega

/-- A device's normalised state. -/
abbrev goal (c : Dev nD) : Buf (Elt Ideal) ((c : Thread nD τ).loc main_v1) :=
  normed (m ((c : Thread nD τ).loc main_arg0)) (m ((c : Thread nD τ).loc main_arg1))

/-- What a grid point writes back is its block of the normalised state. -/
theorem flushed_eq (c : Dev nD) (t : Fin cfg0.N) :
    (dats m 0 c).flushed 2 t = ((cfg0.win 2).blk t).view.read (Elt Ideal) (goal m c) := by
  rw [Value.flushed2]
  funext j
  obtain ⟨r, l, rfl⟩ : ∃ (r : Fin 256) (l : Fin 2048), j = ix2 r l := ⟨j 0, j 1, by idx_ext⟩
  rw [View.read_apply, emb2]
  show out0_2 (iblk m c 0 t) (iblk m c 1 t) (ix2 r l) = goal m c (ix2 _ l)
  rw [body, blk1]
  simp only [blk0]
  rfl

/-- The blocks of the result tile its array. -/
theorem cover (i : S2048x2048.Idx) : ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have hN : cfg0.N = 8 := N_0
  obtain ⟨t, ht⟩ : ∃ t : Fin cfg0.N, t.val = (i 0 : Nat) / 256 := ⟨⟨_, by omega⟩, rfl⟩
  refine ⟨t, flush0_2 _, ?_⟩
  show i ∈ ((View.whole main_v1).slice (win0_2.rect t)).set
  rw [View.set_slice_whole, Rect.mem_set_unit]
  have h := idx2 t
  intro a
  match a with
  | ⟨0, _⟩ => show win0_2.index t 0 * 256 ≤ (i 0 : Nat) ∧ (i 0 : Nat) < win0_2.index t 0 * 256 + 256; rw [h.1]; omega
  | ⟨1, _⟩ => show win0_2.index t 1 * 2048 ≤ (i 1 : Nat) ∧ (i 1 : Nat) < win0_2.index t 1 * 2048 + 2048; rw [h.2]; omega

end Cert.RmsFwd32Ideal.Val

namespace Cert.Claims

open Cert.RmsFwd32RefIdeal Cert.RmsFwd32RefIdeal.Read in
/-- The reference's normalised state. -/
theorem rms_fwd_wide_eq (x : S2048x2048.Idx → EReal) (g : S2048.Idx → EReal) : val_main_v12 (F := Ideal) x g = Cert.Rms.normed x g := by
  funext i
  obtain ⟨r, l, rfl⟩ : ∃ r l : Fin 2048, i = ix2 r l := ⟨i 0, i 1, by idx_ext⟩
  have h : val_main_v1 (F := Ideal) x (ix1 r) = ∑ k, x (ix2 r k) * x (ix2 r k) := by
    rw [val_main_v1_apply]
    refine (congrArg (· + _) (show val_main_cst (F := Ideal) (Shape.Idx.first Gen.h_S_) = 0 by pointwise [val_main_cst])).trans ((zero_add _).trans ?_)
    refine Finset.sum_congr rfl fun k _ => ?_
    rw [show idx_main_v1 (ix1 r) k = ix2 r k by idx_ext]
    rfl
  unfold Cert.Rms.normed Cert.Rms.rms
  show _ = x (ix2 r l) * Ideal.rsqrt (Ideal.div (∑ k, x (ix2 r k) * x (ix2 r k)) _ + _) * g (ix1 l)
  rw [← h]
  pointwise [val_main_v12, val_main_v11, val_main_v10, val_main_v9, val_main_v8, val_main_v7, val_main_v6, val_main_v5, val_main_cst_1, val_main_v4,
    val_main_v3, val_main_cst_0, val_main_v2] <;> rfl

open Cert.RmsFwd32Ideal Cert.RmsFwd32Ideal.Gen Cert.RmsFwd32Ideal.Val in
/-- The normalised state and its reference end with equal results. -/
theorem rms_fwd_wide : Cert.algebraic_RmsFwd32Ideal_RmsFwd32RefIdeal (hRmsFwd32Ideal := Cert.RmsFwd32Ideal.Gen.facts) (hRmsFwd32RefIdeal := Cert.RmsFwd32RefIdeal.Gen.facts) := by
  intro m g m' g' _ hargs
  refine ⟨fun c => goal m c,
    (θ_run _ _ _).mono (fun r h c => ⟨(h c).1.trans ?_, (h c).2⟩) (Cert.RmsFwd32Ideal.Value.run_blocks m g),
    (θ_run _ _ _).mono (fun r h c => ⟨(h c).1.trans ?_, (h c).2⟩) (Cert.RmsFwd32RefIdeal.Value.run m' g')⟩
  · exact (dats m 0 c).arrAt_eq_of_cover 2 (goal m c) (fun t _ => flushed_eq m c t) cover
  · rw [(hargs c).1, (hargs c).2]
    exact (Cert.RmsFwd32RefIdeal.Read.val_main_v12_eq _ _).trans (rms_fwd_wide_eq _ _)

end Cert.Claims
-- ==== Proof.HgrnPreVal.lean ====
/-
  The queries, the forget gates and the keys of the gated recurrence and their reference, block by block.
-/
module

public import proofs.«01_k».proof.Defs
public import proofs.«01_k».proof.Proof.Tile
public import proofs.«01_k».proof.Proof.Gen.HgrnPreIdeal.Value
public import proofs.«01_k».proof.Proof.Gen.HgrnPreRefIdeal.Run
public import proofs.«01_k».proof.Proof.Gen.HgrnPreRefIdeal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Hgrn

/-- The number one, as the programs write it. -/
abbrev one : EReal := Ideal.ofBits FTy.f32 0x3F800000#32

/-- The logistic function of an entry. -/
def logistic (z : EReal) : EReal := Ideal.div 1 (1 + Ideal.exp (-z))

/-- The forget gate of an entry: at least its lower bound. -/
def forget (z b : EReal) : EReal := b + (1 - b) * logistic z

/-- A column of the third sixth of the projection, and of the fourth. -/
abbrev qcol (l : Fin 1024) : Fin 6144 := ⟨2048 + l.val, by omega⟩
abbrev fcol (l : Fin 1024) : Fin 6144 := ⟨3072 + l.val, by omega⟩

open Cert.HgrnPreRefIdeal Cert.HgrnPreRefIdeal.Read

/-- The reference's queries, gates and keys at an index. -/
theorem ref_q (x : S2048x6144.Idx → EReal) (r : Fin 2048) (l : Fin 1024) :
    val_main_v16 (F := Ideal) x (ix2 r l) = x (ix2 r (qcol l)) * logistic (x (ix2 r (qcol l))) := by
  pointwise [val_main_v16, val_main_v0, val_main_call0_v5, val_main_call0_v4, val_main_call0_cst_0, val_main_call0_v3, val_main_call0_v2, val_main_call0_cst, val_main_call0_v1, val_main_call0_v0]
  rfl
theorem ref_g (x : S2048x6144.Idx → EReal) (b : S1024.Idx → EReal) (r : Fin 2048) (l : Fin 1024) :
    val_main_v15 (F := Ideal) x b (ix2 r l) = forget (x (ix2 r (fcol l))) (b (ix1 l)) := by
  pointwise [val_main_v15, val_main_v14, val_main_v13, val_main_v12, val_main_v11, val_main_v10, val_main_v9, val_main_v8, val_main_cst_1, val_main_v7, val_main_v6, val_main_cst_0, val_main_v5, val_main_v4, val_main_v3, val_main_v2, val_main_cst, val_main_v1]
  rfl
theorem ref_f (x : S2048x6144.Idx → EReal) (b : S1024.Idx → EReal) (r : Fin 2048) (l : Fin 1024) :
    val_main_v18 (F := Ideal) x b (ix2 r l) = max (forget (x (ix2 r (fcol l))) (b (ix1 l))) (Ideal.ofBits FTy.f32 0x0DA24260#32) := by
  rw [← ref_g]; rfl
theorem ref_k (x : S2048x6144.Idx → EReal) (b : S1024.Idx → EReal) (r : Fin 2048) (l : Fin 1024) :
    val_main_v20 (F := Ideal) x b (ix2 r l) = one - forget (x (ix2 r (fcol l))) (b (ix1 l)) := by
  rw [← ref_g]; rfl

end Cert.Hgrn

namespace Cert.HgrnPreIdeal.Val

open Cert.HgrnPreIdeal Cert.HgrnPreIdeal.Gen
open Cert.Hgrn

variable (m : (ℓ : Loc nD τ sig) → Buf (Elt Ideal) ℓ)

theorem idx0 : ∀ t : Fin cfg0.N, (win0_0.index t 0 = t.val ∧ win0_0.index t 1 = 2) ∧ win0_1.index t 0 = t.val ∧ win0_1.index t 1 = 3 :=
  (by decide +kernel : ∀ t : Fin grid0.N, (win0_0.index t 0 = t.val ∧ win0_0.index t 1 = 2) ∧ win0_1.index t 0 = t.val ∧ win0_1.index t 1 = 3)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- The lower bounds as a row. -/
theorem V_main_v0 (c : Dev nD) (l : Fin 1024) : V m c main_v0 (ix2 (0 : Fin 1) l) = m ((c : Thread nD τ).loc main_arg1) (ix1 l) := by
  unfold V
  after_reads_at

/-- The body's three results at an index. -/
theorem body3 (x0 x1 : Vec Ideal S256x1024 .f32) (x2 : Vec Ideal S1x1024 .f32) (r : Fin 256) (l : Fin 1024) :
    out0_3 x0 x1 x2 (ix2 r l) = x0 (ix2 r l) * logistic (x0 (ix2 r l)) := by
  unfold out0_3
  rw [View.canon_unit_zero (funext fun a => by fin_cases a <;> rfl), View.ld_unit_zero (funext fun a => by fin_cases a <;> rfl)]
  pointwise [k0_pay2]
  rw [zero_sub]
  rfl
theorem gate (x1 : Vec Ideal S256x1024 .f32) (x2 : Vec Ideal S1x1024 .f32) (r : Fin 256) (l : Fin 1024) :
    k0_pay1 x1 x2 (ix2 r l) = forget (x1 (ix2 r l)) (x2 (ix2 (0 : Fin 1) l)) := by
  pointwise [k0_pay1]
  rw [zero_sub]
  rfl
theorem body4 (x0 x1 : Vec Ideal S256x1024 .f32) (x2 : Vec Ideal S1x1024 .f32) (r : Fin 256) (l : Fin 1024) :
    out0_4 x0 x1 x2 (ix2 r l) = max (forget (x1 (ix2 r l)) (x2 (ix2 (0 : Fin 1) l))) (Ideal.ofBits FTy.f32 0x0DA24260#32) := by
  unfold out0_4
  rw [View.canon_unit_zero (funext fun a => by fin_cases a <;> rfl), View.ld_unit_zero (funext fun a => by fin_cases a <;> rfl),
    View.ld_unit_zero (funext fun a => by fin_cases a <;> rfl), ← gate]
  rfl
theorem body5 (x0 x1 : Vec Ideal S256x1024 .f32) (x2 : Vec Ideal S1x1024 .f32) (r : Fin 256) (l : Fin 1024) :
    out0_5 x0 x1 x2 (ix2 r l) = one - forget (x1 (ix2 r l)) (x2 (ix2 (0 : Fin 1) l)) := by
  unfold out0_5
  rw [View.canon_unit_zero (funext fun a => by fin_cases a <;> rfl), View.ld_unit_zero (funext fun a => by fin_cases a <;> rfl),
    View.ld_unit_zero (funext fun a => by fin_cases a <;> rfl), ← gate]
  rfl

/-- A grid point's row of the whole. -/
abbrev row (t : Fin cfg0.N) (r : Fin 256) : Fin 2048 := ⟨t.val * 256 + r.val, by have := t.isLt; have : cfg0.N = 8 := N_0; omega⟩

/-- The blocks of the projection and of the bounds, read at an index. -/
theorem blk0 (c : Dev nD) (t : Fin cfg0.N) (r : Fin 256) (l : Fin 1024) :
    iblk m c 0 t (ix2 r l) = m ((c : Thread nD τ).loc main_arg0) (ix2 (row t r) (qcol l)) := by
  rw [← V_main_arg0 m c]
  unfold iblk
  rw [View.read_apply]
  refine congrArg (V m c main_arg0) (funext fun a => Fin.ext ?_)
  match a with
  | ⟨0, _⟩ => show win0_0.index t 0 * 256 + 1 * r.val = t.val * 256 + r.val; rw [(idx0 t).1.1] <;> omega
  | ⟨1, _⟩ => show win0_0.index t 1 * 1024 + 1 * l.val = 2048 + l.val; rw [(idx0 t).1.2] <;> omega
theorem blk1 (c : Dev nD) (t : Fin cfg0.N) (r : Fin 256) (l : Fin 1024) :
    iblk m c 1 t (ix2 r l) = m ((c : Thread nD τ).loc main_arg0) (ix2 (row t r) (fcol l)) := by
  rw [← V_main_arg0 m c]
  unfold iblk
  rw [View.read_apply]
  refine congrArg (V m c main_arg0) (funext fun a => Fin.ext ?_)
  match a with
  | ⟨0, _⟩ => show win0_1.index t 0 * 256 + 1 * r.val = t.val * 256 + r.val; rw [(idx0 t).2.1] <;> omega
  | ⟨1, _⟩ => show win0_1.index t 1 * 1024 + 1 * l.val = 3072 + l.val; rw [(idx0 t).2.2] <;> omega
theorem blk2 (c : Dev nD) (t : Fin cfg0.N) (l : Fin 1024) :
    iblk m c 2 t (ix2 (0 : Fin 1) l) = m ((c : Thread nD τ).loc main_arg1) (ix1 l) := by
  rw [← V_main_v0 m c l]
  unfold iblk
  rw [View.read_apply]
  refine congrArg (V m c main_v0) (funext fun a => Fin.ext ?_)
  match a with
  | ⟨0, _⟩ => show win0_2.index t 0 * 1 + 1 * 0 = 0; rw [(idx2 t).1] <;> omega
  | ⟨1, _⟩ => show win0_2.index t 1 * 1024 + 1 * l.val = l.val; rw [(idx2 t).2] <;> omega

/-- Where an index of a result's block lies in its array. -/
theorem emb (t : Fin cfg0.N) (r : Fin 256) (l : Fin 1024) : ((cfg0.win 3).blk t).view.emb (ix2 r l) = ix2 (row t r) l := by
  refine funext fun a => Fin.ext ?_
  match a with
  | ⟨0, _⟩ => show win0_3.index t 0 * 256 + 1 * r.val = t.val * 256 + r.val; rw [(idx3 t).1] <;> omega
  | ⟨1, _⟩ => show win0_3.index t 1 * 1024 + 1 * l.val = l.val; rw [(idx3 t).2] <;> omega

/-- The three arrays that the call leaves. -/
abbrev goal3 (c : Dev nD) : Buf (Elt Ideal) ((c : Thread nD τ).loc main_v1_0) :=
  Cert.HgrnPreRefIdeal.Read.val_main_v16 (F := Ideal) (m ((c : Thread nD τ).loc main_arg0))
abbrev goal4 (c : Dev nD) : Buf (Elt Ideal) ((c : Thread nD τ).loc main_v1_1) :=
  Cert.HgrnPreRefIdeal.Read.val_main_v18 (F := Ideal) (m ((c : Thread nD τ).loc main_arg0)) (m ((c : Thread nD τ).loc main_arg1))
abbrev goal5 (c : Dev nD) : Buf (Elt Ideal) ((c : Thread nD τ).loc main_v1_2) :=
  Cert.HgrnPreRefIdeal.Read.val_main_v20 (F := Ideal) (m ((c : Thread nD τ).loc main_arg0)) (m ((c : Thread nD τ).loc main_arg1))

/-- What a grid point writes back of each result is its block of that array. -/
theorem flushed_eq3 (c : Dev nD) (t : Fin cfg0.N) : (dats m 0 c).flushed 3 t = ((cfg0.win 3).blk t).view.read (Elt Ideal) (goal3 m c) := by
  rw [Value.flushed3]
  funext j
  obtain ⟨r, l, rfl⟩ : ∃ (r : Fin 256) (l : Fin 1024), j = ix2 r l := ⟨j 0, j 1, by idx_ext⟩
  refine (body3 _ _ _ r l).trans ?_
  rw [View.read_apply, emb, blk0]
  exact (ref_q _ _ l).symm
theorem flushed_eq4 (c : Dev nD) (t : Fin cfg0.N) : (dats m 0 c).flushed 4 t = ((cfg0.win 4).blk t).view.read (Elt Ideal) (goal4 m c) := by
  rw [Value.flushed4]
  funext j
  obtain ⟨r, l, rfl⟩ : ∃ (r : Fin 256) (l : Fin 1024), j = ix2 r l := ⟨j 0, j 1, by idx_ext⟩
  refine (body4 _ _ _ r l).trans ?_
  rw [View.read_apply, show ((cfg0.win 4).blk t).view.emb (ix2 r l) = ix2 (row t r) l from emb t r l, blk1, blk2]
  exact (ref_f _ _ _ l).symm
theorem flushed_eq5 (c : Dev nD) (t : Fin cfg0.N) : (dats m 0 c).flushed 5 t = ((cfg0.win 5).blk t).view.read (Elt Ideal) (goal5 m c) := by
  rw [Value.flushed5]
  funext j
  obtain ⟨r, l, rfl⟩ : ∃ (r : Fin 256) (l : Fin 1024), j = ix2 r l := ⟨j 0, j 1, by idx_ext⟩
  refine (body5 _ _ _ r l).trans ?_
  rw [View.read_apply, show ((cfg0.win 5).blk t).view.emb (ix2 r l) = ix2 (row t r) l from emb t r l, blk1, blk2]
  exact (ref_k _ _ _ l).symm

/-- The blocks of a result tile its array. -/
theorem cover (i : S2048x1024.Idx) : ∃ t : Fin cfg0.N, i ∈ ((cfg0.win 3).blk t).view.set := by
  obtain ⟨t, h⟩ := Cert.Tile.rows 256 1024 win0_3.index idx3 (congrArg (· * 256) N_0) i
  refine ⟨t, ?_⟩
  show i ∈ ((View.whole main_v1_0).slice (win0_3.rect t)).set
  rw [View.set_slice_whole, Rect.mem_set_unit]
  exact fun | ⟨0, _⟩ => h.1 | ⟨1, _⟩ => h.2

end Cert.HgrnPreIdeal.Val

namespace Cert.Claims

open Cert.HgrnPreIdeal Cert.HgrnPreIdeal.Gen Cert.HgrnPreIdeal.Val Cert.HgrnPreRefIdeal.Read in
/-- The queries, the forget gates and the keys and their reference end with equal results. -/
theorem hgrn_pre : Cert.algebraic_HgrnPreIdeal_HgrnPreRefIdeal (hHgrnPreIdeal := Cert.HgrnPreIdeal.Gen.facts) (hHgrnPreRefIdeal := Cert.HgrnPreRefIdeal.Gen.facts) := by
  intro m g m' g' _ hargs
  refine ⟨fun c => goal3 m c, fun c => goal4 m c, fun c => goal5 m c,
    (θ_run _ _ _).mono (fun r h c => ⟨(h c).1.trans ?_, (h c).2.1.trans ?_, (h c).2.2.1.trans ?_, (h c).2.2.2⟩) (Cert.HgrnPreIdeal.Value.run_blocks m g),
    (θ_run _ _ _).mono (fun r h c => ⟨(h c).1.trans ?_, (h c).2.1.trans ?_, (h c).2.2.1.trans ?_, (h c).2.2.2⟩) (Cert.HgrnPreRefIdeal.Value.run m' g')⟩
  · exact (dats m 0 c).arrAt_eq_of_cover 3 (goal3 m c) (fun t _ => flushed_eq3 m c t) fun i => (cover i).imp fun t h => ⟨flush0_3 t, h⟩
  · exact (dats m 0 c).arrAt_eq_of_cover 4 (goal4 m c) (fun t _ => flushed_eq4 m c t) fun i => (cover i).imp fun t h => ⟨flush0_4 t, h⟩
  · exact (dats m 0 c).arrAt_eq_of_cover 5 (goal5 m c) (fun t _ => flushed_eq5 m c t) fun i => (cover i).imp fun t h => ⟨flush0_5 t, h⟩
  · rw [(hargs c).1]; exact val_main_v16_eq _
  · rw [(hargs c).1, (hargs c).2]; exact val_main_v18_eq _ _
  · rw [(hargs c).1, (hargs c).2]; exact val_main_v20_eq _ _

end Cert.Claims
-- ==== Proof.GmlpFwdVal.lean ====
/-
  The gating unit's forward call and its reference, chunk by chunk and group by group.
-/
module

public import proofs.«01_k».proof.Defs
public import proofs.«01_k».proof.Proof.GmlpDefs
public import proofs.«01_k».proof.Proof.Gen.GmlpFwdIdeal.Value
public import proofs.«01_k».proof.Proof.Gen.GmlpFwdRefIdeal.Run
public import proofs.«01_k».proof.Proof.Gen.GmlpFwdRefIdeal.Read
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Gmlp

/-- The gating unit at a position and a column of a group. -/
def gated (u v : Fin 128 → Fin 128 → EReal) (gn : Fin 128 → EReal) (w : Fin 128 → Fin 128 → EReal) (b : Fin 128 → EReal) (t l : Fin 128) : EReal :=
  gel (u t l) * mix v gn w b t l

end Cert.Gmlp

namespace Cert.GmlpFwdRefIdeal.Val

open Cert.GmlpFwdRefIdeal Cert.GmlpFwdRefIdeal.Read
open Cert.Gmlp

variable (x0 : FVec Ideal S2048x6144 .f32) (x1 : FVec Ideal S1024 .f32) (x2 : FVec Ideal S8x128x128 .f32) (x3 : FVec Ideal S8x128 .f32)

/-- The projection by coordinates. -/
abbrev fP : Fin 2048 → Fin 6144 → EReal := fun r c => x0 (ix2 r c)
/-- The gain by its coordinate. -/
abbrev fG : Fin 1024 → EReal := fun k => x1 (ix1 k)
/-- A group's matrix by coordinates. -/
abbrev fW : Fin 8 → Fin 128 → Fin 128 → EReal := fun g t s => x2 (ix3 g t s)
/-- A group's biases. -/
abbrev fB : Fin 8 → Fin 128 → EReal := fun g t => x3 (ix2 g t)

variable (n : Fin 16) (g : Fin 8) (t s l : Fin 128)

/-- The first half at an index. -/
theorem u_read : val_main_v1 (F := Ideal) x0 (ix3 (0 : Fin 1) (row n t) (col g l)) = uOf (fP x0) n g t l := by
  pointwise [val_main_v1, val_main_v0] <;> rfl

/-- The second half at an index. -/
theorem v_read : val_main_v3 (F := Ideal) x0 (ix3 (0 : Fin 1) (row n t) (col g l)) = vOf (fP x0) n g t l := by
  pointwise [val_main_v3, val_main_v2] <;> rfl

/-- The first half activated. -/
theorem gu : val_main_v18 (F := Ideal) x0 (ix3 (0 : Fin 1) (row n t) (col g l)) = gel (uOf (fP x0) n g t l) := by
  rw [← gelR_eq, ← u_read x0 n g t l]
  generalize h : val_main_v1 (F := Ideal) x0 = y
  pointwise [val_main_v18, val_main_v17, val_main_v16, val_main_cst_3, val_main_v15, val_main_v14, val_main_cst_2, val_main_v13, val_main_v12, val_main_v11,
    val_main_cst_1, val_main_v10, val_main_v9, val_main_v8, val_main_cst_0, val_main_v7, val_main_v6, val_main_cst, val_main_v5, val_main_v4, h] <;> rfl

/-- The second half activated. -/
theorem gv : val_main_v33 (F := Ideal) x0 (ix3 (0 : Fin 1) (row n t) (col g l)) = gel (vOf (fP x0) n g t l) := by
  rw [← gelR_eq, ← v_read x0 n g t l]
  generalize h : val_main_v3 (F := Ideal) x0 = y
  pointwise [val_main_v33, val_main_v32, val_main_v31, val_main_cst_8, val_main_v30, val_main_v29, val_main_cst_7, val_main_v28, val_main_v27, val_main_v26,
    val_main_cst_6, val_main_v25, val_main_v24, val_main_v23, val_main_cst_5, val_main_v22, val_main_v21, val_main_cst_4, val_main_v20, val_main_v19, h] <;> rfl

/-- The second half activated, by groups. -/
theorem v34_read : val_main_v34 (F := Ideal) x0 (ix4 (0 : Fin 1) (row n t) g l) = gel (vOf (fP x0) n g t l) := by
  rw [val_main_v34_apply, show idx_main_v34 (ix4 (0 : Fin 1) (row n t) g l) = ix3 (0 : Fin 1) (row n t) (col g l) by unfold row col; idx_ext]
  exact gv x0 n g t l

/-- The reciprocal root. -/
theorem v43_read : val_main_v43 (F := Ideal) x0 (ix4 (0 : Fin 1) (row n t) g (0 : Fin 1)) = inv (vOf (fP x0) n g t) := by
  have h : val_main_v37 (F := Ideal) x0 (ix3 (0 : Fin 1) (row n t) g) = ∑ k, gel (vOf (fP x0) n g t k) * gel (vOf (fP x0) n g t k) := by
    rw [val_main_v37_apply]
    refine (congrArg (· + _) (show val_main_cst_9 (F := Ideal) (Shape.Idx.first Gen.h_S_) = 0 by pointwise [val_main_cst_9])).trans ((zero_add _).trans ?_)
    refine Finset.sum_congr rfl fun k _ => ?_
    rw [show idx_main_v37 (ix3 (0 : Fin 1) (row n t) g) k = ix4 (0 : Fin 1) (row n t) g k by idx_ext, val_main_v36_apply, v34_read]
    rfl
  unfold Cert.Gmlp.inv
  rw [← h]
  pointwise [val_main_v43, val_main_v42, val_main_v41, val_main_cst_11, val_main_v40, val_main_v39, val_main_cst_10, val_main_v38] <;> rfl

/-- The normalised second half times its gain, by chunks. -/
theorem v49_read : val_main_v49 (F := Ideal) x0 x1 (ix5 (0 : Fin 1) n s g l) = nrm (vOf (fP x0) n g s) l * gOf (fG x1) g l := by
  rw [val_main_v49_apply, show idx_main_v49 (ix5 (0 : Fin 1) n s g l) = ix4 (0 : Fin 1) (row n s) g l by unfold row; idx_ext]
  have hg : val_main_v35 (F := Ideal) x1 (ix2 g l) = gOf (fG x1) g l := by
    rw [val_main_v35_apply]
    exact congrArg x1 (by unfold col; idx_ext)
  unfold nrm
  rw [← v43_read x0 n g s, ← v34_read x0 n g s l, ← hg]
  pointwise [val_main_v48, val_main_v47, val_main_v46, val_main_v45, val_main_v44] <;> rfl

/-- The masked matrices. -/
theorem w_read : val_main_v54 (F := Ideal) x2 (ix3 g t s) = msk s t (fW x2 g t s) := by
  have hl : val_main_v51 (F := Ideal) (ix2 t s) = if IntOp.cmpi .sge (IntOp.addi (BitVec.ofNat 32 t.val) 0#32) (BitVec.ofNat 32 s.val) = 1#1 then 1#1 else 0#1 := by
    pointwise [val_main_v51, val_main_call0_v4, val_main_call0_v2, val_main_call0_v0, val_main_call0_v1, val_main_call0_c, val_main_call0_v3, val_main_call0_c_0, val_main_call0_v5, val_main_v50, val_main_c] <;> rfl
  have h2 : val_main_v54 (F := Ideal) x2 (ix3 g t s) = if val_main_v51 (F := Ideal) (ix2 t s) = 1#1 then fW x2 g t s else 0 := by
    pointwise [val_main_v54, val_main_call1_v0, val_main_v52, val_main_v53, val_main_cst_12] <;> rfl
  rw [h2, hl]
  have : (IntOp.cmpi .sge (IntOp.addi (BitVec.ofNat 32 t.val) 0#32) (BitVec.ofNat 32 s.val) = 1#1) ↔ s ≤ t := by
    clear h2 hl
    revert t s
    decide +kernel
  unfold msk
  by_cases hh : s ≤ t
  · rw [if_pos (this.2 hh), if_pos hh]; exact if_pos rfl
  · rw [if_neg (fun h => hh (this.1 h)), if_neg hh]; exact if_neg (by decide)

/-- The reference's gated half. -/
theorem out_read : val_main_v64 (F := Ideal) x0 x1 x2 x3 (ix2 (row n t) (col g l))
    = gated (uOf (fP x0) n g) (vOf (fP x0) n g) (gOf (fG x1) g) (fW x2 g) (fB x3 g) t l := by
  have h : val_main_v55 (F := Ideal) x0 x1 x2 (ix5 g (0 : Fin 1) n l t) = ∑ s, msk s t (fW x2 g t s * (nrm (vOf (fP x0) n g s) l * gOf (fG x1) g l)) := by
    rw [val_main_v55_apply]
    refine Finset.sum_congr rfl fun s _ => ?_
    rw [show lidx_main_v55 (ix5 g (0 : Fin 1) n l t) s = ix5 (0 : Fin 1) n s g l by idx_ext, show ridx_main_v55 (ix5 g (0 : Fin 1) n l t) s = ix3 g t s by idx_ext,
      v49_read, w_read, mul_msk, mul_comm]
  have hm : val_main_v61 (F := Ideal) x0 x1 x2 x3 (ix3 (0 : Fin 1) (row n t) (col g l)) = mix (vOf (fP x0) n g) (gOf (fG x1) g) (fW x2 g) (fB x3 g) t l := by
    rw [val_main_v61_apply, show idx_main_v61 (ix3 (0 : Fin 1) (row n t) (col g l)) = ix5 (0 : Fin 1) n t g l by unfold row col; idx_ext]
    unfold mix
    rw [← h]
    pointwise [val_main_v60, val_main_v59, val_main_v58, val_main_v57, val_main_v56] <;> rfl
  unfold gated
  rw [← hm, ← gu x0 n g t l]
  pointwise [val_main_v64, val_main_v63, val_main_v62] <;> rfl

end Cert.GmlpFwdRefIdeal.Val

namespace Cert.GmlpFwdIdeal.Val

open Cert.GmlpFwdIdeal Cert.GmlpFwdIdeal.Gen
open Cert.Gmlp

variable (m : (ℓ : Loc nD τ sig) → Buf (Elt Ideal) ℓ)

/-- A group's gated half, from the blocks. -/
def outV {F : FTy → Type} [FloatOps F] [Named F] (g : BitVec 32) (x0 x1 : Vec F S128x128 .f32) (x2 : Vec F S1x128 .f32) (x3 : Vec F S1x128x128 .f32)
    (x4 : Vec F S128x8 .f32) : FVec F S128x128 .bf16 :=
  truncf .bf16 (mulf (k0_pay10 x0) (addf
    (matmul dot_S128x128_S128x128_S128x128_1_0_0_1_n_n none
      (truncf .bf16 (select k0_pay1 (shapeCast S128x128 x3 shapeCasts_S1x128x128_S128x128) (broadcast S128x128 (Scalar.ofBits .f32 0x00000000#32))) bitsLt_bf16_f32)
      (truncf .bf16 (mulf (k0_pay11 x1) (broadcastTo S128x128 (shapeCast S1x128 x2 shapeCasts_S1x128_S1x128) broadcasts_S1x128_S128x128)) bitsLt_bf16_f32)
      (constant S128x128 .f32 0x00000000#32))
    (broadcastTo S128x128 (shapeCast S128x1 (multiReduction .add [1] S128
      (select (cmpi .eq (iota .tc S128x8 32 [1] iota_S128x8_d1_w32) (broadcast S128x8 g)) (shapeCast S128x8 x4 shapeCasts_S128x8_S128x8)
        (broadcast S128x8 (Scalar.ofBits (F := F) .f32 0x00000000#32)))
      0x00000000#32 reduces_S128x8_S128 (.inl rfl) rfl) shapeCasts_S128_S128x1) broadcasts_S128x1_S128x128))) bitsLt_bf16_f32

section
variable {F : FTy → Type} [FloatOps F] [Named F] (x0 x1 : Vec F S128x128 .f32) (x2 : Vec F S1x128 .f32) (x3 : Vec F S1x128x128 .f32) (x4 : Vec F S128x8 .f32)

/-- Group 0's gated half. -/
theorem out_0 : k0_pay6 k0_pay1 (iota .tc S128x8 32 [1] iota_S128x8_d1_w32) (k0_pay2 x4) (k0_pay3 x0) (k0_pay4 x1) (k0_pay5 x1) x2 x3 = outV 0#32 x0 x1 x2 x3 x4 := rfl
/-- Group 1's gated half. -/
theorem out_1 : k0_pay9 (k0_pay8 k0_pay1 (iota .tc S128x8 32 [1] iota_S128x8_d1_w32) (k0_pay2 x4) (k0_pay7 x0) x1 x2 x3) = outV 1#32 x0 x1 x2 x3 x4 := rfl
/-- Group 2's gated half. -/
theorem out_2 : k0_pay12 k0_pay1 (iota .tc S128x8 32 [1] iota_S128x8_d1_w32) (k0_pay2 x4) (k0_pay10 x0) (k0_pay11 x1) x2 x3 = outV 2#32 x0 x1 x2 x3 x4 := rfl
/-- Group 3's gated half. -/
theorem out_3 : k0_pay15 k0_pay1 (iota .tc S128x8 32 [1] iota_S128x8_d1_w32) (k0_pay2 x4) (k0_pay13 x0) x1 (k0_pay14 x1) (Named.named κ "cube" 0x3D372713#32) x2 x3 = outV 3#32 x0 x1 x2 x3 x4 := rfl
/-- Group 4's gated half. -/
theorem out_4 : k0_pay18 k0_pay1 (iota .tc S128x8 32 [1] iota_S128x8_d1_w32) (k0_pay2 x4) (k0_pay16 x0) (k0_pay17 x1 x2) x3 = outV 4#32 x0 x1 x2 x3 x4 := rfl
/-- Group 5's gated half. -/
theorem out_5 : k0_pay22 k0_pay1 (iota .tc S128x8 32 [1] iota_S128x8_d1_w32) (k0_pay2 x4) (k0_pay19 x0) x1 (k0_pay20 x1) (k0_pay21 x1) x2 x3 = outV 5#32 x0 x1 x2 x3 x4 := rfl
/-- Group 6's gated half. -/
theorem out_6 : k0_pay25 k0_pay1 (iota .tc S128x8 32 [1] iota_S128x8_d1_w32) (k0_pay2 x4) (k0_pay23 x0) (k0_pay24 x1 x2) x3 = outV 6#32 x0 x1 x2 x3 x4 := rfl
/-- Group 7's gated half. -/
theorem out_7 : k0_pay29 k0_pay1 (iota .tc S128x8 32 [1] iota_S128x8_d1_w32) (k0_pay2 x4) (k0_pay26 x0) (k0_pay27 x1) (k0_pay28 x1) x2 x3 = outV 7#32 x0 x1 x2 x3 x4 := rfl

end

/-- The cubic's factor by name. -/
theorem cube_named : Named.named (F := Ideal) κ "cube" (φ := .f32) 1027024659#32 = q := rfl

/-- A group's gated half, read at an index. -/
theorem outV_read (g : Fin 8) (x0 x1 : Vec Ideal S128x128 .f32) (x2 : Vec Ideal S1x128 .f32) (x3 : Vec Ideal S1x128x128 .f32) (x4 : Vec Ideal S128x8 .f32)
    (r l : Fin 128) :
    outV (BitVec.ofNat 32 g.val) x0 x1 x2 x3 x4 (ix2 r l) = gated (fun r l => x0 (ix2 r l)) (fun r l => x1 (ix2 r l)) (fun l => x2 (ix2 (0 : Fin 1) l))
      (fun t s => x3 (ix3 (0 : Fin 1) t s)) (fun t => x4 (ix2 t g)) r l := by
  unfold outV
  pointwise [k0_pay1, k0_pay10, k0_pay11]
  simp only [cube_named, select_sle, select_eq, Finset.sum_ite_eq', Finset.sum_ite_eq, Finset.mem_univ, if_true]
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 1 :=
  (by decide +kernel : ∀ t : Fin grid0.N, win0_1.index t 0 = t.val ∧ win0_1.index t 1 = 1)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

/-- The gain as a row. -/
theorem V_main_v0 (c : Dev nD) (l : Fin 1024) : V m c main_v0 (ix2 (0 : Fin 1) l) = m ((c : Thread nD τ).loc main_arg1) (ix1 l) := by
  unfold V
  after_reads_at

/-- The biases with the group last. -/
theorem V_main_v1 (c : Dev nD) (t : Fin 128) (g : Fin 8) : V m c main_v1 (ix2 t g) = m ((c : Thread nD τ).loc main_arg3) (ix2 g t) := by
  unfold V
  after_reads_at

/-- A grid point as a chunk of the sequence. -/
def pt (t : Fin cfg0.N) : Fin 16 := ⟨t.val, by have := t.isLt; have : cfg0.N = 16 := N_0; omega⟩

/-- The first argument. -/
abbrev aP (c : Dev nD) : Fin 2048 → Fin 6144 → EReal := fun r k => m ((c : Thread nD τ).loc main_arg0) (ix2 r k)
/-- The second argument. -/
abbrev aG (c : Dev nD) : Fin 1024 → EReal := fun k => m ((c : Thread nD τ).loc main_arg1) (ix1 k)
/-- The third argument. -/
abbrev aW (c : Dev nD) (g : Fin 8) : Fin 128 → Fin 128 → EReal := fun t s => m ((c : Thread nD τ).loc main_arg2) (ix3 g t s)
/-- The fourth argument. -/
abbrev aB (c : Dev nD) (g : Fin 8) : Fin 128 → EReal := fun t => m ((c : Thread nD τ).loc main_arg3) (ix2 g t)

/-- The first half's piece of a group. -/
theorem piece0 (c : Dev nD) (t : Fin cfg0.N) (g : Fin 8) (off : ℕ) (h : off = 128 * g.val) (inb) :
    (fun r l => View.ld (Val := Elt Ideal) (e' := .f32) (iblk m c 0 t) (Rect.unit (s := S128x1024) ![0, off] ![128, 128] inb) (ix2 r l)) = uOf (aP m c) (pt t) g := by
  subst h
  refine funext fun r => funext fun l => ?_
  refine (View.ld_unit_apply_of _ _ _ _ _ (ix2 r (col g l)) (fun a => ?_)).trans ?_
  · match a with
    | ⟨0, _⟩ => exact (Nat.zero_add _).symm
    | ⟨1, _⟩ => rfl
  show _ = m ((c : Thread nD τ).loc main_arg0) _
  rw [← V_main_arg0 m c]
  unfold iblk
  rw [View.read_apply]
  refine congrArg (V m c main_arg0) (funext fun a => Fin.ext ?_)
  have h := idx0 t
  match a with
  | ⟨0, _⟩ => show win0_0.index t 0 * 128 + 1 * r.val = t.val * 128 + r.val; rw [h.1] <;> omega
  | ⟨1, _⟩ => show win0_0.index t 1 * 1024 + 1 * (128 * g.val + l.val) = 128 * g.val + l.val; rw [h.2] <;> omega

/-- The second half's piece of a group. -/
theorem piece1 (c : Dev nD) (t : Fin cfg0.N) (g : Fin 8) (off : ℕ) (h : off = 128 * g.val) (inb) :
    (fun r l => View.ld (Val := Elt Ideal) (e' := .f32) (iblk m c 1 t) (Rect.unit (s := S128x1024) ![0, off] ![128, 128] inb) (ix2 r l)) = vOf (aP m c) (pt t) g := by
  subst h
  refine funext fun r => funext fun l => ?_
  refine (View.ld_unit_apply_of _ _ _ _ _ (ix2 r (col g l)) (fun a => ?_)).trans ?_
  · match a with
    | ⟨0, _⟩ => exact (Nat.zero_add _).symm
    | ⟨1, _⟩ => rfl
  show _ = m ((c : Thread nD τ).loc main_arg0) _
  rw [← V_main_arg0 m c]
  unfold iblk
  rw [View.read_apply]
  refine congrArg (V m c main_arg0) (funext fun a => Fin.ext ?_)
  have h := idx1 t
  match a with
  | ⟨0, _⟩ => show win0_1.index t 0 * 128 + 1 * r.val = t.val * 128 + r.val; rw [h.1] <;> omega
  | ⟨1, _⟩ => show win0_1.index t 1 * 1024 + 1 * (128 * g.val + l.val) = 1024 + (128 * g.val + l.val); rw [h.2] <;> omega

/-- The gain's piece of a group. -/
theorem piece2 (c : Dev nD) (t : Fin cfg0.N) (g : Fin 8) (off : ℕ) (h : off = 128 * g.val) (inb) :
    (fun l => View.ld (Val := Elt Ideal) (e' := .f32) (iblk m c 2 t) (Rect.unit (s := S1x1024) ![0, off] ![1, 128] inb) (ix2 (0 : Fin 1) l)) = gOf (aG m c) g := by
  subst h
  refine funext fun l => ?_
  refine (View.ld_unit_apply_of _ _ _ _ _ (ix2 (0 : Fin 1) (col g l)) (fun a => ?_)).trans ?_
  · match a with
    | ⟨0, _⟩ => rfl
    | ⟨1, _⟩ => rfl
  show _ = m ((c : Thread nD τ).loc main_arg1) _
  rw [← V_main_v0 m c]
  unfold iblk
  rw [View.read_apply]
  refine congrArg (V m c main_v0) (funext fun a => Fin.ext ?_)
  have h := idx2 t
  match a with
  | ⟨0, _⟩ => show win0_2.index t 0 * 1 + 1 * 0 = 0; rw [h.1] <;> omega
  | ⟨1, _⟩ => show win0_2.index t 1 * 1024 + 1 * (128 * g.val + l.val) = 128 * g.val + l.val; rw [h.2] <;> omega

/-- A group's matrix. -/
theorem piece3 (c : Dev nD) (t : Fin cfg0.N) (g : Fin 8) (off : ℕ) (h : off = g.val) (inb) :
    (fun r s => View.ld (Val := Elt Ideal) (e' := .f32) (iblk m c 3 t) (Rect.unit (s := S8x128x128) ![off, 0, 0] ![1, 128, 128] inb) (ix3 (0 : Fin 1) r s)) = aW m c g := by
  subst h
  refine funext fun r => funext fun s => ?_
  refine (View.ld_unit_apply_of _ _ _ _ _ (ix3 g r s) (fun a => ?_)).trans ?_
  · match a with
    | ⟨0, _⟩ => rfl
    | ⟨1, _⟩ => exact (Nat.zero_add _).symm
    | ⟨2, _⟩ => exact (Nat.zero_add _).symm
  show _ = m ((c : Thread nD τ).loc main_arg2) _
  rw [← V_main_arg2 m c]
  unfold iblk
  rw [View.read_apply]
  refine congrArg (V m c main_arg2) (funext fun a => Fin.ext ?_)
  have h := idx3 t
  match a with
  | ⟨0, _⟩ => show win0_3.index t 0 * 8 + 1 * g.val = g.val; rw [h.1] <;> omega
  | ⟨1, _⟩ => show win0_3.index t 1 * 128 + 1 * r.val = r.val; rw [h.2.1] <;> omega
  | ⟨2, _⟩ => show win0_3.index t 2 * 128 + 1 * s.val = s.val; rw [h.2.2] <;> omega

/-- The biases' block, read at an index. -/
theorem piece4 (c : Dev nD) (t : Fin cfg0.N) (g : Fin 8) :
    (fun r : Fin 128 => View.ld (Val := Elt Ideal) (e' := .f32) (iblk m c 4 t) r0_0 (ix2 r g)) = aB m c g := by
  refine funext fun r => ?_
  refine (View.ld_unit_apply_of _ _ _ _ _ (ix2 r g) (fun a => ?_)).trans ?_
  · match a with
    | ⟨0, _⟩ => exact (Nat.zero_add _).symm
    | ⟨1, _⟩ => exact (Nat.zero_add _).symm
  show _ = m ((c : Thread nD τ).loc main_arg3) _
  rw [← V_main_v1 m c r g]
  unfold iblk
  rw [View.read_apply]
  refine congrArg (V m c main_v1) (funext fun a => Fin.ext ?_)
  have h := idx4 t
  match a with
  | ⟨0, _⟩ => show win0_4.index t 0 * 128 + 1 * r.val = r.val; rw [h.1] <;> omega
  | ⟨1, _⟩ => show win0_4.index t 1 * 8 + 1 * g.val = g.val; rw [h.2] <;> omega

/-- What a grid point leaves in the result's buffer. -/
def k5 (c : Dev nD) (t : Fin cfg0.N) : Vec Ideal S128x1024 .bf16 := fun y =>
  gated (uOf (aP m c) (pt t) (grp (y 1).val (y 1).isLt)) (vOf (aP m c) (pt t) (grp (y 1).val (y 1).isLt)) (gOf (aG m c) (grp (y 1).val (y 1).isLt))
    (aW m c (grp (y 1).val (y 1).isLt)) (aB m c (grp (y 1).val (y 1).isLt)) (y 0) (lan (y 1).val)

/-- A group's piece of the result is the result there. -/
theorem at5 (c : Dev nD) (t : Fin cfg0.N) (g : Fin 8) (off : ℕ) (h : off = 128 * g.val) (o4 : ℕ) (h4 : o4 = g.val) (i0 i1 i2 i3) (x : S128x128.Idx) (y : S128x1024.Idx)
    (h0 : (y 0).val = 0 + (x 0).val) (h1 : (y 1).val = off + (x 1).val) :
    outV (F := Ideal) (BitVec.ofNat 32 g.val) (View.ld (Val := Elt Ideal) (e' := .f32) (iblk m c 0 t) (Rect.unit (s := S128x1024) ![0, off] ![128, 128] i0))
      (View.ld (Val := Elt Ideal) (e' := .f32) (iblk m c 1 t) (Rect.unit (s := S128x1024) ![0, off] ![128, 128] i1))
      (View.ld (Val := Elt Ideal) (e' := .f32) (iblk m c 2 t) (Rect.unit (s := S1x1024) ![0, off] ![1, 128] i2))
      (View.ld (Val := Elt Ideal) (e' := .f32) (iblk m c 3 t) (Rect.unit (s := S8x128x128) ![o4, 0, 0] ![1, 128, 128] i3)) (View.ld (Val := Elt Ideal) (e' := .f32) (iblk m c 4 t) r0_0) x
      = k5 m c t y := by
  have hx : (x 1).val < 128 := (x 1).isLt
  obtain ⟨r, l, rfl⟩ : ∃ (r l : Fin 128), x = ix2 r l := ⟨x 0, x 1, by idx_ext⟩
  have hg : grp (y 1).val (y 1).isLt = g := Fin.ext (show (y 1).val / 128 = g.val by rw [h1, h]; show (128 * g.val + l.val) / 128 = g.val; omega)
  have hl : lan (y 1).val = l := Fin.ext (show (y 1).val % 128 = l.val by rw [h1, h]; show (128 * g.val + l.val) % 128 = l.val; omega)
  have hr : y 0 = r := Fin.ext (h0.trans (Nat.zero_add _))
  refine (outV_read g _ _ _ _ _ r l).trans ?_
  rw [piece0 m c t g off h i0, piece1 m c t g off h i1, piece2 m c t g off h i2, piece3 m c t g o4 h4 i3, piece4 m c t g]
  unfold k5
  rw [hg, hl, hr]

/-- What a grid point leaves in the result's buffer, every group. -/
theorem left5 (c : Dev nD) (t : Fin cfg0.N) : out0_5 (iblk m c 0 t) (iblk m c 1 t) (iblk m c 2 t) (iblk m c 3 t) (iblk m c 4 t) = k5 m c t := by
  unfold_out out0_5
  funext y
  canon_tiles x h
  · rw [out_7]
    exact at5 m c t 7 896 rfl 7 rfl _ _ _ _ x y (by omega) (by omega)
  · rw [out_6]
    exact at5 m c t 6 768 rfl 6 rfl _ _ _ _ x y (by omega) (by omega)
  · rw [out_5]
    exact at5 m c t 5 640 rfl 5 rfl _ _ _ _ x y (by omega) (by omega)
  · rw [out_4]
    exact at5 m c t 4 512 rfl 4 rfl _ _ _ _ x y (by omega) (by omega)
  · rw [out_3]
    exact at5 m c t 3 384 rfl 3 rfl _ _ _ _ x y (by omega) (by omega)
  · rw [out_2]
    exact at5 m c t 2 256 rfl 2 rfl _ _ _ _ x y (by omega) (by omega)
  · rw [out_1]
    exact at5 m c t 1 128 rfl 1 rfl _ _ _ _ x y (by omega) (by omega)
  · rw [out_0]
    exact at5 m c t 0 0 rfl 0 rfl _ _ _ _ x y (by omega) (by omega)

/-- Where an index of the result's block lies in its array. -/
theorem emb5 (t : Fin cfg0.N) (r : Fin 128) (k : Fin 1024) : ((cfg0.win 5).blk t).view.emb (ix2 r k) = ix2 (row (pt t) r) k := by
  refine funext fun a => Fin.ext ?_
  have h := idx5 t
  match a with
  | ⟨0, _⟩ => show win0_5.index t 0 * 128 + 1 * r.val = t.val * 128 + r.val; rw [h.1] <;> omega
  | ⟨1, _⟩ => show win0_5.index t 1 * 1024 + 1 * k.val = k.val; rw [h.2] <;> omega

/-- The reference's result. -/
abbrev goal (c : Dev nD) : Buf (Elt Ideal) ((c : Thread nD τ).loc main_v2) :=
  Cert.GmlpFwdRefIdeal.Read.val_main_v64 (F := Ideal) (m ((c : Thread nD τ).loc main_arg0)) (m ((c : Thread nD τ).loc main_arg1)) (m ((c : Thread nD τ).loc main_arg2)) (m ((c : Thread nD τ).loc main_arg3))

/-- What a grid point writes back is its block of the reference's result. -/
theorem flushed_eq (c : Dev nD) (t : Fin cfg0.N) : (dats m 0 c).flushed 5 t = ((cfg0.win 5).blk t).view.read (Elt Ideal) (goal m c) := by
  rw [Value.flushed5, left5]
  funext j
  obtain ⟨r, k, rfl⟩ : ∃ (r : Fin 128) (k : Fin 1024), j = ix2 r k := ⟨j 0, j 1, by idx_ext⟩
  rw [View.read_apply, emb5]
  have h := Cert.GmlpFwdRefIdeal.Val.out_read (m ((c : Thread nD τ).loc main_arg0)) (m ((c : Thread nD τ).loc main_arg1)) (m ((c : Thread nD τ).loc main_arg2))
    (m ((c : Thread nD τ).loc main_arg3)) (pt t) (grp k.val k.isLt) r (lan k.val)
  rw [show col (grp k.val k.isLt) (lan k.val) = k from Fin.ext (show 128 * (k.val / 128) + k.val % 128 = k.val by omega)] at h
  exact h.symm

/-- The blocks of the result tile its array. -/
theorem cover (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  have hN : cfg0.N = 16 := N_0
  obtain ⟨t, ht⟩ : ∃ t : Fin cfg0.N, t.val = (i 0 : Nat) / 128 := ⟨⟨_, by omega⟩, rfl⟩
  refine ⟨t, flush0_5 _, ?_⟩
  show i ∈ ((View.whole main_v2).slice (win0_5.rect t)).set
  rw [View.set_slice_whole, Rect.mem_set_unit]
  have h := idx5 t
  intro a
  match a with
  | ⟨0, _⟩ => show win0_5.index t 0 * 128 ≤ (i 0 : Nat) ∧ (i 0 : Nat) < win0_5.index t 0 * 128 + 128; rw [h.1]; omega
  | ⟨1, _⟩ => show win0_5.index t 1 * 1024 ≤ (i 1 : Nat) ∧ (i 1 : Nat) < win0_5.index t 1 * 1024 + 1024; rw [h.2]; omega

end Cert.GmlpFwdIdeal.Val

namespace Cert.Claims

/-- The folded constant of the forward call is the named rational. -/
theorem gmlp_fwd_preserves : IdealRules.named_const.Statement Cert.GmlpFwdIdeal.κ "cube" .f32 0x3D372713#32 ((8943/200000:ℝ):EReal) :=
  IdealRules.named_const.statement Cert.GmlpFwdIdeal.κ "cube" .f32 0x3D372713#32 _ rfl

open Cert.GmlpFwdIdeal Cert.GmlpFwdIdeal.Gen Cert.GmlpFwdIdeal.Val in
/-- The gating unit and its reference end with equal results. -/
theorem gmlp_fwd : Cert.algebraic_GmlpFwdIdeal_GmlpFwdRefIdeal (hGmlpFwdIdeal := Cert.GmlpFwdIdeal.Gen.facts) (hGmlpFwdRefIdeal := Cert.GmlpFwdRefIdeal.Gen.facts) := by
  intro m g m' g' _ hargs
  refine ⟨fun c => goal m c,
    (θ_run _ _ _).mono (fun r h c => ⟨(h c).1.trans ?_, (h c).2⟩) (Cert.GmlpFwdIdeal.Value.run_blocks m g),
    (θ_run _ _ _).mono (fun r h c => ⟨(h c).1.trans ?_, (h c).2⟩) (Cert.GmlpFwdRefIdeal.Value.run m' g')⟩
  · exact (dats m 0 c).arrAt_eq_of_cover 5 (goal m c) (fun t _ => flushed_eq m c t) cover
  · refine (Cert.GmlpFwdRefIdeal.Read.val_main_v64_eq _ _).trans ?_
    rw [(hargs c).1, (hargs c).2.1, (hargs c).2.2.1, (hargs c).2.2.2]

end Cert.Claims
end
-- ==== Proof.lean ====
/-
  The certificate's claims, from the programs' generated frames and from the value modules beside this one.
-/
module

public import proofs.«01_k».proof.Defs
public import proofs.«01_k».proof.Proof.Gen.Dact.Frame
public import proofs.«01_k».proof.Proof.Gen.DactIdeal.Frame
public import proofs.«01_k».proof.Proof.DactVal
public import proofs.«01_k».proof.Proof.Gen.ActBwd.Frame
public import proofs.«01_k».proof.Proof.Gen.ActBwdIdeal.Frame
public import proofs.«01_k».proof.Proof.ActBwdVal
public import proofs.«01_k».proof.Proof.Gen.Dwd.Frame
public import proofs.«01_k».proof.Proof.Gen.DwdIdeal.Frame
public import proofs.«01_k».proof.Proof.DwdVal
public import proofs.«01_k».proof.Proof.Gen.Dwup.Frame
public import proofs.«01_k».proof.Proof.Gen.DwupIdeal.Frame
public import proofs.«01_k».proof.Proof.DwupVal
public import proofs.«01_k».proof.Proof.Gen.Dn.Frame
public import proofs.«01_k».proof.Proof.Gen.DnIdeal.Frame
public import proofs.«01_k».proof.Proof.DnVal
public import proofs.«01_k».proof.Proof.Gen.DnAcc.Frame
public import proofs.«01_k».proof.Proof.Gen.DnAccIdeal.Frame
public import proofs.«01_k».proof.Proof.DnAccVal
public import proofs.«01_k».proof.Proof.Gen.RmsBwd.Frame
public import proofs.«01_k».proof.Proof.Gen.RmsBwdIdeal.Frame
public import proofs.«01_k».proof.Proof.RmsBwdVal
public import proofs.«01_k».proof.Proof.Gen.Up.Frame
public import proofs.«01_k».proof.Proof.Gen.UpIdeal.Frame
public import proofs.«01_k».proof.Proof.UpVal
public import proofs.«01_k».proof.Proof.Gen.Down.Frame
public import proofs.«01_k».proof.Proof.Gen.DownIdeal.Frame
public import proofs.«01_k».proof.Proof.DownVal
public import proofs.«01_k».proof.Proof.Gen.Kernel.Frame
public import proofs.«01_k».proof.Proof.Gen.KernelIdeal.Frame
public import proofs.«01_k».proof.Proof.GmlpVal
public import proofs.«01_k».proof.Proof.Gen.AdamUp.Frame
public import proofs.«01_k».proof.Proof.Gen.AdamUpIdeal.Frame
public import proofs.«01_k».proof.Proof.AdamUpVal
public import proofs.«01_k».proof.Proof.Gen.AdamDown.Frame
public import proofs.«01_k».proof.Proof.Gen.AdamDownIdeal.Frame
public import proofs.«01_k».proof.Proof.AdamDownVal
public import proofs.«01_k».proof.Proof.Gen.AdamPleGate.Frame
public import proofs.«01_k».proof.Proof.Gen.AdamPleGateIdeal.Frame
public import proofs.«01_k».proof.Proof.AdamPleGateVal
public import proofs.«01_k».proof.Proof.Gen.AdamEvenIn.Frame
public import proofs.«01_k».proof.Proof.Gen.AdamEvenInIdeal.Frame
public import proofs.«01_k».proof.Proof.AdamEvenInVal
public import proofs.«01_k».proof.Proof.Gen.AdamMix.Frame
public import proofs.«01_k».proof.Proof.Gen.AdamMixIdeal.Frame
public import proofs.«01_k».proof.Proof.AdamMixVal
public import proofs.«01_k».proof.Proof.Gen.AdamPleProj.Frame
public import proofs.«01_k».proof.Proof.Gen.AdamPleProjIdeal.Frame
public import proofs.«01_k».proof.Proof.AdamPleProjVal
public import proofs.«01_k».proof.Proof.Gen.AdamLoraIn.Frame
public import proofs.«01_k».proof.Proof.Gen.AdamLoraInIdeal.Frame
public import proofs.«01_k».proof.Proof.AdamLoraInVal
public import proofs.«01_k».proof.Proof.Gen.AdamLoraOut.Frame
public import proofs.«01_k».proof.Proof.Gen.AdamLoraOutIdeal.Frame
public import proofs.«01_k».proof.Proof.AdamLoraOutVal
public import proofs.«01_k».proof.Proof.Gen.AdamGateIn.Frame
public import proofs.«01_k».proof.Proof.Gen.AdamGateInIdeal.Frame
public import proofs.«01_k».proof.Proof.AdamGateInVal
public import proofs.«01_k».proof.Proof.Gen.AdamGateOut.Frame
public import proofs.«01_k».proof.Proof.Gen.AdamGateOutIdeal.Frame
public import proofs.«01_k».proof.Proof.AdamGateOutVal
public import proofs.«01_k».proof.Proof.Gen.AdamValIn.Frame
public import proofs.«01_k».proof.Proof.Gen.AdamValInIdeal.Frame
public import proofs.«01_k».proof.Proof.AdamValInVal
public import proofs.«01_k».proof.Proof.Gen.AdamValOut.Frame
public import proofs.«01_k».proof.Proof.Gen.AdamValOutIdeal.Frame
public import proofs.«01_k».proof.Proof.AdamValOutVal
public import proofs.«01_k».proof.Proof.Gen.AdamSmall.Frame
public import proofs.«01_k».proof.Proof.Gen.AdamSmallIdeal.Frame
public import proofs.«01_k».proof.Proof.AdamSmallVal
public import proofs.«01_k».proof.Proof.Gen.AdamRep.Frame
public import proofs.«01_k».proof.Proof.Gen.AdamRepIdeal.Frame
public import proofs.«01_k».proof.Proof.AdamRepVal
public import proofs.«01_k».proof.Proof.Gen.SumSmall.Frame
public import proofs.«01_k».proof.Proof.Gen.SumSmallIdeal.Frame
public import proofs.«01_k».proof.Proof.SumSmallVal
public import proofs.«01_k».proof.Proof.Gen.SumRep.Frame
public import proofs.«01_k».proof.Proof.Gen.SumRepIdeal.Frame
public import proofs.«01_k».proof.Proof.SumRepVal
public import proofs.«01_k».proof.Proof.Gen.Loss.Frame
public import proofs.«01_k».proof.Proof.Gen.LossIdeal.Frame
public import proofs.«01_k».proof.Proof.LossVal
public import proofs.«01_k».proof.Proof.Gen.ChipsUp.Frame
public import proofs.«01_k».proof.Proof.Gen.ChipsUpIdeal.Frame
public import proofs.«01_k».proof.Proof.ChipsUpVal
public import proofs.«01_k».proof.Proof.Gen.ChipsDown.Frame
public import proofs.«01_k».proof.Proof.Gen.ChipsDownIdeal.Frame
public import proofs.«01_k».proof.Proof.ChipsDownVal
public import proofs.«01_k».proof.Proof.Gen.ChipsRow.Frame
public import proofs.«01_k».proof.Proof.Gen.ChipsRowIdeal.Frame
public import proofs.«01_k».proof.Proof.ChipsRowVal
public import proofs.«01_k».proof.Proof.Gen.ChipsProj.Frame
public import proofs.«01_k».proof.Proof.Gen.ChipsProjIdeal.Frame
public import proofs.«01_k».proof.Proof.ChipsProjVal
public import proofs.«01_k».proof.Proof.Gen.ChipsEvenIn.Frame
public import proofs.«01_k».proof.Proof.Gen.ChipsEvenInIdeal.Frame
public import proofs.«01_k».proof.Proof.ChipsEvenInVal
public import proofs.«01_k».proof.Proof.Gen.ChipsLoraIn.Frame
public import proofs.«01_k».proof.Proof.Gen.ChipsLoraInIdeal.Frame
public import proofs.«01_k».proof.Proof.ChipsLoraInVal
public import proofs.«01_k».proof.Proof.Gen.ChipsLoraOut.Frame
public import proofs.«01_k».proof.Proof.Gen.ChipsLoraOutIdeal.Frame
public import proofs.«01_k».proof.Proof.ChipsLoraOutVal
public import proofs.«01_k».proof.Proof.Gen.ChipsGateIn.Frame
public import proofs.«01_k».proof.Proof.Gen.ChipsGateInIdeal.Frame
public import proofs.«01_k».proof.Proof.ChipsGateInVal
public import proofs.«01_k».proof.Proof.Gen.ChipsValIn.Frame
public import proofs.«01_k».proof.Proof.Gen.ChipsValInIdeal.Frame
public import proofs.«01_k».proof.Proof.ChipsValInVal
public import proofs.«01_k».proof.Proof.Gen.ChipsValOut.Frame
public import proofs.«01_k».proof.Proof.Gen.ChipsValOutIdeal.Frame
public import proofs.«01_k».proof.Proof.ChipsValOutVal
public import proofs.«01_k».proof.Proof.Gen.PleAdd.Frame
public import proofs.«01_k».proof.Proof.Gen.PleAddIdeal.Frame
public import proofs.«01_k».proof.Proof.PleAddVal
public import proofs.«01_k».proof.Proof.Gen.PleBwd.Frame
public import proofs.«01_k».proof.Proof.Gen.PleBwdIdeal.Frame
public import proofs.«01_k».proof.Proof.PleBwdVal
public import proofs.«01_k».proof.Proof.Gen.LoraAct.Frame
public import proofs.«01_k».proof.Proof.Gen.LoraActIdeal.Frame
public import proofs.«01_k».proof.Proof.LoraActVal
public import proofs.«01_k».proof.Proof.Gen.LoraBwd.Frame
public import proofs.«01_k».proof.Proof.Gen.LoraBwdIdeal.Frame
public import proofs.«01_k».proof.Proof.LoraBwdVal
public import proofs.«01_k».proof.Proof.Gen.RmsFwd.Frame
public import proofs.«01_k».proof.Proof.Gen.RmsFwdIdeal.Frame
public import proofs.«01_k».proof.Proof.RmsFwdVal
public import proofs.«01_k».proof.Proof.Gen.RmsFwd32.Frame
public import proofs.«01_k».proof.Proof.Gen.RmsFwd32Ideal.Frame
public import proofs.«01_k».proof.Proof.RmsFwd32Val
public import proofs.«01_k».proof.Proof.Gen.HgrnPre.Frame
public import proofs.«01_k».proof.Proof.Gen.HgrnPreIdeal.Frame
public import proofs.«01_k».proof.Proof.HgrnPreVal
public import proofs.«01_k».proof.Proof.Gen.GmlpFwd.Frame
public import proofs.«01_k».proof.Proof.Gen.GmlpFwdIdeal.Frame
public import proofs.«01_k».proof.Proof.GmlpFwdVal
public import proofs.«01_k».proof.Proof.Gen.Pre_finite
public import proofs.«01_k».proof.Proof.Gen.Pre_finite_act
public import proofs.«01_k».proof.Proof.Gen.Pre_finite_rms
public import proofs.«01_k».proof.Proof.Gen.Pre_finite_loss

@[expose] public section

set_option maxRecDepth 16384

noncomputable section

namespace Cert.Proof

open Idealize.ShloMosaic Idealize.ShloMosaic.TcCoe Idealize.SL.Sem

/-- The whole certificate: the frames, the steps from each program to its ideal form, and the values. -/
theorem claim : Cert.Claim :=
  ⟨Cert.Kernel.Gen.facts,
    Cert.KernelIdeal.Gen.facts,
    Cert.ReferenceIdeal.Gen.facts,
    Cert.Dact.Gen.facts,
    Cert.DactIdeal.Gen.facts,
    Cert.DactRefIdeal.Gen.facts,
    Cert.ActBwd.Gen.facts,
    Cert.ActBwdIdeal.Gen.facts,
    Cert.ActBwdRefIdeal.Gen.facts,
    Cert.Dwd.Gen.facts,
    Cert.DwdIdeal.Gen.facts,
    Cert.DwdRefIdeal.Gen.facts,
    Cert.Dwup.Gen.facts,
    Cert.DwupIdeal.Gen.facts,
    Cert.DwupRefIdeal.Gen.facts,
    Cert.Dn.Gen.facts,
    Cert.DnIdeal.Gen.facts,
    Cert.DnRefIdeal.Gen.facts,
    Cert.DnAcc.Gen.facts,
    Cert.DnAccIdeal.Gen.facts,
    Cert.DnAccRefIdeal.Gen.facts,
    Cert.RmsBwd.Gen.facts,
    Cert.RmsBwdIdeal.Gen.facts,
    Cert.RmsBwdRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.AdamUp.Gen.facts,
    Cert.AdamUpIdeal.Gen.facts,
    Cert.AdamUpRefIdeal.Gen.facts,
    Cert.AdamDown.Gen.facts,
    Cert.AdamDownIdeal.Gen.facts,
    Cert.AdamDownRefIdeal.Gen.facts,
    Cert.AdamPleGate.Gen.facts,
    Cert.AdamPleGateIdeal.Gen.facts,
    Cert.AdamPleGateRefIdeal.Gen.facts,
    Cert.AdamEvenIn.Gen.facts,
    Cert.AdamEvenInIdeal.Gen.facts,
    Cert.AdamEvenInRefIdeal.Gen.facts,
    Cert.AdamMix.Gen.facts,
    Cert.AdamMixIdeal.Gen.facts,
    Cert.AdamMixRefIdeal.Gen.facts,
    Cert.AdamPleProj.Gen.facts,
    Cert.AdamPleProjIdeal.Gen.facts,
    Cert.AdamPleProjRefIdeal.Gen.facts,
    Cert.AdamLoraIn.Gen.facts,
    Cert.AdamLoraInIdeal.Gen.facts,
    Cert.AdamLoraInRefIdeal.Gen.facts,
    Cert.AdamLoraOut.Gen.facts,
    Cert.AdamLoraOutIdeal.Gen.facts,
    Cert.AdamLoraOutRefIdeal.Gen.facts,
    Cert.AdamGateIn.Gen.facts,
    Cert.AdamGateInIdeal.Gen.facts,
    Cert.AdamGateInRefIdeal.Gen.facts,
    Cert.AdamGateOut.Gen.facts,
    Cert.AdamGateOutIdeal.Gen.facts,
    Cert.AdamGateOutRefIdeal.Gen.facts,
    Cert.AdamValIn.Gen.facts,
    Cert.AdamValInIdeal.Gen.facts,
    Cert.AdamValInRefIdeal.Gen.facts,
    Cert.AdamValOut.Gen.facts,
    Cert.AdamValOutIdeal.Gen.facts,
    Cert.AdamValOutRefIdeal.Gen.facts,
    Cert.AdamSmall.Gen.facts,
    Cert.AdamSmallIdeal.Gen.facts,
    Cert.AdamSmallRefIdeal.Gen.facts,
    Cert.AdamRep.Gen.facts,
    Cert.AdamRepIdeal.Gen.facts,
    Cert.AdamRepRefIdeal.Gen.facts,
    Cert.SumSmall.Gen.facts,
    Cert.SumSmallIdeal.Gen.facts,
    Cert.SumSmallRefIdeal.Gen.facts,
    Cert.SumRep.Gen.facts,
    Cert.SumRepIdeal.Gen.facts,
    Cert.SumRepRefIdeal.Gen.facts,
    Cert.Loss.Gen.facts,
    Cert.LossIdeal.Gen.facts,
    Cert.LossRefIdeal.Gen.facts,
    Cert.ChipsUp.Gen.facts,
    Cert.ChipsUpIdeal.Gen.facts,
    Cert.ChipsUpRefIdeal.Gen.facts,
    Cert.ChipsDown.Gen.facts,
    Cert.ChipsDownIdeal.Gen.facts,
    Cert.ChipsDownRefIdeal.Gen.facts,
    Cert.ChipsRow.Gen.facts,
    Cert.ChipsRowIdeal.Gen.facts,
    Cert.ChipsRowRefIdeal.Gen.facts,
    Cert.ChipsProj.Gen.facts,
    Cert.ChipsProjIdeal.Gen.facts,
    Cert.ChipsProjRefIdeal.Gen.facts,
    Cert.ChipsEvenIn.Gen.facts,
    Cert.ChipsEvenInIdeal.Gen.facts,
    Cert.ChipsEvenInRefIdeal.Gen.facts,
    Cert.ChipsLoraIn.Gen.facts,
    Cert.ChipsLoraInIdeal.Gen.facts,
    Cert.ChipsLoraInRefIdeal.Gen.facts,
    Cert.ChipsLoraOut.Gen.facts,
    Cert.ChipsLoraOutIdeal.Gen.facts,
    Cert.ChipsLoraOutRefIdeal.Gen.facts,
    Cert.ChipsGateIn.Gen.facts,
    Cert.ChipsGateInIdeal.Gen.facts,
    Cert.ChipsGateInRefIdeal.Gen.facts,
    Cert.ChipsValIn.Gen.facts,
    Cert.ChipsValInIdeal.Gen.facts,
    Cert.ChipsValInRefIdeal.Gen.facts,
    Cert.ChipsValOut.Gen.facts,
    Cert.ChipsValOutIdeal.Gen.facts,
    Cert.ChipsValOutRefIdeal.Gen.facts,
    Cert.RmsFwd.Gen.facts,
    Cert.RmsFwdIdeal.Gen.facts,
    Cert.RmsFwdRefIdeal.Gen.facts,
    Cert.GmlpFwd.Gen.facts,
    Cert.GmlpFwdIdeal.Gen.facts,
    Cert.GmlpFwdRefIdeal.Gen.facts,
    Cert.PleAdd.Gen.facts,
    Cert.PleAddIdeal.Gen.facts,
    Cert.PleAddRefIdeal.Gen.facts,
    Cert.PleBwd.Gen.facts,
    Cert.PleBwdIdeal.Gen.facts,
    Cert.PleBwdRefIdeal.Gen.facts,
    Cert.RmsFwd32.Gen.facts,
    Cert.RmsFwd32Ideal.Gen.facts,
    Cert.RmsFwd32RefIdeal.Gen.facts,
    Cert.HgrnPre.Gen.facts,
    Cert.HgrnPreIdeal.Gen.facts,
    Cert.HgrnPreRefIdeal.Gen.facts,
    Cert.LoraAct.Gen.facts,
    Cert.LoraActIdeal.Gen.facts,
    Cert.LoraActRefIdeal.Gen.facts,
    Cert.LoraBwd.Gen.facts,
    Cert.LoraBwdIdeal.Gen.facts,
    Cert.LoraBwdRefIdeal.Gen.facts,
    Cert.Pre_finite.Gen.facts,
    Cert.Pre_finite_act.Gen.facts,
    Cert.Pre_finite_rms.Gen.facts,
    Cert.Pre_finite_loss.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => And.intro (fun c => (h c).2.2.2.2.2) (sem_eq_zero_of_no_sems (by decide) r.2)) (Cert.ReferenceIdeal.Value.run (F := Ideal) m ρ),
    fun m ρ _ => (θ_run _ _ _).mono (fun r h => And.intro (fun c => (h c).2.2.2.2.2) (sem_eq_zero_of_no_sems (by decide) r.2)) (Cert.ReferenceIdeal.Value.run (F := Ideal) m ρ),
    fun m ρ _ => Cert.Dact.Gen.frame m ρ,
    fun m ρ _ => Cert.DactIdeal.Gen.frame m ρ,
    fun m ρ _ => (θ_run _ _ _).mono (fun r h => And.intro (fun c => (h c).2) (sem_eq_zero_of_no_sems (by decide) r.2)) (Cert.DactRefIdeal.Value.run (F := Ideal) m ρ),
    fun m ρ _ => Cert.ActBwd.Gen.frame m ρ,
    fun m ρ _ => Cert.ActBwdIdeal.Gen.frame m ρ,
    fun m ρ _ => Cert.ActBwdIdeal.Gen.frame m ρ,
    fun m ρ _ => (θ_run _ _ _).mono (fun r h => And.intro (fun c => (h c).2.2.2) (sem_eq_zero_of_no_sems (by decide) r.2)) (Cert.ActBwdRefIdeal.Value.run (F := Ideal) m ρ),
    fun m ρ _ => (θ_run _ _ _).mono (fun r h => And.intro (fun c => (h c).2.2.2) (sem_eq_zero_of_no_sems (by decide) r.2)) (Cert.ActBwdRefIdeal.Value.run (F := Ideal) m ρ),
    fun m ρ _ => Cert.Dwd.Gen.frame m ρ,
    fun m ρ _ => Cert.DwdIdeal.Gen.frame m ρ,
    fun m ρ _ => (θ_run _ _ _).mono (fun r h => And.intro (fun c => (h c).2) (sem_eq_zero_of_no_sems (by decide) r.2)) (Cert.DwdRefIdeal.Value.run (F := Ideal) m ρ),
    fun m ρ _ => Cert.Dwup.Gen.frame m ρ,
    fun m ρ _ => Cert.DwupIdeal.Gen.frame m ρ,
    fun m ρ _ => (θ_run _ _ _).mono (fun r h => And.intro (fun c => (h c).2) (sem_eq_zero_of_no_sems (by decide) r.2)) (Cert.DwupRefIdeal.Value.run (F := Ideal) m ρ),
    fun m ρ _ => Cert.Dn.Gen.frame m ρ,
    fun m ρ _ => Cert.DnIdeal.Gen.frame m ρ,
    fun m ρ _ => (θ_run _ _ _).mono (fun r h => And.intro (fun c => (h c).2) (sem_eq_zero_of_no_sems (by decide) r.2)) (Cert.DnRefIdeal.Value.run (F := Ideal) m ρ),
    fun m ρ _ => Cert.DnAcc.Gen.frame m ρ,
    fun m ρ _ => Cert.DnAccIdeal.Gen.frame m ρ,
    fun m ρ _ => (θ_run _ _ _).mono (fun r h => And.intro (fun c => (h c).2) (sem_eq_zero_of_no_sems (by decide) r.2)) (Cert.DnAccRefIdeal.Value.run (F := Ideal) m ρ),
    fun m ρ _ => Cert.RmsBwd.Gen.frame m ρ,
    fun m ρ _ => Cert.RmsBwdIdeal.Gen.frame m ρ,
    fun m ρ _ => Cert.RmsBwdIdeal.Gen.frame m ρ,
    fun m ρ _ => (θ_run _ _ _).mono (fun r h => And.intro (fun c => (h c).2.2) (sem_eq_zero_of_no_sems (by decide) r.2)) (Cert.RmsBwdRefIdeal.Value.run (F := Ideal) m ρ),
    fun m ρ _ => (θ_run _ _ _).mono (fun r h => And.intro (fun c => (h c).2.2) (sem_eq_zero_of_no_sems (by decide) r.2)) (Cert.RmsBwdRefIdeal.Value.run (F := Ideal) m ρ),
    fun m ρ _ => Cert.Up.Gen.frame m ρ,
    fun m ρ _ => Cert.UpIdeal.Gen.frame m ρ,
    fun m ρ _ => (θ_run _ _ _).mono (fun r h => And.intro (fun c => (h c).2.2.2) (sem_eq_zero_of_no_sems (by decide) r.2)) (Cert.UpRefIdeal.Value.run (F := Ideal) m ρ),
    fun m ρ _ => Cert.Down.Gen.frame m ρ,
    fun m ρ _ => Cert.DownIdeal.Gen.frame m ρ,
    fun m ρ _ => (θ_run _ _ _).mono (fun r h => And.intro (fun c => (h c).2) (sem_eq_zero_of_no_sems (by decide) r.2)) (Cert.DownRefIdeal.Value.run (F := Ideal) m ρ),
    fun m ρ _ => Cert.AdamUp.Gen.frame m ρ,
    fun m ρ _ => Cert.AdamUpIdeal.Gen.frame m ρ,
    fun m ρ _ => (θ_run _ _ _).mono (fun r h => And.intro (fun c => (h c).2.2.2) (sem_eq_zero_of_no_sems (by decide) r.2)) (Cert.AdamUpRefIdeal.Value.run (F := Ideal) m ρ),
    fun m ρ _ => Cert.AdamDown.Gen.frame m ρ,
    fun m ρ _ => Cert.AdamDownIdeal.Gen.frame m ρ,
    fun m ρ _ => (θ_run _ _ _).mono (fun r h => And.intro (fun c => (h c).2.2.2) (sem_eq_zero_of_no_sems (by decide) r.2)) (Cert.AdamDownRefIdeal.Value.run (F := Ideal) m ρ),
    fun m ρ _ => Cert.AdamPleGate.Gen.frame m ρ,
    fun m ρ _ => Cert.AdamPleGateIdeal.Gen.frame m ρ,
    fun m ρ _ => (θ_run _ _ _).mono (fun r h => And.intro (fun c => (h c).2.2.2) (sem_eq_zero_of_no_sems (by decide) r.2)) (Cert.AdamPleGateRefIdeal.Value.run (F := Ideal) m ρ),
    fun m ρ _ => Cert.AdamEvenIn.Gen.frame m ρ,
    fun m ρ _ => Cert.AdamEvenInIdeal.Gen.frame m ρ,
    fun m ρ _ => (θ_run _ _ _).mono (fun r h => And.intro (fun c => (h c).2.2.2) (sem_eq_zero_of_no_sems (by decide) r.2)) (Cert.AdamEvenInRefIdeal.Value.run (F := Ideal) m ρ),
    fun m ρ _ => Cert.AdamMix.Gen.frame m ρ,
    fun m ρ _ => Cert.AdamMixIdeal.Gen.frame m ρ,
    fun m ρ _ => (θ_run _ _ _).mono (fun r h => And.intro (fun c => (h c).2.2.2) (sem_eq_zero_of_no_sems (by decide) r.2)) (Cert.AdamMixRefIdeal.Value.run (F := Ideal) m ρ),
    fun m ρ _ => Cert.AdamPleProj.Gen.frame m ρ,
    fun m ρ _ => Cert.AdamPleProjIdeal.Gen.frame m ρ,
    fun m ρ _ => (θ_run _ _ _).mono (fun r h => And.intro (fun c => (h c).2.2.2) (sem_eq_zero_of_no_sems (by decide) r.2)) (Cert.AdamPleProjRefIdeal.Value.run (F := Ideal) m ρ),
    fun m ρ _ => Cert.AdamLoraIn.Gen.frame m ρ,
    fun m ρ _ => Cert.AdamLoraInIdeal.Gen.frame m ρ,
    fun m ρ _ => (θ_run _ _ _).mono (fun r h => And.intro (fun c => (h c).2.2.2) (sem_eq_zero_of_no_sems (by decide) r.2)) (Cert.AdamLoraInRefIdeal.Value.run (F := Ideal) m ρ),
    fun m ρ _ => Cert.AdamLoraOut.Gen.frame m ρ,
    fun m ρ _ => Cert.AdamLoraOutIdeal.Gen.frame m ρ,
    fun m ρ _ => (θ_run _ _ _).mono (fun r h => And.intro (fun c => (h c).2.2.2) (sem_eq_zero_of_no_sems (by decide) r.2)) (Cert.AdamLoraOutRefIdeal.Value.run (F := Ideal) m ρ),
    fun m ρ _ => Cert.AdamGateIn.Gen.frame m ρ,
    fun m ρ _ => Cert.AdamGateInIdeal.Gen.frame m ρ,
    fun m ρ _ => (θ_run _ _ _).mono (fun r h => And.intro (fun c => (h c).2.2.2) (sem_eq_zero_of_no_sems (by decide) r.2)) (Cert.AdamGateInRefIdeal.Value.run (F := Ideal) m ρ),
    fun m ρ _ => Cert.AdamGateOut.Gen.frame m ρ,
    fun m ρ _ => Cert.AdamGateOutIdeal.Gen.frame m ρ,
    fun m ρ _ => (θ_run _ _ _).mono (fun r h => And.intro (fun c => (h c).2.2.2) (sem_eq_zero_of_no_sems (by decide) r.2)) (Cert.AdamGateOutRefIdeal.Value.run (F := Ideal) m ρ),
    fun m ρ _ => Cert.AdamValIn.Gen.frame m ρ,
    fun m ρ _ => Cert.AdamValInIdeal.Gen.frame m ρ,
    fun m ρ _ => (θ_run _ _ _).mono (fun r h => And.intro (fun c => (h c).2.2.2) (sem_eq_zero_of_no_sems (by decide) r.2)) (Cert.AdamValInRefIdeal.Value.run (F := Ideal) m ρ),
    fun m ρ _ => Cert.AdamValOut.Gen.frame m ρ,
    fun m ρ _ => Cert.AdamValOutIdeal.Gen.frame m ρ,
    fun m ρ _ => (θ_run _ _ _).mono (fun r h => And.intro (fun c => (h c).2.2.2) (sem_eq_zero_of_no_sems (by decide) r.2)) (Cert.AdamValOutRefIdeal.Value.run (F := Ideal) m ρ),
    fun m ρ _ => Cert.AdamSmall.Gen.frame m ρ,
    fun m ρ _ => Cert.AdamSmallIdeal.Gen.frame m ρ,
    fun m ρ _ => (θ_run _ _ _).mono (fun r h => And.intro (fun c => (h c).2.2.2) (sem_eq_zero_of_no_sems (by decide) r.2)) (Cert.AdamSmallRefIdeal.Value.run (F := Ideal) m ρ),
    fun m ρ _ => Cert.AdamRep.Gen.frame m ρ,
    fun m ρ _ => Cert.AdamRepIdeal.Gen.frame m ρ,
    fun m ρ _ => (θ_run _ _ _).mono (fun r h => And.intro (fun c => (h c).2.2.2) (sem_eq_zero_of_no_sems (by decide) r.2)) (Cert.AdamRepRefIdeal.Value.run (F := Ideal) m ρ),
    fun m ρ _ => Cert.SumSmall.Gen.frame m ρ,
    fun m ρ _ => Cert.SumSmallIdeal.Gen.frame m ρ,
    fun m ρ _ => (θ_run _ _ _).mono (fun r h => And.intro (fun c => (h c).2) (sem_eq_zero_of_no_sems (by decide) r.2)) (Cert.SumSmallRefIdeal.Value.run (F := Ideal) m ρ),
    fun m ρ _ => Cert.SumRep.Gen.frame m ρ,
    fun m ρ _ => Cert.SumRepIdeal.Gen.frame m ρ,
    fun m ρ _ => (θ_run _ _ _).mono (fun r h => And.intro (fun c => (h c).2) (sem_eq_zero_of_no_sems (by decide) r.2)) (Cert.SumRepRefIdeal.Value.run (F := Ideal) m ρ),
    fun m ρ _ => Cert.Loss.Gen.frame m ρ,
    fun m ρ _ => Cert.LossIdeal.Gen.frame m ρ,
    fun m ρ _ => Cert.LossIdeal.Gen.frame m ρ,
    fun m ρ _ => (θ_run _ _ _).mono (fun r h => And.intro (fun c => (h c).2.2.2) (sem_eq_zero_of_no_sems (by decide) r.2)) (Cert.LossRefIdeal.Value.run (F := Ideal) m ρ),
    fun m ρ _ => (θ_run _ _ _).mono (fun r h => And.intro (fun c => (h c).2.2.2) (sem_eq_zero_of_no_sems (by decide) r.2)) (Cert.LossRefIdeal.Value.run (F := Ideal) m ρ),
    fun m ρ _ => Cert.ChipsUp.Gen.frame m ρ,
    fun m ρ _ => Cert.ChipsUpIdeal.Gen.frame m ρ,
    fun m ρ _ => (θ_run _ _ _).mono (fun r h => And.intro (fun c => (h c).2) (sem_eq_zero_of_no_sems (by decide) r.2)) (Cert.ChipsUpRefIdeal.Value.run (F := Ideal) m ρ),
    fun m ρ _ => Cert.ChipsDown.Gen.frame m ρ,
    fun m ρ _ => Cert.ChipsDownIdeal.Gen.frame m ρ,
    fun m ρ _ => (θ_run _ _ _).mono (fun r h => And.intro (fun c => (h c).2) (sem_eq_zero_of_no_sems (by decide) r.2)) (Cert.ChipsDownRefIdeal.Value.run (F := Ideal) m ρ),
    fun m ρ _ => Cert.ChipsRow.Gen.frame m ρ,
    fun m ρ _ => Cert.ChipsRowIdeal.Gen.frame m ρ,
    fun m ρ _ => (θ_run _ _ _).mono (fun r h => And.intro (fun c => (h c).2) (sem_eq_zero_of_no_sems (by decide) r.2)) (Cert.ChipsRowRefIdeal.Value.run (F := Ideal) m ρ),
    fun m ρ _ => Cert.ChipsProj.Gen.frame m ρ,
    fun m ρ _ => Cert.ChipsProjIdeal.Gen.frame m ρ,
    fun m ρ _ => (θ_run _ _ _).mono (fun r h => And.intro (fun c => (h c).2) (sem_eq_zero_of_no_sems (by decide) r.2)) (Cert.ChipsProjRefIdeal.Value.run (F := Ideal) m ρ),
    fun m ρ _ => Cert.ChipsEvenIn.Gen.frame m ρ,
    fun m ρ _ => Cert.ChipsEvenInIdeal.Gen.frame m ρ,
    fun m ρ _ => (θ_run _ _ _).mono (fun r h => And.intro (fun c => (h c).2) (sem_eq_zero_of_no_sems (by decide) r.2)) (Cert.ChipsEvenInRefIdeal.Value.run (F := Ideal) m ρ),
    fun m ρ _ => Cert.ChipsLoraIn.Gen.frame m ρ,
    fun m ρ _ => Cert.ChipsLoraInIdeal.Gen.frame m ρ,
    fun m ρ _ => (θ_run _ _ _).mono (fun r h => And.intro (fun c => (h c).2) (sem_eq_zero_of_no_sems (by decide) r.2)) (Cert.ChipsLoraInRefIdeal.Value.run (F := Ideal) m ρ),
    fun m ρ _ => Cert.ChipsLoraOut.Gen.frame m ρ,
    fun m ρ _ => Cert.ChipsLoraOutIdeal.Gen.frame m ρ,
    fun m ρ _ => (θ_run _ _ _).mono (fun r h => And.intro (fun c => (h c).2) (sem_eq_zero_of_no_sems (by decide) r.2)) (Cert.ChipsLoraOutRefIdeal.Value.run (F := Ideal) m ρ),
    fun m ρ _ => Cert.ChipsGateIn.Gen.frame m ρ,
    fun m ρ _ => Cert.ChipsGateInIdeal.Gen.frame m ρ,
    fun m ρ _ => (θ_run _ _ _).mono (fun r h => And.intro (fun c => (h c).2) (sem_eq_zero_of_no_sems (by decide) r.2)) (Cert.ChipsGateInRefIdeal.Value.run (F := Ideal) m ρ),
    fun m ρ _ => Cert.ChipsValIn.Gen.frame m ρ,
    fun m ρ _ => Cert.ChipsValInIdeal.Gen.frame m ρ,
    fun m ρ _ => (θ_run _ _ _).mono (fun r h => And.intro (fun c => (h c).2) (sem_eq_zero_of_no_sems (by decide) r.2)) (Cert.ChipsValInRefIdeal.Value.run (F := Ideal) m ρ),
    fun m ρ _ => Cert.ChipsValOut.Gen.frame m ρ,
    fun m ρ _ => Cert.ChipsValOutIdeal.Gen.frame m ρ,
    fun m ρ _ => (θ_run _ _ _).mono (fun r h => And.intro (fun c => (h c).2) (sem_eq_zero_of_no_sems (by decide) r.2)) (Cert.ChipsValOutRefIdeal.Value.run (F := Ideal) m ρ),
    fun m ρ _ => Cert.RmsFwd.Gen.frame m ρ,
    fun m ρ _ => Cert.RmsFwdIdeal.Gen.frame m ρ,
    fun m ρ _ => (θ_run _ _ _).mono (fun r h => And.intro (fun c => (h c).2) (sem_eq_zero_of_no_sems (by decide) r.2)) (Cert.RmsFwdRefIdeal.Value.run (F := Ideal) m ρ),
    fun m ρ _ => Cert.GmlpFwd.Gen.frame m ρ,
    fun m ρ _ => Cert.GmlpFwdIdeal.Gen.frame m ρ,
    fun m ρ _ => (θ_run _ _ _).mono (fun r h => And.intro (fun c => (h c).2) (sem_eq_zero_of_no_sems (by decide) r.2)) (Cert.GmlpFwdRefIdeal.Value.run (F := Ideal) m ρ),
    fun m ρ _ => Cert.PleAdd.Gen.frame m ρ,
    fun m ρ _ => Cert.PleAddIdeal.Gen.frame m ρ,
    fun m ρ _ => (θ_run _ _ _).mono (fun r h => And.intro (fun c => (h c).2) (sem_eq_zero_of_no_sems (by decide) r.2)) (Cert.PleAddRefIdeal.Value.run (F := Ideal) m ρ),
    fun m ρ _ => Cert.PleBwd.Gen.frame m ρ,
    fun m ρ _ => Cert.PleBwdIdeal.Gen.frame m ρ,
    fun m ρ _ => (θ_run _ _ _).mono (fun r h => And.intro (fun c => (h c).2.2) (sem_eq_zero_of_no_sems (by decide) r.2)) (Cert.PleBwdRefIdeal.Value.run (F := Ideal) m ρ),
    fun m ρ _ => Cert.RmsFwd32.Gen.frame m ρ,
    fun m ρ _ => Cert.RmsFwd32Ideal.Gen.frame m ρ,
    fun m ρ _ => (θ_run _ _ _).mono (fun r h => And.intro (fun c => (h c).2) (sem_eq_zero_of_no_sems (by decide) r.2)) (Cert.RmsFwd32RefIdeal.Value.run (F := Ideal) m ρ),
    fun m ρ _ => Cert.HgrnPre.Gen.frame m ρ,
    fun m ρ _ => Cert.HgrnPreIdeal.Gen.frame m ρ,
    fun m ρ _ => (θ_run _ _ _).mono (fun r h => And.intro (fun c => (h c).2.2.2) (sem_eq_zero_of_no_sems (by decide) r.2)) (Cert.HgrnPreRefIdeal.Value.run (F := Ideal) m ρ),
    fun m ρ _ => Cert.LoraAct.Gen.frame m ρ,
    fun m ρ _ => Cert.LoraActIdeal.Gen.frame m ρ,
    fun m ρ _ => (θ_run _ _ _).mono (fun r h => And.intro (fun c => (h c).2.2.2.2) (sem_eq_zero_of_no_sems (by decide) r.2)) (Cert.LoraActRefIdeal.Value.run (F := Ideal) m ρ),
    fun m ρ _ => Cert.LoraBwd.Gen.frame m ρ,
    fun m ρ _ => Cert.LoraBwdIdeal.Gen.frame m ρ,
    fun m ρ _ => (θ_run _ _ _).mono (fun r h => And.intro (fun c => (h c).2.2.2.2) (sem_eq_zero_of_no_sems (by decide) r.2)) (Cert.LoraBwdRefIdeal.Value.run (F := Ideal) m ρ),
    Cert.Claims.gmlp_preserves,
    Cert.Claims.gmlp,
    trivial,
    Cert.Claims.dact,
    trivial,
    Cert.Claims.actbwd,
    trivial,
    Cert.Claims.dwd,
    trivial,
    Cert.Claims.dwup,
    trivial,
    Cert.Claims.dn,
    trivial,
    Cert.Claims.dnacc,
    trivial,
    Cert.Claims.rmsbwd,
    trivial,
    Cert.Claims.up,
    trivial,
    Cert.Claims.down,
    trivial,
    Cert.Claims.adam_up,
    trivial,
    Cert.Claims.adam_down,
    trivial,
    Cert.Claims.adam_ple_gate,
    trivial,
    Cert.Claims.adam_even_in,
    trivial,
    Cert.Claims.adam_mix,
    trivial,
    Cert.Claims.adam_ple_proj,
    trivial,
    Cert.Claims.adam_lora_in,
    trivial,
    Cert.Claims.adam_lora_out,
    trivial,
    Cert.Claims.adam_gate_in,
    trivial,
    Cert.Claims.adam_gate_out,
    trivial,
    Cert.Claims.adam_val_in,
    trivial,
    Cert.Claims.adam_val_out,
    trivial,
    Cert.Claims.adam_small,
    trivial,
    Cert.Claims.adam_rep,
    trivial,
    Cert.Claims.sum_small,
    trivial,
    Cert.Claims.sum_rep,
    trivial,
    Cert.Claims.loss,
    trivial,
    Cert.Claims.chips_up,
    trivial,
    Cert.Claims.chips_down,
    trivial,
    Cert.Claims.chips_row,
    trivial,
    Cert.Claims.chips_proj,
    trivial,
    Cert.Claims.chips_even_in,
    trivial,
    Cert.Claims.chips_lora_in,
    trivial,
    Cert.Claims.chips_lora_out,
    trivial,
    Cert.Claims.chips_gate_in,
    trivial,
    Cert.Claims.chips_val_in,
    trivial,
    Cert.Claims.chips_val_out,
    trivial,
    Cert.Claims.rms_fwd,
    Cert.Claims.gmlp_fwd_preserves,
    Cert.Claims.gmlp_fwd,
    trivial,
    Cert.Claims.ple_add,
    trivial,
    Cert.Claims.ple_bwd,
    trivial,
    Cert.Claims.rms_fwd_wide,
    trivial,
    Cert.Claims.hgrn_pre,
    trivial,
    Cert.Claims.lora_act,
    trivial,
    Cert.Claims.lora_bwd⟩

end Cert.Proof

end
